-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnL0 (m : (ℓ : Loc Cert.FfnL0.nD Cert.FfnL0.τ Cert.FfnL0.sig) → Buf (Elt Bits) ℓ) : Prop :=
  True

def Pre_FfnL0Ideal (m : (ℓ : Loc Cert.FfnL0Ideal.nD Cert.FfnL0Ideal.τ Cert.FfnL0Ideal.sig) → Buf (Elt Ideal) ℓ) : Prop :=
  True

def Pre_FfnL0RefIdeal (m : (ℓ : Loc Cert.FfnL0RefIdeal.nD Cert.FfnL0RefIdeal.τ Cert.FfnL0RefIdeal.sig) → Buf (Elt Ideal) ℓ) : Prop :=
  True

def Pre_FfnL1 (m : (ℓ : Loc Cert.FfnL1.nD Cert.FfnL1.τ Cert.FfnL1.sig) → Buf (Elt Bits) ℓ) : Prop :=
  True

def Pre_FfnL1Ideal (m : (ℓ : Loc Cert.FfnL1Ideal.nD Cert.FfnL1Ideal.τ Cert.FfnL1Ideal.sig) → Buf (Elt Ideal) ℓ) : Prop :=
  True

def Pre_FfnL1RefIdeal (m : (ℓ : Loc Cert.FfnL1RefIdeal.nD Cert.FfnL1RefIdeal.τ Cert.FfnL1RefIdeal.sig) → Buf (Elt Ideal) ℓ) : Prop :=
  True

def Pre_FfnL2 (m : (ℓ : Loc Cert.FfnL2.nD Cert.FfnL2.τ Cert.FfnL2.sig) → Buf (Elt Bits) ℓ) : Prop :=
  True

def Pre_FfnL2Ideal (m : (ℓ : Loc Cert.FfnL2Ideal.nD Cert.FfnL2Ideal.τ Cert.FfnL2Ideal.sig) → Buf (Elt Ideal) ℓ) : Prop :=
  True

def Pre_FfnL2RefIdeal (m : (ℓ : Loc Cert.FfnL2RefIdeal.nD Cert.FfnL2RefIdeal.τ Cert.FfnL2RefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjL1 (m : (ℓ : Loc Cert.InProjL1.nD Cert.InProjL1.τ Cert.InProjL1.sig) → Buf (Elt Bits) ℓ) : Prop :=
  True

def Pre_InProjL1Ideal (m : (ℓ : Loc Cert.InProjL1Ideal.nD Cert.InProjL1Ideal.τ Cert.InProjL1Ideal.sig) → Buf (Elt Ideal) ℓ) : Prop :=
  True

def Pre_InProjL1RefIdeal (m : (ℓ : Loc Cert.InProjL1RefIdeal.nD Cert.InProjL1RefIdeal.τ Cert.InProjL1RefIdeal.sig) → Buf (Elt Ideal) ℓ) : Prop :=
  True

def Pre_InProjL2 (m : (ℓ : Loc Cert.InProjL2.nD Cert.InProjL2.τ Cert.InProjL2.sig) → Buf (Elt Bits) ℓ) : Prop :=
  True

def Pre_InProjL2Ideal (m : (ℓ : Loc Cert.InProjL2Ideal.nD Cert.InProjL2Ideal.τ Cert.InProjL2Ideal.sig) → Buf (Elt Ideal) ℓ) : Prop :=
  True

def Pre_InProjL2RefIdeal (m : (ℓ : Loc Cert.InProjL2RefIdeal.nD Cert.InProjL2RefIdeal.τ Cert.InProjL2RefIdeal.sig) → Buf (Elt Ideal) ℓ) : Prop :=
  True

def Pre_InProjL3 (m : (ℓ : Loc Cert.InProjL3.nD Cert.InProjL3.τ Cert.InProjL3.sig) → Buf (Elt Bits) ℓ) : Prop :=
  True

def Pre_InProjL3Ideal (m : (ℓ : Loc Cert.InProjL3Ideal.nD Cert.InProjL3Ideal.τ Cert.InProjL3Ideal.sig) → Buf (Elt Ideal) ℓ) : Prop :=
  True

def Pre_InProjL3RefIdeal (m : (ℓ : Loc Cert.InProjL3RefIdeal.nD Cert.InProjL3RefIdeal.τ Cert.InProjL3RefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeL1 (m : (ℓ : Loc Cert.MergeL1.nD Cert.MergeL1.τ Cert.MergeL1.sig) → Buf (Elt Bits) ℓ) : Prop :=
  True

def Pre_MergeL1Ideal (m : (ℓ : Loc Cert.MergeL1Ideal.nD Cert.MergeL1Ideal.τ Cert.MergeL1Ideal.sig) → Buf (Elt Ideal) ℓ) : Prop :=
  True

def Pre_MergeL1RefIdeal (m : (ℓ : Loc Cert.MergeL1RefIdeal.nD Cert.MergeL1RefIdeal.τ Cert.MergeL1RefIdeal.sig) → Buf (Elt Ideal) ℓ) : Prop :=
  True

def Pre_MergeL2 (m : (ℓ : Loc Cert.MergeL2.nD Cert.MergeL2.τ Cert.MergeL2.sig) → Buf (Elt Bits) ℓ) : Prop :=
  True

def Pre_MergeL2Ideal (m : (ℓ : Loc Cert.MergeL2Ideal.nD Cert.MergeL2Ideal.τ Cert.MergeL2Ideal.sig) → Buf (Elt Ideal) ℓ) : Prop :=
  True

def Pre_MergeL2RefIdeal (m : (ℓ : Loc Cert.MergeL2RefIdeal.nD Cert.MergeL2RefIdeal.τ Cert.MergeL2RefIdeal.sig) → Buf (Elt Ideal) ℓ) : Prop :=
  True

def Pre_MergeL3 (m : (ℓ : Loc Cert.MergeL3.nD Cert.MergeL3.τ Cert.MergeL3.sig) → Buf (Elt Bits) ℓ) : Prop :=
  True

def Pre_MergeL3Ideal (m : (ℓ : Loc Cert.MergeL3Ideal.nD Cert.MergeL3Ideal.τ Cert.MergeL3Ideal.sig) → Buf (Elt Ideal) ℓ) : Prop :=
  True

def Pre_MergeL3RefIdeal (m : (ℓ : Loc Cert.MergeL3RefIdeal.nD Cert.MergeL3RefIdeal.τ Cert.MergeL3RefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_gla_finite [hPre_gla_finite : Cert.Pre_gla_finite.Facts] (m : (ℓ : Loc Cert.GlaIdeal.nD Cert.GlaIdeal.τ Cert.GlaIdeal.sig) → Buf (Elt Ideal) ℓ) : Prop :=
  ∀ c : Dev Cert.GlaIdeal.nD,
    (Cert.Pre_gla_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4))) = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_gla_finite [hPre_gla_finite : Cert.Pre_gla_finite.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_gla_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnL0 [hFfnL0 : Cert.FfnL0.Facts] : Prop :=
  ∀ (m : (ℓ : Loc Cert.FfnL0.nD Cert.FfnL0.τ Cert.FfnL0.sig) → Buf (Elt Bits) ℓ) (g : Dev Cert.FfnL0.nD → PrngReg), Pre_FfnL0 m →
    θ_run (Cert.FfnL0.defs (F := Bits)) (onTc (τ := Cert.FfnL0.τ) (Cert.FfnL0.main (F := Bits))) ⟨m, fun _ => 0, g⟩ (fun r => (∀ c : Dev Cert.FfnL0.nD,
      r.2.mem ((c.tc : Thread Cert.FfnL0.nD Cert.FfnL0.τ).loc Cert.FfnL0.main_arg0) = m ((c.tc : Thread Cert.FfnL0.nD Cert.FfnL0.τ).loc Cert.FfnL0.main_arg0)
      ∧ r.2.mem ((c.tc : Thread Cert.FfnL0.nD Cert.FfnL0.τ).loc Cert.FfnL0.main_arg1) = m ((c.tc : Thread Cert.FfnL0.nD Cert.FfnL0.τ).loc Cert.FfnL0.main_arg1)
      ∧ r.2.mem ((c.tc : Thread Cert.FfnL0.nD Cert.FfnL0.τ).loc Cert.FfnL0.main_arg2) = m ((c.tc : Thread Cert.FfnL0.nD Cert.FfnL0.τ).loc Cert.FfnL0.main_arg2)
      ∧ r.2.mem ((c.tc : Thread Cert.FfnL0.nD Cert.FfnL0.τ).loc Cert.FfnL0.main_arg3) = m ((c.tc : Thread Cert.FfnL0.nD Cert.FfnL0.τ).loc Cert.FfnL0.main_arg3)
      ∧ r.2.mem ((c.tc : Thread Cert.FfnL0.nD Cert.FfnL0.τ).loc Cert.FfnL0.main_arg4) = m ((c.tc : Thread Cert.FfnL0.nD Cert.FfnL0.τ).loc Cert.FfnL0.main_arg4)
      ∧ r.2.mem ((c.tc : Thread Cert.FfnL0.nD Cert.FfnL0.τ).loc Cert.FfnL0.main_arg5) = m ((c.tc : Thread Cert.FfnL0.nD Cert.FfnL0.τ).loc Cert.FfnL0.main_arg5)
      ∧ r.2.mem ((c.tc : Thread Cert.FfnL0.nD Cert.FfnL0.τ).loc Cert.FfnL0.main_arg6) = m ((c.tc : Thread Cert.FfnL0.nD Cert.FfnL0.τ).loc Cert.FfnL0.main_arg6))
      ∧ r.2.sem = fun _ => 0)

def quiescent_FfnL0Ideal [hFfnL0Ideal : Cert.FfnL0Ideal.Facts] : Prop :=
  ∀ (m : (ℓ : Loc Cert.FfnL0Ideal.nD Cert.FfnL0Ideal.τ Cert.FfnL0Ideal.sig) → Buf (Elt Ideal) ℓ) (g : Dev Cert.FfnL0Ideal.nD → PrngReg), Pre_FfnL0Ideal m →
    θ_run (Cert.FfnL0Ideal.defs (F := Ideal)) (onTc (τ := Cert.FfnL0Ideal.τ) (Cert.FfnL0Ideal.main (F := Ideal))) ⟨m, fun _ => 0, g⟩ (fun r => (∀ c : Dev Cert.FfnL0Ideal.nD,
      r.2.mem ((c.tc : Thread Cert.FfnL0Ideal.nD Cert.FfnL0Ideal.τ).loc Cert.FfnL0Ideal.main_arg0) = m ((c.tc : Thread Cert.FfnL0Ideal.nD Cert.FfnL0Ideal.τ).loc Cert.FfnL0Ideal.main_arg0)
      ∧ r.2.mem ((c.tc : Thread Cert.FfnL0Ideal.nD Cert.FfnL0Ideal.τ).loc Cert.FfnL0Ideal.main_arg1) = m ((c.tc : Thread Cert.FfnL0Ideal.nD Cert.FfnL0Ideal.τ).loc Cert.FfnL0Ideal.main_arg1)
      ∧ r.2.mem ((c.tc : Thread Cert.FfnL0Ideal.nD Cert.FfnL0Ideal.τ).loc Cert.FfnL0Ideal.main_arg2) = m ((c.tc : Thread Cert.FfnL0Ideal.nD Cert.FfnL0Ideal.τ).loc Cert.FfnL0Ideal.main_arg2)
      ∧ r.2.mem ((c.tc : Thread Cert.FfnL0Ideal.nD Cert.FfnL0Ideal.τ).loc Cert.FfnL0Ideal.main_arg3) = m ((c.tc : Thread Cert.FfnL0Ideal.nD Cert.FfnL0Ideal.τ).loc Cert.FfnL0Ideal.main_arg3)
      ∧ r.2.mem ((c.tc : Thread Cert.FfnL0Ideal.nD Cert.FfnL0Ideal.τ).loc Cert.FfnL0Ideal.main_arg4) = m ((c.tc : Thread Cert.FfnL0Ideal.nD Cert.FfnL0Ideal.τ).loc Cert.FfnL0Ideal.main_arg4)
      ∧ r.2.mem ((c.tc : Thread Cert.FfnL0Ideal.nD Cert.FfnL0Ideal.τ).loc Cert.FfnL0Ideal.main_arg5) = m ((c.tc : Thread Cert.FfnL0Ideal.nD Cert.FfnL0Ideal.τ).loc Cert.FfnL0Ideal.main_arg5)
      ∧ r.2.mem ((c.tc : Thread Cert.FfnL0Ideal.nD Cert.FfnL0Ideal.τ).loc Cert.FfnL0Ideal.main_arg6) = m ((c.tc : Thread Cert.FfnL0Ideal.nD Cert.FfnL0Ideal.τ).loc Cert.FfnL0Ideal.main_arg6))
      ∧ r.2.sem = fun _ => 0)

def quiescent_FfnL0RefIdeal [hFfnL0RefIdeal : Cert.FfnL0RefIdeal.Facts] : Prop :=
  ∀ (m : (ℓ : Loc Cert.FfnL0RefIdeal.nD Cert.FfnL0RefIdeal.τ Cert.FfnL0RefIdeal.sig) → Buf (Elt Ideal) ℓ) (g : Dev Cert.FfnL0RefIdeal.nD → PrngReg), Pre_FfnL0RefIdeal m →
    θ_run (Cert.FfnL0RefIdeal.defs (F := Ideal)) (onTc (τ := Cert.FfnL0RefIdeal.τ) (Cert.FfnL0RefIdeal.main (F := Ideal))) ⟨m, fun _ => 0, g⟩ (fun r => (∀ c : Dev Cert.FfnL0RefIdeal.nD,
      r.2.mem ((c.tc : Thread Cert.FfnL0RefIdeal.nD Cert.FfnL0RefIdeal.τ).loc Cert.FfnL0RefIdeal.main_arg0) = m ((c.tc : Thread Cert.FfnL0RefIdeal.nD Cert.FfnL0RefIdeal.τ).loc Cert.FfnL0RefIdeal.main_arg0)
      ∧ r.2.mem ((c.tc : Thread Cert.FfnL0RefIdeal.nD Cert.FfnL0RefIdeal.τ).loc Cert.FfnL0RefIdeal.main_arg1) = m ((c.tc : Thread Cert.FfnL0RefIdeal.nD Cert.FfnL0RefIdeal.τ).loc Cert.FfnL0RefIdeal.main_arg1)
      ∧ r.2.mem ((c.tc : Thread Cert.FfnL0RefIdeal.nD Cert.FfnL0RefIdeal.τ).loc Cert.FfnL0RefIdeal.main_arg2) = m ((c.tc : Thread Cert.FfnL0RefIdeal.nD Cert.FfnL0RefIdeal.τ).loc Cert.FfnL0RefIdeal.main_arg2)
      ∧ r.2.mem ((c.tc : Thread Cert.FfnL0RefIdeal.nD Cert.FfnL0RefIdeal.τ).loc Cert.FfnL0RefIdeal.main_arg3) = m ((c.tc : Thread Cert.FfnL0RefIdeal.nD Cert.FfnL0RefIdeal.τ).loc Cert.FfnL0RefIdeal.main_arg3)
      ∧ r.2.mem ((c.tc : Thread Cert.FfnL0RefIdeal.nD Cert.FfnL0RefIdeal.τ).loc Cert.FfnL0RefIdeal.main_arg4) = m ((c.tc : Thread Cert.FfnL0RefIdeal.nD Cert.FfnL0RefIdeal.τ).loc Cert.FfnL0RefIdeal.main_arg4)
      ∧ r.2.mem ((c.tc : Thread Cert.FfnL0RefIdeal.nD Cert.FfnL0RefIdeal.τ).loc Cert.FfnL0RefIdeal.main_arg5) = m ((c.tc : Thread Cert.FfnL0RefIdeal.nD Cert.FfnL0RefIdeal.τ).loc Cert.FfnL0RefIdeal.main_arg5)
      ∧ r.2.mem ((c.tc : Thread Cert.FfnL0RefIdeal.nD Cert.FfnL0RefIdeal.τ).loc Cert.FfnL0RefIdeal.main_arg6) = m ((c.tc : Thread Cert.FfnL0RefIdeal.nD Cert.FfnL0RefIdeal.τ).loc Cert.FfnL0RefIdeal.main_arg6))
      ∧ r.2.sem = fun _ => 0)

def quiescent_FfnL1 [hFfnL1 : Cert.FfnL1.Facts] : Prop :=
  ∀ (m : (ℓ : Loc Cert.FfnL1.nD Cert.FfnL1.τ Cert.FfnL1.sig) → Buf (Elt Bits) ℓ) (g : Dev Cert.FfnL1.nD → PrngReg), Pre_FfnL1 m →
    θ_run (Cert.FfnL1.defs (F := Bits)) (onTc (τ := Cert.FfnL1.τ) (Cert.FfnL1.main (F := Bits))) ⟨m, fun _ => 0, g⟩ (fun r => (∀ c : Dev Cert.FfnL1.nD,
      r.2.mem ((c.tc : Thread Cert.FfnL1.nD Cert.FfnL1.τ).loc Cert.FfnL1.main_arg0) = m ((c.tc : Thread Cert.FfnL1.nD Cert.FfnL1.τ).loc Cert.FfnL1.main_arg0)
      ∧ r.2.mem ((c.tc : Thread Cert.FfnL1.nD Cert.FfnL1.τ).loc Cert.FfnL1.main_arg1) = m ((c.tc : Thread Cert.FfnL1.nD Cert.FfnL1.τ).loc Cert.FfnL1.main_arg1)
      ∧ r.2.mem ((c.tc : Thread Cert.FfnL1.nD Cert.FfnL1.τ).loc Cert.FfnL1.main_arg2) = m ((c.tc : Thread Cert.FfnL1.nD Cert.FfnL1.τ).loc Cert.FfnL1.main_arg2)
      ∧ r.2.mem ((c.tc : Thread Cert.FfnL1.nD Cert.FfnL1.τ).loc Cert.FfnL1.main_arg3) = m ((c.tc : Thread Cert.FfnL1.nD Cert.FfnL1.τ).loc Cert.FfnL1.main_arg3)
      ∧ r.2.mem ((c.tc : Thread Cert.FfnL1.nD Cert.FfnL1.τ).loc Cert.FfnL1.main_arg4) = m ((c.tc : Thread Cert.FfnL1.nD Cert.FfnL1.τ).loc Cert.FfnL1.main_arg4)
      ∧ r.2.mem ((c.tc : Thread Cert.FfnL1.nD Cert.FfnL1.τ).loc Cert.FfnL1.main_arg5) = m ((c.tc : Thread Cert.FfnL1.nD Cert.FfnL1.τ).loc Cert.FfnL1.main_arg5)
      ∧ r.2.mem ((c.tc : Thread Cert.FfnL1.nD Cert.FfnL1.τ).loc Cert.FfnL1.main_arg6) = m ((c.tc : Thread Cert.FfnL1.nD Cert.FfnL1.τ).loc Cert.FfnL1.main_arg6))
      ∧ r.2.sem = fun _ => 0)

def quiescent_FfnL1Ideal [hFfnL1Ideal : Cert.FfnL1Ideal.Facts] : Prop :=
  ∀ (m : (ℓ : Loc Cert.FfnL1Ideal.nD Cert.FfnL1Ideal.τ Cert.FfnL1Ideal.sig) → Buf (Elt Ideal) ℓ) (g : Dev Cert.FfnL1Ideal.nD → PrngReg), Pre_FfnL1Ideal m →
    θ_run (Cert.FfnL1Ideal.defs (F := Ideal)) (onTc (τ := Cert.FfnL1Ideal.τ) (Cert.FfnL1Ideal.main (F := Ideal))) ⟨m, fun _ => 0, g⟩ (fun r => (∀ c : Dev Cert.FfnL1Ideal.nD,
      r.2.mem ((c.tc : Thread Cert.FfnL1Ideal.nD Cert.FfnL1Ideal.τ).loc Cert.FfnL1Ideal.main_arg0) = m ((c.tc : Thread Cert.FfnL1Ideal.nD Cert.FfnL1Ideal.τ).loc Cert.FfnL1Ideal.main_arg0)
      ∧ r.2.mem ((c.tc : Thread Cert.FfnL1Ideal.nD Cert.FfnL1Ideal.τ).loc Cert.FfnL1Ideal.main_arg1) = m ((c.tc : Thread Cert.FfnL1Ideal.nD Cert.FfnL1Ideal.τ).loc Cert.FfnL1Ideal.main_arg1)
      ∧ r.2.mem ((c.tc : Thread Cert.FfnL1Ideal.nD Cert.FfnL1Ideal.τ).loc Cert.FfnL1Ideal.main_arg2) = m ((c.tc : Thread Cert.FfnL1Ideal.nD Cert.FfnL1Ideal.τ).loc Cert.FfnL1Ideal.main_arg2)
      ∧ r.2.mem ((c.tc : Thread Cert.FfnL1Ideal.nD Cert.FfnL1Ideal.τ).loc Cert.FfnL1Ideal.main_arg3) = m ((c.tc : Thread Cert.FfnL1Ideal.nD Cert.FfnL1Ideal.τ).loc Cert.FfnL1Ideal.main_arg3)
      ∧ r.2.mem ((c.tc : Thread Cert.FfnL1Ideal.nD Cert.FfnL1Ideal.τ).loc Cert.FfnL1Ideal.main_arg4) = m ((c.tc : Thread Cert.FfnL1Ideal.nD Cert.FfnL1Ideal.τ).loc Cert.FfnL1Ideal.main_arg4)
      ∧ r.2.mem ((c.tc : Thread Cert.FfnL1Ideal.nD Cert.FfnL1Ideal.τ).loc Cert.FfnL1Ideal.main_arg5) = m ((c.tc : Thread Cert.FfnL1Ideal.nD Cert.FfnL1Ideal.τ).loc Cert.FfnL1Ideal.main_arg5)
      ∧ r.2.mem ((c.tc : Thread Cert.FfnL1Ideal.nD Cert.FfnL1Ideal.τ).loc Cert.FfnL1Ideal.main_arg6) = m ((c.tc : Thread Cert.FfnL1Ideal.nD Cert.FfnL1Ideal.τ).loc Cert.FfnL1Ideal.main_arg6))
      ∧ r.2.sem = fun _ => 0)

def quiescent_FfnL1RefIdeal [hFfnL1RefIdeal : Cert.FfnL1RefIdeal.Facts] : Prop :=
  ∀ (m : (ℓ : Loc Cert.FfnL1RefIdeal.nD Cert.FfnL1RefIdeal.τ Cert.FfnL1RefIdeal.sig) → Buf (Elt Ideal) ℓ) (g : Dev Cert.FfnL1RefIdeal.nD → PrngReg), Pre_FfnL1RefIdeal m →
    θ_run (Cert.FfnL1RefIdeal.defs (F := Ideal)) (onTc (τ := Cert.FfnL1RefIdeal.τ) (Cert.FfnL1RefIdeal.main (F := Ideal))) ⟨m, fun _ => 0, g⟩ (fun r => (∀ c : Dev Cert.FfnL1RefIdeal.nD,
      r.2.mem ((c.tc : Thread Cert.FfnL1RefIdeal.nD Cert.FfnL1RefIdeal.τ).loc Cert.FfnL1RefIdeal.main_arg0) = m ((c.tc : Thread Cert.FfnL1RefIdeal.nD Cert.FfnL1RefIdeal.τ).loc Cert.FfnL1RefIdeal.main_arg0)
      ∧ r.2.mem ((c.tc : Thread Cert.FfnL1RefIdeal.nD Cert.FfnL1RefIdeal.τ).loc Cert.FfnL1RefIdeal.main_arg1) = m ((c.tc : Thread Cert.FfnL1RefIdeal.nD Cert.FfnL1RefIdeal.τ).loc Cert.FfnL1RefIdeal.main_arg1)
      ∧ r.2.mem ((c.tc : Thread Cert.FfnL1RefIdeal.nD Cert.FfnL1RefIdeal.τ).loc Cert.FfnL1RefIdeal.main_arg2) = m ((c.tc : Thread Cert.FfnL1RefIdeal.nD Cert.FfnL1RefIdeal.τ).loc Cert.FfnL1RefIdeal.main_arg2)
      ∧ r.2.mem ((c.tc : Thread Cert.FfnL1RefIdeal.nD Cert.FfnL1RefIdeal.τ).loc Cert.FfnL1RefIdeal.main_arg3) = m ((c.tc : Thread Cert.FfnL1RefIdeal.nD Cert.FfnL1RefIdeal.τ).loc Cert.FfnL1RefIdeal.main_arg3)
      ∧ r.2.mem ((c.tc : Thread Cert.FfnL1RefIdeal.nD Cert.FfnL1RefIdeal.τ).loc Cert.FfnL1RefIdeal.main_arg4) = m ((c.tc : Thread Cert.FfnL1RefIdeal.nD Cert.FfnL1RefIdeal.τ).loc Cert.FfnL1RefIdeal.main_arg4)
      ∧ r.2.mem ((c.tc : Thread Cert.FfnL1RefIdeal.nD Cert.FfnL1RefIdeal.τ).loc Cert.FfnL1RefIdeal.main_arg5) = m ((c.tc : Thread Cert.FfnL1RefIdeal.nD Cert.FfnL1RefIdeal.τ).loc Cert.FfnL1RefIdeal.main_arg5)
      ∧ r.2.mem ((c.tc : Thread Cert.FfnL1RefIdeal.nD Cert.FfnL1RefIdeal.τ).loc Cert.FfnL1RefIdeal.main_arg6) = m ((c.tc : Thread Cert.FfnL1RefIdeal.nD Cert.FfnL1RefIdeal.τ).loc Cert.FfnL1RefIdeal.main_arg6))
      ∧ r.2.sem = fun _ => 0)

def quiescent_FfnL2 [hFfnL2 : Cert.FfnL2.Facts] : Prop :=
  ∀ (m : (ℓ : Loc Cert.FfnL2.nD Cert.FfnL2.τ Cert.FfnL2.sig) → Buf (Elt Bits) ℓ) (g : Dev Cert.FfnL2.nD → PrngReg), Pre_FfnL2 m →
    θ_run (Cert.FfnL2.defs (F := Bits)) (onTc (τ := Cert.FfnL2.τ) (Cert.FfnL2.main (F := Bits))) ⟨m, fun _ => 0, g⟩ (fun r => (∀ c : Dev Cert.FfnL2.nD,
      r.2.mem ((c.tc : Thread Cert.FfnL2.nD Cert.FfnL2.τ).loc Cert.FfnL2.main_arg0) = m ((c.tc : Thread Cert.FfnL2.nD Cert.FfnL2.τ).loc Cert.FfnL2.main_arg0)
      ∧ r.2.mem ((c.tc : Thread Cert.FfnL2.nD Cert.FfnL2.τ).loc Cert.FfnL2.main_arg1) = m ((c.tc : Thread Cert.FfnL2.nD Cert.FfnL2.τ).loc Cert.FfnL2.main_arg1)
      ∧ r.2.mem ((c.tc : Thread Cert.FfnL2.nD Cert.FfnL2.τ).loc Cert.FfnL2.main_arg2) = m ((c.tc : Thread Cert.FfnL2.nD Cert.FfnL2.τ).loc Cert.FfnL2.main_arg2)
      ∧ r.2.mem ((c.tc : Thread Cert.FfnL2.nD Cert.FfnL2.τ).loc Cert.FfnL2.main_arg3) = m ((c.tc : Thread Cert.FfnL2.nD Cert.FfnL2.τ).loc Cert.FfnL2.main_arg3)
      ∧ r.2.mem ((c.tc : Thread Cert.FfnL2.nD Cert.FfnL2.τ).loc Cert.FfnL2.main_arg4) = m ((c.tc : Thread Cert.FfnL2.nD Cert.FfnL2.τ).loc Cert.FfnL2.main_arg4)
      ∧ r.2.mem ((c.tc : Thread Cert.FfnL2.nD Cert.FfnL2.τ).loc Cert.FfnL2.main_arg5) = m ((c.tc : Thread Cert.FfnL2.nD Cert.FfnL2.τ).loc Cert.FfnL2.main_arg5)
      ∧ r.2.mem ((c.tc : Thread Cert.FfnL2.nD Cert.FfnL2.τ).loc Cert.FfnL2.main_arg6) = m ((c.tc : Thread Cert.FfnL2.nD Cert.FfnL2.τ).loc Cert.FfnL2.main_arg6))
      ∧ r.2.sem = fun _ => 0)

def quiescent_FfnL2Ideal [hFfnL2Ideal : Cert.FfnL2Ideal.Facts] : Prop :=
  ∀ (m : (ℓ : Loc Cert.FfnL2Ideal.nD Cert.FfnL2Ideal.τ Cert.FfnL2Ideal.sig) → Buf (Elt Ideal) ℓ) (g : Dev Cert.FfnL2Ideal.nD → PrngReg), Pre_FfnL2Ideal m →
    θ_run (Cert.FfnL2Ideal.defs (F := Ideal)) (onTc (τ := Cert.FfnL2Ideal.τ) (Cert.FfnL2Ideal.main (F := Ideal))) ⟨m, fun _ => 0, g⟩ (fun r => (∀ c : Dev Cert.FfnL2Ideal.nD,
      r.2.mem ((c.tc : Thread Cert.FfnL2Ideal.nD Cert.FfnL2Ideal.τ).loc Cert.FfnL2Ideal.main_arg0) = m ((c.tc : Thread Cert.FfnL2Ideal.nD Cert.FfnL2Ideal.τ).loc Cert.FfnL2Ideal.main_arg0)
      ∧ r.2.mem ((c.tc : Thread Cert.FfnL2Ideal.nD Cert.FfnL2Ideal.τ).loc Cert.FfnL2Ideal.main_arg1) = m ((c.tc : Thread Cert.FfnL2Ideal.nD Cert.FfnL2Ideal.τ).loc Cert.FfnL2Ideal.main_arg1)
      ∧ r.2.mem ((c.tc : Thread Cert.FfnL2Ideal.nD Cert.FfnL2Ideal.τ).loc Cert.FfnL2Ideal.main_arg2) = m ((c.tc : Thread Cert.FfnL2Ideal.nD Cert.FfnL2Ideal.τ).loc Cert.FfnL2Ideal.main_arg2)
      ∧ r.2.mem ((c.tc : Thread Cert.FfnL2Ideal.nD Cert.FfnL2Ideal.τ).loc Cert.FfnL2Ideal.main_arg3) = m ((c.tc : Thread Cert.FfnL2Ideal.nD Cert.FfnL2Ideal.τ).loc Cert.FfnL2Ideal.main_arg3)
      ∧ r.2.mem ((c.tc : Thread Cert.FfnL2Ideal.nD Cert.FfnL2Ideal.τ).loc Cert.FfnL2Ideal.main_arg4) = m ((c.tc : Thread Cert.FfnL2Ideal.nD Cert.FfnL2Ideal.τ).loc Cert.FfnL2Ideal.main_arg4)
      ∧ r.2.mem ((c.tc : Thread Cert.FfnL2Ideal.nD Cert.FfnL2Ideal.τ).loc Cert.FfnL2Ideal.main_arg5) = m ((c.tc : Thread Cert.FfnL2Ideal.nD Cert.FfnL2Ideal.τ).loc Cert.FfnL2Ideal.main_arg5)
      ∧ r.2.mem ((c.tc : Thread Cert.FfnL2Ideal.nD Cert.FfnL2Ideal.τ).loc Cert.FfnL2Ideal.main_arg6) = m ((c.tc : Thread Cert.FfnL2Ideal.nD Cert.FfnL2Ideal.τ).loc Cert.FfnL2Ideal.main_arg6))
      ∧ r.2.sem = fun _ => 0)

def quiescent_FfnL2RefIdeal [hFfnL2RefIdeal : Cert.FfnL2RefIdeal.Facts] : Prop :=
  ∀ (m : (ℓ : Loc Cert.FfnL2RefIdeal.nD Cert.FfnL2RefIdeal.τ Cert.FfnL2RefIdeal.sig) → Buf (Elt Ideal) ℓ) (g : Dev Cert.FfnL2RefIdeal.nD → PrngReg), Pre_FfnL2RefIdeal m →
    θ_run (Cert.FfnL2RefIdeal.defs (F := Ideal)) (onTc (τ := Cert.FfnL2RefIdeal.τ) (Cert.FfnL2RefIdeal.main (F := Ideal))) ⟨m, fun _ => 0, g⟩ (fun r => (∀ c : Dev Cert.FfnL2RefIdeal.nD,
      r.2.mem ((c.tc : Thread Cert.FfnL2RefIdeal.nD Cert.FfnL2RefIdeal.τ).loc Cert.FfnL2RefIdeal.main_arg0) = m ((c.tc : Thread Cert.FfnL2RefIdeal.nD Cert.FfnL2RefIdeal.τ).loc Cert.FfnL2RefIdeal.main_arg0)
      ∧ r.2.mem ((c.tc : Thread Cert.FfnL2RefIdeal.nD Cert.FfnL2RefIdeal.τ).loc Cert.FfnL2RefIdeal.main_arg1) = m ((c.tc : Thread Cert.FfnL2RefIdeal.nD Cert.FfnL2RefIdeal.τ).loc Cert.FfnL2RefIdeal.main_arg1)
      ∧ r.2.mem ((c.tc : Thread Cert.FfnL2RefIdeal.nD Cert.FfnL2RefIdeal.τ).loc Cert.FfnL2RefIdeal.main_arg2) = m ((c.tc : Thread Cert.FfnL2RefIdeal.nD Cert.FfnL2RefIdeal.τ).loc Cert.FfnL2RefIdeal.main_arg2)
      ∧ r.2.mem ((c.tc : Thread Cert.FfnL2RefIdeal.nD Cert.FfnL2RefIdeal.τ).loc Cert.FfnL2RefIdeal.main_arg3) = m ((c.tc : Thread Cert.FfnL2RefIdeal.nD Cert.FfnL2RefIdeal.τ).loc Cert.FfnL2RefIdeal.main_arg3)
      ∧ r.2.mem ((c.tc : Thread Cert.FfnL2RefIdeal.nD Cert.FfnL2RefIdeal.τ).loc Cert.FfnL2RefIdeal.main_arg4) = m ((c.tc : Thread Cert.FfnL2RefIdeal.nD Cert.FfnL2RefIdeal.τ).loc Cert.FfnL2RefIdeal.main_arg4)
      ∧ r.2.mem ((c.tc : Thread Cert.FfnL2RefIdeal.nD Cert.FfnL2RefIdeal.τ).loc Cert.FfnL2RefIdeal.main_arg5) = m ((c.tc : Thread Cert.FfnL2RefIdeal.nD Cert.FfnL2RefIdeal.τ).loc Cert.FfnL2RefIdeal.main_arg5)
      ∧ r.2.mem ((c.tc : Thread Cert.FfnL2RefIdeal.nD Cert.FfnL2RefIdeal.τ).loc Cert.FfnL2RefIdeal.main_arg6) = m ((c.tc : Thread Cert.FfnL2RefIdeal.nD Cert.FfnL2RefIdeal.τ).loc Cert.FfnL2RefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InProjL1 [hInProjL1 : Cert.InProjL1.Facts] : Prop :=
  ∀ (m : (ℓ : Loc Cert.InProjL1.nD Cert.InProjL1.τ Cert.InProjL1.sig) → Buf (Elt Bits) ℓ) (g : Dev Cert.InProjL1.nD → PrngReg), Pre_InProjL1 m →
    θ_run (Cert.InProjL1.defs (F := Bits)) (onTc (τ := Cert.InProjL1.τ) (Cert.InProjL1.main (F := Bits))) ⟨m, fun _ => 0, g⟩ (fun r => (∀ c : Dev Cert.InProjL1.nD,
      r.2.mem ((c.tc : Thread Cert.InProjL1.nD Cert.InProjL1.τ).loc Cert.InProjL1.main_arg0) = m ((c.tc : Thread Cert.InProjL1.nD Cert.InProjL1.τ).loc Cert.InProjL1.main_arg0)
      ∧ r.2.mem ((c.tc : Thread Cert.InProjL1.nD Cert.InProjL1.τ).loc Cert.InProjL1.main_arg1) = m ((c.tc : Thread Cert.InProjL1.nD Cert.InProjL1.τ).loc Cert.InProjL1.main_arg1)
      ∧ r.2.mem ((c.tc : Thread Cert.InProjL1.nD Cert.InProjL1.τ).loc Cert.InProjL1.main_arg2) = m ((c.tc : Thread Cert.InProjL1.nD Cert.InProjL1.τ).loc Cert.InProjL1.main_arg2))
      ∧ r.2.sem = fun _ => 0)

def quiescent_InProjL1Ideal [hInProjL1Ideal : Cert.InProjL1Ideal.Facts] : Prop :=
  ∀ (m : (ℓ : Loc Cert.InProjL1Ideal.nD Cert.InProjL1Ideal.τ Cert.InProjL1Ideal.sig) → Buf (Elt Ideal) ℓ) (g : Dev Cert.InProjL1Ideal.nD → PrngReg), Pre_InProjL1Ideal m →
    θ_run (Cert.InProjL1Ideal.defs (F := Ideal)) (onTc (τ := Cert.InProjL1Ideal.τ) (Cert.InProjL1Ideal.main (F := Ideal))) ⟨m, fun _ => 0, g⟩ (fun r => (∀ c : Dev Cert.InProjL1Ideal.nD,
      r.2.mem ((c.tc : Thread Cert.InProjL1Ideal.nD Cert.InProjL1Ideal.τ).loc Cert.InProjL1Ideal.main_arg0) = m ((c.tc : Thread Cert.InProjL1Ideal.nD Cert.InProjL1Ideal.τ).loc Cert.InProjL1Ideal.main_arg0)
      ∧ r.2.mem ((c.tc : Thread Cert.InProjL1Ideal.nD Cert.InProjL1Ideal.τ).loc Cert.InProjL1Ideal.main_arg1) = m ((c.tc : Thread Cert.InProjL1Ideal.nD Cert.InProjL1Ideal.τ).loc Cert.InProjL1Ideal.main_arg1)
      ∧ r.2.mem ((c.tc : Thread Cert.InProjL1Ideal.nD Cert.InProjL1Ideal.τ).loc Cert.InProjL1Ideal.main_arg2) = m ((c.tc : Thread Cert.InProjL1Ideal.nD Cert.InProjL1Ideal.τ).loc Cert.InProjL1Ideal.main_arg2))
      ∧ r.2.sem = fun _ => 0)

def quiescent_InProjL1RefIdeal [hInProjL1RefIdeal : Cert.InProjL1RefIdeal.Facts] : Prop :=
  ∀ (m : (ℓ : Loc Cert.InProjL1RefIdeal.nD Cert.InProjL1RefIdeal.τ Cert.InProjL1RefIdeal.sig) → Buf (Elt Ideal) ℓ) (g : Dev Cert.InProjL1RefIdeal.nD → PrngReg), Pre_InProjL1RefIdeal m →
    θ_run (Cert.InProjL1RefIdeal.defs (F := Ideal)) (onTc (τ := Cert.InProjL1RefIdeal.τ) (Cert.InProjL1RefIdeal.main (F := Ideal))) ⟨m, fun _ => 0, g⟩ (fun r => (∀ c : Dev Cert.InProjL1RefIdeal.nD,
      r.2.mem ((c.tc : Thread Cert.InProjL1RefIdeal.nD Cert.InProjL1RefIdeal.τ).loc Cert.InProjL1RefIdeal.main_arg0) = m ((c.tc : Thread Cert.InProjL1RefIdeal.nD Cert.InProjL1RefIdeal.τ).loc Cert.InProjL1RefIdeal.main_arg0)
      ∧ r.2.mem ((c.tc : Thread Cert.InProjL1RefIdeal.nD Cert.InProjL1RefIdeal.τ).loc Cert.InProjL1RefIdeal.main_arg1) = m ((c.tc : Thread Cert.InProjL1RefIdeal.nD Cert.InProjL1RefIdeal.τ).loc Cert.InProjL1RefIdeal.main_arg1)
      ∧ r.2.mem ((c.tc : Thread Cert.InProjL1RefIdeal.nD Cert.InProjL1RefIdeal.τ).loc Cert.InProjL1RefIdeal.main_arg2) = m ((c.tc : Thread Cert.InProjL1RefIdeal.nD Cert.InProjL1RefIdeal.τ).loc Cert.InProjL1RefIdeal.main_arg2))
      ∧ r.2.sem = fun _ => 0)

def quiescent_InProjL2 [hInProjL2 : Cert.InProjL2.Facts] : Prop :=
  ∀ (m : (ℓ : Loc Cert.InProjL2.nD Cert.InProjL2.τ Cert.InProjL2.sig) → Buf (Elt Bits) ℓ) (g : Dev Cert.InProjL2.nD → PrngReg), Pre_InProjL2 m →
    θ_run (Cert.InProjL2.defs (F := Bits)) (onTc (τ := Cert.InProjL2.τ) (Cert.InProjL2.main (F := Bits))) ⟨m, fun _ => 0, g⟩ (fun r => (∀ c : Dev Cert.InProjL2.nD,
      r.2.mem ((c.tc : Thread Cert.InProjL2.nD Cert.InProjL2.τ).loc Cert.InProjL2.main_arg0) = m ((c.tc : Thread Cert.InProjL2.nD Cert.InProjL2.τ).loc Cert.InProjL2.main_arg0)
      ∧ r.2.mem ((c.tc : Thread Cert.InProjL2.nD Cert.InProjL2.τ).loc Cert.InProjL2.main_arg1) = m ((c.tc : Thread Cert.InProjL2.nD Cert.InProjL2.τ).loc Cert.InProjL2.main_arg1)
      ∧ r.2.mem ((c.tc : Thread Cert.InProjL2.nD Cert.InProjL2.τ).loc Cert.InProjL2.main_arg2) = m ((c.tc : Thread Cert.InProjL2.nD Cert.InProjL2.τ).loc Cert.InProjL2.main_arg2))
      ∧ r.2.sem = fun _ => 0)

def quiescent_InProjL2Ideal [hInProjL2Ideal : Cert.InProjL2Ideal.Facts] : Prop :=
  ∀ (m : (ℓ : Loc Cert.InProjL2Ideal.nD Cert.InProjL2Ideal.τ Cert.InProjL2Ideal.sig) → Buf (Elt Ideal) ℓ) (g : Dev Cert.InProjL2Ideal.nD → PrngReg), Pre_InProjL2Ideal m →
    θ_run (Cert.InProjL2Ideal.defs (F := Ideal)) (onTc (τ := Cert.InProjL2Ideal.τ) (Cert.InProjL2Ideal.main (F := Ideal))) ⟨m, fun _ => 0, g⟩ (fun r => (∀ c : Dev Cert.InProjL2Ideal.nD,
      r.2.mem ((c.tc : Thread Cert.InProjL2Ideal.nD Cert.InProjL2Ideal.τ).loc Cert.InProjL2Ideal.main_arg0) = m ((c.tc : Thread Cert.InProjL2Ideal.nD Cert.InProjL2Ideal.τ).loc Cert.InProjL2Ideal.main_arg0)
      ∧ r.2.mem ((c.tc : Thread Cert.InProjL2Ideal.nD Cert.InProjL2Ideal.τ).loc Cert.InProjL2Ideal.main_arg1) = m ((c.tc : Thread Cert.InProjL2Ideal.nD Cert.InProjL2Ideal.τ).loc Cert.InProjL2Ideal.main_arg1)
      ∧ r.2.mem ((c.tc : Thread Cert.InProjL2Ideal.nD Cert.InProjL2Ideal.τ).loc Cert.InProjL2Ideal.main_arg2) = m ((c.tc : Thread Cert.InProjL2Ideal.nD Cert.InProjL2Ideal.τ).loc Cert.InProjL2Ideal.main_arg2))
      ∧ r.2.sem = fun _ => 0)

def quiescent_InProjL2RefIdeal [hInProjL2RefIdeal : Cert.InProjL2RefIdeal.Facts] : Prop :=
  ∀ (m : (ℓ : Loc Cert.InProjL2RefIdeal.nD Cert.InProjL2RefIdeal.τ Cert.InProjL2RefIdeal.sig) → Buf (Elt Ideal) ℓ) (g : Dev Cert.InProjL2RefIdeal.nD → PrngReg), Pre_InProjL2RefIdeal m →
    θ_run (Cert.InProjL2RefIdeal.defs (F := Ideal)) (onTc (τ := Cert.InProjL2RefIdeal.τ) (Cert.InProjL2RefIdeal.main (F := Ideal))) ⟨m, fun _ => 0, g⟩ (fun r => (∀ c : Dev Cert.InProjL2RefIdeal.nD,
      r.2.mem ((c.tc : Thread Cert.InProjL2RefIdeal.nD Cert.InProjL2RefIdeal.τ).loc Cert.InProjL2RefIdeal.main_arg0) = m ((c.tc : Thread Cert.InProjL2RefIdeal.nD Cert.InProjL2RefIdeal.τ).loc Cert.InProjL2RefIdeal.main_arg0)
      ∧ r.2.mem ((c.tc : Thread Cert.InProjL2RefIdeal.nD Cert.InProjL2RefIdeal.τ).loc Cert.InProjL2RefIdeal.main_arg1) = m ((c.tc : Thread Cert.InProjL2RefIdeal.nD Cert.InProjL2RefIdeal.τ).loc Cert.InProjL2RefIdeal.main_arg1)
      ∧ r.2.mem ((c.tc : Thread Cert.InProjL2RefIdeal.nD Cert.InProjL2RefIdeal.τ).loc Cert.InProjL2RefIdeal.main_arg2) = m ((c.tc : Thread Cert.InProjL2RefIdeal.nD Cert.InProjL2RefIdeal.τ).loc Cert.InProjL2RefIdeal.main_arg2))
      ∧ r.2.sem = fun _ => 0)

def quiescent_InProjL3 [hInProjL3 : Cert.InProjL3.Facts] : Prop :=
  ∀ (m : (ℓ : Loc Cert.InProjL3.nD Cert.InProjL3.τ Cert.InProjL3.sig) → Buf (Elt Bits) ℓ) (g : Dev Cert.InProjL3.nD → PrngReg), Pre_InProjL3 m →
    θ_run (Cert.InProjL3.defs (F := Bits)) (onTc (τ := Cert.InProjL3.τ) (Cert.InProjL3.main (F := Bits))) ⟨m, fun _ => 0, g⟩ (fun r => (∀ c : Dev Cert.InProjL3.nD,
      r.2.mem ((c.tc : Thread Cert.InProjL3.nD Cert.InProjL3.τ).loc Cert.InProjL3.main_arg0) = m ((c.tc : Thread Cert.InProjL3.nD Cert.InProjL3.τ).loc Cert.InProjL3.main_arg0)
      ∧ r.2.mem ((c.tc : Thread Cert.InProjL3.nD Cert.InProjL3.τ).loc Cert.InProjL3.main_arg1) = m ((c.tc : Thread Cert.InProjL3.nD Cert.InProjL3.τ).loc Cert.InProjL3.main_arg1)
      ∧ r.2.mem ((c.tc : Thread Cert.InProjL3.nD Cert.InProjL3.τ).loc Cert.InProjL3.main_arg2) = m ((c.tc : Thread Cert.InProjL3.nD Cert.InProjL3.τ).loc Cert.InProjL3.main_arg2))
      ∧ r.2.sem = fun _ => 0)

def quiescent_InProjL3Ideal [hInProjL3Ideal : Cert.InProjL3Ideal.Facts] : Prop :=
  ∀ (m : (ℓ : Loc Cert.InProjL3Ideal.nD Cert.InProjL3Ideal.τ Cert.InProjL3Ideal.sig) → Buf (Elt Ideal) ℓ) (g : Dev Cert.InProjL3Ideal.nD → PrngReg), Pre_InProjL3Ideal m →
    θ_run (Cert.InProjL3Ideal.defs (F := Ideal)) (onTc (τ := Cert.InProjL3Ideal.τ) (Cert.InProjL3Ideal.main (F := Ideal))) ⟨m, fun _ => 0, g⟩ (fun r => (∀ c : Dev Cert.InProjL3Ideal.nD,
      r.2.mem ((c.tc : Thread Cert.InProjL3Ideal.nD Cert.InProjL3Ideal.τ).loc Cert.InProjL3Ideal.main_arg0) = m ((c.tc : Thread Cert.InProjL3Ideal.nD Cert.InProjL3Ideal.τ).loc Cert.InProjL3Ideal.main_arg0)
      ∧ r.2.mem ((c.tc : Thread Cert.InProjL3Ideal.nD Cert.InProjL3Ideal.τ).loc Cert.InProjL3Ideal.main_arg1) = m ((c.tc : Thread Cert.InProjL3Ideal.nD Cert.InProjL3Ideal.τ).loc Cert.InProjL3Ideal.main_arg1)
      ∧ r.2.mem ((c.tc : Thread Cert.InProjL3Ideal.nD Cert.InProjL3Ideal.τ).loc Cert.InProjL3Ideal.main_arg2) = m ((c.tc : Thread Cert.InProjL3Ideal.nD Cert.InProjL3Ideal.τ).loc Cert.InProjL3Ideal.main_arg2))
      ∧ r.2.sem = fun _ => 0)

def quiescent_InProjL3RefIdeal [hInProjL3RefIdeal : Cert.InProjL3RefIdeal.Facts] : Prop :=
  ∀ (m : (ℓ : Loc Cert.InProjL3RefIdeal.nD Cert.InProjL3RefIdeal.τ Cert.InProjL3RefIdeal.sig) → Buf (Elt Ideal) ℓ) (g : Dev Cert.InProjL3RefIdeal.nD → PrngReg), Pre_InProjL3RefIdeal m →
    θ_run (Cert.InProjL3RefIdeal.defs (F := Ideal)) (onTc (τ := Cert.InProjL3RefIdeal.τ) (Cert.InProjL3RefIdeal.main (F := Ideal))) ⟨m, fun _ => 0, g⟩ (fun r => (∀ c : Dev Cert.InProjL3RefIdeal.nD,
      r.2.mem ((c.tc : Thread Cert.InProjL3RefIdeal.nD Cert.InProjL3RefIdeal.τ).loc Cert.InProjL3RefIdeal.main_arg0) = m ((c.tc : Thread Cert.InProjL3RefIdeal.nD Cert.InProjL3RefIdeal.τ).loc Cert.InProjL3RefIdeal.main_arg0)
      ∧ r.2.mem ((c.tc : Thread Cert.InProjL3RefIdeal.nD Cert.InProjL3RefIdeal.τ).loc Cert.InProjL3RefIdeal.main_arg1) = m ((c.tc : Thread Cert.InProjL3RefIdeal.nD Cert.InProjL3RefIdeal.τ).loc Cert.InProjL3RefIdeal.main_arg1)
      ∧ r.2.mem ((c.tc : Thread Cert.InProjL3RefIdeal.nD Cert.InProjL3RefIdeal.τ).loc Cert.InProjL3RefIdeal.main_arg2) = m ((c.tc : Thread Cert.InProjL3RefIdeal.nD Cert.InProjL3RefIdeal.τ).loc Cert.InProjL3RefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_MergeL1 [hMergeL1 : Cert.MergeL1.Facts] : Prop :=
  ∀ (m : (ℓ : Loc Cert.MergeL1.nD Cert.MergeL1.τ Cert.MergeL1.sig) → Buf (Elt Bits) ℓ) (g : Dev Cert.MergeL1.nD → PrngReg), Pre_MergeL1 m →
    θ_run (Cert.MergeL1.defs (F := Bits)) (onTc (τ := Cert.MergeL1.τ) (Cert.MergeL1.main (F := Bits))) ⟨m, fun _ => 0, g⟩ (fun r => (∀ c : Dev Cert.MergeL1.nD,
      r.2.mem ((c.tc : Thread Cert.MergeL1.nD Cert.MergeL1.τ).loc Cert.MergeL1.main_arg0) = m ((c.tc : Thread Cert.MergeL1.nD Cert.MergeL1.τ).loc Cert.MergeL1.main_arg0)
      ∧ r.2.mem ((c.tc : Thread Cert.MergeL1.nD Cert.MergeL1.τ).loc Cert.MergeL1.main_arg1) = m ((c.tc : Thread Cert.MergeL1.nD Cert.MergeL1.τ).loc Cert.MergeL1.main_arg1)
      ∧ r.2.mem ((c.tc : Thread Cert.MergeL1.nD Cert.MergeL1.τ).loc Cert.MergeL1.main_arg2) = m ((c.tc : Thread Cert.MergeL1.nD Cert.MergeL1.τ).loc Cert.MergeL1.main_arg2)
      ∧ r.2.mem ((c.tc : Thread Cert.MergeL1.nD Cert.MergeL1.τ).loc Cert.MergeL1.main_arg3) = m ((c.tc : Thread Cert.MergeL1.nD Cert.MergeL1.τ).loc Cert.MergeL1.main_arg3)
      ∧ r.2.mem ((c.tc : Thread Cert.MergeL1.nD Cert.MergeL1.τ).loc Cert.MergeL1.main_arg4) = m ((c.tc : Thread Cert.MergeL1.nD Cert.MergeL1.τ).loc Cert.MergeL1.main_arg4)
      ∧ r.2.mem ((c.tc : Thread Cert.MergeL1.nD Cert.MergeL1.τ).loc Cert.MergeL1.main_arg5) = m ((c.tc : Thread Cert.MergeL1.nD Cert.MergeL1.τ).loc Cert.MergeL1.main_arg5)
      ∧ r.2.mem ((c.tc : Thread Cert.MergeL1.nD Cert.MergeL1.τ).loc Cert.MergeL1.main_arg6) = m ((c.tc : Thread Cert.MergeL1.nD Cert.MergeL1.τ).loc Cert.MergeL1.main_arg6)
      ∧ r.2.mem ((c.tc : Thread Cert.MergeL1.nD Cert.MergeL1.τ).loc Cert.MergeL1.main_arg7) = m ((c.tc : Thread Cert.MergeL1.nD Cert.MergeL1.τ).loc Cert.MergeL1.main_arg7))
      ∧ r.2.sem = fun _ => 0)

def quiescent_MergeL1Ideal [hMergeL1Ideal : Cert.MergeL1Ideal.Facts] : Prop :=
  ∀ (m : (ℓ : Loc Cert.MergeL1Ideal.nD Cert.MergeL1Ideal.τ Cert.MergeL1Ideal.sig) → Buf (Elt Ideal) ℓ) (g : Dev Cert.MergeL1Ideal.nD → PrngReg), Pre_MergeL1Ideal m →
    θ_run (Cert.MergeL1Ideal.defs (F := Ideal)) (onTc (τ := Cert.MergeL1Ideal.τ) (Cert.MergeL1Ideal.main (F := Ideal))) ⟨m, fun _ => 0, g⟩ (fun r => (∀ c : Dev Cert.MergeL1Ideal.nD,
      r.2.mem ((c.tc : Thread Cert.MergeL1Ideal.nD Cert.MergeL1Ideal.τ).loc Cert.MergeL1Ideal.main_arg0) = m ((c.tc : Thread Cert.MergeL1Ideal.nD Cert.MergeL1Ideal.τ).loc Cert.MergeL1Ideal.main_arg0)
      ∧ r.2.mem ((c.tc : Thread Cert.MergeL1Ideal.nD Cert.MergeL1Ideal.τ).loc Cert.MergeL1Ideal.main_arg1) = m ((c.tc : Thread Cert.MergeL1Ideal.nD Cert.MergeL1Ideal.τ).loc Cert.MergeL1Ideal.main_arg1)
      ∧ r.2.mem ((c.tc : Thread Cert.MergeL1Ideal.nD Cert.MergeL1Ideal.τ).loc Cert.MergeL1Ideal.main_arg2) = m ((c.tc : Thread Cert.MergeL1Ideal.nD Cert.MergeL1Ideal.τ).loc Cert.MergeL1Ideal.main_arg2)
      ∧ r.2.mem ((c.tc : Thread Cert.MergeL1Ideal.nD Cert.MergeL1Ideal.τ).loc Cert.MergeL1Ideal.main_arg3) = m ((c.tc : Thread Cert.MergeL1Ideal.nD Cert.MergeL1Ideal.τ).loc Cert.MergeL1Ideal.main_arg3)
      ∧ r.2.mem ((c.tc : Thread Cert.MergeL1Ideal.nD Cert.MergeL1Ideal.τ).loc Cert.MergeL1Ideal.main_arg4) = m ((c.tc : Thread Cert.MergeL1Ideal.nD Cert.MergeL1Ideal.τ).loc Cert.MergeL1Ideal.main_arg4)
      ∧ r.2.mem ((c.tc : Thread Cert.MergeL1Ideal.nD Cert.MergeL1Ideal.τ).loc Cert.MergeL1Ideal.main_arg5) = m ((c.tc : Thread Cert.MergeL1Ideal.nD Cert.MergeL1Ideal.τ).loc Cert.MergeL1Ideal.main_arg5)
      ∧ r.2.mem ((c.tc : Thread Cert.MergeL1Ideal.nD Cert.MergeL1Ideal.τ).loc Cert.MergeL1Ideal.main_arg6) = m ((c.tc : Thread Cert.MergeL1Ideal.nD Cert.MergeL1Ideal.τ).loc Cert.MergeL1Ideal.main_arg6)
      ∧ r.2.mem ((c.tc : Thread Cert.MergeL1Ideal.nD Cert.MergeL1Ideal.τ).loc Cert.MergeL1Ideal.main_arg7) = m ((c.tc : Thread Cert.MergeL1Ideal.nD Cert.MergeL1Ideal.τ).loc Cert.MergeL1Ideal.main_arg7))
      ∧ r.2.sem = fun _ => 0)

def quiescent_MergeL1RefIdeal [hMergeL1RefIdeal : Cert.MergeL1RefIdeal.Facts] : Prop :=
  ∀ (m : (ℓ : Loc Cert.MergeL1RefIdeal.nD Cert.MergeL1RefIdeal.τ Cert.MergeL1RefIdeal.sig) → Buf (Elt Ideal) ℓ) (g : Dev Cert.MergeL1RefIdeal.nD → PrngReg), Pre_MergeL1RefIdeal m →
    θ_run (Cert.MergeL1RefIdeal.defs (F := Ideal)) (onTc (τ := Cert.MergeL1RefIdeal.τ) (Cert.MergeL1RefIdeal.main (F := Ideal))) ⟨m, fun _ => 0, g⟩ (fun r => (∀ c : Dev Cert.MergeL1RefIdeal.nD,
      r.2.mem ((c.tc : Thread Cert.MergeL1RefIdeal.nD Cert.MergeL1RefIdeal.τ).loc Cert.MergeL1RefIdeal.main_arg0) = m ((c.tc : Thread Cert.MergeL1RefIdeal.nD Cert.MergeL1RefIdeal.τ).loc Cert.MergeL1RefIdeal.main_arg0)
      ∧ r.2.mem ((c.tc : Thread Cert.MergeL1RefIdeal.nD Cert.MergeL1RefIdeal.τ).loc Cert.MergeL1RefIdeal.main_arg1) = m ((c.tc : Thread Cert.MergeL1RefIdeal.nD Cert.MergeL1RefIdeal.τ).loc Cert.MergeL1RefIdeal.main_arg1)
      ∧ r.2.mem ((c.tc : Thread Cert.MergeL1RefIdeal.nD Cert.MergeL1RefIdeal.τ).loc Cert.MergeL1RefIdeal.main_arg2) = m ((c.tc : Thread Cert.MergeL1RefIdeal.nD Cert.MergeL1RefIdeal.τ).loc Cert.MergeL1RefIdeal.main_arg2)
      ∧ r.2.mem ((c.tc : Thread Cert.MergeL1RefIdeal.nD Cert.MergeL1RefIdeal.τ).loc Cert.MergeL1RefIdeal.main_arg3) = m ((c.tc : Thread Cert.MergeL1RefIdeal.nD Cert.MergeL1RefIdeal.τ).loc Cert.MergeL1RefIdeal.main_arg3)
      ∧ r.2.mem ((c.tc : Thread Cert.MergeL1RefIdeal.nD Cert.MergeL1RefIdeal.τ).loc Cert.MergeL1RefIdeal.main_arg4) = m ((c.tc : Thread Cert.MergeL1RefIdeal.nD Cert.MergeL1RefIdeal.τ).loc Cert.MergeL1RefIdeal.main_arg4)
      ∧ r.2.mem ((c.tc : Thread Cert.MergeL1RefIdeal.nD Cert.MergeL1RefIdeal.τ).loc Cert.MergeL1RefIdeal.main_arg5) = m ((c.tc : Thread Cert.MergeL1RefIdeal.nD Cert.MergeL1RefIdeal.τ).loc Cert.MergeL1RefIdeal.main_arg5)
      ∧ r.2.mem ((c.tc : Thread Cert.MergeL1RefIdeal.nD Cert.MergeL1RefIdeal.τ).loc Cert.MergeL1RefIdeal.main_arg6) = m ((c.tc : Thread Cert.MergeL1RefIdeal.nD Cert.MergeL1RefIdeal.τ).loc Cert.MergeL1RefIdeal.main_arg6)
      ∧ r.2.mem ((c.tc : Thread Cert.MergeL1RefIdeal.nD Cert.MergeL1RefIdeal.τ).loc Cert.MergeL1RefIdeal.main_arg7) = m ((c.tc : Thread Cert.MergeL1RefIdeal.nD Cert.MergeL1RefIdeal.τ).loc Cert.MergeL1RefIdeal.main_arg7))
      ∧ r.2.sem = fun _ => 0)

def quiescent_MergeL2 [hMergeL2 : Cert.MergeL2.Facts] : Prop :=
  ∀ (m : (ℓ : Loc Cert.MergeL2.nD Cert.MergeL2.τ Cert.MergeL2.sig) → Buf (Elt Bits) ℓ) (g : Dev Cert.MergeL2.nD → PrngReg), Pre_MergeL2 m →
    θ_run (Cert.MergeL2.defs (F := Bits)) (onTc (τ := Cert.MergeL2.τ) (Cert.MergeL2.main (F := Bits))) ⟨m, fun _ => 0, g⟩ (fun r => (∀ c : Dev Cert.MergeL2.nD,
      r.2.mem ((c.tc : Thread Cert.MergeL2.nD Cert.MergeL2.τ).loc Cert.MergeL2.main_arg0) = m ((c.tc : Thread Cert.MergeL2.nD Cert.MergeL2.τ).loc Cert.MergeL2.main_arg0)
      ∧ r.2.mem ((c.tc : Thread Cert.MergeL2.nD Cert.MergeL2.τ).loc Cert.MergeL2.main_arg1) = m ((c.tc : Thread Cert.MergeL2.nD Cert.MergeL2.τ).loc Cert.MergeL2.main_arg1)
      ∧ r.2.mem ((c.tc : Thread Cert.MergeL2.nD Cert.MergeL2.τ).loc Cert.MergeL2.main_arg2) = m ((c.tc : Thread Cert.MergeL2.nD Cert.MergeL2.τ).loc Cert.MergeL2.main_arg2)
      ∧ r.2.mem ((c.tc : Thread Cert.MergeL2.nD Cert.MergeL2.τ).loc Cert.MergeL2.main_arg3) = m ((c.tc : Thread Cert.MergeL2.nD Cert.MergeL2.τ).loc Cert.MergeL2.main_arg3)
      ∧ r.2.mem ((c.tc : Thread Cert.MergeL2.nD Cert.MergeL2.τ).loc Cert.MergeL2.main_arg4) = m ((c.tc : Thread Cert.MergeL2.nD Cert.MergeL2.τ).loc Cert.MergeL2.main_arg4)
      ∧ r.2.mem ((c.tc : Thread Cert.MergeL2.nD Cert.MergeL2.τ).loc Cert.MergeL2.main_arg5) = m ((c.tc : Thread Cert.MergeL2.nD Cert.MergeL2.τ).loc Cert.MergeL2.main_arg5)
      ∧ r.2.mem ((c.tc : Thread Cert.MergeL2.nD Cert.MergeL2.τ).loc Cert.MergeL2.main_arg6) = m ((c.tc : Thread Cert.MergeL2.nD Cert.MergeL2.τ).loc Cert.MergeL2.main_arg6)
      ∧ r.2.mem ((c.tc : Thread Cert.MergeL2.nD Cert.MergeL2.τ).loc Cert.MergeL2.main_arg7) = m ((c.tc : Thread Cert.MergeL2.nD Cert.MergeL2.τ).loc Cert.MergeL2.main_arg7))
      ∧ r.2.sem = fun _ => 0)

def quiescent_MergeL2Ideal [hMergeL2Ideal : Cert.MergeL2Ideal.Facts] : Prop :=
  ∀ (m : (ℓ : Loc Cert.MergeL2Ideal.nD Cert.MergeL2Ideal.τ Cert.MergeL2Ideal.sig) → Buf (Elt Ideal) ℓ) (g : Dev Cert.MergeL2Ideal.nD → PrngReg), Pre_MergeL2Ideal m →
    θ_run (Cert.MergeL2Ideal.defs (F := Ideal)) (onTc (τ := Cert.MergeL2Ideal.τ) (Cert.MergeL2Ideal.main (F := Ideal))) ⟨m, fun _ => 0, g⟩ (fun r => (∀ c : Dev Cert.MergeL2Ideal.nD,
      r.2.mem ((c.tc : Thread Cert.MergeL2Ideal.nD Cert.MergeL2Ideal.τ).loc Cert.MergeL2Ideal.main_arg0) = m ((c.tc : Thread Cert.MergeL2Ideal.nD Cert.MergeL2Ideal.τ).loc Cert.MergeL2Ideal.main_arg0)
      ∧ r.2.mem ((c.tc : Thread Cert.MergeL2Ideal.nD Cert.MergeL2Ideal.τ).loc Cert.MergeL2Ideal.main_arg1) = m ((c.tc : Thread Cert.MergeL2Ideal.nD Cert.MergeL2Ideal.τ).loc Cert.MergeL2Ideal.main_arg1)
      ∧ r.2.mem ((c.tc : Thread Cert.MergeL2Ideal.nD Cert.MergeL2Ideal.τ).loc Cert.MergeL2Ideal.main_arg2) = m ((c.tc : Thread Cert.MergeL2Ideal.nD Cert.MergeL2Ideal.τ).loc Cert.MergeL2Ideal.main_arg2)
      ∧ r.2.mem ((c.tc : Thread Cert.MergeL2Ideal.nD Cert.MergeL2Ideal.τ).loc Cert.MergeL2Ideal.main_arg3) = m ((c.tc : Thread Cert.MergeL2Ideal.nD Cert.MergeL2Ideal.τ).loc Cert.MergeL2Ideal.main_arg3)
      ∧ r.2.mem ((c.tc : Thread Cert.MergeL2Ideal.nD Cert.MergeL2Ideal.τ).loc Cert.MergeL2Ideal.main_arg4) = m ((c.tc : Thread Cert.MergeL2Ideal.nD Cert.MergeL2Ideal.τ).loc Cert.MergeL2Ideal.main_arg4)
      ∧ r.2.mem ((c.tc : Thread Cert.MergeL2Ideal.nD Cert.MergeL2Ideal.τ).loc Cert.MergeL2Ideal.main_arg5) = m ((c.tc : Thread Cert.MergeL2Ideal.nD Cert.MergeL2Ideal.τ).loc Cert.MergeL2Ideal.main_arg5)
      ∧ r.2.mem ((c.tc : Thread Cert.MergeL2Ideal.nD Cert.MergeL2Ideal.τ).loc Cert.MergeL2Ideal.main_arg6) = m ((c.tc : Thread Cert.MergeL2Ideal.nD Cert.MergeL2Ideal.τ).loc Cert.MergeL2Ideal.main_arg6)
      ∧ r.2.mem ((c.tc : Thread Cert.MergeL2Ideal.nD Cert.MergeL2Ideal.τ).loc Cert.MergeL2Ideal.main_arg7) = m ((c.tc : Thread Cert.MergeL2Ideal.nD Cert.MergeL2Ideal.τ).loc Cert.MergeL2Ideal.main_arg7))
      ∧ r.2.sem = fun _ => 0)

def quiescent_MergeL2RefIdeal [hMergeL2RefIdeal : Cert.MergeL2RefIdeal.Facts] : Prop :=
  ∀ (m : (ℓ : Loc Cert.MergeL2RefIdeal.nD Cert.MergeL2RefIdeal.τ Cert.MergeL2RefIdeal.sig) → Buf (Elt Ideal) ℓ) (g : Dev Cert.MergeL2RefIdeal.nD → PrngReg), Pre_MergeL2RefIdeal m →
    θ_run (Cert.MergeL2RefIdeal.defs (F := Ideal)) (onTc (τ := Cert.MergeL2RefIdeal.τ) (Cert.MergeL2RefIdeal.main (F := Ideal))) ⟨m, fun _ => 0, g⟩ (fun r => (∀ c : Dev Cert.MergeL2RefIdeal.nD,
      r.2.mem ((c.tc : Thread Cert.MergeL2RefIdeal.nD Cert.MergeL2RefIdeal.τ).loc Cert.MergeL2RefIdeal.main_arg0) = m ((c.tc : Thread Cert.MergeL2RefIdeal.nD Cert.MergeL2RefIdeal.τ).loc Cert.MergeL2RefIdeal.main_arg0)
      ∧ r.2.mem ((c.tc : Thread Cert.MergeL2RefIdeal.nD Cert.MergeL2RefIdeal.τ).loc Cert.MergeL2RefIdeal.main_arg1) = m ((c.tc : Thread Cert.MergeL2RefIdeal.nD Cert.MergeL2RefIdeal.τ).loc Cert.MergeL2RefIdeal.main_arg1)
      ∧ r.2.mem ((c.tc : Thread Cert.MergeL2RefIdeal.nD Cert.MergeL2RefIdeal.τ).loc Cert.MergeL2RefIdeal.main_arg2) = m ((c.tc : Thread Cert.MergeL2RefIdeal.nD Cert.MergeL2RefIdeal.τ).loc Cert.MergeL2RefIdeal.main_arg2)
      ∧ r.2.mem ((c.tc : Thread Cert.MergeL2RefIdeal.nD Cert.MergeL2RefIdeal.τ).loc Cert.MergeL2RefIdeal.main_arg3) = m ((c.tc : Thread Cert.MergeL2RefIdeal.nD Cert.MergeL2RefIdeal.τ).loc Cert.MergeL2RefIdeal.main_arg3)
      ∧ r.2.mem ((c.tc : Thread Cert.MergeL2RefIdeal.nD Cert.MergeL2RefIdeal.τ).loc Cert.MergeL2RefIdeal.main_arg4) = m ((c.tc : Thread Cert.MergeL2RefIdeal.nD Cert.MergeL2RefIdeal.τ).loc Cert.MergeL2RefIdeal.main_arg4)
      ∧ r.2.mem ((c.tc : Thread Cert.MergeL2RefIdeal.nD Cert.MergeL2RefIdeal.τ).loc Cert.MergeL2RefIdeal.main_arg5) = m ((c.tc : Thread Cert.MergeL2RefIdeal.nD Cert.MergeL2RefIdeal.τ).loc Cert.MergeL2RefIdeal.main_arg5)
      ∧ r.2.mem ((c.tc : Thread Cert.MergeL2RefIdeal.nD Cert.MergeL2RefIdeal.τ).loc Cert.MergeL2RefIdeal.main_arg6) = m ((c.tc : Thread Cert.MergeL2RefIdeal.nD Cert.MergeL2RefIdeal.τ).loc Cert.MergeL2RefIdeal.main_arg6)
      ∧ r.2.mem ((c.tc : Thread Cert.MergeL2RefIdeal.nD Cert.MergeL2RefIdeal.τ).loc Cert.MergeL2RefIdeal.main_arg7) = m ((c.tc : Thread Cert.MergeL2RefIdeal.nD Cert.MergeL2RefIdeal.τ).loc Cert.MergeL2RefIdeal.main_arg7))
      ∧ r.2.sem = fun _ => 0)

def quiescent_MergeL3 [hMergeL3 : Cert.MergeL3.Facts] : Prop :=
  ∀ (m : (ℓ : Loc Cert.MergeL3.nD Cert.MergeL3.τ Cert.MergeL3.sig) → Buf (Elt Bits) ℓ) (g : Dev Cert.MergeL3.nD → PrngReg), Pre_MergeL3 m →
    θ_run (Cert.MergeL3.defs (F := Bits)) (onTc (τ := Cert.MergeL3.τ) (Cert.MergeL3.main (F := Bits))) ⟨m, fun _ => 0, g⟩ (fun r => (∀ c : Dev Cert.MergeL3.nD,
      r.2.mem ((c.tc : Thread Cert.MergeL3.nD Cert.MergeL3.τ).loc Cert.MergeL3.main_arg0) = m ((c.tc : Thread Cert.MergeL3.nD Cert.MergeL3.τ).loc Cert.MergeL3.main_arg0)
      ∧ r.2.mem ((c.tc : Thread Cert.MergeL3.nD Cert.MergeL3.τ).loc Cert.MergeL3.main_arg1) = m ((c.tc : Thread Cert.MergeL3.nD Cert.MergeL3.τ).loc Cert.MergeL3.main_arg1)
      ∧ r.2.mem ((c.tc : Thread Cert.MergeL3.nD Cert.MergeL3.τ).loc Cert.MergeL3.main_arg2) = m ((c.tc : Thread Cert.MergeL3.nD Cert.MergeL3.τ).loc Cert.MergeL3.main_arg2)
      ∧ r.2.mem ((c.tc : Thread Cert.MergeL3.nD Cert.MergeL3.τ).loc Cert.MergeL3.main_arg3) = m ((c.tc : Thread Cert.MergeL3.nD Cert.MergeL3.τ).loc Cert.MergeL3.main_arg3)
      ∧ r.2.mem ((c.tc : Thread Cert.MergeL3.nD Cert.MergeL3.τ).loc Cert.MergeL3.main_arg4) = m ((c.tc : Thread Cert.MergeL3.nD Cert.MergeL3.τ).loc Cert.MergeL3.main_arg4)
      ∧ r.2.mem ((c.tc : Thread Cert.MergeL3.nD Cert.MergeL3.τ).loc Cert.MergeL3.main_arg5) = m ((c.tc : Thread Cert.MergeL3.nD Cert.MergeL3.τ).loc Cert.MergeL3.main_arg5)
      ∧ r.2.mem ((c.tc : Thread Cert.MergeL3.nD Cert.MergeL3.τ).loc Cert.MergeL3.main_arg6) = m ((c.tc : Thread Cert.MergeL3.nD Cert.MergeL3.τ).loc Cert.MergeL3.main_arg6)
      ∧ r.2.mem ((c.tc : Thread Cert.MergeL3.nD Cert.MergeL3.τ).loc Cert.MergeL3.main_arg7) = m ((c.tc : Thread Cert.MergeL3.nD Cert.MergeL3.τ).loc Cert.MergeL3.main_arg7))
      ∧ r.2.sem = fun _ => 0)

def quiescent_MergeL3Ideal [hMergeL3Ideal : Cert.MergeL3Ideal.Facts] : Prop :=
  ∀ (m : (ℓ : Loc Cert.MergeL3Ideal.nD Cert.MergeL3Ideal.τ Cert.MergeL3Ideal.sig) → Buf (Elt Ideal) ℓ) (g : Dev Cert.MergeL3Ideal.nD → PrngReg), Pre_MergeL3Ideal m →
    θ_run (Cert.MergeL3Ideal.defs (F := Ideal)) (onTc (τ := Cert.MergeL3Ideal.τ) (Cert.MergeL3Ideal.main (F := Ideal))) ⟨m, fun _ => 0, g⟩ (fun r => (∀ c : Dev Cert.MergeL3Ideal.nD,
      r.2.mem ((c.tc : Thread Cert.MergeL3Ideal.nD Cert.MergeL3Ideal.τ).loc Cert.MergeL3Ideal.main_arg0) = m ((c.tc : Thread Cert.MergeL3Ideal.nD Cert.MergeL3Ideal.τ).loc Cert.MergeL3Ideal.main_arg0)
      ∧ r.2.mem ((c.tc : Thread Cert.MergeL3Ideal.nD Cert.MergeL3Ideal.τ).loc Cert.MergeL3Ideal.main_arg1) = m ((c.tc : Thread Cert.MergeL3Ideal.nD Cert.MergeL3Ideal.τ).loc Cert.MergeL3Ideal.main_arg1)
      ∧ r.2.mem ((c.tc : Thread Cert.MergeL3Ideal.nD Cert.MergeL3Ideal.τ).loc Cert.MergeL3Ideal.main_arg2) = m ((c.tc : Thread Cert.MergeL3Ideal.nD Cert.MergeL3Ideal.τ).loc Cert.MergeL3Ideal.main_arg2)
      ∧ r.2.mem ((c.tc : Thread Cert.MergeL3Ideal.nD Cert.MergeL3Ideal.τ).loc Cert.MergeL3Ideal.main_arg3) = m ((c.tc : Thread Cert.MergeL3Ideal.nD Cert.MergeL3Ideal.τ).loc Cert.MergeL3Ideal.main_arg3)
      ∧ r.2.mem ((c.tc : Thread Cert.MergeL3Ideal.nD Cert.MergeL3Ideal.τ).loc Cert.MergeL3Ideal.main_arg4) = m ((c.tc : Thread Cert.MergeL3Ideal.nD Cert.MergeL3Ideal.τ).loc Cert.MergeL3Ideal.main_arg4)
      ∧ r.2.mem ((c.tc : Thread Cert.MergeL3Ideal.nD Cert.MergeL3Ideal.τ).loc Cert.MergeL3Ideal.main_arg5) = m ((c.tc : Thread Cert.MergeL3Ideal.nD Cert.MergeL3Ideal.τ).loc Cert.MergeL3Ideal.main_arg5)
      ∧ r.2.mem ((c.tc : Thread Cert.MergeL3Ideal.nD Cert.MergeL3Ideal.τ).loc Cert.MergeL3Ideal.main_arg6) = m ((c.tc : Thread Cert.MergeL3Ideal.nD Cert.MergeL3Ideal.τ).loc Cert.MergeL3Ideal.main_arg6)
      ∧ r.2.mem ((c.tc : Thread Cert.MergeL3Ideal.nD Cert.MergeL3Ideal.τ).loc Cert.MergeL3Ideal.main_arg7) = m ((c.tc : Thread Cert.MergeL3Ideal.nD Cert.MergeL3Ideal.τ).loc Cert.MergeL3Ideal.main_arg7))
      ∧ r.2.sem = fun _ => 0)

def quiescent_MergeL3RefIdeal [hMergeL3RefIdeal : Cert.MergeL3RefIdeal.Facts] : Prop :=
  ∀ (m : (ℓ : Loc Cert.MergeL3RefIdeal.nD Cert.MergeL3RefIdeal.τ Cert.MergeL3RefIdeal.sig) → Buf (Elt Ideal) ℓ) (g : Dev Cert.MergeL3RefIdeal.nD → PrngReg), Pre_MergeL3RefIdeal m →
    θ_run (Cert.MergeL3RefIdeal.defs (F := Ideal)) (onTc (τ := Cert.MergeL3RefIdeal.τ) (Cert.MergeL3RefIdeal.main (F := Ideal))) ⟨m, fun _ => 0, g⟩ (fun r => (∀ c : Dev Cert.MergeL3RefIdeal.nD,
      r.2.mem ((c.tc : Thread Cert.MergeL3RefIdeal.nD Cert.MergeL3RefIdeal.τ).loc Cert.MergeL3RefIdeal.main_arg0) = m ((c.tc : Thread Cert.MergeL3RefIdeal.nD Cert.MergeL3RefIdeal.τ).loc Cert.MergeL3RefIdeal.main_arg0)
      ∧ r.2.mem ((c.tc : Thread Cert.MergeL3RefIdeal.nD Cert.MergeL3RefIdeal.τ).loc Cert.MergeL3RefIdeal.main_arg1) = m ((c.tc : Thread Cert.MergeL3RefIdeal.nD Cert.MergeL3RefIdeal.τ).loc Cert.MergeL3RefIdeal.main_arg1)
      ∧ r.2.mem ((c.tc : Thread Cert.MergeL3RefIdeal.nD Cert.MergeL3RefIdeal.τ).loc Cert.MergeL3RefIdeal.main_arg2) = m ((c.tc : Thread Cert.MergeL3RefIdeal.nD Cert.MergeL3RefIdeal.τ).loc Cert.MergeL3RefIdeal.main_arg2)
      ∧ r.2.mem ((c.tc : Thread Cert.MergeL3RefIdeal.nD Cert.MergeL3RefIdeal.τ).loc Cert.MergeL3RefIdeal.main_arg3) = m ((c.tc : Thread Cert.MergeL3RefIdeal.nD Cert.MergeL3RefIdeal.τ).loc Cert.MergeL3RefIdeal.main_arg3)
      ∧ r.2.mem ((c.tc : Thread Cert.MergeL3RefIdeal.nD Cert.MergeL3RefIdeal.τ).loc Cert.MergeL3RefIdeal.main_arg4) = m ((c.tc : Thread Cert.MergeL3RefIdeal.nD Cert.MergeL3RefIdeal.τ).loc Cert.MergeL3RefIdeal.main_arg4)
      ∧ r.2.mem ((c.tc : Thread Cert.MergeL3RefIdeal.nD Cert.MergeL3RefIdeal.τ).loc Cert.MergeL3RefIdeal.main_arg5) = m ((c.tc : Thread Cert.MergeL3RefIdeal.nD Cert.MergeL3RefIdeal.τ).loc Cert.MergeL3RefIdeal.main_arg5)
      ∧ r.2.mem ((c.tc : Thread Cert.MergeL3RefIdeal.nD Cert.MergeL3RefIdeal.τ).loc Cert.MergeL3RefIdeal.main_arg6) = m ((c.tc : Thread Cert.MergeL3RefIdeal.nD Cert.MergeL3RefIdeal.τ).loc Cert.MergeL3RefIdeal.main_arg6)
      ∧ r.2.mem ((c.tc : Thread Cert.MergeL3RefIdeal.nD Cert.MergeL3RefIdeal.τ).loc Cert.MergeL3RefIdeal.main_arg7) = m ((c.tc : Thread Cert.MergeL3RefIdeal.nD Cert.MergeL3RefIdeal.τ).loc Cert.MergeL3RefIdeal.main_arg7))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaIdeal_pre_gla_finite [hGlaIdeal : Cert.GlaIdeal.Facts] [hPre_gla_finite : Cert.Pre_gla_finite.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_gla_finite m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_GlaRefIdeal_pre_gla_finite [hGlaRefIdeal : Cert.GlaRefIdeal.Facts] [hPre_gla_finite : Cert.Pre_gla_finite.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_gla_finite m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v17) = v0 c
          ∧ r.2.mem ((c.tc : Thread Cert.Reference.nD Cert.Reference.τ).loc Cert.Reference.main_arg0) = m' ((c.tc : Thread Cert.Reference.nD Cert.Reference.τ).loc Cert.Reference.main_arg0))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v72) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_FfnL0_FfnL0Ideal : Prop :=
  True

def algebraic_FfnL0Ideal_FfnL0RefIdeal [hFfnL0Ideal : Cert.FfnL0Ideal.Facts] [hFfnL0RefIdeal : Cert.FfnL0RefIdeal.Facts] : Prop :=
  ∀ (m : (ℓ : Loc Cert.FfnL0Ideal.nD Cert.FfnL0Ideal.τ Cert.FfnL0Ideal.sig) → Buf (Elt Ideal) ℓ) (g : Dev Cert.FfnL0Ideal.nD → PrngReg)
    (m' : (ℓ : Loc Cert.FfnL0RefIdeal.nD Cert.FfnL0RefIdeal.τ Cert.FfnL0RefIdeal.sig) → Buf (Elt Ideal) ℓ) (g' : Dev Cert.FfnL0RefIdeal.nD → PrngReg), Pre_FfnL0Ideal m →
    (∀ c : Dev Cert.FfnL0Ideal.nD,
      m' ((c.tc : Thread Cert.FfnL0RefIdeal.nD Cert.FfnL0RefIdeal.τ).loc Cert.FfnL0RefIdeal.main_arg0) = m ((c.tc : Thread Cert.FfnL0Ideal.nD Cert.FfnL0Ideal.τ).loc Cert.FfnL0Ideal.main_arg0)
      ∧ m' ((c.tc : Thread Cert.FfnL0RefIdeal.nD Cert.FfnL0RefIdeal.τ).loc Cert.FfnL0RefIdeal.main_arg1) = m ((c.tc : Thread Cert.FfnL0Ideal.nD Cert.FfnL0Ideal.τ).loc Cert.FfnL0Ideal.main_arg1)
      ∧ m' ((c.tc : Thread Cert.FfnL0RefIdeal.nD Cert.FfnL0RefIdeal.τ).loc Cert.FfnL0RefIdeal.main_arg2) = m ((c.tc : Thread Cert.FfnL0Ideal.nD Cert.FfnL0Ideal.τ).loc Cert.FfnL0Ideal.main_arg2)
      ∧ m' ((c.tc : Thread Cert.FfnL0RefIdeal.nD Cert.FfnL0RefIdeal.τ).loc Cert.FfnL0RefIdeal.main_arg3) = m ((c.tc : Thread Cert.FfnL0Ideal.nD Cert.FfnL0Ideal.τ).loc Cert.FfnL0Ideal.main_arg3)
      ∧ m' ((c.tc : Thread Cert.FfnL0RefIdeal.nD Cert.FfnL0RefIdeal.τ).loc Cert.FfnL0RefIdeal.main_arg4) = m ((c.tc : Thread Cert.FfnL0Ideal.nD Cert.FfnL0Ideal.τ).loc Cert.FfnL0Ideal.main_arg4)
      ∧ m' ((c.tc : Thread Cert.FfnL0RefIdeal.nD Cert.FfnL0RefIdeal.τ).loc Cert.FfnL0RefIdeal.main_arg5) = m ((c.tc : Thread Cert.FfnL0Ideal.nD Cert.FfnL0Ideal.τ).loc Cert.FfnL0Ideal.main_arg5)
      ∧ m' ((c.tc : Thread Cert.FfnL0RefIdeal.nD Cert.FfnL0RefIdeal.τ).loc Cert.FfnL0RefIdeal.main_arg6) = m ((c.tc : Thread Cert.FfnL0Ideal.nD Cert.FfnL0Ideal.τ).loc Cert.FfnL0Ideal.main_arg6)) →
    ∃ (v0 : (c : Dev Cert.FfnL0Ideal.nD) → Buf (Elt Ideal) ((c.tc : Thread Cert.FfnL0Ideal.nD Cert.FfnL0Ideal.τ).loc Cert.FfnL0Ideal.main_v5)),
      θ_run (Cert.FfnL0Ideal.defs (F := Ideal)) (onTc (τ := Cert.FfnL0Ideal.τ) (Cert.FfnL0Ideal.main (F := Ideal))) ⟨m, fun _ => 0, g⟩ (fun r => ∀ c : Dev Cert.FfnL0Ideal.nD,
          r.2.mem ((c.tc : Thread Cert.FfnL0Ideal.nD Cert.FfnL0Ideal.τ).loc Cert.FfnL0Ideal.main_v5) = v0 c
          ∧ r.2.mem ((c.tc : Thread Cert.FfnL0Ideal.nD Cert.FfnL0Ideal.τ).loc Cert.FfnL0Ideal.main_arg0) = m ((c.tc : Thread Cert.FfnL0Ideal.nD Cert.FfnL0Ideal.τ).loc Cert.FfnL0Ideal.main_arg0)
          ∧ r.2.mem ((c.tc : Thread Cert.FfnL0Ideal.nD Cert.FfnL0Ideal.τ).loc Cert.FfnL0Ideal.main_arg1) = m ((c.tc : Thread Cert.FfnL0Ideal.nD Cert.FfnL0Ideal.τ).loc Cert.FfnL0Ideal.main_arg1)
          ∧ r.2.mem ((c.tc : Thread Cert.FfnL0Ideal.nD Cert.FfnL0Ideal.τ).loc Cert.FfnL0Ideal.main_arg2) = m ((c.tc : Thread Cert.FfnL0Ideal.nD Cert.FfnL0Ideal.τ).loc Cert.FfnL0Ideal.main_arg2)
          ∧ r.2.mem ((c.tc : Thread Cert.FfnL0Ideal.nD Cert.FfnL0Ideal.τ).loc Cert.FfnL0Ideal.main_arg3) = m ((c.tc : Thread Cert.FfnL0Ideal.nD Cert.FfnL0Ideal.τ).loc Cert.FfnL0Ideal.main_arg3)
          ∧ r.2.mem ((c.tc : Thread Cert.FfnL0Ideal.nD Cert.FfnL0Ideal.τ).loc Cert.FfnL0Ideal.main_arg4) = m ((c.tc : Thread Cert.FfnL0Ideal.nD Cert.FfnL0Ideal.τ).loc Cert.FfnL0Ideal.main_arg4)
          ∧ r.2.mem ((c.tc : Thread Cert.FfnL0Ideal.nD Cert.FfnL0Ideal.τ).loc Cert.FfnL0Ideal.main_arg5) = m ((c.tc : Thread Cert.FfnL0Ideal.nD Cert.FfnL0Ideal.τ).loc Cert.FfnL0Ideal.main_arg5)
          ∧ r.2.mem ((c.tc : Thread Cert.FfnL0Ideal.nD Cert.FfnL0Ideal.τ).loc Cert.FfnL0Ideal.main_arg6) = m ((c.tc : Thread Cert.FfnL0Ideal.nD Cert.FfnL0Ideal.τ).loc Cert.FfnL0Ideal.main_arg6))
      ∧ θ_run (Cert.FfnL0RefIdeal.defs (F := Ideal)) (onTc (τ := Cert.FfnL0RefIdeal.τ) (Cert.FfnL0RefIdeal.main (F := Ideal))) ⟨m', fun _ => 0, g'⟩ (fun r => ∀ c : Dev Cert.FfnL0RefIdeal.nD,
          r.2.mem ((c.tc : Thread Cert.FfnL0RefIdeal.nD Cert.FfnL0RefIdeal.τ).loc Cert.FfnL0RefIdeal.main_v59) = v0 c
          ∧ r.2.mem ((c.tc : Thread Cert.FfnL0RefIdeal.nD Cert.FfnL0RefIdeal.τ).loc Cert.FfnL0RefIdeal.main_arg0) = m' ((c.tc : Thread Cert.FfnL0RefIdeal.nD Cert.FfnL0RefIdeal.τ).loc Cert.FfnL0RefIdeal.main_arg0)
          ∧ r.2.mem ((c.tc : Thread Cert.FfnL0RefIdeal.nD Cert.FfnL0RefIdeal.τ).loc Cert.FfnL0RefIdeal.main_arg1) = m' ((c.tc : Thread Cert.FfnL0RefIdeal.nD Cert.FfnL0RefIdeal.τ).loc Cert.FfnL0RefIdeal.main_arg1)
          ∧ r.2.mem ((c.tc : Thread Cert.FfnL0RefIdeal.nD Cert.FfnL0RefIdeal.τ).loc Cert.FfnL0RefIdeal.main_arg2) = m' ((c.tc : Thread Cert.FfnL0RefIdeal.nD Cert.FfnL0RefIdeal.τ).loc Cert.FfnL0RefIdeal.main_arg2)
          ∧ r.2.mem ((c.tc : Thread Cert.FfnL0RefIdeal.nD Cert.FfnL0RefIdeal.τ).loc Cert.FfnL0RefIdeal.main_arg3) = m' ((c.tc : Thread Cert.FfnL0RefIdeal.nD Cert.FfnL0RefIdeal.τ).loc Cert.FfnL0RefIdeal.main_arg3)
          ∧ r.2.mem ((c.tc : Thread Cert.FfnL0RefIdeal.nD Cert.FfnL0RefIdeal.τ).loc Cert.FfnL0RefIdeal.main_arg4) = m' ((c.tc : Thread Cert.FfnL0RefIdeal.nD Cert.FfnL0RefIdeal.τ).loc Cert.FfnL0RefIdeal.main_arg4)
          ∧ r.2.mem ((c.tc : Thread Cert.FfnL0RefIdeal.nD Cert.FfnL0RefIdeal.τ).loc Cert.FfnL0RefIdeal.main_arg5) = m' ((c.tc : Thread Cert.FfnL0RefIdeal.nD Cert.FfnL0RefIdeal.τ).loc Cert.FfnL0RefIdeal.main_arg5)
          ∧ r.2.mem ((c.tc : Thread Cert.FfnL0RefIdeal.nD Cert.FfnL0RefIdeal.τ).loc Cert.FfnL0RefIdeal.main_arg6) = m' ((c.tc : Thread Cert.FfnL0RefIdeal.nD Cert.FfnL0RefIdeal.τ).loc Cert.FfnL0RefIdeal.main_arg6))

def preserves_FfnL1_FfnL1Ideal : Prop :=
  True

def algebraic_FfnL1Ideal_FfnL1RefIdeal [hFfnL1Ideal : Cert.FfnL1Ideal.Facts] [hFfnL1RefIdeal : Cert.FfnL1RefIdeal.Facts] : Prop :=
  ∀ (m : (ℓ : Loc Cert.FfnL1Ideal.nD Cert.FfnL1Ideal.τ Cert.FfnL1Ideal.sig) → Buf (Elt Ideal) ℓ) (g : Dev Cert.FfnL1Ideal.nD → PrngReg)
    (m' : (ℓ : Loc Cert.FfnL1RefIdeal.nD Cert.FfnL1RefIdeal.τ Cert.FfnL1RefIdeal.sig) → Buf (Elt Ideal) ℓ) (g' : Dev Cert.FfnL1RefIdeal.nD → PrngReg), Pre_FfnL1Ideal m →
    (∀ c : Dev Cert.FfnL1Ideal.nD,
      m' ((c.tc : Thread Cert.FfnL1RefIdeal.nD Cert.FfnL1RefIdeal.τ).loc Cert.FfnL1RefIdeal.main_arg0) = m ((c.tc : Thread Cert.FfnL1Ideal.nD Cert.FfnL1Ideal.τ).loc Cert.FfnL1Ideal.main_arg0)
      ∧ m' ((c.tc : Thread Cert.FfnL1RefIdeal.nD Cert.FfnL1RefIdeal.τ).loc Cert.FfnL1RefIdeal.main_arg1) = m ((c.tc : Thread Cert.FfnL1Ideal.nD Cert.FfnL1Ideal.τ).loc Cert.FfnL1Ideal.main_arg1)
      ∧ m' ((c.tc : Thread Cert.FfnL1RefIdeal.nD Cert.FfnL1RefIdeal.τ).loc Cert.FfnL1RefIdeal.main_arg2) = m ((c.tc : Thread Cert.FfnL1Ideal.nD Cert.FfnL1Ideal.τ).loc Cert.FfnL1Ideal.main_arg2)
      ∧ m' ((c.tc : Thread Cert.FfnL1RefIdeal.nD Cert.FfnL1RefIdeal.τ).loc Cert.FfnL1RefIdeal.main_arg3) = m ((c.tc : Thread Cert.FfnL1Ideal.nD Cert.FfnL1Ideal.τ).loc Cert.FfnL1Ideal.main_arg3)
      ∧ m' ((c.tc : Thread Cert.FfnL1RefIdeal.nD Cert.FfnL1RefIdeal.τ).loc Cert.FfnL1RefIdeal.main_arg4) = m ((c.tc : Thread Cert.FfnL1Ideal.nD Cert.FfnL1Ideal.τ).loc Cert.FfnL1Ideal.main_arg4)
      ∧ m' ((c.tc : Thread Cert.FfnL1RefIdeal.nD Cert.FfnL1RefIdeal.τ).loc Cert.FfnL1RefIdeal.main_arg5) = m ((c.tc : Thread Cert.FfnL1Ideal.nD Cert.FfnL1Ideal.τ).loc Cert.FfnL1Ideal.main_arg5)
      ∧ m' ((c.tc : Thread Cert.FfnL1RefIdeal.nD Cert.FfnL1RefIdeal.τ).loc Cert.FfnL1RefIdeal.main_arg6) = m ((c.tc : Thread Cert.FfnL1Ideal.nD Cert.FfnL1Ideal.τ).loc Cert.FfnL1Ideal.main_arg6)) →
    ∃ (v0 : (c : Dev Cert.FfnL1Ideal.nD) → Buf (Elt Ideal) ((c.tc : Thread Cert.FfnL1Ideal.nD Cert.FfnL1Ideal.τ).loc Cert.FfnL1Ideal.main_v5)),
      θ_run (Cert.FfnL1Ideal.defs (F := Ideal)) (onTc (τ := Cert.FfnL1Ideal.τ) (Cert.FfnL1Ideal.main (F := Ideal))) ⟨m, fun _ => 0, g⟩ (fun r => ∀ c : Dev Cert.FfnL1Ideal.nD,
          r.2.mem ((c.tc : Thread Cert.FfnL1Ideal.nD Cert.FfnL1Ideal.τ).loc Cert.FfnL1Ideal.main_v5) = v0 c
          ∧ r.2.mem ((c.tc : Thread Cert.FfnL1Ideal.nD Cert.FfnL1Ideal.τ).loc Cert.FfnL1Ideal.main_arg0) = m ((c.tc : Thread Cert.FfnL1Ideal.nD Cert.FfnL1Ideal.τ).loc Cert.FfnL1Ideal.main_arg0)
          ∧ r.2.mem ((c.tc : Thread Cert.FfnL1Ideal.nD Cert.FfnL1Ideal.τ).loc Cert.FfnL1Ideal.main_arg1) = m ((c.tc : Thread Cert.FfnL1Ideal.nD Cert.FfnL1Ideal.τ).loc Cert.FfnL1Ideal.main_arg1)
          ∧ r.2.mem ((c.tc : Thread Cert.FfnL1Ideal.nD Cert.FfnL1Ideal.τ).loc Cert.FfnL1Ideal.main_arg2) = m ((c.tc : Thread Cert.FfnL1Ideal.nD Cert.FfnL1Ideal.τ).loc Cert.FfnL1Ideal.main_arg2)
          ∧ r.2.mem ((c.tc : Thread Cert.FfnL1Ideal.nD Cert.FfnL1Ideal.τ).loc Cert.FfnL1Ideal.main_arg3) = m ((c.tc : Thread Cert.FfnL1Ideal.nD Cert.FfnL1Ideal.τ).loc Cert.FfnL1Ideal.main_arg3)
          ∧ r.2.mem ((c.tc : Thread Cert.FfnL1Ideal.nD Cert.FfnL1Ideal.τ).loc Cert.FfnL1Ideal.main_arg4) = m ((c.tc : Thread Cert.FfnL1Ideal.nD Cert.FfnL1Ideal.τ).loc Cert.FfnL1Ideal.main_arg4)
          ∧ r.2.mem ((c.tc : Thread Cert.FfnL1Ideal.nD Cert.FfnL1Ideal.τ).loc Cert.FfnL1Ideal.main_arg5) = m ((c.tc : Thread Cert.FfnL1Ideal.nD Cert.FfnL1Ideal.τ).loc Cert.FfnL1Ideal.main_arg5)
          ∧ r.2.mem ((c.tc : Thread Cert.FfnL1Ideal.nD Cert.FfnL1Ideal.τ).loc Cert.FfnL1Ideal.main_arg6) = m ((c.tc : Thread Cert.FfnL1Ideal.nD Cert.FfnL1Ideal.τ).loc Cert.FfnL1Ideal.main_arg6))
      ∧ θ_run (Cert.FfnL1RefIdeal.defs (F := Ideal)) (onTc (τ := Cert.FfnL1RefIdeal.τ) (Cert.FfnL1RefIdeal.main (F := Ideal))) ⟨m', fun _ => 0, g'⟩ (fun r => ∀ c : Dev Cert.FfnL1RefIdeal.nD,
          r.2.mem ((c.tc : Thread Cert.FfnL1RefIdeal.nD Cert.FfnL1RefIdeal.τ).loc Cert.FfnL1RefIdeal.main_v59) = v0 c
          ∧ r.2.mem ((c.tc : Thread Cert.FfnL1RefIdeal.nD Cert.FfnL1RefIdeal.τ).loc Cert.FfnL1RefIdeal.main_arg0) = m' ((c.tc : Thread Cert.FfnL1RefIdeal.nD Cert.FfnL1RefIdeal.τ).loc Cert.FfnL1RefIdeal.main_arg0)
          ∧ r.2.mem ((c.tc : Thread Cert.FfnL1RefIdeal.nD Cert.FfnL1RefIdeal.τ).loc Cert.FfnL1RefIdeal.main_arg1) = m' ((c.tc : Thread Cert.FfnL1RefIdeal.nD Cert.FfnL1RefIdeal.τ).loc Cert.FfnL1RefIdeal.main_arg1)
          ∧ r.2.mem ((c.tc : Thread Cert.FfnL1RefIdeal.nD Cert.FfnL1RefIdeal.τ).loc Cert.FfnL1RefIdeal.main_arg2) = m' ((c.tc : Thread Cert.FfnL1RefIdeal.nD Cert.FfnL1RefIdeal.τ).loc Cert.FfnL1RefIdeal.main_arg2)
          ∧ r.2.mem ((c.tc : Thread Cert.FfnL1RefIdeal.nD Cert.FfnL1RefIdeal.τ).loc Cert.FfnL1RefIdeal.main_arg3) = m' ((c.tc : Thread Cert.FfnL1RefIdeal.nD Cert.FfnL1RefIdeal.τ).loc Cert.FfnL1RefIdeal.main_arg3)
          ∧ r.2.mem ((c.tc : Thread Cert.FfnL1RefIdeal.nD Cert.FfnL1RefIdeal.τ).loc Cert.FfnL1RefIdeal.main_arg4) = m' ((c.tc : Thread Cert.FfnL1RefIdeal.nD Cert.FfnL1RefIdeal.τ).loc Cert.FfnL1RefIdeal.main_arg4)
          ∧ r.2.mem ((c.tc : Thread Cert.FfnL1RefIdeal.nD Cert.FfnL1RefIdeal.τ).loc Cert.FfnL1RefIdeal.main_arg5) = m' ((c.tc : Thread Cert.FfnL1RefIdeal.nD Cert.FfnL1RefIdeal.τ).loc Cert.FfnL1RefIdeal.main_arg5)
          ∧ r.2.mem ((c.tc : Thread Cert.FfnL1RefIdeal.nD Cert.FfnL1RefIdeal.τ).loc Cert.FfnL1RefIdeal.main_arg6) = m' ((c.tc : Thread Cert.FfnL1RefIdeal.nD Cert.FfnL1RefIdeal.τ).loc Cert.FfnL1RefIdeal.main_arg6))

def preserves_FfnL2_FfnL2Ideal : Prop :=
  True

def algebraic_FfnL2Ideal_FfnL2RefIdeal [hFfnL2Ideal : Cert.FfnL2Ideal.Facts] [hFfnL2RefIdeal : Cert.FfnL2RefIdeal.Facts] : Prop :=
  ∀ (m : (ℓ : Loc Cert.FfnL2Ideal.nD Cert.FfnL2Ideal.τ Cert.FfnL2Ideal.sig) → Buf (Elt Ideal) ℓ) (g : Dev Cert.FfnL2Ideal.nD → PrngReg)
    (m' : (ℓ : Loc Cert.FfnL2RefIdeal.nD Cert.FfnL2RefIdeal.τ Cert.FfnL2RefIdeal.sig) → Buf (Elt Ideal) ℓ) (g' : Dev Cert.FfnL2RefIdeal.nD → PrngReg), Pre_FfnL2Ideal m →
    (∀ c : Dev Cert.FfnL2Ideal.nD,
      m' ((c.tc : Thread Cert.FfnL2RefIdeal.nD Cert.FfnL2RefIdeal.τ).loc Cert.FfnL2RefIdeal.main_arg0) = m ((c.tc : Thread Cert.FfnL2Ideal.nD Cert.FfnL2Ideal.τ).loc Cert.FfnL2Ideal.main_arg0)
      ∧ m' ((c.tc : Thread Cert.FfnL2RefIdeal.nD Cert.FfnL2RefIdeal.τ).loc Cert.FfnL2RefIdeal.main_arg1) = m ((c.tc : Thread Cert.FfnL2Ideal.nD Cert.FfnL2Ideal.τ).loc Cert.FfnL2Ideal.main_arg1)
      ∧ m' ((c.tc : Thread Cert.FfnL2RefIdeal.nD Cert.FfnL2RefIdeal.τ).loc Cert.FfnL2RefIdeal.main_arg2) = m ((c.tc : Thread Cert.FfnL2Ideal.nD Cert.FfnL2Ideal.τ).loc Cert.FfnL2Ideal.main_arg2)
      ∧ m' ((c.tc : Thread Cert.FfnL2RefIdeal.nD Cert.FfnL2RefIdeal.τ).loc Cert.FfnL2RefIdeal.main_arg3) = m ((c.tc : Thread Cert.FfnL2Ideal.nD Cert.FfnL2Ideal.τ).loc Cert.FfnL2Ideal.main_arg3)
      ∧ m' ((c.tc : Thread Cert.FfnL2RefIdeal.nD Cert.FfnL2RefIdeal.τ).loc Cert.FfnL2RefIdeal.main_arg4) = m ((c.tc : Thread Cert.FfnL2Ideal.nD Cert.FfnL2Ideal.τ).loc Cert.FfnL2Ideal.main_arg4)
      ∧ m' ((c.tc : Thread Cert.FfnL2RefIdeal.nD Cert.FfnL2RefIdeal.τ).loc Cert.FfnL2RefIdeal.main_arg5) = m ((c.tc : Thread Cert.FfnL2Ideal.nD Cert.FfnL2Ideal.τ).loc Cert.FfnL2Ideal.main_arg5)
      ∧ m' ((c.tc : Thread Cert.FfnL2RefIdeal.nD Cert.FfnL2RefIdeal.τ).loc Cert.FfnL2RefIdeal.main_arg6) = m ((c.tc : Thread Cert.FfnL2Ideal.nD Cert.FfnL2Ideal.τ).loc Cert.FfnL2Ideal.main_arg6)) →
    ∃ (v0 : (c : Dev Cert.FfnL2Ideal.nD) → Buf (Elt Ideal) ((c.tc : Thread Cert.FfnL2Ideal.nD Cert.FfnL2Ideal.τ).loc Cert.FfnL2Ideal.main_v5)),
      θ_run (Cert.FfnL2Ideal.defs (F := Ideal)) (onTc (τ := Cert.FfnL2Ideal.τ) (Cert.FfnL2Ideal.main (F := Ideal))) ⟨m, fun _ => 0, g⟩ (fun r => ∀ c : Dev Cert.FfnL2Ideal.nD,
          r.2.mem ((c.tc : Thread Cert.FfnL2Ideal.nD Cert.FfnL2Ideal.τ).loc Cert.FfnL2Ideal.main_v5) = v0 c
          ∧ r.2.mem ((c.tc : Thread Cert.FfnL2Ideal.nD Cert.FfnL2Ideal.τ).loc Cert.FfnL2Ideal.main_arg0) = m ((c.tc : Thread Cert.FfnL2Ideal.nD Cert.FfnL2Ideal.τ).loc Cert.FfnL2Ideal.main_arg0)
          ∧ r.2.mem ((c.tc : Thread Cert.FfnL2Ideal.nD Cert.FfnL2Ideal.τ).loc Cert.FfnL2Ideal.main_arg1) = m ((c.tc : Thread Cert.FfnL2Ideal.nD Cert.FfnL2Ideal.τ).loc Cert.FfnL2Ideal.main_arg1)
          ∧ r.2.mem ((c.tc : Thread Cert.FfnL2Ideal.nD Cert.FfnL2Ideal.τ).loc Cert.FfnL2Ideal.main_arg2) = m ((c.tc : Thread Cert.FfnL2Ideal.nD Cert.FfnL2Ideal.τ).loc Cert.FfnL2Ideal.main_arg2)
          ∧ r.2.mem ((c.tc : Thread Cert.FfnL2Ideal.nD Cert.FfnL2Ideal.τ).loc Cert.FfnL2Ideal.main_arg3) = m ((c.tc : Thread Cert.FfnL2Ideal.nD Cert.FfnL2Ideal.τ).loc Cert.FfnL2Ideal.main_arg3)
          ∧ r.2.mem ((c.tc : Thread Cert.FfnL2Ideal.nD Cert.FfnL2Ideal.τ).loc Cert.FfnL2Ideal.main_arg4) = m ((c.tc : Thread Cert.FfnL2Ideal.nD Cert.FfnL2Ideal.τ).loc Cert.FfnL2Ideal.main_arg4)
          ∧ r.2.mem ((c.tc : Thread Cert.FfnL2Ideal.nD Cert.FfnL2Ideal.τ).loc Cert.FfnL2Ideal.main_arg5) = m ((c.tc : Thread Cert.FfnL2Ideal.nD Cert.FfnL2Ideal.τ).loc Cert.FfnL2Ideal.main_arg5)
          ∧ r.2.mem ((c.tc : Thread Cert.FfnL2Ideal.nD Cert.FfnL2Ideal.τ).loc Cert.FfnL2Ideal.main_arg6) = m ((c.tc : Thread Cert.FfnL2Ideal.nD Cert.FfnL2Ideal.τ).loc Cert.FfnL2Ideal.main_arg6))
      ∧ θ_run (Cert.FfnL2RefIdeal.defs (F := Ideal)) (onTc (τ := Cert.FfnL2RefIdeal.τ) (Cert.FfnL2RefIdeal.main (F := Ideal))) ⟨m', fun _ => 0, g'⟩ (fun r => ∀ c : Dev Cert.FfnL2RefIdeal.nD,
          r.2.mem ((c.tc : Thread Cert.FfnL2RefIdeal.nD Cert.FfnL2RefIdeal.τ).loc Cert.FfnL2RefIdeal.main_v59) = v0 c
          ∧ r.2.mem ((c.tc : Thread Cert.FfnL2RefIdeal.nD Cert.FfnL2RefIdeal.τ).loc Cert.FfnL2RefIdeal.main_arg0) = m' ((c.tc : Thread Cert.FfnL2RefIdeal.nD Cert.FfnL2RefIdeal.τ).loc Cert.FfnL2RefIdeal.main_arg0)
          ∧ r.2.mem ((c.tc : Thread Cert.FfnL2RefIdeal.nD Cert.FfnL2RefIdeal.τ).loc Cert.FfnL2RefIdeal.main_arg1) = m' ((c.tc : Thread Cert.FfnL2RefIdeal.nD Cert.FfnL2RefIdeal.τ).loc Cert.FfnL2RefIdeal.main_arg1)
          ∧ r.2.mem ((c.tc : Thread Cert.FfnL2RefIdeal.nD Cert.FfnL2RefIdeal.τ).loc Cert.FfnL2RefIdeal.main_arg2) = m' ((c.tc : Thread Cert.FfnL2RefIdeal.nD Cert.FfnL2RefIdeal.τ).loc Cert.FfnL2RefIdeal.main_arg2)
          ∧ r.2.mem ((c.tc : Thread Cert.FfnL2RefIdeal.nD Cert.FfnL2RefIdeal.τ).loc Cert.FfnL2RefIdeal.main_arg3) = m' ((c.tc : Thread Cert.FfnL2RefIdeal.nD Cert.FfnL2RefIdeal.τ).loc Cert.FfnL2RefIdeal.main_arg3)
          ∧ r.2.mem ((c.tc : Thread Cert.FfnL2RefIdeal.nD Cert.FfnL2RefIdeal.τ).loc Cert.FfnL2RefIdeal.main_arg4) = m' ((c.tc : Thread Cert.FfnL2RefIdeal.nD Cert.FfnL2RefIdeal.τ).loc Cert.FfnL2RefIdeal.main_arg4)
          ∧ r.2.mem ((c.tc : Thread Cert.FfnL2RefIdeal.nD Cert.FfnL2RefIdeal.τ).loc Cert.FfnL2RefIdeal.main_arg5) = m' ((c.tc : Thread Cert.FfnL2RefIdeal.nD Cert.FfnL2RefIdeal.τ).loc Cert.FfnL2RefIdeal.main_arg5)
          ∧ r.2.mem ((c.tc : Thread Cert.FfnL2RefIdeal.nD Cert.FfnL2RefIdeal.τ).loc Cert.FfnL2RefIdeal.main_arg6) = m' ((c.tc : Thread Cert.FfnL2RefIdeal.nD Cert.FfnL2RefIdeal.τ).loc Cert.FfnL2RefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v19_0)) (v1 : (c : Dev Cert.InProjIdeal.nD) → Buf (Elt Ideal) ((c.tc : Thread Cert.InProjIdeal.nD Cert.InProjIdeal.τ).loc Cert.InProjIdeal.main_v19_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v19_0) = v0 c
          ∧ r.2.mem ((c.tc : Thread Cert.InProjIdeal.nD Cert.InProjIdeal.τ).loc Cert.InProjIdeal.main_v19_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v36) = v0 c
          ∧ r.2.mem ((c.tc : Thread Cert.InProjRefIdeal.nD Cert.InProjRefIdeal.τ).loc Cert.InProjRefIdeal.main_v35) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_InProjL1_InProjL1Ideal : Prop :=
  True

def algebraic_InProjL1Ideal_InProjL1RefIdeal [hInProjL1Ideal : Cert.InProjL1Ideal.Facts] [hInProjL1RefIdeal : Cert.InProjL1RefIdeal.Facts] : Prop :=
  ∀ (m : (ℓ : Loc Cert.InProjL1Ideal.nD Cert.InProjL1Ideal.τ Cert.InProjL1Ideal.sig) → Buf (Elt Ideal) ℓ) (g : Dev Cert.InProjL1Ideal.nD → PrngReg)
    (m' : (ℓ : Loc Cert.InProjL1RefIdeal.nD Cert.InProjL1RefIdeal.τ Cert.InProjL1RefIdeal.sig) → Buf (Elt Ideal) ℓ) (g' : Dev Cert.InProjL1RefIdeal.nD → PrngReg), Pre_InProjL1Ideal m →
    (∀ c : Dev Cert.InProjL1Ideal.nD,
      m' ((c.tc : Thread Cert.InProjL1RefIdeal.nD Cert.InProjL1RefIdeal.τ).loc Cert.InProjL1RefIdeal.main_arg0) = m ((c.tc : Thread Cert.InProjL1Ideal.nD Cert.InProjL1Ideal.τ).loc Cert.InProjL1Ideal.main_arg0)
      ∧ m' ((c.tc : Thread Cert.InProjL1RefIdeal.nD Cert.InProjL1RefIdeal.τ).loc Cert.InProjL1RefIdeal.main_arg1) = m ((c.tc : Thread Cert.InProjL1Ideal.nD Cert.InProjL1Ideal.τ).loc Cert.InProjL1Ideal.main_arg1)
      ∧ m' ((c.tc : Thread Cert.InProjL1RefIdeal.nD Cert.InProjL1RefIdeal.τ).loc Cert.InProjL1RefIdeal.main_arg2) = m ((c.tc : Thread Cert.InProjL1Ideal.nD Cert.InProjL1Ideal.τ).loc Cert.InProjL1Ideal.main_arg2)) →
    ∃ (v0 : (c : Dev Cert.InProjL1Ideal.nD) → Buf (Elt Ideal) ((c.tc : Thread Cert.InProjL1Ideal.nD Cert.InProjL1Ideal.τ).loc Cert.InProjL1Ideal.main_v19_0)) (v1 : (c : Dev Cert.InProjL1Ideal.nD) → Buf (Elt Ideal) ((c.tc : Thread Cert.InProjL1Ideal.nD Cert.InProjL1Ideal.τ).loc Cert.InProjL1Ideal.main_v19_1)),
      θ_run (Cert.InProjL1Ideal.defs (F := Ideal)) (onTc (τ := Cert.InProjL1Ideal.τ) (Cert.InProjL1Ideal.main (F := Ideal))) ⟨m, fun _ => 0, g⟩ (fun r => ∀ c : Dev Cert.InProjL1Ideal.nD,
          r.2.mem ((c.tc : Thread Cert.InProjL1Ideal.nD Cert.InProjL1Ideal.τ).loc Cert.InProjL1Ideal.main_v19_0) = v0 c
          ∧ r.2.mem ((c.tc : Thread Cert.InProjL1Ideal.nD Cert.InProjL1Ideal.τ).loc Cert.InProjL1Ideal.main_v19_1) = v1 c
          ∧ r.2.mem ((c.tc : Thread Cert.InProjL1Ideal.nD Cert.InProjL1Ideal.τ).loc Cert.InProjL1Ideal.main_arg0) = m ((c.tc : Thread Cert.InProjL1Ideal.nD Cert.InProjL1Ideal.τ).loc Cert.InProjL1Ideal.main_arg0)
          ∧ r.2.mem ((c.tc : Thread Cert.InProjL1Ideal.nD Cert.InProjL1Ideal.τ).loc Cert.InProjL1Ideal.main_arg1) = m ((c.tc : Thread Cert.InProjL1Ideal.nD Cert.InProjL1Ideal.τ).loc Cert.InProjL1Ideal.main_arg1)
          ∧ r.2.mem ((c.tc : Thread Cert.InProjL1Ideal.nD Cert.InProjL1Ideal.τ).loc Cert.InProjL1Ideal.main_arg2) = m ((c.tc : Thread Cert.InProjL1Ideal.nD Cert.InProjL1Ideal.τ).loc Cert.InProjL1Ideal.main_arg2))
      ∧ θ_run (Cert.InProjL1RefIdeal.defs (F := Ideal)) (onTc (τ := Cert.InProjL1RefIdeal.τ) (Cert.InProjL1RefIdeal.main (F := Ideal))) ⟨m', fun _ => 0, g'⟩ (fun r => ∀ c : Dev Cert.InProjL1RefIdeal.nD,
          r.2.mem ((c.tc : Thread Cert.InProjL1RefIdeal.nD Cert.InProjL1RefIdeal.τ).loc Cert.InProjL1RefIdeal.main_v36) = v0 c
          ∧ r.2.mem ((c.tc : Thread Cert.InProjL1RefIdeal.nD Cert.InProjL1RefIdeal.τ).loc Cert.InProjL1RefIdeal.main_v35) = v1 c
          ∧ r.2.mem ((c.tc : Thread Cert.InProjL1RefIdeal.nD Cert.InProjL1RefIdeal.τ).loc Cert.InProjL1RefIdeal.main_arg0) = m' ((c.tc : Thread Cert.InProjL1RefIdeal.nD Cert.InProjL1RefIdeal.τ).loc Cert.InProjL1RefIdeal.main_arg0)
          ∧ r.2.mem ((c.tc : Thread Cert.InProjL1RefIdeal.nD Cert.InProjL1RefIdeal.τ).loc Cert.InProjL1RefIdeal.main_arg1) = m' ((c.tc : Thread Cert.InProjL1RefIdeal.nD Cert.InProjL1RefIdeal.τ).loc Cert.InProjL1RefIdeal.main_arg1)
          ∧ r.2.mem ((c.tc : Thread Cert.InProjL1RefIdeal.nD Cert.InProjL1RefIdeal.τ).loc Cert.InProjL1RefIdeal.main_arg2) = m' ((c.tc : Thread Cert.InProjL1RefIdeal.nD Cert.InProjL1RefIdeal.τ).loc Cert.InProjL1RefIdeal.main_arg2))

def preserves_InProjL2_InProjL2Ideal : Prop :=
  True

def algebraic_InProjL2Ideal_InProjL2RefIdeal [hInProjL2Ideal : Cert.InProjL2Ideal.Facts] [hInProjL2RefIdeal : Cert.InProjL2RefIdeal.Facts] : Prop :=
  ∀ (m : (ℓ : Loc Cert.InProjL2Ideal.nD Cert.InProjL2Ideal.τ Cert.InProjL2Ideal.sig) → Buf (Elt Ideal) ℓ) (g : Dev Cert.InProjL2Ideal.nD → PrngReg)
    (m' : (ℓ : Loc Cert.InProjL2RefIdeal.nD Cert.InProjL2RefIdeal.τ Cert.InProjL2RefIdeal.sig) → Buf (Elt Ideal) ℓ) (g' : Dev Cert.InProjL2RefIdeal.nD → PrngReg), Pre_InProjL2Ideal m →
    (∀ c : Dev Cert.InProjL2Ideal.nD,
      m' ((c.tc : Thread Cert.InProjL2RefIdeal.nD Cert.InProjL2RefIdeal.τ).loc Cert.InProjL2RefIdeal.main_arg0) = m ((c.tc : Thread Cert.InProjL2Ideal.nD Cert.InProjL2Ideal.τ).loc Cert.InProjL2Ideal.main_arg0)
      ∧ m' ((c.tc : Thread Cert.InProjL2RefIdeal.nD Cert.InProjL2RefIdeal.τ).loc Cert.InProjL2RefIdeal.main_arg1) = m ((c.tc : Thread Cert.InProjL2Ideal.nD Cert.InProjL2Ideal.τ).loc Cert.InProjL2Ideal.main_arg1)
      ∧ m' ((c.tc : Thread Cert.InProjL2RefIdeal.nD Cert.InProjL2RefIdeal.τ).loc Cert.InProjL2RefIdeal.main_arg2) = m ((c.tc : Thread Cert.InProjL2Ideal.nD Cert.InProjL2Ideal.τ).loc Cert.InProjL2Ideal.main_arg2)) →
    ∃ (v0 : (c : Dev Cert.InProjL2Ideal.nD) → Buf (Elt Ideal) ((c.tc : Thread Cert.InProjL2Ideal.nD Cert.InProjL2Ideal.τ).loc Cert.InProjL2Ideal.main_v19_0)) (v1 : (c : Dev Cert.InProjL2Ideal.nD) → Buf (Elt Ideal) ((c.tc : Thread Cert.InProjL2Ideal.nD Cert.InProjL2Ideal.τ).loc Cert.InProjL2Ideal.main_v19_1)),
      θ_run (Cert.InProjL2Ideal.defs (F := Ideal)) (onTc (τ := Cert.InProjL2Ideal.τ) (Cert.InProjL2Ideal.main (F := Ideal))) ⟨m, fun _ => 0, g⟩ (fun r => ∀ c : Dev Cert.InProjL2Ideal.nD,
          r.2.mem ((c.tc : Thread Cert.InProjL2Ideal.nD Cert.InProjL2Ideal.τ).loc Cert.InProjL2Ideal.main_v19_0) = v0 c
          ∧ r.2.mem ((c.tc : Thread Cert.InProjL2Ideal.nD Cert.InProjL2Ideal.τ).loc Cert.InProjL2Ideal.main_v19_1) = v1 c
          ∧ r.2.mem ((c.tc : Thread Cert.InProjL2Ideal.nD Cert.InProjL2Ideal.τ).loc Cert.InProjL2Ideal.main_arg0) = m ((c.tc : Thread Cert.InProjL2Ideal.nD Cert.InProjL2Ideal.τ).loc Cert.InProjL2Ideal.main_arg0)
          ∧ r.2.mem ((c.tc : Thread Cert.InProjL2Ideal.nD Cert.InProjL2Ideal.τ).loc Cert.InProjL2Ideal.main_arg1) = m ((c.tc : Thread Cert.InProjL2Ideal.nD Cert.InProjL2Ideal.τ).loc Cert.InProjL2Ideal.main_arg1)
          ∧ r.2.mem ((c.tc : Thread Cert.InProjL2Ideal.nD Cert.InProjL2Ideal.τ).loc Cert.InProjL2Ideal.main_arg2) = m ((c.tc : Thread Cert.InProjL2Ideal.nD Cert.InProjL2Ideal.τ).loc Cert.InProjL2Ideal.main_arg2))
      ∧ θ_run (Cert.InProjL2RefIdeal.defs (F := Ideal)) (onTc (τ := Cert.InProjL2RefIdeal.τ) (Cert.InProjL2RefIdeal.main (F := Ideal))) ⟨m', fun _ => 0, g'⟩ (fun r => ∀ c : Dev Cert.InProjL2RefIdeal.nD,
          r.2.mem ((c.tc : Thread Cert.InProjL2RefIdeal.nD Cert.InProjL2RefIdeal.τ).loc Cert.InProjL2RefIdeal.main_v36) = v0 c
          ∧ r.2.mem ((c.tc : Thread Cert.InProjL2RefIdeal.nD Cert.InProjL2RefIdeal.τ).loc Cert.InProjL2RefIdeal.main_v35) = v1 c
          ∧ r.2.mem ((c.tc : Thread Cert.InProjL2RefIdeal.nD Cert.InProjL2RefIdeal.τ).loc Cert.InProjL2RefIdeal.main_arg0) = m' ((c.tc : Thread Cert.InProjL2RefIdeal.nD Cert.InProjL2RefIdeal.τ).loc Cert.InProjL2RefIdeal.main_arg0)
          ∧ r.2.mem ((c.tc : Thread Cert.InProjL2RefIdeal.nD Cert.InProjL2RefIdeal.τ).loc Cert.InProjL2RefIdeal.main_arg1) = m' ((c.tc : Thread Cert.InProjL2RefIdeal.nD Cert.InProjL2RefIdeal.τ).loc Cert.InProjL2RefIdeal.main_arg1)
          ∧ r.2.mem ((c.tc : Thread Cert.InProjL2RefIdeal.nD Cert.InProjL2RefIdeal.τ).loc Cert.InProjL2RefIdeal.main_arg2) = m' ((c.tc : Thread Cert.InProjL2RefIdeal.nD Cert.InProjL2RefIdeal.τ).loc Cert.InProjL2RefIdeal.main_arg2))

def preserves_InProjL3_InProjL3Ideal : Prop :=
  True

def algebraic_InProjL3Ideal_InProjL3RefIdeal [hInProjL3Ideal : Cert.InProjL3Ideal.Facts] [hInProjL3RefIdeal : Cert.InProjL3RefIdeal.Facts] : Prop :=
  ∀ (m : (ℓ : Loc Cert.InProjL3Ideal.nD Cert.InProjL3Ideal.τ Cert.InProjL3Ideal.sig) → Buf (Elt Ideal) ℓ) (g : Dev Cert.InProjL3Ideal.nD → PrngReg)
    (m' : (ℓ : Loc Cert.InProjL3RefIdeal.nD Cert.InProjL3RefIdeal.τ Cert.InProjL3RefIdeal.sig) → Buf (Elt Ideal) ℓ) (g' : Dev Cert.InProjL3RefIdeal.nD → PrngReg), Pre_InProjL3Ideal m →
    (∀ c : Dev Cert.InProjL3Ideal.nD,
      m' ((c.tc : Thread Cert.InProjL3RefIdeal.nD Cert.InProjL3RefIdeal.τ).loc Cert.InProjL3RefIdeal.main_arg0) = m ((c.tc : Thread Cert.InProjL3Ideal.nD Cert.InProjL3Ideal.τ).loc Cert.InProjL3Ideal.main_arg0)
      ∧ m' ((c.tc : Thread Cert.InProjL3RefIdeal.nD Cert.InProjL3RefIdeal.τ).loc Cert.InProjL3RefIdeal.main_arg1) = m ((c.tc : Thread Cert.InProjL3Ideal.nD Cert.InProjL3Ideal.τ).loc Cert.InProjL3Ideal.main_arg1)
      ∧ m' ((c.tc : Thread Cert.InProjL3RefIdeal.nD Cert.InProjL3RefIdeal.τ).loc Cert.InProjL3RefIdeal.main_arg2) = m ((c.tc : Thread Cert.InProjL3Ideal.nD Cert.InProjL3Ideal.τ).loc Cert.InProjL3Ideal.main_arg2)) →
    ∃ (v0 : (c : Dev Cert.InProjL3Ideal.nD) → Buf (Elt Ideal) ((c.tc : Thread Cert.InProjL3Ideal.nD Cert.InProjL3Ideal.τ).loc Cert.InProjL3Ideal.main_v19_0)) (v1 : (c : Dev Cert.InProjL3Ideal.nD) → Buf (Elt Ideal) ((c.tc : Thread Cert.InProjL3Ideal.nD Cert.InProjL3Ideal.τ).loc Cert.InProjL3Ideal.main_v19_1)),
      θ_run (Cert.InProjL3Ideal.defs (F := Ideal)) (onTc (τ := Cert.InProjL3Ideal.τ) (Cert.InProjL3Ideal.main (F := Ideal))) ⟨m, fun _ => 0, g⟩ (fun r => ∀ c : Dev Cert.InProjL3Ideal.nD,
          r.2.mem ((c.tc : Thread Cert.InProjL3Ideal.nD Cert.InProjL3Ideal.τ).loc Cert.InProjL3Ideal.main_v19_0) = v0 c
          ∧ r.2.mem ((c.tc : Thread Cert.InProjL3Ideal.nD Cert.InProjL3Ideal.τ).loc Cert.InProjL3Ideal.main_v19_1) = v1 c
          ∧ r.2.mem ((c.tc : Thread Cert.InProjL3Ideal.nD Cert.InProjL3Ideal.τ).loc Cert.InProjL3Ideal.main_arg0) = m ((c.tc : Thread Cert.InProjL3Ideal.nD Cert.InProjL3Ideal.τ).loc Cert.InProjL3Ideal.main_arg0)
          ∧ r.2.mem ((c.tc : Thread Cert.InProjL3Ideal.nD Cert.InProjL3Ideal.τ).loc Cert.InProjL3Ideal.main_arg1) = m ((c.tc : Thread Cert.InProjL3Ideal.nD Cert.InProjL3Ideal.τ).loc Cert.InProjL3Ideal.main_arg1)
          ∧ r.2.mem ((c.tc : Thread Cert.InProjL3Ideal.nD Cert.InProjL3Ideal.τ).loc Cert.InProjL3Ideal.main_arg2) = m ((c.tc : Thread Cert.InProjL3Ideal.nD Cert.InProjL3Ideal.τ).loc Cert.InProjL3Ideal.main_arg2))
      ∧ θ_run (Cert.InProjL3RefIdeal.defs (F := Ideal)) (onTc (τ := Cert.InProjL3RefIdeal.τ) (Cert.InProjL3RefIdeal.main (F := Ideal))) ⟨m', fun _ => 0, g'⟩ (fun r => ∀ c : Dev Cert.InProjL3RefIdeal.nD,
          r.2.mem ((c.tc : Thread Cert.InProjL3RefIdeal.nD Cert.InProjL3RefIdeal.τ).loc Cert.InProjL3RefIdeal.main_v36) = v0 c
          ∧ r.2.mem ((c.tc : Thread Cert.InProjL3RefIdeal.nD Cert.InProjL3RefIdeal.τ).loc Cert.InProjL3RefIdeal.main_v35) = v1 c
          ∧ r.2.mem ((c.tc : Thread Cert.InProjL3RefIdeal.nD Cert.InProjL3RefIdeal.τ).loc Cert.InProjL3RefIdeal.main_arg0) = m' ((c.tc : Thread Cert.InProjL3RefIdeal.nD Cert.InProjL3RefIdeal.τ).loc Cert.InProjL3RefIdeal.main_arg0)
          ∧ r.2.mem ((c.tc : Thread Cert.InProjL3RefIdeal.nD Cert.InProjL3RefIdeal.τ).loc Cert.InProjL3RefIdeal.main_arg1) = m' ((c.tc : Thread Cert.InProjL3RefIdeal.nD Cert.InProjL3RefIdeal.τ).loc Cert.InProjL3RefIdeal.main_arg1)
          ∧ r.2.mem ((c.tc : Thread Cert.InProjL3RefIdeal.nD Cert.InProjL3RefIdeal.τ).loc Cert.InProjL3RefIdeal.main_arg2) = m' ((c.tc : Thread Cert.InProjL3RefIdeal.nD Cert.InProjL3RefIdeal.τ).loc Cert.InProjL3RefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v28) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_MergeL1_MergeL1Ideal : Prop :=
  True

def algebraic_MergeL1Ideal_MergeL1RefIdeal [hMergeL1Ideal : Cert.MergeL1Ideal.Facts] [hMergeL1RefIdeal : Cert.MergeL1RefIdeal.Facts] : Prop :=
  ∀ (m : (ℓ : Loc Cert.MergeL1Ideal.nD Cert.MergeL1Ideal.τ Cert.MergeL1Ideal.sig) → Buf (Elt Ideal) ℓ) (g : Dev Cert.MergeL1Ideal.nD → PrngReg)
    (m' : (ℓ : Loc Cert.MergeL1RefIdeal.nD Cert.MergeL1RefIdeal.τ Cert.MergeL1RefIdeal.sig) → Buf (Elt Ideal) ℓ) (g' : Dev Cert.MergeL1RefIdeal.nD → PrngReg), Pre_MergeL1Ideal m →
    (∀ c : Dev Cert.MergeL1Ideal.nD,
      m' ((c.tc : Thread Cert.MergeL1RefIdeal.nD Cert.MergeL1RefIdeal.τ).loc Cert.MergeL1RefIdeal.main_arg0) = m ((c.tc : Thread Cert.MergeL1Ideal.nD Cert.MergeL1Ideal.τ).loc Cert.MergeL1Ideal.main_arg0)
      ∧ m' ((c.tc : Thread Cert.MergeL1RefIdeal.nD Cert.MergeL1RefIdeal.τ).loc Cert.MergeL1RefIdeal.main_arg1) = m ((c.tc : Thread Cert.MergeL1Ideal.nD Cert.MergeL1Ideal.τ).loc Cert.MergeL1Ideal.main_arg1)
      ∧ m' ((c.tc : Thread Cert.MergeL1RefIdeal.nD Cert.MergeL1RefIdeal.τ).loc Cert.MergeL1RefIdeal.main_arg2) = m ((c.tc : Thread Cert.MergeL1Ideal.nD Cert.MergeL1Ideal.τ).loc Cert.MergeL1Ideal.main_arg2)
      ∧ m' ((c.tc : Thread Cert.MergeL1RefIdeal.nD Cert.MergeL1RefIdeal.τ).loc Cert.MergeL1RefIdeal.main_arg3) = m ((c.tc : Thread Cert.MergeL1Ideal.nD Cert.MergeL1Ideal.τ).loc Cert.MergeL1Ideal.main_arg3)
      ∧ m' ((c.tc : Thread Cert.MergeL1RefIdeal.nD Cert.MergeL1RefIdeal.τ).loc Cert.MergeL1RefIdeal.main_arg4) = m ((c.tc : Thread Cert.MergeL1Ideal.nD Cert.MergeL1Ideal.τ).loc Cert.MergeL1Ideal.main_arg4)
      ∧ m' ((c.tc : Thread Cert.MergeL1RefIdeal.nD Cert.MergeL1RefIdeal.τ).loc Cert.MergeL1RefIdeal.main_arg5) = m ((c.tc : Thread Cert.MergeL1Ideal.nD Cert.MergeL1Ideal.τ).loc Cert.MergeL1Ideal.main_arg5)
      ∧ m' ((c.tc : Thread Cert.MergeL1RefIdeal.nD Cert.MergeL1RefIdeal.τ).loc Cert.MergeL1RefIdeal.main_arg6) = m ((c.tc : Thread Cert.MergeL1Ideal.nD Cert.MergeL1Ideal.τ).loc Cert.MergeL1Ideal.main_arg6)
      ∧ m' ((c.tc : Thread Cert.MergeL1RefIdeal.nD Cert.MergeL1RefIdeal.τ).loc Cert.MergeL1RefIdeal.main_arg7) = m ((c.tc : Thread Cert.MergeL1Ideal.nD Cert.MergeL1Ideal.τ).loc Cert.MergeL1Ideal.main_arg7)) →
    ∃ (v0 : (c : Dev Cert.MergeL1Ideal.nD) → Buf (Elt Ideal) ((c.tc : Thread Cert.MergeL1Ideal.nD Cert.MergeL1Ideal.τ).loc Cert.MergeL1Ideal.main_v3)),
      θ_run (Cert.MergeL1Ideal.defs (F := Ideal)) (onTc (τ := Cert.MergeL1Ideal.τ) (Cert.MergeL1Ideal.main (F := Ideal))) ⟨m, fun _ => 0, g⟩ (fun r => ∀ c : Dev Cert.MergeL1Ideal.nD,
          r.2.mem ((c.tc : Thread Cert.MergeL1Ideal.nD Cert.MergeL1Ideal.τ).loc Cert.MergeL1Ideal.main_v3) = v0 c
          ∧ r.2.mem ((c.tc : Thread Cert.MergeL1Ideal.nD Cert.MergeL1Ideal.τ).loc Cert.MergeL1Ideal.main_arg0) = m ((c.tc : Thread Cert.MergeL1Ideal.nD Cert.MergeL1Ideal.τ).loc Cert.MergeL1Ideal.main_arg0)
          ∧ r.2.mem ((c.tc : Thread Cert.MergeL1Ideal.nD Cert.MergeL1Ideal.τ).loc Cert.MergeL1Ideal.main_arg1) = m ((c.tc : Thread Cert.MergeL1Ideal.nD Cert.MergeL1Ideal.τ).loc Cert.MergeL1Ideal.main_arg1)
          ∧ r.2.mem ((c.tc : Thread Cert.MergeL1Ideal.nD Cert.MergeL1Ideal.τ).loc Cert.MergeL1Ideal.main_arg2) = m ((c.tc : Thread Cert.MergeL1Ideal.nD Cert.MergeL1Ideal.τ).loc Cert.MergeL1Ideal.main_arg2)
          ∧ r.2.mem ((c.tc : Thread Cert.MergeL1Ideal.nD Cert.MergeL1Ideal.τ).loc Cert.MergeL1Ideal.main_arg3) = m ((c.tc : Thread Cert.MergeL1Ideal.nD Cert.MergeL1Ideal.τ).loc Cert.MergeL1Ideal.main_arg3)
          ∧ r.2.mem ((c.tc : Thread Cert.MergeL1Ideal.nD Cert.MergeL1Ideal.τ).loc Cert.MergeL1Ideal.main_arg4) = m ((c.tc : Thread Cert.MergeL1Ideal.nD Cert.MergeL1Ideal.τ).loc Cert.MergeL1Ideal.main_arg4)
          ∧ r.2.mem ((c.tc : Thread Cert.MergeL1Ideal.nD Cert.MergeL1Ideal.τ).loc Cert.MergeL1Ideal.main_arg5) = m ((c.tc : Thread Cert.MergeL1Ideal.nD Cert.MergeL1Ideal.τ).loc Cert.MergeL1Ideal.main_arg5)
          ∧ r.2.mem ((c.tc : Thread Cert.MergeL1Ideal.nD Cert.MergeL1Ideal.τ).loc Cert.MergeL1Ideal.main_arg6) = m ((c.tc : Thread Cert.MergeL1Ideal.nD Cert.MergeL1Ideal.τ).loc Cert.MergeL1Ideal.main_arg6)
          ∧ r.2.mem ((c.tc : Thread Cert.MergeL1Ideal.nD Cert.MergeL1Ideal.τ).loc Cert.MergeL1Ideal.main_arg7) = m ((c.tc : Thread Cert.MergeL1Ideal.nD Cert.MergeL1Ideal.τ).loc Cert.MergeL1Ideal.main_arg7))
      ∧ θ_run (Cert.MergeL1RefIdeal.defs (F := Ideal)) (onTc (τ := Cert.MergeL1RefIdeal.τ) (Cert.MergeL1RefIdeal.main (F := Ideal))) ⟨m', fun _ => 0, g'⟩ (fun r => ∀ c : Dev Cert.MergeL1RefIdeal.nD,
          r.2.mem ((c.tc : Thread Cert.MergeL1RefIdeal.nD Cert.MergeL1RefIdeal.τ).loc Cert.MergeL1RefIdeal.main_v28) = v0 c
          ∧ r.2.mem ((c.tc : Thread Cert.MergeL1RefIdeal.nD Cert.MergeL1RefIdeal.τ).loc Cert.MergeL1RefIdeal.main_arg0) = m' ((c.tc : Thread Cert.MergeL1RefIdeal.nD Cert.MergeL1RefIdeal.τ).loc Cert.MergeL1RefIdeal.main_arg0)
          ∧ r.2.mem ((c.tc : Thread Cert.MergeL1RefIdeal.nD Cert.MergeL1RefIdeal.τ).loc Cert.MergeL1RefIdeal.main_arg1) = m' ((c.tc : Thread Cert.MergeL1RefIdeal.nD Cert.MergeL1RefIdeal.τ).loc Cert.MergeL1RefIdeal.main_arg1)
          ∧ r.2.mem ((c.tc : Thread Cert.MergeL1RefIdeal.nD Cert.MergeL1RefIdeal.τ).loc Cert.MergeL1RefIdeal.main_arg2) = m' ((c.tc : Thread Cert.MergeL1RefIdeal.nD Cert.MergeL1RefIdeal.τ).loc Cert.MergeL1RefIdeal.main_arg2)
          ∧ r.2.mem ((c.tc : Thread Cert.MergeL1RefIdeal.nD Cert.MergeL1RefIdeal.τ).loc Cert.MergeL1RefIdeal.main_arg3) = m' ((c.tc : Thread Cert.MergeL1RefIdeal.nD Cert.MergeL1RefIdeal.τ).loc Cert.MergeL1RefIdeal.main_arg3)
          ∧ r.2.mem ((c.tc : Thread Cert.MergeL1RefIdeal.nD Cert.MergeL1RefIdeal.τ).loc Cert.MergeL1RefIdeal.main_arg4) = m' ((c.tc : Thread Cert.MergeL1RefIdeal.nD Cert.MergeL1RefIdeal.τ).loc Cert.MergeL1RefIdeal.main_arg4)
          ∧ r.2.mem ((c.tc : Thread Cert.MergeL1RefIdeal.nD Cert.MergeL1RefIdeal.τ).loc Cert.MergeL1RefIdeal.main_arg5) = m' ((c.tc : Thread Cert.MergeL1RefIdeal.nD Cert.MergeL1RefIdeal.τ).loc Cert.MergeL1RefIdeal.main_arg5)
          ∧ r.2.mem ((c.tc : Thread Cert.MergeL1RefIdeal.nD Cert.MergeL1RefIdeal.τ).loc Cert.MergeL1RefIdeal.main_arg6) = m' ((c.tc : Thread Cert.MergeL1RefIdeal.nD Cert.MergeL1RefIdeal.τ).loc Cert.MergeL1RefIdeal.main_arg6)
          ∧ r.2.mem ((c.tc : Thread Cert.MergeL1RefIdeal.nD Cert.MergeL1RefIdeal.τ).loc Cert.MergeL1RefIdeal.main_arg7) = m' ((c.tc : Thread Cert.MergeL1RefIdeal.nD Cert.MergeL1RefIdeal.τ).loc Cert.MergeL1RefIdeal.main_arg7))

def preserves_MergeL2_MergeL2Ideal : Prop :=
  True

def algebraic_MergeL2Ideal_MergeL2RefIdeal [hMergeL2Ideal : Cert.MergeL2Ideal.Facts] [hMergeL2RefIdeal : Cert.MergeL2RefIdeal.Facts] : Prop :=
  ∀ (m : (ℓ : Loc Cert.MergeL2Ideal.nD Cert.MergeL2Ideal.τ Cert.MergeL2Ideal.sig) → Buf (Elt Ideal) ℓ) (g : Dev Cert.MergeL2Ideal.nD → PrngReg)
    (m' : (ℓ : Loc Cert.MergeL2RefIdeal.nD Cert.MergeL2RefIdeal.τ Cert.MergeL2RefIdeal.sig) → Buf (Elt Ideal) ℓ) (g' : Dev Cert.MergeL2RefIdeal.nD → PrngReg), Pre_MergeL2Ideal m →
    (∀ c : Dev Cert.MergeL2Ideal.nD,
      m' ((c.tc : Thread Cert.MergeL2RefIdeal.nD Cert.MergeL2RefIdeal.τ).loc Cert.MergeL2RefIdeal.main_arg0) = m ((c.tc : Thread Cert.MergeL2Ideal.nD Cert.MergeL2Ideal.τ).loc Cert.MergeL2Ideal.main_arg0)
      ∧ m' ((c.tc : Thread Cert.MergeL2RefIdeal.nD Cert.MergeL2RefIdeal.τ).loc Cert.MergeL2RefIdeal.main_arg1) = m ((c.tc : Thread Cert.MergeL2Ideal.nD Cert.MergeL2Ideal.τ).loc Cert.MergeL2Ideal.main_arg1)
      ∧ m' ((c.tc : Thread Cert.MergeL2RefIdeal.nD Cert.MergeL2RefIdeal.τ).loc Cert.MergeL2RefIdeal.main_arg2) = m ((c.tc : Thread Cert.MergeL2Ideal.nD Cert.MergeL2Ideal.τ).loc Cert.MergeL2Ideal.main_arg2)
      ∧ m' ((c.tc : Thread Cert.MergeL2RefIdeal.nD Cert.MergeL2RefIdeal.τ).loc Cert.MergeL2RefIdeal.main_arg3) = m ((c.tc : Thread Cert.MergeL2Ideal.nD Cert.MergeL2Ideal.τ).loc Cert.MergeL2Ideal.main_arg3)
      ∧ m' ((c.tc : Thread Cert.MergeL2RefIdeal.nD Cert.MergeL2RefIdeal.τ).loc Cert.MergeL2RefIdeal.main_arg4) = m ((c.tc : Thread Cert.MergeL2Ideal.nD Cert.MergeL2Ideal.τ).loc Cert.MergeL2Ideal.main_arg4)
      ∧ m' ((c.tc : Thread Cert.MergeL2RefIdeal.nD Cert.MergeL2RefIdeal.τ).loc Cert.MergeL2RefIdeal.main_arg5) = m ((c.tc : Thread Cert.MergeL2Ideal.nD Cert.MergeL2Ideal.τ).loc Cert.MergeL2Ideal.main_arg5)
      ∧ m' ((c.tc : Thread Cert.MergeL2RefIdeal.nD Cert.MergeL2RefIdeal.τ).loc Cert.MergeL2RefIdeal.main_arg6) = m ((c.tc : Thread Cert.MergeL2Ideal.nD Cert.MergeL2Ideal.τ).loc Cert.MergeL2Ideal.main_arg6)
      ∧ m' ((c.tc : Thread Cert.MergeL2RefIdeal.nD Cert.MergeL2RefIdeal.τ).loc Cert.MergeL2RefIdeal.main_arg7) = m ((c.tc : Thread Cert.MergeL2Ideal.nD Cert.MergeL2Ideal.τ).loc Cert.MergeL2Ideal.main_arg7)) →
    ∃ (v0 : (c : Dev Cert.MergeL2Ideal.nD) → Buf (Elt Ideal) ((c.tc : Thread Cert.MergeL2Ideal.nD Cert.MergeL2Ideal.τ).loc Cert.MergeL2Ideal.main_v3)),
      θ_run (Cert.MergeL2Ideal.defs (F := Ideal)) (onTc (τ := Cert.MergeL2Ideal.τ) (Cert.MergeL2Ideal.main (F := Ideal))) ⟨m, fun _ => 0, g⟩ (fun r => ∀ c : Dev Cert.MergeL2Ideal.nD,
          r.2.mem ((c.tc : Thread Cert.MergeL2Ideal.nD Cert.MergeL2Ideal.τ).loc Cert.MergeL2Ideal.main_v3) = v0 c
          ∧ r.2.mem ((c.tc : Thread Cert.MergeL2Ideal.nD Cert.MergeL2Ideal.τ).loc Cert.MergeL2Ideal.main_arg0) = m ((c.tc : Thread Cert.MergeL2Ideal.nD Cert.MergeL2Ideal.τ).loc Cert.MergeL2Ideal.main_arg0)
          ∧ r.2.mem ((c.tc : Thread Cert.MergeL2Ideal.nD Cert.MergeL2Ideal.τ).loc Cert.MergeL2Ideal.main_arg1) = m ((c.tc : Thread Cert.MergeL2Ideal.nD Cert.MergeL2Ideal.τ).loc Cert.MergeL2Ideal.main_arg1)
          ∧ r.2.mem ((c.tc : Thread Cert.MergeL2Ideal.nD Cert.MergeL2Ideal.τ).loc Cert.MergeL2Ideal.main_arg2) = m ((c.tc : Thread Cert.MergeL2Ideal.nD Cert.MergeL2Ideal.τ).loc Cert.MergeL2Ideal.main_arg2)
          ∧ r.2.mem ((c.tc : Thread Cert.MergeL2Ideal.nD Cert.MergeL2Ideal.τ).loc Cert.MergeL2Ideal.main_arg3) = m ((c.tc : Thread Cert.MergeL2Ideal.nD Cert.MergeL2Ideal.τ).loc Cert.MergeL2Ideal.main_arg3)
          ∧ r.2.mem ((c.tc : Thread Cert.MergeL2Ideal.nD Cert.MergeL2Ideal.τ).loc Cert.MergeL2Ideal.main_arg4) = m ((c.tc : Thread Cert.MergeL2Ideal.nD Cert.MergeL2Ideal.τ).loc Cert.MergeL2Ideal.main_arg4)
          ∧ r.2.mem ((c.tc : Thread Cert.MergeL2Ideal.nD Cert.MergeL2Ideal.τ).loc Cert.MergeL2Ideal.main_arg5) = m ((c.tc : Thread Cert.MergeL2Ideal.nD Cert.MergeL2Ideal.τ).loc Cert.MergeL2Ideal.main_arg5)
          ∧ r.2.mem ((c.tc : Thread Cert.MergeL2Ideal.nD Cert.MergeL2Ideal.τ).loc Cert.MergeL2Ideal.main_arg6) = m ((c.tc : Thread Cert.MergeL2Ideal.nD Cert.MergeL2Ideal.τ).loc Cert.MergeL2Ideal.main_arg6)
          ∧ r.2.mem ((c.tc : Thread Cert.MergeL2Ideal.nD Cert.MergeL2Ideal.τ).loc Cert.MergeL2Ideal.main_arg7) = m ((c.tc : Thread Cert.MergeL2Ideal.nD Cert.MergeL2Ideal.τ).loc Cert.MergeL2Ideal.main_arg7))
      ∧ θ_run (Cert.MergeL2RefIdeal.defs (F := Ideal)) (onTc (τ := Cert.MergeL2RefIdeal.τ) (Cert.MergeL2RefIdeal.main (F := Ideal))) ⟨m', fun _ => 0, g'⟩ (fun r => ∀ c : Dev Cert.MergeL2RefIdeal.nD,
          r.2.mem ((c.tc : Thread Cert.MergeL2RefIdeal.nD Cert.MergeL2RefIdeal.τ).loc Cert.MergeL2RefIdeal.main_v28) = v0 c
          ∧ r.2.mem ((c.tc : Thread Cert.MergeL2RefIdeal.nD Cert.MergeL2RefIdeal.τ).loc Cert.MergeL2RefIdeal.main_arg0) = m' ((c.tc : Thread Cert.MergeL2RefIdeal.nD Cert.MergeL2RefIdeal.τ).loc Cert.MergeL2RefIdeal.main_arg0)
          ∧ r.2.mem ((c.tc : Thread Cert.MergeL2RefIdeal.nD Cert.MergeL2RefIdeal.τ).loc Cert.MergeL2RefIdeal.main_arg1) = m' ((c.tc : Thread Cert.MergeL2RefIdeal.nD Cert.MergeL2RefIdeal.τ).loc Cert.MergeL2RefIdeal.main_arg1)
          ∧ r.2.mem ((c.tc : Thread Cert.MergeL2RefIdeal.nD Cert.MergeL2RefIdeal.τ).loc Cert.MergeL2RefIdeal.main_arg2) = m' ((c.tc : Thread Cert.MergeL2RefIdeal.nD Cert.MergeL2RefIdeal.τ).loc Cert.MergeL2RefIdeal.main_arg2)
          ∧ r.2.mem ((c.tc : Thread Cert.MergeL2RefIdeal.nD Cert.MergeL2RefIdeal.τ).loc Cert.MergeL2RefIdeal.main_arg3) = m' ((c.tc : Thread Cert.MergeL2RefIdeal.nD Cert.MergeL2RefIdeal.τ).loc Cert.MergeL2RefIdeal.main_arg3)
          ∧ r.2.mem ((c.tc : Thread Cert.MergeL2RefIdeal.nD Cert.MergeL2RefIdeal.τ).loc Cert.MergeL2RefIdeal.main_arg4) = m' ((c.tc : Thread Cert.MergeL2RefIdeal.nD Cert.MergeL2RefIdeal.τ).loc Cert.MergeL2RefIdeal.main_arg4)
          ∧ r.2.mem ((c.tc : Thread Cert.MergeL2RefIdeal.nD Cert.MergeL2RefIdeal.τ).loc Cert.MergeL2RefIdeal.main_arg5) = m' ((c.tc : Thread Cert.MergeL2RefIdeal.nD Cert.MergeL2RefIdeal.τ).loc Cert.MergeL2RefIdeal.main_arg5)
          ∧ r.2.mem ((c.tc : Thread Cert.MergeL2RefIdeal.nD Cert.MergeL2RefIdeal.τ).loc Cert.MergeL2RefIdeal.main_arg6) = m' ((c.tc : Thread Cert.MergeL2RefIdeal.nD Cert.MergeL2RefIdeal.τ).loc Cert.MergeL2RefIdeal.main_arg6)
          ∧ r.2.mem ((c.tc : Thread Cert.MergeL2RefIdeal.nD Cert.MergeL2RefIdeal.τ).loc Cert.MergeL2RefIdeal.main_arg7) = m' ((c.tc : Thread Cert.MergeL2RefIdeal.nD Cert.MergeL2RefIdeal.τ).loc Cert.MergeL2RefIdeal.main_arg7))

def preserves_MergeL3_MergeL3Ideal : Prop :=
  True

def algebraic_MergeL3Ideal_MergeL3RefIdeal [hMergeL3Ideal : Cert.MergeL3Ideal.Facts] [hMergeL3RefIdeal : Cert.MergeL3RefIdeal.Facts] : Prop :=
  ∀ (m : (ℓ : Loc Cert.MergeL3Ideal.nD Cert.MergeL3Ideal.τ Cert.MergeL3Ideal.sig) → Buf (Elt Ideal) ℓ) (g : Dev Cert.MergeL3Ideal.nD → PrngReg)
    (m' : (ℓ : Loc Cert.MergeL3RefIdeal.nD Cert.MergeL3RefIdeal.τ Cert.MergeL3RefIdeal.sig) → Buf (Elt Ideal) ℓ) (g' : Dev Cert.MergeL3RefIdeal.nD → PrngReg), Pre_MergeL3Ideal m →
    (∀ c : Dev Cert.MergeL3Ideal.nD,
      m' ((c.tc : Thread Cert.MergeL3RefIdeal.nD Cert.MergeL3RefIdeal.τ).loc Cert.MergeL3RefIdeal.main_arg0) = m ((c.tc : Thread Cert.MergeL3Ideal.nD Cert.MergeL3Ideal.τ).loc Cert.MergeL3Ideal.main_arg0)
      ∧ m' ((c.tc : Thread Cert.MergeL3RefIdeal.nD Cert.MergeL3RefIdeal.τ).loc Cert.MergeL3RefIdeal.main_arg1) = m ((c.tc : Thread Cert.MergeL3Ideal.nD Cert.MergeL3Ideal.τ).loc Cert.MergeL3Ideal.main_arg1)
      ∧ m' ((c.tc : Thread Cert.MergeL3RefIdeal.nD Cert.MergeL3RefIdeal.τ).loc Cert.MergeL3RefIdeal.main_arg2) = m ((c.tc : Thread Cert.MergeL3Ideal.nD Cert.MergeL3Ideal.τ).loc Cert.MergeL3Ideal.main_arg2)
      ∧ m' ((c.tc : Thread Cert.MergeL3RefIdeal.nD Cert.MergeL3RefIdeal.τ).loc Cert.MergeL3RefIdeal.main_arg3) = m ((c.tc : Thread Cert.MergeL3Ideal.nD Cert.MergeL3Ideal.τ).loc Cert.MergeL3Ideal.main_arg3)
      ∧ m' ((c.tc : Thread Cert.MergeL3RefIdeal.nD Cert.MergeL3RefIdeal.τ).loc Cert.MergeL3RefIdeal.main_arg4) = m ((c.tc : Thread Cert.MergeL3Ideal.nD Cert.MergeL3Ideal.τ).loc Cert.MergeL3Ideal.main_arg4)
      ∧ m' ((c.tc : Thread Cert.MergeL3RefIdeal.nD Cert.MergeL3RefIdeal.τ).loc Cert.MergeL3RefIdeal.main_arg5) = m ((c.tc : Thread Cert.MergeL3Ideal.nD Cert.MergeL3Ideal.τ).loc Cert.MergeL3Ideal.main_arg5)
      ∧ m' ((c.tc : Thread Cert.MergeL3RefIdeal.nD Cert.MergeL3RefIdeal.τ).loc Cert.MergeL3RefIdeal.main_arg6) = m ((c.tc : Thread Cert.MergeL3Ideal.nD Cert.MergeL3Ideal.τ).loc Cert.MergeL3Ideal.main_arg6)
      ∧ m' ((c.tc : Thread Cert.MergeL3RefIdeal.nD Cert.MergeL3RefIdeal.τ).loc Cert.MergeL3RefIdeal.main_arg7) = m ((c.tc : Thread Cert.MergeL3Ideal.nD Cert.MergeL3Ideal.τ).loc Cert.MergeL3Ideal.main_arg7)) →
    ∃ (v0 : (c : Dev Cert.MergeL3Ideal.nD) → Buf (Elt Ideal) ((c.tc : Thread Cert.MergeL3Ideal.nD Cert.MergeL3Ideal.τ).loc Cert.MergeL3Ideal.main_v3)),
      θ_run (Cert.MergeL3Ideal.defs (F := Ideal)) (onTc (τ := Cert.MergeL3Ideal.τ) (Cert.MergeL3Ideal.main (F := Ideal))) ⟨m, fun _ => 0, g⟩ (fun r => ∀ c : Dev Cert.MergeL3Ideal.nD,
          r.2.mem ((c.tc : Thread Cert.MergeL3Ideal.nD Cert.MergeL3Ideal.τ).loc Cert.MergeL3Ideal.main_v3) = v0 c
          ∧ r.2.mem ((c.tc : Thread Cert.MergeL3Ideal.nD Cert.MergeL3Ideal.τ).loc Cert.MergeL3Ideal.main_arg0) = m ((c.tc : Thread Cert.MergeL3Ideal.nD Cert.MergeL3Ideal.τ).loc Cert.MergeL3Ideal.main_arg0)
          ∧ r.2.mem ((c.tc : Thread Cert.MergeL3Ideal.nD Cert.MergeL3Ideal.τ).loc Cert.MergeL3Ideal.main_arg1) = m ((c.tc : Thread Cert.MergeL3Ideal.nD Cert.MergeL3Ideal.τ).loc Cert.MergeL3Ideal.main_arg1)
          ∧ r.2.mem ((c.tc : Thread Cert.MergeL3Ideal.nD Cert.MergeL3Ideal.τ).loc Cert.MergeL3Ideal.main_arg2) = m ((c.tc : Thread Cert.MergeL3Ideal.nD Cert.MergeL3Ideal.τ).loc Cert.MergeL3Ideal.main_arg2)
          ∧ r.2.mem ((c.tc : Thread Cert.MergeL3Ideal.nD Cert.MergeL3Ideal.τ).loc Cert.MergeL3Ideal.main_arg3) = m ((c.tc : Thread Cert.MergeL3Ideal.nD Cert.MergeL3Ideal.τ).loc Cert.MergeL3Ideal.main_arg3)
          ∧ r.2.mem ((c.tc : Thread Cert.MergeL3Ideal.nD Cert.MergeL3Ideal.τ).loc Cert.MergeL3Ideal.main_arg4) = m ((c.tc : Thread Cert.MergeL3Ideal.nD Cert.MergeL3Ideal.τ).loc Cert.MergeL3Ideal.main_arg4)
          ∧ r.2.mem ((c.tc : Thread Cert.MergeL3Ideal.nD Cert.MergeL3Ideal.τ).loc Cert.MergeL3Ideal.main_arg5) = m ((c.tc : Thread Cert.MergeL3Ideal.nD Cert.MergeL3Ideal.τ).loc Cert.MergeL3Ideal.main_arg5)
          ∧ r.2.mem ((c.tc : Thread Cert.MergeL3Ideal.nD Cert.MergeL3Ideal.τ).loc Cert.MergeL3Ideal.main_arg6) = m ((c.tc : Thread Cert.MergeL3Ideal.nD Cert.MergeL3Ideal.τ).loc Cert.MergeL3Ideal.main_arg6)
          ∧ r.2.mem ((c.tc : Thread Cert.MergeL3Ideal.nD Cert.MergeL3Ideal.τ).loc Cert.MergeL3Ideal.main_arg7) = m ((c.tc : Thread Cert.MergeL3Ideal.nD Cert.MergeL3Ideal.τ).loc Cert.MergeL3Ideal.main_arg7))
      ∧ θ_run (Cert.MergeL3RefIdeal.defs (F := Ideal)) (onTc (τ := Cert.MergeL3RefIdeal.τ) (Cert.MergeL3RefIdeal.main (F := Ideal))) ⟨m', fun _ => 0, g'⟩ (fun r => ∀ c : Dev Cert.MergeL3RefIdeal.nD,
          r.2.mem ((c.tc : Thread Cert.MergeL3RefIdeal.nD Cert.MergeL3RefIdeal.τ).loc Cert.MergeL3RefIdeal.main_v28) = v0 c
          ∧ r.2.mem ((c.tc : Thread Cert.MergeL3RefIdeal.nD Cert.MergeL3RefIdeal.τ).loc Cert.MergeL3RefIdeal.main_arg0) = m' ((c.tc : Thread Cert.MergeL3RefIdeal.nD Cert.MergeL3RefIdeal.τ).loc Cert.MergeL3RefIdeal.main_arg0)
          ∧ r.2.mem ((c.tc : Thread Cert.MergeL3RefIdeal.nD Cert.MergeL3RefIdeal.τ).loc Cert.MergeL3RefIdeal.main_arg1) = m' ((c.tc : Thread Cert.MergeL3RefIdeal.nD Cert.MergeL3RefIdeal.τ).loc Cert.MergeL3RefIdeal.main_arg1)
          ∧ r.2.mem ((c.tc : Thread Cert.MergeL3RefIdeal.nD Cert.MergeL3RefIdeal.τ).loc Cert.MergeL3RefIdeal.main_arg2) = m' ((c.tc : Thread Cert.MergeL3RefIdeal.nD Cert.MergeL3RefIdeal.τ).loc Cert.MergeL3RefIdeal.main_arg2)
          ∧ r.2.mem ((c.tc : Thread Cert.MergeL3RefIdeal.nD Cert.MergeL3RefIdeal.τ).loc Cert.MergeL3RefIdeal.main_arg3) = m' ((c.tc : Thread Cert.MergeL3RefIdeal.nD Cert.MergeL3RefIdeal.τ).loc Cert.MergeL3RefIdeal.main_arg3)
          ∧ r.2.mem ((c.tc : Thread Cert.MergeL3RefIdeal.nD Cert.MergeL3RefIdeal.τ).loc Cert.MergeL3RefIdeal.main_arg4) = m' ((c.tc : Thread Cert.MergeL3RefIdeal.nD Cert.MergeL3RefIdeal.τ).loc Cert.MergeL3RefIdeal.main_arg4)
          ∧ r.2.mem ((c.tc : Thread Cert.MergeL3RefIdeal.nD Cert.MergeL3RefIdeal.τ).loc Cert.MergeL3RefIdeal.main_arg5) = m' ((c.tc : Thread Cert.MergeL3RefIdeal.nD Cert.MergeL3RefIdeal.τ).loc Cert.MergeL3RefIdeal.main_arg5)
          ∧ r.2.mem ((c.tc : Thread Cert.MergeL3RefIdeal.nD Cert.MergeL3RefIdeal.τ).loc Cert.MergeL3RefIdeal.main_arg6) = m' ((c.tc : Thread Cert.MergeL3RefIdeal.nD Cert.MergeL3RefIdeal.τ).loc Cert.MergeL3RefIdeal.main_arg6)
          ∧ r.2.mem ((c.tc : Thread Cert.MergeL3RefIdeal.nD Cert.MergeL3RefIdeal.τ).loc Cert.MergeL3RefIdeal.main_arg7) = m' ((c.tc : Thread Cert.MergeL3RefIdeal.nD Cert.MergeL3RefIdeal.τ).loc Cert.MergeL3RefIdeal.main_arg7))

def preserves_Gla_GlaIdeal : Prop :=
  True

def algebraic_GlaIdeal_GlaRefIdeal_pre_gla_finite [hGlaIdeal : Cert.GlaIdeal.Facts] [hGlaRefIdeal : Cert.GlaRefIdeal.Facts] [hPre_gla_finite : Cert.Pre_gla_finite.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_gla_finite m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)) →
    ∃ (v0 : (c : Dev Cert.GlaIdeal.nD) → Buf (Elt Ideal) ((c.tc : Thread Cert.GlaIdeal.nD Cert.GlaIdeal.τ).loc Cert.GlaIdeal.main_v8)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v8) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v121) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def Claim : Prop :=
  ∃ (hKernel : Cert.Kernel.Facts) (hKernelIdeal : Cert.KernelIdeal.Facts) (hReferenceIdeal : Cert.ReferenceIdeal.Facts) (hReference : Cert.Reference.Facts) (hFfn : Cert.Ffn.Facts) (hFfnIdeal : Cert.FfnIdeal.Facts) (hFfnRefIdeal : Cert.FfnRefIdeal.Facts) (hFfnL0 : Cert.FfnL0.Facts) (hFfnL0Ideal : Cert.FfnL0Ideal.Facts) (hFfnL0RefIdeal : Cert.FfnL0RefIdeal.Facts) (hFfnL1 : Cert.FfnL1.Facts) (hFfnL1Ideal : Cert.FfnL1Ideal.Facts) (hFfnL1RefIdeal : Cert.FfnL1RefIdeal.Facts) (hFfnL2 : Cert.FfnL2.Facts) (hFfnL2Ideal : Cert.FfnL2Ideal.Facts) (hFfnL2RefIdeal : Cert.FfnL2RefIdeal.Facts) (hInProj : Cert.InProj.Facts) (hInProjIdeal : Cert.InProjIdeal.Facts) (hInProjRefIdeal : Cert.InProjRefIdeal.Facts) (hInProjL1 : Cert.InProjL1.Facts) (hInProjL1Ideal : Cert.InProjL1Ideal.Facts) (hInProjL1RefIdeal : Cert.InProjL1RefIdeal.Facts) (hInProjL2 : Cert.InProjL2.Facts) (hInProjL2Ideal : Cert.InProjL2Ideal.Facts) (hInProjL2RefIdeal : Cert.InProjL2RefIdeal.Facts) (hInProjL3 : Cert.InProjL3.Facts) (hInProjL3Ideal : Cert.InProjL3Ideal.Facts) (hInProjL3RefIdeal : Cert.InProjL3RefIdeal.Facts) (hMerge : Cert.Merge.Facts) (hMergeIdeal : Cert.MergeIdeal.Facts) (hMergeRefIdeal : Cert.MergeRefIdeal.Facts) (hMergeL1 : Cert.MergeL1.Facts) (hMergeL1Ideal : Cert.MergeL1Ideal.Facts) (hMergeL1RefIdeal : Cert.MergeL1RefIdeal.Facts) (hMergeL2 : Cert.MergeL2.Facts) (hMergeL2Ideal : Cert.MergeL2Ideal.Facts) (hMergeL2RefIdeal : Cert.MergeL2RefIdeal.Facts) (hMergeL3 : Cert.MergeL3.Facts) (hMergeL3Ideal : Cert.MergeL3Ideal.Facts) (hMergeL3RefIdeal : Cert.MergeL3RefIdeal.Facts) (hGla : Cert.Gla.Facts) (hGlaIdeal : Cert.GlaIdeal.Facts) (hGlaRefIdeal : Cert.GlaRefIdeal.Facts) (hPre_gla_finite : Cert.Pre_gla_finite.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Ffn (hFfn := hFfn)
    ∧ quiescent_FfnIdeal (hFfnIdeal := hFfnIdeal)
    ∧ quiescent_FfnRefIdeal (hFfnRefIdeal := hFfnRefIdeal)
    ∧ quiescent_FfnL0 (hFfnL0 := hFfnL0)
    ∧ quiescent_FfnL0Ideal (hFfnL0Ideal := hFfnL0Ideal)
    ∧ quiescent_FfnL0RefIdeal (hFfnL0RefIdeal := hFfnL0RefIdeal)
    ∧ quiescent_FfnL1 (hFfnL1 := hFfnL1)
    ∧ quiescent_FfnL1Ideal (hFfnL1Ideal := hFfnL1Ideal)
    ∧ quiescent_FfnL1RefIdeal (hFfnL1RefIdeal := hFfnL1RefIdeal)
    ∧ quiescent_FfnL2 (hFfnL2 := hFfnL2)
    ∧ quiescent_FfnL2Ideal (hFfnL2Ideal := hFfnL2Ideal)
    ∧ quiescent_FfnL2RefIdeal (hFfnL2RefIdeal := hFfnL2RefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjL1 (hInProjL1 := hInProjL1)
    ∧ quiescent_InProjL1Ideal (hInProjL1Ideal := hInProjL1Ideal)
    ∧ quiescent_InProjL1RefIdeal (hInProjL1RefIdeal := hInProjL1RefIdeal)
    ∧ quiescent_InProjL2 (hInProjL2 := hInProjL2)
    ∧ quiescent_InProjL2Ideal (hInProjL2Ideal := hInProjL2Ideal)
    ∧ quiescent_InProjL2RefIdeal (hInProjL2RefIdeal := hInProjL2RefIdeal)
    ∧ quiescent_InProjL3 (hInProjL3 := hInProjL3)
    ∧ quiescent_InProjL3Ideal (hInProjL3Ideal := hInProjL3Ideal)
    ∧ quiescent_InProjL3RefIdeal (hInProjL3RefIdeal := hInProjL3RefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeL1 (hMergeL1 := hMergeL1)
    ∧ quiescent_MergeL1Ideal (hMergeL1Ideal := hMergeL1Ideal)
    ∧ quiescent_MergeL1RefIdeal (hMergeL1RefIdeal := hMergeL1RefIdeal)
    ∧ quiescent_MergeL2 (hMergeL2 := hMergeL2)
    ∧ quiescent_MergeL2Ideal (hMergeL2Ideal := hMergeL2Ideal)
    ∧ quiescent_MergeL2RefIdeal (hMergeL2RefIdeal := hMergeL2RefIdeal)
    ∧ quiescent_MergeL3 (hMergeL3 := hMergeL3)
    ∧ quiescent_MergeL3Ideal (hMergeL3Ideal := hMergeL3Ideal)
    ∧ quiescent_MergeL3RefIdeal (hMergeL3RefIdeal := hMergeL3RefIdeal)
    ∧ quiescent_Gla (hGla := hGla)
    ∧ quiescent_GlaIdeal (hGlaIdeal := hGlaIdeal)
    ∧ quiescent_GlaIdeal_pre_gla_finite (hGlaIdeal := hGlaIdeal) (hPre_gla_finite := hPre_gla_finite)
    ∧ quiescent_GlaRefIdeal (hGlaRefIdeal := hGlaRefIdeal)
    ∧ quiescent_GlaRefIdeal_pre_gla_finite (hGlaRefIdeal := hGlaRefIdeal) (hPre_gla_finite := hPre_gla_finite)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_FfnL0_FfnL0Ideal
    ∧ algebraic_FfnL0Ideal_FfnL0RefIdeal (hFfnL0Ideal := hFfnL0Ideal) (hFfnL0RefIdeal := hFfnL0RefIdeal)
    ∧ preserves_FfnL1_FfnL1Ideal
    ∧ algebraic_FfnL1Ideal_FfnL1RefIdeal (hFfnL1Ideal := hFfnL1Ideal) (hFfnL1RefIdeal := hFfnL1RefIdeal)
    ∧ preserves_FfnL2_FfnL2Ideal
    ∧ algebraic_FfnL2Ideal_FfnL2RefIdeal (hFfnL2Ideal := hFfnL2Ideal) (hFfnL2RefIdeal := hFfnL2RefIdeal)
    ∧ preserves_InProj_InProjIdeal
    ∧ algebraic_InProjIdeal_InProjRefIdeal (hInProjIdeal := hInProjIdeal) (hInProjRefIdeal := hInProjRefIdeal)
    ∧ preserves_InProjL1_InProjL1Ideal
    ∧ algebraic_InProjL1Ideal_InProjL1RefIdeal (hInProjL1Ideal := hInProjL1Ideal) (hInProjL1RefIdeal := hInProjL1RefIdeal)
    ∧ preserves_InProjL2_InProjL2Ideal
    ∧ algebraic_InProjL2Ideal_InProjL2RefIdeal (hInProjL2Ideal := hInProjL2Ideal) (hInProjL2RefIdeal := hInProjL2RefIdeal)
    ∧ preserves_InProjL3_InProjL3Ideal
    ∧ algebraic_InProjL3Ideal_InProjL3RefIdeal (hInProjL3Ideal := hInProjL3Ideal) (hInProjL3RefIdeal := hInProjL3RefIdeal)
    ∧ preserves_Merge_MergeIdeal
    ∧ algebraic_MergeIdeal_MergeRefIdeal (hMergeIdeal := hMergeIdeal) (hMergeRefIdeal := hMergeRefIdeal)
    ∧ preserves_MergeL1_MergeL1Ideal
    ∧ algebraic_MergeL1Ideal_MergeL1RefIdeal (hMergeL1Ideal := hMergeL1Ideal) (hMergeL1RefIdeal := hMergeL1RefIdeal)
    ∧ preserves_MergeL2_MergeL2Ideal
    ∧ algebraic_MergeL2Ideal_MergeL2RefIdeal (hMergeL2Ideal := hMergeL2Ideal) (hMergeL2RefIdeal := hMergeL2RefIdeal)
    ∧ preserves_MergeL3_MergeL3Ideal
    ∧ algebraic_MergeL3Ideal_MergeL3RefIdeal (hMergeL3Ideal := hMergeL3Ideal) (hMergeL3RefIdeal := hMergeL3RefIdeal)
    ∧ preserves_Gla_GlaIdeal
    ∧ algebraic_GlaIdeal_GlaRefIdeal_pre_gla_finite (hGlaIdeal := hGlaIdeal) (hGlaRefIdeal := hGlaRefIdeal) (hPre_gla_finite := hPre_gla_finite)
-- ==== Pre_gla_finite.lean ====
abbrev S4x4096x12288 : Shape := ⟨3, ![4, 4096, 12288]⟩
abbrev S4x4096x128 : Shape := ⟨3, ![4, 4096, 128]⟩
abbrev S4x16x512 : Shape := ⟨3, ![4, 16, 512]⟩
abbrev S4x512 : Shape := ⟨2, ![4, 512]⟩
abbrev S4x1024 : Shape := ⟨2, ![4, 1024]⟩
abbrev S4x4096x16 : Shape := ⟨3, ![4, 4096, 16]⟩
abbrev S262144 : Shape := ⟨1, ![262144]⟩
abbrev S1x16x512 : Shape := ⟨3, ![1, 16, 512]⟩
abbrev S16x512 : Shape := ⟨2, ![16, 512]⟩
abbrev S8192 : Shape := ⟨1, ![8192]⟩
abbrev S270336 : Shape := ⟨1, ![270336]⟩
abbrev S_ : Shape := ⟨0, ![]⟩

class Facts : Prop where
  slices_S4x4096x128_S4x4096x16_0_0_0 : S4x4096x128.Slices ![0, 0, 0] S4x4096x16
  shapeCasts_S4x4096x16_S262144 : S4x4096x16.ShapeCasts S262144
  slices_S4x16x512_S1x16x512_0_0_0 : S4x16x512.Slices ![0, 0, 0] S1x16x512
  shapeCasts_S1x16x512_S16x512 : S1x16x512.ShapeCasts S16x512
  shapeCasts_S16x512_S8192 : S16x512.ShapeCasts S8192
  concatenates_S262144_S8192_S270336_d0 : Shape.Concatenates [S262144, S8192] S270336 0
  bcast_S_S270336 : S_.BroadcastsInDim S270336 (![] : Fin 0 → Fin S270336.rank)

variable [Facts]

def fn {F : FTy → Type} [FloatOps F] (main_arg0 : FVec F S4x4096x12288 .bf16) (main_arg1 : FVec F S4x4096x128 .f32) (main_arg2 : FVec F S4x16x512 .f32) (main_arg3 : FVec F S4x512 .f32) (main_arg4 : FVec F S4x1024 .f32) : IVec S270336 1 :=
  let main_v0 : FVec F S4x4096x16 .f32 := (extractStridedSlice S4x4096x16 ![0, 0, 0] · slices_S4x4096x128_S4x4096x16_0_0_0) main_arg1
  let main_v1 : FVec F S262144 .f32 := shapeCast S262144 main_v0 shapeCasts_S4x4096x16_S262144
  let main_v2 : FVec F S1x16x512 .f32 := (extractStridedSlice S1x16x512 ![0, 0, 0] · slices_S4x16x512_S1x16x512_0_0_0) main_arg2
  let main_v3 : FVec F S16x512 .f32 := shapeCast S16x512 main_v2 shapeCasts_S1x16x512_S16x512
  let main_v4 : FVec F S8192 .f32 := shapeCast S8192 main_v3 shapeCasts_S16x512_S8192
  let main_v5 : FVec F S270336 .f32 := (fun a b => concatenate S270336 0 [⟨S262144, a⟩, ⟨S8192, b⟩] concatenates_S262144_S8192_S270336_d0) main_v1 main_v4
  let main_v6 : FVec F S270336 .f32 := Host.absf main_v5
  let main_cst : FVec F S_ .f32 := constant S_ .f32 0x7F800000#32
  let main_v7 : FVec F S270336 .f32 := broadcastInDim S270336 ![] bcast_S_S270336 main_cst
  let main_v8 : IVec S270336 1 := cmpf .olt main_v6 main_v7
  main_v8
-- ==== Kernel.lean ====
abbrev S4x1024x11816 : Shape := ⟨3, ![4, 1024, 11816]⟩
abbrev S4x11816x1024 : Shape := ⟨3, ![4, 11816, 1024]⟩
abbrev S4x12288x1024 : Shape := ⟨3, ![4, 12288, 1024]⟩
abbrev S1x512x1024 : Shape := ⟨3, ![1, 512, 1024]⟩
abbrev S1x16x1024 : Shape := ⟨3, ![1, 16, 1024]⟩
abbrev S1x8x1024 : Shape := ⟨3, ![1, 8, 1024]⟩
abbrev S512x1024 : Shape := ⟨2, ![512, 1024]⟩
abbrev S16x1024 : Shape := ⟨2, ![16, 1024]⟩
abbrev S8x1024 : Shape := ⟨2, ![8, 1024]⟩
abbrev S88x1024 : Shape := ⟨2, ![88, 1024]⟩
abbrev S128x1024 : Shape := ⟨2, ![128, 1024]⟩
abbrev S1x128x1024 : Shape := ⟨3, ![1, 128, 1024]⟩
abbrev S384x1024 : Shape := ⟨2, ![384, 1024]⟩
abbrev S1x384x1024 : Shape := ⟨3, ![1, 384, 1024]⟩

abbrev nBuf : Space → Nat
  | .hbm => 3
  | .vmem => 10
  | .smem => 0
  | _ => 0

abbrev bufTy : (tb : Table) → Fin (tcTables nBuf tb) → BufTy
  | .hbm, ⟨0, _⟩ => ⟨S4x1024x11816, .f32⟩
  | .hbm, ⟨1, _⟩ => ⟨S4x11816x1024, .f32⟩
  | .hbm, ⟨2, _⟩ => ⟨S4x12288x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x16x1024, .f32⟩
  | .local _ .vmem, ⟨7, _⟩ => ⟨S1x16x1024, .f32⟩
  | .local _ .vmem, ⟨8, _⟩ => ⟨S1x512x1024, .bf16⟩
  | .local _ .vmem, ⟨9, _⟩ => ⟨S1x512x1024, .bf16⟩
  | _, _ => ⟨S4x1024x11816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 24], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c9216_i32_5 : BitVec 32 := 9216#32
  let v21 : BitVec 1 := Scalar.cmpi .sge v0 c9216_i32_5
  let c11776_i32 : BitVec 32 := 11776#32
  let v22 : BitVec 1 := Scalar.cmpi .slt v0 c11776_i32
  let v23 : BitVec 1 := Scalar.andi v21 v22
  let c_m3048_i32 : BitVec 32 := 4294964248#32
  let v24 : BitVec 32 := Scalar.addi v0 c_m3048_i32
  let c6144_i32_4 : BitVec 32 := 6144#32
  let v16 : BitVec 1 := Scalar.cmpi .sge v0 c6144_i32_4
  let c9216_i32 : BitVec 32 := 9216#32
  let v17 : BitVec 1 := Scalar.cmpi .slt v0 c9216_i32
  let v18 : BitVec 1 := Scalar.andi v16 v17
  let c2600_i32 : BitVec 32 := 2600#32
  let v19 : BitVec 32 := Scalar.addi v0 c2600_i32
  let c5120_i32_3 : BitVec 32 := 5120#32
  let v11 : BitVec 1 := Scalar.cmpi .sge v0 c5120_i32_3
  let c6144_i32 : BitVec 32 := 6144#32
  let v12 : BitVec 1 := Scalar.cmpi .slt v0 c6144_i32
  let v13 : BitVec 1 := Scalar.andi v11 v12
  let c24_i32 : BitVec 32 := 24#32
  let v14 : BitVec 32 := Scalar.addi v0 c24_i32
  let c2048_i32_2 : BitVec 32 := 2048#32
  let v6 : BitVec 1 := Scalar.cmpi .sge v0 c2048_i32_2
  let c5120_i32 : BitVec 32 := 5120#32
  let v7 : BitVec 1 := Scalar.cmpi .slt v0 c5120_i32
  let v8 : BitVec 1 := Scalar.andi v6 v7
  let c16_i32 : BitVec 32 := 16#32
  let v9 : BitVec 32 := Scalar.addi v0 c16_i32
  let c0_i32 : BitVec 32 := 0#32
  let v1 : BitVec 1 := Scalar.cmpi .sge v0 c0_i32
  let c2048_i32 : BitVec 32 := 2048#32
  let v2 : BitVec 1 := Scalar.cmpi .slt v0 c2048_i32
  let v3 : BitVec 1 := Scalar.andi v1 v2
  let c0_i32_0 : BitVec 32 := 0#32
  let v4 : BitVec 32 := Scalar.addi v0 c0_i32_0
  let c0_i32_1 : BitVec 32 := 0#32
  let v5 : BitVec 32 := Scalar.select v3 v4 c0_i32_1
  let v10 : BitVec 32 := Scalar.select v8 v9 v5
  let v15 : BitVec 32 := Scalar.select v13 v14 v10
  let v20 : BitVec 32 := Scalar.select v18 v19 v15
  let v25 : BitVec 32 := Scalar.select v23 v24 v20
  v25
def k0_cond1 (i : grid0.Coords) : BitVec 1 :=
  let arg1 : BitVec 32 := BitVec.ofNat 32 (i 1).val
  let c23_i32 : BitVec 32 := 23#32
  let v0 : BitVec 1 := Scalar.cmpi .slt arg1 c23_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c23_i32_0 : BitVec 32 := 23#32
  let v3 : BitVec 1 := Scalar.cmpi .eq arg1 c23_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 1 := Scalar.cmpi .sge v0 c0_i32
  let c2048_i32 : BitVec 32 := 2048#32
  let v2 : BitVec 1 := Scalar.cmpi .slt v0 c2048_i32
  let v3 : BitVec 1 := Scalar.andi v1 v2
  let c0_i32_0 : BitVec 32 := 0#32
  let v4 : BitVec 32 := Scalar.addi v0 c0_i32_0
  let c0_i32_1 : BitVec 32 := 0#32
  let v5 : BitVec 32 := Scalar.select v3 v4 c0_i32_1
  let c2048_i32_2 : BitVec 32 := 2048#32
  let v6 : BitVec 1 := Scalar.cmpi .sge v0 c2048_i32_2
  let c5120_i32 : BitVec 32 := 5120#32
  let v7 : BitVec 1 := Scalar.cmpi .slt v0 c5120_i32
  let v8 : BitVec 1 := Scalar.andi v6 v7
  let c16_i32 : BitVec 32 := 16#32
  let v9 : BitVec 32 := Scalar.addi v0 c16_i32
  let v10 : BitVec 32 := Scalar.select v8 v9 v5
  let c5120_i32_3 : BitVec 32 := 5120#32
  let v11 : BitVec 1 := Scalar.cmpi .sge v0 c5120_i32_3
  let c6144_i32 : BitVec 32 := 6144#32
  let v12 : BitVec 1 := Scalar.cmpi .slt v0 c6144_i32
  let v13 : BitVec 1 := Scalar.andi v11 v12
  let c24_i32 : BitVec 32 := 24#32
  let v14 : BitVec 32 := Scalar.addi v0 c24_i32
  let v15 : BitVec 32 := Scalar.select v13 v14 v10
  let c6144_i32_4 : BitVec 32 := 6144#32
  let v16 : BitVec 1 := Scalar.cmpi .sge v0 c6144_i32_4
  let c9216_i32 : BitVec 32 := 9216#32
  let v17 : BitVec 1 := Scalar.cmpi .slt v0 c9216_i32
  let v18 : BitVec 1 := Scalar.andi v16 v17
  let c2600_i32 : BitVec 32 := 2600#32
  let v19 : BitVec 32 := Scalar.addi v0 c2600_i32
  let v20 : BitVec 32 := Scalar.select v18 v19 v15
  let c9216_i32_5 : BitVec 32 := 9216#32
  let v21 : BitVec 1 := Scalar.cmpi .sge v0 c9216_i32_5
  let c11776_i32 : BitVec 32 := 11776#32
  let v22 : BitVec 1 := Scalar.cmpi .slt v0 c11776_i32
  let v23 : BitVec 1 := Scalar.andi v21 v22
  let c_m3048_i32 : BitVec 32 := 4294964248#32
  let v24 : BitVec 32 := Scalar.addi v0 c_m3048_i32
  let v25 : BitVec 32 := Scalar.select v23 v24 v20
  let v26 : BitVec 32 := v25
  let c0_i32_6 : BitVec 32 := 0#32
  let c0_i32_7 : BitVec 32 := 0#32
  ![arg0.toNat, v26.toNat, c0_i32_6.toNat]

def cc0_transform_1 (i : grid0.Coords) : Fin 3 → Nat :=
  let arg0 : BitVec 32 := BitVec.ofNat 32 (i 0).val
  let arg1 : BitVec 32 := BitVec.ofNat 32 (i 1).val
  let c2048_i32 : BitVec 32 := 2048#32
  let c0_i32 : BitVec 32 := 0#32
  let c0_i32_0 : BitVec 32 := 0#32
  ![arg0.toNat, c2048_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c5136_i32 : BitVec 32 := 5136#32
  let c0_i32 : BitVec 32 := 0#32
  let c0_i32_0 : BitVec 32 := 0#32
  ![arg0.toNat, c5136_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c8728_i32 : BitVec 32 := 8728#32
  let c0_i32 : BitVec 32 := 0#32
  let c0_i32_0 : BitVec 32 := 0#32
  ![arg0.toNat, c8728_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference.lean ====
abbrev S4x1024x11816 : Shape := ⟨3, ![4, 1024, 11816]⟩
abbrev S4x1024x512 : Shape := ⟨3, ![4, 1024, 512]⟩
abbrev S4x1024x1024 : Shape := ⟨3, ![4, 1024, 1024]⟩
abbrev S4x1024x16 : Shape := ⟨3, ![4, 1024, 16]⟩
abbrev S4x1024x4 : Shape := ⟨3, ![4, 1024, 4]⟩
abbrev S4x1024x1536 : Shape := ⟨3, ![4, 1024, 1536]⟩
abbrev S4x1024x3072 : Shape := ⟨3, ![4, 1024, 3072]⟩
abbrev S_ : Shape := ⟨0, ![]⟩
abbrev S4x1024x472 : Shape := ⟨3, ![4, 1024, 472]⟩
abbrev S4x1024x12288 : Shape := ⟨3, ![4, 1024, 12288]⟩
abbrev S4x12288x1024 : Shape := ⟨3, ![4, 12288, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x1024x11816, .f32⟩
  | .hbm, ⟨1, _⟩ => ⟨S4x1024x512, .f32⟩
  | .hbm, ⟨2, _⟩ => ⟨S4x1024x512, .f32⟩
  | .hbm, ⟨3, _⟩ => ⟨S4x1024x1024, .f32⟩
  | .hbm, ⟨4, _⟩ => ⟨S4x1024x16, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S4x1024x4, .f32⟩
  | .hbm, ⟨9, _⟩ => ⟨S4x1024x4, .f32⟩
  | .hbm, ⟨10, _⟩ => ⟨S4x1024x1024, .f32⟩
  | .hbm, ⟨11, _⟩ => ⟨S4x1024x1024, .f32⟩
  | .hbm, ⟨12, _⟩ => ⟨S4x1024x1536, .f32⟩
  | .hbm, ⟨13, _⟩ => ⟨S4x1024x16, .f32⟩
  | .hbm, ⟨14, _⟩ => ⟨S4x1024x3072, .f32⟩
  | .hbm, ⟨15, _⟩ => ⟨S_, .f32⟩
  | .hbm, ⟨16, _⟩ => ⟨S4x1024x472, .f32⟩
  | .hbm, ⟨17, _⟩ => ⟨S4x1024x12288, .f32⟩
  | .hbm, ⟨18, _⟩ => ⟨S4x12288x1024, .f32⟩
  | .hbm, ⟨19, _⟩ => ⟨S4x12288x1024, .bf16⟩
  | _, _ => ⟨S4x1024x11816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== Ffn.lean ====
abbrev S4x4096x1024 : Shape := ⟨3, ![4, 4096, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1024 : Shape := ⟨1, ![1024]⟩
abbrev S4x1x1024 : Shape := ⟨3, ![4, 1, 1024]⟩
abbrev S4x1x5632 : Shape := ⟨3, ![4, 1, 5632]⟩
abbrev S1x1024 : Shape := ⟨2, ![1, 1024]⟩
abbrev S1x512x1024 : Shape := ⟨3, ![1, 512, 1024]⟩
abbrev S1x1x1024 : Shape := ⟨3, ![1, 1, 1024]⟩
abbrev S1x1024x2816 : Shape := ⟨3, ![1, 1024, 2816]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S520x2816 : Shape := ⟨2, ![520, 2816]⟩
abbrev S8x2816 : Shape := ⟨2, ![8, 2816]⟩
abbrev S512x1024 : Shape := ⟨2, ![512, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S1x2816 : Shape := ⟨2, ![1, 2816]⟩
abbrev S2816x1024 : Shape := ⟨2, ![2816, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x5632, .f32⟩
  | .hbm, ⟨3, _⟩ => ⟨S4x3x5632, .f32⟩
  | .hbm, ⟨4, _⟩ => ⟨S4x5632, .f32⟩
  | .hbm, ⟨5, _⟩ => ⟨S4x2816x1024, .f32⟩
  | .hbm, ⟨6, _⟩ => ⟨S1024, .f32⟩
  | .hbm, ⟨7, _⟩ => ⟨S4x1x1024, .f32⟩
  | .hbm, ⟨8, _⟩ => ⟨S4x1024x5632, .bf16⟩
  | .hbm, ⟨9, _⟩ => ⟨S4x1x5632, .f32⟩
  | .hbm, ⟨10, _⟩ => ⟨S4x2816x1024, .bf16⟩
  | .hbm, ⟨11, _⟩ => ⟨S1x1024, .f32⟩
  | .hbm, ⟨12, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x3x2816, .f32⟩
  | .local _ .vmem, ⟨6, _⟩ => ⟨S1x3x2816, .f32⟩
  | .local _ .vmem, ⟨7, _⟩ => ⟨S1x1x2816, .f32⟩
  | .local _ .vmem, ⟨8, _⟩ => ⟨S1x1x2816, .f32⟩
  | .local _ .vmem, ⟨9, _⟩ => ⟨S1x2816x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S520x2816, .f32⟩
  | .local _ .vmem, ⟨14, _⟩ => ⟨S520x2816, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c1_i32 : BitVec 32 := 1#32
  let c0_i32_0 : BitVec 32 := 0#32
  ![c3_i32.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c1_i32 : BitVec 32 := 1#32
  let c0_i32_0 : BitVec 32 := 0#32
  ![c3_i32.toNat, c0_i32.toNat, c1_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c1_i32 : BitVec 32 := 1#32
  let c0_i32_0 : BitVec 32 := 0#32
  ![c3_i32.toNat, c0_i32.toNat, c1_i32.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnIdeal.lean ====
abbrev S4x4096x1024 : Shape := ⟨3, ![4, 4096, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1024 : Shape := ⟨1, ![1024]⟩
abbrev S4x1x1024 : Shape := ⟨3, ![4, 1, 1024]⟩
abbrev S4x1x5632 : Shape := ⟨3, ![4, 1, 5632]⟩
abbrev S1x1024 : Shape := ⟨2, ![1, 1024]⟩
abbrev S1x512x1024 : Shape := ⟨3, ![1, 512, 1024]⟩
abbrev S1x1x1024 : Shape := ⟨3, ![1, 1, 1024]⟩
abbrev S1x1024x2816 : Shape := ⟨3, ![1, 1024, 2816]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S520x2816 : Shape := ⟨2, ![520, 2816]⟩
abbrev S8x2816 : Shape := ⟨2, ![8, 2816]⟩
abbrev S512x1024 : Shape := ⟨2, ![512, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S1x2816 : Shape := ⟨2, ![1, 2816]⟩
abbrev S2816x1024 : Shape := ⟨2, ![2816, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x5632, .f32⟩
  | .hbm, ⟨3, _⟩ => ⟨S4x3x5632, .f32⟩
  | .hbm, ⟨4, _⟩ => ⟨S4x5632, .f32⟩
  | .hbm, ⟨5, _⟩ => ⟨S4x2816x1024, .f32⟩
  | .hbm, ⟨6, _⟩ => ⟨S1024, .f32⟩
  | .hbm, ⟨7, _⟩ => ⟨S4x1x1024, .f32⟩
  | .hbm, ⟨8, _⟩ => ⟨S4x1024x5632, .bf16⟩
  | .hbm, ⟨9, _⟩ => ⟨S4x1x5632, .f32⟩
  | .hbm, ⟨10, _⟩ => ⟨S4x2816x1024, .bf16⟩
  | .hbm, ⟨11, _⟩ => ⟨S1x1024, .f32⟩
  | .hbm, ⟨12, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x3x2816, .f32⟩
  | .local _ .vmem, ⟨6, _⟩ => ⟨S1x3x2816, .f32⟩
  | .local _ .vmem, ⟨7, _⟩ => ⟨S1x1x2816, .f32⟩
  | .local _ .vmem, ⟨8, _⟩ => ⟨S1x1x2816, .f32⟩
  | .local _ .vmem, ⟨9, _⟩ => ⟨S1x2816x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S520x2816, .f32⟩
  | .local _ .vmem, ⟨14, _⟩ => ⟨S520x2816, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c1_i32 : BitVec 32 := 1#32
  let c0_i32_0 : BitVec 32 := 0#32
  ![c3_i32.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c1_i32 : BitVec 32 := 1#32
  let c0_i32_0 : BitVec 32 := 0#32
  ![c3_i32.toNat, c0_i32.toNat, c1_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c1_i32 : BitVec 32 := 1#32
  let c0_i32_0 : BitVec 32 := 0#32
  ![c3_i32.toNat, c0_i32.toNat, c1_i32.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnRefIdeal.lean ====
abbrev S4x4096x1024 : Shape := ⟨3, ![4, 4096, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x4096x5632 : Shape := ⟨3, ![4, 4096, 5632]⟩
abbrev S1x3x5632 : Shape := ⟨3, ![1, 3, 5632]⟩
abbrev S3x5632 : Shape := ⟨2, ![3, 5632]⟩
abbrev S4x4098x5632 : Shape := ⟨3, ![4, 4098, 5632]⟩
abbrev S1x5632 : Shape := ⟨2, ![1, 5632]⟩
abbrev S5632 : Shape := ⟨1, ![5632]⟩
abbrev S1x1x5632 : Shape := ⟨3, ![1, 1, 5632]⟩
abbrev S4x4096x2816 : Shape := ⟨3, ![4, 4096, 2816]⟩
abbrev S1x2816x1024 : Shape := ⟨3, ![1, 2816, 1024]⟩
abbrev S2816x1024 : Shape := ⟨2, ![2816, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x5632, .f32⟩
  | .hbm, ⟨3, _⟩ => ⟨S4x3x5632, .f32⟩
  | .hbm, ⟨4, _⟩ => ⟨S4x5632, .f32⟩
  | .hbm, ⟨5, _⟩ => ⟨S4x2816x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S1x1024x5632, .f32⟩
  | .hbm, ⟨26, _⟩ => ⟨S1024x5632, .f32⟩
  | .hbm, ⟨27, _⟩ => ⟨S4x4096x5632, .f32⟩
  | .hbm, ⟨28, _⟩ => ⟨S1x3x5632, .f32⟩
  | .hbm, ⟨29, _⟩ => ⟨S3x5632, .f32⟩
  | .hbm, ⟨30, _⟩ => ⟨S_, .i32⟩
  | .hbm, ⟨31, _⟩ => ⟨S_, .f32⟩
  | .hbm, ⟨32, _⟩ => ⟨S4x4098x5632, .f32⟩
  | .hbm, ⟨33, _⟩ => ⟨S1x5632, .f32⟩
  | .hbm, ⟨34, _⟩ => ⟨S5632, .f32⟩
  | .hbm, ⟨35, _⟩ => ⟨S4x4096x5632, .f32⟩
  | .hbm, ⟨36, _⟩ => ⟨S1x1x5632, .f32⟩
  | .hbm, ⟨37, _⟩ => ⟨S4x4096x5632, .f32⟩
  | .hbm, ⟨38, _⟩ => ⟨S4x4096x5632, .f32⟩
  | .hbm, ⟨39, _⟩ => ⟨S1x5632, .f32⟩
  | .hbm, ⟨40, _⟩ => ⟨S5632, .f32⟩
  | .hbm, ⟨41, _⟩ => ⟨S4x4096x5632, .f32⟩
  | .hbm, ⟨42, _⟩ => ⟨S1x1x5632, .f32⟩
  | .hbm, ⟨43, _⟩ => ⟨S4x4096x5632, .f32⟩
  | .hbm, ⟨44, _⟩ => ⟨S4x4096x5632, .f32⟩
  | .hbm, ⟨45, _⟩ => ⟨S4x4096x5632, .f32⟩
  | .hbm, ⟨46, _⟩ => ⟨S1x5632, .f32⟩
  | .hbm, ⟨47, _⟩ => ⟨S5632, .f32⟩
  | .hbm, ⟨48, _⟩ => ⟨S4x4096x5632, .f32⟩
  | .hbm, ⟨49, _⟩ => ⟨S1x1x5632, .f32⟩
  | .hbm, ⟨50, _⟩ => ⟨S4x4096x5632, .f32⟩
  | .hbm, ⟨51, _⟩ => ⟨S4x4096x5632, .f32⟩
  | .hbm, ⟨52, _⟩ => ⟨S4x4096x5632, .f32⟩
  | .hbm, ⟨53, _⟩ => ⟨S1x5632, .f32⟩
  | .hbm, ⟨54, _⟩ => ⟨S5632, .f32⟩
  | .hbm, ⟨55, _⟩ => ⟨S1x1x5632, .f32⟩
  | .hbm, ⟨56, _⟩ => ⟨S4x4096x5632, .f32⟩
  | .hbm, ⟨57, _⟩ => ⟨S4x4096x5632, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S_, .f32⟩
  | .hbm, ⟨63, _⟩ => ⟨S4x4096x2816, .f32⟩
  | .hbm, ⟨64, _⟩ => ⟨S4x4096x2816, .f32⟩
  | .hbm, ⟨65, _⟩ => ⟨S_, .f32⟩
  | .hbm, ⟨66, _⟩ => ⟨S4x4096x2816, .f32⟩
  | .hbm, ⟨67, _⟩ => ⟨S4x4096x2816, .f32⟩
  | .hbm, ⟨68, _⟩ => ⟨S4x4096x2816, .f32⟩
  | .hbm, ⟨69, _⟩ => ⟨S4x4096x2816, .f32⟩
  | .hbm, ⟨70, _⟩ => ⟨S1x2816x1024, .f32⟩
  | .hbm, ⟨71, _⟩ => ⟨S2816x1024, .f32⟩
  | .hbm, ⟨72, _⟩ => ⟨S4x4096x1024, .f32⟩
  | .hbm, ⟨73, _⟩ => ⟨S4x4096x1024, .f32⟩
  | .hbm, ⟨74, _⟩ => ⟨S4x4096x1024, .f32⟩
  | .hbm, ⟨75, _⟩ => ⟨S_, .f32⟩
  | .hbm, ⟨76, _⟩ => ⟨S4x4096, .f32⟩
  | .hbm, ⟨77, _⟩ => ⟨S4x4096x1, .f32⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S_, .f32⟩
  | .hbm, ⟨82, _⟩ => ⟨S4x4096x1, .f32⟩
  | .hbm, ⟨83, _⟩ => ⟨S4x4096x1, .f32⟩
  | .hbm, ⟨84, _⟩ => ⟨S4x4096x1, .f32⟩
  | .hbm, ⟨85, _⟩ => ⟨S4x4096x1024, .f32⟩
  | .hbm, ⟨86, _⟩ => ⟨S4x4096x1024, .f32⟩
  | .hbm, ⟨87, _⟩ => ⟨S1x1x1024, .f32⟩
  | .hbm, ⟨88, _⟩ => ⟨S4x4096x1024, .f32⟩
  | .hbm, ⟨89, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_2 : Ref sig .tc := ⟨.hbm, 62, rfl⟩
abbrev main_v50 : Ref sig .tc := ⟨.hbm, 63, rfl⟩
abbrev main_v51 : Ref sig .tc := ⟨.hbm, 64, rfl⟩
abbrev main_cst_3 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_4 : Ref sig .tc := ⟨.hbm, 75, rfl⟩
abbrev main_v61 : Ref sig .tc := ⟨.hbm, 76, rfl⟩
abbrev main_v62 : Ref sig .tc := ⟨.hbm, 77, rfl⟩
abbrev main_cst_5 : Ref sig .tc := ⟨.hbm, 78, rfl⟩
abbrev main_v63 : Ref sig .tc := ⟨.hbm, 79, rfl⟩
abbrev main_v64 : Ref sig .tc := ⟨.hbm, 80, rfl⟩
abbrev main_cst_6 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== FfnL0.lean ====
abbrev S4x4096x1024 : Shape := ⟨3, ![4, 4096, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1024 : Shape := ⟨1, ![1024]⟩
abbrev S4x1x1024 : Shape := ⟨3, ![4, 1, 1024]⟩
abbrev S4x1x5632 : Shape := ⟨3, ![4, 1, 5632]⟩
abbrev S1x1024 : Shape := ⟨2, ![1, 1024]⟩
abbrev S1x512x1024 : Shape := ⟨3, ![1, 512, 1024]⟩
abbrev S1x1x1024 : Shape := ⟨3, ![1, 1, 1024]⟩
abbrev S1x1024x2816 : Shape := ⟨3, ![1, 1024, 2816]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S520x2816 : Shape := ⟨2, ![520, 2816]⟩
abbrev S8x2816 : Shape := ⟨2, ![8, 2816]⟩
abbrev S512x1024 : Shape := ⟨2, ![512, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S1x2816 : Shape := ⟨2, ![1, 2816]⟩
abbrev S2816x1024 : Shape := ⟨2, ![2816, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x5632, .f32⟩
  | .hbm, ⟨3, _⟩ => ⟨S4x3x5632, .f32⟩
  | .hbm, ⟨4, _⟩ => ⟨S4x5632, .f32⟩
  | .hbm, ⟨5, _⟩ => ⟨S4x2816x1024, .f32⟩
  | .hbm, ⟨6, _⟩ => ⟨S1024, .f32⟩
  | .hbm, ⟨7, _⟩ => ⟨S4x1x1024, .f32⟩
  | .hbm, ⟨8, _⟩ => ⟨S4x1024x5632, .bf16⟩
  | .hbm, ⟨9, _⟩ => ⟨S4x1x5632, .f32⟩
  | .hbm, ⟨10, _⟩ => ⟨S4x2816x1024, .bf16⟩
  | .hbm, ⟨11, _⟩ => ⟨S1x1024, .f32⟩
  | .hbm, ⟨12, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x3x2816, .f32⟩
  | .local _ .vmem, ⟨6, _⟩ => ⟨S1x3x2816, .f32⟩
  | .local _ .vmem, ⟨7, _⟩ => ⟨S1x1x2816, .f32⟩
  | .local _ .vmem, ⟨8, _⟩ => ⟨S1x1x2816, .f32⟩
  | .local _ .vmem, ⟨9, _⟩ => ⟨S1x2816x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S520x2816, .f32⟩
  | .local _ .vmem, ⟨14, _⟩ => ⟨S520x2816, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnL0Ideal.lean ====
abbrev S4x4096x1024 : Shape := ⟨3, ![4, 4096, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1024 : Shape := ⟨1, ![1024]⟩
abbrev S4x1x1024 : Shape := ⟨3, ![4, 1, 1024]⟩
abbrev S4x1x5632 : Shape := ⟨3, ![4, 1, 5632]⟩
abbrev S1x1024 : Shape := ⟨2, ![1, 1024]⟩
abbrev S1x512x1024 : Shape := ⟨3, ![1, 512, 1024]⟩
abbrev S1x1x1024 : Shape := ⟨3, ![1, 1, 1024]⟩
abbrev S1x1024x2816 : Shape := ⟨3, ![1, 1024, 2816]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S520x2816 : Shape := ⟨2, ![520, 2816]⟩
abbrev S8x2816 : Shape := ⟨2, ![8, 2816]⟩
abbrev S512x1024 : Shape := ⟨2, ![512, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S1x2816 : Shape := ⟨2, ![1, 2816]⟩
abbrev S2816x1024 : Shape := ⟨2, ![2816, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x5632, .f32⟩
  | .hbm, ⟨3, _⟩ => ⟨S4x3x5632, .f32⟩
  | .hbm, ⟨4, _⟩ => ⟨S4x5632, .f32⟩
  | .hbm, ⟨5, _⟩ => ⟨S4x2816x1024, .f32⟩
  | .hbm, ⟨6, _⟩ => ⟨S1024, .f32⟩
  | .hbm, ⟨7, _⟩ => ⟨S4x1x1024, .f32⟩
  | .hbm, ⟨8, _⟩ => ⟨S4x1024x5632, .bf16⟩
  | .hbm, ⟨9, _⟩ => ⟨S4x1x5632, .f32⟩
  | .hbm, ⟨10, _⟩ => ⟨S4x2816x1024, .bf16⟩
  | .hbm, ⟨11, _⟩ => ⟨S1x1024, .f32⟩
  | .hbm, ⟨12, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x3x2816, .f32⟩
  | .local _ .vmem, ⟨6, _⟩ => ⟨S1x3x2816, .f32⟩
  | .local _ .vmem, ⟨7, _⟩ => ⟨S1x1x2816, .f32⟩
  | .local _ .vmem, ⟨8, _⟩ => ⟨S1x1x2816, .f32⟩
  | .local _ .vmem, ⟨9, _⟩ => ⟨S1x2816x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S520x2816, .f32⟩
  | .local _ .vmem, ⟨14, _⟩ => ⟨S520x2816, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnL0RefIdeal.lean ====
abbrev S4x4096x1024 : Shape := ⟨3, ![4, 4096, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x4096x5632 : Shape := ⟨3, ![4, 4096, 5632]⟩
abbrev S1x3x5632 : Shape := ⟨3, ![1, 3, 5632]⟩
abbrev S3x5632 : Shape := ⟨2, ![3, 5632]⟩
abbrev S4x4098x5632 : Shape := ⟨3, ![4, 4098, 5632]⟩
abbrev S1x5632 : Shape := ⟨2, ![1, 5632]⟩
abbrev S5632 : Shape := ⟨1, ![5632]⟩
abbrev S1x1x5632 : Shape := ⟨3, ![1, 1, 5632]⟩
abbrev S4x4096x2816 : Shape := ⟨3, ![4, 4096, 2816]⟩
abbrev S1x2816x1024 : Shape := ⟨3, ![1, 2816, 1024]⟩
abbrev S2816x1024 : Shape := ⟨2, ![2816, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x5632, .f32⟩
  | .hbm, ⟨3, _⟩ => ⟨S4x3x5632, .f32⟩
  | .hbm, ⟨4, _⟩ => ⟨S4x5632, .f32⟩
  | .hbm, ⟨5, _⟩ => ⟨S4x2816x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S1x1024x5632, .f32⟩
  | .hbm, ⟨26, _⟩ => ⟨S1024x5632, .f32⟩
  | .hbm, ⟨27, _⟩ => ⟨S4x4096x5632, .f32⟩
  | .hbm, ⟨28, _⟩ => ⟨S1x3x5632, .f32⟩
  | .hbm, ⟨29, _⟩ => ⟨S3x5632, .f32⟩
  | .hbm, ⟨30, _⟩ => ⟨S_, .i32⟩
  | .hbm, ⟨31, _⟩ => ⟨S_, .f32⟩
  | .hbm, ⟨32, _⟩ => ⟨S4x4098x5632, .f32⟩
  | .hbm, ⟨33, _⟩ => ⟨S1x5632, .f32⟩
  | .hbm, ⟨34, _⟩ => ⟨S5632, .f32⟩
  | .hbm, ⟨35, _⟩ => ⟨S4x4096x5632, .f32⟩
  | .hbm, ⟨36, _⟩ => ⟨S1x1x5632, .f32⟩
  | .hbm, ⟨37, _⟩ => ⟨S4x4096x5632, .f32⟩
  | .hbm, ⟨38, _⟩ => ⟨S4x4096x5632, .f32⟩
  | .hbm, ⟨39, _⟩ => ⟨S1x5632, .f32⟩
  | .hbm, ⟨40, _⟩ => ⟨S5632, .f32⟩
  | .hbm, ⟨41, _⟩ => ⟨S4x4096x5632, .f32⟩
  | .hbm, ⟨42, _⟩ => ⟨S1x1x5632, .f32⟩
  | .hbm, ⟨43, _⟩ => ⟨S4x4096x5632, .f32⟩
  | .hbm, ⟨44, _⟩ => ⟨S4x4096x5632, .f32⟩
  | .hbm, ⟨45, _⟩ => ⟨S4x4096x5632, .f32⟩
  | .hbm, ⟨46, _⟩ => ⟨S1x5632, .f32⟩
  | .hbm, ⟨47, _⟩ => ⟨S5632, .f32⟩
  | .hbm, ⟨48, _⟩ => ⟨S4x4096x5632, .f32⟩
  | .hbm, ⟨49, _⟩ => ⟨S1x1x5632, .f32⟩
  | .hbm, ⟨50, _⟩ => ⟨S4x4096x5632, .f32⟩
  | .hbm, ⟨51, _⟩ => ⟨S4x4096x5632, .f32⟩
  | .hbm, ⟨52, _⟩ => ⟨S4x4096x5632, .f32⟩
  | .hbm, ⟨53, _⟩ => ⟨S1x5632, .f32⟩
  | .hbm, ⟨54, _⟩ => ⟨S5632, .f32⟩
  | .hbm, ⟨55, _⟩ => ⟨S1x1x5632, .f32⟩
  | .hbm, ⟨56, _⟩ => ⟨S4x4096x5632, .f32⟩
  | .hbm, ⟨57, _⟩ => ⟨S4x4096x5632, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S_, .f32⟩
  | .hbm, ⟨63, _⟩ => ⟨S4x4096x2816, .f32⟩
  | .hbm, ⟨64, _⟩ => ⟨S4x4096x2816, .f32⟩
  | .hbm, ⟨65, _⟩ => ⟨S_, .f32⟩
  | .hbm, ⟨66, _⟩ => ⟨S4x4096x2816, .f32⟩
  | .hbm, ⟨67, _⟩ => ⟨S4x4096x2816, .f32⟩
  | .hbm, ⟨68, _⟩ => ⟨S4x4096x2816, .f32⟩
  | .hbm, ⟨69, _⟩ => ⟨S4x4096x2816, .f32⟩
  | .hbm, ⟨70, _⟩ => ⟨S1x2816x1024, .f32⟩
  | .hbm, ⟨71, _⟩ => ⟨S2816x1024, .f32⟩
  | .hbm, ⟨72, _⟩ => ⟨S4x4096x1024, .f32⟩
  | .hbm, ⟨73, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_2 : Ref sig .tc := ⟨.hbm, 62, rfl⟩
abbrev main_v50 : Ref sig .tc := ⟨.hbm, 63, rfl⟩
abbrev main_v51 : Ref sig .tc := ⟨.hbm, 64, rfl⟩
abbrev main_cst_3 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== FfnL1.lean ====
abbrev S4x4096x1024 : Shape := ⟨3, ![4, 4096, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1024 : Shape := ⟨1, ![1024]⟩
abbrev S4x1x1024 : Shape := ⟨3, ![4, 1, 1024]⟩
abbrev S4x1x5632 : Shape := ⟨3, ![4, 1, 5632]⟩
abbrev S1x1024 : Shape := ⟨2, ![1, 1024]⟩
abbrev S1x512x1024 : Shape := ⟨3, ![1, 512, 1024]⟩
abbrev S1x1x1024 : Shape := ⟨3, ![1, 1, 1024]⟩
abbrev S1x1024x2816 : Shape := ⟨3, ![1, 1024, 2816]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S520x2816 : Shape := ⟨2, ![520, 2816]⟩
abbrev S8x2816 : Shape := ⟨2, ![8, 2816]⟩
abbrev S512x1024 : Shape := ⟨2, ![512, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S1x2816 : Shape := ⟨2, ![1, 2816]⟩
abbrev S2816x1024 : Shape := ⟨2, ![2816, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x5632, .f32⟩
  | .hbm, ⟨3, _⟩ => ⟨S4x3x5632, .f32⟩
  | .hbm, ⟨4, _⟩ => ⟨S4x5632, .f32⟩
  | .hbm, ⟨5, _⟩ => ⟨S4x2816x1024, .f32⟩
  | .hbm, ⟨6, _⟩ => ⟨S1024, .f32⟩
  | .hbm, ⟨7, _⟩ => ⟨S4x1x1024, .f32⟩
  | .hbm, ⟨8, _⟩ => ⟨S4x1024x5632, .bf16⟩
  | .hbm, ⟨9, _⟩ => ⟨S4x1x5632, .f32⟩
  | .hbm, ⟨10, _⟩ => ⟨S4x2816x1024, .bf16⟩
  | .hbm, ⟨11, _⟩ => ⟨S1x1024, .f32⟩
  | .hbm, ⟨12, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x3x2816, .f32⟩
  | .local _ .vmem, ⟨6, _⟩ => ⟨S1x3x2816, .f32⟩
  | .local _ .vmem, ⟨7, _⟩ => ⟨S1x1x2816, .f32⟩
  | .local _ .vmem, ⟨8, _⟩ => ⟨S1x1x2816, .f32⟩
  | .local _ .vmem, ⟨9, _⟩ => ⟨S1x2816x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S520x2816, .f32⟩
  | .local _ .vmem, ⟨14, _⟩ => ⟨S520x2816, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnL1Ideal.lean ====
abbrev S4x4096x1024 : Shape := ⟨3, ![4, 4096, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1024 : Shape := ⟨1, ![1024]⟩
abbrev S4x1x1024 : Shape := ⟨3, ![4, 1, 1024]⟩
abbrev S4x1x5632 : Shape := ⟨3, ![4, 1, 5632]⟩
abbrev S1x1024 : Shape := ⟨2, ![1, 1024]⟩
abbrev S1x512x1024 : Shape := ⟨3, ![1, 512, 1024]⟩
abbrev S1x1x1024 : Shape := ⟨3, ![1, 1, 1024]⟩
abbrev S1x1024x2816 : Shape := ⟨3, ![1, 1024, 2816]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S520x2816 : Shape := ⟨2, ![520, 2816]⟩
abbrev S8x2816 : Shape := ⟨2, ![8, 2816]⟩
abbrev S512x1024 : Shape := ⟨2, ![512, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S1x2816 : Shape := ⟨2, ![1, 2816]⟩
abbrev S2816x1024 : Shape := ⟨2, ![2816, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x5632, .f32⟩
  | .hbm, ⟨3, _⟩ => ⟨S4x3x5632, .f32⟩
  | .hbm, ⟨4, _⟩ => ⟨S4x5632, .f32⟩
  | .hbm, ⟨5, _⟩ => ⟨S4x2816x1024, .f32⟩
  | .hbm, ⟨6, _⟩ => ⟨S1024, .f32⟩
  | .hbm, ⟨7, _⟩ => ⟨S4x1x1024, .f32⟩
  | .hbm, ⟨8, _⟩ => ⟨S4x1024x5632, .bf16⟩
  | .hbm, ⟨9, _⟩ => ⟨S4x1x5632, .f32⟩
  | .hbm, ⟨10, _⟩ => ⟨S4x2816x1024, .bf16⟩
  | .hbm, ⟨11, _⟩ => ⟨S1x1024, .f32⟩
  | .hbm, ⟨12, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x3x2816, .f32⟩
  | .local _ .vmem, ⟨6, _⟩ => ⟨S1x3x2816, .f32⟩
  | .local _ .vmem, ⟨7, _⟩ => ⟨S1x1x2816, .f32⟩
  | .local _ .vmem, ⟨8, _⟩ => ⟨S1x1x2816, .f32⟩
  | .local _ .vmem, ⟨9, _⟩ => ⟨S1x2816x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S520x2816, .f32⟩
  | .local _ .vmem, ⟨14, _⟩ => ⟨S520x2816, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnL1RefIdeal.lean ====
abbrev S4x4096x1024 : Shape := ⟨3, ![4, 4096, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x4096x5632 : Shape := ⟨3, ![4, 4096, 5632]⟩
abbrev S1x3x5632 : Shape := ⟨3, ![1, 3, 5632]⟩
abbrev S3x5632 : Shape := ⟨2, ![3, 5632]⟩
abbrev S4x4098x5632 : Shape := ⟨3, ![4, 4098, 5632]⟩
abbrev S1x5632 : Shape := ⟨2, ![1, 5632]⟩
abbrev S5632 : Shape := ⟨1, ![5632]⟩
abbrev S1x1x5632 : Shape := ⟨3, ![1, 1, 5632]⟩
abbrev S4x4096x2816 : Shape := ⟨3, ![4, 4096, 2816]⟩
abbrev S1x2816x1024 : Shape := ⟨3, ![1, 2816, 1024]⟩
abbrev S2816x1024 : Shape := ⟨2, ![2816, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x5632, .f32⟩
  | .hbm, ⟨3, _⟩ => ⟨S4x3x5632, .f32⟩
  | .hbm, ⟨4, _⟩ => ⟨S4x5632, .f32⟩
  | .hbm, ⟨5, _⟩ => ⟨S4x2816x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S1x1024x5632, .f32⟩
  | .hbm, ⟨26, _⟩ => ⟨S1024x5632, .f32⟩
  | .hbm, ⟨27, _⟩ => ⟨S4x4096x5632, .f32⟩
  | .hbm, ⟨28, _⟩ => ⟨S1x3x5632, .f32⟩
  | .hbm, ⟨29, _⟩ => ⟨S3x5632, .f32⟩
  | .hbm, ⟨30, _⟩ => ⟨S_, .i32⟩
  | .hbm, ⟨31, _⟩ => ⟨S_, .f32⟩
  | .hbm, ⟨32, _⟩ => ⟨S4x4098x5632, .f32⟩
  | .hbm, ⟨33, _⟩ => ⟨S1x5632, .f32⟩
  | .hbm, ⟨34, _⟩ => ⟨S5632, .f32⟩
  | .hbm, ⟨35, _⟩ => ⟨S4x4096x5632, .f32⟩
  | .hbm, ⟨36, _⟩ => ⟨S1x1x5632, .f32⟩
  | .hbm, ⟨37, _⟩ => ⟨S4x4096x5632, .f32⟩
  | .hbm, ⟨38, _⟩ => ⟨S4x4096x5632, .f32⟩
  | .hbm, ⟨39, _⟩ => ⟨S1x5632, .f32⟩
  | .hbm, ⟨40, _⟩ => ⟨S5632, .f32⟩
  | .hbm, ⟨41, _⟩ => ⟨S4x4096x5632, .f32⟩
  | .hbm, ⟨42, _⟩ => ⟨S1x1x5632, .f32⟩
  | .hbm, ⟨43, _⟩ => ⟨S4x4096x5632, .f32⟩
  | .hbm, ⟨44, _⟩ => ⟨S4x4096x5632, .f32⟩
  | .hbm, ⟨45, _⟩ => ⟨S4x4096x5632, .f32⟩
  | .hbm, ⟨46, _⟩ => ⟨S1x5632, .f32⟩
  | .hbm, ⟨47, _⟩ => ⟨S5632, .f32⟩
  | .hbm, ⟨48, _⟩ => ⟨S4x4096x5632, .f32⟩
  | .hbm, ⟨49, _⟩ => ⟨S1x1x5632, .f32⟩
  | .hbm, ⟨50, _⟩ => ⟨S4x4096x5632, .f32⟩
  | .hbm, ⟨51, _⟩ => ⟨S4x4096x5632, .f32⟩
  | .hbm, ⟨52, _⟩ => ⟨S4x4096x5632, .f32⟩
  | .hbm, ⟨53, _⟩ => ⟨S1x5632, .f32⟩
  | .hbm, ⟨54, _⟩ => ⟨S5632, .f32⟩
  | .hbm, ⟨55, _⟩ => ⟨S1x1x5632, .f32⟩
  | .hbm, ⟨56, _⟩ => ⟨S4x4096x5632, .f32⟩
  | .hbm, ⟨57, _⟩ => ⟨S4x4096x5632, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S_, .f32⟩
  | .hbm, ⟨63, _⟩ => ⟨S4x4096x2816, .f32⟩
  | .hbm, ⟨64, _⟩ => ⟨S4x4096x2816, .f32⟩
  | .hbm, ⟨65, _⟩ => ⟨S_, .f32⟩
  | .hbm, ⟨66, _⟩ => ⟨S4x4096x2816, .f32⟩
  | .hbm, ⟨67, _⟩ => ⟨S4x4096x2816, .f32⟩
  | .hbm, ⟨68, _⟩ => ⟨S4x4096x2816, .f32⟩
  | .hbm, ⟨69, _⟩ => ⟨S4x4096x2816, .f32⟩
  | .hbm, ⟨70, _⟩ => ⟨S1x2816x1024, .f32⟩
  | .hbm, ⟨71, _⟩ => ⟨S2816x1024, .f32⟩
  | .hbm, ⟨72, _⟩ => ⟨S4x4096x1024, .f32⟩
  | .hbm, ⟨73, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_2 : Ref sig .tc := ⟨.hbm, 62, rfl⟩
abbrev main_v50 : Ref sig .tc := ⟨.hbm, 63, rfl⟩
abbrev main_v51 : Ref sig .tc := ⟨.hbm, 64, rfl⟩
abbrev main_cst_3 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== FfnL2.lean ====
abbrev S4x4096x1024 : Shape := ⟨3, ![4, 4096, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1024 : Shape := ⟨1, ![1024]⟩
abbrev S4x1x1024 : Shape := ⟨3, ![4, 1, 1024]⟩
abbrev S4x1x5632 : Shape := ⟨3, ![4, 1, 5632]⟩
abbrev S1x1024 : Shape := ⟨2, ![1, 1024]⟩
abbrev S1x512x1024 : Shape := ⟨3, ![1, 512, 1024]⟩
abbrev S1x1x1024 : Shape := ⟨3, ![1, 1, 1024]⟩
abbrev S1x1024x2816 : Shape := ⟨3, ![1, 1024, 2816]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S520x2816 : Shape := ⟨2, ![520, 2816]⟩
abbrev S8x2816 : Shape := ⟨2, ![8, 2816]⟩
abbrev S512x1024 : Shape := ⟨2, ![512, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S1x2816 : Shape := ⟨2, ![1, 2816]⟩
abbrev S2816x1024 : Shape := ⟨2, ![2816, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x5632, .f32⟩
  | .hbm, ⟨3, _⟩ => ⟨S4x3x5632, .f32⟩
  | .hbm, ⟨4, _⟩ => ⟨S4x5632, .f32⟩
  | .hbm, ⟨5, _⟩ => ⟨S4x2816x1024, .f32⟩
  | .hbm, ⟨6, _⟩ => ⟨S1024, .f32⟩
  | .hbm, ⟨7, _⟩ => ⟨S4x1x1024, .f32⟩
  | .hbm, ⟨8, _⟩ => ⟨S4x1024x5632, .bf16⟩
  | .hbm, ⟨9, _⟩ => ⟨S4x1x5632, .f32⟩
  | .hbm, ⟨10, _⟩ => ⟨S4x2816x1024, .bf16⟩
  | .hbm, ⟨11, _⟩ => ⟨S1x1024, .f32⟩
  | .hbm, ⟨12, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x3x2816, .f32⟩
  | .local _ .vmem, ⟨6, _⟩ => ⟨S1x3x2816, .f32⟩
  | .local _ .vmem, ⟨7, _⟩ => ⟨S1x1x2816, .f32⟩
  | .local _ .vmem, ⟨8, _⟩ => ⟨S1x1x2816, .f32⟩
  | .local _ .vmem, ⟨9, _⟩ => ⟨S1x2816x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S520x2816, .f32⟩
  | .local _ .vmem, ⟨14, _⟩ => ⟨S520x2816, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c1_i32 : BitVec 32 := 1#32
  let c0_i32_0 : BitVec 32 := 0#32
  ![c2_i32.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c1_i32 : BitVec 32 := 1#32
  let c0_i32_0 : BitVec 32 := 0#32
  ![c2_i32.toNat, c0_i32.toNat, c1_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c1_i32 : BitVec 32 := 1#32
  let c0_i32_0 : BitVec 32 := 0#32
  ![c2_i32.toNat, c0_i32.toNat, c1_i32.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnL2RefIdeal.lean ====
abbrev S4x4096x1024 : Shape := ⟨3, ![4, 4096, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x4096x5632 : Shape := ⟨3, ![4, 4096, 5632]⟩
abbrev S1x3x5632 : Shape := ⟨3, ![1, 3, 5632]⟩
abbrev S3x5632 : Shape := ⟨2, ![3, 5632]⟩
abbrev S4x4098x5632 : Shape := ⟨3, ![4, 4098, 5632]⟩
abbrev S1x5632 : Shape := ⟨2, ![1, 5632]⟩
abbrev S5632 : Shape := ⟨1, ![5632]⟩
abbrev S1x1x5632 : Shape := ⟨3, ![1, 1, 5632]⟩
abbrev S4x4096x2816 : Shape := ⟨3, ![4, 4096, 2816]⟩
abbrev S1x2816x1024 : Shape := ⟨3, ![1, 2816, 1024]⟩
abbrev S2816x1024 : Shape := ⟨2, ![2816, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x5632, .f32⟩
  | .hbm, ⟨3, _⟩ => ⟨S4x3x5632, .f32⟩
  | .hbm, ⟨4, _⟩ => ⟨S4x5632, .f32⟩
  | .hbm, ⟨5, _⟩ => ⟨S4x2816x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S1x1024x5632, .f32⟩
  | .hbm, ⟨26, _⟩ => ⟨S1024x5632, .f32⟩
  | .hbm, ⟨27, _⟩ => ⟨S4x4096x5632, .f32⟩
  | .hbm, ⟨28, _⟩ => ⟨S1x3x5632, .f32⟩
  | .hbm, ⟨29, _⟩ => ⟨S3x5632, .f32⟩
  | .hbm, ⟨30, _⟩ => ⟨S_, .i32⟩
  | .hbm, ⟨31, _⟩ => ⟨S_, .f32⟩
  | .hbm, ⟨32, _⟩ => ⟨S4x4098x5632, .f32⟩
  | .hbm, ⟨33, _⟩ => ⟨S1x5632, .f32⟩
  | .hbm, ⟨34, _⟩ => ⟨S5632, .f32⟩
  | .hbm, ⟨35, _⟩ => ⟨S4x4096x5632, .f32⟩
  | .hbm, ⟨36, _⟩ => ⟨S1x1x5632, .f32⟩
  | .hbm, ⟨37, _⟩ => ⟨S4x4096x5632, .f32⟩
  | .hbm, ⟨38, _⟩ => ⟨S4x4096x5632, .f32⟩
  | .hbm, ⟨39, _⟩ => ⟨S1x5632, .f32⟩
  | .hbm, ⟨40, _⟩ => ⟨S5632, .f32⟩
  | .hbm, ⟨41, _⟩ => ⟨S4x4096x5632, .f32⟩
  | .hbm, ⟨42, _⟩ => ⟨S1x1x5632, .f32⟩
  | .hbm, ⟨43, _⟩ => ⟨S4x4096x5632, .f32⟩
  | .hbm, ⟨44, _⟩ => ⟨S4x4096x5632, .f32⟩
  | .hbm, ⟨45, _⟩ => ⟨S4x4096x5632, .f32⟩
  | .hbm, ⟨46, _⟩ => ⟨S1x5632, .f32⟩
  | .hbm, ⟨47, _⟩ => ⟨S5632, .f32⟩
  | .hbm, ⟨48, _⟩ => ⟨S4x4096x5632, .f32⟩
  | .hbm, ⟨49, _⟩ => ⟨S1x1x5632, .f32⟩
  | .hbm, ⟨50, _⟩ => ⟨S4x4096x5632, .f32⟩
  | .hbm, ⟨51, _⟩ => ⟨S4x4096x5632, .f32⟩
  | .hbm, ⟨52, _⟩ => ⟨S4x4096x5632, .f32⟩
  | .hbm, ⟨53, _⟩ => ⟨S1x5632, .f32⟩
  | .hbm, ⟨54, _⟩ => ⟨S5632, .f32⟩
  | .hbm, ⟨55, _⟩ => ⟨S1x1x5632, .f32⟩
  | .hbm, ⟨56, _⟩ => ⟨S4x4096x5632, .f32⟩
  | .hbm, ⟨57, _⟩ => ⟨S4x4096x5632, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S_, .f32⟩
  | .hbm, ⟨63, _⟩ => ⟨S4x4096x2816, .f32⟩
  | .hbm, ⟨64, _⟩ => ⟨S4x4096x2816, .f32⟩
  | .hbm, ⟨65, _⟩ => ⟨S_, .f32⟩
  | .hbm, ⟨66, _⟩ => ⟨S4x4096x2816, .f32⟩
  | .hbm, ⟨67, _⟩ => ⟨S4x4096x2816, .f32⟩
  | .hbm, ⟨68, _⟩ => ⟨S4x4096x2816, .f32⟩
  | .hbm, ⟨69, _⟩ => ⟨S4x4096x2816, .f32⟩
  | .hbm, ⟨70, _⟩ => ⟨S1x2816x1024, .f32⟩
  | .hbm, ⟨71, _⟩ => ⟨S2816x1024, .f32⟩
  | .hbm, ⟨72, _⟩ => ⟨S4x4096x1024, .f32⟩
  | .hbm, ⟨73, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_2 : Ref sig .tc := ⟨.hbm, 62, rfl⟩
abbrev main_v50 : Ref sig .tc := ⟨.hbm, 63, rfl⟩
abbrev main_v51 : Ref sig .tc := ⟨.hbm, 64, rfl⟩
abbrev main_cst_3 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== InProj.lean ====
abbrev S16384x1024 : Shape := ⟨2, ![16384, 1024]⟩
abbrev S4x1024 : Shape := ⟨2, ![4, 1024]⟩
abbrev S4x1024x11816 : Shape := ⟨3, ![4, 1024, 11816]⟩
abbrev S4x1x1024 : Shape := ⟨3, ![4, 1, 1024]⟩
abbrev S4x1024x512 : Shape := ⟨3, ![4, 1024, 512]⟩
abbrev S4x1024x1024 : Shape := ⟨3, ![4, 1024, 1024]⟩
abbrev S4x1024x16 : Shape := ⟨3, ![4, 1024, 16]⟩
abbrev S4x1024x4 : Shape := ⟨3, ![4, 1024, 4]⟩
abbrev S4x1024x1536 : Shape := ⟨3, ![4, 1024, 1536]⟩
abbrev S4x1024x3072 : Shape := ⟨3, ![4, 1024, 3072]⟩
abbrev S_ : Shape := ⟨0, ![]⟩
abbrev S4x1024x472 : Shape := ⟨3, ![4, 1024, 472]⟩
abbrev S4x1024x12288 : Shape := ⟨3, ![4, 1024, 12288]⟩
abbrev S4x12288x1024 : Shape := ⟨3, ![4, 12288, 1024]⟩
abbrev S16384x12288 : Shape := ⟨2, ![16384, 12288]⟩
abbrev S16384x128 : Shape := ⟨2, ![16384, 128]⟩
abbrev S1024x1024 : Shape := ⟨2, ![1024, 1024]⟩
abbrev S1x1x1024 : Shape := ⟨3, ![1, 1, 1024]⟩
abbrev S1x3072x1024 : Shape := ⟨3, ![1, 3072, 1024]⟩
abbrev S1024x3072 : Shape := ⟨2, ![1024, 3072]⟩
abbrev S1024x128 : Shape := ⟨2, ![1024, 128]⟩
abbrev S1024 : Shape := ⟨1, ![1024]⟩
abbrev S1024x1 : Shape := ⟨2, ![1024, 1]⟩
abbrev S1x1024 : Shape := ⟨2, ![1, 1024]⟩
abbrev S3072x1024 : Shape := ⟨2, ![3072, 1024]⟩

abbrev nBuf : Space → Nat
  | .hbm => 25
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x11816, .f32⟩
  | .hbm, ⟨3, _⟩ => ⟨S4x1x1024, .f32⟩
  | .hbm, ⟨4, _⟩ => ⟨S4x1024x512, .f32⟩
  | .hbm, ⟨5, _⟩ => ⟨S4x1024x512, .f32⟩
  | .hbm, ⟨6, _⟩ => ⟨S4x1024x1024, .f32⟩
  | .hbm, ⟨7, _⟩ => ⟨S4x1024x16, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x4, .f32⟩
  | .hbm, ⟨12, _⟩ => ⟨S4x1024x4, .f32⟩
  | .hbm, ⟨13, _⟩ => ⟨S4x1024x1024, .f32⟩
  | .hbm, ⟨14, _⟩ => ⟨S4x1024x1024, .f32⟩
  | .hbm, ⟨15, _⟩ => ⟨S4x1024x1536, .f32⟩
  | .hbm, ⟨16, _⟩ => ⟨S4x1024x16, .f32⟩
  | .hbm, ⟨17, _⟩ => ⟨S4x1024x3072, .f32⟩
  | .hbm, ⟨18, _⟩ => ⟨S_, .f32⟩
  | .hbm, ⟨19, _⟩ => ⟨S4x1024x472, .f32⟩
  | .hbm, ⟨20, _⟩ => ⟨S4x1024x12288, .f32⟩
  | .hbm, ⟨21, _⟩ => ⟨S4x12288x1024, .f32⟩
  | .hbm, ⟨22, _⟩ => ⟨S4x12288x1024, .bf16⟩
  | .hbm, ⟨23, _⟩ => ⟨S16384x12288, .bf16⟩
  | .hbm, ⟨24, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x3072x1024, .bf16⟩
  | .local _ .vmem, ⟨4, _⟩ => ⟨S1x3072x1024, .bf16⟩
  | .local _ .vmem, ⟨5, _⟩ => ⟨S1024x3072, .bf16⟩
  | .local _ .vmem, ⟨6, _⟩ => ⟨S1024x3072, .bf16⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3072x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProjIdeal.lean ====
abbrev S16384x1024 : Shape := ⟨2, ![16384, 1024]⟩
abbrev S4x1024 : Shape := ⟨2, ![4, 1024]⟩
abbrev S4x1024x11816 : Shape := ⟨3, ![4, 1024, 11816]⟩
abbrev S4x1x1024 : Shape := ⟨3, ![4, 1, 1024]⟩
abbrev S4x1024x512 : Shape := ⟨3, ![4, 1024, 512]⟩
abbrev S4x1024x1024 : Shape := ⟨3, ![4, 1024, 1024]⟩
abbrev S4x1024x16 : Shape := ⟨3, ![4, 1024, 16]⟩
abbrev S4x1024x4 : Shape := ⟨3, ![4, 1024, 4]⟩
abbrev S4x1024x1536 : Shape := ⟨3, ![4, 1024, 1536]⟩
abbrev S4x1024x3072 : Shape := ⟨3, ![4, 1024, 3072]⟩
abbrev S_ : Shape := ⟨0, ![]⟩
abbrev S4x1024x472 : Shape := ⟨3, ![4, 1024, 472]⟩
abbrev S4x1024x12288 : Shape := ⟨3, ![4, 1024, 12288]⟩
abbrev S4x12288x1024 : Shape := ⟨3, ![4, 12288, 1024]⟩
abbrev S16384x12288 : Shape := ⟨2, ![16384, 12288]⟩
abbrev S16384x128 : Shape := ⟨2, ![16384, 128]⟩
abbrev S1024x1024 : Shape := ⟨2, ![1024, 1024]⟩
abbrev S1x1x1024 : Shape := ⟨3, ![1, 1, 1024]⟩
abbrev S1x3072x1024 : Shape := ⟨3, ![1, 3072, 1024]⟩
abbrev S1024x3072 : Shape := ⟨2, ![1024, 3072]⟩
abbrev S1024x128 : Shape := ⟨2, ![1024, 128]⟩
abbrev S1024 : Shape := ⟨1, ![1024]⟩
abbrev S1024x1 : Shape := ⟨2, ![1024, 1]⟩
abbrev S1x1024 : Shape := ⟨2, ![1, 1024]⟩
abbrev S3072x1024 : Shape := ⟨2, ![3072, 1024]⟩

abbrev nBuf : Space → Nat
  | .hbm => 25
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x11816, .f32⟩
  | .hbm, ⟨3, _⟩ => ⟨S4x1x1024, .f32⟩
  | .hbm, ⟨4, _⟩ => ⟨S4x1024x512, .f32⟩
  | .hbm, ⟨5, _⟩ => ⟨S4x1024x512, .f32⟩
  | .hbm, ⟨6, _⟩ => ⟨S4x1024x1024, .f32⟩
  | .hbm, ⟨7, _⟩ => ⟨S4x1024x16, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x4, .f32⟩
  | .hbm, ⟨12, _⟩ => ⟨S4x1024x4, .f32⟩
  | .hbm, ⟨13, _⟩ => ⟨S4x1024x1024, .f32⟩
  | .hbm, ⟨14, _⟩ => ⟨S4x1024x1024, .f32⟩
  | .hbm, ⟨15, _⟩ => ⟨S4x1024x1536, .f32⟩
  | .hbm, ⟨16, _⟩ => ⟨S4x1024x16, .f32⟩
  | .hbm, ⟨17, _⟩ => ⟨S4x1024x3072, .f32⟩
  | .hbm, ⟨18, _⟩ => ⟨S_, .f32⟩
  | .hbm, ⟨19, _⟩ => ⟨S4x1024x472, .f32⟩
  | .hbm, ⟨20, _⟩ => ⟨S4x1024x12288, .f32⟩
  | .hbm, ⟨21, _⟩ => ⟨S4x12288x1024, .f32⟩
  | .hbm, ⟨22, _⟩ => ⟨S4x12288x1024, .bf16⟩
  | .hbm, ⟨23, _⟩ => ⟨S16384x12288, .bf16⟩
  | .hbm, ⟨24, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x3072x1024, .bf16⟩
  | .local _ .vmem, ⟨4, _⟩ => ⟨S1x3072x1024, .bf16⟩
  | .local _ .vmem, ⟨5, _⟩ => ⟨S1024x3072, .bf16⟩
  | .local _ .vmem, ⟨6, _⟩ => ⟨S1024x3072, .bf16⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3072x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProjRefIdeal.lean ====
abbrev S16384x1024 : Shape := ⟨2, ![16384, 1024]⟩
abbrev S4x1024 : Shape := ⟨2, ![4, 1024]⟩
abbrev S4x1024x11816 : Shape := ⟨3, ![4, 1024, 11816]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x11816 : Shape := ⟨3, ![1, 1024, 11816]⟩
abbrev S1024x11816 : Shape := ⟨2, ![1024, 11816]⟩
abbrev S16384x11816 : Shape := ⟨2, ![16384, 11816]⟩
abbrev S16384x512 : Shape := ⟨2, ![16384, 512]⟩
abbrev S16384x16 : Shape := ⟨2, ![16384, 16]⟩
abbrev S16384x4 : Shape := ⟨2, ![16384, 4]⟩
abbrev S16384x1536 : Shape := ⟨2, ![16384, 1536]⟩
abbrev S16384x3072 : Shape := ⟨2, ![16384, 3072]⟩
abbrev S16384x472 : Shape := ⟨2, ![16384, 472]⟩
abbrev S16384x12288 : Shape := ⟨2, ![16384, 12288]⟩
abbrev S16384x88 : Shape := ⟨2, ![16384, 88]⟩
abbrev S16384x128 : Shape := ⟨2, ![16384, 128]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x11816, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1x1024x11816, .f32⟩
  | .hbm, ⟨22, _⟩ => ⟨S1024x11816, .f32⟩
  | .hbm, ⟨23, _⟩ => ⟨S16384x11816, .f32⟩
  | .hbm, ⟨24, _⟩ => ⟨S16384x512, .f32⟩
  | .hbm, ⟨25, _⟩ => ⟨S16384x512, .f32⟩
  | .hbm, ⟨26, _⟩ => ⟨S16384x1024, .f32⟩
  | .hbm, ⟨27, _⟩ => ⟨S16384x16, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x4, .f32⟩
  | .hbm, ⟨32, _⟩ => ⟨S16384x4, .f32⟩
  | .hbm, ⟨33, _⟩ => ⟨S16384x1024, .f32⟩
  | .hbm, ⟨34, _⟩ => ⟨S16384x1024, .f32⟩
  | .hbm, ⟨35, _⟩ => ⟨S16384x1536, .f32⟩
  | .hbm, ⟨36, _⟩ => ⟨S16384x16, .f32⟩
  | .hbm, ⟨37, _⟩ => ⟨S16384x3072, .f32⟩
  | .hbm, ⟨38, _⟩ => ⟨S_, .f32⟩
  | .hbm, ⟨39, _⟩ => ⟨S16384x472, .f32⟩
  | .hbm, ⟨40, _⟩ => ⟨S16384x12288, .f32⟩
  | .hbm, ⟨41, _⟩ => ⟨S_, .f32⟩
  | .hbm, ⟨42, _⟩ => ⟨S16384x88, .f32⟩
  | .hbm, ⟨43, _⟩ => ⟨S16384x128, .f32⟩
  | .hbm, ⟨44, _⟩ => ⟨S16384x12288, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== InProjL1.lean ====
abbrev S16384x1024 : Shape := ⟨2, ![16384, 1024]⟩
abbrev S4x1024 : Shape := ⟨2, ![4, 1024]⟩
abbrev S4x1024x11816 : Shape := ⟨3, ![4, 1024, 11816]⟩
abbrev S4x1x1024 : Shape := ⟨3, ![4, 1, 1024]⟩
abbrev S4x1024x512 : Shape := ⟨3, ![4, 1024, 512]⟩
abbrev S4x1024x1024 : Shape := ⟨3, ![4, 1024, 1024]⟩
abbrev S4x1024x16 : Shape := ⟨3, ![4, 1024, 16]⟩
abbrev S4x1024x4 : Shape := ⟨3, ![4, 1024, 4]⟩
abbrev S4x1024x1536 : Shape := ⟨3, ![4, 1024, 1536]⟩
abbrev S4x1024x3072 : Shape := ⟨3, ![4, 1024, 3072]⟩
abbrev S_ : Shape := ⟨0, ![]⟩
abbrev S4x1024x472 : Shape := ⟨3, ![4, 1024, 472]⟩
abbrev S4x1024x12288 : Shape := ⟨3, ![4, 1024, 12288]⟩
abbrev S4x12288x1024 : Shape := ⟨3, ![4, 12288, 1024]⟩
abbrev S16384x12288 : Shape := ⟨2, ![16384, 12288]⟩
abbrev S16384x128 : Shape := ⟨2, ![16384, 128]⟩
abbrev S1024x1024 : Shape := ⟨2, ![1024, 1024]⟩
abbrev S1x1x1024 : Shape := ⟨3, ![1, 1, 1024]⟩
abbrev S1x3072x1024 : Shape := ⟨3, ![1, 3072, 1024]⟩
abbrev S1024x3072 : Shape := ⟨2, ![1024, 3072]⟩
abbrev S1024x128 : Shape := ⟨2, ![1024, 128]⟩
abbrev S1024 : Shape := ⟨1, ![1024]⟩
abbrev S1024x1 : Shape := ⟨2, ![1024, 1]⟩
abbrev S1x1024 : Shape := ⟨2, ![1, 1024]⟩
abbrev S3072x1024 : Shape := ⟨2, ![3072, 1024]⟩

abbrev nBuf : Space → Nat
  | .hbm => 25
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x11816, .f32⟩
  | .hbm, ⟨3, _⟩ => ⟨S4x1x1024, .f32⟩
  | .hbm, ⟨4, _⟩ => ⟨S4x1024x512, .f32⟩
  | .hbm, ⟨5, _⟩ => ⟨S4x1024x512, .f32⟩
  | .hbm, ⟨6, _⟩ => ⟨S4x1024x1024, .f32⟩
  | .hbm, ⟨7, _⟩ => ⟨S4x1024x16, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x4, .f32⟩
  | .hbm, ⟨12, _⟩ => ⟨S4x1024x4, .f32⟩
  | .hbm, ⟨13, _⟩ => ⟨S4x1024x1024, .f32⟩
  | .hbm, ⟨14, _⟩ => ⟨S4x1024x1024, .f32⟩
  | .hbm, ⟨15, _⟩ => ⟨S4x1024x1536, .f32⟩
  | .hbm, ⟨16, _⟩ => ⟨S4x1024x16, .f32⟩
  | .hbm, ⟨17, _⟩ => ⟨S4x1024x3072, .f32⟩
  | .hbm, ⟨18, _⟩ => ⟨S_, .f32⟩
  | .hbm, ⟨19, _⟩ => ⟨S4x1024x472, .f32⟩
  | .hbm, ⟨20, _⟩ => ⟨S4x1024x12288, .f32⟩
  | .hbm, ⟨21, _⟩ => ⟨S4x12288x1024, .f32⟩
  | .hbm, ⟨22, _⟩ => ⟨S4x12288x1024, .bf16⟩
  | .hbm, ⟨23, _⟩ => ⟨S16384x12288, .bf16⟩
  | .hbm, ⟨24, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x3072x1024, .bf16⟩
  | .local _ .vmem, ⟨4, _⟩ => ⟨S1x3072x1024, .bf16⟩
  | .local _ .vmem, ⟨5, _⟩ => ⟨S1024x3072, .bf16⟩
  | .local _ .vmem, ⟨6, _⟩ => ⟨S1024x3072, .bf16⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3072x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProjL1Ideal.lean ====
abbrev S16384x1024 : Shape := ⟨2, ![16384, 1024]⟩
abbrev S4x1024 : Shape := ⟨2, ![4, 1024]⟩
abbrev S4x1024x11816 : Shape := ⟨3, ![4, 1024, 11816]⟩
abbrev S4x1x1024 : Shape := ⟨3, ![4, 1, 1024]⟩
abbrev S4x1024x512 : Shape := ⟨3, ![4, 1024, 512]⟩
abbrev S4x1024x1024 : Shape := ⟨3, ![4, 1024, 1024]⟩
abbrev S4x1024x16 : Shape := ⟨3, ![4, 1024, 16]⟩
abbrev S4x1024x4 : Shape := ⟨3, ![4, 1024, 4]⟩
abbrev S4x1024x1536 : Shape := ⟨3, ![4, 1024, 1536]⟩
abbrev S4x1024x3072 : Shape := ⟨3, ![4, 1024, 3072]⟩
abbrev S_ : Shape := ⟨0, ![]⟩
abbrev S4x1024x472 : Shape := ⟨3, ![4, 1024, 472]⟩
abbrev S4x1024x12288 : Shape := ⟨3, ![4, 1024, 12288]⟩
abbrev S4x12288x1024 : Shape := ⟨3, ![4, 12288, 1024]⟩
abbrev S16384x12288 : Shape := ⟨2, ![16384, 12288]⟩
abbrev S16384x128 : Shape := ⟨2, ![16384, 128]⟩
abbrev S1024x1024 : Shape := ⟨2, ![1024, 1024]⟩
abbrev S1x1x1024 : Shape := ⟨3, ![1, 1, 1024]⟩
abbrev S1x3072x1024 : Shape := ⟨3, ![1, 3072, 1024]⟩
abbrev S1024x3072 : Shape := ⟨2, ![1024, 3072]⟩
abbrev S1024x128 : Shape := ⟨2, ![1024, 128]⟩
abbrev S1024 : Shape := ⟨1, ![1024]⟩
abbrev S1024x1 : Shape := ⟨2, ![1024, 1]⟩
abbrev S1x1024 : Shape := ⟨2, ![1, 1024]⟩
abbrev S3072x1024 : Shape := ⟨2, ![3072, 1024]⟩

abbrev nBuf : Space → Nat
  | .hbm => 25
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x11816, .f32⟩
  | .hbm, ⟨3, _⟩ => ⟨S4x1x1024, .f32⟩
  | .hbm, ⟨4, _⟩ => ⟨S4x1024x512, .f32⟩
  | .hbm, ⟨5, _⟩ => ⟨S4x1024x512, .f32⟩
  | .hbm, ⟨6, _⟩ => ⟨S4x1024x1024, .f32⟩
  | .hbm, ⟨7, _⟩ => ⟨S4x1024x16, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x4, .f32⟩
  | .hbm, ⟨12, _⟩ => ⟨S4x1024x4, .f32⟩
  | .hbm, ⟨13, _⟩ => ⟨S4x1024x1024, .f32⟩
  | .hbm, ⟨14, _⟩ => ⟨S4x1024x1024, .f32⟩
  | .hbm, ⟨15, _⟩ => ⟨S4x1024x1536, .f32⟩
  | .hbm, ⟨16, _⟩ => ⟨S4x1024x16, .f32⟩
  | .hbm, ⟨17, _⟩ => ⟨S4x1024x3072, .f32⟩
  | .hbm, ⟨18, _⟩ => ⟨S_, .f32⟩
  | .hbm, ⟨19, _⟩ => ⟨S4x1024x472, .f32⟩
  | .hbm, ⟨20, _⟩ => ⟨S4x1024x12288, .f32⟩
  | .hbm, ⟨21, _⟩ => ⟨S4x12288x1024, .f32⟩
  | .hbm, ⟨22, _⟩ => ⟨S4x12288x1024, .bf16⟩
  | .hbm, ⟨23, _⟩ => ⟨S16384x12288, .bf16⟩
  | .hbm, ⟨24, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x3072x1024, .bf16⟩
  | .local _ .vmem, ⟨4, _⟩ => ⟨S1x3072x1024, .bf16⟩
  | .local _ .vmem, ⟨5, _⟩ => ⟨S1024x3072, .bf16⟩
  | .local _ .vmem, ⟨6, _⟩ => ⟨S1024x3072, .bf16⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3072x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProjL1RefIdeal.lean ====
abbrev S16384x1024 : Shape := ⟨2, ![16384, 1024]⟩
abbrev S4x1024 : Shape := ⟨2, ![4, 1024]⟩
abbrev S4x1024x11816 : Shape := ⟨3, ![4, 1024, 11816]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x11816 : Shape := ⟨3, ![1, 1024, 11816]⟩
abbrev S1024x11816 : Shape := ⟨2, ![1024, 11816]⟩
abbrev S16384x11816 : Shape := ⟨2, ![16384, 11816]⟩
abbrev S16384x512 : Shape := ⟨2, ![16384, 512]⟩
abbrev S16384x16 : Shape := ⟨2, ![16384, 16]⟩
abbrev S16384x4 : Shape := ⟨2, ![16384, 4]⟩
abbrev S16384x1536 : Shape := ⟨2, ![16384, 1536]⟩
abbrev S16384x3072 : Shape := ⟨2, ![16384, 3072]⟩
abbrev S16384x472 : Shape := ⟨2, ![16384, 472]⟩
abbrev S16384x12288 : Shape := ⟨2, ![16384, 12288]⟩
abbrev S16384x88 : Shape := ⟨2, ![16384, 88]⟩
abbrev S16384x128 : Shape := ⟨2, ![16384, 128]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x11816, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1x1024x11816, .f32⟩
  | .hbm, ⟨22, _⟩ => ⟨S1024x11816, .f32⟩
  | .hbm, ⟨23, _⟩ => ⟨S16384x11816, .f32⟩
  | .hbm, ⟨24, _⟩ => ⟨S16384x512, .f32⟩
  | .hbm, ⟨25, _⟩ => ⟨S16384x512, .f32⟩
  | .hbm, ⟨26, _⟩ => ⟨S16384x1024, .f32⟩
  | .hbm, ⟨27, _⟩ => ⟨S16384x16, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x4, .f32⟩
  | .hbm, ⟨32, _⟩ => ⟨S16384x4, .f32⟩
  | .hbm, ⟨33, _⟩ => ⟨S16384x1024, .f32⟩
  | .hbm, ⟨34, _⟩ => ⟨S16384x1024, .f32⟩
  | .hbm, ⟨35, _⟩ => ⟨S16384x1536, .f32⟩
  | .hbm, ⟨36, _⟩ => ⟨S16384x16, .f32⟩
  | .hbm, ⟨37, _⟩ => ⟨S16384x3072, .f32⟩
  | .hbm, ⟨38, _⟩ => ⟨S_, .f32⟩
  | .hbm, ⟨39, _⟩ => ⟨S16384x472, .f32⟩
  | .hbm, ⟨40, _⟩ => ⟨S16384x12288, .f32⟩
  | .hbm, ⟨41, _⟩ => ⟨S_, .f32⟩
  | .hbm, ⟨42, _⟩ => ⟨S16384x88, .f32⟩
  | .hbm, ⟨43, _⟩ => ⟨S16384x128, .f32⟩
  | .hbm, ⟨44, _⟩ => ⟨S16384x12288, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== InProjL2.lean ====
abbrev S16384x1024 : Shape := ⟨2, ![16384, 1024]⟩
abbrev S4x1024 : Shape := ⟨2, ![4, 1024]⟩
abbrev S4x1024x11816 : Shape := ⟨3, ![4, 1024, 11816]⟩
abbrev S4x1x1024 : Shape := ⟨3, ![4, 1, 1024]⟩
abbrev S4x1024x512 : Shape := ⟨3, ![4, 1024, 512]⟩
abbrev S4x1024x1024 : Shape := ⟨3, ![4, 1024, 1024]⟩
abbrev S4x1024x16 : Shape := ⟨3, ![4, 1024, 16]⟩
abbrev S4x1024x4 : Shape := ⟨3, ![4, 1024, 4]⟩
abbrev S4x1024x1536 : Shape := ⟨3, ![4, 1024, 1536]⟩
abbrev S4x1024x3072 : Shape := ⟨3, ![4, 1024, 3072]⟩
abbrev S_ : Shape := ⟨0, ![]⟩
abbrev S4x1024x472 : Shape := ⟨3, ![4, 1024, 472]⟩
abbrev S4x1024x12288 : Shape := ⟨3, ![4, 1024, 12288]⟩
abbrev S4x12288x1024 : Shape := ⟨3, ![4, 12288, 1024]⟩
abbrev S16384x12288 : Shape := ⟨2, ![16384, 12288]⟩
abbrev S16384x128 : Shape := ⟨2, ![16384, 128]⟩
abbrev S1024x1024 : Shape := ⟨2, ![1024, 1024]⟩
abbrev S1x1x1024 : Shape := ⟨3, ![1, 1, 1024]⟩
abbrev S1x3072x1024 : Shape := ⟨3, ![1, 3072, 1024]⟩
abbrev S1024x3072 : Shape := ⟨2, ![1024, 3072]⟩
abbrev S1024x128 : Shape := ⟨2, ![1024, 128]⟩
abbrev S1024 : Shape := ⟨1, ![1024]⟩
abbrev S1024x1 : Shape := ⟨2, ![1024, 1]⟩
abbrev S1x1024 : Shape := ⟨2, ![1, 1024]⟩
abbrev S3072x1024 : Shape := ⟨2, ![3072, 1024]⟩

abbrev nBuf : Space → Nat
  | .hbm => 25
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x11816, .f32⟩
  | .hbm, ⟨3, _⟩ => ⟨S4x1x1024, .f32⟩
  | .hbm, ⟨4, _⟩ => ⟨S4x1024x512, .f32⟩
  | .hbm, ⟨5, _⟩ => ⟨S4x1024x512, .f32⟩
  | .hbm, ⟨6, _⟩ => ⟨S4x1024x1024, .f32⟩
  | .hbm, ⟨7, _⟩ => ⟨S4x1024x16, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x4, .f32⟩
  | .hbm, ⟨12, _⟩ => ⟨S4x1024x4, .f32⟩
  | .hbm, ⟨13, _⟩ => ⟨S4x1024x1024, .f32⟩
  | .hbm, ⟨14, _⟩ => ⟨S4x1024x1024, .f32⟩
  | .hbm, ⟨15, _⟩ => ⟨S4x1024x1536, .f32⟩
  | .hbm, ⟨16, _⟩ => ⟨S4x1024x16, .f32⟩
  | .hbm, ⟨17, _⟩ => ⟨S4x1024x3072, .f32⟩
  | .hbm, ⟨18, _⟩ => ⟨S_, .f32⟩
  | .hbm, ⟨19, _⟩ => ⟨S4x1024x472, .f32⟩
  | .hbm, ⟨20, _⟩ => ⟨S4x1024x12288, .f32⟩
  | .hbm, ⟨21, _⟩ => ⟨S4x12288x1024, .f32⟩
  | .hbm, ⟨22, _⟩ => ⟨S4x12288x1024, .bf16⟩
  | .hbm, ⟨23, _⟩ => ⟨S16384x12288, .bf16⟩
  | .hbm, ⟨24, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x3072x1024, .bf16⟩
  | .local _ .vmem, ⟨4, _⟩ => ⟨S1x3072x1024, .bf16⟩
  | .local _ .vmem, ⟨5, _⟩ => ⟨S1024x3072, .bf16⟩
  | .local _ .vmem, ⟨6, _⟩ => ⟨S1024x3072, .bf16⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3072x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProjL2Ideal.lean ====
abbrev S16384x1024 : Shape := ⟨2, ![16384, 1024]⟩
abbrev S4x1024 : Shape := ⟨2, ![4, 1024]⟩
abbrev S4x1024x11816 : Shape := ⟨3, ![4, 1024, 11816]⟩
abbrev S4x1x1024 : Shape := ⟨3, ![4, 1, 1024]⟩
abbrev S4x1024x512 : Shape := ⟨3, ![4, 1024, 512]⟩
abbrev S4x1024x1024 : Shape := ⟨3, ![4, 1024, 1024]⟩
abbrev S4x1024x16 : Shape := ⟨3, ![4, 1024, 16]⟩
abbrev S4x1024x4 : Shape := ⟨3, ![4, 1024, 4]⟩
abbrev S4x1024x1536 : Shape := ⟨3, ![4, 1024, 1536]⟩
abbrev S4x1024x3072 : Shape := ⟨3, ![4, 1024, 3072]⟩
abbrev S_ : Shape := ⟨0, ![]⟩
abbrev S4x1024x472 : Shape := ⟨3, ![4, 1024, 472]⟩
abbrev S4x1024x12288 : Shape := ⟨3, ![4, 1024, 12288]⟩
abbrev S4x12288x1024 : Shape := ⟨3, ![4, 12288, 1024]⟩
abbrev S16384x12288 : Shape := ⟨2, ![16384, 12288]⟩
abbrev S16384x128 : Shape := ⟨2, ![16384, 128]⟩
abbrev S1024x1024 : Shape := ⟨2, ![1024, 1024]⟩
abbrev S1x1x1024 : Shape := ⟨3, ![1, 1, 1024]⟩
abbrev S1x3072x1024 : Shape := ⟨3, ![1, 3072, 1024]⟩
abbrev S1024x3072 : Shape := ⟨2, ![1024, 3072]⟩
abbrev S1024x128 : Shape := ⟨2, ![1024, 128]⟩
abbrev S1024 : Shape := ⟨1, ![1024]⟩
abbrev S1024x1 : Shape := ⟨2, ![1024, 1]⟩
abbrev S1x1024 : Shape := ⟨2, ![1, 1024]⟩
abbrev S3072x1024 : Shape := ⟨2, ![3072, 1024]⟩

abbrev nBuf : Space → Nat
  | .hbm => 25
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x11816, .f32⟩
  | .hbm, ⟨3, _⟩ => ⟨S4x1x1024, .f32⟩
  | .hbm, ⟨4, _⟩ => ⟨S4x1024x512, .f32⟩
  | .hbm, ⟨5, _⟩ => ⟨S4x1024x512, .f32⟩
  | .hbm, ⟨6, _⟩ => ⟨S4x1024x1024, .f32⟩
  | .hbm, ⟨7, _⟩ => ⟨S4x1024x16, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x4, .f32⟩
  | .hbm, ⟨12, _⟩ => ⟨S4x1024x4, .f32⟩
  | .hbm, ⟨13, _⟩ => ⟨S4x1024x1024, .f32⟩
  | .hbm, ⟨14, _⟩ => ⟨S4x1024x1024, .f32⟩
  | .hbm, ⟨15, _⟩ => ⟨S4x1024x1536, .f32⟩
  | .hbm, ⟨16, _⟩ => ⟨S4x1024x16, .f32⟩
  | .hbm, ⟨17, _⟩ => ⟨S4x1024x3072, .f32⟩
  | .hbm, ⟨18, _⟩ => ⟨S_, .f32⟩
  | .hbm, ⟨19, _⟩ => ⟨S4x1024x472, .f32⟩
  | .hbm, ⟨20, _⟩ => ⟨S4x1024x12288, .f32⟩
  | .hbm, ⟨21, _⟩ => ⟨S4x12288x1024, .f32⟩
  | .hbm, ⟨22, _⟩ => ⟨S4x12288x1024, .bf16⟩
  | .hbm, ⟨23, _⟩ => ⟨S16384x12288, .bf16⟩
  | .hbm, ⟨24, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x3072x1024, .bf16⟩
  | .local _ .vmem, ⟨4, _⟩ => ⟨S1x3072x1024, .bf16⟩
  | .local _ .vmem, ⟨5, _⟩ => ⟨S1024x3072, .bf16⟩
  | .local _ .vmem, ⟨6, _⟩ => ⟨S1024x3072, .bf16⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3072x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProjL2RefIdeal.lean ====
abbrev S16384x1024 : Shape := ⟨2, ![16384, 1024]⟩
abbrev S4x1024 : Shape := ⟨2, ![4, 1024]⟩
abbrev S4x1024x11816 : Shape := ⟨3, ![4, 1024, 11816]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x11816 : Shape := ⟨3, ![1, 1024, 11816]⟩
abbrev S1024x11816 : Shape := ⟨2, ![1024, 11816]⟩
abbrev S16384x11816 : Shape := ⟨2, ![16384, 11816]⟩
abbrev S16384x512 : Shape := ⟨2, ![16384, 512]⟩
abbrev S16384x16 : Shape := ⟨2, ![16384, 16]⟩
abbrev S16384x4 : Shape := ⟨2, ![16384, 4]⟩
abbrev S16384x1536 : Shape := ⟨2, ![16384, 1536]⟩
abbrev S16384x3072 : Shape := ⟨2, ![16384, 3072]⟩
abbrev S16384x472 : Shape := ⟨2, ![16384, 472]⟩
abbrev S16384x12288 : Shape := ⟨2, ![16384, 12288]⟩
abbrev S16384x88 : Shape := ⟨2, ![16384, 88]⟩
abbrev S16384x128 : Shape := ⟨2, ![16384, 128]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x11816, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1x1024x11816, .f32⟩
  | .hbm, ⟨22, _⟩ => ⟨S1024x11816, .f32⟩
  | .hbm, ⟨23, _⟩ => ⟨S16384x11816, .f32⟩
  | .hbm, ⟨24, _⟩ => ⟨S16384x512, .f32⟩
  | .hbm, ⟨25, _⟩ => ⟨S16384x512, .f32⟩
  | .hbm, ⟨26, _⟩ => ⟨S16384x1024, .f32⟩
  | .hbm, ⟨27, _⟩ => ⟨S16384x16, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x4, .f32⟩
  | .hbm, ⟨32, _⟩ => ⟨S16384x4, .f32⟩
  | .hbm, ⟨33, _⟩ => ⟨S16384x1024, .f32⟩
  | .hbm, ⟨34, _⟩ => ⟨S16384x1024, .f32⟩
  | .hbm, ⟨35, _⟩ => ⟨S16384x1536, .f32⟩
  | .hbm, ⟨36, _⟩ => ⟨S16384x16, .f32⟩
  | .hbm, ⟨37, _⟩ => ⟨S16384x3072, .f32⟩
  | .hbm, ⟨38, _⟩ => ⟨S_, .f32⟩
  | .hbm, ⟨39, _⟩ => ⟨S16384x472, .f32⟩
  | .hbm, ⟨40, _⟩ => ⟨S16384x12288, .f32⟩
  | .hbm, ⟨41, _⟩ => ⟨S_, .f32⟩
  | .hbm, ⟨42, _⟩ => ⟨S16384x88, .f32⟩
  | .hbm, ⟨43, _⟩ => ⟨S16384x128, .f32⟩
  | .hbm, ⟨44, _⟩ => ⟨S16384x12288, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== InProjL3.lean ====
abbrev S16384x1024 : Shape := ⟨2, ![16384, 1024]⟩
abbrev S4x1024 : Shape := ⟨2, ![4, 1024]⟩
abbrev S4x1024x11816 : Shape := ⟨3, ![4, 1024, 11816]⟩
abbrev S4x1x1024 : Shape := ⟨3, ![4, 1, 1024]⟩
abbrev S4x1024x512 : Shape := ⟨3, ![4, 1024, 512]⟩
abbrev S4x1024x1024 : Shape := ⟨3, ![4, 1024, 1024]⟩
abbrev S4x1024x16 : Shape := ⟨3, ![4, 1024, 16]⟩
abbrev S4x1024x4 : Shape := ⟨3, ![4, 1024, 4]⟩
abbrev S4x1024x1536 : Shape := ⟨3, ![4, 1024, 1536]⟩
abbrev S4x1024x3072 : Shape := ⟨3, ![4, 1024, 3072]⟩
abbrev S_ : Shape := ⟨0, ![]⟩
abbrev S4x1024x472 : Shape := ⟨3, ![4, 1024, 472]⟩
abbrev S4x1024x12288 : Shape := ⟨3, ![4, 1024, 12288]⟩
abbrev S4x12288x1024 : Shape := ⟨3, ![4, 12288, 1024]⟩
abbrev S16384x12288 : Shape := ⟨2, ![16384, 12288]⟩
abbrev S16384x128 : Shape := ⟨2, ![16384, 128]⟩
abbrev S1024x1024 : Shape := ⟨2, ![1024, 1024]⟩
abbrev S1x1x1024 : Shape := ⟨3, ![1, 1, 1024]⟩
abbrev S1x3072x1024 : Shape := ⟨3, ![1, 3072, 1024]⟩
abbrev S1024x3072 : Shape := ⟨2, ![1024, 3072]⟩
abbrev S1024x128 : Shape := ⟨2, ![1024, 128]⟩
abbrev S1024 : Shape := ⟨1, ![1024]⟩
abbrev S1024x1 : Shape := ⟨2, ![1024, 1]⟩
abbrev S1x1024 : Shape := ⟨2, ![1, 1024]⟩
abbrev S3072x1024 : Shape := ⟨2, ![3072, 1024]⟩

abbrev nBuf : Space → Nat
  | .hbm => 25
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x11816, .f32⟩
  | .hbm, ⟨3, _⟩ => ⟨S4x1x1024, .f32⟩
  | .hbm, ⟨4, _⟩ => ⟨S4x1024x512, .f32⟩
  | .hbm, ⟨5, _⟩ => ⟨S4x1024x512, .f32⟩
  | .hbm, ⟨6, _⟩ => ⟨S4x1024x1024, .f32⟩
  | .hbm, ⟨7, _⟩ => ⟨S4x1024x16, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x4, .f32⟩
  | .hbm, ⟨12, _⟩ => ⟨S4x1024x4, .f32⟩
  | .hbm, ⟨13, _⟩ => ⟨S4x1024x1024, .f32⟩
  | .hbm, ⟨14, _⟩ => ⟨S4x1024x1024, .f32⟩
  | .hbm, ⟨15, _⟩ => ⟨S4x1024x1536, .f32⟩
  | .hbm, ⟨16, _⟩ => ⟨S4x1024x16, .f32⟩
  | .hbm, ⟨17, _⟩ => ⟨S4x1024x3072, .f32⟩
  | .hbm, ⟨18, _⟩ => ⟨S_, .f32⟩
  | .hbm, ⟨19, _⟩ => ⟨S4x1024x472, .f32⟩
  | .hbm, ⟨20, _⟩ => ⟨S4x1024x12288, .f32⟩
  | .hbm, ⟨21, _⟩ => ⟨S4x12288x1024, .f32⟩
  | .hbm, ⟨22, _⟩ => ⟨S4x12288x1024, .bf16⟩
  | .hbm, ⟨23, _⟩ => ⟨S16384x12288, .bf16⟩
  | .hbm, ⟨24, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x3072x1024, .bf16⟩
  | .local _ .vmem, ⟨4, _⟩ => ⟨S1x3072x1024, .bf16⟩
  | .local _ .vmem, ⟨5, _⟩ => ⟨S1024x3072, .bf16⟩
  | .local _ .vmem, ⟨6, _⟩ => ⟨S1024x3072, .bf16⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3072x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProjL3RefIdeal.lean ====
abbrev S16384x1024 : Shape := ⟨2, ![16384, 1024]⟩
abbrev S4x1024 : Shape := ⟨2, ![4, 1024]⟩
abbrev S4x1024x11816 : Shape := ⟨3, ![4, 1024, 11816]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x11816 : Shape := ⟨3, ![1, 1024, 11816]⟩
abbrev S1024x11816 : Shape := ⟨2, ![1024, 11816]⟩
abbrev S16384x11816 : Shape := ⟨2, ![16384, 11816]⟩
abbrev S16384x512 : Shape := ⟨2, ![16384, 512]⟩
abbrev S16384x16 : Shape := ⟨2, ![16384, 16]⟩
abbrev S16384x4 : Shape := ⟨2, ![16384, 4]⟩
abbrev S16384x1536 : Shape := ⟨2, ![16384, 1536]⟩
abbrev S16384x3072 : Shape := ⟨2, ![16384, 3072]⟩
abbrev S16384x472 : Shape := ⟨2, ![16384, 472]⟩
abbrev S16384x12288 : Shape := ⟨2, ![16384, 12288]⟩
abbrev S16384x88 : Shape := ⟨2, ![16384, 88]⟩
abbrev S16384x128 : Shape := ⟨2, ![16384, 128]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x11816, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1x1024x11816, .f32⟩
  | .hbm, ⟨22, _⟩ => ⟨S1024x11816, .f32⟩
  | .hbm, ⟨23, _⟩ => ⟨S16384x11816, .f32⟩
  | .hbm, ⟨24, _⟩ => ⟨S16384x512, .f32⟩
  | .hbm, ⟨25, _⟩ => ⟨S16384x512, .f32⟩
  | .hbm, ⟨26, _⟩ => ⟨S16384x1024, .f32⟩
  | .hbm, ⟨27, _⟩ => ⟨S16384x16, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x4, .f32⟩
  | .hbm, ⟨32, _⟩ => ⟨S16384x4, .f32⟩
  | .hbm, ⟨33, _⟩ => ⟨S16384x1024, .f32⟩
  | .hbm, ⟨34, _⟩ => ⟨S16384x1024, .f32⟩
  | .hbm, ⟨35, _⟩ => ⟨S16384x1536, .f32⟩
  | .hbm, ⟨36, _⟩ => ⟨S16384x16, .f32⟩
  | .hbm, ⟨37, _⟩ => ⟨S16384x3072, .f32⟩
  | .hbm, ⟨38, _⟩ => ⟨S_, .f32⟩
  | .hbm, ⟨39, _⟩ => ⟨S16384x472, .f32⟩
  | .hbm, ⟨40, _⟩ => ⟨S16384x12288, .f32⟩
  | .hbm, ⟨41, _⟩ => ⟨S_, .f32⟩
  | .hbm, ⟨42, _⟩ => ⟨S16384x88, .f32⟩
  | .hbm, ⟨43, _⟩ => ⟨S16384x128, .f32⟩
  | .hbm, ⟨44, _⟩ => ⟨S16384x12288, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Merge.lean ====
abbrev S16384x1024 : Shape := ⟨2, ![16384, 1024]⟩
abbrev S16384x12288 : Shape := ⟨2, ![16384, 12288]⟩
abbrev S4x3072 : Shape := ⟨2, ![4, 3072]⟩
abbrev S4x3x1024x1024 : Shape := ⟨4, ![4, 3, 1024, 1024]⟩
abbrev S4x1024x1024 : Shape := ⟨3, ![4, 1024, 1024]⟩
abbrev S4x1x3072 : Shape := ⟨3, ![4, 1, 3072]⟩
abbrev S512x1024 : Shape := ⟨2, ![512, 1024]⟩
abbrev S512x3072 : Shape := ⟨2, ![512, 3072]⟩
abbrev S1x1x3072 : Shape := ⟨3, ![1, 1, 3072]⟩
abbrev S1x3x1024x1024 : Shape := ⟨4, ![1, 3, 1024, 1024]⟩
abbrev S1x1024x1024 : Shape := ⟨3, ![1, 1024, 1024]⟩
abbrev S1x1x1024x1024 : Shape := ⟨4, ![1, 1, 1024, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 12
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x12288, .bf16⟩
  | .hbm, ⟨4, _⟩ => ⟨S4x3072, .f32⟩
  | .hbm, ⟨5, _⟩ => ⟨S4x3x1024x1024, .f32⟩
  | .hbm, ⟨6, _⟩ => ⟨S4x1024x1024, .f32⟩
  | .hbm, ⟨7, _⟩ => ⟨S16384x1024, .f32⟩
  | .hbm, ⟨8, _⟩ => ⟨S4x1x3072, .f32⟩
  | .hbm, ⟨9, _⟩ => ⟨S4x3x1024x1024, .bf16⟩
  | .hbm, ⟨10, _⟩ => ⟨S4x1024x1024, .bf16⟩
  | .hbm, ⟨11, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S1x1x3072, .f32⟩
  | .local _ .vmem, ⟨9, _⟩ => ⟨S1x3x1024x1024, .bf16⟩
  | .local _ .vmem, ⟨10, _⟩ => ⟨S1x1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeIdeal.lean ====
abbrev S16384x1024 : Shape := ⟨2, ![16384, 1024]⟩
abbrev S16384x12288 : Shape := ⟨2, ![16384, 12288]⟩
abbrev S4x3072 : Shape := ⟨2, ![4, 3072]⟩
abbrev S4x3x1024x1024 : Shape := ⟨4, ![4, 3, 1024, 1024]⟩
abbrev S4x1024x1024 : Shape := ⟨3, ![4, 1024, 1024]⟩
abbrev S4x1x3072 : Shape := ⟨3, ![4, 1, 3072]⟩
abbrev S512x1024 : Shape := ⟨2, ![512, 1024]⟩
abbrev S512x3072 : Shape := ⟨2, ![512, 3072]⟩
abbrev S1x1x3072 : Shape := ⟨3, ![1, 1, 3072]⟩
abbrev S1x3x1024x1024 : Shape := ⟨4, ![1, 3, 1024, 1024]⟩
abbrev S1x1024x1024 : Shape := ⟨3, ![1, 1024, 1024]⟩
abbrev S1x1x1024x1024 : Shape := ⟨4, ![1, 1, 1024, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 12
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x12288, .bf16⟩
  | .hbm, ⟨4, _⟩ => ⟨S4x3072, .f32⟩
  | .hbm, ⟨5, _⟩ => ⟨S4x3x1024x1024, .f32⟩
  | .hbm, ⟨6, _⟩ => ⟨S4x1024x1024, .f32⟩
  | .hbm, ⟨7, _⟩ => ⟨S16384x1024, .f32⟩
  | .hbm, ⟨8, _⟩ => ⟨S4x1x3072, .f32⟩
  | .hbm, ⟨9, _⟩ => ⟨S4x3x1024x1024, .bf16⟩
  | .hbm, ⟨10, _⟩ => ⟨S4x1024x1024, .bf16⟩
  | .hbm, ⟨11, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S1x1x3072, .f32⟩
  | .local _ .vmem, ⟨9, _⟩ => ⟨S1x3x1024x1024, .bf16⟩
  | .local _ .vmem, ⟨10, _⟩ => ⟨S1x1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S16384x1024 : Shape := ⟨2, ![16384, 1024]⟩
abbrev S16384x12288 : Shape := ⟨2, ![16384, 12288]⟩
abbrev S4x3072 : Shape := ⟨2, ![4, 3072]⟩
abbrev S4x3x1024x1024 : Shape := ⟨4, ![4, 3, 1024, 1024]⟩
abbrev S4x1024x1024 : Shape := ⟨3, ![4, 1024, 1024]⟩
abbrev S16384x1x1024 : Shape := ⟨3, ![16384, 1, 1024]⟩
abbrev S16384x3x1024 : Shape := ⟨3, ![16384, 3, 1024]⟩
abbrev S1x3x1024x1024 : Shape := ⟨4, ![1, 3, 1024, 1024]⟩
abbrev S3x1024x1024 : Shape := ⟨3, ![3, 1024, 1024]⟩
abbrev S3x1024x16384 : Shape := ⟨3, ![3, 1024, 16384]⟩
abbrev S16384x3072 : Shape := ⟨2, ![16384, 3072]⟩
abbrev S1x3072 : Shape := ⟨2, ![1, 3072]⟩
abbrev S3072 : Shape := ⟨1, ![3072]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x12288, .bf16⟩
  | .hbm, ⟨4, _⟩ => ⟨S4x3072, .f32⟩
  | .hbm, ⟨5, _⟩ => ⟨S4x3x1024x1024, .f32⟩
  | .hbm, ⟨6, _⟩ => ⟨S4x1024x1024, .f32⟩
  | .hbm, ⟨7, _⟩ => ⟨S16384x1024, .f32⟩
  | .hbm, ⟨8, _⟩ => ⟨S16384x1x1024, .bf16⟩
  | .hbm, ⟨9, _⟩ => ⟨S16384x1x1024, .bf16⟩
  | .hbm, ⟨10, _⟩ => ⟨S16384x1x1024, .bf16⟩
  | .hbm, ⟨11, _⟩ => ⟨S16384x3x1024, .bf16⟩
  | .hbm, ⟨12, _⟩ => ⟨S16384x3x1024, .f32⟩
  | .hbm, ⟨13, _⟩ => ⟨S1x3x1024x1024, .f32⟩
  | .hbm, ⟨14, _⟩ => ⟨S3x1024x1024, .f32⟩
  | .hbm, ⟨15, _⟩ => ⟨S3x1024x16384, .f32⟩
  | .hbm, ⟨16, _⟩ => ⟨S16384x3x1024, .f32⟩
  | .hbm, ⟨17, _⟩ => ⟨S16384x3072, .bf16⟩
  | .hbm, ⟨18, _⟩ => ⟨S16384x3072, .f32⟩
  | .hbm, ⟨19, _⟩ => ⟨S1x3072, .f32⟩
  | .hbm, ⟨20, _⟩ => ⟨S3072, .f32⟩
  | .hbm, ⟨21, _⟩ => ⟨S1x3072, .f32⟩
  | .hbm, ⟨22, _⟩ => ⟨S16384x3072, .f32⟩
  | .hbm, ⟨23, _⟩ => ⟨S16384x3072, .f32⟩
  | .hbm, ⟨24, _⟩ => ⟨S16384x3072, .f32⟩
  | .hbm, ⟨25, _⟩ => ⟨S16384x3072, .f32⟩
  | .hbm, ⟨26, _⟩ => ⟨S_, .f32⟩
  | .hbm, ⟨27, _⟩ => ⟨S16384x3072, .f32⟩
  | .hbm, ⟨28, _⟩ => ⟨S16384x3072, .f32⟩
  | .hbm, ⟨29, _⟩ => ⟨S_, .f32⟩
  | .hbm, ⟨30, _⟩ => ⟨S16384x3072, .f32⟩
  | .hbm, ⟨31, _⟩ => ⟨S16384x3072, .f32⟩
  | .hbm, ⟨32, _⟩ => ⟨S16384x3x1024, .f32⟩
  | .hbm, ⟨33, _⟩ => ⟨S16384x3x1024, .f32⟩
  | .hbm, ⟨34, _⟩ => ⟨S_, .f32⟩
  | .hbm, ⟨35, _⟩ => ⟨S16384x1024, .f32⟩
  | .hbm, ⟨36, _⟩ => ⟨S1x1024x1024, .f32⟩
  | .hbm, ⟨37, _⟩ => ⟨S1024x1024, .f32⟩
  | .hbm, ⟨38, _⟩ => ⟨S16384x1024, .f32⟩
  | .hbm, ⟨39, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== MergeL1.lean ====
abbrev S16384x1024 : Shape := ⟨2, ![16384, 1024]⟩
abbrev S16384x12288 : Shape := ⟨2, ![16384, 12288]⟩
abbrev S4x3072 : Shape := ⟨2, ![4, 3072]⟩
abbrev S4x3x1024x1024 : Shape := ⟨4, ![4, 3, 1024, 1024]⟩
abbrev S4x1024x1024 : Shape := ⟨3, ![4, 1024, 1024]⟩
abbrev S4x1x3072 : Shape := ⟨3, ![4, 1, 3072]⟩
abbrev S512x1024 : Shape := ⟨2, ![512, 1024]⟩
abbrev S512x3072 : Shape := ⟨2, ![512, 3072]⟩
abbrev S1x1x3072 : Shape := ⟨3, ![1, 1, 3072]⟩
abbrev S1x3x1024x1024 : Shape := ⟨4, ![1, 3, 1024, 1024]⟩
abbrev S1x1024x1024 : Shape := ⟨3, ![1, 1024, 1024]⟩
abbrev S1x1x1024x1024 : Shape := ⟨4, ![1, 1, 1024, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 12
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x12288, .bf16⟩
  | .hbm, ⟨4, _⟩ => ⟨S4x3072, .f32⟩
  | .hbm, ⟨5, _⟩ => ⟨S4x3x1024x1024, .f32⟩
  | .hbm, ⟨6, _⟩ => ⟨S4x1024x1024, .f32⟩
  | .hbm, ⟨7, _⟩ => ⟨S16384x1024, .f32⟩
  | .hbm, ⟨8, _⟩ => ⟨S4x1x3072, .f32⟩
  | .hbm, ⟨9, _⟩ => ⟨S4x3x1024x1024, .bf16⟩
  | .hbm, ⟨10, _⟩ => ⟨S4x1024x1024, .bf16⟩
  | .hbm, ⟨11, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S1x1x3072, .f32⟩
  | .local _ .vmem, ⟨9, _⟩ => ⟨S1x3x1024x1024, .bf16⟩
  | .local _ .vmem, ⟨10, _⟩ => ⟨S1x1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeL1Ideal.lean ====
abbrev S16384x1024 : Shape := ⟨2, ![16384, 1024]⟩
abbrev S16384x12288 : Shape := ⟨2, ![16384, 12288]⟩
abbrev S4x3072 : Shape := ⟨2, ![4, 3072]⟩
abbrev S4x3x1024x1024 : Shape := ⟨4, ![4, 3, 1024, 1024]⟩
abbrev S4x1024x1024 : Shape := ⟨3, ![4, 1024, 1024]⟩
abbrev S4x1x3072 : Shape := ⟨3, ![4, 1, 3072]⟩
abbrev S512x1024 : Shape := ⟨2, ![512, 1024]⟩
abbrev S512x3072 : Shape := ⟨2, ![512, 3072]⟩
abbrev S1x1x3072 : Shape := ⟨3, ![1, 1, 3072]⟩
abbrev S1x3x1024x1024 : Shape := ⟨4, ![1, 3, 1024, 1024]⟩
abbrev S1x1024x1024 : Shape := ⟨3, ![1, 1024, 1024]⟩
abbrev S1x1x1024x1024 : Shape := ⟨4, ![1, 1, 1024, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 12
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x12288, .bf16⟩
  | .hbm, ⟨4, _⟩ => ⟨S4x3072, .f32⟩
  | .hbm, ⟨5, _⟩ => ⟨S4x3x1024x1024, .f32⟩
  | .hbm, ⟨6, _⟩ => ⟨S4x1024x1024, .f32⟩
  | .hbm, ⟨7, _⟩ => ⟨S16384x1024, .f32⟩
  | .hbm, ⟨8, _⟩ => ⟨S4x1x3072, .f32⟩
  | .hbm, ⟨9, _⟩ => ⟨S4x3x1024x1024, .bf16⟩
  | .hbm, ⟨10, _⟩ => ⟨S4x1024x1024, .bf16⟩
  | .hbm, ⟨11, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S1x1x3072, .f32⟩
  | .local _ .vmem, ⟨9, _⟩ => ⟨S1x3x1024x1024, .bf16⟩
  | .local _ .vmem, ⟨10, _⟩ => ⟨S1x1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeL1RefIdeal.lean ====
abbrev S16384x1024 : Shape := ⟨2, ![16384, 1024]⟩
abbrev S16384x12288 : Shape := ⟨2, ![16384, 12288]⟩
abbrev S4x3072 : Shape := ⟨2, ![4, 3072]⟩
abbrev S4x3x1024x1024 : Shape := ⟨4, ![4, 3, 1024, 1024]⟩
abbrev S4x1024x1024 : Shape := ⟨3, ![4, 1024, 1024]⟩
abbrev S16384x1x1024 : Shape := ⟨3, ![16384, 1, 1024]⟩
abbrev S16384x3x1024 : Shape := ⟨3, ![16384, 3, 1024]⟩
abbrev S1x3x1024x1024 : Shape := ⟨4, ![1, 3, 1024, 1024]⟩
abbrev S3x1024x1024 : Shape := ⟨3, ![3, 1024, 1024]⟩
abbrev S3x1024x16384 : Shape := ⟨3, ![3, 1024, 16384]⟩
abbrev S16384x3072 : Shape := ⟨2, ![16384, 3072]⟩
abbrev S1x3072 : Shape := ⟨2, ![1, 3072]⟩
abbrev S3072 : Shape := ⟨1, ![3072]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x12288, .bf16⟩
  | .hbm, ⟨4, _⟩ => ⟨S4x3072, .f32⟩
  | .hbm, ⟨5, _⟩ => ⟨S4x3x1024x1024, .f32⟩
  | .hbm, ⟨6, _⟩ => ⟨S4x1024x1024, .f32⟩
  | .hbm, ⟨7, _⟩ => ⟨S16384x1024, .f32⟩
  | .hbm, ⟨8, _⟩ => ⟨S16384x1x1024, .bf16⟩
  | .hbm, ⟨9, _⟩ => ⟨S16384x1x1024, .bf16⟩
  | .hbm, ⟨10, _⟩ => ⟨S16384x1x1024, .bf16⟩
  | .hbm, ⟨11, _⟩ => ⟨S16384x3x1024, .bf16⟩
  | .hbm, ⟨12, _⟩ => ⟨S16384x3x1024, .f32⟩
  | .hbm, ⟨13, _⟩ => ⟨S1x3x1024x1024, .f32⟩
  | .hbm, ⟨14, _⟩ => ⟨S3x1024x1024, .f32⟩
  | .hbm, ⟨15, _⟩ => ⟨S3x1024x16384, .f32⟩
  | .hbm, ⟨16, _⟩ => ⟨S16384x3x1024, .f32⟩
  | .hbm, ⟨17, _⟩ => ⟨S16384x3072, .bf16⟩
  | .hbm, ⟨18, _⟩ => ⟨S16384x3072, .f32⟩
  | .hbm, ⟨19, _⟩ => ⟨S1x3072, .f32⟩
  | .hbm, ⟨20, _⟩ => ⟨S3072, .f32⟩
  | .hbm, ⟨21, _⟩ => ⟨S1x3072, .f32⟩
  | .hbm, ⟨22, _⟩ => ⟨S16384x3072, .f32⟩
  | .hbm, ⟨23, _⟩ => ⟨S16384x3072, .f32⟩
  | .hbm, ⟨24, _⟩ => ⟨S16384x3072, .f32⟩
  | .hbm, ⟨25, _⟩ => ⟨S16384x3072, .f32⟩
  | .hbm, ⟨26, _⟩ => ⟨S_, .f32⟩
  | .hbm, ⟨27, _⟩ => ⟨S16384x3072, .f32⟩
  | .hbm, ⟨28, _⟩ => ⟨S16384x3072, .f32⟩
  | .hbm, ⟨29, _⟩ => ⟨S_, .f32⟩
  | .hbm, ⟨30, _⟩ => ⟨S16384x3072, .f32⟩
  | .hbm, ⟨31, _⟩ => ⟨S16384x3072, .f32⟩
  | .hbm, ⟨32, _⟩ => ⟨S16384x3x1024, .f32⟩
  | .hbm, ⟨33, _⟩ => ⟨S16384x3x1024, .f32⟩
  | .hbm, ⟨34, _⟩ => ⟨S_, .f32⟩
  | .hbm, ⟨35, _⟩ => ⟨S16384x1024, .f32⟩
  | .hbm, ⟨36, _⟩ => ⟨S1x1024x1024, .f32⟩
  | .hbm, ⟨37, _⟩ => ⟨S1024x1024, .f32⟩
  | .hbm, ⟨38, _⟩ => ⟨S16384x1024, .f32⟩
  | .hbm, ⟨39, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== MergeL2.lean ====
abbrev S16384x1024 : Shape := ⟨2, ![16384, 1024]⟩
abbrev S16384x12288 : Shape := ⟨2, ![16384, 12288]⟩
abbrev S4x3072 : Shape := ⟨2, ![4, 3072]⟩
abbrev S4x3x1024x1024 : Shape := ⟨4, ![4, 3, 1024, 1024]⟩
abbrev S4x1024x1024 : Shape := ⟨3, ![4, 1024, 1024]⟩
abbrev S4x1x3072 : Shape := ⟨3, ![4, 1, 3072]⟩
abbrev S512x1024 : Shape := ⟨2, ![512, 1024]⟩
abbrev S512x3072 : Shape := ⟨2, ![512, 3072]⟩
abbrev S1x1x3072 : Shape := ⟨3, ![1, 1, 3072]⟩
abbrev S1x3x1024x1024 : Shape := ⟨4, ![1, 3, 1024, 1024]⟩
abbrev S1x1024x1024 : Shape := ⟨3, ![1, 1024, 1024]⟩
abbrev S1x1x1024x1024 : Shape := ⟨4, ![1, 1, 1024, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 12
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x12288, .bf16⟩
  | .hbm, ⟨4, _⟩ => ⟨S4x3072, .f32⟩
  | .hbm, ⟨5, _⟩ => ⟨S4x3x1024x1024, .f32⟩
  | .hbm, ⟨6, _⟩ => ⟨S4x1024x1024, .f32⟩
  | .hbm, ⟨7, _⟩ => ⟨S16384x1024, .f32⟩
  | .hbm, ⟨8, _⟩ => ⟨S4x1x3072, .f32⟩
  | .hbm, ⟨9, _⟩ => ⟨S4x3x1024x1024, .bf16⟩
  | .hbm, ⟨10, _⟩ => ⟨S4x1024x1024, .bf16⟩
  | .hbm, ⟨11, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S1x1x3072, .f32⟩
  | .local _ .vmem, ⟨9, _⟩ => ⟨S1x3x1024x1024, .bf16⟩
  | .local _ .vmem, ⟨10, _⟩ => ⟨S1x1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeL2Ideal.lean ====
abbrev S16384x1024 : Shape := ⟨2, ![16384, 1024]⟩
abbrev S16384x12288 : Shape := ⟨2, ![16384, 12288]⟩
abbrev S4x3072 : Shape := ⟨2, ![4, 3072]⟩
abbrev S4x3x1024x1024 : Shape := ⟨4, ![4, 3, 1024, 1024]⟩
abbrev S4x1024x1024 : Shape := ⟨3, ![4, 1024, 1024]⟩
abbrev S4x1x3072 : Shape := ⟨3, ![4, 1, 3072]⟩
abbrev S512x1024 : Shape := ⟨2, ![512, 1024]⟩
abbrev S512x3072 : Shape := ⟨2, ![512, 3072]⟩
abbrev S1x1x3072 : Shape := ⟨3, ![1, 1, 3072]⟩
abbrev S1x3x1024x1024 : Shape := ⟨4, ![1, 3, 1024, 1024]⟩
abbrev S1x1024x1024 : Shape := ⟨3, ![1, 1024, 1024]⟩
abbrev S1x1x1024x1024 : Shape := ⟨4, ![1, 1, 1024, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 12
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x12288, .bf16⟩
  | .hbm, ⟨4, _⟩ => ⟨S4x3072, .f32⟩
  | .hbm, ⟨5, _⟩ => ⟨S4x3x1024x1024, .f32⟩
  | .hbm, ⟨6, _⟩ => ⟨S4x1024x1024, .f32⟩
  | .hbm, ⟨7, _⟩ => ⟨S16384x1024, .f32⟩
  | .hbm, ⟨8, _⟩ => ⟨S4x1x3072, .f32⟩
  | .hbm, ⟨9, _⟩ => ⟨S4x3x1024x1024, .bf16⟩
  | .hbm, ⟨10, _⟩ => ⟨S4x1024x1024, .bf16⟩
  | .hbm, ⟨11, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S1x1x3072, .f32⟩
  | .local _ .vmem, ⟨9, _⟩ => ⟨S1x3x1024x1024, .bf16⟩
  | .local _ .vmem, ⟨10, _⟩ => ⟨S1x1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeL2RefIdeal.lean ====
abbrev S16384x1024 : Shape := ⟨2, ![16384, 1024]⟩
abbrev S16384x12288 : Shape := ⟨2, ![16384, 12288]⟩
abbrev S4x3072 : Shape := ⟨2, ![4, 3072]⟩
abbrev S4x3x1024x1024 : Shape := ⟨4, ![4, 3, 1024, 1024]⟩
abbrev S4x1024x1024 : Shape := ⟨3, ![4, 1024, 1024]⟩
abbrev S16384x1x1024 : Shape := ⟨3, ![16384, 1, 1024]⟩
abbrev S16384x3x1024 : Shape := ⟨3, ![16384, 3, 1024]⟩
abbrev S1x3x1024x1024 : Shape := ⟨4, ![1, 3, 1024, 1024]⟩
abbrev S3x1024x1024 : Shape := ⟨3, ![3, 1024, 1024]⟩
abbrev S3x1024x16384 : Shape := ⟨3, ![3, 1024, 16384]⟩
abbrev S16384x3072 : Shape := ⟨2, ![16384, 3072]⟩
abbrev S1x3072 : Shape := ⟨2, ![1, 3072]⟩
abbrev S3072 : Shape := ⟨1, ![3072]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x12288, .bf16⟩
  | .hbm, ⟨4, _⟩ => ⟨S4x3072, .f32⟩
  | .hbm, ⟨5, _⟩ => ⟨S4x3x1024x1024, .f32⟩
  | .hbm, ⟨6, _⟩ => ⟨S4x1024x1024, .f32⟩
  | .hbm, ⟨7, _⟩ => ⟨S16384x1024, .f32⟩
  | .hbm, ⟨8, _⟩ => ⟨S16384x1x1024, .bf16⟩
  | .hbm, ⟨9, _⟩ => ⟨S16384x1x1024, .bf16⟩
  | .hbm, ⟨10, _⟩ => ⟨S16384x1x1024, .bf16⟩
  | .hbm, ⟨11, _⟩ => ⟨S16384x3x1024, .bf16⟩
  | .hbm, ⟨12, _⟩ => ⟨S16384x3x1024, .f32⟩
  | .hbm, ⟨13, _⟩ => ⟨S1x3x1024x1024, .f32⟩
  | .hbm, ⟨14, _⟩ => ⟨S3x1024x1024, .f32⟩
  | .hbm, ⟨15, _⟩ => ⟨S3x1024x16384, .f32⟩
  | .hbm, ⟨16, _⟩ => ⟨S16384x3x1024, .f32⟩
  | .hbm, ⟨17, _⟩ => ⟨S16384x3072, .bf16⟩
  | .hbm, ⟨18, _⟩ => ⟨S16384x3072, .f32⟩
  | .hbm, ⟨19, _⟩ => ⟨S1x3072, .f32⟩
  | .hbm, ⟨20, _⟩ => ⟨S3072, .f32⟩
  | .hbm, ⟨21, _⟩ => ⟨S1x3072, .f32⟩
  | .hbm, ⟨22, _⟩ => ⟨S16384x3072, .f32⟩
  | .hbm, ⟨23, _⟩ => ⟨S16384x3072, .f32⟩
  | .hbm, ⟨24, _⟩ => ⟨S16384x3072, .f32⟩
  | .hbm, ⟨25, _⟩ => ⟨S16384x3072, .f32⟩
  | .hbm, ⟨26, _⟩ => ⟨S_, .f32⟩
  | .hbm, ⟨27, _⟩ => ⟨S16384x3072, .f32⟩
  | .hbm, ⟨28, _⟩ => ⟨S16384x3072, .f32⟩
  | .hbm, ⟨29, _⟩ => ⟨S_, .f32⟩
  | .hbm, ⟨30, _⟩ => ⟨S16384x3072, .f32⟩
  | .hbm, ⟨31, _⟩ => ⟨S16384x3072, .f32⟩
  | .hbm, ⟨32, _⟩ => ⟨S16384x3x1024, .f32⟩
  | .hbm, ⟨33, _⟩ => ⟨S16384x3x1024, .f32⟩
  | .hbm, ⟨34, _⟩ => ⟨S_, .f32⟩
  | .hbm, ⟨35, _⟩ => ⟨S16384x1024, .f32⟩
  | .hbm, ⟨36, _⟩ => ⟨S1x1024x1024, .f32⟩
  | .hbm, ⟨37, _⟩ => ⟨S1024x1024, .f32⟩
  | .hbm, ⟨38, _⟩ => ⟨S16384x1024, .f32⟩
  | .hbm, ⟨39, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== MergeL3.lean ====
abbrev S16384x1024 : Shape := ⟨2, ![16384, 1024]⟩
abbrev S16384x12288 : Shape := ⟨2, ![16384, 12288]⟩
abbrev S4x3072 : Shape := ⟨2, ![4, 3072]⟩
abbrev S4x3x1024x1024 : Shape := ⟨4, ![4, 3, 1024, 1024]⟩
abbrev S4x1024x1024 : Shape := ⟨3, ![4, 1024, 1024]⟩
abbrev S4x1x3072 : Shape := ⟨3, ![4, 1, 3072]⟩
abbrev S512x1024 : Shape := ⟨2, ![512, 1024]⟩
abbrev S512x3072 : Shape := ⟨2, ![512, 3072]⟩
abbrev S1x1x3072 : Shape := ⟨3, ![1, 1, 3072]⟩
abbrev S1x3x1024x1024 : Shape := ⟨4, ![1, 3, 1024, 1024]⟩
abbrev S1x1024x1024 : Shape := ⟨3, ![1, 1024, 1024]⟩
abbrev S1x1x1024x1024 : Shape := ⟨4, ![1, 1, 1024, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 12
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x12288, .bf16⟩
  | .hbm, ⟨4, _⟩ => ⟨S4x3072, .f32⟩
  | .hbm, ⟨5, _⟩ => ⟨S4x3x1024x1024, .f32⟩
  | .hbm, ⟨6, _⟩ => ⟨S4x1024x1024, .f32⟩
  | .hbm, ⟨7, _⟩ => ⟨S16384x1024, .f32⟩
  | .hbm, ⟨8, _⟩ => ⟨S4x1x3072, .f32⟩
  | .hbm, ⟨9, _⟩ => ⟨S4x3x1024x1024, .bf16⟩
  | .hbm, ⟨10, _⟩ => ⟨S4x1024x1024, .bf16⟩
  | .hbm, ⟨11, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S1x1x3072, .f32⟩
  | .local _ .vmem, ⟨9, _⟩ => ⟨S1x3x1024x1024, .bf16⟩
  | .local _ .vmem, ⟨10, _⟩ => ⟨S1x1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeL3RefIdeal.lean ====
abbrev S16384x1024 : Shape := ⟨2, ![16384, 1024]⟩
abbrev S16384x12288 : Shape := ⟨2, ![16384, 12288]⟩
abbrev S4x3072 : Shape := ⟨2, ![4, 3072]⟩
abbrev S4x3x1024x1024 : Shape := ⟨4, ![4, 3, 1024, 1024]⟩
abbrev S4x1024x1024 : Shape := ⟨3, ![4, 1024, 1024]⟩
abbrev S16384x1x1024 : Shape := ⟨3, ![16384, 1, 1024]⟩
abbrev S16384x3x1024 : Shape := ⟨3, ![16384, 3, 1024]⟩
abbrev S1x3x1024x1024 : Shape := ⟨4, ![1, 3, 1024, 1024]⟩
abbrev S3x1024x1024 : Shape := ⟨3, ![3, 1024, 1024]⟩
abbrev S3x1024x16384 : Shape := ⟨3, ![3, 1024, 16384]⟩
abbrev S16384x3072 : Shape := ⟨2, ![16384, 3072]⟩
abbrev S1x3072 : Shape := ⟨2, ![1, 3072]⟩
abbrev S3072 : Shape := ⟨1, ![3072]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x12288, .bf16⟩
  | .hbm, ⟨4, _⟩ => ⟨S4x3072, .f32⟩
  | .hbm, ⟨5, _⟩ => ⟨S4x3x1024x1024, .f32⟩
  | .hbm, ⟨6, _⟩ => ⟨S4x1024x1024, .f32⟩
  | .hbm, ⟨7, _⟩ => ⟨S16384x1024, .f32⟩
  | .hbm, ⟨8, _⟩ => ⟨S16384x1x1024, .bf16⟩
  | .hbm, ⟨9, _⟩ => ⟨S16384x1x1024, .bf16⟩
  | .hbm, ⟨10, _⟩ => ⟨S16384x1x1024, .bf16⟩
  | .hbm, ⟨11, _⟩ => ⟨S16384x3x1024, .bf16⟩
  | .hbm, ⟨12, _⟩ => ⟨S16384x3x1024, .f32⟩
  | .hbm, ⟨13, _⟩ => ⟨S1x3x1024x1024, .f32⟩
  | .hbm, ⟨14, _⟩ => ⟨S3x1024x1024, .f32⟩
  | .hbm, ⟨15, _⟩ => ⟨S3x1024x16384, .f32⟩
  | .hbm, ⟨16, _⟩ => ⟨S16384x3x1024, .f32⟩
  | .hbm, ⟨17, _⟩ => ⟨S16384x3072, .bf16⟩
  | .hbm, ⟨18, _⟩ => ⟨S16384x3072, .f32⟩
  | .hbm, ⟨19, _⟩ => ⟨S1x3072, .f32⟩
  | .hbm, ⟨20, _⟩ => ⟨S3072, .f32⟩
  | .hbm, ⟨21, _⟩ => ⟨S1x3072, .f32⟩
  | .hbm, ⟨22, _⟩ => ⟨S16384x3072, .f32⟩
  | .hbm, ⟨23, _⟩ => ⟨S16384x3072, .f32⟩
  | .hbm, ⟨24, _⟩ => ⟨S16384x3072, .f32⟩
  | .hbm, ⟨25, _⟩ => ⟨S16384x3072, .f32⟩
  | .hbm, ⟨26, _⟩ => ⟨S_, .f32⟩
  | .hbm, ⟨27, _⟩ => ⟨S16384x3072, .f32⟩
  | .hbm, ⟨28, _⟩ => ⟨S16384x3072, .f32⟩
  | .hbm, ⟨29, _⟩ => ⟨S_, .f32⟩
  | .hbm, ⟨30, _⟩ => ⟨S16384x3072, .f32⟩
  | .hbm, ⟨31, _⟩ => ⟨S16384x3072, .f32⟩
  | .hbm, ⟨32, _⟩ => ⟨S16384x3x1024, .f32⟩
  | .hbm, ⟨33, _⟩ => ⟨S16384x3x1024, .f32⟩
  | .hbm, ⟨34, _⟩ => ⟨S_, .f32⟩
  | .hbm, ⟨35, _⟩ => ⟨S16384x1024, .f32⟩
  | .hbm, ⟨36, _⟩ => ⟨S1x1024x1024, .f32⟩
  | .hbm, ⟨37, _⟩ => ⟨S1024x1024, .f32⟩
  | .hbm, ⟨38, _⟩ => ⟨S16384x1024, .f32⟩
  | .hbm, ⟨39, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Gla.lean ====
abbrev S4x4096x12288 : Shape := ⟨3, ![4, 4096, 12288]⟩
abbrev S4x4096x128 : Shape := ⟨3, ![4, 4096, 128]⟩
abbrev S4x16x512 : Shape := ⟨3, ![4, 16, 512]⟩
abbrev S4x512 : Shape := ⟨2, ![4, 512]⟩
abbrev S4x1024 : Shape := ⟨2, ![4, 1024]⟩
abbrev S_ : Shape := ⟨0, ![]⟩
abbrev S4x128x512 : Shape := ⟨3, ![4, 128, 512]⟩
abbrev S4x384x512 : Shape := ⟨3, ![4, 384, 512]⟩
abbrev S4x1x512 : Shape := ⟨3, ![4, 1, 512]⟩
abbrev S4x1x1024 : Shape := ⟨3, ![4, 1, 1024]⟩
abbrev S4x4096x1024 : Shape := ⟨3, ![4, 4096, 1024]⟩
abbrev S1x512x512 : Shape := ⟨3, ![1, 512, 512]⟩
abbrev S1x512x1024 : Shape := ⟨3, ![1, 512, 1024]⟩
abbrev S1x512x128 : Shape := ⟨3, ![1, 512, 128]⟩
abbrev S1x384x512 : Shape := ⟨3, ![1, 384, 512]⟩
abbrev S1x1x512 : Shape := ⟨3, ![1, 1, 512]⟩
abbrev S1x1x1024 : Shape := ⟨3, ![1, 1, 1024]⟩
abbrev S4x256x128 : Shape := ⟨3, ![4, 256, 128]⟩
abbrev S64x64 : Shape := ⟨2, ![64, 64]⟩
abbrev S64x128 : Shape := ⟨2, ![64, 128]⟩
abbrev S1x64x128 : Shape := ⟨3, ![1, 64, 128]⟩
abbrev S64x384 : Shape := ⟨2, ![64, 384]⟩
abbrev S384x512 : Shape := ⟨2, ![384, 512]⟩
abbrev S64x512 : Shape := ⟨2, ![64, 512]⟩
abbrev S1x512 : Shape := ⟨2, ![1, 512]⟩
abbrev S128x512 : Shape := ⟨2, ![128, 512]⟩
abbrev S1x128 : Shape := ⟨2, ![1, 128]⟩
abbrev S1x64x256 : Shape := ⟨3, ![1, 64, 256]⟩
abbrev S64x256 : Shape := ⟨2, ![64, 256]⟩
abbrev S1x256x128 : Shape := ⟨3, ![1, 256, 128]⟩
abbrev S256x128 : Shape := ⟨2, ![256, 128]⟩
abbrev S256x64 : Shape := ⟨2, ![256, 64]⟩
abbrev S64 : Shape := ⟨1, ![64]⟩
abbrev S64x1 : Shape := ⟨2, ![64, 1]⟩
abbrev S1x1x256 : Shape := ⟨3, ![1, 1, 256]⟩
abbrev S1x256 : Shape := ⟨2, ![1, 256]⟩

abbrev nBuf : Space → Nat
  | .hbm => 16
  | .vmem => 16
  | .smem => 0
  | _ => 0

abbrev bufTy : (tb : Table) → Fin (tcTables nBuf tb) → BufTy
  | .hbm, ⟨0, _⟩ => ⟨S4x4096x12288, .bf16⟩
  | .hbm, ⟨1, _⟩ => ⟨S4x4096x128, .f32⟩
  | .hbm, ⟨2, _⟩ => ⟨S4x16x512, .f32⟩
  | .hbm, ⟨3, _⟩ => ⟨S4x512, .f32⟩
  | .hbm, ⟨4, _⟩ => ⟨S4x1024, .f32⟩
  | .hbm, ⟨5, _⟩ => ⟨S_, .i32⟩
  | .hbm, ⟨6, _⟩ => ⟨S_, .f32⟩
  | .hbm, ⟨7, _⟩ => ⟨S4x128x512, .f32⟩
  | .hbm, ⟨8, _⟩ => ⟨S4x128x512, .bf16⟩
  | .hbm, ⟨9, _⟩ => ⟨S4x128x512, .f32⟩
  | .hbm, ⟨10, _⟩ => ⟨S4x128x512, .f32⟩
  | .hbm, ⟨11, _⟩ => ⟨S4x128x512, .bf16⟩
  | .hbm, ⟨12, _⟩ => ⟨S4x384x512, .bf16⟩
  | .hbm, ⟨13, _⟩ => ⟨S4x1x512, .f32⟩
  | .hbm, ⟨14, _⟩ => ⟨S4x1x1024, .f32⟩
  | .hbm, ⟨15, _⟩ => ⟨S4x4096x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x128, .f32⟩
  | .local _ .vmem, ⟨9, _⟩ => ⟨S1x512x128, .f32⟩
  | .local _ .vmem, ⟨10, _⟩ => ⟨S1x384x512, .bf16⟩
  | .local _ .vmem, ⟨11, _⟩ => ⟨S1x1x512, .f32⟩
  | .local _ .vmem, ⟨12, _⟩ => ⟨S1x1x1024, .f32⟩
  | .local _ .vmem, ⟨13, _⟩ => ⟨S1x512x1024, .bf16⟩
  | .local _ .vmem, ⟨14, _⟩ => ⟨S1x512x1024, .bf16⟩
  | .local _ .vmem, ⟨15, _⟩ => ⟨S4x256x128, .f32⟩
  | _, _ => ⟨S4x4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x384x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GlaRefIdeal.lean ====
abbrev S4x4096x12288 : Shape := ⟨3, ![4, 4096, 12288]⟩
abbrev S4x4096x128 : Shape := ⟨3, ![4, 4096, 128]⟩
abbrev S4x16x512 : Shape := ⟨3, ![4, 16, 512]⟩
abbrev S4x512 : Shape := ⟨2, ![4, 512]⟩
abbrev S4x1024 : Shape := ⟨2, ![4, 1024]⟩
abbrev S4x4096x3072 : Shape := ⟨3, ![4, 4096, 3072]⟩
abbrev S4x4096x512 : Shape := ⟨3, ![4, 4096, 512]⟩
abbrev S4x4096x1024 : Shape := ⟨3, ![4, 4096, 1024]⟩
abbrev S4x4096x4x128 : Shape := ⟨4, ![4, 4096, 4, 128]⟩
abbrev S4x64x64x4x128 : Shape := ⟨5, ![4, 64, 64, 4, 128]⟩
abbrev S4x4x64x64x128 : Shape := ⟨5, ![4, 4, 64, 64, 128]⟩
abbrev S4x4096x4x256 : Shape := ⟨4, ![4, 4096, 4, 256]⟩
abbrev S4x64x64x4x256 : Shape := ⟨5, ![4, 64, 64, 4, 256]⟩
abbrev S4x4x64x64x256 : Shape := ⟨5, ![4, 4, 64, 64, 256]⟩
abbrev S4x4096x16 : Shape := ⟨3, ![4, 4096, 16]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩
abbrev S1x1x512 : Shape := ⟨3, ![1, 1, 512]⟩
abbrev S_ : Shape := ⟨0, ![]⟩
abbrev S4x4x64x1x128 : Shape := ⟨5, ![4, 4, 64, 1, 128]⟩
abbrev S4x4x64x128x256 : Shape := ⟨5, ![4, 4, 64, 128, 256]⟩
abbrev S4x4x64x128x1 : Shape := ⟨5, ![4, 4, 64, 128, 1]⟩
abbrev S4x4x1x128x256 : Shape := ⟨5, ![4, 4, 1, 128, 256]⟩
abbrev S4x4x128x256 : Shape := ⟨4, ![4, 4, 128, 256]⟩
abbrev S64x4x4x128x256 : Shape := ⟨5, ![64, 4, 4, 128, 256]⟩
abbrev S64x4x4x128x1 : Shape := ⟨5, ![64, 4, 4, 128, 1]⟩
abbrev S1x4x4x128x256 : Shape := ⟨5, ![1, 4, 4, 128, 256]⟩
abbrev S1x4x4x128x1 : Shape := ⟨5, ![1, 4, 4, 128, 1]⟩
abbrev S4x4x128x1 : Shape := ⟨4, ![4, 4, 128, 1]⟩
abbrev S4x4x64x64x64 : Shape := ⟨5, ![4, 4, 64, 64, 64]⟩
abbrev S64x64 : Shape := ⟨2, ![64, 64]⟩
abbrev S4x4096x4 : Shape := ⟨3, ![4, 4096, 4]⟩
abbrev S4x4096x4x1 : Shape := ⟨4, ![4, 4096, 4, 1]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 208
  | .vmem => 0
  | .smem => 0
  | _ => 0

abbrev hbmTy0_0 (i : Nat) : BufTy := match i % 128 with
  | 0 => ⟨S4x4096x12288, .bf16⟩
  | 1 => ⟨S4x4096x128, .f32⟩
  | 2 => ⟨S4x16x512, .f32⟩
  | 3 => ⟨S4x512, .f32⟩
  | 4 => ⟨S4x1024, .f32⟩
  | 5 => ⟨S4x4096x3072, .bf16⟩
  | 6 => ⟨S4x4096x512, .bf16⟩
  | 7 => ⟨S4x4096x512, .bf16⟩
  | 8 => ⟨S4x4096x1024, .bf16⟩
  | 9 => ⟨S4x4096x1024, .bf16⟩
  | 10 => ⟨S4x4096x512, .f32⟩
  | 11 => ⟨S4x4096x512, .f32⟩
  | 12 => ⟨S4x4096x1024, .f32⟩
  | 13 => ⟨S4x4096x1024, .f32⟩
  | 14 => ⟨S4x4096x4x128, .f32⟩
  | 15 => ⟨S4x64x64x4x128, .f32⟩
  | 16 => ⟨S4x4x64x64x128, .f32⟩
  | 17 => ⟨S4x4096x4x256, .f32⟩
  | 18 => ⟨S4x64x64x4x256, .f32⟩
  | 19 => ⟨S4x4x64x64x256, .f32⟩
  | 20 => ⟨S4x4096x16, .f32⟩
  | 21 => ⟨S1x16x512, .f32⟩
  | 22 => ⟨S16x512, .f32⟩
  | 23 => ⟨S4x4096x512, .f32⟩
  | 24 => ⟨S1x512, .f32⟩
  | 25 => ⟨S512, .f32⟩
  | 26 => ⟨S1x1x512, .f32⟩
  | 27 => ⟨S4x4096x512, .f32⟩
  | 28 => ⟨S4x4096x512, .f32⟩
  | 29 => ⟨S4x4096x512, .f32⟩
  | 30 => ⟨S_, .f32⟩
  | 31 => ⟨S4x4096x512, .f32⟩
  | 32 => ⟨S4x4096x512, .f32⟩
  | 33 => ⟨S4x4096x512, .f32⟩
  | 34 => ⟨S4x4096x512, .f32⟩
  | 35 => ⟨S4x4096x512, .i1⟩
  | 36 => ⟨S4x4096x512, .f32⟩
  | 37 => ⟨S4x4096x512, .f32⟩
  | 38 => ⟨S4x4096x512, .f32⟩
  | 39 => ⟨S4x4096x512, .f32⟩
  | 40 => ⟨S4x4096x512, .f32⟩
  | 41 => ⟨S4x4096x512, .f32⟩
  | 42 => ⟨S4x4096x512, .f32⟩
  | 43 => ⟨S4x4096x512, .f32⟩
  | 44 => ⟨S4x4096x512, .f32⟩
  | 45 => ⟨S_, .f32⟩
  | 46 => ⟨S4x4096x512, .f32⟩
  | 47 => ⟨S4x4096x512, .f32⟩
  | 48 => ⟨S4x4096x4x128, .f32⟩
  | 49 => ⟨S4x64x64x4x128, .f32⟩
  | 50 => ⟨S4x4x64x64x128, .f32⟩
  | 51 => ⟨S_, .f32⟩
  | 52 => ⟨S_, .f32⟩
  | 53 => ⟨S4x4x64x64x128, .f32⟩
  | 54 => ⟨S4x4x64x1x128, .f32⟩
  | 55 => ⟨S4x4x64x64x128, .f32⟩
  | 56 => ⟨S4x4x64x64x128, .f32⟩
  | 57 => ⟨S4x4x64x64x128, .f32⟩
  | 58 => ⟨S4x4x64x64x128, .f32⟩
  | 59 => ⟨S4x4x64x128x256, .f32⟩
  | 60 => ⟨S4x4x64x128x1, .f32⟩
  | 61 => ⟨S4x4x64x128x1, .f32⟩
  | 62 => ⟨S4x4x1x128x256, .f32⟩
  | 63 => ⟨S4x4x128x256, .f32⟩
  | 64 => ⟨S_, .f32⟩
  | 65 => ⟨S4x4x128x256, .f32⟩
  | 66 => ⟨S64x4x4x128x256, .f32⟩
  | 67 => ⟨S64x4x4x128x1, .f32⟩
  | 68 => ⟨S_, .f32⟩
  | 69 => ⟨S64x4x4x128x256, .f32⟩
  | 70 => ⟨S_, .i32⟩
  | 71 => ⟨S64x4x4x128x256, .f32⟩
  | 72 => ⟨S64x4x4x128x1, .f32⟩
  | 73 => ⟨S_, .i32⟩
  | 74 => ⟨S4x4x128x256, .f32⟩
  | 75 => ⟨S64x4x4x128x256, .f32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S1x4x4x128x256, .f32⟩
  | 83 => ⟨S4x4x128x256, .f32⟩
  | 84 => ⟨S_, .i32⟩
  | 85 => ⟨S_, .i32⟩
  | 86 => ⟨S_, .i32⟩
  | 87 => ⟨S_, .i32⟩
  | 88 => ⟨S1x4x4x128x1, .f32⟩
  | 89 => ⟨S4x4x128x1, .f32⟩
  | 90 => ⟨S4x4x128x256, .f32⟩
  | 91 => ⟨S4x4x128x256, .f32⟩
  | 92 => ⟨S4x4x128x256, .f32⟩
  | 93 => ⟨S1x4x4x128x256, .f32⟩
  | 94 => ⟨S_, .i32⟩
  | 95 => ⟨S_, .i32⟩
  | 96 => ⟨S_, .i32⟩
  | 97 => ⟨S_, .i32⟩
  | 98 => ⟨S64x4x4x128x256, .f32⟩
  | 99 => ⟨S_, .i32⟩
  | 100 => ⟨S_, .i32⟩
  | 101 => ⟨S4x4x64x128x256, .f32⟩
  | 102 => ⟨S4x4096x3072, .bf16⟩
  | 103 => ⟨S4x4096x512, .bf16⟩
  | 104 => ⟨S4x4096x512, .bf16⟩
  | 105 => ⟨S4x4096x1024, .bf16⟩
  | 106 => ⟨S4x4096x1024, .bf16⟩
  | 107 => ⟨S4x4096x512, .f32⟩
  | 108 => ⟨S4x4096x512, .f32⟩
  | 109 => ⟨S4x4096x1024, .f32⟩
  | 110 => ⟨S4x4096x1024, .f32⟩
  | 111 => ⟨S4x4096x4x128, .f32⟩
  | 112 => ⟨S4x64x64x4x128, .f32⟩
  | 113 => ⟨S4x4x64x64x128, .f32⟩
  | 114 => ⟨S_, .f32⟩
  | 115 => ⟨S4x4x64x64x128, .f32⟩
  | 116 => ⟨S4x4x64x64x128, .f32⟩
  | 117 => ⟨S4x4096x4x128, .f32⟩
  | 118 => ⟨S4x64x64x4x128, .f32⟩
  | 119 => ⟨S4x4x64x64x128, .f32⟩
  | 120 => ⟨S4x4096x4x256, .f32⟩
  | 121 => ⟨S4x64x64x4x256, .f32⟩
  | 122 => ⟨S4x4x64x64x256, .f32⟩
  | 123 => ⟨S4x4096x16, .f32⟩
  | 124 => ⟨S1x16x512, .f32⟩
  | 125 => ⟨S16x512, .f32⟩
  | 126 => ⟨S4x4096x512, .f32⟩
  | 127 => ⟨S1x512, .f32⟩
  | _ => ⟨S4x4096x12288, .bf16⟩

abbrev hbmTy0_1 (i : Nat) : BufTy := match i % 128 with
  | 0 => ⟨S512, .f32⟩
  | 1 => ⟨S1x1x512, .f32⟩
  | 2 => ⟨S4x4096x512, .f32⟩
  | 3 => ⟨S4x4096x512, .f32⟩
  | 4 => ⟨S4x4096x512, .f32⟩
  | 5 => ⟨S_, .f32⟩
  | 6 => ⟨S4x4096x512, .f32⟩
  | 7 => ⟨S4x4096x512, .f32⟩
  | 8 => ⟨S4x4096x512, .f32⟩
  | 9 => ⟨S4x4096x512, .f32⟩
  | 10 => ⟨S4x4096x512, .i1⟩
  | 11 => ⟨S4x4096x512, .f32⟩
  | 12 => ⟨S4x4096x512, .f32⟩
  | 13 => ⟨S4x4096x512, .f32⟩
  | 14 => ⟨S4x4096x512, .f32⟩
  | 15 => ⟨S4x4096x512, .f32⟩
  | 16 => ⟨S4x4096x512, .f32⟩
  | 17 => ⟨S4x4096x512, .f32⟩
  | 18 => ⟨S4x4096x512, .f32⟩
  | 19 => ⟨S4x4096x512, .f32⟩
  | 20 => ⟨S_, .f32⟩
  | 21 => ⟨S4x4096x512, .f32⟩
  | 22 => ⟨S4x4096x512, .f32⟩
  | 23 => ⟨S4x4096x4x128, .f32⟩
  | 24 => ⟨S4x64x64x4x128, .f32⟩
  | 25 => ⟨S4x4x64x64x128, .f32⟩
  | 26 => ⟨S_, .f32⟩
  | 27 => ⟨S_, .f32⟩
  | 28 => ⟨S4x4x64x64x128, .f32⟩
  | 29 => ⟨S4x4x64x64x128, .f32⟩
  | 30 => ⟨S4x4x64x64x128, .f32⟩
  | 31 => ⟨S4x4x64x64x128, .f32⟩
  | 32 => ⟨S4x4x64x64x128, .f32⟩
  | 33 => ⟨S4x4x64x64x128, .f32⟩
  | 34 => ⟨S4x4x64x64x64, .f32⟩
  | 35 => ⟨S64x64, .i32⟩
  | 36 => ⟨S_, .i32⟩
  | 37 => ⟨S64x64, .i32⟩
  | 38 => ⟨S64x64, .i32⟩
  | 39 => ⟨S64x64, .i32⟩
  | 40 => ⟨S64x64, .i1⟩
  | 41 => ⟨S4x4x64x64x64, .i1⟩
  | 42 => ⟨S_, .f32⟩
  | 43 => ⟨S4x4x64x64x64, .f32⟩
  | 44 => ⟨S4x4x64x64x64, .f32⟩
  | 45 => ⟨S4x4x64x64x256, .f32⟩
  | 46 => ⟨S4x4x64x64x256, .f32⟩
  | 47 => ⟨S4x4x64x64x256, .f32⟩
  | 48 => ⟨S4x64x64x4x256, .f32⟩
  | 49 => ⟨S4x4096x4x256, .f32⟩
  | 50 => ⟨S4x4096x4x256, .f32⟩
  | 51 => ⟨S_, .f32⟩
  | 52 => ⟨S4x4096x4, .f32⟩
  | 53 => ⟨S4x4096x4x1, .f32⟩
  | 54 => ⟨S_, .f32⟩
  | 55 => ⟨S4x4096x4x1, .f32⟩
  | 56 => ⟨S4x4096x4x1, .f32⟩
  | 57 => ⟨S_, .f32⟩
  | 58 => ⟨S4x4096x4x1, .f32⟩
  | 59 => ⟨S4x4096x4x1, .f32⟩
  | 60 => ⟨S4x4096x4x1, .f32⟩
  | 61 => ⟨S4x4096x4x256, .f32⟩
  | 62 => ⟨S4x4096x4x256, .f32⟩
  | 63 => ⟨S4x4096x1024, .f32⟩
  | 64 => ⟨S1x1024, .f32⟩
  | 65 => ⟨S1024, .f32⟩
  | 66 => ⟨S1x1x1024, .f32⟩
  | 67 => ⟨S4x4096x1024, .f32⟩
  | 68 => ⟨S4x4096x1024, .f32⟩
  | 69 => ⟨S4x4096x1024, .f32⟩
  | 70 => ⟨S4x4096x1024, .f32⟩
  | 71 => ⟨S_, .f32⟩
  | 72 => ⟨S4x4096x1024, .f32⟩
  | 73 => ⟨S4x4096x1024, .f32⟩
  | 74 => ⟨S_, .f32⟩
  | 75 => ⟨S4x4096x1024, .f32⟩
  | 76 => ⟨S4x4096x1024, .f32⟩
  | 77 => ⟨S4x4096x1024, .f32⟩
  | 78 => ⟨S4x4096x1024, .f32⟩
  | 79 => ⟨S4x4096x1024, .bf16⟩
  | _ => ⟨S4x4096x12288, .bf16⟩

abbrev hbmTy (i : Nat) : BufTy := match i / 128 with
  | 0 => hbmTy0_0 i
  | 1 => hbmTy0_1 i
  | _ => ⟨S4x4096x12288, .bf16⟩

abbrev bufTy : (tb : Table) → Fin (tcTables nBuf tb) → BufTy
  | .hbm, ⟨i, _⟩ => hbmTy i
  | _, _ => ⟨S4x4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_v25 : Ref sig .tc := ⟨.hbm, 43, rfl⟩
abbrev main_v26 : Ref sig .tc := ⟨.hbm, 44, rfl⟩
abbrev main_call1_cst : Ref sig .tc := ⟨.hbm, 45, rfl⟩
abbrev main_call1_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call2_call0_cst : Ref sig .tc := ⟨.hbm, 51, rfl⟩
abbrev main_call2_call0_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_0 : Ref sig .tc := ⟨.hbm, 68, rfl⟩
abbrev main_v45 : Ref sig .tc := ⟨.hbm, 69, rfl⟩
abbrev main_c : Ref sig .tc := ⟨.hbm, 70, rfl⟩
abbrev main_v46_0 : Ref sig .tc := ⟨.hbm, 71, rfl⟩
abbrev main_v46_1 : Ref sig .tc := ⟨.hbm, 72, rfl⟩
abbrev main_v46_2 : Ref sig .tc := ⟨.hbm, 73, rfl⟩
abbrev main_v46_3 : Ref sig .tc := ⟨.hbm, 74, rfl⟩
abbrev main_v46_4 : Ref sig .tc := ⟨.hbm, 75, rfl⟩
abbrev main_while0c_c_11 : Ref sig .tc := ⟨.hbm, 76, rfl⟩
abbrev main_while0c_v122 : Ref sig .tc := ⟨.hbm, 77, rfl⟩
abbrev main_while0b_call3_c : Ref sig .tc := ⟨.hbm, 78, rfl⟩
abbrev main_while0b_call3_c_0 : Ref sig .tc := ⟨.hbm, 79, rfl⟩
abbrev main_while0b_call3_c_1 : Ref sig .tc := ⟨.hbm, 80, rfl⟩
abbrev main_while0b_call3_c_2 : Ref sig .tc := ⟨.hbm, 81, rfl⟩
abbrev main_while0b_call3_v0 : Ref sig .tc := ⟨.hbm, 82, rfl⟩
abbrev main_while0b_v122 : Ref sig .tc := ⟨.hbm, 83, rfl⟩
abbrev main_while0b_call4_c : Ref sig .tc := ⟨.hbm, 84, rfl⟩
abbrev main_while0b_call4_c_0 : Ref sig .tc := ⟨.hbm, 85, rfl⟩
abbrev main_while0b_call4_c_1 : Ref sig .tc := ⟨.hbm, 86, rfl⟩
abbrev main_while0b_call4_c_2 : Ref sig .tc := ⟨.hbm, 87, rfl⟩
abbrev main_while0b_call4_v0 : Ref sig .tc := ⟨.hbm, 88, rfl⟩
abbrev main_while0b_v123 : Ref sig .tc := ⟨.hbm, 89, rfl⟩
abbrev main_while0b_v124 : Ref sig .tc := ⟨.hbm, 90, rfl⟩
abbrev main_while0b_v125 : Ref sig .tc := ⟨.hbm, 91, rfl⟩
abbrev main_while0b_v126 : Ref sig .tc := ⟨.hbm, 92, rfl⟩
abbrev main_while0b_call5_v0 : Ref sig .tc := ⟨.hbm, 93, rfl⟩
abbrev main_while0b_call5_c : Ref sig .tc := ⟨.hbm, 94, rfl⟩
abbrev main_while0b_call5_c_0 : Ref sig .tc := ⟨.hbm, 95, rfl⟩
abbrev main_while0b_call5_c_1 : Ref sig .tc := ⟨.hbm, 96, rfl⟩
abbrev main_while0b_call5_c_2 : Ref sig .tc := ⟨.hbm, 97, rfl⟩
abbrev main_while0b_v127 : Ref sig .tc := ⟨.hbm, 98, rfl⟩
abbrev main_while0b_c_11 : Ref sig .tc := ⟨.hbm, 99, rfl⟩
abbrev main_while0b_v128 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_cst_1 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_call6_cst : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_call6_v3 : Ref sig .tc := ⟨.hbm, 137, rfl⟩
abbrev main_call6_v4 : Ref sig .tc := ⟨.hbm, 138, rfl⟩
abbrev main_call6_v5 : Ref sig .tc := ⟨.hbm, 139, rfl⟩
abbrev main_call6_v6 : Ref sig .tc := ⟨.hbm, 140, rfl⟩
abbrev main_call6_v7 : Ref sig .tc := ⟨.hbm, 141, rfl⟩
abbrev main_call6_v8 : Ref sig .tc := ⟨.hbm, 142, rfl⟩
abbrev main_call6_v9 : Ref sig .tc := ⟨.hbm, 143, rfl⟩
abbrev main_call6_v10 : Ref sig .tc := ⟨.hbm, 144, rfl⟩
abbrev main_call6_v11 : Ref sig .tc := ⟨.hbm, 145, rfl⟩
abbrev main_v78 : Ref sig .tc := ⟨.hbm, 146, rfl⟩
abbrev main_v79 : Ref sig .tc := ⟨.hbm, 147, rfl⟩
abbrev main_call7_cst : Ref sig .tc := ⟨.hbm, 148, rfl⟩
abbrev main_call7_v0 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_call8_call0_cst : Ref sig .tc := ⟨.hbm, 154, rfl⟩
abbrev main_call8_call0_v0 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_call9_v0 : Ref sig .tc := ⟨.hbm, 163, rfl⟩
abbrev main_call9_c : Ref sig .tc := ⟨.hbm, 164, rfl⟩
abbrev main_call9_v1 : Ref sig .tc := ⟨.hbm, 165, rfl⟩
abbrev main_call9_v2 : Ref sig .tc := ⟨.hbm, 166, rfl⟩
abbrev main_call9_v3 : Ref sig .tc := ⟨.hbm, 167, rfl⟩
abbrev main_call9_v4 : Ref sig .tc := ⟨.hbm, 168, rfl⟩
abbrev main_call9_v5 : Ref sig .tc := ⟨.hbm, 169, rfl⟩
abbrev main_call9_cst : Ref sig .tc := ⟨.hbm, 170, rfl⟩
abbrev main_call9_v6 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_cst_2 : Ref sig .tc := ⟨.hbm, 179, rfl⟩
abbrev main_v98 : Ref sig .tc := ⟨.hbm, 180, rfl⟩
abbrev main_v99 : Ref sig .tc := ⟨.hbm, 181, rfl⟩
abbrev main_cst_3 : Ref sig .tc := ⟨.hbm, 182, rfl⟩
abbrev main_v100 : Ref sig .tc := ⟨.hbm, 183, rfl⟩
abbrev main_v101 : Ref sig .tc := ⟨.hbm, 184, rfl⟩
abbrev main_cst_4 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_cst_5 : Ref sig .tc := ⟨.hbm, 199, rfl⟩
abbrev main_v115 : Ref sig .tc := ⟨.hbm, 200, rfl⟩
abbrev main_v116 : Ref sig .tc := ⟨.hbm, 201, rfl⟩
abbrev main_cst_6 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩

abbrev nD : Nat := 1
abbrev τ : Topo := Topo.v7x

variable {F : FTy → Type} [FloatOps F]

abbrev main_while0_count : Scf.Loop 32 := ⟨0#32, 64#32, 1#32⟩
-- ==== Proof.RelayoutRows.lean ====
/- The layout of the relayout kernel's result: which row of the transposed weight each of its rows holds, and the whole
   result as one function of the weight, over any floats. -/
module

public import Idealize.ShloMosaic.Lib.Pipeline.ValueKit

@[expose] public section

set_option maxRecDepth 16384

noncomputable section

namespace Cert.Relayout

open Idealize.ShloMosaic

variable {F : FTy → Type} [FloatOps F]

/-- The weight's shape. -/
abbrev A4x1024x11816 : Shape := ⟨3, ![4, 1024, 11816]⟩
/-- The result's shape. -/
abbrev A4x12288x1024 : Shape := ⟨3, ![4, 12288, 1024]⟩

/-- The row of the weight that row `r` of the result holds. -/
def src (r : ℕ) : ℕ :=
  if r < 2048 then r else if r < 5120 then r + 16 else if r < 6144 then r + 24 else if r < 9216 then r + 2600
  else if r < 11776 then r - 3048 else if r < 11792 then r - 9728 else if r < 11800 then r - 6656 else r - 3072

theorem src_spec (r s : ℕ) (h : (r < 2048 ∧ s = r) ∨ (2048 ≤ r ∧ r < 5120 ∧ s = r + 16) ∨ (5120 ≤ r ∧ r < 6144 ∧ s = r + 24)
    ∨ (6144 ≤ r ∧ r < 9216 ∧ s = r + 2600) ∨ (9216 ≤ r ∧ r < 11776 ∧ s + 3048 = r) ∨ (11776 ≤ r ∧ r < 11792 ∧ s + 9728 = r)
    ∨ (11792 ≤ r ∧ r < 11800 ∧ s + 6656 = r) ∨ (11800 ≤ r ∧ s + 3072 = r)) : s = src r := by
  unfold src; split_ifs <;> omega

theorem src_lt {r : ℕ} (h : r < 11816) : src r < 11816 := by
  unfold src; split_ifs <;> omega

/-- The whole result, over any floats. -/
def G (A : FVec F A4x1024x11816 .f32) : FVec F A4x12288x1024 .bf16 := fun i =>
  if h : (i 1).val < 11816 then FloatOps.truncf .bf16 (by decide) (A (ix3 (i 0) (i 2) ⟨src (i 1).val, src_lt h⟩))
  else if (i 1).val < 11904 then FloatOps.truncf .bf16 (by decide) (FloatOps.ofBits .f32 0x00000000#32)
  else FloatOps.ofBits .bf16 0x0000#16

theorem G_row (A : FVec F A4x1024x11816 .f32) (i : A4x12288x1024.Idx) (h : (i 1).val < 11816) (l : Fin 4) (d : Fin 1024)
    (r : Fin 11816) (hl : l.val = (i 0).val) (hd : d.val = (i 2).val) (hr : r.val = src (i 1).val) :
    G A i = FloatOps.truncf .bf16 (by decide) (A (ix3 l d r)) := by
  have el : l = i 0 := Fin.ext hl
  have ed : d = i 2 := Fin.ext hd
  have er : r = ⟨src (i 1).val, src_lt h⟩ := Fin.ext hr
  unfold G; rw [dif_pos h, el, ed, er]

theorem G_pad (A : FVec F A4x1024x11816 .f32) (i : A4x12288x1024.Idx) (h : ¬ (i 1).val < 11816) (h' : (i 1).val < 11904) :
    G A i = FloatOps.truncf .bf16 (by decide) (FloatOps.ofBits .f32 0x00000000#32) := by
  unfold G; rw [dif_neg h, if_pos h']

theorem G_tail (A : FVec F A4x1024x11816 .f32) (i : A4x12288x1024.Idx) (h : ¬ (i 1).val < 11904) :
    G A i = FloatOps.ofBits .bf16 0x0000#16 := by
  unfold G; rw [dif_neg (by omega), if_neg h]

theorem src_add {k x : ℕ} (hk : k ≤ 22) (hx : x < 512) : src (512 * k + x) = src (512 * k) + x := by
  rcases (by omega : k < 4 ∨ (4 ≤ k ∧ k < 10) ∨ (10 ≤ k ∧ k < 12) ∨ (12 ≤ k ∧ k < 18) ∨ (18 ≤ k ∧ k < 23))
    with h | h | h | h | h
  · rw [src, src, if_pos (by omega), if_pos (by omega)]
  · rw [src, src, if_neg (by omega), if_pos (by omega), if_neg (by omega), if_pos (by omega)]; omega
  · rw [src, src, if_neg (by omega), if_neg (by omega), if_pos (by omega), if_neg (by omega), if_neg (by omega),
      if_pos (by omega)]; omega
  · rw [src, src, if_neg (by omega), if_neg (by omega), if_neg (by omega), if_pos (by omega), if_neg (by omega),
      if_neg (by omega), if_neg (by omega), if_pos (by omega)]; omega
  · rw [src, src, if_neg (by omega), if_neg (by omega), if_neg (by omega), if_neg (by omega), if_pos (by omega),
      if_neg (by omega), if_neg (by omega), if_neg (by omega), if_neg (by omega), if_pos (by omega)]; omega

theorem ix3_congr {a b c : ℕ} {i i' : Fin a} {j j' : Fin b} {k k' : Fin c} (hi : i = i') (hj : j = j') (hk : k = k') :
    ix3 i j k = ix3 i' j' k' := by rw [hi, hj, hk]

end Cert.Relayout

end
-- ==== Proof.RelayoutKernelIdeal.lean ====
/- The array that the relayout kernel leaves, element by element: row `r` of layer `l` of the result is row `src r` of the
   transposed input weight, rounded to bf16, and zero where no row of the weight goes. -/
module

public import proofs.«01_k».proof.Proof.Gen.KernelIdeal.Value
public import proofs.«01_k».proof.Proof.RelayoutRows
public import Idealize.ShloMosaic.Lib.Pipeline.ValueKit

@[expose] public section

set_option maxRecDepth 16384

noncomputable section

namespace Cert.KernelIdeal.Hand

open Cert.Relayout Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem idx0 : ∀ t : Fin grid0.N, t.val % 24 ≤ 22 → win0_0.index t = ![t.val / 24, src (512 * (t.val % 24)), 0] := by
  decide +kernel
theorem idx1 : ∀ t : Fin grid0.N, win0_1.index t = ![t.val / 24, 2048, 0] := by decide +kernel
theorem idx2 : ∀ t : Fin grid0.N, win0_2.index t = ![t.val / 24, 5136, 0] := by decide +kernel
theorem idx3 : ∀ t : Fin grid0.N, win0_3.index t = ![t.val / 24, 8728, 0] := by decide +kernel
theorem idx4 : ∀ t : Fin grid0.N, win0_4.index t = ![t.val / 24, t.val % 24, 0] := by decide +kernel

theorem blk0 (c : Dev nD) (t : Fin cfg0.N) (h0 : t.val % 24 ≤ 22) (x0 : Fin 1) (x1 : Fin 512) (x2 : Fin 1024)
    (l : Fin 4) (d : Fin 1024) (r : Fin 11816) (hl : l.val = t.val / 24) (hd : d.val = x2.val)
    (hr : r.val = src (512 * (t.val % 24)) + x1.val) :
    iblk m c 0 t (ix3 x0 x1 x2) = m ((c : Thread nD τ).loc main_arg0) (ix3 l d r) := by
  have h0x := x0.isLt
  have e0 := Pipeline.Window.rect_emb_val_off win0_0 t (ix3 x0 x1 x2) (0 : Fin 3)
  have e1 := Pipeline.Window.rect_emb_val_off win0_0 t (ix3 x0 x1 x2) (1 : Fin 3)
  have e2 := Pipeline.Window.rect_emb_val_off win0_0 t (ix3 x0 x1 x2) (2 : Fin 3)
  rw [idx0 t h0] at e0 e1 e2
  change _ = t.val / 24 + x0.val at e0
  change _ = src (512 * (t.val % 24)) + x1.val at e1
  change _ = 0 + x2.val at e2
  blk_simp [iblk, idx0 t h0]
  entry_read
  pointwise
  refine congrArg _ (ix3_congr (Fin.ext ?_) (Fin.ext ?_) (Fin.ext ?_))
  · exact e0.trans (by omega)
  · exact e2.trans (by omega)
  · exact e1.trans (by omega)

theorem blk1 (c : Dev nD) (t : Fin cfg0.N) (x0 : Fin 1) (x1 : Fin 16) (x2 : Fin 1024)
    (l : Fin 4) (d : Fin 1024) (r : Fin 11816) (hl : l.val = t.val / 24) (hd : d.val = x2.val)
    (hr : r.val = 2048 + x1.val) :
    iblk m c 1 t (ix3 x0 x1 x2) = m ((c : Thread nD τ).loc main_arg0) (ix3 l d r) := by
  have h0x := x0.isLt
  have e0 := Pipeline.Window.rect_emb_val_off win0_1 t (ix3 x0 x1 x2) (0 : Fin 3)
  have e1 := Pipeline.Window.rect_emb_val_off win0_1 t (ix3 x0 x1 x2) (1 : Fin 3)
  have e2 := Pipeline.Window.rect_emb_val_off win0_1 t (ix3 x0 x1 x2) (2 : Fin 3)
  rw [idx1 t] at e0 e1 e2
  change _ = t.val / 24 + x0.val at e0
  change _ = 2048 + x1.val at e1
  change _ = 0 + x2.val at e2
  blk_simp [iblk, idx1 t]
  entry_read
  pointwise
  refine congrArg _ (ix3_congr (Fin.ext ?_) (Fin.ext ?_) (Fin.ext ?_))
  · exact e0.trans (by omega)
  · exact e2.trans (by omega)
  · exact e1.trans (by omega)

theorem blk2 (c : Dev nD) (t : Fin cfg0.N) (x0 : Fin 1) (x1 : Fin 8) (x2 : Fin 1024)
    (l : Fin 4) (d : Fin 1024) (r : Fin 11816) (hl : l.val = t.val / 24) (hd : d.val = x2.val)
    (hr : r.val = 5136 + x1.val) :
    iblk m c 2 t (ix3 x0 x1 x2) = m ((c : Thread nD τ).loc main_arg0) (ix3 l d r) := by
  have h0x := x0.isLt
  have e0 := Pipeline.Window.rect_emb_val_off win0_2 t (ix3 x0 x1 x2) (0 : Fin 3)
  have e1 := Pipeline.Window.rect_emb_val_off win0_2 t (ix3 x0 x1 x2) (1 : Fin 3)
  have e2 := Pipeline.Window.rect_emb_val_off win0_2 t (ix3 x0 x1 x2) (2 : Fin 3)
  rw [idx2 t] at e0 e1 e2
  change _ = t.val / 24 + x0.val at e0
  change _ = 5136 + x1.val at e1
  change _ = 0 + x2.val at e2
  blk_simp [iblk, idx2 t]
  entry_read
  pointwise
  refine congrArg _ (ix3_congr (Fin.ext ?_) (Fin.ext ?_) (Fin.ext ?_))
  · exact e0.trans (by omega)
  · exact e2.trans (by omega)
  · exact e1.trans (by omega)

theorem blk3 (c : Dev nD) (t : Fin cfg0.N) (x0 : Fin 1) (x1 : Fin 16) (x2 : Fin 1024)
    (l : Fin 4) (d : Fin 1024) (r : Fin 11816) (hl : l.val = t.val / 24) (hd : d.val = x2.val)
    (hr : r.val = 8728 + x1.val) :
    iblk m c 3 t (ix3 x0 x1 x2) = m ((c : Thread nD τ).loc main_arg0) (ix3 l d r) := by
  have h0x := x0.isLt
  have e0 := Pipeline.Window.rect_emb_val_off win0_3 t (ix3 x0 x1 x2) (0 : Fin 3)
  have e1 := Pipeline.Window.rect_emb_val_off win0_3 t (ix3 x0 x1 x2) (1 : Fin 3)
  have e2 := Pipeline.Window.rect_emb_val_off win0_3 t (ix3 x0 x1 x2) (2 : Fin 3)
  rw [idx3 t] at e0 e1 e2
  change _ = t.val / 24 + x0.val at e0
  change _ = 8728 + x1.val at e1
  change _ = 0 + x2.val at e2
  blk_simp [iblk, idx3 t]
  entry_read
  pointwise
  refine congrArg _ (ix3_congr (Fin.ext ?_) (Fin.ext ?_) (Fin.ext ?_))
  · exact e0.trans (by omega)
  · exact e2.trans (by omega)
  · exact e1.trans (by omega)

theorem pointA (c : Dev nD) (t : Fin cfg0.N) (h0 : t.val % 24 ≤ 22) (y : S1x512x1024.Idx) :
   k0_pay1 (iblk m c 0 t) y = G (m (c.tc.loc main_arg0)) (((View.whole main_v1).slice (win0_4.rect t)).emb y) := by
  pointwise [k0_pay1, G]
  idx_vars y
  have h1 := y1.isLt
  have hs := src_add h0 y1.isLt
  blk_simp [idx4 t]
  rw [dif_pos (by omega)]
  congr 1
  apply blk0 m c t h0
  · blk_simp [idx4 t]
  · blk_simp [idx4 t]
  · rw [← hs]
    show src _ = src _
    exact congrArg src (by omega)

theorem pointB (c : Dev nD) (t : Fin cfg0.N) (h1 : t.val % 24 = 23) (y : S1x512x1024.Idx) (i : S4x12288x1024.Idx)
    (i0 : (i 0).val = t.val / 24) (i1 : (i 1).val = 11776 + (y 1).val) (i2 : (i 2).val = (y 2).val) :
    View.canon (Val := Elt F) (s := S1x512x1024) (e := .bf16)
      [⟨Rect.unit ![0, 128, 0] ![1, 384, 1024] inb_S1x512x1024_S1x384x1024_0_128_0, k0_pay3⟩,
        ⟨Rect.unit ![0, 0, 0] ![1, 128, 1024] inb_S1x512x1024_S1x128x1024_0_0_0,
          k0_pay2 (iblk m c 1 t) (iblk m c 2 t) (iblk m c 3 t)⟩]
      y =
    G (m (c.tc.loc main_arg0)) i := by
  have hy := (y 1).isLt
  change (y 1).val < 512 at hy
  have hcover : ∃ p ∈ ([⟨Rect.unit ![0, 128, 0] ![1, 384, 1024] inb_S1x512x1024_S1x384x1024_0_128_0, k0_pay3⟩,
        ⟨Rect.unit ![0, 0, 0] ![1, 128, 1024] inb_S1x512x1024_S1x128x1024_0_0_0,
          k0_pay2 (iblk m c 1 t) (iblk m c 2 t) (iblk m c 3 t)⟩] : List (View.Piece (Elt F) S1x512x1024 .bf16)),
      y ∈ p.fst.set := by
    idx_vars y
    by_cases hlt : y1.val < 128
    · refine ⟨_, List.mem_cons_of_mem _ (List.mem_singleton.mpr rfl), ?_⟩
      rw [Rect.mem_set_unit]
      intro a; fin_cases a <;> simp <;> omega
    · refine ⟨_, List.mem_cons_self, ?_⟩
      rw [Rect.mem_set_unit]
      intro a; fin_cases a <;> simp <;> omega
  canon_tiles x h using hcover
  · rw [G_tail _ _ (by omega)]
    pointwise [k0_pay3]
  · idx_vars x
    replace h1 : (y 1).val = x1.val := h1
    replace h2 : (y 2).val = x2.val := h2
    have ht := t.isLt
    change t.val < 96 at ht
    by_cases c1 : x1.val < 16
    · rw [G_row _ i (by omega) ⟨t.val / 24, by omega⟩ x2 ⟨2048 + x1.val, by omega⟩ i0.symm (by omega)
        (by show 2048 + x1.val = _; rw [src]; split_ifs <;> omega)]
      pointwise [k0_pay2]
      rw [dif_pos c1]
      congr 1
      exact blk1 m c t _ _ _ _ _ _ rfl rfl rfl
    by_cases c2 : x1.val < 24
    · rw [G_row _ i (by omega) ⟨t.val / 24, by omega⟩ x2 ⟨5136 + (x1.val - 16), by omega⟩ i0.symm (by omega)
        (by show 5136 + (x1.val - 16) = _; rw [src]; split_ifs <;> omega)]
      pointwise [k0_pay2]
      rw [dif_neg (by omega), dif_pos (by omega)]
      congr 1
      exact blk2 m c t _ _ _ _ _ _ rfl rfl rfl
    by_cases c3 : x1.val < 40
    · rw [G_row _ i (by omega) ⟨t.val / 24, by omega⟩ x2 ⟨8728 + (x1.val - 16 - 8), by omega⟩ i0.symm (by omega)
        (by show 8728 + (x1.val - 16 - 8) = _; rw [src]; split_ifs <;> omega)]
      pointwise [k0_pay2]
      rw [dif_neg (by omega), dif_neg (by omega), dif_pos (by omega)]
      congr 1
      exact blk3 m c t _ _ _ _ _ _ rfl rfl rfl
    · rw [G_pad _ _ (by omega) (by omega)]
      pointwise [k0_pay2]
      rw [dif_neg (by omega), dif_neg (by omega), dif_neg (by omega)]

/-- The relayout's result after the run: the whole-array function of the weight. -/
theorem final (c : Dev nD) : (dats m 0 c).arrAt 4 cfg0.N = G (m ((c : Thread nD τ).loc main_arg0)) := by
  refine (dats m 0 c).arrAt_eq_of_covers 4 _ (by decide +kernel) fun t hf y => ?_
  blk_simp
  by_cases h0 : t.val % 24 ≤ 22
  · have h1 : ¬t.val % 24 = 23 := by omega
    rw [after0_4, outsAt0_A m c t h0 h1]
    frame_out
    exact pointA m c t h0 y
  · have h1 : t.val % 24 = 23 := by have := t.isLt; omega
    rw [after0_4, outsAt0_B m c t h0 h1]
    frame_out
    have e0 := Pipeline.Window.rect_emb_val_off win0_4 t y (0 : Fin 3)
    have e1 := Pipeline.Window.rect_emb_val_off win0_4 t y (1 : Fin 3)
    have e2 := Pipeline.Window.rect_emb_val_off win0_4 t y (2 : Fin 3)
    rw [idx4 t] at e0 e1 e2
    have hy0 : (y (0 : Fin 3)).val < 1 := (y (0 : Fin 3)).isLt
    change _ = t.val / 24 * 1 + (y (0 : Fin 3)).val at e0
    change _ = t.val % 24 * 512 + (y (1 : Fin 3)).val at e1
    change _ = 0 * 1024 + (y (2 : Fin 3)).val at e2
    exact pointB m c t h1 y _ (e0.trans (by omega)) (e1.trans (by rw [h1]))
      (e2.trans (by show _ = (y (2 : Fin 3)).val; omega))

end Cert.KernelIdeal.Hand

end
-- ==== Proof.RelayoutReferenceIdeal.lean ====
/- The relayout's reference read at an index: the columns of the weight in their new order, transposed and rounded, are
   the whole-array function `G` with zero rows at the end. -/
module

public import proofs.«01_k».proof.Proof.Gen.ReferenceIdeal.Run
public import proofs.«01_k».proof.Proof.RelayoutRows

@[expose] public section

set_option maxRecDepth 16384

noncomputable section

namespace Cert.ReferenceIdeal.Hand

open Cert.Relayout Cert.ReferenceIdeal Cert.ReferenceIdeal.Gen Idealize.ShloMosaic Idealize.ShloMosaic.TcCoe Idealize.SL.Sem

variable {F : FTy → Type} [FloatOps F]

set_option maxHeartbeats 1000000 in
theorem ref_apply (hz : (FloatOps.truncf .bf16 (by decide) (FloatOps.ofBits (F := F) .f32 0x00000000#32) : F .bf16) = FloatOps.ofBits .bf16 0x0000#16)
    (A : FVec F S4x1024x11816 .f32) (i : S4x12288x1024.Idx) :
    (truncf .bf16 (transpose S4x12288x1024 [0, 2, 1] ((concatenate S4x1024x12288 2 [⟨S4x1024x512, ((extractStridedSlice S4x1024x512 ![0, 0, 0] A slices_S4x1024x11816_S4x1024x512_0_0_0) : (⟨S4x1024x512, .f32⟩ : BufTy).Contents (Elt F))⟩, ⟨S4x1024x512, ((extractStridedSlice S4x1024x512 ![0, 0, 512] A slices_S4x1024x11816_S4x1024x512_0_0_512) : (⟨S4x1024x512, .f32⟩ : BufTy).Contents (Elt F))⟩, ⟨S4x1024x1024, ((extractStridedSlice S4x1024x1024 ![0, 0, 1024] A slices_S4x1024x11816_S4x1024x1024_0_0_1024) : (⟨S4x1024x1024, .f32⟩ : BufTy).Contents (Elt F))⟩, ⟨S4x1024x1024, ((extractStridedSlice S4x1024x1024 ![0, 0, 2064] A slices_S4x1024x11816_S4x1024x1024_0_0_2064) : (⟨S4x1024x1024, .f32⟩ : BufTy).Contents (Elt F))⟩, ⟨S4x1024x1024, ((extractStridedSlice S4x1024x1024 ![0, 0, 3088] A slices_S4x1024x11816_S4x1024x1024_0_0_3088) : (⟨S4x1024x1024, .f32⟩ : BufTy).Contents (Elt F))⟩, ⟨S4x1024x1024, ((extractStridedSlice S4x1024x1024 ![0, 0, 4112] A slices_S4x1024x11816_S4x1024x1024_0_0_4112) : (⟨S4x1024x1024, .f32⟩ : BufTy).Contents (Elt F))⟩, ⟨S4x1024x1024, ((extractStridedSlice S4x1024x1024 ![0, 0, 5144] A slices_S4x1024x11816_S4x1024x1024_0_0_5144) : (⟨S4x1024x1024, .f32⟩ : BufTy).Contents (Elt F))⟩, ⟨S4x1024x3072, ((extractStridedSlice S4x1024x3072 ![0, 0, 8744] A slices_S4x1024x11816_S4x1024x3072_0_0_8744) : (⟨S4x1024x3072, .f32⟩ : BufTy).Contents (Elt F))⟩, ⟨S4x1024x1024, ((extractStridedSlice S4x1024x1024 ![0, 0, 6168] A slices_S4x1024x11816_S4x1024x1024_0_0_6168) : (⟨S4x1024x1024, .f32⟩ : BufTy).Contents (Elt F))⟩, ⟨S4x1024x1536, ((extractStridedSlice S4x1024x1536 ![0, 0, 7192] A slices_S4x1024x11816_S4x1024x1536_0_0_7192) : (⟨S4x1024x1536, .f32⟩ : BufTy).Contents (Elt F))⟩, ⟨S4x1024x16, ((extractStridedSlice S4x1024x16 ![0, 0, 2048] A slices_S4x1024x11816_S4x1024x16_0_0_2048) : (⟨S4x1024x16, .f32⟩ : BufTy).Contents (Elt F))⟩, ⟨S4x1024x4, ((extractStridedSlice S4x1024x4 ![0, 0, 5136] A slices_S4x1024x11816_S4x1024x4_0_0_5136) : (⟨S4x1024x4, .f32⟩ : BufTy).Contents (Elt F))⟩, ⟨S4x1024x4, ((extractStridedSlice S4x1024x4 ![0, 0, 5140] A slices_S4x1024x11816_S4x1024x4_0_0_5140) : (⟨S4x1024x4, .f32⟩ : BufTy).Contents (Elt F))⟩, ⟨S4x1024x16, ((extractStridedSlice S4x1024x16 ![0, 0, 8728] A slices_S4x1024x11816_S4x1024x16_0_0_8728) : (⟨S4x1024x16, .f32⟩ : BufTy).Contents (Elt F))⟩, ⟨S4x1024x472, ((broadcastInDim S4x1024x472 ![] bcast_S_S4x1024x472 (constant S_ .f32 0x00000000#32)) : (⟨S4x1024x472, .f32⟩ : BufTy).Contents (Elt F))⟩] concatenates_S4x1024x512_S4x1024x512_S4x1024x1024_S4x1024x1024_S4x1024x1024_S4x1024x1024_S4x1024x1024_S4x1024x3072_S4x1024x1024_S4x1024x1536_S4x1024x16_S4x1024x4_S4x1024x4_S4x1024x16_S4x1024x472_S4x1024x12288_d2 : (⟨S4x1024x12288, .f32⟩ : BufTy).Contents (Elt F))) transposes_S4x1024x12288_S4x12288x1024_0_2_1) bitsLt_bf16_f32) i = G A i := by
  idx_vars i
  pointwise
  have g : ∀ {P : Prop} [Decidable P] {x : P → F .f32} {y : ¬P → F .f32} {z : F .bf16},
      (∀ h, FloatOps.truncf .bf16 bitsLt_bf16_f32 (x h) = z) → (∀ h, FloatOps.truncf .bf16 bitsLt_bf16_f32 (y h) = z) →
      FloatOps.truncf .bf16 bitsLt_bf16_f32 (dite P x y) = z := by
    intro P _ x y z hx hy; by_cases h : P
    · rw [dif_pos h]; exact hx h
    · rw [dif_neg h]; exact hy h
  iterate 14
    refine g (fun h => ?_) fun h => ?_
    · refine (G_row A (ix3 i0 i1 i2) ?_ i0 i2 _ rfl rfl ?_).symm
      · show i1.val < 11816; omega
      · first
          | (refine src_spec i1.val _ (.inl ?_); (try dsimp only); constructor <;> omega)
          | (refine src_spec i1.val _ (.inr (.inl ?_)); (try dsimp only); refine ⟨?_, ?_, ?_⟩ <;> omega)
          | (refine src_spec i1.val _ (.inr (.inr (.inl ?_))); (try dsimp only); refine ⟨?_, ?_, ?_⟩ <;> omega)
          | (refine src_spec i1.val _ (.inr (.inr (.inr (.inl ?_)))); (try dsimp only); refine ⟨?_, ?_, ?_⟩ <;> omega)
          | (refine src_spec i1.val _ (.inr (.inr (.inr (.inr (.inl ?_))))); (try dsimp only); refine ⟨?_, ?_, ?_⟩ <;> omega)
          | (refine src_spec i1.val _ (.inr (.inr (.inr (.inr (.inr (.inl ?_)))))); (try dsimp only); refine ⟨?_, ?_, ?_⟩ <;> omega)
          | (refine src_spec i1.val _ (.inr (.inr (.inr (.inr (.inr (.inr (.inl ?_))))))); (try dsimp only); refine ⟨?_, ?_, ?_⟩ <;> omega)
          | (refine src_spec i1.val _ (.inr (.inr (.inr (.inr (.inr (.inr (.inr ?_))))))); (try dsimp only); constructor <;> omega)
  by_cases h : i1.val < 11904
  · rw [G_pad]
    · show ¬ i1.val < 11816; omega
    · exact h
  · rw [G_tail]
    · exact hz
    · exact h

end Cert.ReferenceIdeal.Hand

end
-- ==== Proof.RelayoutClaims.lean ====
/- The relayout's claims: its frames, and its result against the reference's, bit for bit and over the extended reals. -/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.RelayoutKernel
public import proofs.«01_k».proof.Proof.RelayoutKernelIdeal
public import proofs.«01_k».proof.Proof.RelayoutReference
public import proofs.«01_k».proof.Proof.RelayoutReferenceIdeal
public import Idealize.ShloMosaic.Lib.Claim
public import Idealize.ShloMosaic.Lib.Bf16OnWords

@[expose] public section

set_option maxRecDepth 16384

noncomputable section

namespace Cert.Relayout

open Idealize.ShloMosaic Idealize.ShloMosaic.TcCoe Idealize.SL.Sem

theorem zero_bits : (FloatOps.truncf .bf16 (by decide) (FloatOps.ofBits (F := Bits) .f32 0x00000000#32) : Bits .bf16)
    = FloatOps.ofBits .bf16 0x0000#16 :=
  (Bits.truncf32to16_eq_truncf _).trans (by decide +kernel)

theorem zero_ideal : (FloatOps.truncf .bf16 (by decide) (FloatOps.ofBits (F := Ideal) .f32 0x00000000#32) : Ideal .bf16)
    = FloatOps.ofBits .bf16 0x0000#16 := by
  show Ideal.ofBits .f32 0x00000000#32 = Ideal.ofBits .bf16 0x0000#16
  rw [Ideal.ofBits_zero_f32, Ideal.ofBits_zero_bf16]

theorem frame_kernel : Cert.quiescent_Kernel := fun m ρ _ => Cert.Kernel.Gen.frame m ρ
theorem frame_ideal : Cert.quiescent_KernelIdeal := fun m ρ _ => Cert.KernelIdeal.Gen.frame m ρ
theorem frame_refideal : Cert.quiescent_ReferenceIdeal := fun m ρ _ =>
  θ_run_mono (Cert.ReferenceIdeal.Value.run m ρ) fun r h => ⟨fun c => (h c).2, sem_eq_zero_of_no_sems (by decide) r.2⟩
theorem frame_ref : Cert.quiescent_Reference := fun m ρ _ =>
  θ_run_mono (Cert.Reference.Value.run m ρ) fun r h => ⟨fun c => (h c).2, sem_eq_zero_of_no_sems (by decide) r.2⟩

theorem bitexact : Cert.bitexact_Kernel_Reference := by
  pair_intro
  · run_from Cert.Kernel.Value.run_blocks m g
  · run_from Cert.Reference.Value.run m' g'
    rw [Cert.Kernel.Hand.final, hagree]
    funext i
    exact Cert.Reference.Hand.ref_apply zero_bits _ i

theorem algebraic : Cert.algebraic_KernelIdeal_ReferenceIdeal := by
  pair_intro
  · run_from Cert.KernelIdeal.Value.run_blocks m g
  · run_from Cert.ReferenceIdeal.Value.run m' g'
    rw [Cert.KernelIdeal.Hand.final, hagree]
    funext i
    exact Cert.ReferenceIdeal.Hand.ref_apply zero_ideal _ i

end Cert.Relayout

end
-- ==== Proof.InProjKernel.lean ====
module

public import proofs.«01_k».proof.Proof.Gen.InProjIdeal.Value
public import proofs.«01_k».proof.Proof.Gen.InProjRefIdeal.Read
public import proofs.«01_k».proof.Proof.RelayoutReferenceIdeal
public import proofs.«01_k».proof.Proof.RelayoutClaims
public import Idealize.ShloMosaic.Lib.Pipeline.ValueKit

@[expose] public section

set_option maxRecDepth 16384

noncomputable section

namespace Cert.InProjIdeal.Hand

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin grid0.N, win0_0.index t = ![t.val / 4, 0] ∧ win0_1.index t = ![0, 0, 0] ∧ win0_2.index t = ![0, t.val % 4, 0]
    ∧ win0_3.index t = ![t.val / 4, t.val % 4] ∧ win0_4.index t = ![t.val / 4, 0] := by decide +kernel

theorem blk0 (c : Dev nD) (t : Fin cfg0.N) (r : Fin 1024) (k : Fin 1024) (R : Fin 16384) (h : R.val = t.val / 4 * 1024 + r.val) :
    iblk m c 0 t (ix2 r k) = m ((c : Thread nD τ).loc main_arg0) (ix2 R k) := by
  blk_ext [iblk, V, idx0 t]
theorem blk1 (c : Dev nD) (t : Fin cfg0.N) (k : Fin 1024) :
    iblk m c 1 t (ix3 0 0 k) = m ((c : Thread nD τ).loc main_arg1) (ix2 0 k) := by
  blk_simp [iblk, idx0 t]
  entry_read
  pointwise
  blk_ext [idx0 t]
abbrev WP (A : FVec Ideal S4x1024x11816 .f32) : FVec Ideal S4x12288x1024 .bf16 := Cert.Relayout.G (F := Ideal) A

/-- The last three host operations: the pieces concatenated, transposed and rounded. -/
theorem tail_w (σ : Valuation τ sig (Elt Ideal)) (u0 : (⟨S4x1024x512, .f32⟩ : BufTy).Contents (Elt Ideal)) (u1 : (⟨S4x1024x512, .f32⟩ : BufTy).Contents (Elt Ideal)) (u2 : (⟨S4x1024x1024, .f32⟩ : BufTy).Contents (Elt Ideal)) (u3 : (⟨S4x1024x1024, .f32⟩ : BufTy).Contents (Elt Ideal)) (u4 : (⟨S4x1024x1024, .f32⟩ : BufTy).Contents (Elt Ideal)) (u5 : (⟨S4x1024x1024, .f32⟩ : BufTy).Contents (Elt Ideal)) (u6 : (⟨S4x1024x1024, .f32⟩ : BufTy).Contents (Elt Ideal)) (u7 : (⟨S4x1024x3072, .f32⟩ : BufTy).Contents (Elt Ideal)) (u8 : (⟨S4x1024x1024, .f32⟩ : BufTy).Contents (Elt Ideal)) (u9 : (⟨S4x1024x1536, .f32⟩ : BufTy).Contents (Elt Ideal)) (u10 : (⟨S4x1024x16, .f32⟩ : BufTy).Contents (Elt Ideal)) (u11 : (⟨S4x1024x4, .f32⟩ : BufTy).Contents (Elt Ideal)) (u12 : (⟨S4x1024x4, .f32⟩ : BufTy).Contents (Elt Ideal)) (u13 : (⟨S4x1024x16, .f32⟩ : BufTy).Contents (Elt Ideal)) (u14 : (⟨S4x1024x472, .f32⟩ : BufTy).Contents (Elt Ideal))
    (h0 : σ (Proc.devRef .tc main_v1) = u0) (h1 : σ (Proc.devRef .tc main_v2) = u1) (h2 : σ (Proc.devRef .tc main_v3) = u2) (h3 : σ (Proc.devRef .tc main_v5) = u3) (h4 : σ (Proc.devRef .tc main_v6) = u4) (h5 : σ (Proc.devRef .tc main_v7) = u5) (h6 : σ (Proc.devRef .tc main_v10) = u6) (h7 : σ (Proc.devRef .tc main_v14) = u7) (h8 : σ (Proc.devRef .tc main_v11) = u8) (h9 : σ (Proc.devRef .tc main_v12) = u9) (h10 : σ (Proc.devRef .tc main_v4) = u10) (h11 : σ (Proc.devRef .tc main_v8) = u11) (h12 : σ (Proc.devRef .tc main_v9) = u12) (h13 : σ (Proc.devRef .tc main_v13) = u13) (h14 : σ (Proc.devRef .tc main_v15) = u14) :
    StableHlo.after (List.drop 17 (hostOps0 (F := Ideal))) σ (Proc.devRef .tc main_v18) = ((truncf (F := Ideal) .bf16 (transpose S4x12288x1024 [0, 2, 1] ((concatenate S4x1024x12288 2 [⟨S4x1024x512, (u0 : (⟨S4x1024x512, .f32⟩ : BufTy).Contents (Elt Ideal))⟩, ⟨S4x1024x512, (u1 : (⟨S4x1024x512, .f32⟩ : BufTy).Contents (Elt Ideal))⟩, ⟨S4x1024x1024, (u2 : (⟨S4x1024x1024, .f32⟩ : BufTy).Contents (Elt Ideal))⟩, ⟨S4x1024x1024, (u3 : (⟨S4x1024x1024, .f32⟩ : BufTy).Contents (Elt Ideal))⟩, ⟨S4x1024x1024, (u4 : (⟨S4x1024x1024, .f32⟩ : BufTy).Contents (Elt Ideal))⟩, ⟨S4x1024x1024, (u5 : (⟨S4x1024x1024, .f32⟩ : BufTy).Contents (Elt Ideal))⟩, ⟨S4x1024x1024, (u6 : (⟨S4x1024x1024, .f32⟩ : BufTy).Contents (Elt Ideal))⟩, ⟨S4x1024x3072, (u7 : (⟨S4x1024x3072, .f32⟩ : BufTy).Contents (Elt Ideal))⟩, ⟨S4x1024x1024, (u8 : (⟨S4x1024x1024, .f32⟩ : BufTy).Contents (Elt Ideal))⟩, ⟨S4x1024x1536, (u9 : (⟨S4x1024x1536, .f32⟩ : BufTy).Contents (Elt Ideal))⟩, ⟨S4x1024x16, (u10 : (⟨S4x1024x16, .f32⟩ : BufTy).Contents (Elt Ideal))⟩, ⟨S4x1024x4, (u11 : (⟨S4x1024x4, .f32⟩ : BufTy).Contents (Elt Ideal))⟩, ⟨S4x1024x4, (u12 : (⟨S4x1024x4, .f32⟩ : BufTy).Contents (Elt Ideal))⟩, ⟨S4x1024x16, (u13 : (⟨S4x1024x16, .f32⟩ : BufTy).Contents (Elt Ideal))⟩, ⟨S4x1024x472, (u14 : (⟨S4x1024x472, .f32⟩ : BufTy).Contents (Elt Ideal))⟩] concatenates_S4x1024x512_S4x1024x512_S4x1024x1024_S4x1024x1024_S4x1024x1024_S4x1024x1024_S4x1024x1024_S4x1024x3072_S4x1024x1024_S4x1024x1536_S4x1024x16_S4x1024x4_S4x1024x4_S4x1024x16_S4x1024x472_S4x1024x12288_d2 : (⟨S4x1024x12288, .f32⟩ : BufTy).Contents (Elt Ideal))) transposes_S4x1024x12288_S4x12288x1024_0_2_1) bitsLt_bf16_f32) : (⟨S4x12288x1024, .bf16⟩ : BufTy).Contents (Elt Ideal)) := by
  subst h0 h1 h2 h3 h4 h5 h6 h7 h8 h9 h10 h11 h12 h13 h14
  simp only [List.drop, StableHlo.after_cons, StableHlo.after_nil]
  rw [StableHlo.unary_result', StableHlo.unary_result', StableHlo.nary_result']
  rfl

theorem entry_w (c : Dev nD) (i : S4x12288x1024.Idx) :
    V m c main_v18 i = WP (m ((c : Thread nD τ).loc main_arg2)) i := by
  have h : V m c main_v18 = StableHlo.after (List.drop 17 (hostOps0 (F := Ideal))) (StableHlo.after (List.take 17 (hostOps0 (F := Ideal))) (fun b => m (c, b)))
      (Proc.devRef .tc main_v18) := rfl
  refine Eq.trans ?_ (Cert.ReferenceIdeal.Hand.ref_apply Cert.Relayout.zero_ideal _ i)
  refine congrFun (h.trans (tail_w _ _ _ _ _ _ _ _ _ _ _ _ _ _ _ _ ?_ ?_ ?_ ?_ ?_ ?_ ?_ ?_ ?_ ?_ ?_ ?_ ?_ ?_ ?_)) i
  iterate 15
    · simp only [List.take]
      after_results_simp

theorem blk2 (c : Dev nD) (t : Fin cfg0.N) (j : Fin 3072) (k : Fin 1024) (J : Fin 12288) (h : J.val = t.val % 4 * 3072 + j.val) :
    iblk m c 2 t (ix3 0 j k) = WP (m ((c : Thread nD τ).loc main_arg2)) (ix3 0 J k) := by
  have e : (win0_2.blk t).view.emb (ix3 0 j k) = ix3 0 J k := by blk_ext [idx0 t]
  blk_simp [iblk, idx0 t]
  exact (congrArg _ e).trans (entry_w m c _)

/-- Row `r` of the input normalised by its root mean square and scaled, at column `k`. -/
def XN (x : FVec Ideal S16384x1024 .f32) (g : FVec Ideal S4x1024 .f32) (r : Fin 16384) (k : Fin 1024) : EReal :=
  x (ix2 r k) * Ideal.rsqrt (Ideal.div (∑ j : Fin 1024, x (ix2 r j) * x (ix2 r j)) (Ideal.ofBits .f32 0x44800000#32) + Ideal.ofBits .f32 0x358637BD#32)
    * g (ix2 0 k)

/-- Row `r` of the normalised input times row `j` of the re-laid weight of the first layer. -/
def PJ (x : FVec Ideal S16384x1024 .f32) (g : FVec Ideal S4x1024 .f32) (w : FVec Ideal S4x1024x11816 .f32)
    (r : Fin 16384) (j : Fin 12288) : EReal :=
  ∑ k : Fin 1024, XN x g r k * WP w (ix3 0 j k)

abbrev XM (c : Dev nD) := XN (m ((c : Thread nD τ).loc main_arg0)) (m ((c : Thread nD τ).loc main_arg1))
abbrev PM (c : Dev nD) := PJ (m ((c : Thread nD τ).loc main_arg0)) (m ((c : Thread nD τ).loc main_arg1)) (m ((c : Thread nD τ).loc main_arg2))

/-- The scratch after any point of a run holds the normalised rows of that run's block. -/
theorem scratch (c : Dev nD) : ∀ (n : ℕ) (hn : n < cfg0.N) (r k : Fin 1024) (R : Fin 16384), R.val = n / 4 * 1024 + r.val →
    (outsAt0 m c n hn).2.2 (ix2 r k) = XM m c R k := by
  have hA : ∀ (t : Fin cfg0.N) (h0 : t.val % 4 = 0) (r k : Fin 1024) (R : Fin 16384), R.val = t.val / 4 * 1024 + r.val →
      (outsAt0 m c t.val t.isLt).2.2 (ix2 r k) = XM m c R k := by
    intro t h0 r k R hR
    rw [outsAt0_A m c t h0 (by omega)]
    frame_out
    pointwise [k0_pay1]
    show _ = XN _ _ R k
    unfold XN
    simp only [blk0 m c t _ _ R hR, blk1]
  suffices H : ∀ (n : ℕ) (t : Fin cfg0.N), t.val = n → ∀ (r k : Fin 1024) (R : Fin 16384), R.val = t.val / 4 * 1024 + r.val →
      (outsAt0 m c t.val t.isLt).2.2 (ix2 r k) = XM m c R k from fun n hn => H n ⟨n, hn⟩ rfl
  intro n
  induction n with
  | zero => intro t ht; exact hA t (by omega)
  | succ n ih =>
    intro t ht r k R hR
    by_cases h0 : t.val % 4 = 0
    · exact hA t h0 r k R hR
    · have hR' : R.val = (t.val - 1) / 4 * 1024 + r.val := by omega
      have e := ih ⟨t.val - 1, Nat.lt_of_le_of_lt (Nat.sub_le _ _) t.isLt⟩ (by dsimp only; omega) r k R hR'
      by_cases h1 : t.val % 4 = 3
      · rw [outsAt0_C m c t h0 h1]
        exact e
      · rw [outsAt0_B m c t h0 h1]
        exact e

theorem before (c : Dev nD) (t : Fin cfg0.N) (h0 : ¬ t.val % 4 = 0) (r k : Fin 1024) (R : Fin 16384) (hR : R.val = t.val / 4 * 1024 + r.val) :
    (outsAt0 m c (t.val - 1) (Nat.lt_of_le_of_lt (Nat.sub_le _ _) t.isLt)).2.2 (ix2 r k) = XM m c R k :=
  scratch m c _ _ r k R (by omega)

theorem wide (c : Dev nD) (t : Fin cfg0.N) (r : Fin 1024) (j : Fin 3072) (R : Fin 16384) (J : Fin 12288)
    (hR : R.val = t.val / 4 * 1024 + r.val) (hJ : J.val = t.val % 4 * 3072 + j.val) :
    (outsAt0 m c t.val t.isLt).1 (ix2 r j) = PM m c R J := by
  show _ = PJ _ _ _ R J
  by_cases h0 : t.val % 4 = 0
  · rw [outsAt0_A m c t h0 (by omega)]
    frame_out
    pointwise [k0_pay1, k0_pay2, k0_pay3]
    unfold PJ XN
    simp only [blk0 m c t _ _ R hR, blk1, blk2 m c t _ _ J hJ]
  · by_cases h1 : t.val % 4 = 3
    · rw [outsAt0_C m c t h0 h1]
      frame_out
      rw [(Memref.isWhole_whole _ : scM0_0.IsWhole).read_unread]
      pointwise [k0_pay2, k0_pay3]
      unfold PJ
      simp only [before m c t h0 _ _ R hR, blk2 m c t _ _ J hJ]
    · rw [outsAt0_B m c t h0 h1]
      frame_out
      rw [(Memref.isWhole_whole _ : scM0_0.IsWhole).read_unread]
      pointwise [k0_pay2, k0_pay3]
      unfold PJ
      simp only [before m c t h0 _ _ R hR, blk2 m c t _ _ J hJ]

theorem small (c : Dev nD) (t : Fin cfg0.N) (h1 : t.val % 4 = 3) (r : Fin 1024) (j : Fin 128) (R : Fin 16384) (J : Fin 12288)
    (hR : R.val = t.val / 4 * 1024 + r.val) (hJ : J.val = 11776 + j.val) :
    (outsAt0 m c t.val t.isLt).2.1 (ix2 r j) = PM m c R J := by
  show _ = PJ _ _ _ R J
  unfold PJ
  have h0 : ¬ t.val % 4 = 0 := by omega
  rw [outsAt0_C m c t h0 h1]
  frame_out
  rw [(Memref.isWhole_whole _ : scM0_0.IsWhole).read_unread]
  pointwise [k0_pay2, k0_pay4]
  simp only [before m c t h0 _ _ R hR]
  refine Finset.sum_congr rfl fun x _ => congrArg₂ (· * ·) rfl (blk2 m c t _ _ J ?_)
  dsimp only
  omega

theorem emb3 (t : Fin cfg0.N) (r : Fin 1024) (j : Fin 3072) (R : Fin 16384) (J : Fin 12288)
    (hR : R.val = t.val / 4 * 1024 + r.val) (hJ : J.val = t.val % 4 * 3072 + j.val) :
    (win0_3.blk t).view.emb (ix2 r j) = ix2 R J := by
  blk_ext [idx0 t]
theorem emb4 (t : Fin cfg0.N) (r : Fin 1024) (j : Fin 128) (R : Fin 16384)
    (hR : R.val = t.val / 4 * 1024 + r.val) :
    (win0_4.blk t).view.emb (ix2 r j) = ix2 R j := by
  blk_ext [idx0 t]

/-- The projection's two results as arrays: every column, and the columns kept at full precision. -/
def WIDE (x : FVec Ideal S16384x1024 .f32) (g : FVec Ideal S4x1024 .f32) (w : FVec Ideal S4x1024x11816 .f32) :
    FVec Ideal S16384x12288 .bf16 := fun i => PJ x g w (i 0) (i 1)
def SMALL (x : FVec Ideal S16384x1024 .f32) (g : FVec Ideal S4x1024 .f32) (w : FVec Ideal S4x1024x11816 .f32) :
    FVec Ideal S16384x128 .f32 := fun i => PJ x g w (i 0) ⟨11776 + (i 1).val, by have h : (i 1).val < 128 := (i 1).isLt; omega⟩

theorem final_wide (c : Dev nD) : (dats m 0 c).arrAt 3 cfg0.N = WIDE (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  have ht : t.val < 64 := t.isLt
  obtain ⟨R, hR⟩ : ∃ R : Fin 16384, R.val = t.val / 4 * 1024 + y0.val := ⟨⟨t.val / 4 * 1024 + y0.val, by omega⟩, rfl⟩
  obtain ⟨J, hJ⟩ : ∃ J : Fin 12288, J.val = t.val % 4 * 3072 + y1.val := ⟨⟨t.val % 4 * 3072 + y1.val, by omega⟩, rfl⟩
  refine Eq.trans ?_ (congrArg (WIDE (m ((c : Thread nD τ).loc main_arg0)) (m ((c : Thread nD τ).loc main_arg1)) (m ((c : Thread nD τ).loc main_arg2))) (emb3 t y0 y1 R J hR hJ).symm)
  exact wide m c t y0 y1 R J hR hJ

theorem flush4 : ∀ t : Fin cfg0.N, (cfg0.win 4).flush t = true → t.val % 4 = 3 := by decide +kernel

theorem final_small (c : Dev nD) : (dats m 0 c).arrAt 4 cfg0.N = SMALL (m ((c : Thread nD τ).loc main_arg0)) (m ((c : Thread nD τ).loc main_arg1)) (m ((c : Thread nD τ).loc main_arg2)) := by
  refine (dats m 0 c).arrAt_eq_of_covers 4 _ (by decide +kernel) fun t hf y => ?_
  have h1 := flush4 t hf
  blk_simp
  rw [after0_4]
  idx_vars y
  have ht : t.val < 64 := t.isLt
  obtain ⟨R, hR⟩ : ∃ R : Fin 16384, R.val = t.val / 4 * 1024 + y0.val := ⟨⟨t.val / 4 * 1024 + y0.val, by omega⟩, rfl⟩
  refine Eq.trans ?_ (congrArg (SMALL (m ((c : Thread nD τ).loc main_arg0)) (m ((c : Thread nD τ).loc main_arg1)) (m ((c : Thread nD τ).loc main_arg2))) (emb4 t y0 y1 R hR).symm)
  exact small m c t h1 y0 y1 R _ hR rfl

end Cert.InProjIdeal.Hand

end
-- ==== Proof.InProjReference.lean ====
module

public import proofs.«01_k».proof.Proof.InProjKernel
public import proofs.«01_k».proof.Proof.Gen.InProjRefIdeal.Read
public import Idealize.ShloMosaic.Lib.Pipeline.ValueKit

@[expose] public section

set_option maxRecDepth 16384

noncomputable section

namespace Cert.InProjRefIdeal.Hand

open Cert.InProjRefIdeal Cert.InProjRefIdeal.Gen Idealize.ShloMosaic Idealize.ShloMosaic.TcCoe Idealize.SL.Sem

open Cert.InProjRefIdeal.Read

open Cert.InProjIdeal.Hand (XN PJ WP WIDE SMALL)
open Cert.Relayout (src src_spec G_row G_pad G_tail)

/-- The plain projection: row `r` of the normalised input times column `s` of the weight. -/
theorem dot_apply (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (r : Fin 16384) (s : Fin 11816) :
    val_main_v17 (F := Ideal) x0 x1 x2 (ix2 r s) = ∑ k : Fin 1024, XN x0 x1 r k * x2 (ix3 0 k s) := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold XN
  rfl

theorem col (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (r : Fin 16384) (J : Fin 12288) (h : J.val < 11816) (s : Fin 11816) (hs : s.val = src J.val) :
    PJ x0 x1 x2 r J = val_main_v17 (F := Ideal) x0 x1 x2 (ix2 r s) := by
  rw [dot_apply]
  refine Finset.sum_congr rfl fun k _ => congrArg₂ (· * ·) rfl ?_
  exact G_row (F := Ideal) x2 (ix3 0 J k) h 0 k s rfl rfl hs

theorem pad (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (r : Fin 16384) (J : Fin 12288) (h : ¬ J.val < 11816) : PJ x0 x1 x2 r J = 0 := by
  refine Finset.sum_eq_zero fun k _ => ?_
  have e : WP x2 (ix3 0 J k) = (0 : EReal) := by
    by_cases h' : J.val < 11904
    · rw [show WP x2 (ix3 0 J k) = Ideal.ofBits .f32 0x00000000#32 from G_pad (F := Ideal) x2 (ix3 0 J k) h h', Ideal.ofBits_zero_f32]
    · rw [show WP x2 (ix3 0 J k) = Ideal.ofBits .bf16 0x0000#16 from G_tail (F := Ideal) x2 (ix3 0 J k) h', Ideal.ofBits_zero_bf16]
  rw [e, mul_zero]

theorem pick {P : Prop} [Decidable P] {z : EReal} {x : P → EReal} {y : ¬P → EReal} (hx : ∀ h, z = x h) (hy : ∀ h, z = y h) :
    z = dite P x y := by
  by_cases h : P
  · rw [dif_pos h]; exact hx h
  · rw [dif_neg h]; exact hy h

set_option maxHeartbeats 1000000 in
theorem ref_wide (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (i : S16384x12288.Idx) : WIDE x0 x1 x2 i = val_main_v36 (F := Ideal) x0 x1 x2 i := by
  idx_vars i
  show PJ x0 x1 x2 i0 i1 = _
  pointwise [val_main_v36, val_main_v33, val_main_v32, val_main_v31, val_main_v30, val_main_v29, val_main_v28, val_main_v27, val_main_v26, val_main_v25, val_main_v24, val_main_v23, val_main_v22, val_main_v21, val_main_v20, val_main_v19, val_main_v18, val_main_cst_2]
  iterate 14
    refine pick (fun h => ?_) fun h => ?_
    · refine col x0 x1 x2 i0 i1 ?_ _ ?_
      · omega
      · first
          | (refine src_spec i1.val _ (.inl ?_); (try dsimp only); constructor <;> omega)
          | (refine src_spec i1.val _ (.inr (.inl ?_)); (try dsimp only); refine ⟨?_, ?_, ?_⟩ <;> omega)
          | (refine src_spec i1.val _ (.inr (.inr (.inl ?_))); (try dsimp only); refine ⟨?_, ?_, ?_⟩ <;> omega)
          | (refine src_spec i1.val _ (.inr (.inr (.inr (.inl ?_)))); (try dsimp only); refine ⟨?_, ?_, ?_⟩ <;> omega)
          | (refine src_spec i1.val _ (.inr (.inr (.inr (.inr (.inl ?_))))); (try dsimp only); refine ⟨?_, ?_, ?_⟩ <;> omega)
          | (refine src_spec i1.val _ (.inr (.inr (.inr (.inr (.inr (.inl ?_)))))); (try dsimp only); refine ⟨?_, ?_, ?_⟩ <;> omega)
          | (refine src_spec i1.val _ (.inr (.inr (.inr (.inr (.inr (.inr (.inl ?_))))))); (try dsimp only); refine ⟨?_, ?_, ?_⟩ <;> omega)
          | (refine src_spec i1.val _ (.inr (.inr (.inr (.inr (.inr (.inr (.inr (?_)))))))); (try dsimp only); constructor <;> omega)
  exact pad x0 x1 x2 i0 i1 (by omega)

set_option maxHeartbeats 1000000 in
theorem ref_small (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (i : S16384x128.Idx) : SMALL x0 x1 x2 i = val_main_v35 (F := Ideal) x0 x1 x2 i := by
  idx_vars i
  show PJ x0 x1 x2 i0 ⟨11776 + i1.val, _⟩ = _
  pointwise [val_main_v35, val_main_v34, val_main_v30, val_main_v26, val_main_v25, val_main_v21, val_main_cst_3]
  iterate 4
    refine pick (fun h => ?_) fun h => ?_
    · refine col x0 x1 x2 i0 _ ?_ _ ?_
      · show 11776 + i1.val < 11816; omega
      · first
          | (refine src_spec (11776 + i1.val) _ (.inl ?_); (try dsimp only); constructor <;> omega)
          | (refine src_spec (11776 + i1.val) _ (.inr (.inl ?_)); (try dsimp only); refine ⟨?_, ?_, ?_⟩ <;> omega)
          | (refine src_spec (11776 + i1.val) _ (.inr (.inr (.inl ?_))); (try dsimp only); refine ⟨?_, ?_, ?_⟩ <;> omega)
          | (refine src_spec (11776 + i1.val) _ (.inr (.inr (.inr (.inl ?_)))); (try dsimp only); refine ⟨?_, ?_, ?_⟩ <;> omega)
          | (refine src_spec (11776 + i1.val) _ (.inr (.inr (.inr (.inr (.inl ?_))))); (try dsimp only); refine ⟨?_, ?_, ?_⟩ <;> omega)
          | (refine src_spec (11776 + i1.val) _ (.inr (.inr (.inr (.inr (.inr (.inl ?_)))))); (try dsimp only); refine ⟨?_, ?_, ?_⟩ <;> omega)
          | (refine src_spec (11776 + i1.val) _ (.inr (.inr (.inr (.inr (.inr (.inr (.inl ?_))))))); (try dsimp only); refine ⟨?_, ?_, ?_⟩ <;> omega)
          | (refine src_spec (11776 + i1.val) _ (.inr (.inr (.inr (.inr (.inr (.inr (.inr (?_)))))))); (try dsimp only); constructor <;> omega)
  exact pad x0 x1 x2 i0 _ (by show ¬ 11776 + i1.val < 11816; omega)

end Cert.InProjRefIdeal.Hand

end
-- ==== Proof.InProjClaims.lean ====
module

public import proofs.«01_k».proof.Defs
public import proofs.«01_k».proof.Proof.Gen.InProj.Frame
public import proofs.«01_k».proof.Proof.InProjKernel
public import proofs.«01_k».proof.Proof.InProjReference
public import Idealize.ShloMosaic.Lib.Claim

@[expose] public section

set_option maxRecDepth 16384

noncomputable section

namespace Cert.InProj.Hand

open Idealize.ShloMosaic Idealize.ShloMosaic.TcCoe Idealize.SL.Sem

theorem frame_kernel : Cert.quiescent_InProj := fun m ρ _ => Cert.InProj.Gen.frame m ρ
theorem frame_ideal : Cert.quiescent_InProjIdeal := fun m ρ _ => Cert.InProjIdeal.Gen.frame m ρ
theorem frame_refideal : Cert.quiescent_InProjRefIdeal := fun m ρ _ =>
  θ_run_mono (Cert.InProjRefIdeal.Value.run m ρ) fun r h => ⟨fun c => (h c).2.2, sem_eq_zero_of_no_sems (by decide) r.2⟩

theorem algebraic : Cert.algebraic_InProjIdeal_InProjRefIdeal := by
  pair_intro
  · run_from Cert.InProjIdeal.Value.run_blocks m g
  · run_from Cert.InProjRefIdeal.Value.run m' g'
    · rw [Cert.InProjRefIdeal.Read.val_main_v36_eq, Cert.InProjIdeal.Hand.final_wide, (hagree c).1, (hagree c).2.1, (hagree c).2.2]
      exact funext fun i => (Cert.InProjRefIdeal.Hand.ref_wide _ _ _ i).symm
    · rw [Cert.InProjRefIdeal.Read.val_main_v35_eq, Cert.InProjIdeal.Hand.final_small, (hagree c).1, (hagree c).2.1, (hagree c).2.2]
      exact funext fun i => (Cert.InProjRefIdeal.Hand.ref_small _ _ _ i).symm

end Cert.InProj.Hand

end
-- ==== Proof.MergeKernel.lean ====
module

public import proofs.«01_k».proof.Proof.Gen.MergeIdeal.Value
public import proofs.«01_k».proof.Proof.Gen.MergeRefIdeal.Read
public import Idealize.ShloMosaic.Lib.Pipeline.ValueKit

@[expose] public section

set_option maxRecDepth 16384

noncomputable section

namespace Cert.MergeIdeal.Hand

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin grid0.N, win0_0.index t = ![t.val, 0] ∧ win0_1.index t = ![t.val, 0] ∧ win0_2.index t = ![t.val, 0]
    ∧ win0_3.index t = ![t.val, 2] ∧ win0_7.index t = ![t.val, 0] ∧ win0_8.index t = ![t.val, 0] := by decide +kernel
theorem idx1 : ∀ t : Fin grid0.N, win0_4.index t = ![0, 0, 0] ∧ win0_5.index t = ![0, 0, 0, 0]
    ∧ win0_6.index t = ![0, 0, 0] := by decide +kernel

theorem blk0 (c : Dev nD) (t : Fin cfg0.N) (r : Fin 512) (k : Fin 1024) (R : Fin 16384) (h : R.val = t.val * 512 + r.val) :
    iblk m c 0 t (ix2 r k) = m ((c : Thread nD τ).loc main_arg0) (ix2 R k) := by
  blk_ext [iblk, V, idx0 t]
theorem blk1 (c : Dev nD) (t : Fin cfg0.N) (r : Fin 512) (k : Fin 1024) (R : Fin 16384) (h : R.val = t.val * 512 + r.val) :
    iblk m c 1 t (ix2 r k) = m ((c : Thread nD τ).loc main_arg1) (ix2 R k) := by
  blk_ext [iblk, V, idx0 t]
theorem blk2 (c : Dev nD) (t : Fin cfg0.N) (r : Fin 512) (k : Fin 1024) (R : Fin 16384) (h : R.val = t.val * 512 + r.val) :
    iblk m c 2 t (ix2 r k) = m ((c : Thread nD τ).loc main_arg2) (ix2 R k) := by
  blk_ext [iblk, V, idx0 t]
theorem blk3 (c : Dev nD) (t : Fin cfg0.N) (r : Fin 512) (k : Fin 3072) (R : Fin 16384) (C : Fin 12288)
    (h : R.val = t.val * 512 + r.val) (hC : C.val = 6144 + k.val) :
    iblk m c 3 t (ix2 r k) = m ((c : Thread nD τ).loc main_arg3) (ix2 R C) := by
  blk_ext [iblk, V, idx0 t]
theorem blk4 (c : Dev nD) (t : Fin cfg0.N) (k : Fin 3072) :
    iblk m c 4 t (ix3 0 0 k) = m ((c : Thread nD τ).loc main_arg4) (ix2 0 k) := by
  blk_simp [iblk, idx1 t]
  entry_read
  pointwise
  blk_ext [idx1 t]
theorem blk5 (c : Dev nD) (t : Fin cfg0.N) (b : Fin 3) (k n : Fin 1024) :
    iblk m c 5 t (ix4 0 b k n) = m ((c : Thread nD τ).loc main_arg5) (ix4 0 b k n) := by
  blk_simp [iblk, idx1 t]
  entry_read
  pointwise
  blk_ext [idx1 t]
theorem blk6 (c : Dev nD) (t : Fin cfg0.N) (k n : Fin 1024) :
    iblk m c 6 t (ix3 0 k n) = m ((c : Thread nD τ).loc main_arg6) (ix3 0 k n) := by
  blk_simp [iblk, idx1 t]
  entry_read
  pointwise
  blk_ext [idx1 t]
theorem blk7 (c : Dev nD) (t : Fin cfg0.N) (r : Fin 512) (k : Fin 1024) (R : Fin 16384) (h : R.val = t.val * 512 + r.val) :
    iblk m c 7 t (ix2 r k) = m ((c : Thread nD τ).loc main_arg7) (ix2 R k) := by
  blk_ext [iblk, V, idx0 t]
theorem emb8 (t : Fin cfg0.N) (r : Fin 512) (k : Fin 1024) (R : Fin 16384) (h : R.val = t.val * 512 + r.val) :
    (win0_8.blk t).view.emb (ix2 r k) = ix2 R k := by
  blk_ext [idx0 t]

/-- The merge at row `r`, column `d`: the residual plus the output projection of the three branch projections, each
    weighted by its own sigmoid gate. -/
def G (ya yb yc : FVec Ideal S16384x1024 .bf16) (gates : FVec Ideal S16384x12288 .bf16) (gb : FVec Ideal S4x3072 .f32)
    (wb : FVec Ideal S4x3x1024x1024 .f32) (wo : FVec Ideal S4x1024x1024 .f32) (h : FVec Ideal S16384x1024 .f32)
    (r : Fin 16384) (d : Fin 1024) : EReal :=
  h (ix2 r d) + ∑ x : Fin 1024,
    (Ideal.logistic (gates (ix2 r ⟨6144 + x.val, by omega⟩) + gb (ix2 0 ⟨x.val, by omega⟩)) * (∑ k : Fin 1024, ya (ix2 r k) * wb (ix4 0 0 k x))
      + Ideal.logistic (gates (ix2 r ⟨6144 + (1024 + x.val), by omega⟩) + gb (ix2 0 ⟨1024 + x.val, by omega⟩)) * (∑ k : Fin 1024, yb (ix2 r k) * wb (ix4 0 1 k x))
      + Ideal.logistic (gates (ix2 r ⟨6144 + (2048 + x.val), by omega⟩) + gb (ix2 0 ⟨2048 + x.val, by omega⟩)) * (∑ k : Fin 1024, yc (ix2 r k) * wb (ix4 0 2 k x)))
    * wo (ix3 0 x d)

/-- The merge as an array. -/
def GA (ya yb yc : FVec Ideal S16384x1024 .bf16) (gates : FVec Ideal S16384x12288 .bf16) (gb : FVec Ideal S4x3072 .f32)
    (wb : FVec Ideal S4x3x1024x1024 .f32) (wo : FVec Ideal S4x1024x1024 .f32) (h : FVec Ideal S16384x1024 .f32) :
    FVec Ideal S16384x1024 .f32 := fun i => G ya yb yc gates gb wb wo h (i 0) (i 1)

theorem final (c : Dev nD) : (dats m 0 c).arrAt 8 cfg0.N = GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  frame_out
  idx_vars y
  have ht : t.val < 32 := t.isLt
  obtain ⟨R, hR⟩ : ∃ R : Fin 16384, R.val = t.val * 512 + y0.val := ⟨⟨t.val * 512 + y0.val, by omega⟩, rfl⟩
  pointwise [k0_pay1, k0_pay2, k0_pay3]
  refine Eq.trans ?_ (congrArg (GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (emb8 t y0 y1 R hR).symm)
  show _ = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) R y1
  unfold G
  simp only [blk0 m c t _ _ R hR, blk1 m c t _ _ R hR, blk2 m c t _ _ R hR, blk4, blk5, blk6, blk7 m c t _ _ R hR,
    fun (k : Fin 3072) => blk3 m c t y0 k R ⟨6144 + k.val, by omega⟩ hR rfl]

end Cert.MergeIdeal.Hand

end
-- ==== Proof.MergeReference.lean ====
module

public import proofs.«01_k».proof.Proof.MergeKernel
public import proofs.«01_k».proof.Proof.Gen.MergeRefIdeal.Read
public import Idealize.ShloMosaic.Lib.Pipeline.ValueKit

@[expose] public section

set_option maxRecDepth 16384

noncomputable section

namespace Cert.MergeRefIdeal.Hand

open Cert.MergeRefIdeal Cert.MergeRefIdeal.Gen Idealize.ShloMosaic Idealize.ShloMosaic.TcCoe Idealize.SL.Sem

open Cert.MergeRefIdeal.Read

theorem ys_apply (x0 x1 x2 : (⟨S16384x1024, .bf16⟩ : BufTy).Contents (Elt Ideal)) (r : Fin 16384) (k : Fin 1024) :
    val_main_v3 (F := Ideal) x0 x1 x2 (ix3 r 0 k) = x0 (ix2 r k) ∧ val_main_v3 (F := Ideal) x0 x1 x2 (ix3 r 1 k) = x1 (ix2 r k)
    ∧ val_main_v3 (F := Ideal) x0 x1 x2 (ix3 r 2 k) = x2 (ix2 r k) := by
  refine ⟨?_, ?_, ?_⟩ <;> pointwise [val_main_v3, val_main_v0, val_main_v1, val_main_v2]

theorem ref_apply (x0 x1 x2 : (⟨S16384x1024, .bf16⟩ : BufTy).Contents (Elt Ideal)) (x3 : (⟨S16384x12288, .bf16⟩ : BufTy).Contents (Elt Ideal)) (x4 : (⟨S4x3072, .f32⟩ : BufTy).Contents (Elt Ideal)) (x5 : (⟨S4x3x1024x1024, .f32⟩ : BufTy).Contents (Elt Ideal)) (x6 : (⟨S4x1024x1024, .f32⟩ : BufTy).Contents (Elt Ideal)) (x7 : (⟨S16384x1024, .f32⟩ : BufTy).Contents (Elt Ideal)) (i : S16384x1024.Idx) :
    Cert.MergeIdeal.Hand.GA x0 x1 x2 x3 x4 x5 x6 x7 i = val_main_v28 (F := Ideal) x0 x1 x2 x3 x4 x5 x6 x7 i := by
  idx_vars i
  show Cert.MergeIdeal.Hand.G x0 x1 x2 x3 x4 x5 x6 x7 i0 i1 = _
  pointwise [val_main_v28, val_main_v27, val_main_v24, val_main_v26, val_main_v25, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1]
  unfold Cert.MergeIdeal.Hand.G
  refine congrArg₂ (· + ·) rfl (Finset.sum_congr rfl fun x _ => congrArg₂ (· * ·) ?_ ?_)
  · rw [Fin.sum_univ_three]
    simp only [(ys_apply x0 x1 x2 i0 _).1, (ys_apply x0 x1 x2 i0 _).2.1, (ys_apply x0 x1 x2 i0 _).2.2]
    refine congrArg₂ (· + ·) (congrArg₂ (· + ·) (congrArg₂ (· * ·) ?_ ?_) (congrArg₂ (· * ·) ?_ ?_)) (congrArg₂ (· * ·) ?_ ?_)
    all_goals first
      | exact Finset.sum_congr rfl fun k _ => mul_comm _ _
      | (refine (congrArg Ideal.logistic ?_).trans (Ideal.logistic_def _)
         exact congrArg₂ (· + ·) (congrArg x3 (by blk_ext [])) (congrArg x4 (by blk_ext [])))
  · rfl

end Cert.MergeRefIdeal.Hand

end
-- ==== Proof.MergeClaims.lean ====
module

public import proofs.«01_k».proof.Defs
public import proofs.«01_k».proof.Proof.Gen.Merge.Frame
public import proofs.«01_k».proof.Proof.MergeKernel
public import proofs.«01_k».proof.Proof.MergeReference
public import Idealize.ShloMosaic.Lib.Claim

@[expose] public section

set_option maxRecDepth 16384

noncomputable section

namespace Cert.Merge.Hand

open Idealize.ShloMosaic Idealize.ShloMosaic.TcCoe Idealize.SL.Sem

theorem frame_kernel : Cert.quiescent_Merge := fun m ρ _ => Cert.Merge.Gen.frame m ρ
theorem frame_ideal : Cert.quiescent_MergeIdeal := fun m ρ _ => Cert.MergeIdeal.Gen.frame m ρ
theorem frame_refideal : Cert.quiescent_MergeRefIdeal := fun m ρ _ =>
  θ_run_mono (Cert.MergeRefIdeal.Value.run m ρ) fun r h => ⟨fun c => (h c).2, sem_eq_zero_of_no_sems (by decide) r.2⟩

theorem algebraic : Cert.algebraic_MergeIdeal_MergeRefIdeal := by
  pair_intro
  · run_from Cert.MergeIdeal.Value.run_blocks m g
  · run_from Cert.MergeRefIdeal.Value.run m' g'
    rw [Cert.MergeIdeal.Hand.final]
    exact (Cert.MergeRefIdeal.Read.val_main_v28_eq _ _ _ _ _ _ _ _).trans
      (funext fun i => (Cert.MergeRefIdeal.Hand.ref_apply _ _ _ _ _ _ _ _ i).symm)

end Cert.Merge.Hand

end
-- ==== Proof.FfnParts.lean ====
module

public import proofs.«01_k».proof.Proof.Gen.FfnIdeal.Value
public import proofs.«01_k».proof.Proof.Gen.FfnRefIdeal.Read
public import Idealize.ShloMosaic.Lib.Pipeline.ValueKit

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin grid0.N, win0_0.index t = ![t.val / 8, t.val % 8, 0] ∧ win0_1.index t = ![3, 0, 0] ∧ win0_2.index t = ![3, 0, 0]
    ∧ win0_3.index t = ![3, 0, 1] ∧ win0_4.index t = ![3, 0, 0] ∧ win0_5.index t = ![3, 0, 1] ∧ win0_6.index t = ![3, 0, 0]
    ∧ win0_7.index t = ![3, 0, 1] ∧ win0_8.index t = ![3, 0, 0] ∧ win0_9.index t = ![0, 0] ∧ win0_10.index t = ![t.val / 8, t.val % 8, 0] := by
  decide +kernel

theorem blk0 (c : Dev nD) (t : Fin cfg0.N) (r : Fin 512) (k : Fin 1024) (b : Fin 4) (R : Fin 4096) (hb : b.val = t.val / 8) (h : R.val = t.val % 8 * 512 + r.val) :
    iblk m c 0 t (ix3 0 r k) = m ((c : Thread nD τ).loc main_arg0) (ix3 b R k) := by
  blk_ext [iblk, V, idx0 t]
theorem blk1 (c : Dev nD) (t : Fin cfg0.N) (k : Fin 1024) :
    iblk m c 1 t (ix3 0 0 k) = m ((c : Thread nD τ).loc main_arg1) (ix2 3 k) := by
  blk_simp [iblk, idx0 t]
  (try entry_read)
  pointwise
  blk_ext [idx0 t]
theorem blk2 (c : Dev nD) (t : Fin cfg0.N) (k : Fin 1024) (j : Fin 2816) (J : Fin 5632) (h : J.val = j.val) :
    iblk m c 2 t (ix3 0 k j) = m ((c : Thread nD τ).loc main_arg2) (ix3 3 k J) := by
  blk_simp [iblk, idx0 t]
  (try entry_read)
  pointwise
  blk_ext [idx0 t]
theorem blk3 (c : Dev nD) (t : Fin cfg0.N) (k : Fin 1024) (j : Fin 2816) (J : Fin 5632) (h : J.val = 2816 + j.val) :
    iblk m c 3 t (ix3 0 k j) = m ((c : Thread nD τ).loc main_arg2) (ix3 3 k J) := by
  blk_simp [iblk, idx0 t]
  (try entry_read)
  pointwise
  blk_ext [idx0 t]
theorem blk4 (c : Dev nD) (t : Fin cfg0.N) (q : Fin 3) (j : Fin 2816) (J : Fin 5632) (h : J.val = j.val) :
    iblk m c 4 t (ix3 0 q j) = m ((c : Thread nD τ).loc main_arg3) (ix3 3 q J) := by
  blk_ext [iblk, V, idx0 t]
theorem blk5 (c : Dev nD) (t : Fin cfg0.N) (q : Fin 3) (j : Fin 2816) (J : Fin 5632) (h : J.val = 2816 + j.val) :
    iblk m c 5 t (ix3 0 q j) = m ((c : Thread nD τ).loc main_arg3) (ix3 3 q J) := by
  blk_ext [iblk, V, idx0 t]
theorem blk6 (c : Dev nD) (t : Fin cfg0.N) (j : Fin 2816) (J : Fin 5632) (h : J.val = j.val) :
    iblk m c 6 t (ix3 0 0 j) = m ((c : Thread nD τ).loc main_arg4) (ix2 3 J) := by
  blk_simp [iblk, idx0 t]
  (try entry_read)
  pointwise
  blk_ext [idx0 t]
theorem blk7 (c : Dev nD) (t : Fin cfg0.N) (j : Fin 2816) (J : Fin 5632) (h : J.val = 2816 + j.val) :
    iblk m c 7 t (ix3 0 0 j) = m ((c : Thread nD τ).loc main_arg4) (ix2 3 J) := by
  blk_simp [iblk, idx0 t]
  (try entry_read)
  pointwise
  blk_ext [idx0 t]
theorem blk8 (c : Dev nD) (t : Fin cfg0.N) (j : Fin 2816) (n : Fin 1024) :
    iblk m c 8 t (ix3 0 j n) = m ((c : Thread nD τ).loc main_arg5) (ix3 3 j n) := by
  blk_simp [iblk, idx0 t]
  (try entry_read)
  pointwise
  blk_ext [idx0 t]
theorem blk9 (c : Dev nD) (t : Fin cfg0.N) (n : Fin 1024) :
    iblk m c 9 t (ix2 0 n) = m ((c : Thread nD τ).loc main_arg6) (ix1 n) := by
  blk_simp [iblk, idx0 t]
  (try entry_read)
  pointwise
  blk_ext [idx0 t]

/-- A row scaled by the reciprocal root of its mean square. -/
def RN (x : Fin 1024 → EReal) (k : Fin 1024) : EReal :=
  x k * Ideal.rsqrt (Ideal.div (∑ j : Fin 1024, x j * x j) (Ideal.ofBits .f32 0x44800000#32) + Ideal.ofBits .f32 0x358637BD#32)

/-- The bias plus the three taps, in the order they are added. -/
def TAPS (b c0 g0 c1 g1 c2 g2 : EReal) : EReal := b + c0 * g0 + c1 * g1 + c2 * g2

/-- The gated unit. -/
def GATE (g v : EReal) : EReal := g * Ideal.logistic g * v

theorem pay (x : FVec Ideal S1x512x1024 .f32) (bg bv : FVec Ideal S1x1x2816 .f32) (c0 c1 c2 e0 e1 e2 : FVec Ideal S1x1x2816 .f32)
    (g0 g1 g2 v0 v1 v2 : FVec Ideal S512x2816 .f32) (wd : FVec Ideal S1x2816x1024 .bf16) (go : FVec Ideal S1x1024 .f32) (r : Fin 512) (n : Fin 1024) :
    k0_pay1 (F := Ideal) (k0_pay12 (k0_pay4 x) (k0_pay8 bg c0 g0 c1 g1) (k0_pay9 bv e0 v0 e1 v1) c2 g2 e2 v2 wd)
      (k0_pay13 (k0_pay4 x) (k0_pay8 bg c0 g0 c1 g1) (k0_pay9 bv e0 v0 e1 v1) c2 g2 e2 v2 wd) go (ix3 0 r n)
    = RN (fun n => x (ix3 0 r n) + ∑ j : Fin 2816,
        GATE (TAPS (bg (ix3 0 0 j)) (c0 (ix3 0 0 j)) (g0 (ix2 r j)) (c1 (ix3 0 0 j)) (g1 (ix2 r j)) (c2 (ix3 0 0 j)) (g2 (ix2 r j)))
          (TAPS (bv (ix3 0 0 j)) (e0 (ix3 0 0 j)) (v0 (ix2 r j)) (e1 (ix3 0 0 j)) (v1 (ix2 r j)) (e2 (ix3 0 0 j)) (v2 (ix2 r j)))
        * wd (ix3 0 j n)) n * go (ix2 0 n) := by
  pointwise [k0_pay1, k0_pay12, k0_pay13, k0_pay4, k0_pay8, k0_pay9]
  rfl

/-- The up-projection of the normalised row `t` of sequence `b`, at column `J`. -/
def UP (h : FVec Ideal S4x4096x1024 .f32) (nf : FVec Ideal S4x1024 .f32) (wu : FVec Ideal S4x1024x5632 .f32)
    (b : Fin 4) (t : Fin 4096) (J : Fin 5632) : EReal :=
  ∑ k : Fin 1024, RN (fun k => h (ix3 b t k)) k * nf (ix2 3 k) * wu (ix3 3 k J)

/-- The same `s` rows earlier, zero before the sequence begins. -/
def UPS (h : FVec Ideal S4x4096x1024 .f32) (nf : FVec Ideal S4x1024 .f32) (wu : FVec Ideal S4x1024x5632 .f32)
    (b : Fin 4) (s : ℕ) (t : Fin 4096) (J : Fin 5632) : EReal :=
  if hs : s ≤ t.val then UP h nf wu b ⟨t.val - s, Nat.lt_of_le_of_lt (Nat.sub_le _ _) t.isLt⟩ J else 0

theorem UPS_of (h : FVec Ideal S4x4096x1024 .f32) (nf : FVec Ideal S4x1024 .f32) (wu : FVec Ideal S4x1024x5632 .f32)
    (b : Fin 4) (s : ℕ) (t u : Fin 4096) (J : Fin 5632) (e : t.val = u.val + s) : UPS h nf wu b s t J = UP h nf wu b u J := by
  unfold UPS
  rw [dif_pos (by omega)]
  exact congrArg (fun q => UP h nf wu b q J) (Fin.ext (by show t.val - s = u.val; omega))

theorem UPS_zero (h : FVec Ideal S4x4096x1024 .f32) (nf : FVec Ideal S4x1024 .f32) (wu : FVec Ideal S4x1024x5632 .f32)
    (b : Fin 4) (s : ℕ) (t : Fin 4096) (J : Fin 5632) (e : t.val < s) : UPS h nf wu b s t J = 0 := by
  unfold UPS
  rw [dif_neg (by omega)]

theorem pay6 (x : FVec Ideal S1x512x1024 .f32) (g : FVec Ideal S1x1x1024 .f32) (w : FVec Ideal S1x1024x2816 .bf16) (r : Fin 512) (j : Fin 2816) :
    k0_pay6 (F := Ideal) x g w (ix2 r j) = ∑ k : Fin 1024, RN (fun k => x (ix3 0 r k)) k * g (ix3 0 0 k) * w (ix3 0 k j) := by
  pointwise [k0_pay6, k0_pay5, k0_pay4]
  rfl
theorem pay7 (x : FVec Ideal S1x512x1024 .f32) (g : FVec Ideal S1x1x1024 .f32) (w : FVec Ideal S1x1024x2816 .bf16) (r : Fin 512) (j : Fin 2816) :
    k0_pay7 (F := Ideal) x g w (ix2 r j) = ∑ k : Fin 1024, RN (fun k => x (ix3 0 r k)) k * g (ix3 0 0 k) * w (ix3 0 k j) := by
  pointwise [k0_pay7, k0_pay5, k0_pay4]
  rfl

abbrev UPM (c : Dev nD) := UP (m ((c : Thread nD τ).loc main_arg0)) (m ((c : Thread nD τ).loc main_arg1)) (m ((c : Thread nD τ).loc main_arg2))
abbrev UPSM (c : Dev nD) := UPS (m ((c : Thread nD τ).loc main_arg0)) (m ((c : Thread nD τ).loc main_arg1)) (m ((c : Thread nD τ).loc main_arg2))

theorem up6 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) :
    k0_pay6 (F := Ideal) (iblk m c 0 t) (iblk m c 1 t) (iblk m c 2 t) (ix2 r j) = UPM m c b R J := by
  refine (pay6 _ _ _ r j).trans ?_
  show _ = UP _ _ _ b R J
  unfold UP
  simp only [blk0 m c t r _ b R hb hR, blk1, blk2 m c t _ j J hJ]
theorem up7 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) :
    k0_pay7 (F := Ideal) (iblk m c 0 t) (iblk m c 1 t) (iblk m c 3 t) (ix2 r j) = UPM m c b R J := by
  refine (pay7 _ _ _ r j).trans ?_
  show _ = UP _ _ _ b R J
  unfold UP
  simp only [blk0 m c t r _ b R hb hR, blk1, blk3 m c t _ j J hJ]

/-- The box of the block's own rows in a scratch. -/
abbrev OWN : Rect S520x2816 := Rect.unit ![8, 0] ![512, 2816] inb_S520x2816_S512x2816_8_0
/-- The box of the rows kept from the block before. -/
abbrev KEPT : Rect S520x2816 := Rect.unit ![0, 0] ![8, 2816] inb_S520x2816_S8x2816_0_0

theorem emb_own (R : Fin 520) (r : Fin 512) (j : Fin 2816) (h : R.val = 8 + r.val) :
    OWN.emb (ix2 r j : (⟨2, ![512, 2816]⟩ : Shape).Idx) = (ix2 R j : S520x2816.Idx) := by
  blk_ext []
theorem emb_kept (R : Fin 520) (r : Fin 8) (j : Fin 2816) (h : R.val = r.val) :
    KEPT.emb (ix2 r j : (⟨2, ![8, 2816]⟩ : Shape).Idx) = (ix2 R j : S520x2816.Idx) := by
  blk_ext []

theorem canon_at {S : Shape} {e : EltTy} (r : Rect S) (w : r.shape.Idx → Elt Ideal e) (L : List (View.Piece (Elt Ideal) S e))
    (y : S.Idx) (x : r.shape.Idx) (h : r.emb x = y) : View.canon (Val := Elt Ideal) (⟨r, w⟩ :: L) y = w x := by
  subst h
  exact View.canon_cons_emb r w L x

end Cert.FfnIdeal.Hand

end
-- ==== Proof.FfnTaps.lean ====
module

public import proofs.«01_k».proof.Proof.Gen.FfnIdeal.Value
public import proofs.«01_k».proof.Proof.Gen.FfnRefIdeal.Read
public import Idealize.ShloMosaic.Lib.Pipeline.ValueKit
public import Idealize.ShloMosaic.Lib.WritesUnit
public import proofs.«01_k».proof.Proof.FfnParts

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

theorem read_at {S : Shape} {e : EltTy} {sig : RefSig} {κ : Kind} {sp : Space} (v : View sig κ sp S e) (r : Rect S) (w : r.shape.Idx → Elt Ideal e)
    (L : List (View.Piece (Elt Ideal) S e)) (B : LoadRect S) (y : B.shape.Idx) (x : r.shape.Idx) (h : r.emb x = B.idx y) :
    v.readCov (Val := Elt Ideal) (⟨r, w⟩ :: L) B y = w x := by
  rw [View.readCov_eq_canon']
  exact canon_at r w L _ x h

theorem read_next {S : Shape} {e : EltTy} {sig : RefSig} {κ : Kind} {sp : Space} (v : View sig κ sp S e) (r r' : Rect S) (w : r.shape.Idx → Elt Ideal e)
    (w' : r'.shape.Idx → Elt Ideal e)
    (L : List (View.Piece (Elt Ideal) S e)) (B : LoadRect S) (y : B.shape.Idx) (x : r'.shape.Idx) (hn : B.idx y ∉ r.set) (h : r'.emb x = B.idx y) :
    v.readCov (Val := Elt Ideal) (⟨r, w⟩ :: ⟨r', w'⟩ :: L) B y = w' x := by
  rw [View.readCov_eq_canon']
  show View.canon _ (B.idx y) = _
  rw [View.canon_cons_of_not_mem _ _ hn]
  exact canon_at r' w' L _ x h

/-- The box of the rows saved for the next block. -/
abbrev SAVED : Rect S520x2816 := Rect.unit ![512, 0] ![8, 2816] inb_S520x2816_S8x2816_512_0
abbrev TAP6 : Rect S520x2816 := Rect.unit ![6, 0] ![512, 2816] inb_S520x2816_S512x2816_6_0
abbrev TAP7 : Rect S520x2816 := Rect.unit ![7, 0] ![512, 2816] inb_S520x2816_S512x2816_7_0

theorem emb_saved (r : Fin 8) (x : Fin 512) (j : Fin 2816) (h : x.val = 504 + r.val) :
    OWN.emb (ix2 x j : (⟨2, ![512, 2816]⟩ : Shape).Idx) = SAVED.emb (ix2 r j : (⟨2, ![8, 2816]⟩ : Shape).Idx) := by
  blk_ext []
theorem emb_6 (r x : Fin 512) (j : Fin 2816) (h : 8 + x.val = 6 + r.val) :
    OWN.emb (ix2 x j : (⟨2, ![512, 2816]⟩ : Shape).Idx) = TAP6.emb (ix2 r j : (⟨2, ![512, 2816]⟩ : Shape).Idx) := by
  blk_ext []
theorem emb_7 (r x : Fin 512) (j : Fin 2816) (h : 8 + x.val = 7 + r.val) :
    OWN.emb (ix2 x j : (⟨2, ![512, 2816]⟩ : Shape).Idx) = TAP7.emb (ix2 r j : (⟨2, ![512, 2816]⟩ : Shape).Idx) := by
  blk_ext []
theorem emb_6k (r : Fin 512) (x : Fin 8) (j : Fin 2816) (h : x.val = 6 + r.val) :
    KEPT.emb (ix2 x j : (⟨2, ![8, 2816]⟩ : Shape).Idx) = TAP6.emb (ix2 r j : (⟨2, ![512, 2816]⟩ : Shape).Idx) := by
  blk_ext []
theorem emb_7k (r : Fin 512) (x : Fin 8) (j : Fin 2816) (h : x.val = 7 + r.val) :
    KEPT.emb (ix2 x j : (⟨2, ![8, 2816]⟩ : Shape).Idx) = TAP7.emb (ix2 r j : (⟨2, ![512, 2816]⟩ : Shape).Idx) := by
  blk_ext []

theorem out_6 (r : Fin 512) (j : Fin 2816) (h : r.val < 2) : TAP6.emb (ix2 r j : (⟨2, ![512, 2816]⟩ : Shape).Idx) ∉ OWN.set := by
  rw [Rect.mem_set_unit]
  intro H
  have h0 : 8 ≤ 6 + 1 * r.val := (H 0).1
  omega
theorem out_7 (r : Fin 512) (j : Fin 2816) (h : r.val < 1) : TAP7.emb (ix2 r j : (⟨2, ![512, 2816]⟩ : Shape).Idx) ∉ OWN.set := by
  rw [Rect.mem_set_unit]
  intro H
  have h0 : 8 ≤ 7 + 1 * r.val := (H 0).1
  omega

theorem pay10 (z : FVec Ideal S8x2816 .f32) (r : Fin 8) (j : Fin 2816) : k0_pay10 (F := Ideal) z (ix2 r j) = z (ix2 r j) := by
  pointwise [k0_pay10]
theorem pay11 (z : FVec Ideal S8x2816 .f32) (r : Fin 8) (j : Fin 2816) : k0_pay11 (F := Ideal) z (ix2 r j) = z (ix2 r j) := by
  pointwise [k0_pay11]

/-- After any point the first rows of the gate's scratch hold the last rows of the block's up-projection. -/
theorem keep0 (c : Dev nD) (t : Fin cfg0.N) (R : Fin 520) (r : Fin 8) (j : Fin 2816) (b : Fin 4) (T : Fin 4096) (J : Fin 5632)
    (hR : R.val = r.val) (hb : b.val = t.val / 8) (hT : T.val = t.val % 8 * 512 + (504 + r.val)) (hJ : J.val = j.val) :
    (outsAt0 m c t.val t.isLt).2.1 (ix2 R j) = UPM m c b T J := by
  have hx : 504 + r.val < 512 := by omega
  by_cases h0 : t.val % 8 = 0
  · rw [outsAt0_A m c t h0]
    frame_out
    refine (canon_at KEPT _ _ _ (ix2 r j) (emb_kept R r j hR)).trans ((pay10 _ r j).trans ?_)
    refine (read_at _ OWN _ _ _ _ (ix2 ⟨504 + r.val, hx⟩ j) (emb_saved r ⟨504 + r.val, hx⟩ j rfl)).trans ?_
    exact up6 m c t ⟨504 + r.val, hx⟩ j b T J hb hT hJ
  · rw [outsAt0_B m c t h0]
    frame_out
    refine (canon_at KEPT _ _ _ (ix2 r j) (emb_kept R r j hR)).trans ((pay10 _ r j).trans ?_)
    refine (read_at _ OWN _ _ _ _ (ix2 ⟨504 + r.val, hx⟩ j) (emb_saved r ⟨504 + r.val, hx⟩ j rfl)).trans ?_
    exact up6 m c t ⟨504 + r.val, hx⟩ j b T J hb hT hJ

/-- The same for the value's scratch. -/
theorem keep1 (c : Dev nD) (t : Fin cfg0.N) (R : Fin 520) (r : Fin 8) (j : Fin 2816) (b : Fin 4) (T : Fin 4096) (J : Fin 5632)
    (hR : R.val = r.val) (hb : b.val = t.val / 8) (hT : T.val = t.val % 8 * 512 + (504 + r.val)) (hJ : J.val = 2816 + j.val) :
    (outsAt0 m c t.val t.isLt).2.2 (ix2 R j) = UPM m c b T J := by
  have hx : 504 + r.val < 512 := by omega
  by_cases h0 : t.val % 8 = 0
  · rw [outsAt0_A m c t h0]
    frame_out
    refine (canon_at KEPT _ _ _ (ix2 r j) (emb_kept R r j hR)).trans ((pay11 _ r j).trans ?_)
    refine (read_at _ OWN _ _ _ _ (ix2 ⟨504 + r.val, hx⟩ j) (emb_saved r ⟨504 + r.val, hx⟩ j rfl)).trans ?_
    exact up7 m c t ⟨504 + r.val, hx⟩ j b T J hb hT hJ
  · rw [outsAt0_B m c t h0]
    frame_out
    refine (canon_at KEPT _ _ _ (ix2 r j) (emb_kept R r j hR)).trans ((pay11 _ r j).trans ?_)
    refine (read_at _ OWN _ _ _ _ (ix2 ⟨504 + r.val, hx⟩ j) (emb_saved r ⟨504 + r.val, hx⟩ j rfl)).trans ?_
    exact up7 m c t ⟨504 + r.val, hx⟩ j b T J hb hT hJ

theorem held_at {S : Shape} {e : EltTy} {sig : RefSig} {κ : Kind} {sp : Space} (v : View sig κ sp S e) (f : v.ty.Contents (Elt Ideal)) (r B : Rect S)
    (w : r.shape.Idx → Elt Ideal e) (L : List (View.Piece (Elt Ideal) S e)) (y : B.shape.Idx) (x : r.shape.Idx) (h : r.emb x = B.emb y) :
    View.ld (v.read (Elt Ideal) (v.writes (Elt Ideal) f (⟨r, w⟩ :: L))) B y = w x := by
  show v.read (Elt Ideal) (v.writes (Elt Ideal) f (⟨r, w⟩ :: L)) (B.emb y) = w x
  rw [← h]
  exact View.read_writes_cons_emb v f r w L x

theorem held_out {S : Shape} {e : EltTy} {sig : RefSig} {κ : Kind} {sp : Space} (v : View sig κ sp S e) (f : v.ty.Contents (Elt Ideal)) (r B : Rect S)
    (w : r.shape.Idx → Elt Ideal e) (y : B.shape.Idx) (X : S.Idx → Elt Ideal e) (hf : v.read (Elt Ideal) f = X) (h : B.emb y ∉ r.set) :
    View.ld (v.read (Elt Ideal) (v.writes (Elt Ideal) f [⟨r, w⟩])) B y = X (B.emb y) := by
  have hy : B.emb y ∉ Finset.univ.map r.emb := by rwa [Rect.map_emb_univ]
  show v.read (Elt Ideal) (v.writes (Elt Ideal) f [⟨r, w⟩]) (B.emb y) = _
  rw [View.writes_cons, View.read_slice_write_of_not_mem r _ _ _ hy, View.writes_nil, hf]

theorem row_6 (r : Fin 512) (x : Fin 520) (j : Fin 2816) (h : x.val = 6 + r.val) :
    TAP6.emb (ix2 r j : (⟨2, ![512, 2816]⟩ : Shape).Idx) = (ix2 x j : S520x2816.Idx) := by
  blk_ext []
theorem row_7 (r : Fin 512) (x : Fin 520) (j : Fin 2816) (h : x.val = 7 + r.val) :
    TAP7.emb (ix2 r j : (⟨2, ![512, 2816]⟩ : Shape).Idx) = (ix2 x j : S520x2816.Idx) := by
  blk_ext []

theorem fill2 (r : Fin 8) (j : Fin 2816) : k0_pay2 (F := Ideal) (ix2 r j) = 0 := by
  pointwise [k0_pay2]
theorem fill3 (r : Fin 8) (j : Fin 2816) : k0_pay3 (F := Ideal) (ix2 r j) = 0 := by
  pointwise [k0_pay3]

/-- The gate's rows 1 earlier at the first block of a sequence. -/
theorem gate_first1 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) (h0 : t.val % 8 = 0) :
    (View.whole cc0_scratch0).readCov (Val := Elt Ideal) [⟨OWN, k0_pay6 (F := Ideal) (iblk m c 0 t) (iblk m c 1 t) (iblk m c 2 t)⟩, ⟨KEPT, k0_pay2 (F := Ideal)⟩] TAP7.toLoadRect (ix2 r j) = UPSM m c b 1 R J := by
  by_cases h : r.val < 1
  · have hx : 7 + r.val < 8 := by omega
    refine (read_next _ OWN KEPT _ _ _ _ _ (ix2 ⟨7 + r.val, hx⟩ j) (out_7 r j h) (emb_7k r ⟨7 + r.val, hx⟩ j rfl)).trans ?_
    exact (fill2 _ j).trans (UPS_zero _ _ _ b 1 R J (by omega)).symm
  · have hx : r.val - 1 < 512 := by omega
    have hR' : R.val - 1 < 4096 := by omega
    refine (read_at _ OWN _ _ _ _ (ix2 ⟨r.val - 1, hx⟩ j) (emb_7 r ⟨r.val - 1, hx⟩ j (by show 8 + (r.val - 1) = 7 + r.val; omega))).trans ?_
    refine (up6 m c t ⟨r.val - 1, hx⟩ j b ⟨R.val - 1, hR'⟩ J hb (by show R.val - 1 = t.val % 8 * 512 + (r.val - 1); omega) hJ).trans ?_
    exact (UPS_of _ _ _ b 1 R ⟨R.val - 1, hR'⟩ J (by show R.val = R.val - 1 + 1; omega)).symm

/-- The gate's rows 1 earlier at a later block. -/
theorem gate_later1 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) (h0 : ¬ t.val % 8 = 0) (f : (View.whole cc0_scratch0).ty.Contents (Elt Ideal))
    (hf : (View.whole cc0_scratch0).read (Elt Ideal) f = (outsAt0 m c (t.val - 1) (Nat.lt_of_le_of_lt (Nat.sub_le _ _) t.isLt)).2.1) :
    View.ld ((View.whole cc0_scratch0).read (Elt Ideal) ((View.whole cc0_scratch0).writes (Elt Ideal) f [⟨OWN, k0_pay6 (F := Ideal) (iblk m c 0 t) (iblk m c 1 t) (iblk m c 2 t)⟩])) TAP7 (ix2 r j) = UPSM m c b 1 R J := by
  have hR' : R.val - 1 < 4096 := by omega
  refine Eq.trans ?_ (UPS_of _ _ _ b 1 R ⟨R.val - 1, hR'⟩ J (by show R.val = R.val - 1 + 1; omega)).symm
  by_cases h : r.val < 1
  · have hx : 7 + r.val < 520 := by omega
    have hy : 7 + r.val < 8 := by omega
    refine (held_out _ f OWN TAP7 _ _ _ hf (out_7 r j h)).trans ?_
    refine (congrArg _ (row_7 r ⟨7 + r.val, hx⟩ j rfl)).trans ?_
    exact keep0 m c ⟨t.val - 1, Nat.lt_of_le_of_lt (Nat.sub_le _ _) t.isLt⟩ ⟨7 + r.val, hx⟩ ⟨7 + r.val, hy⟩ j b ⟨R.val - 1, hR'⟩ J rfl
      (by show b.val = (t.val - 1) / 8; omega) (by show R.val - 1 = (t.val - 1) % 8 * 512 + (504 + (7 + r.val)); omega) hJ
  · have hx : r.val - 1 < 512 := by omega
    refine (held_at _ f OWN TAP7 _ _ _ (ix2 ⟨r.val - 1, hx⟩ j) (emb_7 r ⟨r.val - 1, hx⟩ j (by show 8 + (r.val - 1) = 7 + r.val; omega))).trans ?_
    exact up6 m c t ⟨r.val - 1, hx⟩ j b ⟨R.val - 1, hR'⟩ J hb (by show R.val - 1 = t.val % 8 * 512 + (r.val - 1); omega) hJ

/-- The gate's rows 2 earlier at the first block of a sequence. -/
theorem gate_first2 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) (h0 : t.val % 8 = 0) :
    (View.whole cc0_scratch0).readCov (Val := Elt Ideal) [⟨OWN, k0_pay6 (F := Ideal) (iblk m c 0 t) (iblk m c 1 t) (iblk m c 2 t)⟩, ⟨KEPT, k0_pay2 (F := Ideal)⟩] TAP6.toLoadRect (ix2 r j) = UPSM m c b 2 R J := by
  by_cases h : r.val < 2
  · have hx : 6 + r.val < 8 := by omega
    refine (read_next _ OWN KEPT _ _ _ _ _ (ix2 ⟨6 + r.val, hx⟩ j) (out_6 r j h) (emb_6k r ⟨6 + r.val, hx⟩ j rfl)).trans ?_
    exact (fill2 _ j).trans (UPS_zero _ _ _ b 2 R J (by omega)).symm
  · have hx : r.val - 2 < 512 := by omega
    have hR' : R.val - 2 < 4096 := by omega
    refine (read_at _ OWN _ _ _ _ (ix2 ⟨r.val - 2, hx⟩ j) (emb_6 r ⟨r.val - 2, hx⟩ j (by show 8 + (r.val - 2) = 6 + r.val; omega))).trans ?_
    refine (up6 m c t ⟨r.val - 2, hx⟩ j b ⟨R.val - 2, hR'⟩ J hb (by show R.val - 2 = t.val % 8 * 512 + (r.val - 2); omega) hJ).trans ?_
    exact (UPS_of _ _ _ b 2 R ⟨R.val - 2, hR'⟩ J (by show R.val = R.val - 2 + 2; omega)).symm

/-- The gate's rows 2 earlier at a later block. -/
theorem gate_later2 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) (h0 : ¬ t.val % 8 = 0) (f : (View.whole cc0_scratch0).ty.Contents (Elt Ideal))
    (hf : (View.whole cc0_scratch0).read (Elt Ideal) f = (outsAt0 m c (t.val - 1) (Nat.lt_of_le_of_lt (Nat.sub_le _ _) t.isLt)).2.1) :
    View.ld ((View.whole cc0_scratch0).read (Elt Ideal) ((View.whole cc0_scratch0).writes (Elt Ideal) f [⟨OWN, k0_pay6 (F := Ideal) (iblk m c 0 t) (iblk m c 1 t) (iblk m c 2 t)⟩])) TAP6 (ix2 r j) = UPSM m c b 2 R J := by
  have hR' : R.val - 2 < 4096 := by omega
  refine Eq.trans ?_ (UPS_of _ _ _ b 2 R ⟨R.val - 2, hR'⟩ J (by show R.val = R.val - 2 + 2; omega)).symm
  by_cases h : r.val < 2
  · have hx : 6 + r.val < 520 := by omega
    have hy : 6 + r.val < 8 := by omega
    refine (held_out _ f OWN TAP6 _ _ _ hf (out_6 r j h)).trans ?_
    refine (congrArg _ (row_6 r ⟨6 + r.val, hx⟩ j rfl)).trans ?_
    exact keep0 m c ⟨t.val - 1, Nat.lt_of_le_of_lt (Nat.sub_le _ _) t.isLt⟩ ⟨6 + r.val, hx⟩ ⟨6 + r.val, hy⟩ j b ⟨R.val - 2, hR'⟩ J rfl
      (by show b.val = (t.val - 1) / 8; omega) (by show R.val - 2 = (t.val - 1) % 8 * 512 + (504 + (6 + r.val)); omega) hJ
  · have hx : r.val - 2 < 512 := by omega
    refine (held_at _ f OWN TAP6 _ _ _ (ix2 ⟨r.val - 2, hx⟩ j) (emb_6 r ⟨r.val - 2, hx⟩ j (by show 8 + (r.val - 2) = 6 + r.val; omega))).trans ?_
    exact up6 m c t ⟨r.val - 2, hx⟩ j b ⟨R.val - 2, hR'⟩ J hb (by show R.val - 2 = t.val % 8 * 512 + (r.val - 2); omega) hJ

/-- The value's rows 1 earlier at the first block of a sequence. -/
theorem value_first1 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) (h0 : t.val % 8 = 0) :
    (View.whole cc0_scratch1).readCov (Val := Elt Ideal) [⟨OWN, k0_pay7 (F := Ideal) (iblk m c 0 t) (iblk m c 1 t) (iblk m c 3 t)⟩, ⟨KEPT, k0_pay3 (F := Ideal)⟩] TAP7.toLoadRect (ix2 r j) = UPSM m c b 1 R J := by
  by_cases h : r.val < 1
  · have hx : 7 + r.val < 8 := by omega
    refine (read_next _ OWN KEPT _ _ _ _ _ (ix2 ⟨7 + r.val, hx⟩ j) (out_7 r j h) (emb_7k r ⟨7 + r.val, hx⟩ j rfl)).trans ?_
    exact (fill3 _ j).trans (UPS_zero _ _ _ b 1 R J (by omega)).symm
  · have hx : r.val - 1 < 512 := by omega
    have hR' : R.val - 1 < 4096 := by omega
    refine (read_at _ OWN _ _ _ _ (ix2 ⟨r.val - 1, hx⟩ j) (emb_7 r ⟨r.val - 1, hx⟩ j (by show 8 + (r.val - 1) = 7 + r.val; omega))).trans ?_
    refine (up7 m c t ⟨r.val - 1, hx⟩ j b ⟨R.val - 1, hR'⟩ J hb (by show R.val - 1 = t.val % 8 * 512 + (r.val - 1); omega) hJ).trans ?_
    exact (UPS_of _ _ _ b 1 R ⟨R.val - 1, hR'⟩ J (by show R.val = R.val - 1 + 1; omega)).symm

/-- The value's rows 1 earlier at a later block. -/
theorem value_later1 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) (h0 : ¬ t.val % 8 = 0) (f : (View.whole cc0_scratch1).ty.Contents (Elt Ideal))
    (hf : (View.whole cc0_scratch1).read (Elt Ideal) f = (outsAt0 m c (t.val - 1) (Nat.lt_of_le_of_lt (Nat.sub_le _ _) t.isLt)).2.2) :
    View.ld ((View.whole cc0_scratch1).read (Elt Ideal) ((View.whole cc0_scratch1).writes (Elt Ideal) f [⟨OWN, k0_pay7 (F := Ideal) (iblk m c 0 t) (iblk m c 1 t) (iblk m c 3 t)⟩])) TAP7 (ix2 r j) = UPSM m c b 1 R J := by
  have hR' : R.val - 1 < 4096 := by omega
  refine Eq.trans ?_ (UPS_of _ _ _ b 1 R ⟨R.val - 1, hR'⟩ J (by show R.val = R.val - 1 + 1; omega)).symm
  by_cases h : r.val < 1
  · have hx : 7 + r.val < 520 := by omega
    have hy : 7 + r.val < 8 := by omega
    refine (held_out _ f OWN TAP7 _ _ _ hf (out_7 r j h)).trans ?_
    refine (congrArg _ (row_7 r ⟨7 + r.val, hx⟩ j rfl)).trans ?_
    exact keep1 m c ⟨t.val - 1, Nat.lt_of_le_of_lt (Nat.sub_le _ _) t.isLt⟩ ⟨7 + r.val, hx⟩ ⟨7 + r.val, hy⟩ j b ⟨R.val - 1, hR'⟩ J rfl
      (by show b.val = (t.val - 1) / 8; omega) (by show R.val - 1 = (t.val - 1) % 8 * 512 + (504 + (7 + r.val)); omega) hJ
  · have hx : r.val - 1 < 512 := by omega
    refine (held_at _ f OWN TAP7 _ _ _ (ix2 ⟨r.val - 1, hx⟩ j) (emb_7 r ⟨r.val - 1, hx⟩ j (by show 8 + (r.val - 1) = 7 + r.val; omega))).trans ?_
    exact up7 m c t ⟨r.val - 1, hx⟩ j b ⟨R.val - 1, hR'⟩ J hb (by show R.val - 1 = t.val % 8 * 512 + (r.val - 1); omega) hJ

/-- The value's rows 2 earlier at the first block of a sequence. -/
theorem value_first2 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) (h0 : t.val % 8 = 0) :
    (View.whole cc0_scratch1).readCov (Val := Elt Ideal) [⟨OWN, k0_pay7 (F := Ideal) (iblk m c 0 t) (iblk m c 1 t) (iblk m c 3 t)⟩, ⟨KEPT, k0_pay3 (F := Ideal)⟩] TAP6.toLoadRect (ix2 r j) = UPSM m c b 2 R J := by
  by_cases h : r.val < 2
  · have hx : 6 + r.val < 8 := by omega
    refine (read_next _ OWN KEPT _ _ _ _ _ (ix2 ⟨6 + r.val, hx⟩ j) (out_6 r j h) (emb_6k r ⟨6 + r.val, hx⟩ j rfl)).trans ?_
    exact (fill3 _ j).trans (UPS_zero _ _ _ b 2 R J (by omega)).symm
  · have hx : r.val - 2 < 512 := by omega
    have hR' : R.val - 2 < 4096 := by omega
    refine (read_at _ OWN _ _ _ _ (ix2 ⟨r.val - 2, hx⟩ j) (emb_6 r ⟨r.val - 2, hx⟩ j (by show 8 + (r.val - 2) = 6 + r.val; omega))).trans ?_
    refine (up7 m c t ⟨r.val - 2, hx⟩ j b ⟨R.val - 2, hR'⟩ J hb (by show R.val - 2 = t.val % 8 * 512 + (r.val - 2); omega) hJ).trans ?_
    exact (UPS_of _ _ _ b 2 R ⟨R.val - 2, hR'⟩ J (by show R.val = R.val - 2 + 2; omega)).symm

/-- The value's rows 2 earlier at a later block. -/
theorem value_later2 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) (h0 : ¬ t.val % 8 = 0) (f : (View.whole cc0_scratch1).ty.Contents (Elt Ideal))
    (hf : (View.whole cc0_scratch1).read (Elt Ideal) f = (outsAt0 m c (t.val - 1) (Nat.lt_of_le_of_lt (Nat.sub_le _ _) t.isLt)).2.2) :
    View.ld ((View.whole cc0_scratch1).read (Elt Ideal) ((View.whole cc0_scratch1).writes (Elt Ideal) f [⟨OWN, k0_pay7 (F := Ideal) (iblk m c 0 t) (iblk m c 1 t) (iblk m c 3 t)⟩])) TAP6 (ix2 r j) = UPSM m c b 2 R J := by
  have hR' : R.val - 2 < 4096 := by omega
  refine Eq.trans ?_ (UPS_of _ _ _ b 2 R ⟨R.val - 2, hR'⟩ J (by show R.val = R.val - 2 + 2; omega)).symm
  by_cases h : r.val < 2
  · have hx : 6 + r.val < 520 := by omega
    have hy : 6 + r.val < 8 := by omega
    refine (held_out _ f OWN TAP6 _ _ _ hf (out_6 r j h)).trans ?_
    refine (congrArg _ (row_6 r ⟨6 + r.val, hx⟩ j rfl)).trans ?_
    exact keep1 m c ⟨t.val - 1, Nat.lt_of_le_of_lt (Nat.sub_le _ _) t.isLt⟩ ⟨6 + r.val, hx⟩ ⟨6 + r.val, hy⟩ j b ⟨R.val - 2, hR'⟩ J rfl
      (by show b.val = (t.val - 1) / 8; omega) (by show R.val - 2 = (t.val - 1) % 8 * 512 + (504 + (6 + r.val)); omega) hJ
  · have hx : r.val - 2 < 512 := by omega
    refine (held_at _ f OWN TAP6 _ _ _ (ix2 ⟨r.val - 2, hx⟩ j) (emb_6 r ⟨r.val - 2, hx⟩ j (by show 8 + (r.val - 2) = 6 + r.val; omega))).trans ?_
    exact up7 m c t ⟨r.val - 2, hx⟩ j b ⟨R.val - 2, hR'⟩ J hb (by show R.val - 2 = t.val % 8 * 512 + (r.val - 2); omega) hJ

end Cert.FfnIdeal.Hand

end
-- ==== Proof.FfnKernel.lean ====
module

public import proofs.«01_k».proof.Proof.Gen.FfnIdeal.Value
public import proofs.«01_k».proof.Proof.Gen.FfnRefIdeal.Read
public import Idealize.ShloMosaic.Lib.Pipeline.ValueKit
public import Idealize.ShloMosaic.Lib.WritesUnit
public import proofs.«01_k».proof.Proof.FfnTaps

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

theorem ld_zero (X : FVec Ideal S1x3x2816 .f32) (j : Fin 2816) :
    View.ld (Val := Elt Ideal) (e' := .f32) X (Rect.unit ![0, 0, 0] ![1, 1, 2816] inb_S1x3x2816_S1x1x2816_0_0_0) (ix3 0 0 j) = X (ix3 0 0 j) :=
  congrArg X (funext fun a => Fin.ext (match a with
    | ⟨0, _⟩ => rfl
    | ⟨1, _⟩ => rfl
    | ⟨2, _⟩ => show 0 + 1 * j.val = j.val by omega))

theorem ld_one (X : FVec Ideal S1x3x2816 .f32) (j : Fin 2816) :
    View.ld (Val := Elt Ideal) (e' := .f32) X (Rect.unit ![0, 1, 0] ![1, 1, 2816] inb_S1x3x2816_S1x1x2816_0_1_0) (ix3 0 0 j) = X (ix3 0 1 j) :=
  congrArg X (funext fun a => Fin.ext (match a with
    | ⟨0, _⟩ => rfl
    | ⟨1, _⟩ => rfl
    | ⟨2, _⟩ => show 0 + 1 * j.val = j.val by omega))

theorem ld_two (X : FVec Ideal S1x3x2816 .f32) (j : Fin 2816) :
    View.ld (Val := Elt Ideal) (e' := .f32) X (Rect.unit ![0, 2, 0] ![1, 1, 2816] inb_S1x3x2816_S1x1x2816_0_2_0) (ix3 0 0 j) = X (ix3 0 2 j) :=
  congrArg X (funext fun a => Fin.ext (match a with
    | ⟨0, _⟩ => rfl
    | ⟨1, _⟩ => rfl
    | ⟨2, _⟩ => show 0 + 1 * j.val = j.val by omega))

/-- The convolved up-projection of row `t` of sequence `b` at column `J`. -/
def CV (h : FVec Ideal S4x4096x1024 .f32) (nf : FVec Ideal S4x1024 .f32) (wu : FVec Ideal S4x1024x5632 .f32)
    (cw : FVec Ideal S4x3x5632 .f32) (cb : FVec Ideal S4x5632 .f32) (b : Fin 4) (t : Fin 4096) (J : Fin 5632) : EReal :=
  TAPS (cb (ix2 3 J)) (cw (ix3 3 0 J)) (UPS h nf wu b 2 t J) (cw (ix3 3 1 J)) (UPS h nf wu b 1 t J) (cw (ix3 3 2 J)) (UP h nf wu b t J)

/-- The layer's output row before its norm. -/
def RES (h : FVec Ideal S4x4096x1024 .f32) (nf : FVec Ideal S4x1024 .f32) (wu : FVec Ideal S4x1024x5632 .f32)
    (cw : FVec Ideal S4x3x5632 .f32) (cb : FVec Ideal S4x5632 .f32) (wd : FVec Ideal S4x2816x1024 .f32) (b : Fin 4) (t : Fin 4096) (n : Fin 1024) : EReal :=
  h (ix3 b t n) + ∑ j : Fin 2816, GATE (CV h nf wu cw cb b t ⟨j.val, by omega⟩) (CV h nf wu cw cb b t ⟨2816 + j.val, by omega⟩) * wd (ix3 3 j n)

/-- The final norm of that row. -/
def GO (h : FVec Ideal S4x4096x1024 .f32) (nf : FVec Ideal S4x1024 .f32) (wu : FVec Ideal S4x1024x5632 .f32)
    (cw : FVec Ideal S4x3x5632 .f32) (cb : FVec Ideal S4x5632 .f32) (wd : FVec Ideal S4x2816x1024 .f32) (nl : FVec Ideal S1024 .f32)
    (b : Fin 4) (t : Fin 4096) (n : Fin 1024) : EReal :=
  RN (RES h nf wu cw cb wd b t) n * nl (ix1 n)

/-- The whole output. -/
def GA (h : FVec Ideal S4x4096x1024 .f32) (nf : FVec Ideal S4x1024 .f32) (wu : FVec Ideal S4x1024x5632 .f32)
    (cw : FVec Ideal S4x3x5632 .f32) (cb : FVec Ideal S4x5632 .f32) (wd : FVec Ideal S4x2816x1024 .f32) (nl : FVec Ideal S1024 .f32) :
    FVec Ideal S4x4096x1024 .f32 := fun i => GO h nf wu cw cb wd nl (i 0) (i 1) (i 2)

theorem taps_congr {b b' c0 c0' g0 g0' c1 c1' g1 g1' c2 c2' g2 g2' : EReal} (hb : b = b') (h0 : c0 = c0') (k0 : g0 = g0') (h1 : c1 = c1')
    (k1 : g1 = g1') (h2 : c2 = c2') (k2 : g2 = g2') : TAPS b c0 g0 c1 g1 c2 g2 = TAPS b' c0' g0' c1' g1' c2' g2' := by
  rw [hb, h0, k0, h1, k1, h2, k2]

theorem point (c : Dev nD) (t : Fin cfg0.N) (r : Fin 512) (n : Fin 1024) (b : Fin 4) (R : Fin 4096)
    (hb : b.val = t.val / 8) (hR : R.val = t.val % 8 * 512 + r.val) :
    (outsAt0 m c t.val t.isLt).1 (ix3 0 r n) = GO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b R n := by
  by_cases h0 : t.val % 8 = 0
  · rw [outsAt0_A m c t h0]
    frame_out
    refine (pay _ _ _ _ _ _ _ _ _ _ _ _ _ _ _ _ _ r n).trans ?_
    refine congrArg₂ (· * ·) (congrArg (fun f => RN f n) (funext fun n' => congrArg₂ (· + ·) (blk0 m c t r n' b R hb hR)
      (Finset.sum_congr rfl fun j _ => congrArg₂ (· * ·) (congrArg₂ GATE ?_ ?_) (blk8 m c t j n')))) (blk9 m c t n)
    · refine taps_congr (blk6 m c t j _ rfl) ((ld_zero _ j).trans (blk4 m c t 0 j _ rfl)) (gate_first2 m c t r j b R _ hb hR rfl h0) ((ld_one _ j).trans (blk4 m c t 1 j _ rfl))
        (gate_first1 m c t r j b R _ hb hR rfl h0) ((ld_two _ j).trans (blk4 m c t 2 j _ rfl)) ?_
      exact (read_at _ OWN _ _ _ _ (ix2 r j) rfl).trans (up6 m c t r j b R _ hb hR rfl)
    · refine taps_congr (blk7 m c t j _ rfl) ((ld_zero _ j).trans (blk5 m c t 0 j _ rfl)) (value_first2 m c t r j b R _ hb hR rfl h0) ((ld_one _ j).trans (blk5 m c t 1 j _ rfl))
        (value_first1 m c t r j b R _ hb hR rfl h0) ((ld_two _ j).trans (blk5 m c t 2 j _ rfl)) ?_
      exact (read_at _ OWN _ _ _ _ (ix2 r j) rfl).trans (up7 m c t r j b R _ hb hR rfl)
  · rw [outsAt0_B m c t h0]
    frame_out
    refine (pay _ _ _ _ _ _ _ _ _ _ _ _ _ _ _ _ _ r n).trans ?_
    refine congrArg₂ (· * ·) (congrArg (fun f => RN f n) (funext fun n' => congrArg₂ (· + ·) (blk0 m c t r n' b R hb hR)
      (Finset.sum_congr rfl fun j _ => congrArg₂ (· * ·) (congrArg₂ GATE ?_ ?_) (blk8 m c t j n')))) (blk9 m c t n)
    · refine taps_congr (blk6 m c t j _ rfl) ((ld_zero _ j).trans (blk4 m c t 0 j _ rfl)) (gate_later2 m c t r j b R _ hb hR rfl h0 _ ((Memref.isWhole_whole _ : scM0_0.IsWhole).read_unread _)) ((ld_one _ j).trans (blk4 m c t 1 j _ rfl))
        (gate_later1 m c t r j b R _ hb hR rfl h0 _ ((Memref.isWhole_whole _ : scM0_0.IsWhole).read_unread _)) ((ld_two _ j).trans (blk4 m c t 2 j _ rfl)) ?_
      exact (read_at _ OWN _ _ _ _ (ix2 r j) rfl).trans (up6 m c t r j b R _ hb hR rfl)
    · refine taps_congr (blk7 m c t j _ rfl) ((ld_zero _ j).trans (blk5 m c t 0 j _ rfl)) (value_later2 m c t r j b R _ hb hR rfl h0 _ ((Memref.isWhole_whole _ : scM0_1.IsWhole).read_unread _)) ((ld_one _ j).trans (blk5 m c t 1 j _ rfl))
        (value_later1 m c t r j b R _ hb hR rfl h0 _ ((Memref.isWhole_whole _ : scM0_1.IsWhole).read_unread _)) ((ld_two _ j).trans (blk5 m c t 2 j _ rfl)) ?_
      exact (read_at _ OWN _ _ _ _ (ix2 r j) rfl).trans (up7 m c t r j b R _ hb hR rfl)

theorem emb10 (t : Fin cfg0.N) (r : Fin 512) (n : Fin 1024) (b : Fin 4) (R : Fin 4096) (hb : b.val = t.val / 8) (hR : R.val = t.val % 8 * 512 + r.val) :
    (win0_10.blk t).view.emb (ix3 0 r n) = ix3 b R n := by
  blk_ext [idx0 t]

theorem final (c : Dev nD) : (dats m 0 c).arrAt 10 cfg0.N = GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10]
  idx_vars y
  have ht : t.val < 32 := t.isLt
  obtain ⟨b, hb⟩ : ∃ b : Fin 4, b.val = t.val / 8 := ⟨⟨t.val / 8, by omega⟩, rfl⟩
  obtain ⟨R, hR⟩ : ∃ R : Fin 4096, R.val = t.val % 8 * 512 + y1.val := ⟨⟨t.val % 8 * 512 + y1.val, by omega⟩, rfl⟩
  have e0 : y0 = 0 := by omega
  subst e0
  refine Eq.trans ?_ (congrArg (GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (emb10 t y1 y2 b R hb hR).symm)
  exact point m c t y1 y2 b R hb hR

end Cert.FfnIdeal.Hand

end
-- ==== Proof.FfnReference.lean ====
module

public import proofs.«01_k».proof.Proof.FfnKernel
public import proofs.«01_k».proof.Proof.Gen.FfnRefIdeal.Read
public import Idealize.ShloMosaic.Lib.Pipeline.ValueKit

@[expose] public section

set_option maxRecDepth 16384

noncomputable section

namespace Cert.FfnRefIdeal.Hand

open Cert.FfnRefIdeal Cert.FfnRefIdeal.Gen Idealize.ShloMosaic Idealize.ShloMosaic.TcCoe Idealize.SL.Sem

open Cert.FfnRefIdeal.Read

open Cert.FfnIdeal.Hand (RN UP UPS UPS_of CV RES GO GA TAPS GATE)

/-- The up-projection of the normalised row. -/
theorem up_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (b : Fin 4) (t : Fin 4096) (J : Fin 5632) :
    val_main_v17 (F := Ideal) x0 x1 x2 (ix3 b t J) = UP x0 x1 x2 b t J := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold UP RN
  rfl

/-- The padded up-projection, two rows later. -/
theorem pad_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (b : Fin 4) (t : Fin 4096) (s : ℕ) (hs : s ≤ 2) (u : Fin 4098) (hu : u.val + s = t.val + 2) (J : Fin 5632) :
    val_main_v20 (F := Ideal) x0 x1 x2 (ix3 b u J) = UPS x0 x1 x2 b s t J := by
  pointwise [val_main_v20, val_main_call0_v0, val_main_c]
  unfold UPS
  by_cases h : s ≤ t.val
  · rw [dif_pos h, dif_pos ⟨by omega, by omega⟩, up_apply]
    exact congrArg (fun v => UP x0 x1 x2 b v J) (Fin.ext (show u.val - 2 = t.val - s by omega))
  · rw [dif_neg h, dif_neg (by omega)]
    show (((0#32).toInt : ℝ) : EReal) = 0
    simp

/-- The convolution's column. -/
theorem conv_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x3x5632, .f32⟩ : BufTy).Contents (Elt Ideal)) (x4 : (⟨S4x5632, .f32⟩ : BufTy).Contents (Elt Ideal)) (b : Fin 4) (t : Fin 4096) (J : Fin 5632) :
    val_main_v45 (F := Ideal) x0 x1 x2 x3 x4 (ix3 b t J) = CV x0 x1 x2 x3 x4 b t J := by
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v19, val_main_v18]
  rw [pad_apply x0 x1 x2 b t 2 (by omega) _ rfl J, pad_apply x0 x1 x2 b t 1 (by omega) _ (show 1 + t.val + 1 = t.val + 2 by omega) J,
    pad_apply x0 x1 x2 b t 0 (by omega) _ (show 2 + t.val + 0 = t.val + 2 by omega) J, UPS_of x0 x1 x2 b 0 t t J rfl]
  unfold CV TAPS
  rw [add_comm _ (x4 (ix2 3 J)), ← add_assoc, ← add_assoc]

/-- The row before the last norm. -/
theorem res_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x3x5632, .f32⟩ : BufTy).Contents (Elt Ideal)) (x4 : (⟨S4x5632, .f32⟩ : BufTy).Contents (Elt Ideal)) (x5 : (⟨S4x2816x1024, .f32⟩ : BufTy).Contents (Elt Ideal)) (b : Fin 4) (t : Fin 4096) (n : Fin 1024) :
    val_main_v59 (F := Ideal) x0 x1 x2 x3 x4 x5 (ix3 b t n) = RES x0 x1 x2 x3 x4 x5 b t n := by
  pointwise [val_main_v59, val_main_v58, val_main_v57, val_main_v56, val_main_v55, val_main_v54, val_main_v53, val_main_v52, val_main_v51, val_main_v50, val_main_v49, val_main_v48, val_main_v47, val_main_v46, val_main_cst_2, val_main_cst_3]
  refine congrArg₂ (· + ·) rfl (Finset.sum_congr rfl fun x _ => congrArg₂ (· * ·) ?_ rfl)
  rw [conv_apply, conv_apply]
  exact congrArg₂ (· * ·) (congrArg₂ (· * ·) rfl (Ideal.logistic_def _).symm) rfl

theorem ref_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x3x5632, .f32⟩ : BufTy).Contents (Elt Ideal)) (x4 : (⟨S4x5632, .f32⟩ : BufTy).Contents (Elt Ideal)) (x5 : (⟨S4x2816x1024, .f32⟩ : BufTy).Contents (Elt Ideal)) (x6 : (⟨S1024, .f32⟩ : BufTy).Contents (Elt Ideal)) (i : S4x4096x1024.Idx) :
    GA x0 x1 x2 x3 x4 x5 x6 i = val_main_v72 (F := Ideal) x0 x1 x2 x3 x4 x5 x6 i := by
  idx_vars i
  show GO x0 x1 x2 x3 x4 x5 x6 i0 i1 i2 = _
  pointwise [val_main_v72, val_main_v71, val_main_v70, val_main_v69, val_main_v68, val_main_v67, val_main_v66, val_main_v65, val_main_v64, val_main_v63, val_main_v62, val_main_v61, val_main_v60, val_main_cst_4, val_main_cst_5, val_main_cst_6]
  simp only [res_apply]
  rfl

end Cert.FfnRefIdeal.Hand

end
-- ==== Proof.FfnClaims.lean ====
module

public import proofs.«01_k».proof.Defs
public import proofs.«01_k».proof.Proof.Gen.Ffn.Frame
public import proofs.«01_k».proof.Proof.FfnKernel
public import proofs.«01_k».proof.Proof.FfnReference
public import Idealize.ShloMosaic.Lib.Claim

@[expose] public section

set_option maxRecDepth 16384

noncomputable section

namespace Cert.Ffn.Hand

open Idealize.ShloMosaic Idealize.ShloMosaic.TcCoe Idealize.SL.Sem

theorem frame_kernel : Cert.quiescent_Ffn := fun m ρ _ => Cert.Ffn.Gen.frame m ρ
theorem frame_ideal : Cert.quiescent_FfnIdeal := fun m ρ _ => Cert.FfnIdeal.Gen.frame m ρ
theorem frame_refideal : Cert.quiescent_FfnRefIdeal := fun m ρ _ =>
  θ_run_mono (Cert.FfnRefIdeal.Value.run m ρ) fun r h => ⟨fun c => (h c).2, sem_eq_zero_of_no_sems (by decide) r.2⟩

theorem algebraic : Cert.algebraic_FfnIdeal_FfnRefIdeal := by
  pair_intro
  · run_from Cert.FfnIdeal.Value.run_blocks m g
  · run_from Cert.FfnRefIdeal.Value.run m' g'
    rw [Cert.FfnRefIdeal.Read.val_main_v72_eq, Cert.FfnIdeal.Hand.final, (hagree c).1, (hagree c).2.1, (hagree c).2.2.1, (hagree c).2.2.2.1, (hagree c).2.2.2.2.1,
      (hagree c).2.2.2.2.2.1, (hagree c).2.2.2.2.2.2]
    exact funext fun i => (Cert.FfnRefIdeal.Hand.ref_apply _ _ _ _ _ _ _ i).symm

end Cert.Ffn.Hand

end
-- ==== Proof.FfnL0Parts.lean ====
module

public import proofs.«01_k».proof.Proof.Gen.FfnL0Ideal.Value
public import proofs.«01_k».proof.Proof.Gen.FfnL0RefIdeal.Read
public import Idealize.ShloMosaic.Lib.Pipeline.ValueKit

@[expose] public section

set_option maxRecDepth 16384

noncomputable section

namespace Cert.FfnL0Ideal.Hand

open Cert.FfnL0Ideal Cert.FfnL0Ideal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin grid0.N, win0_0.index t = ![t.val / 8, t.val % 8, 0] ∧ win0_1.index t = ![0, 0, 0] ∧ win0_2.index t = ![0, 0, 0]
    ∧ win0_3.index t = ![0, 0, 1] ∧ win0_4.index t = ![0, 0, 0] ∧ win0_5.index t = ![0, 0, 1] ∧ win0_6.index t = ![0, 0, 0]
    ∧ win0_7.index t = ![0, 0, 1] ∧ win0_8.index t = ![0, 0, 0] ∧ win0_9.index t = ![0, 0] ∧ win0_10.index t = ![t.val / 8, t.val % 8, 0] := by
  decide +kernel

theorem blk0 (c : Dev nD) (t : Fin cfg0.N) (r : Fin 512) (k : Fin 1024) (b : Fin 4) (R : Fin 4096) (hb : b.val = t.val / 8) (h : R.val = t.val % 8 * 512 + r.val) :
    iblk m c 0 t (ix3 0 r k) = m ((c : Thread nD τ).loc main_arg0) (ix3 b R k) := by
  blk_ext [iblk, V, idx0 t]
theorem blk1 (c : Dev nD) (t : Fin cfg0.N) (k : Fin 1024) :
    iblk m c 1 t (ix3 0 0 k) = m ((c : Thread nD τ).loc main_arg1) (ix2 0 k) := by
  blk_simp [iblk, idx0 t]
  (try entry_read)
  pointwise
  blk_ext [idx0 t]
theorem blk2 (c : Dev nD) (t : Fin cfg0.N) (k : Fin 1024) (j : Fin 2816) (J : Fin 5632) (h : J.val = j.val) :
    iblk m c 2 t (ix3 0 k j) = m ((c : Thread nD τ).loc main_arg2) (ix3 0 k J) := by
  blk_simp [iblk, idx0 t]
  (try entry_read)
  pointwise
  blk_ext [idx0 t]
theorem blk3 (c : Dev nD) (t : Fin cfg0.N) (k : Fin 1024) (j : Fin 2816) (J : Fin 5632) (h : J.val = 2816 + j.val) :
    iblk m c 3 t (ix3 0 k j) = m ((c : Thread nD τ).loc main_arg2) (ix3 0 k J) := by
  blk_simp [iblk, idx0 t]
  (try entry_read)
  pointwise
  blk_ext [idx0 t]
theorem blk4 (c : Dev nD) (t : Fin cfg0.N) (q : Fin 3) (j : Fin 2816) (J : Fin 5632) (h : J.val = j.val) :
    iblk m c 4 t (ix3 0 q j) = m ((c : Thread nD τ).loc main_arg3) (ix3 0 q J) := by
  blk_ext [iblk, V, idx0 t]
theorem blk5 (c : Dev nD) (t : Fin cfg0.N) (q : Fin 3) (j : Fin 2816) (J : Fin 5632) (h : J.val = 2816 + j.val) :
    iblk m c 5 t (ix3 0 q j) = m ((c : Thread nD τ).loc main_arg3) (ix3 0 q J) := by
  blk_ext [iblk, V, idx0 t]
theorem blk6 (c : Dev nD) (t : Fin cfg0.N) (j : Fin 2816) (J : Fin 5632) (h : J.val = j.val) :
    iblk m c 6 t (ix3 0 0 j) = m ((c : Thread nD τ).loc main_arg4) (ix2 0 J) := by
  blk_simp [iblk, idx0 t]
  (try entry_read)
  pointwise
  blk_ext [idx0 t]
theorem blk7 (c : Dev nD) (t : Fin cfg0.N) (j : Fin 2816) (J : Fin 5632) (h : J.val = 2816 + j.val) :
    iblk m c 7 t (ix3 0 0 j) = m ((c : Thread nD τ).loc main_arg4) (ix2 0 J) := by
  blk_simp [iblk, idx0 t]
  (try entry_read)
  pointwise
  blk_ext [idx0 t]
theorem blk8 (c : Dev nD) (t : Fin cfg0.N) (j : Fin 2816) (n : Fin 1024) :
    iblk m c 8 t (ix3 0 j n) = m ((c : Thread nD τ).loc main_arg5) (ix3 0 j n) := by
  blk_simp [iblk, idx0 t]
  (try entry_read)
  pointwise
  blk_ext [idx0 t]
theorem blk9 (c : Dev nD) (t : Fin cfg0.N) (n : Fin 1024) :
    iblk m c 9 t (ix2 0 n) = m ((c : Thread nD τ).loc main_arg6) (ix1 n) := by
  blk_simp [iblk, idx0 t]
  (try entry_read)
  pointwise
  blk_ext [idx0 t]

/-- A row scaled by the reciprocal root of its mean square. -/
def RN (x : Fin 1024 → EReal) (k : Fin 1024) : EReal :=
  x k * Ideal.rsqrt (Ideal.div (∑ j : Fin 1024, x j * x j) (Ideal.ofBits .f32 0x44800000#32) + Ideal.ofBits .f32 0x358637BD#32)

/-- The bias plus the three taps, in the order they are added. -/
def TAPS (b c0 g0 c1 g1 c2 g2 : EReal) : EReal := b + c0 * g0 + c1 * g1 + c2 * g2

/-- The gated unit. -/
def GATE (g v : EReal) : EReal := g * Ideal.logistic g * v

theorem pay (x : FVec Ideal S1x512x1024 .f32) (bg bv : FVec Ideal S1x1x2816 .f32) (c0 c1 c2 e0 e1 e2 : FVec Ideal S1x1x2816 .f32)
    (g0 g1 g2 v0 v1 v2 : FVec Ideal S512x2816 .f32) (wd : FVec Ideal S1x2816x1024 .bf16) (r : Fin 512) (n : Fin 1024) :
    k0_pay3 (F := Ideal) (k0_pay6 x) (k0_pay10 bg c0 g0 c1 g1) (k0_pay11 bv e0 v0 e1 v1) c2 g2 e2 v2 wd (ix3 0 r n)
    = x (ix3 0 r n) + ∑ j : Fin 2816,
        GATE (TAPS (bg (ix3 0 0 j)) (c0 (ix3 0 0 j)) (g0 (ix2 r j)) (c1 (ix3 0 0 j)) (g1 (ix2 r j)) (c2 (ix3 0 0 j)) (g2 (ix2 r j)))
          (TAPS (bv (ix3 0 0 j)) (e0 (ix3 0 0 j)) (v0 (ix2 r j)) (e1 (ix3 0 0 j)) (v1 (ix2 r j)) (e2 (ix3 0 0 j)) (v2 (ix2 r j)))
        * wd (ix3 0 j n) := by
  pointwise [k0_pay3, k0_pay6, k0_pay10, k0_pay11]
  rfl

/-- The up-projection of the normalised row `t` of sequence `b`, at column `J`. -/
def UP (h : FVec Ideal S4x4096x1024 .f32) (nf : FVec Ideal S4x1024 .f32) (wu : FVec Ideal S4x1024x5632 .f32)
    (b : Fin 4) (t : Fin 4096) (J : Fin 5632) : EReal :=
  ∑ k : Fin 1024, RN (fun k => h (ix3 b t k)) k * nf (ix2 0 k) * wu (ix3 0 k J)

/-- The same `s` rows earlier, zero before the sequence begins. -/
def UPS (h : FVec Ideal S4x4096x1024 .f32) (nf : FVec Ideal S4x1024 .f32) (wu : FVec Ideal S4x1024x5632 .f32)
    (b : Fin 4) (s : ℕ) (t : Fin 4096) (J : Fin 5632) : EReal :=
  if hs : s ≤ t.val then UP h nf wu b ⟨t.val - s, Nat.lt_of_le_of_lt (Nat.sub_le _ _) t.isLt⟩ J else 0

theorem UPS_of (h : FVec Ideal S4x4096x1024 .f32) (nf : FVec Ideal S4x1024 .f32) (wu : FVec Ideal S4x1024x5632 .f32)
    (b : Fin 4) (s : ℕ) (t u : Fin 4096) (J : Fin 5632) (e : t.val = u.val + s) : UPS h nf wu b s t J = UP h nf wu b u J := by
  unfold UPS
  rw [dif_pos (by omega)]
  exact congrArg (fun q => UP h nf wu b q J) (Fin.ext (by show t.val - s = u.val; omega))

theorem UPS_zero (h : FVec Ideal S4x4096x1024 .f32) (nf : FVec Ideal S4x1024 .f32) (wu : FVec Ideal S4x1024x5632 .f32)
    (b : Fin 4) (s : ℕ) (t : Fin 4096) (J : Fin 5632) (e : t.val < s) : UPS h nf wu b s t J = 0 := by
  unfold UPS
  rw [dif_neg (by omega)]

theorem pay6 (x : FVec Ideal S1x512x1024 .f32) (g : FVec Ideal S1x1x1024 .f32) (w : FVec Ideal S1x1024x2816 .bf16) (r : Fin 512) (j : Fin 2816) :
    k0_pay8 (F := Ideal) x g w (ix2 r j) = ∑ k : Fin 1024, RN (fun k => x (ix3 0 r k)) k * g (ix3 0 0 k) * w (ix3 0 k j) := by
  pointwise [k0_pay8, k0_pay7, k0_pay6]
  rfl
theorem pay7 (x : FVec Ideal S1x512x1024 .f32) (g : FVec Ideal S1x1x1024 .f32) (w : FVec Ideal S1x1024x2816 .bf16) (r : Fin 512) (j : Fin 2816) :
    k0_pay9 (F := Ideal) x g w (ix2 r j) = ∑ k : Fin 1024, RN (fun k => x (ix3 0 r k)) k * g (ix3 0 0 k) * w (ix3 0 k j) := by
  pointwise [k0_pay9, k0_pay7, k0_pay6]
  rfl

abbrev UPM (c : Dev nD) := UP (m ((c : Thread nD τ).loc main_arg0)) (m ((c : Thread nD τ).loc main_arg1)) (m ((c : Thread nD τ).loc main_arg2))
abbrev UPSM (c : Dev nD) := UPS (m ((c : Thread nD τ).loc main_arg0)) (m ((c : Thread nD τ).loc main_arg1)) (m ((c : Thread nD τ).loc main_arg2))

theorem up6 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) :
    k0_pay8 (F := Ideal) (iblk m c 0 t) (iblk m c 1 t) (iblk m c 2 t) (ix2 r j) = UPM m c b R J := by
  refine (pay6 _ _ _ r j).trans ?_
  show _ = UP _ _ _ b R J
  unfold UP
  simp only [blk0 m c t r _ b R hb hR, blk1, blk2 m c t _ j J hJ]
theorem up7 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) :
    k0_pay9 (F := Ideal) (iblk m c 0 t) (iblk m c 1 t) (iblk m c 3 t) (ix2 r j) = UPM m c b R J := by
  refine (pay7 _ _ _ r j).trans ?_
  show _ = UP _ _ _ b R J
  unfold UP
  simp only [blk0 m c t r _ b R hb hR, blk1, blk3 m c t _ j J hJ]

/-- The box of the block's own rows in a scratch. -/
abbrev OWN : Rect S520x2816 := Rect.unit ![8, 0] ![512, 2816] inb_S520x2816_S512x2816_8_0
/-- The box of the rows kept from the block before. -/
abbrev KEPT : Rect S520x2816 := Rect.unit ![0, 0] ![8, 2816] inb_S520x2816_S8x2816_0_0

theorem emb_own (R : Fin 520) (r : Fin 512) (j : Fin 2816) (h : R.val = 8 + r.val) :
    OWN.emb (ix2 r j : (⟨2, ![512, 2816]⟩ : Shape).Idx) = (ix2 R j : S520x2816.Idx) := by
  blk_ext []
theorem emb_kept (R : Fin 520) (r : Fin 8) (j : Fin 2816) (h : R.val = r.val) :
    KEPT.emb (ix2 r j : (⟨2, ![8, 2816]⟩ : Shape).Idx) = (ix2 R j : S520x2816.Idx) := by
  blk_ext []

theorem canon_at {S : Shape} {e : EltTy} (r : Rect S) (w : r.shape.Idx → Elt Ideal e) (L : List (View.Piece (Elt Ideal) S e))
    (y : S.Idx) (x : r.shape.Idx) (h : r.emb x = y) : View.canon (Val := Elt Ideal) (⟨r, w⟩ :: L) y = w x := by
  subst h
  exact View.canon_cons_emb r w L x

end Cert.FfnL0Ideal.Hand

end
-- ==== Proof.FfnL0Taps.lean ====
module

public import proofs.«01_k».proof.Proof.Gen.FfnL0Ideal.Value
public import proofs.«01_k».proof.Proof.Gen.FfnL0RefIdeal.Read
public import Idealize.ShloMosaic.Lib.Pipeline.ValueKit
public import Idealize.ShloMosaic.Lib.WritesUnit
public import proofs.«01_k».proof.Proof.FfnL0Parts

@[expose] public section

set_option maxRecDepth 16384

noncomputable section

namespace Cert.FfnL0Ideal.Hand

open Cert.FfnL0Ideal Cert.FfnL0Ideal.Gen Idealize.ShloMosaic Idealize.ShloMosaic.TcCoe Idealize.SL.Sem
open Idealize.ShloMosaic.Pipeline (Dat)

variable (m : (ℓ : Loc nD τ sig) → Buf (Elt Ideal) ℓ)

theorem read_at {S : Shape} {e : EltTy} {sig : RefSig} {κ : Kind} {sp : Space} (v : View sig κ sp S e) (r : Rect S) (w : r.shape.Idx → Elt Ideal e)
    (L : List (View.Piece (Elt Ideal) S e)) (B : LoadRect S) (y : B.shape.Idx) (x : r.shape.Idx) (h : r.emb x = B.idx y) :
    v.readCov (Val := Elt Ideal) (⟨r, w⟩ :: L) B y = w x := by
  rw [View.readCov_eq_canon']
  exact canon_at r w L _ x h

theorem read_next {S : Shape} {e : EltTy} {sig : RefSig} {κ : Kind} {sp : Space} (v : View sig κ sp S e) (r r' : Rect S) (w : r.shape.Idx → Elt Ideal e)
    (w' : r'.shape.Idx → Elt Ideal e)
    (L : List (View.Piece (Elt Ideal) S e)) (B : LoadRect S) (y : B.shape.Idx) (x : r'.shape.Idx) (hn : B.idx y ∉ r.set) (h : r'.emb x = B.idx y) :
    v.readCov (Val := Elt Ideal) (⟨r, w⟩ :: ⟨r', w'⟩ :: L) B y = w' x := by
  rw [View.readCov_eq_canon']
  show View.canon _ (B.idx y) = _
  rw [View.canon_cons_of_not_mem _ _ hn]
  exact canon_at r' w' L _ x h

/-- The box of the rows saved for the next block. -/
abbrev SAVED : Rect S520x2816 := Rect.unit ![512, 0] ![8, 2816] inb_S520x2816_S8x2816_512_0
abbrev TAP6 : Rect S520x2816 := Rect.unit ![6, 0] ![512, 2816] inb_S520x2816_S512x2816_6_0
abbrev TAP7 : Rect S520x2816 := Rect.unit ![7, 0] ![512, 2816] inb_S520x2816_S512x2816_7_0

theorem emb_saved (r : Fin 8) (x : Fin 512) (j : Fin 2816) (h : x.val = 504 + r.val) :
    OWN.emb (ix2 x j : (⟨2, ![512, 2816]⟩ : Shape).Idx) = SAVED.emb (ix2 r j : (⟨2, ![8, 2816]⟩ : Shape).Idx) := by
  blk_ext []
theorem emb_6 (r x : Fin 512) (j : Fin 2816) (h : 8 + x.val = 6 + r.val) :
    OWN.emb (ix2 x j : (⟨2, ![512, 2816]⟩ : Shape).Idx) = TAP6.emb (ix2 r j : (⟨2, ![512, 2816]⟩ : Shape).Idx) := by
  blk_ext []
theorem emb_7 (r x : Fin 512) (j : Fin 2816) (h : 8 + x.val = 7 + r.val) :
    OWN.emb (ix2 x j : (⟨2, ![512, 2816]⟩ : Shape).Idx) = TAP7.emb (ix2 r j : (⟨2, ![512, 2816]⟩ : Shape).Idx) := by
  blk_ext []
theorem emb_6k (r : Fin 512) (x : Fin 8) (j : Fin 2816) (h : x.val = 6 + r.val) :
    KEPT.emb (ix2 x j : (⟨2, ![8, 2816]⟩ : Shape).Idx) = TAP6.emb (ix2 r j : (⟨2, ![512, 2816]⟩ : Shape).Idx) := by
  blk_ext []
theorem emb_7k (r : Fin 512) (x : Fin 8) (j : Fin 2816) (h : x.val = 7 + r.val) :
    KEPT.emb (ix2 x j : (⟨2, ![8, 2816]⟩ : Shape).Idx) = TAP7.emb (ix2 r j : (⟨2, ![512, 2816]⟩ : Shape).Idx) := by
  blk_ext []

theorem out_6 (r : Fin 512) (j : Fin 2816) (h : r.val < 2) : TAP6.emb (ix2 r j : (⟨2, ![512, 2816]⟩ : Shape).Idx) ∉ OWN.set := by
  rw [Rect.mem_set_unit]
  intro H
  have h0 : 8 ≤ 6 + 1 * r.val := (H 0).1
  omega
theorem out_7 (r : Fin 512) (j : Fin 2816) (h : r.val < 1) : TAP7.emb (ix2 r j : (⟨2, ![512, 2816]⟩ : Shape).Idx) ∉ OWN.set := by
  rw [Rect.mem_set_unit]
  intro H
  have h0 : 8 ≤ 7 + 1 * r.val := (H 0).1
  omega

theorem pay10 (z : FVec Ideal S8x2816 .f32) (r : Fin 8) (j : Fin 2816) : k0_pay1 (F := Ideal) z (ix2 r j) = z (ix2 r j) := by
  pointwise [k0_pay1]
theorem pay11 (z : FVec Ideal S8x2816 .f32) (r : Fin 8) (j : Fin 2816) : k0_pay2 (F := Ideal) z (ix2 r j) = z (ix2 r j) := by
  pointwise [k0_pay2]

/-- After any point the first rows of the gate's scratch hold the last rows of the block's up-projection. -/
theorem keep0 (c : Dev nD) (t : Fin cfg0.N) (R : Fin 520) (r : Fin 8) (j : Fin 2816) (b : Fin 4) (T : Fin 4096) (J : Fin 5632)
    (hR : R.val = r.val) (hb : b.val = t.val / 8) (hT : T.val = t.val % 8 * 512 + (504 + r.val)) (hJ : J.val = j.val) :
    (outsAt0 m c t.val t.isLt).2.1 (ix2 R j) = UPM m c b T J := by
  have hx : 504 + r.val < 512 := by omega
  by_cases h0 : t.val % 8 = 0
  · rw [outsAt0_A m c t h0]
    frame_out
    refine (canon_at KEPT _ _ _ (ix2 r j) (emb_kept R r j hR)).trans ((pay10 _ r j).trans ?_)
    refine (read_at _ OWN _ _ _ _ (ix2 ⟨504 + r.val, hx⟩ j) (emb_saved r ⟨504 + r.val, hx⟩ j rfl)).trans ?_
    exact up6 m c t ⟨504 + r.val, hx⟩ j b T J hb hT hJ
  · rw [outsAt0_B m c t h0]
    frame_out
    refine (canon_at KEPT _ _ _ (ix2 r j) (emb_kept R r j hR)).trans ((pay10 _ r j).trans ?_)
    refine (read_at _ OWN _ _ _ _ (ix2 ⟨504 + r.val, hx⟩ j) (emb_saved r ⟨504 + r.val, hx⟩ j rfl)).trans ?_
    exact up6 m c t ⟨504 + r.val, hx⟩ j b T J hb hT hJ

/-- The same for the value's scratch. -/
theorem keep1 (c : Dev nD) (t : Fin cfg0.N) (R : Fin 520) (r : Fin 8) (j : Fin 2816) (b : Fin 4) (T : Fin 4096) (J : Fin 5632)
    (hR : R.val = r.val) (hb : b.val = t.val / 8) (hT : T.val = t.val % 8 * 512 + (504 + r.val)) (hJ : J.val = 2816 + j.val) :
    (outsAt0 m c t.val t.isLt).2.2 (ix2 R j) = UPM m c b T J := by
  have hx : 504 + r.val < 512 := by omega
  by_cases h0 : t.val % 8 = 0
  · rw [outsAt0_A m c t h0]
    frame_out
    refine (canon_at KEPT _ _ _ (ix2 r j) (emb_kept R r j hR)).trans ((pay11 _ r j).trans ?_)
    refine (read_at _ OWN _ _ _ _ (ix2 ⟨504 + r.val, hx⟩ j) (emb_saved r ⟨504 + r.val, hx⟩ j rfl)).trans ?_
    exact up7 m c t ⟨504 + r.val, hx⟩ j b T J hb hT hJ
  · rw [outsAt0_B m c t h0]
    frame_out
    refine (canon_at KEPT _ _ _ (ix2 r j) (emb_kept R r j hR)).trans ((pay11 _ r j).trans ?_)
    refine (read_at _ OWN _ _ _ _ (ix2 ⟨504 + r.val, hx⟩ j) (emb_saved r ⟨504 + r.val, hx⟩ j rfl)).trans ?_
    exact up7 m c t ⟨504 + r.val, hx⟩ j b T J hb hT hJ

theorem held_at {S : Shape} {e : EltTy} {sig : RefSig} {κ : Kind} {sp : Space} (v : View sig κ sp S e) (f : v.ty.Contents (Elt Ideal)) (r B : Rect S)
    (w : r.shape.Idx → Elt Ideal e) (L : List (View.Piece (Elt Ideal) S e)) (y : B.shape.Idx) (x : r.shape.Idx) (h : r.emb x = B.emb y) :
    View.ld (v.read (Elt Ideal) (v.writes (Elt Ideal) f (⟨r, w⟩ :: L))) B y = w x := by
  show v.read (Elt Ideal) (v.writes (Elt Ideal) f (⟨r, w⟩ :: L)) (B.emb y) = w x
  rw [← h]
  exact View.read_writes_cons_emb v f r w L x

theorem held_out {S : Shape} {e : EltTy} {sig : RefSig} {κ : Kind} {sp : Space} (v : View sig κ sp S e) (f : v.ty.Contents (Elt Ideal)) (r B : Rect S)
    (w : r.shape.Idx → Elt Ideal e) (y : B.shape.Idx) (X : S.Idx → Elt Ideal e) (hf : v.read (Elt Ideal) f = X) (h : B.emb y ∉ r.set) :
    View.ld (v.read (Elt Ideal) (v.writes (Elt Ideal) f [⟨r, w⟩])) B y = X (B.emb y) := by
  have hy : B.emb y ∉ Finset.univ.map r.emb := by rwa [Rect.map_emb_univ]
  show v.read (Elt Ideal) (v.writes (Elt Ideal) f [⟨r, w⟩]) (B.emb y) = _
  rw [View.writes_cons, View.read_slice_write_of_not_mem r _ _ _ hy, View.writes_nil, hf]

theorem row_6 (r : Fin 512) (x : Fin 520) (j : Fin 2816) (h : x.val = 6 + r.val) :
    TAP6.emb (ix2 r j : (⟨2, ![512, 2816]⟩ : Shape).Idx) = (ix2 x j : S520x2816.Idx) := by
  blk_ext []
theorem row_7 (r : Fin 512) (x : Fin 520) (j : Fin 2816) (h : x.val = 7 + r.val) :
    TAP7.emb (ix2 r j : (⟨2, ![512, 2816]⟩ : Shape).Idx) = (ix2 x j : S520x2816.Idx) := by
  blk_ext []

theorem fill2 (r : Fin 8) (j : Fin 2816) : k0_pay4 (F := Ideal) (ix2 r j) = 0 := by
  pointwise [k0_pay4]
theorem fill3 (r : Fin 8) (j : Fin 2816) : k0_pay5 (F := Ideal) (ix2 r j) = 0 := by
  pointwise [k0_pay5]

/-- The gate's rows 1 earlier at the first block of a sequence. -/
theorem gate_first1 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) (h0 : t.val % 8 = 0) :
    (View.whole cc0_scratch0).readCov (Val := Elt Ideal) [⟨OWN, k0_pay8 (F := Ideal) (iblk m c 0 t) (iblk m c 1 t) (iblk m c 2 t)⟩, ⟨KEPT, k0_pay4 (F := Ideal)⟩] TAP7.toLoadRect (ix2 r j) = UPSM m c b 1 R J := by
  by_cases h : r.val < 1
  · have hx : 7 + r.val < 8 := by omega
    refine (read_next _ OWN KEPT _ _ _ _ _ (ix2 ⟨7 + r.val, hx⟩ j) (out_7 r j h) (emb_7k r ⟨7 + r.val, hx⟩ j rfl)).trans ?_
    exact (fill2 _ j).trans (UPS_zero _ _ _ b 1 R J (by omega)).symm
  · have hx : r.val - 1 < 512 := by omega
    have hR' : R.val - 1 < 4096 := by omega
    refine (read_at _ OWN _ _ _ _ (ix2 ⟨r.val - 1, hx⟩ j) (emb_7 r ⟨r.val - 1, hx⟩ j (by show 8 + (r.val - 1) = 7 + r.val; omega))).trans ?_
    refine (up6 m c t ⟨r.val - 1, hx⟩ j b ⟨R.val - 1, hR'⟩ J hb (by show R.val - 1 = t.val % 8 * 512 + (r.val - 1); omega) hJ).trans ?_
    exact (UPS_of _ _ _ b 1 R ⟨R.val - 1, hR'⟩ J (by show R.val = R.val - 1 + 1; omega)).symm

/-- The gate's rows 1 earlier at a later block. -/
theorem gate_later1 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) (h0 : ¬ t.val % 8 = 0) (f : (View.whole cc0_scratch0).ty.Contents (Elt Ideal))
    (hf : (View.whole cc0_scratch0).read (Elt Ideal) f = (outsAt0 m c (t.val - 1) (Nat.lt_of_le_of_lt (Nat.sub_le _ _) t.isLt)).2.1) :
    View.ld ((View.whole cc0_scratch0).read (Elt Ideal) ((View.whole cc0_scratch0).writes (Elt Ideal) f [⟨OWN, k0_pay8 (F := Ideal) (iblk m c 0 t) (iblk m c 1 t) (iblk m c 2 t)⟩])) TAP7 (ix2 r j) = UPSM m c b 1 R J := by
  have hR' : R.val - 1 < 4096 := by omega
  refine Eq.trans ?_ (UPS_of _ _ _ b 1 R ⟨R.val - 1, hR'⟩ J (by show R.val = R.val - 1 + 1; omega)).symm
  by_cases h : r.val < 1
  · have hx : 7 + r.val < 520 := by omega
    have hy : 7 + r.val < 8 := by omega
    refine (held_out _ f OWN TAP7 _ _ _ hf (out_7 r j h)).trans ?_
    refine (congrArg _ (row_7 r ⟨7 + r.val, hx⟩ j rfl)).trans ?_
    exact keep0 m c ⟨t.val - 1, Nat.lt_of_le_of_lt (Nat.sub_le _ _) t.isLt⟩ ⟨7 + r.val, hx⟩ ⟨7 + r.val, hy⟩ j b ⟨R.val - 1, hR'⟩ J rfl
      (by show b.val = (t.val - 1) / 8; omega) (by show R.val - 1 = (t.val - 1) % 8 * 512 + (504 + (7 + r.val)); omega) hJ
  · have hx : r.val - 1 < 512 := by omega
    refine (held_at _ f OWN TAP7 _ _ _ (ix2 ⟨r.val - 1, hx⟩ j) (emb_7 r ⟨r.val - 1, hx⟩ j (by show 8 + (r.val - 1) = 7 + r.val; omega))).trans ?_
    exact up6 m c t ⟨r.val - 1, hx⟩ j b ⟨R.val - 1, hR'⟩ J hb (by show R.val - 1 = t.val % 8 * 512 + (r.val - 1); omega) hJ

/-- The gate's rows 2 earlier at the first block of a sequence. -/
theorem gate_first2 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) (h0 : t.val % 8 = 0) :
    (View.whole cc0_scratch0).readCov (Val := Elt Ideal) [⟨OWN, k0_pay8 (F := Ideal) (iblk m c 0 t) (iblk m c 1 t) (iblk m c 2 t)⟩, ⟨KEPT, k0_pay4 (F := Ideal)⟩] TAP6.toLoadRect (ix2 r j) = UPSM m c b 2 R J := by
  by_cases h : r.val < 2
  · have hx : 6 + r.val < 8 := by omega
    refine (read_next _ OWN KEPT _ _ _ _ _ (ix2 ⟨6 + r.val, hx⟩ j) (out_6 r j h) (emb_6k r ⟨6 + r.val, hx⟩ j rfl)).trans ?_
    exact (fill2 _ j).trans (UPS_zero _ _ _ b 2 R J (by omega)).symm
  · have hx : r.val - 2 < 512 := by omega
    have hR' : R.val - 2 < 4096 := by omega
    refine (read_at _ OWN _ _ _ _ (ix2 ⟨r.val - 2, hx⟩ j) (emb_6 r ⟨r.val - 2, hx⟩ j (by show 8 + (r.val - 2) = 6 + r.val; omega))).trans ?_
    refine (up6 m c t ⟨r.val - 2, hx⟩ j b ⟨R.val - 2, hR'⟩ J hb (by show R.val - 2 = t.val % 8 * 512 + (r.val - 2); omega) hJ).trans ?_
    exact (UPS_of _ _ _ b 2 R ⟨R.val - 2, hR'⟩ J (by show R.val = R.val - 2 + 2; omega)).symm

/-- The gate's rows 2 earlier at a later block. -/
theorem gate_later2 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) (h0 : ¬ t.val % 8 = 0) (f : (View.whole cc0_scratch0).ty.Contents (Elt Ideal))
    (hf : (View.whole cc0_scratch0).read (Elt Ideal) f = (outsAt0 m c (t.val - 1) (Nat.lt_of_le_of_lt (Nat.sub_le _ _) t.isLt)).2.1) :
    View.ld ((View.whole cc0_scratch0).read (Elt Ideal) ((View.whole cc0_scratch0).writes (Elt Ideal) f [⟨OWN, k0_pay8 (F := Ideal) (iblk m c 0 t) (iblk m c 1 t) (iblk m c 2 t)⟩])) TAP6 (ix2 r j) = UPSM m c b 2 R J := by
  have hR' : R.val - 2 < 4096 := by omega
  refine Eq.trans ?_ (UPS_of _ _ _ b 2 R ⟨R.val - 2, hR'⟩ J (by show R.val = R.val - 2 + 2; omega)).symm
  by_cases h : r.val < 2
  · have hx : 6 + r.val < 520 := by omega
    have hy : 6 + r.val < 8 := by omega
    refine (held_out _ f OWN TAP6 _ _ _ hf (out_6 r j h)).trans ?_
    refine (congrArg _ (row_6 r ⟨6 + r.val, hx⟩ j rfl)).trans ?_
    exact keep0 m c ⟨t.val - 1, Nat.lt_of_le_of_lt (Nat.sub_le _ _) t.isLt⟩ ⟨6 + r.val, hx⟩ ⟨6 + r.val, hy⟩ j b ⟨R.val - 2, hR'⟩ J rfl
      (by show b.val = (t.val - 1) / 8; omega) (by show R.val - 2 = (t.val - 1) % 8 * 512 + (504 + (6 + r.val)); omega) hJ
  · have hx : r.val - 2 < 512 := by omega
    refine (held_at _ f OWN TAP6 _ _ _ (ix2 ⟨r.val - 2, hx⟩ j) (emb_6 r ⟨r.val - 2, hx⟩ j (by show 8 + (r.val - 2) = 6 + r.val; omega))).trans ?_
    exact up6 m c t ⟨r.val - 2, hx⟩ j b ⟨R.val - 2, hR'⟩ J hb (by show R.val - 2 = t.val % 8 * 512 + (r.val - 2); omega) hJ

/-- The value's rows 1 earlier at the first block of a sequence. -/
theorem value_first1 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) (h0 : t.val % 8 = 0) :
    (View.whole cc0_scratch1).readCov (Val := Elt Ideal) [⟨OWN, k0_pay9 (F := Ideal) (iblk m c 0 t) (iblk m c 1 t) (iblk m c 3 t)⟩, ⟨KEPT, k0_pay5 (F := Ideal)⟩] TAP7.toLoadRect (ix2 r j) = UPSM m c b 1 R J := by
  by_cases h : r.val < 1
  · have hx : 7 + r.val < 8 := by omega
    refine (read_next _ OWN KEPT _ _ _ _ _ (ix2 ⟨7 + r.val, hx⟩ j) (out_7 r j h) (emb_7k r ⟨7 + r.val, hx⟩ j rfl)).trans ?_
    exact (fill3 _ j).trans (UPS_zero _ _ _ b 1 R J (by omega)).symm
  · have hx : r.val - 1 < 512 := by omega
    have hR' : R.val - 1 < 4096 := by omega
    refine (read_at _ OWN _ _ _ _ (ix2 ⟨r.val - 1, hx⟩ j) (emb_7 r ⟨r.val - 1, hx⟩ j (by show 8 + (r.val - 1) = 7 + r.val; omega))).trans ?_
    refine (up7 m c t ⟨r.val - 1, hx⟩ j b ⟨R.val - 1, hR'⟩ J hb (by show R.val - 1 = t.val % 8 * 512 + (r.val - 1); omega) hJ).trans ?_
    exact (UPS_of _ _ _ b 1 R ⟨R.val - 1, hR'⟩ J (by show R.val = R.val - 1 + 1; omega)).symm

/-- The value's rows 1 earlier at a later block. -/
theorem value_later1 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) (h0 : ¬ t.val % 8 = 0) (f : (View.whole cc0_scratch1).ty.Contents (Elt Ideal))
    (hf : (View.whole cc0_scratch1).read (Elt Ideal) f = (outsAt0 m c (t.val - 1) (Nat.lt_of_le_of_lt (Nat.sub_le _ _) t.isLt)).2.2) :
    View.ld ((View.whole cc0_scratch1).read (Elt Ideal) ((View.whole cc0_scratch1).writes (Elt Ideal) f [⟨OWN, k0_pay9 (F := Ideal) (iblk m c 0 t) (iblk m c 1 t) (iblk m c 3 t)⟩])) TAP7 (ix2 r j) = UPSM m c b 1 R J := by
  have hR' : R.val - 1 < 4096 := by omega
  refine Eq.trans ?_ (UPS_of _ _ _ b 1 R ⟨R.val - 1, hR'⟩ J (by show R.val = R.val - 1 + 1; omega)).symm
  by_cases h : r.val < 1
  · have hx : 7 + r.val < 520 := by omega
    have hy : 7 + r.val < 8 := by omega
    refine (held_out _ f OWN TAP7 _ _ _ hf (out_7 r j h)).trans ?_
    refine (congrArg _ (row_7 r ⟨7 + r.val, hx⟩ j rfl)).trans ?_
    exact keep1 m c ⟨t.val - 1, Nat.lt_of_le_of_lt (Nat.sub_le _ _) t.isLt⟩ ⟨7 + r.val, hx⟩ ⟨7 + r.val, hy⟩ j b ⟨R.val - 1, hR'⟩ J rfl
      (by show b.val = (t.val - 1) / 8; omega) (by show R.val - 1 = (t.val - 1) % 8 * 512 + (504 + (7 + r.val)); omega) hJ
  · have hx : r.val - 1 < 512 := by omega
    refine (held_at _ f OWN TAP7 _ _ _ (ix2 ⟨r.val - 1, hx⟩ j) (emb_7 r ⟨r.val - 1, hx⟩ j (by show 8 + (r.val - 1) = 7 + r.val; omega))).trans ?_
    exact up7 m c t ⟨r.val - 1, hx⟩ j b ⟨R.val - 1, hR'⟩ J hb (by show R.val - 1 = t.val % 8 * 512 + (r.val - 1); omega) hJ

/-- The value's rows 2 earlier at the first block of a sequence. -/
theorem value_first2 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) (h0 : t.val % 8 = 0) :
    (View.whole cc0_scratch1).readCov (Val := Elt Ideal) [⟨OWN, k0_pay9 (F := Ideal) (iblk m c 0 t) (iblk m c 1 t) (iblk m c 3 t)⟩, ⟨KEPT, k0_pay5 (F := Ideal)⟩] TAP6.toLoadRect (ix2 r j) = UPSM m c b 2 R J := by
  by_cases h : r.val < 2
  · have hx : 6 + r.val < 8 := by omega
    refine (read_next _ OWN KEPT _ _ _ _ _ (ix2 ⟨6 + r.val, hx⟩ j) (out_6 r j h) (emb_6k r ⟨6 + r.val, hx⟩ j rfl)).trans ?_
    exact (fill3 _ j).trans (UPS_zero _ _ _ b 2 R J (by omega)).symm
  · have hx : r.val - 2 < 512 := by omega
    have hR' : R.val - 2 < 4096 := by omega
    refine (read_at _ OWN _ _ _ _ (ix2 ⟨r.val - 2, hx⟩ j) (emb_6 r ⟨r.val - 2, hx⟩ j (by show 8 + (r.val - 2) = 6 + r.val; omega))).trans ?_
    refine (up7 m c t ⟨r.val - 2, hx⟩ j b ⟨R.val - 2, hR'⟩ J hb (by show R.val - 2 = t.val % 8 * 512 + (r.val - 2); omega) hJ).trans ?_
    exact (UPS_of _ _ _ b 2 R ⟨R.val - 2, hR'⟩ J (by show R.val = R.val - 2 + 2; omega)).symm

/-- The value's rows 2 earlier at a later block. -/
theorem value_later2 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) (h0 : ¬ t.val % 8 = 0) (f : (View.whole cc0_scratch1).ty.Contents (Elt Ideal))
    (hf : (View.whole cc0_scratch1).read (Elt Ideal) f = (outsAt0 m c (t.val - 1) (Nat.lt_of_le_of_lt (Nat.sub_le _ _) t.isLt)).2.2) :
    View.ld ((View.whole cc0_scratch1).read (Elt Ideal) ((View.whole cc0_scratch1).writes (Elt Ideal) f [⟨OWN, k0_pay9 (F := Ideal) (iblk m c 0 t) (iblk m c 1 t) (iblk m c 3 t)⟩])) TAP6 (ix2 r j) = UPSM m c b 2 R J := by
  have hR' : R.val - 2 < 4096 := by omega
  refine Eq.trans ?_ (UPS_of _ _ _ b 2 R ⟨R.val - 2, hR'⟩ J (by show R.val = R.val - 2 + 2; omega)).symm
  by_cases h : r.val < 2
  · have hx : 6 + r.val < 520 := by omega
    have hy : 6 + r.val < 8 := by omega
    refine (held_out _ f OWN TAP6 _ _ _ hf (out_6 r j h)).trans ?_
    refine (congrArg _ (row_6 r ⟨6 + r.val, hx⟩ j rfl)).trans ?_
    exact keep1 m c ⟨t.val - 1, Nat.lt_of_le_of_lt (Nat.sub_le _ _) t.isLt⟩ ⟨6 + r.val, hx⟩ ⟨6 + r.val, hy⟩ j b ⟨R.val - 2, hR'⟩ J rfl
      (by show b.val = (t.val - 1) / 8; omega) (by show R.val - 2 = (t.val - 1) % 8 * 512 + (504 + (6 + r.val)); omega) hJ
  · have hx : r.val - 2 < 512 := by omega
    refine (held_at _ f OWN TAP6 _ _ _ (ix2 ⟨r.val - 2, hx⟩ j) (emb_6 r ⟨r.val - 2, hx⟩ j (by show 8 + (r.val - 2) = 6 + r.val; omega))).trans ?_
    exact up7 m c t ⟨r.val - 2, hx⟩ j b ⟨R.val - 2, hR'⟩ J hb (by show R.val - 2 = t.val % 8 * 512 + (r.val - 2); omega) hJ

end Cert.FfnL0Ideal.Hand

end
-- ==== Proof.FfnL0Kernel.lean ====
module

public import proofs.«01_k».proof.Proof.Gen.FfnL0Ideal.Value
public import proofs.«01_k».proof.Proof.Gen.FfnL0RefIdeal.Read
public import Idealize.ShloMosaic.Lib.Pipeline.ValueKit
public import Idealize.ShloMosaic.Lib.WritesUnit
public import proofs.«01_k».proof.Proof.FfnL0Taps

@[expose] public section

set_option maxRecDepth 16384

noncomputable section

namespace Cert.FfnL0Ideal.Hand

open Cert.FfnL0Ideal Cert.FfnL0Ideal.Gen Idealize.ShloMosaic Idealize.ShloMosaic.TcCoe Idealize.SL.Sem
open Idealize.ShloMosaic.Pipeline (Dat)

variable (m : (ℓ : Loc nD τ sig) → Buf (Elt Ideal) ℓ)

theorem ld_zero (X : FVec Ideal S1x3x2816 .f32) (j : Fin 2816) :
    View.ld (Val := Elt Ideal) (e' := .f32) X (Rect.unit ![0, 0, 0] ![1, 1, 2816] inb_S1x3x2816_S1x1x2816_0_0_0) (ix3 0 0 j) = X (ix3 0 0 j) :=
  congrArg X (funext fun a => Fin.ext (match a with
    | ⟨0, _⟩ => rfl
    | ⟨1, _⟩ => rfl
    | ⟨2, _⟩ => show 0 + 1 * j.val = j.val by omega))

theorem ld_one (X : FVec Ideal S1x3x2816 .f32) (j : Fin 2816) :
    View.ld (Val := Elt Ideal) (e' := .f32) X (Rect.unit ![0, 1, 0] ![1, 1, 2816] inb_S1x3x2816_S1x1x2816_0_1_0) (ix3 0 0 j) = X (ix3 0 1 j) :=
  congrArg X (funext fun a => Fin.ext (match a with
    | ⟨0, _⟩ => rfl
    | ⟨1, _⟩ => rfl
    | ⟨2, _⟩ => show 0 + 1 * j.val = j.val by omega))

theorem ld_two (X : FVec Ideal S1x3x2816 .f32) (j : Fin 2816) :
    View.ld (Val := Elt Ideal) (e' := .f32) X (Rect.unit ![0, 2, 0] ![1, 1, 2816] inb_S1x3x2816_S1x1x2816_0_2_0) (ix3 0 0 j) = X (ix3 0 2 j) :=
  congrArg X (funext fun a => Fin.ext (match a with
    | ⟨0, _⟩ => rfl
    | ⟨1, _⟩ => rfl
    | ⟨2, _⟩ => show 0 + 1 * j.val = j.val by omega))

/-- The convolved up-projection of row `t` of sequence `b` at column `J`. -/
def CV (h : FVec Ideal S4x4096x1024 .f32) (nf : FVec Ideal S4x1024 .f32) (wu : FVec Ideal S4x1024x5632 .f32)
    (cw : FVec Ideal S4x3x5632 .f32) (cb : FVec Ideal S4x5632 .f32) (b : Fin 4) (t : Fin 4096) (J : Fin 5632) : EReal :=
  TAPS (cb (ix2 0 J)) (cw (ix3 0 0 J)) (UPS h nf wu b 2 t J) (cw (ix3 0 1 J)) (UPS h nf wu b 1 t J) (cw (ix3 0 2 J)) (UP h nf wu b t J)

/-- The layer's output row. -/
def RES (h : FVec Ideal S4x4096x1024 .f32) (nf : FVec Ideal S4x1024 .f32) (wu : FVec Ideal S4x1024x5632 .f32)
    (cw : FVec Ideal S4x3x5632 .f32) (cb : FVec Ideal S4x5632 .f32) (wd : FVec Ideal S4x2816x1024 .f32) (b : Fin 4) (t : Fin 4096) (n : Fin 1024) : EReal :=
  h (ix3 b t n) + ∑ j : Fin 2816, GATE (CV h nf wu cw cb b t ⟨j.val, by omega⟩) (CV h nf wu cw cb b t ⟨2816 + j.val, by omega⟩) * wd (ix3 0 j n)

/-- The whole output. -/
def GA (h : FVec Ideal S4x4096x1024 .f32) (nf : FVec Ideal S4x1024 .f32) (wu : FVec Ideal S4x1024x5632 .f32)
    (cw : FVec Ideal S4x3x5632 .f32) (cb : FVec Ideal S4x5632 .f32) (wd : FVec Ideal S4x2816x1024 .f32) (nl : FVec Ideal S1024 .f32) :
    FVec Ideal S4x4096x1024 .f32 := fun i => RES h nf wu cw cb wd (i 0) (i 1) (i 2)

theorem taps_congr {b b' c0 c0' g0 g0' c1 c1' g1 g1' c2 c2' g2 g2' : EReal} (hb : b = b') (h0 : c0 = c0') (k0 : g0 = g0') (h1 : c1 = c1')
    (k1 : g1 = g1') (h2 : c2 = c2') (k2 : g2 = g2') : TAPS b c0 g0 c1 g1 c2 g2 = TAPS b' c0' g0' c1' g1' c2' g2' := by
  rw [hb, h0, k0, h1, k1, h2, k2]

theorem point (c : Dev nD) (t : Fin cfg0.N) (r : Fin 512) (n : Fin 1024) (b : Fin 4) (R : Fin 4096)
    (hb : b.val = t.val / 8) (hR : R.val = t.val % 8 * 512 + r.val) :
    (outsAt0 m c t.val t.isLt).1 (ix3 0 r n) = RES (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b R n := by
  by_cases h0 : t.val % 8 = 0
  · rw [outsAt0_A m c t h0]
    frame_out
    refine (pay _ _ _ _ _ _ _ _ _ _ _ _ _ _ _ _ r n).trans ?_
    refine congrArg₂ (· + ·) (blk0 m c t r n b R hb hR)
      (Finset.sum_congr rfl fun j _ => congrArg₂ (· * ·) (congrArg₂ GATE ?_ ?_) (blk8 m c t j n))
    · refine taps_congr (blk6 m c t j _ rfl) ((ld_zero _ j).trans (blk4 m c t 0 j _ rfl)) (gate_first2 m c t r j b R _ hb hR rfl h0) ((ld_one _ j).trans (blk4 m c t 1 j _ rfl))
        (gate_first1 m c t r j b R _ hb hR rfl h0) ((ld_two _ j).trans (blk4 m c t 2 j _ rfl)) ?_
      exact (read_at _ OWN _ _ _ _ (ix2 r j) rfl).trans (up6 m c t r j b R _ hb hR rfl)
    · refine taps_congr (blk7 m c t j _ rfl) ((ld_zero _ j).trans (blk5 m c t 0 j _ rfl)) (value_first2 m c t r j b R _ hb hR rfl h0) ((ld_one _ j).trans (blk5 m c t 1 j _ rfl))
        (value_first1 m c t r j b R _ hb hR rfl h0) ((ld_two _ j).trans (blk5 m c t 2 j _ rfl)) ?_
      exact (read_at _ OWN _ _ _ _ (ix2 r j) rfl).trans (up7 m c t r j b R _ hb hR rfl)
  · rw [outsAt0_B m c t h0]
    frame_out
    refine (pay _ _ _ _ _ _ _ _ _ _ _ _ _ _ _ _ r n).trans ?_
    refine congrArg₂ (· + ·) (blk0 m c t r n b R hb hR)
      (Finset.sum_congr rfl fun j _ => congrArg₂ (· * ·) (congrArg₂ GATE ?_ ?_) (blk8 m c t j n))
    · refine taps_congr (blk6 m c t j _ rfl) ((ld_zero _ j).trans (blk4 m c t 0 j _ rfl)) (gate_later2 m c t r j b R _ hb hR rfl h0 _ ((Memref.isWhole_whole _ : scM0_0.IsWhole).read_unread _)) ((ld_one _ j).trans (blk4 m c t 1 j _ rfl))
        (gate_later1 m c t r j b R _ hb hR rfl h0 _ ((Memref.isWhole_whole _ : scM0_0.IsWhole).read_unread _)) ((ld_two _ j).trans (blk4 m c t 2 j _ rfl)) ?_
      exact (read_at _ OWN _ _ _ _ (ix2 r j) rfl).trans (up6 m c t r j b R _ hb hR rfl)
    · refine taps_congr (blk7 m c t j _ rfl) ((ld_zero _ j).trans (blk5 m c t 0 j _ rfl)) (value_later2 m c t r j b R _ hb hR rfl h0 _ ((Memref.isWhole_whole _ : scM0_1.IsWhole).read_unread _)) ((ld_one _ j).trans (blk5 m c t 1 j _ rfl))
        (value_later1 m c t r j b R _ hb hR rfl h0 _ ((Memref.isWhole_whole _ : scM0_1.IsWhole).read_unread _)) ((ld_two _ j).trans (blk5 m c t 2 j _ rfl)) ?_
      exact (read_at _ OWN _ _ _ _ (ix2 r j) rfl).trans (up7 m c t r j b R _ hb hR rfl)

theorem emb10 (t : Fin cfg0.N) (r : Fin 512) (n : Fin 1024) (b : Fin 4) (R : Fin 4096) (hb : b.val = t.val / 8) (hR : R.val = t.val % 8 * 512 + r.val) :
    (win0_10.blk t).view.emb (ix3 0 r n) = ix3 b R n := by
  blk_ext [idx0 t]

theorem final (c : Dev nD) : (dats m 0 c).arrAt 10 cfg0.N = GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10]
  idx_vars y
  have ht : t.val < 32 := t.isLt
  obtain ⟨b, hb⟩ : ∃ b : Fin 4, b.val = t.val / 8 := ⟨⟨t.val / 8, by omega⟩, rfl⟩
  obtain ⟨R, hR⟩ : ∃ R : Fin 4096, R.val = t.val % 8 * 512 + y1.val := ⟨⟨t.val % 8 * 512 + y1.val, by omega⟩, rfl⟩
  have e0 : y0 = 0 := by omega
  subst e0
  refine Eq.trans ?_ (congrArg (GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (emb10 t y1 y2 b R hb hR).symm)
  exact point m c t y1 y2 b R hb hR

end Cert.FfnL0Ideal.Hand

end
-- ==== Proof.FfnL0Reference.lean ====
module

public import proofs.«01_k».proof.Proof.FfnL0Kernel
public import proofs.«01_k».proof.Proof.Gen.FfnL0RefIdeal.Read
public import Idealize.ShloMosaic.Lib.Pipeline.ValueKit

@[expose] public section

set_option maxRecDepth 16384

noncomputable section

namespace Cert.FfnL0RefIdeal.Hand

open Cert.FfnL0RefIdeal Cert.FfnL0RefIdeal.Gen Idealize.ShloMosaic Idealize.ShloMosaic.TcCoe Idealize.SL.Sem

open Cert.FfnL0RefIdeal.Read

open Cert.FfnL0Ideal.Hand (RN UP UPS UPS_of CV RES GA TAPS GATE)

/-- The up-projection of the normalised row. -/
theorem up_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (b : Fin 4) (t : Fin 4096) (J : Fin 5632) :
    val_main_v17 (F := Ideal) x0 x1 x2 (ix3 b t J) = UP x0 x1 x2 b t J := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold UP RN
  rfl

/-- The padded up-projection, two rows later. -/
theorem pad_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (b : Fin 4) (t : Fin 4096) (s : ℕ) (hs : s ≤ 2) (u : Fin 4098) (hu : u.val + s = t.val + 2) (J : Fin 5632) :
    val_main_v20 (F := Ideal) x0 x1 x2 (ix3 b u J) = UPS x0 x1 x2 b s t J := by
  pointwise [val_main_v20, val_main_call0_v0, val_main_c]
  unfold UPS
  by_cases h : s ≤ t.val
  · rw [dif_pos h, dif_pos ⟨by omega, by omega⟩, up_apply]
    exact congrArg (fun v => UP x0 x1 x2 b v J) (Fin.ext (show u.val - 2 = t.val - s by omega))
  · rw [dif_neg h, dif_neg (by omega)]
    show (((0#32).toInt : ℝ) : EReal) = 0
    simp

/-- The convolution's column. -/
theorem conv_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x3x5632, .f32⟩ : BufTy).Contents (Elt Ideal)) (x4 : (⟨S4x5632, .f32⟩ : BufTy).Contents (Elt Ideal)) (b : Fin 4) (t : Fin 4096) (J : Fin 5632) :
    val_main_v45 (F := Ideal) x0 x1 x2 x3 x4 (ix3 b t J) = CV x0 x1 x2 x3 x4 b t J := by
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v19, val_main_v18]
  rw [pad_apply x0 x1 x2 b t 2 (by omega) _ rfl J, pad_apply x0 x1 x2 b t 1 (by omega) _ (show 1 + t.val + 1 = t.val + 2 by omega) J,
    pad_apply x0 x1 x2 b t 0 (by omega) _ (show 2 + t.val + 0 = t.val + 2 by omega) J, UPS_of x0 x1 x2 b 0 t t J rfl]
  unfold CV TAPS
  rw [add_comm _ (x4 (ix2 0 J)), ← add_assoc, ← add_assoc]

/-- The layer's output row. -/
theorem res_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x3x5632, .f32⟩ : BufTy).Contents (Elt Ideal)) (x4 : (⟨S4x5632, .f32⟩ : BufTy).Contents (Elt Ideal)) (x5 : (⟨S4x2816x1024, .f32⟩ : BufTy).Contents (Elt Ideal)) (b : Fin 4) (t : Fin 4096) (n : Fin 1024) :
    val_main_v59 (F := Ideal) x0 x1 x2 x3 x4 x5 (ix3 b t n) = RES x0 x1 x2 x3 x4 x5 b t n := by
  pointwise [val_main_v59, val_main_v58, val_main_v57, val_main_v56, val_main_v55, val_main_v54, val_main_v53, val_main_v52, val_main_v51, val_main_v50, val_main_v49, val_main_v48, val_main_v47, val_main_v46, val_main_cst_2, val_main_cst_3]
  refine congrArg₂ (· + ·) rfl (Finset.sum_congr rfl fun x _ => congrArg₂ (· * ·) ?_ rfl)
  rw [conv_apply, conv_apply]
  exact congrArg₂ (· * ·) (congrArg₂ (· * ·) rfl (Ideal.logistic_def _).symm) rfl

theorem ref_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x3x5632, .f32⟩ : BufTy).Contents (Elt Ideal)) (x4 : (⟨S4x5632, .f32⟩ : BufTy).Contents (Elt Ideal)) (x5 : (⟨S4x2816x1024, .f32⟩ : BufTy).Contents (Elt Ideal)) (x6 : (⟨S1024, .f32⟩ : BufTy).Contents (Elt Ideal)) (i : S4x4096x1024.Idx) :
    GA x0 x1 x2 x3 x4 x5 x6 i = val_main_v59 (F := Ideal) x0 x1 x2 x3 x4 x5 i := by
  idx_vars i
  exact (res_apply x0 x1 x2 x3 x4 x5 i0 i1 i2).symm

end Cert.FfnL0RefIdeal.Hand

end
-- ==== Proof.FfnL0Claims.lean ====
module

public import proofs.«01_k».proof.Defs
public import proofs.«01_k».proof.Proof.Gen.FfnL0.Frame
public import proofs.«01_k».proof.Proof.FfnL0Kernel
public import proofs.«01_k».proof.Proof.FfnL0Reference
public import Idealize.ShloMosaic.Lib.Claim

@[expose] public section

set_option maxRecDepth 16384

noncomputable section

namespace Cert.FfnL0.Hand

open Idealize.ShloMosaic Idealize.ShloMosaic.TcCoe Idealize.SL.Sem

theorem frame_kernel : Cert.quiescent_FfnL0 := fun m ρ _ => Cert.FfnL0.Gen.frame m ρ
theorem frame_ideal : Cert.quiescent_FfnL0Ideal := fun m ρ _ => Cert.FfnL0Ideal.Gen.frame m ρ
theorem frame_refideal : Cert.quiescent_FfnL0RefIdeal := fun m ρ _ =>
  θ_run_mono (Cert.FfnL0RefIdeal.Value.run m ρ) fun r h => ⟨fun c => (h c).2, sem_eq_zero_of_no_sems (by decide) r.2⟩

theorem algebraic : Cert.algebraic_FfnL0Ideal_FfnL0RefIdeal := by
  pair_intro
  · run_from Cert.FfnL0Ideal.Value.run_blocks m g
  · run_from Cert.FfnL0RefIdeal.Value.run m' g'
    rw [Cert.FfnL0RefIdeal.Read.val_main_v59_eq, Cert.FfnL0Ideal.Hand.final, (hagree c).1, (hagree c).2.1, (hagree c).2.2.1, (hagree c).2.2.2.1, (hagree c).2.2.2.2.1,
      (hagree c).2.2.2.2.2.1]
    exact funext fun i => (Cert.FfnL0RefIdeal.Hand.ref_apply _ _ _ _ _ _ _ i).symm

end Cert.FfnL0.Hand

end
-- ==== Proof.FfnL1Parts.lean ====
module

public import proofs.«01_k».proof.Proof.Gen.FfnL1Ideal.Value
public import proofs.«01_k».proof.Proof.Gen.FfnL1RefIdeal.Read
public import Idealize.ShloMosaic.Lib.Pipeline.ValueKit

@[expose] public section

set_option maxRecDepth 16384

noncomputable section

namespace Cert.FfnL1Ideal.Hand

open Cert.FfnL1Ideal Cert.FfnL1Ideal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin grid0.N, win0_0.index t = ![t.val / 8, t.val % 8, 0] ∧ win0_1.index t = ![1, 0, 0] ∧ win0_2.index t = ![1, 0, 0]
    ∧ win0_3.index t = ![1, 0, 1] ∧ win0_4.index t = ![1, 0, 0] ∧ win0_5.index t = ![1, 0, 1] ∧ win0_6.index t = ![1, 0, 0]
    ∧ win0_7.index t = ![1, 0, 1] ∧ win0_8.index t = ![1, 0, 0] ∧ win0_9.index t = ![0, 0] ∧ win0_10.index t = ![t.val / 8, t.val % 8, 0] := by
  decide +kernel

theorem blk0 (c : Dev nD) (t : Fin cfg0.N) (r : Fin 512) (k : Fin 1024) (b : Fin 4) (R : Fin 4096) (hb : b.val = t.val / 8) (h : R.val = t.val % 8 * 512 + r.val) :
    iblk m c 0 t (ix3 0 r k) = m ((c : Thread nD τ).loc main_arg0) (ix3 b R k) := by
  blk_ext [iblk, V, idx0 t]
theorem blk1 (c : Dev nD) (t : Fin cfg0.N) (k : Fin 1024) :
    iblk m c 1 t (ix3 0 0 k) = m ((c : Thread nD τ).loc main_arg1) (ix2 1 k) := by
  blk_simp [iblk, idx0 t]
  (try entry_read)
  pointwise
  blk_ext [idx0 t]
theorem blk2 (c : Dev nD) (t : Fin cfg0.N) (k : Fin 1024) (j : Fin 2816) (J : Fin 5632) (h : J.val = j.val) :
    iblk m c 2 t (ix3 0 k j) = m ((c : Thread nD τ).loc main_arg2) (ix3 1 k J) := by
  blk_simp [iblk, idx0 t]
  (try entry_read)
  pointwise
  blk_ext [idx0 t]
theorem blk3 (c : Dev nD) (t : Fin cfg0.N) (k : Fin 1024) (j : Fin 2816) (J : Fin 5632) (h : J.val = 2816 + j.val) :
    iblk m c 3 t (ix3 0 k j) = m ((c : Thread nD τ).loc main_arg2) (ix3 1 k J) := by
  blk_simp [iblk, idx0 t]
  (try entry_read)
  pointwise
  blk_ext [idx0 t]
theorem blk4 (c : Dev nD) (t : Fin cfg0.N) (q : Fin 3) (j : Fin 2816) (J : Fin 5632) (h : J.val = j.val) :
    iblk m c 4 t (ix3 0 q j) = m ((c : Thread nD τ).loc main_arg3) (ix3 1 q J) := by
  blk_ext [iblk, V, idx0 t]
theorem blk5 (c : Dev nD) (t : Fin cfg0.N) (q : Fin 3) (j : Fin 2816) (J : Fin 5632) (h : J.val = 2816 + j.val) :
    iblk m c 5 t (ix3 0 q j) = m ((c : Thread nD τ).loc main_arg3) (ix3 1 q J) := by
  blk_ext [iblk, V, idx0 t]
theorem blk6 (c : Dev nD) (t : Fin cfg0.N) (j : Fin 2816) (J : Fin 5632) (h : J.val = j.val) :
    iblk m c 6 t (ix3 0 0 j) = m ((c : Thread nD τ).loc main_arg4) (ix2 1 J) := by
  blk_simp [iblk, idx0 t]
  (try entry_read)
  pointwise
  blk_ext [idx0 t]
theorem blk7 (c : Dev nD) (t : Fin cfg0.N) (j : Fin 2816) (J : Fin 5632) (h : J.val = 2816 + j.val) :
    iblk m c 7 t (ix3 0 0 j) = m ((c : Thread nD τ).loc main_arg4) (ix2 1 J) := by
  blk_simp [iblk, idx0 t]
  (try entry_read)
  pointwise
  blk_ext [idx0 t]
theorem blk8 (c : Dev nD) (t : Fin cfg0.N) (j : Fin 2816) (n : Fin 1024) :
    iblk m c 8 t (ix3 0 j n) = m ((c : Thread nD τ).loc main_arg5) (ix3 1 j n) := by
  blk_simp [iblk, idx0 t]
  (try entry_read)
  pointwise
  blk_ext [idx0 t]
theorem blk9 (c : Dev nD) (t : Fin cfg0.N) (n : Fin 1024) :
    iblk m c 9 t (ix2 0 n) = m ((c : Thread nD τ).loc main_arg6) (ix1 n) := by
  blk_simp [iblk, idx0 t]
  (try entry_read)
  pointwise
  blk_ext [idx0 t]

/-- A row scaled by the reciprocal root of its mean square. -/
def RN (x : Fin 1024 → EReal) (k : Fin 1024) : EReal :=
  x k * Ideal.rsqrt (Ideal.div (∑ j : Fin 1024, x j * x j) (Ideal.ofBits .f32 0x44800000#32) + Ideal.ofBits .f32 0x358637BD#32)

/-- The bias plus the three taps, in the order they are added. -/
def TAPS (b c0 g0 c1 g1 c2 g2 : EReal) : EReal := b + c0 * g0 + c1 * g1 + c2 * g2

/-- The gated unit. -/
def GATE (g v : EReal) : EReal := g * Ideal.logistic g * v

theorem pay (x : FVec Ideal S1x512x1024 .f32) (bg bv : FVec Ideal S1x1x2816 .f32) (c0 c1 c2 e0 e1 e2 : FVec Ideal S1x1x2816 .f32)
    (g0 g1 g2 v0 v1 v2 : FVec Ideal S512x2816 .f32) (wd : FVec Ideal S1x2816x1024 .bf16) (r : Fin 512) (n : Fin 1024) :
    k0_pay3 (F := Ideal) (k0_pay6 x) (k0_pay10 bg c0 g0 c1 g1) (k0_pay11 bv e0 v0 e1 v1) c2 g2 e2 v2 wd (ix3 0 r n)
    = x (ix3 0 r n) + ∑ j : Fin 2816,
        GATE (TAPS (bg (ix3 0 0 j)) (c0 (ix3 0 0 j)) (g0 (ix2 r j)) (c1 (ix3 0 0 j)) (g1 (ix2 r j)) (c2 (ix3 0 0 j)) (g2 (ix2 r j)))
          (TAPS (bv (ix3 0 0 j)) (e0 (ix3 0 0 j)) (v0 (ix2 r j)) (e1 (ix3 0 0 j)) (v1 (ix2 r j)) (e2 (ix3 0 0 j)) (v2 (ix2 r j)))
        * wd (ix3 0 j n) := by
  pointwise [k0_pay3, k0_pay6, k0_pay10, k0_pay11]
  rfl

/-- The up-projection of the normalised row `t` of sequence `b`, at column `J`. -/
def UP (h : FVec Ideal S4x4096x1024 .f32) (nf : FVec Ideal S4x1024 .f32) (wu : FVec Ideal S4x1024x5632 .f32)
    (b : Fin 4) (t : Fin 4096) (J : Fin 5632) : EReal :=
  ∑ k : Fin 1024, RN (fun k => h (ix3 b t k)) k * nf (ix2 1 k) * wu (ix3 1 k J)

/-- The same `s` rows earlier, zero before the sequence begins. -/
def UPS (h : FVec Ideal S4x4096x1024 .f32) (nf : FVec Ideal S4x1024 .f32) (wu : FVec Ideal S4x1024x5632 .f32)
    (b : Fin 4) (s : ℕ) (t : Fin 4096) (J : Fin 5632) : EReal :=
  if hs : s ≤ t.val then UP h nf wu b ⟨t.val - s, Nat.lt_of_le_of_lt (Nat.sub_le _ _) t.isLt⟩ J else 0

theorem UPS_of (h : FVec Ideal S4x4096x1024 .f32) (nf : FVec Ideal S4x1024 .f32) (wu : FVec Ideal S4x1024x5632 .f32)
    (b : Fin 4) (s : ℕ) (t u : Fin 4096) (J : Fin 5632) (e : t.val = u.val + s) : UPS h nf wu b s t J = UP h nf wu b u J := by
  unfold UPS
  rw [dif_pos (by omega)]
  exact congrArg (fun q => UP h nf wu b q J) (Fin.ext (by show t.val - s = u.val; omega))

theorem UPS_zero (h : FVec Ideal S4x4096x1024 .f32) (nf : FVec Ideal S4x1024 .f32) (wu : FVec Ideal S4x1024x5632 .f32)
    (b : Fin 4) (s : ℕ) (t : Fin 4096) (J : Fin 5632) (e : t.val < s) : UPS h nf wu b s t J = 0 := by
  unfold UPS
  rw [dif_neg (by omega)]

theorem pay6 (x : FVec Ideal S1x512x1024 .f32) (g : FVec Ideal S1x1x1024 .f32) (w : FVec Ideal S1x1024x2816 .bf16) (r : Fin 512) (j : Fin 2816) :
    k0_pay8 (F := Ideal) x g w (ix2 r j) = ∑ k : Fin 1024, RN (fun k => x (ix3 0 r k)) k * g (ix3 0 0 k) * w (ix3 0 k j) := by
  pointwise [k0_pay8, k0_pay7, k0_pay6]
  rfl
theorem pay7 (x : FVec Ideal S1x512x1024 .f32) (g : FVec Ideal S1x1x1024 .f32) (w : FVec Ideal S1x1024x2816 .bf16) (r : Fin 512) (j : Fin 2816) :
    k0_pay9 (F := Ideal) x g w (ix2 r j) = ∑ k : Fin 1024, RN (fun k => x (ix3 0 r k)) k * g (ix3 0 0 k) * w (ix3 0 k j) := by
  pointwise [k0_pay9, k0_pay7, k0_pay6]
  rfl

abbrev UPM (c : Dev nD) := UP (m ((c : Thread nD τ).loc main_arg0)) (m ((c : Thread nD τ).loc main_arg1)) (m ((c : Thread nD τ).loc main_arg2))
abbrev UPSM (c : Dev nD) := UPS (m ((c : Thread nD τ).loc main_arg0)) (m ((c : Thread nD τ).loc main_arg1)) (m ((c : Thread nD τ).loc main_arg2))

theorem up6 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) :
    k0_pay8 (F := Ideal) (iblk m c 0 t) (iblk m c 1 t) (iblk m c 2 t) (ix2 r j) = UPM m c b R J := by
  refine (pay6 _ _ _ r j).trans ?_
  show _ = UP _ _ _ b R J
  unfold UP
  simp only [blk0 m c t r _ b R hb hR, blk1, blk2 m c t _ j J hJ]
theorem up7 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) :
    k0_pay9 (F := Ideal) (iblk m c 0 t) (iblk m c 1 t) (iblk m c 3 t) (ix2 r j) = UPM m c b R J := by
  refine (pay7 _ _ _ r j).trans ?_
  show _ = UP _ _ _ b R J
  unfold UP
  simp only [blk0 m c t r _ b R hb hR, blk1, blk3 m c t _ j J hJ]

/-- The box of the block's own rows in a scratch. -/
abbrev OWN : Rect S520x2816 := Rect.unit ![8, 0] ![512, 2816] inb_S520x2816_S512x2816_8_0
/-- The box of the rows kept from the block before. -/
abbrev KEPT : Rect S520x2816 := Rect.unit ![0, 0] ![8, 2816] inb_S520x2816_S8x2816_0_0

theorem emb_own (R : Fin 520) (r : Fin 512) (j : Fin 2816) (h : R.val = 8 + r.val) :
    OWN.emb (ix2 r j : (⟨2, ![512, 2816]⟩ : Shape).Idx) = (ix2 R j : S520x2816.Idx) := by
  blk_ext []
theorem emb_kept (R : Fin 520) (r : Fin 8) (j : Fin 2816) (h : R.val = r.val) :
    KEPT.emb (ix2 r j : (⟨2, ![8, 2816]⟩ : Shape).Idx) = (ix2 R j : S520x2816.Idx) := by
  blk_ext []

theorem canon_at {S : Shape} {e : EltTy} (r : Rect S) (w : r.shape.Idx → Elt Ideal e) (L : List (View.Piece (Elt Ideal) S e))
    (y : S.Idx) (x : r.shape.Idx) (h : r.emb x = y) : View.canon (Val := Elt Ideal) (⟨r, w⟩ :: L) y = w x := by
  subst h
  exact View.canon_cons_emb r w L x

end Cert.FfnL1Ideal.Hand

end
-- ==== Proof.FfnL1Taps.lean ====
module

public import proofs.«01_k».proof.Proof.Gen.FfnL1Ideal.Value
public import proofs.«01_k».proof.Proof.Gen.FfnL1RefIdeal.Read
public import Idealize.ShloMosaic.Lib.Pipeline.ValueKit
public import Idealize.ShloMosaic.Lib.WritesUnit
public import proofs.«01_k».proof.Proof.FfnL1Parts

@[expose] public section

set_option maxRecDepth 16384

noncomputable section

namespace Cert.FfnL1Ideal.Hand

open Cert.FfnL1Ideal Cert.FfnL1Ideal.Gen Idealize.ShloMosaic Idealize.ShloMosaic.TcCoe Idealize.SL.Sem
open Idealize.ShloMosaic.Pipeline (Dat)

variable (m : (ℓ : Loc nD τ sig) → Buf (Elt Ideal) ℓ)

theorem read_at {S : Shape} {e : EltTy} {sig : RefSig} {κ : Kind} {sp : Space} (v : View sig κ sp S e) (r : Rect S) (w : r.shape.Idx → Elt Ideal e)
    (L : List (View.Piece (Elt Ideal) S e)) (B : LoadRect S) (y : B.shape.Idx) (x : r.shape.Idx) (h : r.emb x = B.idx y) :
    v.readCov (Val := Elt Ideal) (⟨r, w⟩ :: L) B y = w x := by
  rw [View.readCov_eq_canon']
  exact canon_at r w L _ x h

theorem read_next {S : Shape} {e : EltTy} {sig : RefSig} {κ : Kind} {sp : Space} (v : View sig κ sp S e) (r r' : Rect S) (w : r.shape.Idx → Elt Ideal e)
    (w' : r'.shape.Idx → Elt Ideal e)
    (L : List (View.Piece (Elt Ideal) S e)) (B : LoadRect S) (y : B.shape.Idx) (x : r'.shape.Idx) (hn : B.idx y ∉ r.set) (h : r'.emb x = B.idx y) :
    v.readCov (Val := Elt Ideal) (⟨r, w⟩ :: ⟨r', w'⟩ :: L) B y = w' x := by
  rw [View.readCov_eq_canon']
  show View.canon _ (B.idx y) = _
  rw [View.canon_cons_of_not_mem _ _ hn]
  exact canon_at r' w' L _ x h

/-- The box of the rows saved for the next block. -/
abbrev SAVED : Rect S520x2816 := Rect.unit ![512, 0] ![8, 2816] inb_S520x2816_S8x2816_512_0
abbrev TAP6 : Rect S520x2816 := Rect.unit ![6, 0] ![512, 2816] inb_S520x2816_S512x2816_6_0
abbrev TAP7 : Rect S520x2816 := Rect.unit ![7, 0] ![512, 2816] inb_S520x2816_S512x2816_7_0

theorem emb_saved (r : Fin 8) (x : Fin 512) (j : Fin 2816) (h : x.val = 504 + r.val) :
    OWN.emb (ix2 x j : (⟨2, ![512, 2816]⟩ : Shape).Idx) = SAVED.emb (ix2 r j : (⟨2, ![8, 2816]⟩ : Shape).Idx) := by
  blk_ext []
theorem emb_6 (r x : Fin 512) (j : Fin 2816) (h : 8 + x.val = 6 + r.val) :
    OWN.emb (ix2 x j : (⟨2, ![512, 2816]⟩ : Shape).Idx) = TAP6.emb (ix2 r j : (⟨2, ![512, 2816]⟩ : Shape).Idx) := by
  blk_ext []
theorem emb_7 (r x : Fin 512) (j : Fin 2816) (h : 8 + x.val = 7 + r.val) :
    OWN.emb (ix2 x j : (⟨2, ![512, 2816]⟩ : Shape).Idx) = TAP7.emb (ix2 r j : (⟨2, ![512, 2816]⟩ : Shape).Idx) := by
  blk_ext []
theorem emb_6k (r : Fin 512) (x : Fin 8) (j : Fin 2816) (h : x.val = 6 + r.val) :
    KEPT.emb (ix2 x j : (⟨2, ![8, 2816]⟩ : Shape).Idx) = TAP6.emb (ix2 r j : (⟨2, ![512, 2816]⟩ : Shape).Idx) := by
  blk_ext []
theorem emb_7k (r : Fin 512) (x : Fin 8) (j : Fin 2816) (h : x.val = 7 + r.val) :
    KEPT.emb (ix2 x j : (⟨2, ![8, 2816]⟩ : Shape).Idx) = TAP7.emb (ix2 r j : (⟨2, ![512, 2816]⟩ : Shape).Idx) := by
  blk_ext []

theorem out_6 (r : Fin 512) (j : Fin 2816) (h : r.val < 2) : TAP6.emb (ix2 r j : (⟨2, ![512, 2816]⟩ : Shape).Idx) ∉ OWN.set := by
  rw [Rect.mem_set_unit]
  intro H
  have h0 : 8 ≤ 6 + 1 * r.val := (H 0).1
  omega
theorem out_7 (r : Fin 512) (j : Fin 2816) (h : r.val < 1) : TAP7.emb (ix2 r j : (⟨2, ![512, 2816]⟩ : Shape).Idx) ∉ OWN.set := by
  rw [Rect.mem_set_unit]
  intro H
  have h0 : 8 ≤ 7 + 1 * r.val := (H 0).1
  omega

theorem pay10 (z : FVec Ideal S8x2816 .f32) (r : Fin 8) (j : Fin 2816) : k0_pay1 (F := Ideal) z (ix2 r j) = z (ix2 r j) := by
  pointwise [k0_pay1]
theorem pay11 (z : FVec Ideal S8x2816 .f32) (r : Fin 8) (j : Fin 2816) : k0_pay2 (F := Ideal) z (ix2 r j) = z (ix2 r j) := by
  pointwise [k0_pay2]

/-- After any point the first rows of the gate's scratch hold the last rows of the block's up-projection. -/
theorem keep0 (c : Dev nD) (t : Fin cfg0.N) (R : Fin 520) (r : Fin 8) (j : Fin 2816) (b : Fin 4) (T : Fin 4096) (J : Fin 5632)
    (hR : R.val = r.val) (hb : b.val = t.val / 8) (hT : T.val = t.val % 8 * 512 + (504 + r.val)) (hJ : J.val = j.val) :
    (outsAt0 m c t.val t.isLt).2.1 (ix2 R j) = UPM m c b T J := by
  have hx : 504 + r.val < 512 := by omega
  by_cases h0 : t.val % 8 = 0
  · rw [outsAt0_A m c t h0]
    frame_out
    refine (canon_at KEPT _ _ _ (ix2 r j) (emb_kept R r j hR)).trans ((pay10 _ r j).trans ?_)
    refine (read_at _ OWN _ _ _ _ (ix2 ⟨504 + r.val, hx⟩ j) (emb_saved r ⟨504 + r.val, hx⟩ j rfl)).trans ?_
    exact up6 m c t ⟨504 + r.val, hx⟩ j b T J hb hT hJ
  · rw [outsAt0_B m c t h0]
    frame_out
    refine (canon_at KEPT _ _ _ (ix2 r j) (emb_kept R r j hR)).trans ((pay10 _ r j).trans ?_)
    refine (read_at _ OWN _ _ _ _ (ix2 ⟨504 + r.val, hx⟩ j) (emb_saved r ⟨504 + r.val, hx⟩ j rfl)).trans ?_
    exact up6 m c t ⟨504 + r.val, hx⟩ j b T J hb hT hJ

/-- The same for the value's scratch. -/
theorem keep1 (c : Dev nD) (t : Fin cfg0.N) (R : Fin 520) (r : Fin 8) (j : Fin 2816) (b : Fin 4) (T : Fin 4096) (J : Fin 5632)
    (hR : R.val = r.val) (hb : b.val = t.val / 8) (hT : T.val = t.val % 8 * 512 + (504 + r.val)) (hJ : J.val = 2816 + j.val) :
    (outsAt0 m c t.val t.isLt).2.2 (ix2 R j) = UPM m c b T J := by
  have hx : 504 + r.val < 512 := by omega
  by_cases h0 : t.val % 8 = 0
  · rw [outsAt0_A m c t h0]
    frame_out
    refine (canon_at KEPT _ _ _ (ix2 r j) (emb_kept R r j hR)).trans ((pay11 _ r j).trans ?_)
    refine (read_at _ OWN _ _ _ _ (ix2 ⟨504 + r.val, hx⟩ j) (emb_saved r ⟨504 + r.val, hx⟩ j rfl)).trans ?_
    exact up7 m c t ⟨504 + r.val, hx⟩ j b T J hb hT hJ
  · rw [outsAt0_B m c t h0]
    frame_out
    refine (canon_at KEPT _ _ _ (ix2 r j) (emb_kept R r j hR)).trans ((pay11 _ r j).trans ?_)
    refine (read_at _ OWN _ _ _ _ (ix2 ⟨504 + r.val, hx⟩ j) (emb_saved r ⟨504 + r.val, hx⟩ j rfl)).trans ?_
    exact up7 m c t ⟨504 + r.val, hx⟩ j b T J hb hT hJ

theorem held_at {S : Shape} {e : EltTy} {sig : RefSig} {κ : Kind} {sp : Space} (v : View sig κ sp S e) (f : v.ty.Contents (Elt Ideal)) (r B : Rect S)
    (w : r.shape.Idx → Elt Ideal e) (L : List (View.Piece (Elt Ideal) S e)) (y : B.shape.Idx) (x : r.shape.Idx) (h : r.emb x = B.emb y) :
    View.ld (v.read (Elt Ideal) (v.writes (Elt Ideal) f (⟨r, w⟩ :: L))) B y = w x := by
  show v.read (Elt Ideal) (v.writes (Elt Ideal) f (⟨r, w⟩ :: L)) (B.emb y) = w x
  rw [← h]
  exact View.read_writes_cons_emb v f r w L x

theorem held_out {S : Shape} {e : EltTy} {sig : RefSig} {κ : Kind} {sp : Space} (v : View sig κ sp S e) (f : v.ty.Contents (Elt Ideal)) (r B : Rect S)
    (w : r.shape.Idx → Elt Ideal e) (y : B.shape.Idx) (X : S.Idx → Elt Ideal e) (hf : v.read (Elt Ideal) f = X) (h : B.emb y ∉ r.set) :
    View.ld (v.read (Elt Ideal) (v.writes (Elt Ideal) f [⟨r, w⟩])) B y = X (B.emb y) := by
  have hy : B.emb y ∉ Finset.univ.map r.emb := by rwa [Rect.map_emb_univ]
  show v.read (Elt Ideal) (v.writes (Elt Ideal) f [⟨r, w⟩]) (B.emb y) = _
  rw [View.writes_cons, View.read_slice_write_of_not_mem r _ _ _ hy, View.writes_nil, hf]

theorem row_6 (r : Fin 512) (x : Fin 520) (j : Fin 2816) (h : x.val = 6 + r.val) :
    TAP6.emb (ix2 r j : (⟨2, ![512, 2816]⟩ : Shape).Idx) = (ix2 x j : S520x2816.Idx) := by
  blk_ext []
theorem row_7 (r : Fin 512) (x : Fin 520) (j : Fin 2816) (h : x.val = 7 + r.val) :
    TAP7.emb (ix2 r j : (⟨2, ![512, 2816]⟩ : Shape).Idx) = (ix2 x j : S520x2816.Idx) := by
  blk_ext []

theorem fill2 (r : Fin 8) (j : Fin 2816) : k0_pay4 (F := Ideal) (ix2 r j) = 0 := by
  pointwise [k0_pay4]
theorem fill3 (r : Fin 8) (j : Fin 2816) : k0_pay5 (F := Ideal) (ix2 r j) = 0 := by
  pointwise [k0_pay5]

/-- The gate's rows 1 earlier at the first block of a sequence. -/
theorem gate_first1 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) (h0 : t.val % 8 = 0) :
    (View.whole cc0_scratch0).readCov (Val := Elt Ideal) [⟨OWN, k0_pay8 (F := Ideal) (iblk m c 0 t) (iblk m c 1 t) (iblk m c 2 t)⟩, ⟨KEPT, k0_pay4 (F := Ideal)⟩] TAP7.toLoadRect (ix2 r j) = UPSM m c b 1 R J := by
  by_cases h : r.val < 1
  · have hx : 7 + r.val < 8 := by omega
    refine (read_next _ OWN KEPT _ _ _ _ _ (ix2 ⟨7 + r.val, hx⟩ j) (out_7 r j h) (emb_7k r ⟨7 + r.val, hx⟩ j rfl)).trans ?_
    exact (fill2 _ j).trans (UPS_zero _ _ _ b 1 R J (by omega)).symm
  · have hx : r.val - 1 < 512 := by omega
    have hR' : R.val - 1 < 4096 := by omega
    refine (read_at _ OWN _ _ _ _ (ix2 ⟨r.val - 1, hx⟩ j) (emb_7 r ⟨r.val - 1, hx⟩ j (by show 8 + (r.val - 1) = 7 + r.val; omega))).trans ?_
    refine (up6 m c t ⟨r.val - 1, hx⟩ j b ⟨R.val - 1, hR'⟩ J hb (by show R.val - 1 = t.val % 8 * 512 + (r.val - 1); omega) hJ).trans ?_
    exact (UPS_of _ _ _ b 1 R ⟨R.val - 1, hR'⟩ J (by show R.val = R.val - 1 + 1; omega)).symm

/-- The gate's rows 1 earlier at a later block. -/
theorem gate_later1 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) (h0 : ¬ t.val % 8 = 0) (f : (View.whole cc0_scratch0).ty.Contents (Elt Ideal))
    (hf : (View.whole cc0_scratch0).read (Elt Ideal) f = (outsAt0 m c (t.val - 1) (Nat.lt_of_le_of_lt (Nat.sub_le _ _) t.isLt)).2.1) :
    View.ld ((View.whole cc0_scratch0).read (Elt Ideal) ((View.whole cc0_scratch0).writes (Elt Ideal) f [⟨OWN, k0_pay8 (F := Ideal) (iblk m c 0 t) (iblk m c 1 t) (iblk m c 2 t)⟩])) TAP7 (ix2 r j) = UPSM m c b 1 R J := by
  have hR' : R.val - 1 < 4096 := by omega
  refine Eq.trans ?_ (UPS_of _ _ _ b 1 R ⟨R.val - 1, hR'⟩ J (by show R.val = R.val - 1 + 1; omega)).symm
  by_cases h : r.val < 1
  · have hx : 7 + r.val < 520 := by omega
    have hy : 7 + r.val < 8 := by omega
    refine (held_out _ f OWN TAP7 _ _ _ hf (out_7 r j h)).trans ?_
    refine (congrArg _ (row_7 r ⟨7 + r.val, hx⟩ j rfl)).trans ?_
    exact keep0 m c ⟨t.val - 1, Nat.lt_of_le_of_lt (Nat.sub_le _ _) t.isLt⟩ ⟨7 + r.val, hx⟩ ⟨7 + r.val, hy⟩ j b ⟨R.val - 1, hR'⟩ J rfl
      (by show b.val = (t.val - 1) / 8; omega) (by show R.val - 1 = (t.val - 1) % 8 * 512 + (504 + (7 + r.val)); omega) hJ
  · have hx : r.val - 1 < 512 := by omega
    refine (held_at _ f OWN TAP7 _ _ _ (ix2 ⟨r.val - 1, hx⟩ j) (emb_7 r ⟨r.val - 1, hx⟩ j (by show 8 + (r.val - 1) = 7 + r.val; omega))).trans ?_
    exact up6 m c t ⟨r.val - 1, hx⟩ j b ⟨R.val - 1, hR'⟩ J hb (by show R.val - 1 = t.val % 8 * 512 + (r.val - 1); omega) hJ

/-- The gate's rows 2 earlier at the first block of a sequence. -/
theorem gate_first2 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) (h0 : t.val % 8 = 0) :
    (View.whole cc0_scratch0).readCov (Val := Elt Ideal) [⟨OWN, k0_pay8 (F := Ideal) (iblk m c 0 t) (iblk m c 1 t) (iblk m c 2 t)⟩, ⟨KEPT, k0_pay4 (F := Ideal)⟩] TAP6.toLoadRect (ix2 r j) = UPSM m c b 2 R J := by
  by_cases h : r.val < 2
  · have hx : 6 + r.val < 8 := by omega
    refine (read_next _ OWN KEPT _ _ _ _ _ (ix2 ⟨6 + r.val, hx⟩ j) (out_6 r j h) (emb_6k r ⟨6 + r.val, hx⟩ j rfl)).trans ?_
    exact (fill2 _ j).trans (UPS_zero _ _ _ b 2 R J (by omega)).symm
  · have hx : r.val - 2 < 512 := by omega
    have hR' : R.val - 2 < 4096 := by omega
    refine (read_at _ OWN _ _ _ _ (ix2 ⟨r.val - 2, hx⟩ j) (emb_6 r ⟨r.val - 2, hx⟩ j (by show 8 + (r.val - 2) = 6 + r.val; omega))).trans ?_
    refine (up6 m c t ⟨r.val - 2, hx⟩ j b ⟨R.val - 2, hR'⟩ J hb (by show R.val - 2 = t.val % 8 * 512 + (r.val - 2); omega) hJ).trans ?_
    exact (UPS_of _ _ _ b 2 R ⟨R.val - 2, hR'⟩ J (by show R.val = R.val - 2 + 2; omega)).symm

/-- The gate's rows 2 earlier at a later block. -/
theorem gate_later2 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) (h0 : ¬ t.val % 8 = 0) (f : (View.whole cc0_scratch0).ty.Contents (Elt Ideal))
    (hf : (View.whole cc0_scratch0).read (Elt Ideal) f = (outsAt0 m c (t.val - 1) (Nat.lt_of_le_of_lt (Nat.sub_le _ _) t.isLt)).2.1) :
    View.ld ((View.whole cc0_scratch0).read (Elt Ideal) ((View.whole cc0_scratch0).writes (Elt Ideal) f [⟨OWN, k0_pay8 (F := Ideal) (iblk m c 0 t) (iblk m c 1 t) (iblk m c 2 t)⟩])) TAP6 (ix2 r j) = UPSM m c b 2 R J := by
  have hR' : R.val - 2 < 4096 := by omega
  refine Eq.trans ?_ (UPS_of _ _ _ b 2 R ⟨R.val - 2, hR'⟩ J (by show R.val = R.val - 2 + 2; omega)).symm
  by_cases h : r.val < 2
  · have hx : 6 + r.val < 520 := by omega
    have hy : 6 + r.val < 8 := by omega
    refine (held_out _ f OWN TAP6 _ _ _ hf (out_6 r j h)).trans ?_
    refine (congrArg _ (row_6 r ⟨6 + r.val, hx⟩ j rfl)).trans ?_
    exact keep0 m c ⟨t.val - 1, Nat.lt_of_le_of_lt (Nat.sub_le _ _) t.isLt⟩ ⟨6 + r.val, hx⟩ ⟨6 + r.val, hy⟩ j b ⟨R.val - 2, hR'⟩ J rfl
      (by show b.val = (t.val - 1) / 8; omega) (by show R.val - 2 = (t.val - 1) % 8 * 512 + (504 + (6 + r.val)); omega) hJ
  · have hx : r.val - 2 < 512 := by omega
    refine (held_at _ f OWN TAP6 _ _ _ (ix2 ⟨r.val - 2, hx⟩ j) (emb_6 r ⟨r.val - 2, hx⟩ j (by show 8 + (r.val - 2) = 6 + r.val; omega))).trans ?_
    exact up6 m c t ⟨r.val - 2, hx⟩ j b ⟨R.val - 2, hR'⟩ J hb (by show R.val - 2 = t.val % 8 * 512 + (r.val - 2); omega) hJ

/-- The value's rows 1 earlier at the first block of a sequence. -/
theorem value_first1 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) (h0 : t.val % 8 = 0) :
    (View.whole cc0_scratch1).readCov (Val := Elt Ideal) [⟨OWN, k0_pay9 (F := Ideal) (iblk m c 0 t) (iblk m c 1 t) (iblk m c 3 t)⟩, ⟨KEPT, k0_pay5 (F := Ideal)⟩] TAP7.toLoadRect (ix2 r j) = UPSM m c b 1 R J := by
  by_cases h : r.val < 1
  · have hx : 7 + r.val < 8 := by omega
    refine (read_next _ OWN KEPT _ _ _ _ _ (ix2 ⟨7 + r.val, hx⟩ j) (out_7 r j h) (emb_7k r ⟨7 + r.val, hx⟩ j rfl)).trans ?_
    exact (fill3 _ j).trans (UPS_zero _ _ _ b 1 R J (by omega)).symm
  · have hx : r.val - 1 < 512 := by omega
    have hR' : R.val - 1 < 4096 := by omega
    refine (read_at _ OWN _ _ _ _ (ix2 ⟨r.val - 1, hx⟩ j) (emb_7 r ⟨r.val - 1, hx⟩ j (by show 8 + (r.val - 1) = 7 + r.val; omega))).trans ?_
    refine (up7 m c t ⟨r.val - 1, hx⟩ j b ⟨R.val - 1, hR'⟩ J hb (by show R.val - 1 = t.val % 8 * 512 + (r.val - 1); omega) hJ).trans ?_
    exact (UPS_of _ _ _ b 1 R ⟨R.val - 1, hR'⟩ J (by show R.val = R.val - 1 + 1; omega)).symm

/-- The value's rows 1 earlier at a later block. -/
theorem value_later1 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) (h0 : ¬ t.val % 8 = 0) (f : (View.whole cc0_scratch1).ty.Contents (Elt Ideal))
    (hf : (View.whole cc0_scratch1).read (Elt Ideal) f = (outsAt0 m c (t.val - 1) (Nat.lt_of_le_of_lt (Nat.sub_le _ _) t.isLt)).2.2) :
    View.ld ((View.whole cc0_scratch1).read (Elt Ideal) ((View.whole cc0_scratch1).writes (Elt Ideal) f [⟨OWN, k0_pay9 (F := Ideal) (iblk m c 0 t) (iblk m c 1 t) (iblk m c 3 t)⟩])) TAP7 (ix2 r j) = UPSM m c b 1 R J := by
  have hR' : R.val - 1 < 4096 := by omega
  refine Eq.trans ?_ (UPS_of _ _ _ b 1 R ⟨R.val - 1, hR'⟩ J (by show R.val = R.val - 1 + 1; omega)).symm
  by_cases h : r.val < 1
  · have hx : 7 + r.val < 520 := by omega
    have hy : 7 + r.val < 8 := by omega
    refine (held_out _ f OWN TAP7 _ _ _ hf (out_7 r j h)).trans ?_
    refine (congrArg _ (row_7 r ⟨7 + r.val, hx⟩ j rfl)).trans ?_
    exact keep1 m c ⟨t.val - 1, Nat.lt_of_le_of_lt (Nat.sub_le _ _) t.isLt⟩ ⟨7 + r.val, hx⟩ ⟨7 + r.val, hy⟩ j b ⟨R.val - 1, hR'⟩ J rfl
      (by show b.val = (t.val - 1) / 8; omega) (by show R.val - 1 = (t.val - 1) % 8 * 512 + (504 + (7 + r.val)); omega) hJ
  · have hx : r.val - 1 < 512 := by omega
    refine (held_at _ f OWN TAP7 _ _ _ (ix2 ⟨r.val - 1, hx⟩ j) (emb_7 r ⟨r.val - 1, hx⟩ j (by show 8 + (r.val - 1) = 7 + r.val; omega))).trans ?_
    exact up7 m c t ⟨r.val - 1, hx⟩ j b ⟨R.val - 1, hR'⟩ J hb (by show R.val - 1 = t.val % 8 * 512 + (r.val - 1); omega) hJ

/-- The value's rows 2 earlier at the first block of a sequence. -/
theorem value_first2 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) (h0 : t.val % 8 = 0) :
    (View.whole cc0_scratch1).readCov (Val := Elt Ideal) [⟨OWN, k0_pay9 (F := Ideal) (iblk m c 0 t) (iblk m c 1 t) (iblk m c 3 t)⟩, ⟨KEPT, k0_pay5 (F := Ideal)⟩] TAP6.toLoadRect (ix2 r j) = UPSM m c b 2 R J := by
  by_cases h : r.val < 2
  · have hx : 6 + r.val < 8 := by omega
    refine (read_next _ OWN KEPT _ _ _ _ _ (ix2 ⟨6 + r.val, hx⟩ j) (out_6 r j h) (emb_6k r ⟨6 + r.val, hx⟩ j rfl)).trans ?_
    exact (fill3 _ j).trans (UPS_zero _ _ _ b 2 R J (by omega)).symm
  · have hx : r.val - 2 < 512 := by omega
    have hR' : R.val - 2 < 4096 := by omega
    refine (read_at _ OWN _ _ _ _ (ix2 ⟨r.val - 2, hx⟩ j) (emb_6 r ⟨r.val - 2, hx⟩ j (by show 8 + (r.val - 2) = 6 + r.val; omega))).trans ?_
    refine (up7 m c t ⟨r.val - 2, hx⟩ j b ⟨R.val - 2, hR'⟩ J hb (by show R.val - 2 = t.val % 8 * 512 + (r.val - 2); omega) hJ).trans ?_
    exact (UPS_of _ _ _ b 2 R ⟨R.val - 2, hR'⟩ J (by show R.val = R.val - 2 + 2; omega)).symm

/-- The value's rows 2 earlier at a later block. -/
theorem value_later2 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) (h0 : ¬ t.val % 8 = 0) (f : (View.whole cc0_scratch1).ty.Contents (Elt Ideal))
    (hf : (View.whole cc0_scratch1).read (Elt Ideal) f = (outsAt0 m c (t.val - 1) (Nat.lt_of_le_of_lt (Nat.sub_le _ _) t.isLt)).2.2) :
    View.ld ((View.whole cc0_scratch1).read (Elt Ideal) ((View.whole cc0_scratch1).writes (Elt Ideal) f [⟨OWN, k0_pay9 (F := Ideal) (iblk m c 0 t) (iblk m c 1 t) (iblk m c 3 t)⟩])) TAP6 (ix2 r j) = UPSM m c b 2 R J := by
  have hR' : R.val - 2 < 4096 := by omega
  refine Eq.trans ?_ (UPS_of _ _ _ b 2 R ⟨R.val - 2, hR'⟩ J (by show R.val = R.val - 2 + 2; omega)).symm
  by_cases h : r.val < 2
  · have hx : 6 + r.val < 520 := by omega
    have hy : 6 + r.val < 8 := by omega
    refine (held_out _ f OWN TAP6 _ _ _ hf (out_6 r j h)).trans ?_
    refine (congrArg _ (row_6 r ⟨6 + r.val, hx⟩ j rfl)).trans ?_
    exact keep1 m c ⟨t.val - 1, Nat.lt_of_le_of_lt (Nat.sub_le _ _) t.isLt⟩ ⟨6 + r.val, hx⟩ ⟨6 + r.val, hy⟩ j b ⟨R.val - 2, hR'⟩ J rfl
      (by show b.val = (t.val - 1) / 8; omega) (by show R.val - 2 = (t.val - 1) % 8 * 512 + (504 + (6 + r.val)); omega) hJ
  · have hx : r.val - 2 < 512 := by omega
    refine (held_at _ f OWN TAP6 _ _ _ (ix2 ⟨r.val - 2, hx⟩ j) (emb_6 r ⟨r.val - 2, hx⟩ j (by show 8 + (r.val - 2) = 6 + r.val; omega))).trans ?_
    exact up7 m c t ⟨r.val - 2, hx⟩ j b ⟨R.val - 2, hR'⟩ J hb (by show R.val - 2 = t.val % 8 * 512 + (r.val - 2); omega) hJ

end Cert.FfnL1Ideal.Hand

end
-- ==== Proof.FfnL1Kernel.lean ====
module

public import proofs.«01_k».proof.Proof.Gen.FfnL1Ideal.Value
public import proofs.«01_k».proof.Proof.Gen.FfnL1RefIdeal.Read
public import Idealize.ShloMosaic.Lib.Pipeline.ValueKit
public import Idealize.ShloMosaic.Lib.WritesUnit
public import proofs.«01_k».proof.Proof.FfnL1Taps

@[expose] public section

set_option maxRecDepth 16384

noncomputable section

namespace Cert.FfnL1Ideal.Hand

open Cert.FfnL1Ideal Cert.FfnL1Ideal.Gen Idealize.ShloMosaic Idealize.ShloMosaic.TcCoe Idealize.SL.Sem
open Idealize.ShloMosaic.Pipeline (Dat)

variable (m : (ℓ : Loc nD τ sig) → Buf (Elt Ideal) ℓ)

theorem ld_zero (X : FVec Ideal S1x3x2816 .f32) (j : Fin 2816) :
    View.ld (Val := Elt Ideal) (e' := .f32) X (Rect.unit ![0, 0, 0] ![1, 1, 2816] inb_S1x3x2816_S1x1x2816_0_0_0) (ix3 0 0 j) = X (ix3 0 0 j) :=
  congrArg X (funext fun a => Fin.ext (match a with
    | ⟨0, _⟩ => rfl
    | ⟨1, _⟩ => rfl
    | ⟨2, _⟩ => show 0 + 1 * j.val = j.val by omega))

theorem ld_one (X : FVec Ideal S1x3x2816 .f32) (j : Fin 2816) :
    View.ld (Val := Elt Ideal) (e' := .f32) X (Rect.unit ![0, 1, 0] ![1, 1, 2816] inb_S1x3x2816_S1x1x2816_0_1_0) (ix3 0 0 j) = X (ix3 0 1 j) :=
  congrArg X (funext fun a => Fin.ext (match a with
    | ⟨0, _⟩ => rfl
    | ⟨1, _⟩ => rfl
    | ⟨2, _⟩ => show 0 + 1 * j.val = j.val by omega))

theorem ld_two (X : FVec Ideal S1x3x2816 .f32) (j : Fin 2816) :
    View.ld (Val := Elt Ideal) (e' := .f32) X (Rect.unit ![0, 2, 0] ![1, 1, 2816] inb_S1x3x2816_S1x1x2816_0_2_0) (ix3 0 0 j) = X (ix3 0 2 j) :=
  congrArg X (funext fun a => Fin.ext (match a with
    | ⟨0, _⟩ => rfl
    | ⟨1, _⟩ => rfl
    | ⟨2, _⟩ => show 0 + 1 * j.val = j.val by omega))

/-- The convolved up-projection of row `t` of sequence `b` at column `J`. -/
def CV (h : FVec Ideal S4x4096x1024 .f32) (nf : FVec Ideal S4x1024 .f32) (wu : FVec Ideal S4x1024x5632 .f32)
    (cw : FVec Ideal S4x3x5632 .f32) (cb : FVec Ideal S4x5632 .f32) (b : Fin 4) (t : Fin 4096) (J : Fin 5632) : EReal :=
  TAPS (cb (ix2 1 J)) (cw (ix3 1 0 J)) (UPS h nf wu b 2 t J) (cw (ix3 1 1 J)) (UPS h nf wu b 1 t J) (cw (ix3 1 2 J)) (UP h nf wu b t J)

/-- The layer's output row. -/
def RES (h : FVec Ideal S4x4096x1024 .f32) (nf : FVec Ideal S4x1024 .f32) (wu : FVec Ideal S4x1024x5632 .f32)
    (cw : FVec Ideal S4x3x5632 .f32) (cb : FVec Ideal S4x5632 .f32) (wd : FVec Ideal S4x2816x1024 .f32) (b : Fin 4) (t : Fin 4096) (n : Fin 1024) : EReal :=
  h (ix3 b t n) + ∑ j : Fin 2816, GATE (CV h nf wu cw cb b t ⟨j.val, by omega⟩) (CV h nf wu cw cb b t ⟨2816 + j.val, by omega⟩) * wd (ix3 1 j n)

/-- The whole output. -/
def GA (h : FVec Ideal S4x4096x1024 .f32) (nf : FVec Ideal S4x1024 .f32) (wu : FVec Ideal S4x1024x5632 .f32)
    (cw : FVec Ideal S4x3x5632 .f32) (cb : FVec Ideal S4x5632 .f32) (wd : FVec Ideal S4x2816x1024 .f32) (nl : FVec Ideal S1024 .f32) :
    FVec Ideal S4x4096x1024 .f32 := fun i => RES h nf wu cw cb wd (i 0) (i 1) (i 2)

theorem taps_congr {b b' c0 c0' g0 g0' c1 c1' g1 g1' c2 c2' g2 g2' : EReal} (hb : b = b') (h0 : c0 = c0') (k0 : g0 = g0') (h1 : c1 = c1')
    (k1 : g1 = g1') (h2 : c2 = c2') (k2 : g2 = g2') : TAPS b c0 g0 c1 g1 c2 g2 = TAPS b' c0' g0' c1' g1' c2' g2' := by
  rw [hb, h0, k0, h1, k1, h2, k2]

theorem point (c : Dev nD) (t : Fin cfg0.N) (r : Fin 512) (n : Fin 1024) (b : Fin 4) (R : Fin 4096)
    (hb : b.val = t.val / 8) (hR : R.val = t.val % 8 * 512 + r.val) :
    (outsAt0 m c t.val t.isLt).1 (ix3 0 r n) = RES (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b R n := by
  by_cases h0 : t.val % 8 = 0
  · rw [outsAt0_A m c t h0]
    frame_out
    refine (pay _ _ _ _ _ _ _ _ _ _ _ _ _ _ _ _ r n).trans ?_
    refine congrArg₂ (· + ·) (blk0 m c t r n b R hb hR)
      (Finset.sum_congr rfl fun j _ => congrArg₂ (· * ·) (congrArg₂ GATE ?_ ?_) (blk8 m c t j n))
    · refine taps_congr (blk6 m c t j _ rfl) ((ld_zero _ j).trans (blk4 m c t 0 j _ rfl)) (gate_first2 m c t r j b R _ hb hR rfl h0) ((ld_one _ j).trans (blk4 m c t 1 j _ rfl))
        (gate_first1 m c t r j b R _ hb hR rfl h0) ((ld_two _ j).trans (blk4 m c t 2 j _ rfl)) ?_
      exact (read_at _ OWN _ _ _ _ (ix2 r j) rfl).trans (up6 m c t r j b R _ hb hR rfl)
    · refine taps_congr (blk7 m c t j _ rfl) ((ld_zero _ j).trans (blk5 m c t 0 j _ rfl)) (value_first2 m c t r j b R _ hb hR rfl h0) ((ld_one _ j).trans (blk5 m c t 1 j _ rfl))
        (value_first1 m c t r j b R _ hb hR rfl h0) ((ld_two _ j).trans (blk5 m c t 2 j _ rfl)) ?_
      exact (read_at _ OWN _ _ _ _ (ix2 r j) rfl).trans (up7 m c t r j b R _ hb hR rfl)
  · rw [outsAt0_B m c t h0]
    frame_out
    refine (pay _ _ _ _ _ _ _ _ _ _ _ _ _ _ _ _ r n).trans ?_
    refine congrArg₂ (· + ·) (blk0 m c t r n b R hb hR)
      (Finset.sum_congr rfl fun j _ => congrArg₂ (· * ·) (congrArg₂ GATE ?_ ?_) (blk8 m c t j n))
    · refine taps_congr (blk6 m c t j _ rfl) ((ld_zero _ j).trans (blk4 m c t 0 j _ rfl)) (gate_later2 m c t r j b R _ hb hR rfl h0 _ ((Memref.isWhole_whole _ : scM0_0.IsWhole).read_unread _)) ((ld_one _ j).trans (blk4 m c t 1 j _ rfl))
        (gate_later1 m c t r j b R _ hb hR rfl h0 _ ((Memref.isWhole_whole _ : scM0_0.IsWhole).read_unread _)) ((ld_two _ j).trans (blk4 m c t 2 j _ rfl)) ?_
      exact (read_at _ OWN _ _ _ _ (ix2 r j) rfl).trans (up6 m c t r j b R _ hb hR rfl)
    · refine taps_congr (blk7 m c t j _ rfl) ((ld_zero _ j).trans (blk5 m c t 0 j _ rfl)) (value_later2 m c t r j b R _ hb hR rfl h0 _ ((Memref.isWhole_whole _ : scM0_1.IsWhole).read_unread _)) ((ld_one _ j).trans (blk5 m c t 1 j _ rfl))
        (value_later1 m c t r j b R _ hb hR rfl h0 _ ((Memref.isWhole_whole _ : scM0_1.IsWhole).read_unread _)) ((ld_two _ j).trans (blk5 m c t 2 j _ rfl)) ?_
      exact (read_at _ OWN _ _ _ _ (ix2 r j) rfl).trans (up7 m c t r j b R _ hb hR rfl)

theorem emb10 (t : Fin cfg0.N) (r : Fin 512) (n : Fin 1024) (b : Fin 4) (R : Fin 4096) (hb : b.val = t.val / 8) (hR : R.val = t.val % 8 * 512 + r.val) :
    (win0_10.blk t).view.emb (ix3 0 r n) = ix3 b R n := by
  blk_ext [idx0 t]

theorem final (c : Dev nD) : (dats m 0 c).arrAt 10 cfg0.N = GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10]
  idx_vars y
  have ht : t.val < 32 := t.isLt
  obtain ⟨b, hb⟩ : ∃ b : Fin 4, b.val = t.val / 8 := ⟨⟨t.val / 8, by omega⟩, rfl⟩
  obtain ⟨R, hR⟩ : ∃ R : Fin 4096, R.val = t.val % 8 * 512 + y1.val := ⟨⟨t.val % 8 * 512 + y1.val, by omega⟩, rfl⟩
  have e0 : y0 = 0 := by omega
  subst e0
  refine Eq.trans ?_ (congrArg (GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (emb10 t y1 y2 b R hb hR).symm)
  exact point m c t y1 y2 b R hb hR

end Cert.FfnL1Ideal.Hand

end
-- ==== Proof.FfnL1Reference.lean ====
module

public import proofs.«01_k».proof.Proof.FfnL1Kernel
public import proofs.«01_k».proof.Proof.Gen.FfnL1RefIdeal.Read
public import Idealize.ShloMosaic.Lib.Pipeline.ValueKit

@[expose] public section

set_option maxRecDepth 16384

noncomputable section

namespace Cert.FfnL1RefIdeal.Hand

open Cert.FfnL1RefIdeal Cert.FfnL1RefIdeal.Gen Idealize.ShloMosaic Idealize.ShloMosaic.TcCoe Idealize.SL.Sem

open Cert.FfnL1RefIdeal.Read

open Cert.FfnL1Ideal.Hand (RN UP UPS UPS_of CV RES GA TAPS GATE)

/-- The up-projection of the normalised row. -/
theorem up_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (b : Fin 4) (t : Fin 4096) (J : Fin 5632) :
    val_main_v17 (F := Ideal) x0 x1 x2 (ix3 b t J) = UP x0 x1 x2 b t J := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold UP RN
  rfl

/-- The padded up-projection, two rows later. -/
theorem pad_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (b : Fin 4) (t : Fin 4096) (s : ℕ) (hs : s ≤ 2) (u : Fin 4098) (hu : u.val + s = t.val + 2) (J : Fin 5632) :
    val_main_v20 (F := Ideal) x0 x1 x2 (ix3 b u J) = UPS x0 x1 x2 b s t J := by
  pointwise [val_main_v20, val_main_call0_v0, val_main_c]
  unfold UPS
  by_cases h : s ≤ t.val
  · rw [dif_pos h, dif_pos ⟨by omega, by omega⟩, up_apply]
    exact congrArg (fun v => UP x0 x1 x2 b v J) (Fin.ext (show u.val - 2 = t.val - s by omega))
  · rw [dif_neg h, dif_neg (by omega)]
    show (((0#32).toInt : ℝ) : EReal) = 0
    simp

/-- The convolution's column. -/
theorem conv_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x3x5632, .f32⟩ : BufTy).Contents (Elt Ideal)) (x4 : (⟨S4x5632, .f32⟩ : BufTy).Contents (Elt Ideal)) (b : Fin 4) (t : Fin 4096) (J : Fin 5632) :
    val_main_v45 (F := Ideal) x0 x1 x2 x3 x4 (ix3 b t J) = CV x0 x1 x2 x3 x4 b t J := by
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v19, val_main_v18]
  rw [pad_apply x0 x1 x2 b t 2 (by omega) _ rfl J, pad_apply x0 x1 x2 b t 1 (by omega) _ (show 1 + t.val + 1 = t.val + 2 by omega) J,
    pad_apply x0 x1 x2 b t 0 (by omega) _ (show 2 + t.val + 0 = t.val + 2 by omega) J, UPS_of x0 x1 x2 b 0 t t J rfl]
  unfold CV TAPS
  rw [add_comm _ (x4 (ix2 1 J)), ← add_assoc, ← add_assoc]

/-- The layer's output row. -/
theorem res_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x3x5632, .f32⟩ : BufTy).Contents (Elt Ideal)) (x4 : (⟨S4x5632, .f32⟩ : BufTy).Contents (Elt Ideal)) (x5 : (⟨S4x2816x1024, .f32⟩ : BufTy).Contents (Elt Ideal)) (b : Fin 4) (t : Fin 4096) (n : Fin 1024) :
    val_main_v59 (F := Ideal) x0 x1 x2 x3 x4 x5 (ix3 b t n) = RES x0 x1 x2 x3 x4 x5 b t n := by
  pointwise [val_main_v59, val_main_v58, val_main_v57, val_main_v56, val_main_v55, val_main_v54, val_main_v53, val_main_v52, val_main_v51, val_main_v50, val_main_v49, val_main_v48, val_main_v47, val_main_v46, val_main_cst_2, val_main_cst_3]
  refine congrArg₂ (· + ·) rfl (Finset.sum_congr rfl fun x _ => congrArg₂ (· * ·) ?_ rfl)
  rw [conv_apply, conv_apply]
  exact congrArg₂ (· * ·) (congrArg₂ (· * ·) rfl (Ideal.logistic_def _).symm) rfl

theorem ref_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x3x5632, .f32⟩ : BufTy).Contents (Elt Ideal)) (x4 : (⟨S4x5632, .f32⟩ : BufTy).Contents (Elt Ideal)) (x5 : (⟨S4x2816x1024, .f32⟩ : BufTy).Contents (Elt Ideal)) (x6 : (⟨S1024, .f32⟩ : BufTy).Contents (Elt Ideal)) (i : S4x4096x1024.Idx) :
    GA x0 x1 x2 x3 x4 x5 x6 i = val_main_v59 (F := Ideal) x0 x1 x2 x3 x4 x5 i := by
  idx_vars i
  exact (res_apply x0 x1 x2 x3 x4 x5 i0 i1 i2).symm

end Cert.FfnL1RefIdeal.Hand

end
-- ==== Proof.FfnL1Claims.lean ====
module

public import proofs.«01_k».proof.Defs
public import proofs.«01_k».proof.Proof.Gen.FfnL1.Frame
public import proofs.«01_k».proof.Proof.FfnL1Kernel
public import proofs.«01_k».proof.Proof.FfnL1Reference
public import Idealize.ShloMosaic.Lib.Claim

@[expose] public section

set_option maxRecDepth 16384

noncomputable section

namespace Cert.FfnL1.Hand

open Idealize.ShloMosaic Idealize.ShloMosaic.TcCoe Idealize.SL.Sem

theorem frame_kernel : Cert.quiescent_FfnL1 := fun m ρ _ => Cert.FfnL1.Gen.frame m ρ
theorem frame_ideal : Cert.quiescent_FfnL1Ideal := fun m ρ _ => Cert.FfnL1Ideal.Gen.frame m ρ
theorem frame_refideal : Cert.quiescent_FfnL1RefIdeal := fun m ρ _ =>
  θ_run_mono (Cert.FfnL1RefIdeal.Value.run m ρ) fun r h => ⟨fun c => (h c).2, sem_eq_zero_of_no_sems (by decide) r.2⟩

theorem algebraic : Cert.algebraic_FfnL1Ideal_FfnL1RefIdeal := by
  pair_intro
  · run_from Cert.FfnL1Ideal.Value.run_blocks m g
  · run_from Cert.FfnL1RefIdeal.Value.run m' g'
    rw [Cert.FfnL1RefIdeal.Read.val_main_v59_eq, Cert.FfnL1Ideal.Hand.final, (hagree c).1, (hagree c).2.1, (hagree c).2.2.1, (hagree c).2.2.2.1, (hagree c).2.2.2.2.1,
      (hagree c).2.2.2.2.2.1]
    exact funext fun i => (Cert.FfnL1RefIdeal.Hand.ref_apply _ _ _ _ _ _ _ i).symm

end Cert.FfnL1.Hand

end
-- ==== Proof.FfnL2Parts.lean ====
module

public import proofs.«01_k».proof.Proof.Gen.FfnL2Ideal.Value
public import proofs.«01_k».proof.Proof.Gen.FfnL2RefIdeal.Read
public import Idealize.ShloMosaic.Lib.Pipeline.ValueKit

@[expose] public section

set_option maxRecDepth 16384

noncomputable section

namespace Cert.FfnL2Ideal.Hand

open Cert.FfnL2Ideal Cert.FfnL2Ideal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin grid0.N, win0_0.index t = ![t.val / 8, t.val % 8, 0] ∧ win0_1.index t = ![2, 0, 0] ∧ win0_2.index t = ![2, 0, 0]
    ∧ win0_3.index t = ![2, 0, 1] ∧ win0_4.index t = ![2, 0, 0] ∧ win0_5.index t = ![2, 0, 1] ∧ win0_6.index t = ![2, 0, 0]
    ∧ win0_7.index t = ![2, 0, 1] ∧ win0_8.index t = ![2, 0, 0] ∧ win0_9.index t = ![0, 0] ∧ win0_10.index t = ![t.val / 8, t.val % 8, 0] := by
  decide +kernel

theorem blk0 (c : Dev nD) (t : Fin cfg0.N) (r : Fin 512) (k : Fin 1024) (b : Fin 4) (R : Fin 4096) (hb : b.val = t.val / 8) (h : R.val = t.val % 8 * 512 + r.val) :
    iblk m c 0 t (ix3 0 r k) = m ((c : Thread nD τ).loc main_arg0) (ix3 b R k) := by
  blk_ext [iblk, V, idx0 t]
theorem blk1 (c : Dev nD) (t : Fin cfg0.N) (k : Fin 1024) :
    iblk m c 1 t (ix3 0 0 k) = m ((c : Thread nD τ).loc main_arg1) (ix2 2 k) := by
  blk_simp [iblk, idx0 t]
  (try entry_read)
  pointwise
  blk_ext [idx0 t]
theorem blk2 (c : Dev nD) (t : Fin cfg0.N) (k : Fin 1024) (j : Fin 2816) (J : Fin 5632) (h : J.val = j.val) :
    iblk m c 2 t (ix3 0 k j) = m ((c : Thread nD τ).loc main_arg2) (ix3 2 k J) := by
  blk_simp [iblk, idx0 t]
  (try entry_read)
  pointwise
  blk_ext [idx0 t]
theorem blk3 (c : Dev nD) (t : Fin cfg0.N) (k : Fin 1024) (j : Fin 2816) (J : Fin 5632) (h : J.val = 2816 + j.val) :
    iblk m c 3 t (ix3 0 k j) = m ((c : Thread nD τ).loc main_arg2) (ix3 2 k J) := by
  blk_simp [iblk, idx0 t]
  (try entry_read)
  pointwise
  blk_ext [idx0 t]
theorem blk4 (c : Dev nD) (t : Fin cfg0.N) (q : Fin 3) (j : Fin 2816) (J : Fin 5632) (h : J.val = j.val) :
    iblk m c 4 t (ix3 0 q j) = m ((c : Thread nD τ).loc main_arg3) (ix3 2 q J) := by
  blk_ext [iblk, V, idx0 t]
theorem blk5 (c : Dev nD) (t : Fin cfg0.N) (q : Fin 3) (j : Fin 2816) (J : Fin 5632) (h : J.val = 2816 + j.val) :
    iblk m c 5 t (ix3 0 q j) = m ((c : Thread nD τ).loc main_arg3) (ix3 2 q J) := by
  blk_ext [iblk, V, idx0 t]
theorem blk6 (c : Dev nD) (t : Fin cfg0.N) (j : Fin 2816) (J : Fin 5632) (h : J.val = j.val) :
    iblk m c 6 t (ix3 0 0 j) = m ((c : Thread nD τ).loc main_arg4) (ix2 2 J) := by
  blk_simp [iblk, idx0 t]
  (try entry_read)
  pointwise
  blk_ext [idx0 t]
theorem blk7 (c : Dev nD) (t : Fin cfg0.N) (j : Fin 2816) (J : Fin 5632) (h : J.val = 2816 + j.val) :
    iblk m c 7 t (ix3 0 0 j) = m ((c : Thread nD τ).loc main_arg4) (ix2 2 J) := by
  blk_simp [iblk, idx0 t]
  (try entry_read)
  pointwise
  blk_ext [idx0 t]
theorem blk8 (c : Dev nD) (t : Fin cfg0.N) (j : Fin 2816) (n : Fin 1024) :
    iblk m c 8 t (ix3 0 j n) = m ((c : Thread nD τ).loc main_arg5) (ix3 2 j n) := by
  blk_simp [iblk, idx0 t]
  (try entry_read)
  pointwise
  blk_ext [idx0 t]
theorem blk9 (c : Dev nD) (t : Fin cfg0.N) (n : Fin 1024) :
    iblk m c 9 t (ix2 0 n) = m ((c : Thread nD τ).loc main_arg6) (ix1 n) := by
  blk_simp [iblk, idx0 t]
  (try entry_read)
  pointwise
  blk_ext [idx0 t]

/-- A row scaled by the reciprocal root of its mean square. -/
def RN (x : Fin 1024 → EReal) (k : Fin 1024) : EReal :=
  x k * Ideal.rsqrt (Ideal.div (∑ j : Fin 1024, x j * x j) (Ideal.ofBits .f32 0x44800000#32) + Ideal.ofBits .f32 0x358637BD#32)

/-- The bias plus the three taps, in the order they are added. -/
def TAPS (b c0 g0 c1 g1 c2 g2 : EReal) : EReal := b + c0 * g0 + c1 * g1 + c2 * g2

/-- The gated unit. -/
def GATE (g v : EReal) : EReal := g * Ideal.logistic g * v

theorem pay (x : FVec Ideal S1x512x1024 .f32) (bg bv : FVec Ideal S1x1x2816 .f32) (c0 c1 c2 e0 e1 e2 : FVec Ideal S1x1x2816 .f32)
    (g0 g1 g2 v0 v1 v2 : FVec Ideal S512x2816 .f32) (wd : FVec Ideal S1x2816x1024 .bf16) (r : Fin 512) (n : Fin 1024) :
    k0_pay3 (F := Ideal) (k0_pay6 x) (k0_pay10 bg c0 g0 c1 g1) (k0_pay11 bv e0 v0 e1 v1) c2 g2 e2 v2 wd (ix3 0 r n)
    = x (ix3 0 r n) + ∑ j : Fin 2816,
        GATE (TAPS (bg (ix3 0 0 j)) (c0 (ix3 0 0 j)) (g0 (ix2 r j)) (c1 (ix3 0 0 j)) (g1 (ix2 r j)) (c2 (ix3 0 0 j)) (g2 (ix2 r j)))
          (TAPS (bv (ix3 0 0 j)) (e0 (ix3 0 0 j)) (v0 (ix2 r j)) (e1 (ix3 0 0 j)) (v1 (ix2 r j)) (e2 (ix3 0 0 j)) (v2 (ix2 r j)))
        * wd (ix3 0 j n) := by
  pointwise [k0_pay3, k0_pay6, k0_pay10, k0_pay11]
  rfl

/-- The up-projection of the normalised row `t` of sequence `b`, at column `J`. -/
def UP (h : FVec Ideal S4x4096x1024 .f32) (nf : FVec Ideal S4x1024 .f32) (wu : FVec Ideal S4x1024x5632 .f32)
    (b : Fin 4) (t : Fin 4096) (J : Fin 5632) : EReal :=
  ∑ k : Fin 1024, RN (fun k => h (ix3 b t k)) k * nf (ix2 2 k) * wu (ix3 2 k J)

/-- The same `s` rows earlier, zero before the sequence begins. -/
def UPS (h : FVec Ideal S4x4096x1024 .f32) (nf : FVec Ideal S4x1024 .f32) (wu : FVec Ideal S4x1024x5632 .f32)
    (b : Fin 4) (s : ℕ) (t : Fin 4096) (J : Fin 5632) : EReal :=
  if hs : s ≤ t.val then UP h nf wu b ⟨t.val - s, Nat.lt_of_le_of_lt (Nat.sub_le _ _) t.isLt⟩ J else 0

theorem UPS_of (h : FVec Ideal S4x4096x1024 .f32) (nf : FVec Ideal S4x1024 .f32) (wu : FVec Ideal S4x1024x5632 .f32)
    (b : Fin 4) (s : ℕ) (t u : Fin 4096) (J : Fin 5632) (e : t.val = u.val + s) : UPS h nf wu b s t J = UP h nf wu b u J := by
  unfold UPS
  rw [dif_pos (by omega)]
  exact congrArg (fun q => UP h nf wu b q J) (Fin.ext (by show t.val - s = u.val; omega))

theorem UPS_zero (h : FVec Ideal S4x4096x1024 .f32) (nf : FVec Ideal S4x1024 .f32) (wu : FVec Ideal S4x1024x5632 .f32)
    (b : Fin 4) (s : ℕ) (t : Fin 4096) (J : Fin 5632) (e : t.val < s) : UPS h nf wu b s t J = 0 := by
  unfold UPS
  rw [dif_neg (by omega)]

theorem pay6 (x : FVec Ideal S1x512x1024 .f32) (g : FVec Ideal S1x1x1024 .f32) (w : FVec Ideal S1x1024x2816 .bf16) (r : Fin 512) (j : Fin 2816) :
    k0_pay8 (F := Ideal) x g w (ix2 r j) = ∑ k : Fin 1024, RN (fun k => x (ix3 0 r k)) k * g (ix3 0 0 k) * w (ix3 0 k j) := by
  pointwise [k0_pay8, k0_pay7, k0_pay6]
  rfl
theorem pay7 (x : FVec Ideal S1x512x1024 .f32) (g : FVec Ideal S1x1x1024 .f32) (w : FVec Ideal S1x1024x2816 .bf16) (r : Fin 512) (j : Fin 2816) :
    k0_pay9 (F := Ideal) x g w (ix2 r j) = ∑ k : Fin 1024, RN (fun k => x (ix3 0 r k)) k * g (ix3 0 0 k) * w (ix3 0 k j) := by
  pointwise [k0_pay9, k0_pay7, k0_pay6]
  rfl

abbrev UPM (c : Dev nD) := UP (m ((c : Thread nD τ).loc main_arg0)) (m ((c : Thread nD τ).loc main_arg1)) (m ((c : Thread nD τ).loc main_arg2))
abbrev UPSM (c : Dev nD) := UPS (m ((c : Thread nD τ).loc main_arg0)) (m ((c : Thread nD τ).loc main_arg1)) (m ((c : Thread nD τ).loc main_arg2))

theorem up6 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) :
    k0_pay8 (F := Ideal) (iblk m c 0 t) (iblk m c 1 t) (iblk m c 2 t) (ix2 r j) = UPM m c b R J := by
  refine (pay6 _ _ _ r j).trans ?_
  show _ = UP _ _ _ b R J
  unfold UP
  simp only [blk0 m c t r _ b R hb hR, blk1, blk2 m c t _ j J hJ]
theorem up7 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) :
    k0_pay9 (F := Ideal) (iblk m c 0 t) (iblk m c 1 t) (iblk m c 3 t) (ix2 r j) = UPM m c b R J := by
  refine (pay7 _ _ _ r j).trans ?_
  show _ = UP _ _ _ b R J
  unfold UP
  simp only [blk0 m c t r _ b R hb hR, blk1, blk3 m c t _ j J hJ]

/-- The box of the block's own rows in a scratch. -/
abbrev OWN : Rect S520x2816 := Rect.unit ![8, 0] ![512, 2816] inb_S520x2816_S512x2816_8_0
/-- The box of the rows kept from the block before. -/
abbrev KEPT : Rect S520x2816 := Rect.unit ![0, 0] ![8, 2816] inb_S520x2816_S8x2816_0_0

theorem emb_own (R : Fin 520) (r : Fin 512) (j : Fin 2816) (h : R.val = 8 + r.val) :
    OWN.emb (ix2 r j : (⟨2, ![512, 2816]⟩ : Shape).Idx) = (ix2 R j : S520x2816.Idx) := by
  blk_ext []
theorem emb_kept (R : Fin 520) (r : Fin 8) (j : Fin 2816) (h : R.val = r.val) :
    KEPT.emb (ix2 r j : (⟨2, ![8, 2816]⟩ : Shape).Idx) = (ix2 R j : S520x2816.Idx) := by
  blk_ext []

theorem canon_at {S : Shape} {e : EltTy} (r : Rect S) (w : r.shape.Idx → Elt Ideal e) (L : List (View.Piece (Elt Ideal) S e))
    (y : S.Idx) (x : r.shape.Idx) (h : r.emb x = y) : View.canon (Val := Elt Ideal) (⟨r, w⟩ :: L) y = w x := by
  subst h
  exact View.canon_cons_emb r w L x

end Cert.FfnL2Ideal.Hand

end
-- ==== Proof.FfnL2Taps.lean ====
module

public import proofs.«01_k».proof.Proof.Gen.FfnL2Ideal.Value
public import proofs.«01_k».proof.Proof.Gen.FfnL2RefIdeal.Read
public import Idealize.ShloMosaic.Lib.Pipeline.ValueKit
public import Idealize.ShloMosaic.Lib.WritesUnit
public import proofs.«01_k».proof.Proof.FfnL2Parts

@[expose] public section

set_option maxRecDepth 16384

noncomputable section

namespace Cert.FfnL2Ideal.Hand

open Cert.FfnL2Ideal Cert.FfnL2Ideal.Gen Idealize.ShloMosaic Idealize.ShloMosaic.TcCoe Idealize.SL.Sem
open Idealize.ShloMosaic.Pipeline (Dat)

variable (m : (ℓ : Loc nD τ sig) → Buf (Elt Ideal) ℓ)

theorem read_at {S : Shape} {e : EltTy} {sig : RefSig} {κ : Kind} {sp : Space} (v : View sig κ sp S e) (r : Rect S) (w : r.shape.Idx → Elt Ideal e)
    (L : List (View.Piece (Elt Ideal) S e)) (B : LoadRect S) (y : B.shape.Idx) (x : r.shape.Idx) (h : r.emb x = B.idx y) :
    v.readCov (Val := Elt Ideal) (⟨r, w⟩ :: L) B y = w x := by
  rw [View.readCov_eq_canon']
  exact canon_at r w L _ x h

theorem read_next {S : Shape} {e : EltTy} {sig : RefSig} {κ : Kind} {sp : Space} (v : View sig κ sp S e) (r r' : Rect S) (w : r.shape.Idx → Elt Ideal e)
    (w' : r'.shape.Idx → Elt Ideal e)
    (L : List (View.Piece (Elt Ideal) S e)) (B : LoadRect S) (y : B.shape.Idx) (x : r'.shape.Idx) (hn : B.idx y ∉ r.set) (h : r'.emb x = B.idx y) :
    v.readCov (Val := Elt Ideal) (⟨r, w⟩ :: ⟨r', w'⟩ :: L) B y = w' x := by
  rw [View.readCov_eq_canon']
  show View.canon _ (B.idx y) = _
  rw [View.canon_cons_of_not_mem _ _ hn]
  exact canon_at r' w' L _ x h

/-- The box of the rows saved for the next block. -/
abbrev SAVED : Rect S520x2816 := Rect.unit ![512, 0] ![8, 2816] inb_S520x2816_S8x2816_512_0
abbrev TAP6 : Rect S520x2816 := Rect.unit ![6, 0] ![512, 2816] inb_S520x2816_S512x2816_6_0
abbrev TAP7 : Rect S520x2816 := Rect.unit ![7, 0] ![512, 2816] inb_S520x2816_S512x2816_7_0

theorem emb_saved (r : Fin 8) (x : Fin 512) (j : Fin 2816) (h : x.val = 504 + r.val) :
    OWN.emb (ix2 x j : (⟨2, ![512, 2816]⟩ : Shape).Idx) = SAVED.emb (ix2 r j : (⟨2, ![8, 2816]⟩ : Shape).Idx) := by
  blk_ext []
theorem emb_6 (r x : Fin 512) (j : Fin 2816) (h : 8 + x.val = 6 + r.val) :
    OWN.emb (ix2 x j : (⟨2, ![512, 2816]⟩ : Shape).Idx) = TAP6.emb (ix2 r j : (⟨2, ![512, 2816]⟩ : Shape).Idx) := by
  blk_ext []
theorem emb_7 (r x : Fin 512) (j : Fin 2816) (h : 8 + x.val = 7 + r.val) :
    OWN.emb (ix2 x j : (⟨2, ![512, 2816]⟩ : Shape).Idx) = TAP7.emb (ix2 r j : (⟨2, ![512, 2816]⟩ : Shape).Idx) := by
  blk_ext []
theorem emb_6k (r : Fin 512) (x : Fin 8) (j : Fin 2816) (h : x.val = 6 + r.val) :
    KEPT.emb (ix2 x j : (⟨2, ![8, 2816]⟩ : Shape).Idx) = TAP6.emb (ix2 r j : (⟨2, ![512, 2816]⟩ : Shape).Idx) := by
  blk_ext []
theorem emb_7k (r : Fin 512) (x : Fin 8) (j : Fin 2816) (h : x.val = 7 + r.val) :
    KEPT.emb (ix2 x j : (⟨2, ![8, 2816]⟩ : Shape).Idx) = TAP7.emb (ix2 r j : (⟨2, ![512, 2816]⟩ : Shape).Idx) := by
  blk_ext []

theorem out_6 (r : Fin 512) (j : Fin 2816) (h : r.val < 2) : TAP6.emb (ix2 r j : (⟨2, ![512, 2816]⟩ : Shape).Idx) ∉ OWN.set := by
  rw [Rect.mem_set_unit]
  intro H
  have h0 : 8 ≤ 6 + 1 * r.val := (H 0).1
  omega
theorem out_7 (r : Fin 512) (j : Fin 2816) (h : r.val < 1) : TAP7.emb (ix2 r j : (⟨2, ![512, 2816]⟩ : Shape).Idx) ∉ OWN.set := by
  rw [Rect.mem_set_unit]
  intro H
  have h0 : 8 ≤ 7 + 1 * r.val := (H 0).1
  omega

theorem pay10 (z : FVec Ideal S8x2816 .f32) (r : Fin 8) (j : Fin 2816) : k0_pay1 (F := Ideal) z (ix2 r j) = z (ix2 r j) := by
  pointwise [k0_pay1]
theorem pay11 (z : FVec Ideal S8x2816 .f32) (r : Fin 8) (j : Fin 2816) : k0_pay2 (F := Ideal) z (ix2 r j) = z (ix2 r j) := by
  pointwise [k0_pay2]

/-- After any point the first rows of the gate's scratch hold the last rows of the block's up-projection. -/
theorem keep0 (c : Dev nD) (t : Fin cfg0.N) (R : Fin 520) (r : Fin 8) (j : Fin 2816) (b : Fin 4) (T : Fin 4096) (J : Fin 5632)
    (hR : R.val = r.val) (hb : b.val = t.val / 8) (hT : T.val = t.val % 8 * 512 + (504 + r.val)) (hJ : J.val = j.val) :
    (outsAt0 m c t.val t.isLt).2.1 (ix2 R j) = UPM m c b T J := by
  have hx : 504 + r.val < 512 := by omega
  by_cases h0 : t.val % 8 = 0
  · rw [outsAt0_A m c t h0]
    frame_out
    refine (canon_at KEPT _ _ _ (ix2 r j) (emb_kept R r j hR)).trans ((pay10 _ r j).trans ?_)
    refine (read_at _ OWN _ _ _ _ (ix2 ⟨504 + r.val, hx⟩ j) (emb_saved r ⟨504 + r.val, hx⟩ j rfl)).trans ?_
    exact up6 m c t ⟨504 + r.val, hx⟩ j b T J hb hT hJ
  · rw [outsAt0_B m c t h0]
    frame_out
    refine (canon_at KEPT _ _ _ (ix2 r j) (emb_kept R r j hR)).trans ((pay10 _ r j).trans ?_)
    refine (read_at _ OWN _ _ _ _ (ix2 ⟨504 + r.val, hx⟩ j) (emb_saved r ⟨504 + r.val, hx⟩ j rfl)).trans ?_
    exact up6 m c t ⟨504 + r.val, hx⟩ j b T J hb hT hJ

/-- The same for the value's scratch. -/
theorem keep1 (c : Dev nD) (t : Fin cfg0.N) (R : Fin 520) (r : Fin 8) (j : Fin 2816) (b : Fin 4) (T : Fin 4096) (J : Fin 5632)
    (hR : R.val = r.val) (hb : b.val = t.val / 8) (hT : T.val = t.val % 8 * 512 + (504 + r.val)) (hJ : J.val = 2816 + j.val) :
    (outsAt0 m c t.val t.isLt).2.2 (ix2 R j) = UPM m c b T J := by
  have hx : 504 + r.val < 512 := by omega
  by_cases h0 : t.val % 8 = 0
  · rw [outsAt0_A m c t h0]
    frame_out
    refine (canon_at KEPT _ _ _ (ix2 r j) (emb_kept R r j hR)).trans ((pay11 _ r j).trans ?_)
    refine (read_at _ OWN _ _ _ _ (ix2 ⟨504 + r.val, hx⟩ j) (emb_saved r ⟨504 + r.val, hx⟩ j rfl)).trans ?_
    exact up7 m c t ⟨504 + r.val, hx⟩ j b T J hb hT hJ
  · rw [outsAt0_B m c t h0]
    frame_out
    refine (canon_at KEPT _ _ _ (ix2 r j) (emb_kept R r j hR)).trans ((pay11 _ r j).trans ?_)
    refine (read_at _ OWN _ _ _ _ (ix2 ⟨504 + r.val, hx⟩ j) (emb_saved r ⟨504 + r.val, hx⟩ j rfl)).trans ?_
    exact up7 m c t ⟨504 + r.val, hx⟩ j b T J hb hT hJ

theorem held_at {S : Shape} {e : EltTy} {sig : RefSig} {κ : Kind} {sp : Space} (v : View sig κ sp S e) (f : v.ty.Contents (Elt Ideal)) (r B : Rect S)
    (w : r.shape.Idx → Elt Ideal e) (L : List (View.Piece (Elt Ideal) S e)) (y : B.shape.Idx) (x : r.shape.Idx) (h : r.emb x = B.emb y) :
    View.ld (v.read (Elt Ideal) (v.writes (Elt Ideal) f (⟨r, w⟩ :: L))) B y = w x := by
  show v.read (Elt Ideal) (v.writes (Elt Ideal) f (⟨r, w⟩ :: L)) (B.emb y) = w x
  rw [← h]
  exact View.read_writes_cons_emb v f r w L x

theorem held_out {S : Shape} {e : EltTy} {sig : RefSig} {κ : Kind} {sp : Space} (v : View sig κ sp S e) (f : v.ty.Contents (Elt Ideal)) (r B : Rect S)
    (w : r.shape.Idx → Elt Ideal e) (y : B.shape.Idx) (X : S.Idx → Elt Ideal e) (hf : v.read (Elt Ideal) f = X) (h : B.emb y ∉ r.set) :
    View.ld (v.read (Elt Ideal) (v.writes (Elt Ideal) f [⟨r, w⟩])) B y = X (B.emb y) := by
  have hy : B.emb y ∉ Finset.univ.map r.emb := by rwa [Rect.map_emb_univ]
  show v.read (Elt Ideal) (v.writes (Elt Ideal) f [⟨r, w⟩]) (B.emb y) = _
  rw [View.writes_cons, View.read_slice_write_of_not_mem r _ _ _ hy, View.writes_nil, hf]

theorem row_6 (r : Fin 512) (x : Fin 520) (j : Fin 2816) (h : x.val = 6 + r.val) :
    TAP6.emb (ix2 r j : (⟨2, ![512, 2816]⟩ : Shape).Idx) = (ix2 x j : S520x2816.Idx) := by
  blk_ext []
theorem row_7 (r : Fin 512) (x : Fin 520) (j : Fin 2816) (h : x.val = 7 + r.val) :
    TAP7.emb (ix2 r j : (⟨2, ![512, 2816]⟩ : Shape).Idx) = (ix2 x j : S520x2816.Idx) := by
  blk_ext []

theorem fill2 (r : Fin 8) (j : Fin 2816) : k0_pay4 (F := Ideal) (ix2 r j) = 0 := by
  pointwise [k0_pay4]
theorem fill3 (r : Fin 8) (j : Fin 2816) : k0_pay5 (F := Ideal) (ix2 r j) = 0 := by
  pointwise [k0_pay5]

/-- The gate's rows 1 earlier at the first block of a sequence. -/
theorem gate_first1 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) (h0 : t.val % 8 = 0) :
    (View.whole cc0_scratch0).readCov (Val := Elt Ideal) [⟨OWN, k0_pay8 (F := Ideal) (iblk m c 0 t) (iblk m c 1 t) (iblk m c 2 t)⟩, ⟨KEPT, k0_pay4 (F := Ideal)⟩] TAP7.toLoadRect (ix2 r j) = UPSM m c b 1 R J := by
  by_cases h : r.val < 1
  · have hx : 7 + r.val < 8 := by omega
    refine (read_next _ OWN KEPT _ _ _ _ _ (ix2 ⟨7 + r.val, hx⟩ j) (out_7 r j h) (emb_7k r ⟨7 + r.val, hx⟩ j rfl)).trans ?_
    exact (fill2 _ j).trans (UPS_zero _ _ _ b 1 R J (by omega)).symm
  · have hx : r.val - 1 < 512 := by omega
    have hR' : R.val - 1 < 4096 := by omega
    refine (read_at _ OWN _ _ _ _ (ix2 ⟨r.val - 1, hx⟩ j) (emb_7 r ⟨r.val - 1, hx⟩ j (by show 8 + (r.val - 1) = 7 + r.val; omega))).trans ?_
    refine (up6 m c t ⟨r.val - 1, hx⟩ j b ⟨R.val - 1, hR'⟩ J hb (by show R.val - 1 = t.val % 8 * 512 + (r.val - 1); omega) hJ).trans ?_
    exact (UPS_of _ _ _ b 1 R ⟨R.val - 1, hR'⟩ J (by show R.val = R.val - 1 + 1; omega)).symm

/-- The gate's rows 1 earlier at a later block. -/
theorem gate_later1 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) (h0 : ¬ t.val % 8 = 0) (f : (View.whole cc0_scratch0).ty.Contents (Elt Ideal))
    (hf : (View.whole cc0_scratch0).read (Elt Ideal) f = (outsAt0 m c (t.val - 1) (Nat.lt_of_le_of_lt (Nat.sub_le _ _) t.isLt)).2.1) :
    View.ld ((View.whole cc0_scratch0).read (Elt Ideal) ((View.whole cc0_scratch0).writes (Elt Ideal) f [⟨OWN, k0_pay8 (F := Ideal) (iblk m c 0 t) (iblk m c 1 t) (iblk m c 2 t)⟩])) TAP7 (ix2 r j) = UPSM m c b 1 R J := by
  have hR' : R.val - 1 < 4096 := by omega
  refine Eq.trans ?_ (UPS_of _ _ _ b 1 R ⟨R.val - 1, hR'⟩ J (by show R.val = R.val - 1 + 1; omega)).symm
  by_cases h : r.val < 1
  · have hx : 7 + r.val < 520 := by omega
    have hy : 7 + r.val < 8 := by omega
    refine (held_out _ f OWN TAP7 _ _ _ hf (out_7 r j h)).trans ?_
    refine (congrArg _ (row_7 r ⟨7 + r.val, hx⟩ j rfl)).trans ?_
    exact keep0 m c ⟨t.val - 1, Nat.lt_of_le_of_lt (Nat.sub_le _ _) t.isLt⟩ ⟨7 + r.val, hx⟩ ⟨7 + r.val, hy⟩ j b ⟨R.val - 1, hR'⟩ J rfl
      (by show b.val = (t.val - 1) / 8; omega) (by show R.val - 1 = (t.val - 1) % 8 * 512 + (504 + (7 + r.val)); omega) hJ
  · have hx : r.val - 1 < 512 := by omega
    refine (held_at _ f OWN TAP7 _ _ _ (ix2 ⟨r.val - 1, hx⟩ j) (emb_7 r ⟨r.val - 1, hx⟩ j (by show 8 + (r.val - 1) = 7 + r.val; omega))).trans ?_
    exact up6 m c t ⟨r.val - 1, hx⟩ j b ⟨R.val - 1, hR'⟩ J hb (by show R.val - 1 = t.val % 8 * 512 + (r.val - 1); omega) hJ

/-- The gate's rows 2 earlier at the first block of a sequence. -/
theorem gate_first2 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) (h0 : t.val % 8 = 0) :
    (View.whole cc0_scratch0).readCov (Val := Elt Ideal) [⟨OWN, k0_pay8 (F := Ideal) (iblk m c 0 t) (iblk m c 1 t) (iblk m c 2 t)⟩, ⟨KEPT, k0_pay4 (F := Ideal)⟩] TAP6.toLoadRect (ix2 r j) = UPSM m c b 2 R J := by
  by_cases h : r.val < 2
  · have hx : 6 + r.val < 8 := by omega
    refine (read_next _ OWN KEPT _ _ _ _ _ (ix2 ⟨6 + r.val, hx⟩ j) (out_6 r j h) (emb_6k r ⟨6 + r.val, hx⟩ j rfl)).trans ?_
    exact (fill2 _ j).trans (UPS_zero _ _ _ b 2 R J (by omega)).symm
  · have hx : r.val - 2 < 512 := by omega
    have hR' : R.val - 2 < 4096 := by omega
    refine (read_at _ OWN _ _ _ _ (ix2 ⟨r.val - 2, hx⟩ j) (emb_6 r ⟨r.val - 2, hx⟩ j (by show 8 + (r.val - 2) = 6 + r.val; omega))).trans ?_
    refine (up6 m c t ⟨r.val - 2, hx⟩ j b ⟨R.val - 2, hR'⟩ J hb (by show R.val - 2 = t.val % 8 * 512 + (r.val - 2); omega) hJ).trans ?_
    exact (UPS_of _ _ _ b 2 R ⟨R.val - 2, hR'⟩ J (by show R.val = R.val - 2 + 2; omega)).symm

/-- The gate's rows 2 earlier at a later block. -/
theorem gate_later2 (c : Dev nD) (t : Fin cfg0.N) (r : Fin 512) (j : Fin 2816) (b : Fin 4) (R : Fin 4096) (J : Fin 5632)
    (hb : b.val = t.val / 8) (hR : R.val = t.val % 8 * 512 + r.val) (hJ : J.val = j.val) (h0 : ¬ t.val % 8 = 0) (f : (View.whole cc0_scratch0).ty.Contents (Elt Ideal))
    (hf : (View.whole cc0_scratch0).read (Elt Ideal) f = (outsAt0 m c (t.val - 1) (Nat.lt_of_le_of_lt (Nat.sub_le _ _) t.isLt)).2.1) :
    View.ld ((View.whole cc0_scratch0).read (Elt Ideal) ((View.whole cc0_scratch0).writes (Elt Ideal) f [⟨OWN, k0_pay8 (F := Ideal) (iblk m c 0 t) (iblk m c 1 t) (iblk m c 2 t)⟩])) TAP6 (ix2 r j) = UPSM m c b 2 R J := by
  have hR' : R.val - 2 < 4096 := by omega
  refine Eq.trans ?_ (UPS_of _ _ _ b 2 R ⟨R.val - 2, hR'⟩ J (by show R.val = R.val - 2 + 2; omega)).symm
  by_cases h : r.val < 2
  · have hx : 6 + r.val < 520 := by omega
    have hy : 6 + r.val < 8 := by omega
    refine (held_out _ f OWN TAP6 _ _ _ hf (out_6 r j h)).trans ?_
    refine (congrArg _ (row_6 r ⟨6 + r.val, hx⟩ j rfl)).trans ?_
    exact keep0 m c ⟨t.val - 1, Nat.lt_of_le_of_lt (Nat.sub_le _ _) t.isLt⟩ ⟨6 + r.val, hx⟩ ⟨6 + r.val, hy⟩ j b ⟨R.val - 2, hR'⟩ J rfl
      (by show b.val = (t.val - 1) / 8; omega) (by show R.val - 2 = (t.val - 1) % 8 * 512 + (504 + (6 + r.val)); omega) hJ
  · have hx : r.val - 2 < 512 := by omega
    refine (held_at _ f OWN TAP6 _ _ _ (ix2 ⟨r.val - 2, hx⟩ j) (emb_6 r ⟨r.val - 2, hx⟩ j (by show 8 + (r.val - 2) = 6 + r.val; omega))).trans ?_
    exact up6 m c t ⟨r.val - 2, hx⟩ j b ⟨R.val - 2, hR'⟩ J hb (by show R.val - 2 = t.val % 8 * 512 + (r.val - 2); omega) hJ

/-- The value's rows 1 earlier at the first block of a sequence. -/
theorem value_first1 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) (h0 : t.val % 8 = 0) :
    (View.whole cc0_scratch1).readCov (Val := Elt Ideal) [⟨OWN, k0_pay9 (F := Ideal) (iblk m c 0 t) (iblk m c 1 t) (iblk m c 3 t)⟩, ⟨KEPT, k0_pay5 (F := Ideal)⟩] TAP7.toLoadRect (ix2 r j) = UPSM m c b 1 R J := by
  by_cases h : r.val < 1
  · have hx : 7 + r.val < 8 := by omega
    refine (read_next _ OWN KEPT _ _ _ _ _ (ix2 ⟨7 + r.val, hx⟩ j) (out_7 r j h) (emb_7k r ⟨7 + r.val, hx⟩ j rfl)).trans ?_
    exact (fill3 _ j).trans (UPS_zero _ _ _ b 1 R J (by omega)).symm
  · have hx : r.val - 1 < 512 := by omega
    have hR' : R.val - 1 < 4096 := by omega
    refine (read_at _ OWN _ _ _ _ (ix2 ⟨r.val - 1, hx⟩ j) (emb_7 r ⟨r.val - 1, hx⟩ j (by show 8 + (r.val - 1) = 7 + r.val; omega))).trans ?_
    refine (up7 m c t ⟨r.val - 1, hx⟩ j b ⟨R.val - 1, hR'⟩ J hb (by show R.val - 1 = t.val % 8 * 512 + (r.val - 1); omega) hJ).trans ?_
    exact (UPS_of _ _ _ b 1 R ⟨R.val - 1, hR'⟩ J (by show R.val = R.val - 1 + 1; omega)).symm

/-- The value's rows 1 earlier at a later block. -/
theorem value_later1 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) (h0 : ¬ t.val % 8 = 0) (f : (View.whole cc0_scratch1).ty.Contents (Elt Ideal))
    (hf : (View.whole cc0_scratch1).read (Elt Ideal) f = (outsAt0 m c (t.val - 1) (Nat.lt_of_le_of_lt (Nat.sub_le _ _) t.isLt)).2.2) :
    View.ld ((View.whole cc0_scratch1).read (Elt Ideal) ((View.whole cc0_scratch1).writes (Elt Ideal) f [⟨OWN, k0_pay9 (F := Ideal) (iblk m c 0 t) (iblk m c 1 t) (iblk m c 3 t)⟩])) TAP7 (ix2 r j) = UPSM m c b 1 R J := by
  have hR' : R.val - 1 < 4096 := by omega
  refine Eq.trans ?_ (UPS_of _ _ _ b 1 R ⟨R.val - 1, hR'⟩ J (by show R.val = R.val - 1 + 1; omega)).symm
  by_cases h : r.val < 1
  · have hx : 7 + r.val < 520 := by omega
    have hy : 7 + r.val < 8 := by omega
    refine (held_out _ f OWN TAP7 _ _ _ hf (out_7 r j h)).trans ?_
    refine (congrArg _ (row_7 r ⟨7 + r.val, hx⟩ j rfl)).trans ?_
    exact keep1 m c ⟨t.val - 1, Nat.lt_of_le_of_lt (Nat.sub_le _ _) t.isLt⟩ ⟨7 + r.val, hx⟩ ⟨7 + r.val, hy⟩ j b ⟨R.val - 1, hR'⟩ J rfl
      (by show b.val = (t.val - 1) / 8; omega) (by show R.val - 1 = (t.val - 1) % 8 * 512 + (504 + (7 + r.val)); omega) hJ
  · have hx : r.val - 1 < 512 := by omega
    refine (held_at _ f OWN TAP7 _ _ _ (ix2 ⟨r.val - 1, hx⟩ j) (emb_7 r ⟨r.val - 1, hx⟩ j (by show 8 + (r.val - 1) = 7 + r.val; omega))).trans ?_
    exact up7 m c t ⟨r.val - 1, hx⟩ j b ⟨R.val - 1, hR'⟩ J hb (by show R.val - 1 = t.val % 8 * 512 + (r.val - 1); omega) hJ

/-- The value's rows 2 earlier at the first block of a sequence. -/
theorem value_first2 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) (h0 : t.val % 8 = 0) :
    (View.whole cc0_scratch1).readCov (Val := Elt Ideal) [⟨OWN, k0_pay9 (F := Ideal) (iblk m c 0 t) (iblk m c 1 t) (iblk m c 3 t)⟩, ⟨KEPT, k0_pay5 (F := Ideal)⟩] TAP6.toLoadRect (ix2 r j) = UPSM m c b 2 R J := by
  by_cases h : r.val < 2
  · have hx : 6 + r.val < 8 := by omega
    refine (read_next _ OWN KEPT _ _ _ _ _ (ix2 ⟨6 + r.val, hx⟩ j) (out_6 r j h) (emb_6k r ⟨6 + r.val, hx⟩ j rfl)).trans ?_
    exact (fill3 _ j).trans (UPS_zero _ _ _ b 2 R J (by omega)).symm
  · have hx : r.val - 2 < 512 := by omega
    have hR' : R.val - 2 < 4096 := by omega
    refine (read_at _ OWN _ _ _ _ (ix2 ⟨r.val - 2, hx⟩ j) (emb_6 r ⟨r.val - 2, hx⟩ j (by show 8 + (r.val - 2) = 6 + r.val; omega))).trans ?_
    refine (up7 m c t ⟨r.val - 2, hx⟩ j b ⟨R.val - 2, hR'⟩ J hb (by show R.val - 2 = t.val % 8 * 512 + (r.val - 2); omega) hJ).trans ?_
    exact (UPS_of _ _ _ b 2 R ⟨R.val - 2, hR'⟩ J (by show R.val = R.val - 2 + 2; omega)).symm

/-- The value's rows 2 earlier at a later block. -/
theorem value_later2 (c : Dev nD) (t : Fin cfg0.N) (r : Fin 512) (j : Fin 2816) (b : Fin 4) (R : Fin 4096) (J : Fin 5632)
    (hb : b.val = t.val / 8) (hR : R.val = t.val % 8 * 512 + r.val) (hJ : J.val = 2816 + j.val) (h0 : ¬ t.val % 8 = 0) (f : (View.whole cc0_scratch1).ty.Contents (Elt Ideal))
    (hf : (View.whole cc0_scratch1).read (Elt Ideal) f = (outsAt0 m c (t.val - 1) (Nat.lt_of_le_of_lt (Nat.sub_le _ _) t.isLt)).2.2) :
    View.ld ((View.whole cc0_scratch1).read (Elt Ideal) ((View.whole cc0_scratch1).writes (Elt Ideal) f [⟨OWN, k0_pay9 (F := Ideal) (iblk m c 0 t) (iblk m c 1 t) (iblk m c 3 t)⟩])) TAP6 (ix2 r j) = UPSM m c b 2 R J := by
  have hR' : R.val - 2 < 4096 := by omega
  refine Eq.trans ?_ (UPS_of _ _ _ b 2 R ⟨R.val - 2, hR'⟩ J (by show R.val = R.val - 2 + 2; omega)).symm
  by_cases h : r.val < 2
  · have hx : 6 + r.val < 520 := by omega
    have hy : 6 + r.val < 8 := by omega
    refine (held_out _ f OWN TAP6 _ _ _ hf (out_6 r j h)).trans ?_
    refine (congrArg _ (row_6 r ⟨6 + r.val, hx⟩ j rfl)).trans ?_
    exact keep1 m c ⟨t.val - 1, Nat.lt_of_le_of_lt (Nat.sub_le _ _) t.isLt⟩ ⟨6 + r.val, hx⟩ ⟨6 + r.val, hy⟩ j b ⟨R.val - 2, hR'⟩ J rfl
      (by show b.val = (t.val - 1) / 8; omega) (by show R.val - 2 = (t.val - 1) % 8 * 512 + (504 + (6 + r.val)); omega) hJ
  · have hx : r.val - 2 < 512 := by omega
    refine (held_at _ f OWN TAP6 _ _ _ (ix2 ⟨r.val - 2, hx⟩ j) (emb_6 r ⟨r.val - 2, hx⟩ j (by show 8 + (r.val - 2) = 6 + r.val; omega))).trans ?_
    exact up7 m c t ⟨r.val - 2, hx⟩ j b ⟨R.val - 2, hR'⟩ J hb (by show R.val - 2 = t.val % 8 * 512 + (r.val - 2); omega) hJ

end Cert.FfnL2Ideal.Hand

end
-- ==== Proof.FfnL2Kernel.lean ====
module

public import proofs.«01_k».proof.Proof.Gen.FfnL2Ideal.Value
public import proofs.«01_k».proof.Proof.Gen.FfnL2RefIdeal.Read
public import Idealize.ShloMosaic.Lib.Pipeline.ValueKit
public import Idealize.ShloMosaic.Lib.WritesUnit
public import proofs.«01_k».proof.Proof.FfnL2Taps

@[expose] public section

set_option maxRecDepth 16384

noncomputable section

namespace Cert.FfnL2Ideal.Hand

open Cert.FfnL2Ideal Cert.FfnL2Ideal.Gen Idealize.ShloMosaic Idealize.ShloMosaic.TcCoe Idealize.SL.Sem
open Idealize.ShloMosaic.Pipeline (Dat)

variable (m : (ℓ : Loc nD τ sig) → Buf (Elt Ideal) ℓ)

theorem ld_zero (X : FVec Ideal S1x3x2816 .f32) (j : Fin 2816) :
    View.ld (Val := Elt Ideal) (e' := .f32) X (Rect.unit ![0, 0, 0] ![1, 1, 2816] inb_S1x3x2816_S1x1x2816_0_0_0) (ix3 0 0 j) = X (ix3 0 0 j) :=
  congrArg X (funext fun a => Fin.ext (match a with
    | ⟨0, _⟩ => rfl
    | ⟨1, _⟩ => rfl
    | ⟨2, _⟩ => show 0 + 1 * j.val = j.val by omega))

theorem ld_one (X : FVec Ideal S1x3x2816 .f32) (j : Fin 2816) :
    View.ld (Val := Elt Ideal) (e' := .f32) X (Rect.unit ![0, 1, 0] ![1, 1, 2816] inb_S1x3x2816_S1x1x2816_0_1_0) (ix3 0 0 j) = X (ix3 0 1 j) :=
  congrArg X (funext fun a => Fin.ext (match a with
    | ⟨0, _⟩ => rfl
    | ⟨1, _⟩ => rfl
    | ⟨2, _⟩ => show 0 + 1 * j.val = j.val by omega))

theorem ld_two (X : FVec Ideal S1x3x2816 .f32) (j : Fin 2816) :
    View.ld (Val := Elt Ideal) (e' := .f32) X (Rect.unit ![0, 2, 0] ![1, 1, 2816] inb_S1x3x2816_S1x1x2816_0_2_0) (ix3 0 0 j) = X (ix3 0 2 j) :=
  congrArg X (funext fun a => Fin.ext (match a with
    | ⟨0, _⟩ => rfl
    | ⟨1, _⟩ => rfl
    | ⟨2, _⟩ => show 0 + 1 * j.val = j.val by omega))

/-- The convolved up-projection of row `t` of sequence `b` at column `J`. -/
def CV (h : FVec Ideal S4x4096x1024 .f32) (nf : FVec Ideal S4x1024 .f32) (wu : FVec Ideal S4x1024x5632 .f32)
    (cw : FVec Ideal S4x3x5632 .f32) (cb : FVec Ideal S4x5632 .f32) (b : Fin 4) (t : Fin 4096) (J : Fin 5632) : EReal :=
  TAPS (cb (ix2 2 J)) (cw (ix3 2 0 J)) (UPS h nf wu b 2 t J) (cw (ix3 2 1 J)) (UPS h nf wu b 1 t J) (cw (ix3 2 2 J)) (UP h nf wu b t J)

/-- The layer's output row. -/
def RES (h : FVec Ideal S4x4096x1024 .f32) (nf : FVec Ideal S4x1024 .f32) (wu : FVec Ideal S4x1024x5632 .f32)
    (cw : FVec Ideal S4x3x5632 .f32) (cb : FVec Ideal S4x5632 .f32) (wd : FVec Ideal S4x2816x1024 .f32) (b : Fin 4) (t : Fin 4096) (n : Fin 1024) : EReal :=
  h (ix3 b t n) + ∑ j : Fin 2816, GATE (CV h nf wu cw cb b t ⟨j.val, by omega⟩) (CV h nf wu cw cb b t ⟨2816 + j.val, by omega⟩) * wd (ix3 2 j n)

/-- The whole output. -/
def GA (h : FVec Ideal S4x4096x1024 .f32) (nf : FVec Ideal S4x1024 .f32) (wu : FVec Ideal S4x1024x5632 .f32)
    (cw : FVec Ideal S4x3x5632 .f32) (cb : FVec Ideal S4x5632 .f32) (wd : FVec Ideal S4x2816x1024 .f32) (nl : FVec Ideal S1024 .f32) :
    FVec Ideal S4x4096x1024 .f32 := fun i => RES h nf wu cw cb wd (i 0) (i 1) (i 2)

theorem taps_congr {b b' c0 c0' g0 g0' c1 c1' g1 g1' c2 c2' g2 g2' : EReal} (hb : b = b') (h0 : c0 = c0') (k0 : g0 = g0') (h1 : c1 = c1')
    (k1 : g1 = g1') (h2 : c2 = c2') (k2 : g2 = g2') : TAPS b c0 g0 c1 g1 c2 g2 = TAPS b' c0' g0' c1' g1' c2' g2' := by
  rw [hb, h0, k0, h1, k1, h2, k2]

theorem point (c : Dev nD) (t : Fin cfg0.N) (r : Fin 512) (n : Fin 1024) (b : Fin 4) (R : Fin 4096)
    (hb : b.val = t.val / 8) (hR : R.val = t.val % 8 * 512 + r.val) :
    (outsAt0 m c t.val t.isLt).1 (ix3 0 r n) = RES (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b R n := by
  by_cases h0 : t.val % 8 = 0
  · rw [outsAt0_A m c t h0]
    frame_out
    refine (pay _ _ _ _ _ _ _ _ _ _ _ _ _ _ _ _ r n).trans ?_
    refine congrArg₂ (· + ·) (blk0 m c t r n b R hb hR)
      (Finset.sum_congr rfl fun j _ => congrArg₂ (· * ·) (congrArg₂ GATE ?_ ?_) (blk8 m c t j n))
    · refine taps_congr (blk6 m c t j _ rfl) ((ld_zero _ j).trans (blk4 m c t 0 j _ rfl)) (gate_first2 m c t r j b R _ hb hR rfl h0) ((ld_one _ j).trans (blk4 m c t 1 j _ rfl))
        (gate_first1 m c t r j b R _ hb hR rfl h0) ((ld_two _ j).trans (blk4 m c t 2 j _ rfl)) ?_
      exact (read_at _ OWN _ _ _ _ (ix2 r j) rfl).trans (up6 m c t r j b R _ hb hR rfl)
    · refine taps_congr (blk7 m c t j _ rfl) ((ld_zero _ j).trans (blk5 m c t 0 j _ rfl)) (value_first2 m c t r j b R _ hb hR rfl h0) ((ld_one _ j).trans (blk5 m c t 1 j _ rfl))
        (value_first1 m c t r j b R _ hb hR rfl h0) ((ld_two _ j).trans (blk5 m c t 2 j _ rfl)) ?_
      exact (read_at _ OWN _ _ _ _ (ix2 r j) rfl).trans (up7 m c t r j b R _ hb hR rfl)
  · rw [outsAt0_B m c t h0]
    frame_out
    refine (pay _ _ _ _ _ _ _ _ _ _ _ _ _ _ _ _ r n).trans ?_
    refine congrArg₂ (· + ·) (blk0 m c t r n b R hb hR)
      (Finset.sum_congr rfl fun j _ => congrArg₂ (· * ·) (congrArg₂ GATE ?_ ?_) (blk8 m c t j n))
    · refine taps_congr (blk6 m c t j _ rfl) ((ld_zero _ j).trans (blk4 m c t 0 j _ rfl)) (gate_later2 m c t r j b R _ hb hR rfl h0 _ ((Memref.isWhole_whole _ : scM0_0.IsWhole).read_unread _)) ((ld_one _ j).trans (blk4 m c t 1 j _ rfl))
        (gate_later1 m c t r j b R _ hb hR rfl h0 _ ((Memref.isWhole_whole _ : scM0_0.IsWhole).read_unread _)) ((ld_two _ j).trans (blk4 m c t 2 j _ rfl)) ?_
      exact (read_at _ OWN _ _ _ _ (ix2 r j) rfl).trans (up6 m c t r j b R _ hb hR rfl)
    · refine taps_congr (blk7 m c t j _ rfl) ((ld_zero _ j).trans (blk5 m c t 0 j _ rfl)) (value_later2 m c t r j b R _ hb hR rfl h0 _ ((Memref.isWhole_whole _ : scM0_1.IsWhole).read_unread _)) ((ld_one _ j).trans (blk5 m c t 1 j _ rfl))
        (value_later1 m c t r j b R _ hb hR rfl h0 _ ((Memref.isWhole_whole _ : scM0_1.IsWhole).read_unread _)) ((ld_two _ j).trans (blk5 m c t 2 j _ rfl)) ?_
      exact (read_at _ OWN _ _ _ _ (ix2 r j) rfl).trans (up7 m c t r j b R _ hb hR rfl)

theorem emb10 (t : Fin cfg0.N) (r : Fin 512) (n : Fin 1024) (b : Fin 4) (R : Fin 4096) (hb : b.val = t.val / 8) (hR : R.val = t.val % 8 * 512 + r.val) :
    (win0_10.blk t).view.emb (ix3 0 r n) = ix3 b R n := by
  blk_ext [idx0 t]

theorem final (c : Dev nD) : (dats m 0 c).arrAt 10 cfg0.N = GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10]
  idx_vars y
  have ht : t.val < 32 := t.isLt
  obtain ⟨b, hb⟩ : ∃ b : Fin 4, b.val = t.val / 8 := ⟨⟨t.val / 8, by omega⟩, rfl⟩
  obtain ⟨R, hR⟩ : ∃ R : Fin 4096, R.val = t.val % 8 * 512 + y1.val := ⟨⟨t.val % 8 * 512 + y1.val, by omega⟩, rfl⟩
  have e0 : y0 = 0 := by omega
  subst e0
  refine Eq.trans ?_ (congrArg (GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (emb10 t y1 y2 b R hb hR).symm)
  exact point m c t y1 y2 b R hb hR

end Cert.FfnL2Ideal.Hand

end
-- ==== Proof.FfnL2Reference.lean ====
module

public import proofs.«01_k».proof.Proof.FfnL2Kernel
public import proofs.«01_k».proof.Proof.Gen.FfnL2RefIdeal.Read
public import Idealize.ShloMosaic.Lib.Pipeline.ValueKit

@[expose] public section

set_option maxRecDepth 16384

noncomputable section

namespace Cert.FfnL2RefIdeal.Hand

open Cert.FfnL2RefIdeal Cert.FfnL2RefIdeal.Gen Idealize.ShloMosaic Idealize.ShloMosaic.TcCoe Idealize.SL.Sem

open Cert.FfnL2RefIdeal.Read

open Cert.FfnL2Ideal.Hand (RN UP UPS UPS_of CV RES GA TAPS GATE)

/-- The up-projection of the normalised row. -/
theorem up_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (b : Fin 4) (t : Fin 4096) (J : Fin 5632) :
    val_main_v17 (F := Ideal) x0 x1 x2 (ix3 b t J) = UP x0 x1 x2 b t J := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold UP RN
  rfl

/-- The padded up-projection, two rows later. -/
theorem pad_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (b : Fin 4) (t : Fin 4096) (s : ℕ) (hs : s ≤ 2) (u : Fin 4098) (hu : u.val + s = t.val + 2) (J : Fin 5632) :
    val_main_v20 (F := Ideal) x0 x1 x2 (ix3 b u J) = UPS x0 x1 x2 b s t J := by
  pointwise [val_main_v20, val_main_call0_v0, val_main_c]
  unfold UPS
  by_cases h : s ≤ t.val
  · rw [dif_pos h, dif_pos ⟨by omega, by omega⟩, up_apply]
    exact congrArg (fun v => UP x0 x1 x2 b v J) (Fin.ext (show u.val - 2 = t.val - s by omega))
  · rw [dif_neg h, dif_neg (by omega)]
    show (((0#32).toInt : ℝ) : EReal) = 0
    simp

/-- The convolution's column. -/
theorem conv_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x3x5632, .f32⟩ : BufTy).Contents (Elt Ideal)) (x4 : (⟨S4x5632, .f32⟩ : BufTy).Contents (Elt Ideal)) (b : Fin 4) (t : Fin 4096) (J : Fin 5632) :
    val_main_v45 (F := Ideal) x0 x1 x2 x3 x4 (ix3 b t J) = CV x0 x1 x2 x3 x4 b t J := by
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v19, val_main_v18]
  rw [pad_apply x0 x1 x2 b t 2 (by omega) _ rfl J, pad_apply x0 x1 x2 b t 1 (by omega) _ (show 1 + t.val + 1 = t.val + 2 by omega) J,
    pad_apply x0 x1 x2 b t 0 (by omega) _ (show 2 + t.val + 0 = t.val + 2 by omega) J, UPS_of x0 x1 x2 b 0 t t J rfl]
  unfold CV TAPS
  rw [add_comm _ (x4 (ix2 2 J)), ← add_assoc, ← add_assoc]

/-- The layer's output row. -/
theorem res_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x3x5632, .f32⟩ : BufTy).Contents (Elt Ideal)) (x4 : (⟨S4x5632, .f32⟩ : BufTy).Contents (Elt Ideal)) (x5 : (⟨S4x2816x1024, .f32⟩ : BufTy).Contents (Elt Ideal)) (b : Fin 4) (t : Fin 4096) (n : Fin 1024) :
    val_main_v59 (F := Ideal) x0 x1 x2 x3 x4 x5 (ix3 b t n) = RES x0 x1 x2 x3 x4 x5 b t n := by
  pointwise [val_main_v59, val_main_v58, val_main_v57, val_main_v56, val_main_v55, val_main_v54, val_main_v53, val_main_v52, val_main_v51, val_main_v50, val_main_v49, val_main_v48, val_main_v47, val_main_v46, val_main_cst_2, val_main_cst_3]
  refine congrArg₂ (· + ·) rfl (Finset.sum_congr rfl fun x _ => congrArg₂ (· * ·) ?_ rfl)
  rw [conv_apply, conv_apply]
  exact congrArg₂ (· * ·) (congrArg₂ (· * ·) rfl (Ideal.logistic_def _).symm) rfl

theorem ref_apply (x0 : (⟨S4x4096x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x3x5632, .f32⟩ : BufTy).Contents (Elt Ideal)) (x4 : (⟨S4x5632, .f32⟩ : BufTy).Contents (Elt Ideal)) (x5 : (⟨S4x2816x1024, .f32⟩ : BufTy).Contents (Elt Ideal)) (x6 : (⟨S1024, .f32⟩ : BufTy).Contents (Elt Ideal)) (i : S4x4096x1024.Idx) :
    GA x0 x1 x2 x3 x4 x5 x6 i = val_main_v59 (F := Ideal) x0 x1 x2 x3 x4 x5 i := by
  idx_vars i
  exact (res_apply x0 x1 x2 x3 x4 x5 i0 i1 i2).symm

end Cert.FfnL2RefIdeal.Hand

end
-- ==== Proof.FfnL2Claims.lean ====
module

public import proofs.«01_k».proof.Defs
public import proofs.«01_k».proof.Proof.Gen.FfnL2.Frame
public import proofs.«01_k».proof.Proof.FfnL2Kernel
public import proofs.«01_k».proof.Proof.FfnL2Reference
public import Idealize.ShloMosaic.Lib.Claim

@[expose] public section

set_option maxRecDepth 16384

noncomputable section

namespace Cert.FfnL2.Hand

open Idealize.ShloMosaic Idealize.ShloMosaic.TcCoe Idealize.SL.Sem

theorem frame_kernel : Cert.quiescent_FfnL2 := fun m ρ _ => Cert.FfnL2.Gen.frame m ρ
theorem frame_ideal : Cert.quiescent_FfnL2Ideal := fun m ρ _ => Cert.FfnL2Ideal.Gen.frame m ρ
theorem frame_refideal : Cert.quiescent_FfnL2RefIdeal := fun m ρ _ =>
  θ_run_mono (Cert.FfnL2RefIdeal.Value.run m ρ) fun r h => ⟨fun c => (h c).2, sem_eq_zero_of_no_sems (by decide) r.2⟩

theorem algebraic : Cert.algebraic_FfnL2Ideal_FfnL2RefIdeal := by
  pair_intro
  · run_from Cert.FfnL2Ideal.Value.run_blocks m g
  · run_from Cert.FfnL2RefIdeal.Value.run m' g'
    rw [Cert.FfnL2RefIdeal.Read.val_main_v59_eq, Cert.FfnL2Ideal.Hand.final, (hagree c).1, (hagree c).2.1, (hagree c).2.2.1, (hagree c).2.2.2.1, (hagree c).2.2.2.2.1,
      (hagree c).2.2.2.2.2.1]
    exact funext fun i => (Cert.FfnL2RefIdeal.Hand.ref_apply _ _ _ _ _ _ _ i).symm

end Cert.FfnL2.Hand

end
-- ==== Proof.InProjL1Kernel.lean ====
module

public import proofs.«01_k».proof.Proof.Gen.InProjL1Ideal.Value
public import proofs.«01_k».proof.Proof.Gen.InProjL1RefIdeal.Read
public import proofs.«01_k».proof.Proof.RelayoutReferenceIdeal
public import proofs.«01_k».proof.Proof.RelayoutClaims
public import Idealize.ShloMosaic.Lib.Pipeline.ValueKit

@[expose] public section

set_option maxRecDepth 16384

noncomputable section

namespace Cert.InProjL1Ideal.Hand

open Cert.InProjL1Ideal Cert.InProjL1Ideal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin grid0.N, win0_0.index t = ![t.val / 4, 0] ∧ win0_1.index t = ![1, 0, 0] ∧ win0_2.index t = ![1, t.val % 4, 0]
    ∧ win0_3.index t = ![t.val / 4, t.val % 4] ∧ win0_4.index t = ![t.val / 4, 0] := by decide +kernel

theorem blk0 (c : Dev nD) (t : Fin cfg0.N) (r : Fin 1024) (k : Fin 1024) (R : Fin 16384) (h : R.val = t.val / 4 * 1024 + r.val) :
    iblk m c 0 t (ix2 r k) = m ((c : Thread nD τ).loc main_arg0) (ix2 R k) := by
  blk_ext [iblk, V, idx0 t]
theorem blk1 (c : Dev nD) (t : Fin cfg0.N) (k : Fin 1024) :
    iblk m c 1 t (ix3 0 0 k) = m ((c : Thread nD τ).loc main_arg1) (ix2 1 k) := by
  blk_simp [iblk, idx0 t]
  entry_read
  pointwise
  blk_ext [idx0 t]
abbrev WP (A : FVec Ideal S4x1024x11816 .f32) : FVec Ideal S4x12288x1024 .bf16 := Cert.Relayout.G (F := Ideal) A

/-- The last three host operations: the pieces concatenated, transposed and rounded. -/
theorem tail_w (σ : Valuation τ sig (Elt Ideal)) (u0 : (⟨S4x1024x512, .f32⟩ : BufTy).Contents (Elt Ideal)) (u1 : (⟨S4x1024x512, .f32⟩ : BufTy).Contents (Elt Ideal)) (u2 : (⟨S4x1024x1024, .f32⟩ : BufTy).Contents (Elt Ideal)) (u3 : (⟨S4x1024x1024, .f32⟩ : BufTy).Contents (Elt Ideal)) (u4 : (⟨S4x1024x1024, .f32⟩ : BufTy).Contents (Elt Ideal)) (u5 : (⟨S4x1024x1024, .f32⟩ : BufTy).Contents (Elt Ideal)) (u6 : (⟨S4x1024x1024, .f32⟩ : BufTy).Contents (Elt Ideal)) (u7 : (⟨S4x1024x3072, .f32⟩ : BufTy).Contents (Elt Ideal)) (u8 : (⟨S4x1024x1024, .f32⟩ : BufTy).Contents (Elt Ideal)) (u9 : (⟨S4x1024x1536, .f32⟩ : BufTy).Contents (Elt Ideal)) (u10 : (⟨S4x1024x16, .f32⟩ : BufTy).Contents (Elt Ideal)) (u11 : (⟨S4x1024x4, .f32⟩ : BufTy).Contents (Elt Ideal)) (u12 : (⟨S4x1024x4, .f32⟩ : BufTy).Contents (Elt Ideal)) (u13 : (⟨S4x1024x16, .f32⟩ : BufTy).Contents (Elt Ideal)) (u14 : (⟨S4x1024x472, .f32⟩ : BufTy).Contents (Elt Ideal))
    (h0 : σ (Proc.devRef .tc main_v1) = u0) (h1 : σ (Proc.devRef .tc main_v2) = u1) (h2 : σ (Proc.devRef .tc main_v3) = u2) (h3 : σ (Proc.devRef .tc main_v5) = u3) (h4 : σ (Proc.devRef .tc main_v6) = u4) (h5 : σ (Proc.devRef .tc main_v7) = u5) (h6 : σ (Proc.devRef .tc main_v10) = u6) (h7 : σ (Proc.devRef .tc main_v14) = u7) (h8 : σ (Proc.devRef .tc main_v11) = u8) (h9 : σ (Proc.devRef .tc main_v12) = u9) (h10 : σ (Proc.devRef .tc main_v4) = u10) (h11 : σ (Proc.devRef .tc main_v8) = u11) (h12 : σ (Proc.devRef .tc main_v9) = u12) (h13 : σ (Proc.devRef .tc main_v13) = u13) (h14 : σ (Proc.devRef .tc main_v15) = u14) :
    StableHlo.after (List.drop 17 (hostOps0 (F := Ideal))) σ (Proc.devRef .tc main_v18) = ((truncf (F := Ideal) .bf16 (transpose S4x12288x1024 [0, 2, 1] ((concatenate S4x1024x12288 2 [⟨S4x1024x512, (u0 : (⟨S4x1024x512, .f32⟩ : BufTy).Contents (Elt Ideal))⟩, ⟨S4x1024x512, (u1 : (⟨S4x1024x512, .f32⟩ : BufTy).Contents (Elt Ideal))⟩, ⟨S4x1024x1024, (u2 : (⟨S4x1024x1024, .f32⟩ : BufTy).Contents (Elt Ideal))⟩, ⟨S4x1024x1024, (u3 : (⟨S4x1024x1024, .f32⟩ : BufTy).Contents (Elt Ideal))⟩, ⟨S4x1024x1024, (u4 : (⟨S4x1024x1024, .f32⟩ : BufTy).Contents (Elt Ideal))⟩, ⟨S4x1024x1024, (u5 : (⟨S4x1024x1024, .f32⟩ : BufTy).Contents (Elt Ideal))⟩, ⟨S4x1024x1024, (u6 : (⟨S4x1024x1024, .f32⟩ : BufTy).Contents (Elt Ideal))⟩, ⟨S4x1024x3072, (u7 : (⟨S4x1024x3072, .f32⟩ : BufTy).Contents (Elt Ideal))⟩, ⟨S4x1024x1024, (u8 : (⟨S4x1024x1024, .f32⟩ : BufTy).Contents (Elt Ideal))⟩, ⟨S4x1024x1536, (u9 : (⟨S4x1024x1536, .f32⟩ : BufTy).Contents (Elt Ideal))⟩, ⟨S4x1024x16, (u10 : (⟨S4x1024x16, .f32⟩ : BufTy).Contents (Elt Ideal))⟩, ⟨S4x1024x4, (u11 : (⟨S4x1024x4, .f32⟩ : BufTy).Contents (Elt Ideal))⟩, ⟨S4x1024x4, (u12 : (⟨S4x1024x4, .f32⟩ : BufTy).Contents (Elt Ideal))⟩, ⟨S4x1024x16, (u13 : (⟨S4x1024x16, .f32⟩ : BufTy).Contents (Elt Ideal))⟩, ⟨S4x1024x472, (u14 : (⟨S4x1024x472, .f32⟩ : BufTy).Contents (Elt Ideal))⟩] concatenates_S4x1024x512_S4x1024x512_S4x1024x1024_S4x1024x1024_S4x1024x1024_S4x1024x1024_S4x1024x1024_S4x1024x3072_S4x1024x1024_S4x1024x1536_S4x1024x16_S4x1024x4_S4x1024x4_S4x1024x16_S4x1024x472_S4x1024x12288_d2 : (⟨S4x1024x12288, .f32⟩ : BufTy).Contents (Elt Ideal))) transposes_S4x1024x12288_S4x12288x1024_0_2_1) bitsLt_bf16_f32) : (⟨S4x12288x1024, .bf16⟩ : BufTy).Contents (Elt Ideal)) := by
  subst h0 h1 h2 h3 h4 h5 h6 h7 h8 h9 h10 h11 h12 h13 h14
  simp only [List.drop, StableHlo.after_cons, StableHlo.after_nil]
  rw [StableHlo.unary_result', StableHlo.unary_result', StableHlo.nary_result']
  rfl

theorem entry_w (c : Dev nD) (i : S4x12288x1024.Idx) :
    V m c main_v18 i = WP (m ((c : Thread nD τ).loc main_arg2)) i := by
  have h : V m c main_v18 = StableHlo.after (List.drop 17 (hostOps0 (F := Ideal))) (StableHlo.after (List.take 17 (hostOps0 (F := Ideal))) (fun b => m (c, b)))
      (Proc.devRef .tc main_v18) := rfl
  refine Eq.trans ?_ (Cert.ReferenceIdeal.Hand.ref_apply Cert.Relayout.zero_ideal _ i)
  refine congrFun (h.trans (tail_w _ _ _ _ _ _ _ _ _ _ _ _ _ _ _ _ ?_ ?_ ?_ ?_ ?_ ?_ ?_ ?_ ?_ ?_ ?_ ?_ ?_ ?_ ?_)) i
  iterate 15
    · simp only [List.take]
      after_results_simp

theorem blk2 (c : Dev nD) (t : Fin cfg0.N) (j : Fin 3072) (k : Fin 1024) (J : Fin 12288) (h : J.val = t.val % 4 * 3072 + j.val) :
    iblk m c 2 t (ix3 0 j k) = WP (m ((c : Thread nD τ).loc main_arg2)) (ix3 1 J k) := by
  have e : (win0_2.blk t).view.emb (ix3 0 j k) = ix3 1 J k := by blk_ext [idx0 t]
  blk_simp [iblk, idx0 t]
  exact (congrArg _ e).trans (entry_w m c _)

/-- Row `r` of the input normalised by its root mean square and scaled, at column `k`. -/
def XN (x : FVec Ideal S16384x1024 .f32) (g : FVec Ideal S4x1024 .f32) (r : Fin 16384) (k : Fin 1024) : EReal :=
  x (ix2 r k) * Ideal.rsqrt (Ideal.div (∑ j : Fin 1024, x (ix2 r j) * x (ix2 r j)) (Ideal.ofBits .f32 0x44800000#32) + Ideal.ofBits .f32 0x358637BD#32)
    * g (ix2 1 k)

/-- Row `r` of the normalised input times row `j` of the re-laid weight of the first layer. -/
def PJ (x : FVec Ideal S16384x1024 .f32) (g : FVec Ideal S4x1024 .f32) (w : FVec Ideal S4x1024x11816 .f32)
    (r : Fin 16384) (j : Fin 12288) : EReal :=
  ∑ k : Fin 1024, XN x g r k * WP w (ix3 1 j k)

abbrev XM (c : Dev nD) := XN (m ((c : Thread nD τ).loc main_arg0)) (m ((c : Thread nD τ).loc main_arg1))
abbrev PM (c : Dev nD) := PJ (m ((c : Thread nD τ).loc main_arg0)) (m ((c : Thread nD τ).loc main_arg1)) (m ((c : Thread nD τ).loc main_arg2))

/-- The scratch after any point of a run holds the normalised rows of that run's block. -/
theorem scratch (c : Dev nD) : ∀ (n : ℕ) (hn : n < cfg0.N) (r k : Fin 1024) (R : Fin 16384), R.val = n / 4 * 1024 + r.val →
    (outsAt0 m c n hn).2.2 (ix2 r k) = XM m c R k := by
  have hA : ∀ (t : Fin cfg0.N) (h0 : t.val % 4 = 0) (r k : Fin 1024) (R : Fin 16384), R.val = t.val / 4 * 1024 + r.val →
      (outsAt0 m c t.val t.isLt).2.2 (ix2 r k) = XM m c R k := by
    intro t h0 r k R hR
    rw [outsAt0_A m c t h0 (by omega)]
    frame_out
    pointwise [k0_pay1]
    show _ = XN _ _ R k
    unfold XN
    simp only [blk0 m c t _ _ R hR, blk1]
  suffices H : ∀ (n : ℕ) (t : Fin cfg0.N), t.val = n → ∀ (r k : Fin 1024) (R : Fin 16384), R.val = t.val / 4 * 1024 + r.val →
      (outsAt0 m c t.val t.isLt).2.2 (ix2 r k) = XM m c R k from fun n hn => H n ⟨n, hn⟩ rfl
  intro n
  induction n with
  | zero => intro t ht; exact hA t (by omega)
  | succ n ih =>
    intro t ht r k R hR
    by_cases h0 : t.val % 4 = 0
    · exact hA t h0 r k R hR
    · have hR' : R.val = (t.val - 1) / 4 * 1024 + r.val := by omega
      have e := ih ⟨t.val - 1, Nat.lt_of_le_of_lt (Nat.sub_le _ _) t.isLt⟩ (by dsimp only; omega) r k R hR'
      by_cases h1 : t.val % 4 = 3
      · rw [outsAt0_C m c t h0 h1]
        exact e
      · rw [outsAt0_B m c t h0 h1]
        exact e

theorem before (c : Dev nD) (t : Fin cfg0.N) (h0 : ¬ t.val % 4 = 0) (r k : Fin 1024) (R : Fin 16384) (hR : R.val = t.val / 4 * 1024 + r.val) :
    (outsAt0 m c (t.val - 1) (Nat.lt_of_le_of_lt (Nat.sub_le _ _) t.isLt)).2.2 (ix2 r k) = XM m c R k :=
  scratch m c _ _ r k R (by omega)

theorem wide (c : Dev nD) (t : Fin cfg0.N) (r : Fin 1024) (j : Fin 3072) (R : Fin 16384) (J : Fin 12288)
    (hR : R.val = t.val / 4 * 1024 + r.val) (hJ : J.val = t.val % 4 * 3072 + j.val) :
    (outsAt0 m c t.val t.isLt).1 (ix2 r j) = PM m c R J := by
  show _ = PJ _ _ _ R J
  by_cases h0 : t.val % 4 = 0
  · rw [outsAt0_A m c t h0 (by omega)]
    frame_out
    pointwise [k0_pay1, k0_pay2, k0_pay3]
    unfold PJ XN
    simp only [blk0 m c t _ _ R hR, blk1, blk2 m c t _ _ J hJ]
  · by_cases h1 : t.val % 4 = 3
    · rw [outsAt0_C m c t h0 h1]
      frame_out
      rw [(Memref.isWhole_whole _ : scM0_0.IsWhole).read_unread]
      pointwise [k0_pay2, k0_pay3]
      unfold PJ
      simp only [before m c t h0 _ _ R hR, blk2 m c t _ _ J hJ]
    · rw [outsAt0_B m c t h0 h1]
      frame_out
      rw [(Memref.isWhole_whole _ : scM0_0.IsWhole).read_unread]
      pointwise [k0_pay2, k0_pay3]
      unfold PJ
      simp only [before m c t h0 _ _ R hR, blk2 m c t _ _ J hJ]

theorem small (c : Dev nD) (t : Fin cfg0.N) (h1 : t.val % 4 = 3) (r : Fin 1024) (j : Fin 128) (R : Fin 16384) (J : Fin 12288)
    (hR : R.val = t.val / 4 * 1024 + r.val) (hJ : J.val = 11776 + j.val) :
    (outsAt0 m c t.val t.isLt).2.1 (ix2 r j) = PM m c R J := by
  show _ = PJ _ _ _ R J
  unfold PJ
  have h0 : ¬ t.val % 4 = 0 := by omega
  rw [outsAt0_C m c t h0 h1]
  frame_out
  rw [(Memref.isWhole_whole _ : scM0_0.IsWhole).read_unread]
  pointwise [k0_pay2, k0_pay4]
  simp only [before m c t h0 _ _ R hR]
  refine Finset.sum_congr rfl fun x _ => congrArg₂ (· * ·) rfl (blk2 m c t _ _ J ?_)
  dsimp only
  omega

theorem emb3 (t : Fin cfg0.N) (r : Fin 1024) (j : Fin 3072) (R : Fin 16384) (J : Fin 12288)
    (hR : R.val = t.val / 4 * 1024 + r.val) (hJ : J.val = t.val % 4 * 3072 + j.val) :
    (win0_3.blk t).view.emb (ix2 r j) = ix2 R J := by
  blk_ext [idx0 t]
theorem emb4 (t : Fin cfg0.N) (r : Fin 1024) (j : Fin 128) (R : Fin 16384)
    (hR : R.val = t.val / 4 * 1024 + r.val) :
    (win0_4.blk t).view.emb (ix2 r j) = ix2 R j := by
  blk_ext [idx0 t]

/-- The projection's two results as arrays: every column, and the columns kept at full precision. -/
def WIDE (x : FVec Ideal S16384x1024 .f32) (g : FVec Ideal S4x1024 .f32) (w : FVec Ideal S4x1024x11816 .f32) :
    FVec Ideal S16384x12288 .bf16 := fun i => PJ x g w (i 0) (i 1)
def SMALL (x : FVec Ideal S16384x1024 .f32) (g : FVec Ideal S4x1024 .f32) (w : FVec Ideal S4x1024x11816 .f32) :
    FVec Ideal S16384x128 .f32 := fun i => PJ x g w (i 0) ⟨11776 + (i 1).val, by have h : (i 1).val < 128 := (i 1).isLt; omega⟩

theorem final_wide (c : Dev nD) : (dats m 0 c).arrAt 3 cfg0.N = WIDE (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  have ht : t.val < 64 := t.isLt
  obtain ⟨R, hR⟩ : ∃ R : Fin 16384, R.val = t.val / 4 * 1024 + y0.val := ⟨⟨t.val / 4 * 1024 + y0.val, by omega⟩, rfl⟩
  obtain ⟨J, hJ⟩ : ∃ J : Fin 12288, J.val = t.val % 4 * 3072 + y1.val := ⟨⟨t.val % 4 * 3072 + y1.val, by omega⟩, rfl⟩
  refine Eq.trans ?_ (congrArg (WIDE (m ((c : Thread nD τ).loc main_arg0)) (m ((c : Thread nD τ).loc main_arg1)) (m ((c : Thread nD τ).loc main_arg2))) (emb3 t y0 y1 R J hR hJ).symm)
  exact wide m c t y0 y1 R J hR hJ

theorem flush4 : ∀ t : Fin cfg0.N, (cfg0.win 4).flush t = true → t.val % 4 = 3 := by decide +kernel

theorem final_small (c : Dev nD) : (dats m 0 c).arrAt 4 cfg0.N = SMALL (m ((c : Thread nD τ).loc main_arg0)) (m ((c : Thread nD τ).loc main_arg1)) (m ((c : Thread nD τ).loc main_arg2)) := by
  refine (dats m 0 c).arrAt_eq_of_covers 4 _ (by decide +kernel) fun t hf y => ?_
  have h1 := flush4 t hf
  blk_simp
  rw [after0_4]
  idx_vars y
  have ht : t.val < 64 := t.isLt
  obtain ⟨R, hR⟩ : ∃ R : Fin 16384, R.val = t.val / 4 * 1024 + y0.val := ⟨⟨t.val / 4 * 1024 + y0.val, by omega⟩, rfl⟩
  refine Eq.trans ?_ (congrArg (SMALL (m ((c : Thread nD τ).loc main_arg0)) (m ((c : Thread nD τ).loc main_arg1)) (m ((c : Thread nD τ).loc main_arg2))) (emb4 t y0 y1 R hR).symm)
  exact small m c t h1 y0 y1 R _ hR rfl

end Cert.InProjL1Ideal.Hand

end
-- ==== Proof.InProjL1Reference.lean ====
module

public import proofs.«01_k».proof.Proof.InProjL1Kernel
public import proofs.«01_k».proof.Proof.Gen.InProjL1RefIdeal.Read
public import Idealize.ShloMosaic.Lib.Pipeline.ValueKit

@[expose] public section

set_option maxRecDepth 16384

noncomputable section

namespace Cert.InProjL1RefIdeal.Hand

open Cert.InProjL1RefIdeal Cert.InProjL1RefIdeal.Gen Idealize.ShloMosaic Idealize.ShloMosaic.TcCoe Idealize.SL.Sem

open Cert.InProjL1RefIdeal.Read

open Cert.InProjL1Ideal.Hand (XN PJ WP WIDE SMALL)
open Cert.Relayout (src src_spec G_row G_pad G_tail)

/-- The plain projection: row `r` of the normalised input times column `s` of the weight. -/
theorem dot_apply (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (r : Fin 16384) (s : Fin 11816) :
    val_main_v17 (F := Ideal) x0 x1 x2 (ix2 r s) = ∑ k : Fin 1024, XN x0 x1 r k * x2 (ix3 1 k s) := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold XN
  rfl

theorem col (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (r : Fin 16384) (J : Fin 12288) (h : J.val < 11816) (s : Fin 11816) (hs : s.val = src J.val) :
    PJ x0 x1 x2 r J = val_main_v17 (F := Ideal) x0 x1 x2 (ix2 r s) := by
  rw [dot_apply]
  refine Finset.sum_congr rfl fun k _ => congrArg₂ (· * ·) rfl ?_
  exact G_row (F := Ideal) x2 (ix3 1 J k) h 1 k s rfl rfl hs

theorem pad (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (r : Fin 16384) (J : Fin 12288) (h : ¬ J.val < 11816) : PJ x0 x1 x2 r J = 0 := by
  refine Finset.sum_eq_zero fun k _ => ?_
  have e : WP x2 (ix3 1 J k) = (0 : EReal) := by
    by_cases h' : J.val < 11904
    · rw [show WP x2 (ix3 1 J k) = Ideal.ofBits .f32 0x00000000#32 from G_pad (F := Ideal) x2 (ix3 1 J k) h h', Ideal.ofBits_zero_f32]
    · rw [show WP x2 (ix3 1 J k) = Ideal.ofBits .bf16 0x0000#16 from G_tail (F := Ideal) x2 (ix3 1 J k) h', Ideal.ofBits_zero_bf16]
  rw [e, mul_zero]

theorem pick {P : Prop} [Decidable P] {z : EReal} {x : P → EReal} {y : ¬P → EReal} (hx : ∀ h, z = x h) (hy : ∀ h, z = y h) :
    z = dite P x y := by
  by_cases h : P
  · rw [dif_pos h]; exact hx h
  · rw [dif_neg h]; exact hy h

set_option maxHeartbeats 1000000 in
theorem ref_wide (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (i : S16384x12288.Idx) : WIDE x0 x1 x2 i = val_main_v36 (F := Ideal) x0 x1 x2 i := by
  idx_vars i
  show PJ x0 x1 x2 i0 i1 = _
  pointwise [val_main_v36, val_main_v33, val_main_v32, val_main_v31, val_main_v30, val_main_v29, val_main_v28, val_main_v27, val_main_v26, val_main_v25, val_main_v24, val_main_v23, val_main_v22, val_main_v21, val_main_v20, val_main_v19, val_main_v18, val_main_cst_2]
  iterate 14
    refine pick (fun h => ?_) fun h => ?_
    · refine col x0 x1 x2 i0 i1 ?_ _ ?_
      · omega
      · first
          | (refine src_spec i1.val _ (.inl ?_); (try dsimp only); constructor <;> omega)
          | (refine src_spec i1.val _ (.inr (.inl ?_)); (try dsimp only); refine ⟨?_, ?_, ?_⟩ <;> omega)
          | (refine src_spec i1.val _ (.inr (.inr (.inl ?_))); (try dsimp only); refine ⟨?_, ?_, ?_⟩ <;> omega)
          | (refine src_spec i1.val _ (.inr (.inr (.inr (.inl ?_)))); (try dsimp only); refine ⟨?_, ?_, ?_⟩ <;> omega)
          | (refine src_spec i1.val _ (.inr (.inr (.inr (.inr (.inl ?_))))); (try dsimp only); refine ⟨?_, ?_, ?_⟩ <;> omega)
          | (refine src_spec i1.val _ (.inr (.inr (.inr (.inr (.inr (.inl ?_)))))); (try dsimp only); refine ⟨?_, ?_, ?_⟩ <;> omega)
          | (refine src_spec i1.val _ (.inr (.inr (.inr (.inr (.inr (.inr (.inl ?_))))))); (try dsimp only); refine ⟨?_, ?_, ?_⟩ <;> omega)
          | (refine src_spec i1.val _ (.inr (.inr (.inr (.inr (.inr (.inr (.inr (?_)))))))); (try dsimp only); constructor <;> omega)
  exact pad x0 x1 x2 i0 i1 (by omega)

set_option maxHeartbeats 1000000 in
theorem ref_small (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (i : S16384x128.Idx) : SMALL x0 x1 x2 i = val_main_v35 (F := Ideal) x0 x1 x2 i := by
  idx_vars i
  show PJ x0 x1 x2 i0 ⟨11776 + i1.val, _⟩ = _
  pointwise [val_main_v35, val_main_v34, val_main_v30, val_main_v26, val_main_v25, val_main_v21, val_main_cst_3]
  iterate 4
    refine pick (fun h => ?_) fun h => ?_
    · refine col x0 x1 x2 i0 _ ?_ _ ?_
      · show 11776 + i1.val < 11816; omega
      · first
          | (refine src_spec (11776 + i1.val) _ (.inl ?_); (try dsimp only); constructor <;> omega)
          | (refine src_spec (11776 + i1.val) _ (.inr (.inl ?_)); (try dsimp only); refine ⟨?_, ?_, ?_⟩ <;> omega)
          | (refine src_spec (11776 + i1.val) _ (.inr (.inr (.inl ?_))); (try dsimp only); refine ⟨?_, ?_, ?_⟩ <;> omega)
          | (refine src_spec (11776 + i1.val) _ (.inr (.inr (.inr (.inl ?_)))); (try dsimp only); refine ⟨?_, ?_, ?_⟩ <;> omega)
          | (refine src_spec (11776 + i1.val) _ (.inr (.inr (.inr (.inr (.inl ?_))))); (try dsimp only); refine ⟨?_, ?_, ?_⟩ <;> omega)
          | (refine src_spec (11776 + i1.val) _ (.inr (.inr (.inr (.inr (.inr (.inl ?_)))))); (try dsimp only); refine ⟨?_, ?_, ?_⟩ <;> omega)
          | (refine src_spec (11776 + i1.val) _ (.inr (.inr (.inr (.inr (.inr (.inr (.inl ?_))))))); (try dsimp only); refine ⟨?_, ?_, ?_⟩ <;> omega)
          | (refine src_spec (11776 + i1.val) _ (.inr (.inr (.inr (.inr (.inr (.inr (.inr (?_)))))))); (try dsimp only); constructor <;> omega)
  exact pad x0 x1 x2 i0 _ (by show ¬ 11776 + i1.val < 11816; omega)

end Cert.InProjL1RefIdeal.Hand

end
-- ==== Proof.InProjL1Claims.lean ====
module

public import proofs.«01_k».proof.Defs
public import proofs.«01_k».proof.Proof.Gen.InProjL1.Frame
public import proofs.«01_k».proof.Proof.InProjL1Kernel
public import proofs.«01_k».proof.Proof.InProjL1Reference
public import Idealize.ShloMosaic.Lib.Claim

@[expose] public section

set_option maxRecDepth 16384

noncomputable section

namespace Cert.InProjL1.Hand

open Idealize.ShloMosaic Idealize.ShloMosaic.TcCoe Idealize.SL.Sem

theorem frame_kernel : Cert.quiescent_InProjL1 := fun m ρ _ => Cert.InProjL1.Gen.frame m ρ
theorem frame_ideal : Cert.quiescent_InProjL1Ideal := fun m ρ _ => Cert.InProjL1Ideal.Gen.frame m ρ
theorem frame_refideal : Cert.quiescent_InProjL1RefIdeal := fun m ρ _ =>
  θ_run_mono (Cert.InProjL1RefIdeal.Value.run m ρ) fun r h => ⟨fun c => (h c).2.2, sem_eq_zero_of_no_sems (by decide) r.2⟩

theorem algebraic : Cert.algebraic_InProjL1Ideal_InProjL1RefIdeal := by
  pair_intro
  · run_from Cert.InProjL1Ideal.Value.run_blocks m g
  · run_from Cert.InProjL1RefIdeal.Value.run m' g'
    · rw [Cert.InProjL1RefIdeal.Read.val_main_v36_eq, Cert.InProjL1Ideal.Hand.final_wide, (hagree c).1, (hagree c).2.1, (hagree c).2.2]
      exact funext fun i => (Cert.InProjL1RefIdeal.Hand.ref_wide _ _ _ i).symm
    · rw [Cert.InProjL1RefIdeal.Read.val_main_v35_eq, Cert.InProjL1Ideal.Hand.final_small, (hagree c).1, (hagree c).2.1, (hagree c).2.2]
      exact funext fun i => (Cert.InProjL1RefIdeal.Hand.ref_small _ _ _ i).symm

end Cert.InProjL1.Hand

end
-- ==== Proof.InProjL2Kernel.lean ====
module

public import proofs.«01_k».proof.Proof.Gen.InProjL2Ideal.Value
public import proofs.«01_k».proof.Proof.Gen.InProjL2RefIdeal.Read
public import proofs.«01_k».proof.Proof.RelayoutReferenceIdeal
public import proofs.«01_k».proof.Proof.RelayoutClaims
public import Idealize.ShloMosaic.Lib.Pipeline.ValueKit

@[expose] public section

set_option maxRecDepth 16384

noncomputable section

namespace Cert.InProjL2Ideal.Hand

open Cert.InProjL2Ideal Cert.InProjL2Ideal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin grid0.N, win0_0.index t = ![t.val / 4, 0] ∧ win0_1.index t = ![2, 0, 0] ∧ win0_2.index t = ![2, t.val % 4, 0]
    ∧ win0_3.index t = ![t.val / 4, t.val % 4] ∧ win0_4.index t = ![t.val / 4, 0] := by decide +kernel

theorem blk0 (c : Dev nD) (t : Fin cfg0.N) (r : Fin 1024) (k : Fin 1024) (R : Fin 16384) (h : R.val = t.val / 4 * 1024 + r.val) :
    iblk m c 0 t (ix2 r k) = m ((c : Thread nD τ).loc main_arg0) (ix2 R k) := by
  blk_ext [iblk, V, idx0 t]
theorem blk1 (c : Dev nD) (t : Fin cfg0.N) (k : Fin 1024) :
    iblk m c 1 t (ix3 0 0 k) = m ((c : Thread nD τ).loc main_arg1) (ix2 2 k) := by
  blk_simp [iblk, idx0 t]
  entry_read
  pointwise
  blk_ext [idx0 t]
abbrev WP (A : FVec Ideal S4x1024x11816 .f32) : FVec Ideal S4x12288x1024 .bf16 := Cert.Relayout.G (F := Ideal) A

/-- The last three host operations: the pieces concatenated, transposed and rounded. -/
theorem tail_w (σ : Valuation τ sig (Elt Ideal)) (u0 : (⟨S4x1024x512, .f32⟩ : BufTy).Contents (Elt Ideal)) (u1 : (⟨S4x1024x512, .f32⟩ : BufTy).Contents (Elt Ideal)) (u2 : (⟨S4x1024x1024, .f32⟩ : BufTy).Contents (Elt Ideal)) (u3 : (⟨S4x1024x1024, .f32⟩ : BufTy).Contents (Elt Ideal)) (u4 : (⟨S4x1024x1024, .f32⟩ : BufTy).Contents (Elt Ideal)) (u5 : (⟨S4x1024x1024, .f32⟩ : BufTy).Contents (Elt Ideal)) (u6 : (⟨S4x1024x1024, .f32⟩ : BufTy).Contents (Elt Ideal)) (u7 : (⟨S4x1024x3072, .f32⟩ : BufTy).Contents (Elt Ideal)) (u8 : (⟨S4x1024x1024, .f32⟩ : BufTy).Contents (Elt Ideal)) (u9 : (⟨S4x1024x1536, .f32⟩ : BufTy).Contents (Elt Ideal)) (u10 : (⟨S4x1024x16, .f32⟩ : BufTy).Contents (Elt Ideal)) (u11 : (⟨S4x1024x4, .f32⟩ : BufTy).Contents (Elt Ideal)) (u12 : (⟨S4x1024x4, .f32⟩ : BufTy).Contents (Elt Ideal)) (u13 : (⟨S4x1024x16, .f32⟩ : BufTy).Contents (Elt Ideal)) (u14 : (⟨S4x1024x472, .f32⟩ : BufTy).Contents (Elt Ideal))
    (h0 : σ (Proc.devRef .tc main_v1) = u0) (h1 : σ (Proc.devRef .tc main_v2) = u1) (h2 : σ (Proc.devRef .tc main_v3) = u2) (h3 : σ (Proc.devRef .tc main_v5) = u3) (h4 : σ (Proc.devRef .tc main_v6) = u4) (h5 : σ (Proc.devRef .tc main_v7) = u5) (h6 : σ (Proc.devRef .tc main_v10) = u6) (h7 : σ (Proc.devRef .tc main_v14) = u7) (h8 : σ (Proc.devRef .tc main_v11) = u8) (h9 : σ (Proc.devRef .tc main_v12) = u9) (h10 : σ (Proc.devRef .tc main_v4) = u10) (h11 : σ (Proc.devRef .tc main_v8) = u11) (h12 : σ (Proc.devRef .tc main_v9) = u12) (h13 : σ (Proc.devRef .tc main_v13) = u13) (h14 : σ (Proc.devRef .tc main_v15) = u14) :
    StableHlo.after (List.drop 17 (hostOps0 (F := Ideal))) σ (Proc.devRef .tc main_v18) = ((truncf (F := Ideal) .bf16 (transpose S4x12288x1024 [0, 2, 1] ((concatenate S4x1024x12288 2 [⟨S4x1024x512, (u0 : (⟨S4x1024x512, .f32⟩ : BufTy).Contents (Elt Ideal))⟩, ⟨S4x1024x512, (u1 : (⟨S4x1024x512, .f32⟩ : BufTy).Contents (Elt Ideal))⟩, ⟨S4x1024x1024, (u2 : (⟨S4x1024x1024, .f32⟩ : BufTy).Contents (Elt Ideal))⟩, ⟨S4x1024x1024, (u3 : (⟨S4x1024x1024, .f32⟩ : BufTy).Contents (Elt Ideal))⟩, ⟨S4x1024x1024, (u4 : (⟨S4x1024x1024, .f32⟩ : BufTy).Contents (Elt Ideal))⟩, ⟨S4x1024x1024, (u5 : (⟨S4x1024x1024, .f32⟩ : BufTy).Contents (Elt Ideal))⟩, ⟨S4x1024x1024, (u6 : (⟨S4x1024x1024, .f32⟩ : BufTy).Contents (Elt Ideal))⟩, ⟨S4x1024x3072, (u7 : (⟨S4x1024x3072, .f32⟩ : BufTy).Contents (Elt Ideal))⟩, ⟨S4x1024x1024, (u8 : (⟨S4x1024x1024, .f32⟩ : BufTy).Contents (Elt Ideal))⟩, ⟨S4x1024x1536, (u9 : (⟨S4x1024x1536, .f32⟩ : BufTy).Contents (Elt Ideal))⟩, ⟨S4x1024x16, (u10 : (⟨S4x1024x16, .f32⟩ : BufTy).Contents (Elt Ideal))⟩, ⟨S4x1024x4, (u11 : (⟨S4x1024x4, .f32⟩ : BufTy).Contents (Elt Ideal))⟩, ⟨S4x1024x4, (u12 : (⟨S4x1024x4, .f32⟩ : BufTy).Contents (Elt Ideal))⟩, ⟨S4x1024x16, (u13 : (⟨S4x1024x16, .f32⟩ : BufTy).Contents (Elt Ideal))⟩, ⟨S4x1024x472, (u14 : (⟨S4x1024x472, .f32⟩ : BufTy).Contents (Elt Ideal))⟩] concatenates_S4x1024x512_S4x1024x512_S4x1024x1024_S4x1024x1024_S4x1024x1024_S4x1024x1024_S4x1024x1024_S4x1024x3072_S4x1024x1024_S4x1024x1536_S4x1024x16_S4x1024x4_S4x1024x4_S4x1024x16_S4x1024x472_S4x1024x12288_d2 : (⟨S4x1024x12288, .f32⟩ : BufTy).Contents (Elt Ideal))) transposes_S4x1024x12288_S4x12288x1024_0_2_1) bitsLt_bf16_f32) : (⟨S4x12288x1024, .bf16⟩ : BufTy).Contents (Elt Ideal)) := by
  subst h0 h1 h2 h3 h4 h5 h6 h7 h8 h9 h10 h11 h12 h13 h14
  simp only [List.drop, StableHlo.after_cons, StableHlo.after_nil]
  rw [StableHlo.unary_result', StableHlo.unary_result', StableHlo.nary_result']
  rfl

theorem entry_w (c : Dev nD) (i : S4x12288x1024.Idx) :
    V m c main_v18 i = WP (m ((c : Thread nD τ).loc main_arg2)) i := by
  have h : V m c main_v18 = StableHlo.after (List.drop 17 (hostOps0 (F := Ideal))) (StableHlo.after (List.take 17 (hostOps0 (F := Ideal))) (fun b => m (c, b)))
      (Proc.devRef .tc main_v18) := rfl
  refine Eq.trans ?_ (Cert.ReferenceIdeal.Hand.ref_apply Cert.Relayout.zero_ideal _ i)
  refine congrFun (h.trans (tail_w _ _ _ _ _ _ _ _ _ _ _ _ _ _ _ _ ?_ ?_ ?_ ?_ ?_ ?_ ?_ ?_ ?_ ?_ ?_ ?_ ?_ ?_ ?_)) i
  iterate 15
    · simp only [List.take]
      after_results_simp

theorem blk2 (c : Dev nD) (t : Fin cfg0.N) (j : Fin 3072) (k : Fin 1024) (J : Fin 12288) (h : J.val = t.val % 4 * 3072 + j.val) :
    iblk m c 2 t (ix3 0 j k) = WP (m ((c : Thread nD τ).loc main_arg2)) (ix3 2 J k) := by
  have e : (win0_2.blk t).view.emb (ix3 0 j k) = ix3 2 J k := by blk_ext [idx0 t]
  blk_simp [iblk, idx0 t]
  exact (congrArg _ e).trans (entry_w m c _)

/-- Row `r` of the input normalised by its root mean square and scaled, at column `k`. -/
def XN (x : FVec Ideal S16384x1024 .f32) (g : FVec Ideal S4x1024 .f32) (r : Fin 16384) (k : Fin 1024) : EReal :=
  x (ix2 r k) * Ideal.rsqrt (Ideal.div (∑ j : Fin 1024, x (ix2 r j) * x (ix2 r j)) (Ideal.ofBits .f32 0x44800000#32) + Ideal.ofBits .f32 0x358637BD#32)
    * g (ix2 2 k)

/-- Row `r` of the normalised input times row `j` of the re-laid weight of the first layer. -/
def PJ (x : FVec Ideal S16384x1024 .f32) (g : FVec Ideal S4x1024 .f32) (w : FVec Ideal S4x1024x11816 .f32)
    (r : Fin 16384) (j : Fin 12288) : EReal :=
  ∑ k : Fin 1024, XN x g r k * WP w (ix3 2 j k)

abbrev XM (c : Dev nD) := XN (m ((c : Thread nD τ).loc main_arg0)) (m ((c : Thread nD τ).loc main_arg1))
abbrev PM (c : Dev nD) := PJ (m ((c : Thread nD τ).loc main_arg0)) (m ((c : Thread nD τ).loc main_arg1)) (m ((c : Thread nD τ).loc main_arg2))

/-- The scratch after any point of a run holds the normalised rows of that run's block. -/
theorem scratch (c : Dev nD) : ∀ (n : ℕ) (hn : n < cfg0.N) (r k : Fin 1024) (R : Fin 16384), R.val = n / 4 * 1024 + r.val →
    (outsAt0 m c n hn).2.2 (ix2 r k) = XM m c R k := by
  have hA : ∀ (t : Fin cfg0.N) (h0 : t.val % 4 = 0) (r k : Fin 1024) (R : Fin 16384), R.val = t.val / 4 * 1024 + r.val →
      (outsAt0 m c t.val t.isLt).2.2 (ix2 r k) = XM m c R k := by
    intro t h0 r k R hR
    rw [outsAt0_A m c t h0 (by omega)]
    frame_out
    pointwise [k0_pay1]
    show _ = XN _ _ R k
    unfold XN
    simp only [blk0 m c t _ _ R hR, blk1]
  suffices H : ∀ (n : ℕ) (t : Fin cfg0.N), t.val = n → ∀ (r k : Fin 1024) (R : Fin 16384), R.val = t.val / 4 * 1024 + r.val →
      (outsAt0 m c t.val t.isLt).2.2 (ix2 r k) = XM m c R k from fun n hn => H n ⟨n, hn⟩ rfl
  intro n
  induction n with
  | zero => intro t ht; exact hA t (by omega)
  | succ n ih =>
    intro t ht r k R hR
    by_cases h0 : t.val % 4 = 0
    · exact hA t h0 r k R hR
    · have hR' : R.val = (t.val - 1) / 4 * 1024 + r.val := by omega
      have e := ih ⟨t.val - 1, Nat.lt_of_le_of_lt (Nat.sub_le _ _) t.isLt⟩ (by dsimp only; omega) r k R hR'
      by_cases h1 : t.val % 4 = 3
      · rw [outsAt0_C m c t h0 h1]
        exact e
      · rw [outsAt0_B m c t h0 h1]
        exact e

theorem before (c : Dev nD) (t : Fin cfg0.N) (h0 : ¬ t.val % 4 = 0) (r k : Fin 1024) (R : Fin 16384) (hR : R.val = t.val / 4 * 1024 + r.val) :
    (outsAt0 m c (t.val - 1) (Nat.lt_of_le_of_lt (Nat.sub_le _ _) t.isLt)).2.2 (ix2 r k) = XM m c R k :=
  scratch m c _ _ r k R (by omega)

theorem wide (c : Dev nD) (t : Fin cfg0.N) (r : Fin 1024) (j : Fin 3072) (R : Fin 16384) (J : Fin 12288)
    (hR : R.val = t.val / 4 * 1024 + r.val) (hJ : J.val = t.val % 4 * 3072 + j.val) :
    (outsAt0 m c t.val t.isLt).1 (ix2 r j) = PM m c R J := by
  show _ = PJ _ _ _ R J
  by_cases h0 : t.val % 4 = 0
  · rw [outsAt0_A m c t h0 (by omega)]
    frame_out
    pointwise [k0_pay1, k0_pay2, k0_pay3]
    unfold PJ XN
    simp only [blk0 m c t _ _ R hR, blk1, blk2 m c t _ _ J hJ]
  · by_cases h1 : t.val % 4 = 3
    · rw [outsAt0_C m c t h0 h1]
      frame_out
      rw [(Memref.isWhole_whole _ : scM0_0.IsWhole).read_unread]
      pointwise [k0_pay2, k0_pay3]
      unfold PJ
      simp only [before m c t h0 _ _ R hR, blk2 m c t _ _ J hJ]
    · rw [outsAt0_B m c t h0 h1]
      frame_out
      rw [(Memref.isWhole_whole _ : scM0_0.IsWhole).read_unread]
      pointwise [k0_pay2, k0_pay3]
      unfold PJ
      simp only [before m c t h0 _ _ R hR, blk2 m c t _ _ J hJ]

theorem small (c : Dev nD) (t : Fin cfg0.N) (h1 : t.val % 4 = 3) (r : Fin 1024) (j : Fin 128) (R : Fin 16384) (J : Fin 12288)
    (hR : R.val = t.val / 4 * 1024 + r.val) (hJ : J.val = 11776 + j.val) :
    (outsAt0 m c t.val t.isLt).2.1 (ix2 r j) = PM m c R J := by
  show _ = PJ _ _ _ R J
  unfold PJ
  have h0 : ¬ t.val % 4 = 0 := by omega
  rw [outsAt0_C m c t h0 h1]
  frame_out
  rw [(Memref.isWhole_whole _ : scM0_0.IsWhole).read_unread]
  pointwise [k0_pay2, k0_pay4]
  simp only [before m c t h0 _ _ R hR]
  refine Finset.sum_congr rfl fun x _ => congrArg₂ (· * ·) rfl (blk2 m c t _ _ J ?_)
  dsimp only
  omega

theorem emb3 (t : Fin cfg0.N) (r : Fin 1024) (j : Fin 3072) (R : Fin 16384) (J : Fin 12288)
    (hR : R.val = t.val / 4 * 1024 + r.val) (hJ : J.val = t.val % 4 * 3072 + j.val) :
    (win0_3.blk t).view.emb (ix2 r j) = ix2 R J := by
  blk_ext [idx0 t]
theorem emb4 (t : Fin cfg0.N) (r : Fin 1024) (j : Fin 128) (R : Fin 16384)
    (hR : R.val = t.val / 4 * 1024 + r.val) :
    (win0_4.blk t).view.emb (ix2 r j) = ix2 R j := by
  blk_ext [idx0 t]

/-- The projection's two results as arrays: every column, and the columns kept at full precision. -/
def WIDE (x : FVec Ideal S16384x1024 .f32) (g : FVec Ideal S4x1024 .f32) (w : FVec Ideal S4x1024x11816 .f32) :
    FVec Ideal S16384x12288 .bf16 := fun i => PJ x g w (i 0) (i 1)
def SMALL (x : FVec Ideal S16384x1024 .f32) (g : FVec Ideal S4x1024 .f32) (w : FVec Ideal S4x1024x11816 .f32) :
    FVec Ideal S16384x128 .f32 := fun i => PJ x g w (i 0) ⟨11776 + (i 1).val, by have h : (i 1).val < 128 := (i 1).isLt; omega⟩

theorem final_wide (c : Dev nD) : (dats m 0 c).arrAt 3 cfg0.N = WIDE (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  have ht : t.val < 64 := t.isLt
  obtain ⟨R, hR⟩ : ∃ R : Fin 16384, R.val = t.val / 4 * 1024 + y0.val := ⟨⟨t.val / 4 * 1024 + y0.val, by omega⟩, rfl⟩
  obtain ⟨J, hJ⟩ : ∃ J : Fin 12288, J.val = t.val % 4 * 3072 + y1.val := ⟨⟨t.val % 4 * 3072 + y1.val, by omega⟩, rfl⟩
  refine Eq.trans ?_ (congrArg (WIDE (m ((c : Thread nD τ).loc main_arg0)) (m ((c : Thread nD τ).loc main_arg1)) (m ((c : Thread nD τ).loc main_arg2))) (emb3 t y0 y1 R J hR hJ).symm)
  exact wide m c t y0 y1 R J hR hJ

theorem flush4 : ∀ t : Fin cfg0.N, (cfg0.win 4).flush t = true → t.val % 4 = 3 := by decide +kernel

theorem final_small (c : Dev nD) : (dats m 0 c).arrAt 4 cfg0.N = SMALL (m ((c : Thread nD τ).loc main_arg0)) (m ((c : Thread nD τ).loc main_arg1)) (m ((c : Thread nD τ).loc main_arg2)) := by
  refine (dats m 0 c).arrAt_eq_of_covers 4 _ (by decide +kernel) fun t hf y => ?_
  have h1 := flush4 t hf
  blk_simp
  rw [after0_4]
  idx_vars y
  have ht : t.val < 64 := t.isLt
  obtain ⟨R, hR⟩ : ∃ R : Fin 16384, R.val = t.val / 4 * 1024 + y0.val := ⟨⟨t.val / 4 * 1024 + y0.val, by omega⟩, rfl⟩
  refine Eq.trans ?_ (congrArg (SMALL (m ((c : Thread nD τ).loc main_arg0)) (m ((c : Thread nD τ).loc main_arg1)) (m ((c : Thread nD τ).loc main_arg2))) (emb4 t y0 y1 R hR).symm)
  exact small m c t h1 y0 y1 R _ hR rfl

end Cert.InProjL2Ideal.Hand

end
-- ==== Proof.InProjL2Reference.lean ====
module

public import proofs.«01_k».proof.Proof.InProjL2Kernel
public import proofs.«01_k».proof.Proof.Gen.InProjL2RefIdeal.Read
public import Idealize.ShloMosaic.Lib.Pipeline.ValueKit

@[expose] public section

set_option maxRecDepth 16384

noncomputable section

namespace Cert.InProjL2RefIdeal.Hand

open Cert.InProjL2RefIdeal Cert.InProjL2RefIdeal.Gen Idealize.ShloMosaic Idealize.ShloMosaic.TcCoe Idealize.SL.Sem

open Cert.InProjL2RefIdeal.Read

open Cert.InProjL2Ideal.Hand (XN PJ WP WIDE SMALL)
open Cert.Relayout (src src_spec G_row G_pad G_tail)

/-- The plain projection: row `r` of the normalised input times column `s` of the weight. -/
theorem dot_apply (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (r : Fin 16384) (s : Fin 11816) :
    val_main_v17 (F := Ideal) x0 x1 x2 (ix2 r s) = ∑ k : Fin 1024, XN x0 x1 r k * x2 (ix3 2 k s) := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold XN
  rfl

theorem col (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (r : Fin 16384) (J : Fin 12288) (h : J.val < 11816) (s : Fin 11816) (hs : s.val = src J.val) :
    PJ x0 x1 x2 r J = val_main_v17 (F := Ideal) x0 x1 x2 (ix2 r s) := by
  rw [dot_apply]
  refine Finset.sum_congr rfl fun k _ => congrArg₂ (· * ·) rfl ?_
  exact G_row (F := Ideal) x2 (ix3 2 J k) h 2 k s rfl rfl hs

theorem pad (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (r : Fin 16384) (J : Fin 12288) (h : ¬ J.val < 11816) : PJ x0 x1 x2 r J = 0 := by
  refine Finset.sum_eq_zero fun k _ => ?_
  have e : WP x2 (ix3 2 J k) = (0 : EReal) := by
    by_cases h' : J.val < 11904
    · rw [show WP x2 (ix3 2 J k) = Ideal.ofBits .f32 0x00000000#32 from G_pad (F := Ideal) x2 (ix3 2 J k) h h', Ideal.ofBits_zero_f32]
    · rw [show WP x2 (ix3 2 J k) = Ideal.ofBits .bf16 0x0000#16 from G_tail (F := Ideal) x2 (ix3 2 J k) h', Ideal.ofBits_zero_bf16]
  rw [e, mul_zero]

theorem pick {P : Prop} [Decidable P] {z : EReal} {x : P → EReal} {y : ¬P → EReal} (hx : ∀ h, z = x h) (hy : ∀ h, z = y h) :
    z = dite P x y := by
  by_cases h : P
  · rw [dif_pos h]; exact hx h
  · rw [dif_neg h]; exact hy h

set_option maxHeartbeats 1000000 in
theorem ref_wide (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (i : S16384x12288.Idx) : WIDE x0 x1 x2 i = val_main_v36 (F := Ideal) x0 x1 x2 i := by
  idx_vars i
  show PJ x0 x1 x2 i0 i1 = _
  pointwise [val_main_v36, val_main_v33, val_main_v32, val_main_v31, val_main_v30, val_main_v29, val_main_v28, val_main_v27, val_main_v26, val_main_v25, val_main_v24, val_main_v23, val_main_v22, val_main_v21, val_main_v20, val_main_v19, val_main_v18, val_main_cst_2]
  iterate 14
    refine pick (fun h => ?_) fun h => ?_
    · refine col x0 x1 x2 i0 i1 ?_ _ ?_
      · omega
      · first
          | (refine src_spec i1.val _ (.inl ?_); (try dsimp only); constructor <;> omega)
          | (refine src_spec i1.val _ (.inr (.inl ?_)); (try dsimp only); refine ⟨?_, ?_, ?_⟩ <;> omega)
          | (refine src_spec i1.val _ (.inr (.inr (.inl ?_))); (try dsimp only); refine ⟨?_, ?_, ?_⟩ <;> omega)
          | (refine src_spec i1.val _ (.inr (.inr (.inr (.inl ?_)))); (try dsimp only); refine ⟨?_, ?_, ?_⟩ <;> omega)
          | (refine src_spec i1.val _ (.inr (.inr (.inr (.inr (.inl ?_))))); (try dsimp only); refine ⟨?_, ?_, ?_⟩ <;> omega)
          | (refine src_spec i1.val _ (.inr (.inr (.inr (.inr (.inr (.inl ?_)))))); (try dsimp only); refine ⟨?_, ?_, ?_⟩ <;> omega)
          | (refine src_spec i1.val _ (.inr (.inr (.inr (.inr (.inr (.inr (.inl ?_))))))); (try dsimp only); refine ⟨?_, ?_, ?_⟩ <;> omega)
          | (refine src_spec i1.val _ (.inr (.inr (.inr (.inr (.inr (.inr (.inr (?_)))))))); (try dsimp only); constructor <;> omega)
  exact pad x0 x1 x2 i0 i1 (by omega)

set_option maxHeartbeats 1000000 in
theorem ref_small (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (i : S16384x128.Idx) : SMALL x0 x1 x2 i = val_main_v35 (F := Ideal) x0 x1 x2 i := by
  idx_vars i
  show PJ x0 x1 x2 i0 ⟨11776 + i1.val, _⟩ = _
  pointwise [val_main_v35, val_main_v34, val_main_v30, val_main_v26, val_main_v25, val_main_v21, val_main_cst_3]
  iterate 4
    refine pick (fun h => ?_) fun h => ?_
    · refine col x0 x1 x2 i0 _ ?_ _ ?_
      · show 11776 + i1.val < 11816; omega
      · first
          | (refine src_spec (11776 + i1.val) _ (.inl ?_); (try dsimp only); constructor <;> omega)
          | (refine src_spec (11776 + i1.val) _ (.inr (.inl ?_)); (try dsimp only); refine ⟨?_, ?_, ?_⟩ <;> omega)
          | (refine src_spec (11776 + i1.val) _ (.inr (.inr (.inl ?_))); (try dsimp only); refine ⟨?_, ?_, ?_⟩ <;> omega)
          | (refine src_spec (11776 + i1.val) _ (.inr (.inr (.inr (.inl ?_)))); (try dsimp only); refine ⟨?_, ?_, ?_⟩ <;> omega)
          | (refine src_spec (11776 + i1.val) _ (.inr (.inr (.inr (.inr (.inl ?_))))); (try dsimp only); refine ⟨?_, ?_, ?_⟩ <;> omega)
          | (refine src_spec (11776 + i1.val) _ (.inr (.inr (.inr (.inr (.inr (.inl ?_)))))); (try dsimp only); refine ⟨?_, ?_, ?_⟩ <;> omega)
          | (refine src_spec (11776 + i1.val) _ (.inr (.inr (.inr (.inr (.inr (.inr (.inl ?_))))))); (try dsimp only); refine ⟨?_, ?_, ?_⟩ <;> omega)
          | (refine src_spec (11776 + i1.val) _ (.inr (.inr (.inr (.inr (.inr (.inr (.inr (?_)))))))); (try dsimp only); constructor <;> omega)
  exact pad x0 x1 x2 i0 _ (by show ¬ 11776 + i1.val < 11816; omega)

end Cert.InProjL2RefIdeal.Hand

end
-- ==== Proof.InProjL2Claims.lean ====
module

public import proofs.«01_k».proof.Defs
public import proofs.«01_k».proof.Proof.Gen.InProjL2.Frame
public import proofs.«01_k».proof.Proof.InProjL2Kernel
public import proofs.«01_k».proof.Proof.InProjL2Reference
public import Idealize.ShloMosaic.Lib.Claim

@[expose] public section

set_option maxRecDepth 16384

noncomputable section

namespace Cert.InProjL2.Hand

open Idealize.ShloMosaic Idealize.ShloMosaic.TcCoe Idealize.SL.Sem

theorem frame_kernel : Cert.quiescent_InProjL2 := fun m ρ _ => Cert.InProjL2.Gen.frame m ρ
theorem frame_ideal : Cert.quiescent_InProjL2Ideal := fun m ρ _ => Cert.InProjL2Ideal.Gen.frame m ρ
theorem frame_refideal : Cert.quiescent_InProjL2RefIdeal := fun m ρ _ =>
  θ_run_mono (Cert.InProjL2RefIdeal.Value.run m ρ) fun r h => ⟨fun c => (h c).2.2, sem_eq_zero_of_no_sems (by decide) r.2⟩

theorem algebraic : Cert.algebraic_InProjL2Ideal_InProjL2RefIdeal := by
  pair_intro
  · run_from Cert.InProjL2Ideal.Value.run_blocks m g
  · run_from Cert.InProjL2RefIdeal.Value.run m' g'
    · rw [Cert.InProjL2RefIdeal.Read.val_main_v36_eq, Cert.InProjL2Ideal.Hand.final_wide, (hagree c).1, (hagree c).2.1, (hagree c).2.2]
      exact funext fun i => (Cert.InProjL2RefIdeal.Hand.ref_wide _ _ _ i).symm
    · rw [Cert.InProjL2RefIdeal.Read.val_main_v35_eq, Cert.InProjL2Ideal.Hand.final_small, (hagree c).1, (hagree c).2.1, (hagree c).2.2]
      exact funext fun i => (Cert.InProjL2RefIdeal.Hand.ref_small _ _ _ i).symm

end Cert.InProjL2.Hand

end
-- ==== Proof.InProjL3Kernel.lean ====
module

public import proofs.«01_k».proof.Proof.Gen.InProjL3Ideal.Value
public import proofs.«01_k».proof.Proof.Gen.InProjL3RefIdeal.Read
public import proofs.«01_k».proof.Proof.RelayoutReferenceIdeal
public import proofs.«01_k».proof.Proof.RelayoutClaims
public import Idealize.ShloMosaic.Lib.Pipeline.ValueKit

@[expose] public section

set_option maxRecDepth 16384

noncomputable section

namespace Cert.InProjL3Ideal.Hand

open Cert.InProjL3Ideal Cert.InProjL3Ideal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin grid0.N, win0_0.index t = ![t.val / 4, 0] ∧ win0_1.index t = ![3, 0, 0] ∧ win0_2.index t = ![3, t.val % 4, 0]
    ∧ win0_3.index t = ![t.val / 4, t.val % 4] ∧ win0_4.index t = ![t.val / 4, 0] := by decide +kernel

theorem blk0 (c : Dev nD) (t : Fin cfg0.N) (r : Fin 1024) (k : Fin 1024) (R : Fin 16384) (h : R.val = t.val / 4 * 1024 + r.val) :
    iblk m c 0 t (ix2 r k) = m ((c : Thread nD τ).loc main_arg0) (ix2 R k) := by
  blk_ext [iblk, V, idx0 t]
theorem blk1 (c : Dev nD) (t : Fin cfg0.N) (k : Fin 1024) :
    iblk m c 1 t (ix3 0 0 k) = m ((c : Thread nD τ).loc main_arg1) (ix2 3 k) := by
  blk_simp [iblk, idx0 t]
  entry_read
  pointwise
  blk_ext [idx0 t]
abbrev WP (A : FVec Ideal S4x1024x11816 .f32) : FVec Ideal S4x12288x1024 .bf16 := Cert.Relayout.G (F := Ideal) A

/-- The last three host operations: the pieces concatenated, transposed and rounded. -/
theorem tail_w (σ : Valuation τ sig (Elt Ideal)) (u0 : (⟨S4x1024x512, .f32⟩ : BufTy).Contents (Elt Ideal)) (u1 : (⟨S4x1024x512, .f32⟩ : BufTy).Contents (Elt Ideal)) (u2 : (⟨S4x1024x1024, .f32⟩ : BufTy).Contents (Elt Ideal)) (u3 : (⟨S4x1024x1024, .f32⟩ : BufTy).Contents (Elt Ideal)) (u4 : (⟨S4x1024x1024, .f32⟩ : BufTy).Contents (Elt Ideal)) (u5 : (⟨S4x1024x1024, .f32⟩ : BufTy).Contents (Elt Ideal)) (u6 : (⟨S4x1024x1024, .f32⟩ : BufTy).Contents (Elt Ideal)) (u7 : (⟨S4x1024x3072, .f32⟩ : BufTy).Contents (Elt Ideal)) (u8 : (⟨S4x1024x1024, .f32⟩ : BufTy).Contents (Elt Ideal)) (u9 : (⟨S4x1024x1536, .f32⟩ : BufTy).Contents (Elt Ideal)) (u10 : (⟨S4x1024x16, .f32⟩ : BufTy).Contents (Elt Ideal)) (u11 : (⟨S4x1024x4, .f32⟩ : BufTy).Contents (Elt Ideal)) (u12 : (⟨S4x1024x4, .f32⟩ : BufTy).Contents (Elt Ideal)) (u13 : (⟨S4x1024x16, .f32⟩ : BufTy).Contents (Elt Ideal)) (u14 : (⟨S4x1024x472, .f32⟩ : BufTy).Contents (Elt Ideal))
    (h0 : σ (Proc.devRef .tc main_v1) = u0) (h1 : σ (Proc.devRef .tc main_v2) = u1) (h2 : σ (Proc.devRef .tc main_v3) = u2) (h3 : σ (Proc.devRef .tc main_v5) = u3) (h4 : σ (Proc.devRef .tc main_v6) = u4) (h5 : σ (Proc.devRef .tc main_v7) = u5) (h6 : σ (Proc.devRef .tc main_v10) = u6) (h7 : σ (Proc.devRef .tc main_v14) = u7) (h8 : σ (Proc.devRef .tc main_v11) = u8) (h9 : σ (Proc.devRef .tc main_v12) = u9) (h10 : σ (Proc.devRef .tc main_v4) = u10) (h11 : σ (Proc.devRef .tc main_v8) = u11) (h12 : σ (Proc.devRef .tc main_v9) = u12) (h13 : σ (Proc.devRef .tc main_v13) = u13) (h14 : σ (Proc.devRef .tc main_v15) = u14) :
    StableHlo.after (List.drop 17 (hostOps0 (F := Ideal))) σ (Proc.devRef .tc main_v18) = ((truncf (F := Ideal) .bf16 (transpose S4x12288x1024 [0, 2, 1] ((concatenate S4x1024x12288 2 [⟨S4x1024x512, (u0 : (⟨S4x1024x512, .f32⟩ : BufTy).Contents (Elt Ideal))⟩, ⟨S4x1024x512, (u1 : (⟨S4x1024x512, .f32⟩ : BufTy).Contents (Elt Ideal))⟩, ⟨S4x1024x1024, (u2 : (⟨S4x1024x1024, .f32⟩ : BufTy).Contents (Elt Ideal))⟩, ⟨S4x1024x1024, (u3 : (⟨S4x1024x1024, .f32⟩ : BufTy).Contents (Elt Ideal))⟩, ⟨S4x1024x1024, (u4 : (⟨S4x1024x1024, .f32⟩ : BufTy).Contents (Elt Ideal))⟩, ⟨S4x1024x1024, (u5 : (⟨S4x1024x1024, .f32⟩ : BufTy).Contents (Elt Ideal))⟩, ⟨S4x1024x1024, (u6 : (⟨S4x1024x1024, .f32⟩ : BufTy).Contents (Elt Ideal))⟩, ⟨S4x1024x3072, (u7 : (⟨S4x1024x3072, .f32⟩ : BufTy).Contents (Elt Ideal))⟩, ⟨S4x1024x1024, (u8 : (⟨S4x1024x1024, .f32⟩ : BufTy).Contents (Elt Ideal))⟩, ⟨S4x1024x1536, (u9 : (⟨S4x1024x1536, .f32⟩ : BufTy).Contents (Elt Ideal))⟩, ⟨S4x1024x16, (u10 : (⟨S4x1024x16, .f32⟩ : BufTy).Contents (Elt Ideal))⟩, ⟨S4x1024x4, (u11 : (⟨S4x1024x4, .f32⟩ : BufTy).Contents (Elt Ideal))⟩, ⟨S4x1024x4, (u12 : (⟨S4x1024x4, .f32⟩ : BufTy).Contents (Elt Ideal))⟩, ⟨S4x1024x16, (u13 : (⟨S4x1024x16, .f32⟩ : BufTy).Contents (Elt Ideal))⟩, ⟨S4x1024x472, (u14 : (⟨S4x1024x472, .f32⟩ : BufTy).Contents (Elt Ideal))⟩] concatenates_S4x1024x512_S4x1024x512_S4x1024x1024_S4x1024x1024_S4x1024x1024_S4x1024x1024_S4x1024x1024_S4x1024x3072_S4x1024x1024_S4x1024x1536_S4x1024x16_S4x1024x4_S4x1024x4_S4x1024x16_S4x1024x472_S4x1024x12288_d2 : (⟨S4x1024x12288, .f32⟩ : BufTy).Contents (Elt Ideal))) transposes_S4x1024x12288_S4x12288x1024_0_2_1) bitsLt_bf16_f32) : (⟨S4x12288x1024, .bf16⟩ : BufTy).Contents (Elt Ideal)) := by
  subst h0 h1 h2 h3 h4 h5 h6 h7 h8 h9 h10 h11 h12 h13 h14
  simp only [List.drop, StableHlo.after_cons, StableHlo.after_nil]
  rw [StableHlo.unary_result', StableHlo.unary_result', StableHlo.nary_result']
  rfl

theorem entry_w (c : Dev nD) (i : S4x12288x1024.Idx) :
    V m c main_v18 i = WP (m ((c : Thread nD τ).loc main_arg2)) i := by
  have h : V m c main_v18 = StableHlo.after (List.drop 17 (hostOps0 (F := Ideal))) (StableHlo.after (List.take 17 (hostOps0 (F := Ideal))) (fun b => m (c, b)))
      (Proc.devRef .tc main_v18) := rfl
  refine Eq.trans ?_ (Cert.ReferenceIdeal.Hand.ref_apply Cert.Relayout.zero_ideal _ i)
  refine congrFun (h.trans (tail_w _ _ _ _ _ _ _ _ _ _ _ _ _ _ _ _ ?_ ?_ ?_ ?_ ?_ ?_ ?_ ?_ ?_ ?_ ?_ ?_ ?_ ?_ ?_)) i
  iterate 15
    · simp only [List.take]
      after_results_simp

theorem blk2 (c : Dev nD) (t : Fin cfg0.N) (j : Fin 3072) (k : Fin 1024) (J : Fin 12288) (h : J.val = t.val % 4 * 3072 + j.val) :
    iblk m c 2 t (ix3 0 j k) = WP (m ((c : Thread nD τ).loc main_arg2)) (ix3 3 J k) := by
  have e : (win0_2.blk t).view.emb (ix3 0 j k) = ix3 3 J k := by blk_ext [idx0 t]
  blk_simp [iblk, idx0 t]
  exact (congrArg _ e).trans (entry_w m c _)

/-- Row `r` of the input normalised by its root mean square and scaled, at column `k`. -/
def XN (x : FVec Ideal S16384x1024 .f32) (g : FVec Ideal S4x1024 .f32) (r : Fin 16384) (k : Fin 1024) : EReal :=
  x (ix2 r k) * Ideal.rsqrt (Ideal.div (∑ j : Fin 1024, x (ix2 r j) * x (ix2 r j)) (Ideal.ofBits .f32 0x44800000#32) + Ideal.ofBits .f32 0x358637BD#32)
    * g (ix2 3 k)

/-- Row `r` of the normalised input times row `j` of the re-laid weight of the first layer. -/
def PJ (x : FVec Ideal S16384x1024 .f32) (g : FVec Ideal S4x1024 .f32) (w : FVec Ideal S4x1024x11816 .f32)
    (r : Fin 16384) (j : Fin 12288) : EReal :=
  ∑ k : Fin 1024, XN x g r k * WP w (ix3 3 j k)

abbrev XM (c : Dev nD) := XN (m ((c : Thread nD τ).loc main_arg0)) (m ((c : Thread nD τ).loc main_arg1))
abbrev PM (c : Dev nD) := PJ (m ((c : Thread nD τ).loc main_arg0)) (m ((c : Thread nD τ).loc main_arg1)) (m ((c : Thread nD τ).loc main_arg2))

/-- The scratch after any point of a run holds the normalised rows of that run's block. -/
theorem scratch (c : Dev nD) : ∀ (n : ℕ) (hn : n < cfg0.N) (r k : Fin 1024) (R : Fin 16384), R.val = n / 4 * 1024 + r.val →
    (outsAt0 m c n hn).2.2 (ix2 r k) = XM m c R k := by
  have hA : ∀ (t : Fin cfg0.N) (h0 : t.val % 4 = 0) (r k : Fin 1024) (R : Fin 16384), R.val = t.val / 4 * 1024 + r.val →
      (outsAt0 m c t.val t.isLt).2.2 (ix2 r k) = XM m c R k := by
    intro t h0 r k R hR
    rw [outsAt0_A m c t h0 (by omega)]
    frame_out
    pointwise [k0_pay1]
    show _ = XN _ _ R k
    unfold XN
    simp only [blk0 m c t _ _ R hR, blk1]
  suffices H : ∀ (n : ℕ) (t : Fin cfg0.N), t.val = n → ∀ (r k : Fin 1024) (R : Fin 16384), R.val = t.val / 4 * 1024 + r.val →
      (outsAt0 m c t.val t.isLt).2.2 (ix2 r k) = XM m c R k from fun n hn => H n ⟨n, hn⟩ rfl
  intro n
  induction n with
  | zero => intro t ht; exact hA t (by omega)
  | succ n ih =>
    intro t ht r k R hR
    by_cases h0 : t.val % 4 = 0
    · exact hA t h0 r k R hR
    · have hR' : R.val = (t.val - 1) / 4 * 1024 + r.val := by omega
      have e := ih ⟨t.val - 1, Nat.lt_of_le_of_lt (Nat.sub_le _ _) t.isLt⟩ (by dsimp only; omega) r k R hR'
      by_cases h1 : t.val % 4 = 3
      · rw [outsAt0_C m c t h0 h1]
        exact e
      · rw [outsAt0_B m c t h0 h1]
        exact e

theorem before (c : Dev nD) (t : Fin cfg0.N) (h0 : ¬ t.val % 4 = 0) (r k : Fin 1024) (R : Fin 16384) (hR : R.val = t.val / 4 * 1024 + r.val) :
    (outsAt0 m c (t.val - 1) (Nat.lt_of_le_of_lt (Nat.sub_le _ _) t.isLt)).2.2 (ix2 r k) = XM m c R k :=
  scratch m c _ _ r k R (by omega)

theorem wide (c : Dev nD) (t : Fin cfg0.N) (r : Fin 1024) (j : Fin 3072) (R : Fin 16384) (J : Fin 12288)
    (hR : R.val = t.val / 4 * 1024 + r.val) (hJ : J.val = t.val % 4 * 3072 + j.val) :
    (outsAt0 m c t.val t.isLt).1 (ix2 r j) = PM m c R J := by
  show _ = PJ _ _ _ R J
  by_cases h0 : t.val % 4 = 0
  · rw [outsAt0_A m c t h0 (by omega)]
    frame_out
    pointwise [k0_pay1, k0_pay2, k0_pay3]
    unfold PJ XN
    simp only [blk0 m c t _ _ R hR, blk1, blk2 m c t _ _ J hJ]
  · by_cases h1 : t.val % 4 = 3
    · rw [outsAt0_C m c t h0 h1]
      frame_out
      rw [(Memref.isWhole_whole _ : scM0_0.IsWhole).read_unread]
      pointwise [k0_pay2, k0_pay3]
      unfold PJ
      simp only [before m c t h0 _ _ R hR, blk2 m c t _ _ J hJ]
    · rw [outsAt0_B m c t h0 h1]
      frame_out
      rw [(Memref.isWhole_whole _ : scM0_0.IsWhole).read_unread]
      pointwise [k0_pay2, k0_pay3]
      unfold PJ
      simp only [before m c t h0 _ _ R hR, blk2 m c t _ _ J hJ]

theorem small (c : Dev nD) (t : Fin cfg0.N) (h1 : t.val % 4 = 3) (r : Fin 1024) (j : Fin 128) (R : Fin 16384) (J : Fin 12288)
    (hR : R.val = t.val / 4 * 1024 + r.val) (hJ : J.val = 11776 + j.val) :
    (outsAt0 m c t.val t.isLt).2.1 (ix2 r j) = PM m c R J := by
  show _ = PJ _ _ _ R J
  unfold PJ
  have h0 : ¬ t.val % 4 = 0 := by omega
  rw [outsAt0_C m c t h0 h1]
  frame_out
  rw [(Memref.isWhole_whole _ : scM0_0.IsWhole).read_unread]
  pointwise [k0_pay2, k0_pay4]
  simp only [before m c t h0 _ _ R hR]
  refine Finset.sum_congr rfl fun x _ => congrArg₂ (· * ·) rfl (blk2 m c t _ _ J ?_)
  dsimp only
  omega

theorem emb3 (t : Fin cfg0.N) (r : Fin 1024) (j : Fin 3072) (R : Fin 16384) (J : Fin 12288)
    (hR : R.val = t.val / 4 * 1024 + r.val) (hJ : J.val = t.val % 4 * 3072 + j.val) :
    (win0_3.blk t).view.emb (ix2 r j) = ix2 R J := by
  blk_ext [idx0 t]
theorem emb4 (t : Fin cfg0.N) (r : Fin 1024) (j : Fin 128) (R : Fin 16384)
    (hR : R.val = t.val / 4 * 1024 + r.val) :
    (win0_4.blk t).view.emb (ix2 r j) = ix2 R j := by
  blk_ext [idx0 t]

/-- The projection's two results as arrays: every column, and the columns kept at full precision. -/
def WIDE (x : FVec Ideal S16384x1024 .f32) (g : FVec Ideal S4x1024 .f32) (w : FVec Ideal S4x1024x11816 .f32) :
    FVec Ideal S16384x12288 .bf16 := fun i => PJ x g w (i 0) (i 1)
def SMALL (x : FVec Ideal S16384x1024 .f32) (g : FVec Ideal S4x1024 .f32) (w : FVec Ideal S4x1024x11816 .f32) :
    FVec Ideal S16384x128 .f32 := fun i => PJ x g w (i 0) ⟨11776 + (i 1).val, by have h : (i 1).val < 128 := (i 1).isLt; omega⟩

theorem final_wide (c : Dev nD) : (dats m 0 c).arrAt 3 cfg0.N = WIDE (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  have ht : t.val < 64 := t.isLt
  obtain ⟨R, hR⟩ : ∃ R : Fin 16384, R.val = t.val / 4 * 1024 + y0.val := ⟨⟨t.val / 4 * 1024 + y0.val, by omega⟩, rfl⟩
  obtain ⟨J, hJ⟩ : ∃ J : Fin 12288, J.val = t.val % 4 * 3072 + y1.val := ⟨⟨t.val % 4 * 3072 + y1.val, by omega⟩, rfl⟩
  refine Eq.trans ?_ (congrArg (WIDE (m ((c : Thread nD τ).loc main_arg0)) (m ((c : Thread nD τ).loc main_arg1)) (m ((c : Thread nD τ).loc main_arg2))) (emb3 t y0 y1 R J hR hJ).symm)
  exact wide m c t y0 y1 R J hR hJ

theorem flush4 : ∀ t : Fin cfg0.N, (cfg0.win 4).flush t = true → t.val % 4 = 3 := by decide +kernel

theorem final_small (c : Dev nD) : (dats m 0 c).arrAt 4 cfg0.N = SMALL (m ((c : Thread nD τ).loc main_arg0)) (m ((c : Thread nD τ).loc main_arg1)) (m ((c : Thread nD τ).loc main_arg2)) := by
  refine (dats m 0 c).arrAt_eq_of_covers 4 _ (by decide +kernel) fun t hf y => ?_
  have h1 := flush4 t hf
  blk_simp
  rw [after0_4]
  idx_vars y
  have ht : t.val < 64 := t.isLt
  obtain ⟨R, hR⟩ : ∃ R : Fin 16384, R.val = t.val / 4 * 1024 + y0.val := ⟨⟨t.val / 4 * 1024 + y0.val, by omega⟩, rfl⟩
  refine Eq.trans ?_ (congrArg (SMALL (m ((c : Thread nD τ).loc main_arg0)) (m ((c : Thread nD τ).loc main_arg1)) (m ((c : Thread nD τ).loc main_arg2))) (emb4 t y0 y1 R hR).symm)
  exact small m c t h1 y0 y1 R _ hR rfl

end Cert.InProjL3Ideal.Hand

end
-- ==== Proof.InProjL3Reference.lean ====
module

public import proofs.«01_k».proof.Proof.InProjL3Kernel
public import proofs.«01_k».proof.Proof.Gen.InProjL3RefIdeal.Read
public import Idealize.ShloMosaic.Lib.Pipeline.ValueKit

@[expose] public section

set_option maxRecDepth 16384

noncomputable section

namespace Cert.InProjL3RefIdeal.Hand

open Cert.InProjL3RefIdeal Cert.InProjL3RefIdeal.Gen Idealize.ShloMosaic Idealize.ShloMosaic.TcCoe Idealize.SL.Sem

open Cert.InProjL3RefIdeal.Read

open Cert.InProjL3Ideal.Hand (XN PJ WP WIDE SMALL)
open Cert.Relayout (src src_spec G_row G_pad G_tail)

/-- The plain projection: row `r` of the normalised input times column `s` of the weight. -/
theorem dot_apply (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (r : Fin 16384) (s : Fin 11816) :
    val_main_v17 (F := Ideal) x0 x1 x2 (ix2 r s) = ∑ k : Fin 1024, XN x0 x1 r k * x2 (ix3 3 k s) := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold XN
  rfl

theorem col (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (r : Fin 16384) (J : Fin 12288) (h : J.val < 11816) (s : Fin 11816) (hs : s.val = src J.val) :
    PJ x0 x1 x2 r J = val_main_v17 (F := Ideal) x0 x1 x2 (ix2 r s) := by
  rw [dot_apply]
  refine Finset.sum_congr rfl fun k _ => congrArg₂ (· * ·) rfl ?_
  exact G_row (F := Ideal) x2 (ix3 3 J k) h 3 k s rfl rfl hs

theorem pad (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (r : Fin 16384) (J : Fin 12288) (h : ¬ J.val < 11816) : PJ x0 x1 x2 r J = 0 := by
  refine Finset.sum_eq_zero fun k _ => ?_
  have e : WP x2 (ix3 3 J k) = (0 : EReal) := by
    by_cases h' : J.val < 11904
    · rw [show WP x2 (ix3 3 J k) = Ideal.ofBits .f32 0x00000000#32 from G_pad (F := Ideal) x2 (ix3 3 J k) h h', Ideal.ofBits_zero_f32]
    · rw [show WP x2 (ix3 3 J k) = Ideal.ofBits .bf16 0x0000#16 from G_tail (F := Ideal) x2 (ix3 3 J k) h', Ideal.ofBits_zero_bf16]
  rw [e, mul_zero]

theorem pick {P : Prop} [Decidable P] {z : EReal} {x : P → EReal} {y : ¬P → EReal} (hx : ∀ h, z = x h) (hy : ∀ h, z = y h) :
    z = dite P x y := by
  by_cases h : P
  · rw [dif_pos h]; exact hx h
  · rw [dif_neg h]; exact hy h

set_option maxHeartbeats 1000000 in
theorem ref_wide (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (i : S16384x12288.Idx) : WIDE x0 x1 x2 i = val_main_v36 (F := Ideal) x0 x1 x2 i := by
  idx_vars i
  show PJ x0 x1 x2 i0 i1 = _
  pointwise [val_main_v36, val_main_v33, val_main_v32, val_main_v31, val_main_v30, val_main_v29, val_main_v28, val_main_v27, val_main_v26, val_main_v25, val_main_v24, val_main_v23, val_main_v22, val_main_v21, val_main_v20, val_main_v19, val_main_v18, val_main_cst_2]
  iterate 14
    refine pick (fun h => ?_) fun h => ?_
    · refine col x0 x1 x2 i0 i1 ?_ _ ?_
      · omega
      · first
          | (refine src_spec i1.val _ (.inl ?_); (try dsimp only); constructor <;> omega)
          | (refine src_spec i1.val _ (.inr (.inl ?_)); (try dsimp only); refine ⟨?_, ?_, ?_⟩ <;> omega)
          | (refine src_spec i1.val _ (.inr (.inr (.inl ?_))); (try dsimp only); refine ⟨?_, ?_, ?_⟩ <;> omega)
          | (refine src_spec i1.val _ (.inr (.inr (.inr (.inl ?_)))); (try dsimp only); refine ⟨?_, ?_, ?_⟩ <;> omega)
          | (refine src_spec i1.val _ (.inr (.inr (.inr (.inr (.inl ?_))))); (try dsimp only); refine ⟨?_, ?_, ?_⟩ <;> omega)
          | (refine src_spec i1.val _ (.inr (.inr (.inr (.inr (.inr (.inl ?_)))))); (try dsimp only); refine ⟨?_, ?_, ?_⟩ <;> omega)
          | (refine src_spec i1.val _ (.inr (.inr (.inr (.inr (.inr (.inr (.inl ?_))))))); (try dsimp only); refine ⟨?_, ?_, ?_⟩ <;> omega)
          | (refine src_spec i1.val _ (.inr (.inr (.inr (.inr (.inr (.inr (.inr (?_)))))))); (try dsimp only); constructor <;> omega)
  exact pad x0 x1 x2 i0 i1 (by omega)

set_option maxHeartbeats 1000000 in
theorem ref_small (x0 : (⟨S16384x1024, .f32⟩ : BufTy).Contents (Elt Ideal)) (x1 : (⟨S4x1024, .f32⟩ : BufTy).Contents (Elt Ideal)) (x2 : (⟨S4x1024x11816, .f32⟩ : BufTy).Contents (Elt Ideal)) (i : S16384x128.Idx) : SMALL x0 x1 x2 i = val_main_v35 (F := Ideal) x0 x1 x2 i := by
  idx_vars i
  show PJ x0 x1 x2 i0 ⟨11776 + i1.val, _⟩ = _
  pointwise [val_main_v35, val_main_v34, val_main_v30, val_main_v26, val_main_v25, val_main_v21, val_main_cst_3]
  iterate 4
    refine pick (fun h => ?_) fun h => ?_
    · refine col x0 x1 x2 i0 _ ?_ _ ?_
      · show 11776 + i1.val < 11816; omega
      · first
          | (refine src_spec (11776 + i1.val) _ (.inl ?_); (try dsimp only); constructor <;> omega)
          | (refine src_spec (11776 + i1.val) _ (.inr (.inl ?_)); (try dsimp only); refine ⟨?_, ?_, ?_⟩ <;> omega)
          | (refine src_spec (11776 + i1.val) _ (.inr (.inr (.inl ?_))); (try dsimp only); refine ⟨?_, ?_, ?_⟩ <;> omega)
          | (refine src_spec (11776 + i1.val) _ (.inr (.inr (.inr (.inl ?_)))); (try dsimp only); refine ⟨?_, ?_, ?_⟩ <;> omega)
          | (refine src_spec (11776 + i1.val) _ (.inr (.inr (.inr (.inr (.inl ?_))))); (try dsimp only); refine ⟨?_, ?_, ?_⟩ <;> omega)
          | (refine src_spec (11776 + i1.val) _ (.inr (.inr (.inr (.inr (.inr (.inl ?_)))))); (try dsimp only); refine ⟨?_, ?_, ?_⟩ <;> omega)
          | (refine src_spec (11776 + i1.val) _ (.inr (.inr (.inr (.inr (.inr (.inr (.inl ?_))))))); (try dsimp only); refine ⟨?_, ?_, ?_⟩ <;> omega)
          | (refine src_spec (11776 + i1.val) _ (.inr (.inr (.inr (.inr (.inr (.inr (.inr (?_)))))))); (try dsimp only); constructor <;> omega)
  exact pad x0 x1 x2 i0 _ (by show ¬ 11776 + i1.val < 11816; omega)

end Cert.InProjL3RefIdeal.Hand

end
-- ==== Proof.InProjL3Claims.lean ====
module

public import proofs.«01_k».proof.Defs
public import proofs.«01_k».proof.Proof.Gen.InProjL3.Frame
public import proofs.«01_k».proof.Proof.InProjL3Kernel
public import proofs.«01_k».proof.Proof.InProjL3Reference
public import Idealize.ShloMosaic.Lib.Claim

@[expose] public section

set_option maxRecDepth 16384

noncomputable section

namespace Cert.InProjL3.Hand

open Idealize.ShloMosaic Idealize.ShloMosaic.TcCoe Idealize.SL.Sem

theorem frame_kernel : Cert.quiescent_InProjL3 := fun m ρ _ => Cert.InProjL3.Gen.frame m ρ
theorem frame_ideal : Cert.quiescent_InProjL3Ideal := fun m ρ _ => Cert.InProjL3Ideal.Gen.frame m ρ
theorem frame_refideal : Cert.quiescent_InProjL3RefIdeal := fun m ρ _ =>
  θ_run_mono (Cert.InProjL3RefIdeal.Value.run m ρ) fun r h => ⟨fun c => (h c).2.2, sem_eq_zero_of_no_sems (by decide) r.2⟩

theorem algebraic : Cert.algebraic_InProjL3Ideal_InProjL3RefIdeal := by
  pair_intro
  · run_from Cert.InProjL3Ideal.Value.run_blocks m g
  · run_from Cert.InProjL3RefIdeal.Value.run m' g'
    · rw [Cert.InProjL3RefIdeal.Read.val_main_v36_eq, Cert.InProjL3Ideal.Hand.final_wide, (hagree c).1, (hagree c).2.1, (hagree c).2.2]
      exact funext fun i => (Cert.InProjL3RefIdeal.Hand.ref_wide _ _ _ i).symm
    · rw [Cert.InProjL3RefIdeal.Read.val_main_v35_eq, Cert.InProjL3Ideal.Hand.final_small, (hagree c).1, (hagree c).2.1, (hagree c).2.2]
      exact funext fun i => (Cert.InProjL3RefIdeal.Hand.ref_small _ _ _ i).symm

end Cert.InProjL3.Hand

end
-- ==== Proof.MergeL1Kernel.lean ====
module

public import proofs.«01_k».proof.Proof.Gen.MergeL1Ideal.Value
public import proofs.«01_k».proof.Proof.Gen.MergeL1RefIdeal.Read
public import Idealize.ShloMosaic.Lib.Pipeline.ValueKit

@[expose] public section

set_option maxRecDepth 16384

noncomputable section

namespace Cert.MergeL1Ideal.Hand

open Cert.MergeL1Ideal Cert.MergeL1Ideal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin grid0.N, win0_0.index t = ![t.val, 0] ∧ win0_1.index t = ![t.val, 0] ∧ win0_2.index t = ![t.val, 0]
    ∧ win0_3.index t = ![t.val, 2] ∧ win0_7.index t = ![t.val, 0] ∧ win0_8.index t = ![t.val, 0] := by decide +kernel
theorem idx1 : ∀ t : Fin grid0.N, win0_4.index t = ![1, 0, 0] ∧ win0_5.index t = ![1, 0, 0, 0]
    ∧ win0_6.index t = ![1, 0, 0] := by decide +kernel

theorem blk0 (c : Dev nD) (t : Fin cfg0.N) (r : Fin 512) (k : Fin 1024) (R : Fin 16384) (h : R.val = t.val * 512 + r.val) :
    iblk m c 0 t (ix2 r k) = m ((c : Thread nD τ).loc main_arg0) (ix2 R k) := by
  blk_ext [iblk, V, idx0 t]
theorem blk1 (c : Dev nD) (t : Fin cfg0.N) (r : Fin 512) (k : Fin 1024) (R : Fin 16384) (h : R.val = t.val * 512 + r.val) :
    iblk m c 1 t (ix2 r k) = m ((c : Thread nD τ).loc main_arg1) (ix2 R k) := by
  blk_ext [iblk, V, idx0 t]
theorem blk2 (c : Dev nD) (t : Fin cfg0.N) (r : Fin 512) (k : Fin 1024) (R : Fin 16384) (h : R.val = t.val * 512 + r.val) :
    iblk m c 2 t (ix2 r k) = m ((c : Thread nD τ).loc main_arg2) (ix2 R k) := by
  blk_ext [iblk, V, idx0 t]
theorem blk3 (c : Dev nD) (t : Fin cfg0.N) (r : Fin 512) (k : Fin 3072) (R : Fin 16384) (C : Fin 12288)
    (h : R.val = t.val * 512 + r.val) (hC : C.val = 6144 + k.val) :
    iblk m c 3 t (ix2 r k) = m ((c : Thread nD τ).loc main_arg3) (ix2 R C) := by
  blk_ext [iblk, V, idx0 t]
theorem blk4 (c : Dev nD) (t : Fin cfg0.N) (k : Fin 3072) :
    iblk m c 4 t (ix3 0 0 k) = m ((c : Thread nD τ).loc main_arg4) (ix2 1 k) := by
  blk_simp [iblk, idx1 t]
  entry_read
  pointwise
  blk_ext [idx1 t]
theorem blk5 (c : Dev nD) (t : Fin cfg0.N) (b : Fin 3) (k n : Fin 1024) :
    iblk m c 5 t (ix4 0 b k n) = m ((c : Thread nD τ).loc main_arg5) (ix4 1 b k n) := by
  blk_simp [iblk, idx1 t]
  entry_read
  pointwise
  blk_ext [idx1 t]
theorem blk6 (c : Dev nD) (t : Fin cfg0.N) (k n : Fin 1024) :
    iblk m c 6 t (ix3 0 k n) = m ((c : Thread nD τ).loc main_arg6) (ix3 1 k n) := by
  blk_simp [iblk, idx1 t]
  entry_read
  pointwise
  blk_ext [idx1 t]
theorem blk7 (c : Dev nD) (t : Fin cfg0.N) (r : Fin 512) (k : Fin 1024) (R : Fin 16384) (h : R.val = t.val * 512 + r.val) :
    iblk m c 7 t (ix2 r k) = m ((c : Thread nD τ).loc main_arg7) (ix2 R k) := by
  blk_ext [iblk, V, idx0 t]
theorem emb8 (t : Fin cfg0.N) (r : Fin 512) (k : Fin 1024) (R : Fin 16384) (h : R.val = t.val * 512 + r.val) :
    (win0_8.blk t).view.emb (ix2 r k) = ix2 R k := by
  blk_ext [idx0 t]

/-- The merge at row `r`, column `d`: the residual plus the output projection of the three branch projections, each
    weighted by its own sigmoid gate. -/
def G (ya yb yc : FVec Ideal S16384x1024 .bf16) (gates : FVec Ideal S16384x12288 .bf16) (gb : FVec Ideal S4x3072 .f32)
    (wb : FVec Ideal S4x3x1024x1024 .f32) (wo : FVec Ideal S4x1024x1024 .f32) (h : FVec Ideal S16384x1024 .f32)
    (r : Fin 16384) (d : Fin 1024) : EReal :=
  h (ix2 r d) + ∑ x : Fin 1024,
    (Ideal.logistic (gates (ix2 r ⟨6144 + x.val, by omega⟩) + gb (ix2 1 ⟨x.val, by omega⟩)) * (∑ k : Fin 1024, ya (ix2 r k) * wb (ix4 1 0 k x))
      + Ideal.logistic (gates (ix2 r ⟨6144 + (1024 + x.val), by omega⟩) + gb (ix2 1 ⟨1024 + x.val, by omega⟩)) * (∑ k : Fin 1024, yb (ix2 r k) * wb (ix4 1 1 k x))
      + Ideal.logistic (gates (ix2 r ⟨6144 + (2048 + x.val), by omega⟩) + gb (ix2 1 ⟨2048 + x.val, by omega⟩)) * (∑ k : Fin 1024, yc (ix2 r k) * wb (ix4 1 2 k x)))
    * wo (ix3 1 x d)

/-- The merge as an array. -/
def GA (ya yb yc : FVec Ideal S16384x1024 .bf16) (gates : FVec Ideal S16384x12288 .bf16) (gb : FVec Ideal S4x3072 .f32)
    (wb : FVec Ideal S4x3x1024x1024 .f32) (wo : FVec Ideal S4x1024x1024 .f32) (h : FVec Ideal S16384x1024 .f32) :
    FVec Ideal S16384x1024 .f32 := fun i => G ya yb yc gates gb wb wo h (i 0) (i 1)

theorem final (c : Dev nD) : (dats m 0 c).arrAt 8 cfg0.N = GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  frame_out
  idx_vars y
  have ht : t.val < 32 := t.isLt
  obtain ⟨R, hR⟩ : ∃ R : Fin 16384, R.val = t.val * 512 + y0.val := ⟨⟨t.val * 512 + y0.val, by omega⟩, rfl⟩
  pointwise [k0_pay1, k0_pay2, k0_pay3]
  refine Eq.trans ?_ (congrArg (GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (emb8 t y0 y1 R hR).symm)
  show _ = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) R y1
  unfold G
  simp only [blk0 m c t _ _ R hR, blk1 m c t _ _ R hR, blk2 m c t _ _ R hR, blk4, blk5, blk6, blk7 m c t _ _ R hR,
    fun (k : Fin 3072) => blk3 m c t y0 k R ⟨6144 + k.val, by omega⟩ hR rfl]

end Cert.MergeL1Ideal.Hand

end
-- ==== Proof.MergeL1Reference.lean ====
module

public import proofs.«01_k».proof.Proof.MergeL1Kernel
public import proofs.«01_k».proof.Proof.Gen.MergeL1RefIdeal.Read
public import Idealize.ShloMosaic.Lib.Pipeline.ValueKit

@[expose] public section

set_option maxRecDepth 16384

noncomputable section

namespace Cert.MergeL1RefIdeal.Hand

open Cert.MergeL1RefIdeal Cert.MergeL1RefIdeal.Gen Idealize.ShloMosaic Idealize.ShloMosaic.TcCoe Idealize.SL.Sem

open Cert.MergeL1RefIdeal.Read

theorem ys_apply (x0 x1 x2 : (⟨S16384x1024, .bf16⟩ : BufTy).Contents (Elt Ideal)) (r : Fin 16384) (k : Fin 1024) :
    val_main_v3 (F := Ideal) x0 x1 x2 (ix3 r 0 k) = x0 (ix2 r k) ∧ val_main_v3 (F := Ideal) x0 x1 x2 (ix3 r 1 k) = x1 (ix2 r k)
    ∧ val_main_v3 (F := Ideal) x0 x1 x2 (ix3 r 2 k) = x2 (ix2 r k) := by
  refine ⟨?_, ?_, ?_⟩ <;> pointwise [val_main_v3, val_main_v0, val_main_v1, val_main_v2]

theorem ref_apply (x0 x1 x2 : (⟨S16384x1024, .bf16⟩ : BufTy).Contents (Elt Ideal)) (x3 : (⟨S16384x12288, .bf16⟩ : BufTy).Contents (Elt Ideal)) (x4 : (⟨S4x3072, .f32⟩ : BufTy).Contents (Elt Ideal)) (x5 : (⟨S4x3x1024x1024, .f32⟩ : BufTy).Contents (Elt Ideal)) (x6 : (⟨S4x1024x1024, .f32⟩ : BufTy).Contents (Elt Ideal)) (x7 : (⟨S16384x1024, .f32⟩ : BufTy).Contents (Elt Ideal)) (i : S16384x1024.Idx) :
    Cert.MergeL1Ideal.Hand.GA x0 x1 x2 x3 x4 x5 x6 x7 i = val_main_v28 (F := Ideal) x0 x1 x2 x3 x4 x5 x6 x7 i := by
  idx_vars i
  show Cert.MergeL1Ideal.Hand.G x0 x1 x2 x3 x4 x5 x6 x7 i0 i1 = _
  pointwise [val_main_v28, val_main_v27, val_main_v24, val_main_v26, val_main_v25, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1]
  unfold Cert.MergeL1Ideal.Hand.G
  refine congrArg₂ (· + ·) rfl (Finset.sum_congr rfl fun x _ => congrArg₂ (· * ·) ?_ ?_)
  · rw [Fin.sum_univ_three]
    simp only [(ys_apply x0 x1 x2 i0 _).1, (ys_apply x0 x1 x2 i0 _).2.1, (ys_apply x0 x1 x2 i0 _).2.2]
    refine congrArg₂ (· + ·) (congrArg₂ (· + ·) (congrArg₂ (· * ·) ?_ ?_) (congrArg₂ (· * ·) ?_ ?_)) (congrArg₂ (· * ·) ?_ ?_)
    all_goals first
      | exact Finset.sum_congr rfl fun k _ => mul_comm _ _
      | (refine (congrArg Ideal.logistic ?_).trans (Ideal.logistic_def _)
         exact congrArg₂ (· + ·) (congrArg x3 (by blk_ext [])) (congrArg x4 (by blk_ext [])))
  · rfl

end Cert.MergeL1RefIdeal.Hand

end
-- ==== Proof.MergeL1Claims.lean ====
module

public import proofs.«01_k».proof.Defs
public import proofs.«01_k».proof.Proof.Gen.MergeL1.Frame
public import proofs.«01_k».proof.Proof.MergeL1Kernel
public import proofs.«01_k».proof.Proof.MergeL1Reference
public import Idealize.ShloMosaic.Lib.Claim

@[expose] public section

set_option maxRecDepth 16384

noncomputable section

namespace Cert.MergeL1.Hand

open Idealize.ShloMosaic Idealize.ShloMosaic.TcCoe Idealize.SL.Sem

theorem frame_kernel : Cert.quiescent_MergeL1 := fun m ρ _ => Cert.MergeL1.Gen.frame m ρ
theorem frame_ideal : Cert.quiescent_MergeL1Ideal := fun m ρ _ => Cert.MergeL1Ideal.Gen.frame m ρ
theorem frame_refideal : Cert.quiescent_MergeL1RefIdeal := fun m ρ _ =>
  θ_run_mono (Cert.MergeL1RefIdeal.Value.run m ρ) fun r h => ⟨fun c => (h c).2, sem_eq_zero_of_no_sems (by decide) r.2⟩

theorem algebraic : Cert.algebraic_MergeL1Ideal_MergeL1RefIdeal := by
  pair_intro
  · run_from Cert.MergeL1Ideal.Value.run_blocks m g
  · run_from Cert.MergeL1RefIdeal.Value.run m' g'
    rw [Cert.MergeL1Ideal.Hand.final]
    exact (Cert.MergeL1RefIdeal.Read.val_main_v28_eq _ _ _ _ _ _ _ _).trans
      (funext fun i => (Cert.MergeL1RefIdeal.Hand.ref_apply _ _ _ _ _ _ _ _ i).symm)

end Cert.MergeL1.Hand

end
-- ==== Proof.MergeL2Kernel.lean ====
module

public import proofs.«01_k».proof.Proof.Gen.MergeL2Ideal.Value
public import proofs.«01_k».proof.Proof.Gen.MergeL2RefIdeal.Read
public import Idealize.ShloMosaic.Lib.Pipeline.ValueKit

@[expose] public section

set_option maxRecDepth 16384

noncomputable section

namespace Cert.MergeL2Ideal.Hand

open Cert.MergeL2Ideal Cert.MergeL2Ideal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin grid0.N, win0_0.index t = ![t.val, 0] ∧ win0_1.index t = ![t.val, 0] ∧ win0_2.index t = ![t.val, 0]
    ∧ win0_3.index t = ![t.val, 2] ∧ win0_7.index t = ![t.val, 0] ∧ win0_8.index t = ![t.val, 0] := by decide +kernel
theorem idx1 : ∀ t : Fin grid0.N, win0_4.index t = ![2, 0, 0] ∧ win0_5.index t = ![2, 0, 0, 0]
    ∧ win0_6.index t = ![2, 0, 0] := by decide +kernel

theorem blk0 (c : Dev nD) (t : Fin cfg0.N) (r : Fin 512) (k : Fin 1024) (R : Fin 16384) (h : R.val = t.val * 512 + r.val) :
    iblk m c 0 t (ix2 r k) = m ((c : Thread nD τ).loc main_arg0) (ix2 R k) := by
  blk_ext [iblk, V, idx0 t]
theorem blk1 (c : Dev nD) (t : Fin cfg0.N) (r : Fin 512) (k : Fin 1024) (R : Fin 16384) (h : R.val = t.val * 512 + r.val) :
    iblk m c 1 t (ix2 r k) = m ((c : Thread nD τ).loc main_arg1) (ix2 R k) := by
  blk_ext [iblk, V, idx0 t]
theorem blk2 (c : Dev nD) (t : Fin cfg0.N) (r : Fin 512) (k : Fin 1024) (R : Fin 16384) (h : R.val = t.val * 512 + r.val) :
    iblk m c 2 t (ix2 r k) = m ((c : Thread nD τ).loc main_arg2) (ix2 R k) := by
  blk_ext [iblk, V, idx0 t]
theorem blk3 (c : Dev nD) (t : Fin cfg0.N) (r : Fin 512) (k : Fin 3072) (R : Fin 16384) (C : Fin 12288)
    (h : R.val = t.val * 512 + r.val) (hC : C.val = 6144 + k.val) :
    iblk m c 3 t (ix2 r k) = m ((c : Thread nD τ).loc main_arg3) (ix2 R C) := by
  blk_ext [iblk, V, idx0 t]
theorem blk4 (c : Dev nD) (t : Fin cfg0.N) (k : Fin 3072) :
    iblk m c 4 t (ix3 0 0 k) = m ((c : Thread nD τ).loc main_arg4) (ix2 2 k) := by
  blk_simp [iblk, idx1 t]
  entry_read
  pointwise
  blk_ext [idx1 t]
theorem blk5 (c : Dev nD) (t : Fin cfg0.N) (b : Fin 3) (k n : Fin 1024) :
    iblk m c 5 t (ix4 0 b k n) = m ((c : Thread nD τ).loc main_arg5) (ix4 2 b k n) := by
  blk_simp [iblk, idx1 t]
  entry_read
  pointwise
  blk_ext [idx1 t]
theorem blk6 (c : Dev nD) (t : Fin cfg0.N) (k n : Fin 1024) :
    iblk m c 6 t (ix3 0 k n) = m ((c : Thread nD τ).loc main_arg6) (ix3 2 k n) := by
  blk_simp [iblk, idx1 t]
  entry_read
  pointwise
  blk_ext [idx1 t]
theorem blk7 (c : Dev nD) (t : Fin cfg0.N) (r : Fin 512) (k : Fin 1024) (R : Fin 16384) (h : R.val = t.val * 512 + r.val) :
    iblk m c 7 t (ix2 r k) = m ((c : Thread nD τ).loc main_arg7) (ix2 R k) := by
  blk_ext [iblk, V, idx0 t]
theorem emb8 (t : Fin cfg0.N) (r : Fin 512) (k : Fin 1024) (R : Fin 16384) (h : R.val = t.val * 512 + r.val) :
    (win0_8.blk t).view.emb (ix2 r k) = ix2 R k := by
  blk_ext [idx0 t]

/-- The merge at row `r`, column `d`: the residual plus the output projection of the three branch projections, each
    weighted by its own sigmoid gate. -/
def G (ya yb yc : FVec Ideal S16384x1024 .bf16) (gates : FVec Ideal S16384x12288 .bf16) (gb : FVec Ideal S4x3072 .f32)
    (wb : FVec Ideal S4x3x1024x1024 .f32) (wo : FVec Ideal S4x1024x1024 .f32) (h : FVec Ideal S16384x1024 .f32)
    (r : Fin 16384) (d : Fin 1024) : EReal :=
  h (ix2 r d) + ∑ x : Fin 1024,
    (Ideal.logistic (gates (ix2 r ⟨6144 + x.val, by omega⟩) + gb (ix2 2 ⟨x.val, by omega⟩)) * (∑ k : Fin 1024, ya (ix2 r k) * wb (ix4 2 0 k x))
      + Ideal.logistic (gates (ix2 r ⟨6144 + (1024 + x.val), by omega⟩) + gb (ix2 2 ⟨1024 + x.val, by omega⟩)) * (∑ k : Fin 1024, yb (ix2 r k) * wb (ix4 2 1 k x))
      + Ideal.logistic (gates (ix2 r ⟨6144 + (2048 + x.val), by omega⟩) + gb (ix2 2 ⟨2048 + x.val, by omega⟩)) * (∑ k : Fin 1024, yc (ix2 r k) * wb (ix4 2 2 k x)))
    * wo (ix3 2 x d)

/-- The merge as an array. -/
def GA (ya yb yc : FVec Ideal S16384x1024 .bf16) (gates : FVec Ideal S16384x12288 .bf16) (gb : FVec Ideal S4x3072 .f32)
    (wb : FVec Ideal S4x3x1024x1024 .f32) (wo : FVec Ideal S4x1024x1024 .f32) (h : FVec Ideal S16384x1024 .f32) :
    FVec Ideal S16384x1024 .f32 := fun i => G ya yb yc gates gb wb wo h (i 0) (i 1)

theorem final (c : Dev nD) : (dats m 0 c).arrAt 8 cfg0.N = GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  frame_out
  idx_vars y
  have ht : t.val < 32 := t.isLt
  obtain ⟨R, hR⟩ : ∃ R : Fin 16384, R.val = t.val * 512 + y0.val := ⟨⟨t.val * 512 + y0.val, by omega⟩, rfl⟩
  pointwise [k0_pay1, k0_pay2, k0_pay3]
  refine Eq.trans ?_ (congrArg (GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (emb8 t y0 y1 R hR).symm)
  show _ = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) R y1
  unfold G
  simp only [blk0 m c t _ _ R hR, blk1 m c t _ _ R hR, blk2 m c t _ _ R hR, blk4, blk5, blk6, blk7 m c t _ _ R hR,
    fun (k : Fin 3072) => blk3 m c t y0 k R ⟨6144 + k.val, by omega⟩ hR rfl]

end Cert.MergeL2Ideal.Hand

end
-- ==== Proof.MergeL2Reference.lean ====
module

public import proofs.«01_k».proof.Proof.MergeL2Kernel
public import proofs.«01_k».proof.Proof.Gen.MergeL2RefIdeal.Read
public import Idealize.ShloMosaic.Lib.Pipeline.ValueKit

@[expose] public section

set_option maxRecDepth 16384

noncomputable section

namespace Cert.MergeL2RefIdeal.Hand

open Cert.MergeL2RefIdeal Cert.MergeL2RefIdeal.Gen Idealize.ShloMosaic Idealize.ShloMosaic.TcCoe Idealize.SL.Sem

open Cert.MergeL2RefIdeal.Read

theorem ys_apply (x0 x1 x2 : (⟨S16384x1024, .bf16⟩ : BufTy).Contents (Elt Ideal)) (r : Fin 16384) (k : Fin 1024) :
    val_main_v3 (F := Ideal) x0 x1 x2 (ix3 r 0 k) = x0 (ix2 r k) ∧ val_main_v3 (F := Ideal) x0 x1 x2 (ix3 r 1 k) = x1 (ix2 r k)
    ∧ val_main_v3 (F := Ideal) x0 x1 x2 (ix3 r 2 k) = x2 (ix2 r k) := by
  refine ⟨?_, ?_, ?_⟩ <;> pointwise [val_main_v3, val_main_v0, val_main_v1, val_main_v2]

theorem ref_apply (x0 x1 x2 : (⟨S16384x1024, .bf16⟩ : BufTy).Contents (Elt Ideal)) (x3 : (⟨S16384x12288, .bf16⟩ : BufTy).Contents (Elt Ideal)) (x4 : (⟨S4x3072, .f32⟩ : BufTy).Contents (Elt Ideal)) (x5 : (⟨S4x3x1024x1024, .f32⟩ : BufTy).Contents (Elt Ideal)) (x6 : (⟨S4x1024x1024, .f32⟩ : BufTy).Contents (Elt Ideal)) (x7 : (⟨S16384x1024, .f32⟩ : BufTy).Contents (Elt Ideal)) (i : S16384x1024.Idx) :
    Cert.MergeL2Ideal.Hand.GA x0 x1 x2 x3 x4 x5 x6 x7 i = val_main_v28 (F := Ideal) x0 x1 x2 x3 x4 x5 x6 x7 i := by
  idx_vars i
  show Cert.MergeL2Ideal.Hand.G x0 x1 x2 x3 x4 x5 x6 x7 i0 i1 = _
  pointwise [val_main_v28, val_main_v27, val_main_v24, val_main_v26, val_main_v25, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1]
  unfold Cert.MergeL2Ideal.Hand.G
  refine congrArg₂ (· + ·) rfl (Finset.sum_congr rfl fun x _ => congrArg₂ (· * ·) ?_ ?_)
  · rw [Fin.sum_univ_three]
    simp only [(ys_apply x0 x1 x2 i0 _).1, (ys_apply x0 x1 x2 i0 _).2.1, (ys_apply x0 x1 x2 i0 _).2.2]
    refine congrArg₂ (· + ·) (congrArg₂ (· + ·) (congrArg₂ (· * ·) ?_ ?_) (congrArg₂ (· * ·) ?_ ?_)) (congrArg₂ (· * ·) ?_ ?_)
    all_goals first
      | exact Finset.sum_congr rfl fun k _ => mul_comm _ _
      | (refine (congrArg Ideal.logistic ?_).trans (Ideal.logistic_def _)
         exact congrArg₂ (· + ·) (congrArg x3 (by blk_ext [])) (congrArg x4 (by blk_ext [])))
  · rfl

end Cert.MergeL2RefIdeal.Hand

end
-- ==== Proof.MergeL2Claims.lean ====
module

public import proofs.«01_k».proof.Defs
public import proofs.«01_k».proof.Proof.Gen.MergeL2.Frame
public import proofs.«01_k».proof.Proof.MergeL2Kernel
public import proofs.«01_k».proof.Proof.MergeL2Reference
public import Idealize.ShloMosaic.Lib.Claim

@[expose] public section

set_option maxRecDepth 16384

noncomputable section

namespace Cert.MergeL2.Hand

open Idealize.ShloMosaic Idealize.ShloMosaic.TcCoe Idealize.SL.Sem

theorem frame_kernel : Cert.quiescent_MergeL2 := fun m ρ _ => Cert.MergeL2.Gen.frame m ρ
theorem frame_ideal : Cert.quiescent_MergeL2Ideal := fun m ρ _ => Cert.MergeL2Ideal.Gen.frame m ρ
theorem frame_refideal : Cert.quiescent_MergeL2RefIdeal := fun m ρ _ =>
  θ_run_mono (Cert.MergeL2RefIdeal.Value.run m ρ) fun r h => ⟨fun c => (h c).2, sem_eq_zero_of_no_sems (by decide) r.2⟩

theorem algebraic : Cert.algebraic_MergeL2Ideal_MergeL2RefIdeal := by
  pair_intro
  · run_from Cert.MergeL2Ideal.Value.run_blocks m g
  · run_from Cert.MergeL2RefIdeal.Value.run m' g'
    rw [Cert.MergeL2Ideal.Hand.final]
    exact (Cert.MergeL2RefIdeal.Read.val_main_v28_eq _ _ _ _ _ _ _ _).trans
      (funext fun i => (Cert.MergeL2RefIdeal.Hand.ref_apply _ _ _ _ _ _ _ _ i).symm)

end Cert.MergeL2.Hand

end
-- ==== Proof.MergeL3Kernel.lean ====
module

public import proofs.«01_k».proof.Proof.Gen.MergeL3Ideal.Value
public import proofs.«01_k».proof.Proof.Gen.MergeL3RefIdeal.Read
public import Idealize.ShloMosaic.Lib.Pipeline.ValueKit

@[expose] public section

set_option maxRecDepth 16384

noncomputable section

namespace Cert.MergeL3Ideal.Hand

open Cert.MergeL3Ideal Cert.MergeL3Ideal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin grid0.N, win0_0.index t = ![t.val, 0] ∧ win0_1.index t = ![t.val, 0] ∧ win0_2.index t = ![t.val, 0]
    ∧ win0_3.index t = ![t.val, 2] ∧ win0_7.index t = ![t.val, 0] ∧ win0_8.index t = ![t.val, 0] := by decide +kernel
theorem idx1 : ∀ t : Fin grid0.N, win0_4.index t = ![3, 0, 0] ∧ win0_5.index t = ![3, 0, 0, 0]
    ∧ win0_6.index t = ![3, 0, 0] := by decide +kernel

theorem blk0 (c : Dev nD) (t : Fin cfg0.N) (r : Fin 512) (k : Fin 1024) (R : Fin 16384) (h : R.val = t.val * 512 + r.val) :
    iblk m c 0 t (ix2 r k) = m ((c : Thread nD τ).loc main_arg0) (ix2 R k) := by
  blk_ext [iblk, V, idx0 t]
theorem blk1 (c : Dev nD) (t : Fin cfg0.N) (r : Fin 512) (k : Fin 1024) (R : Fin 16384) (h : R.val = t.val * 512 + r.val) :
    iblk m c 1 t (ix2 r k) = m ((c : Thread nD τ).loc main_arg1) (ix2 R k) := by
  blk_ext [iblk, V, idx0 t]
theorem blk2 (c : Dev nD) (t : Fin cfg0.N) (r : Fin 512) (k : Fin 1024) (R : Fin 16384) (h : R.val = t.val * 512 + r.val) :
    iblk m c 2 t (ix2 r k) = m ((c : Thread nD τ).loc main_arg2) (ix2 R k) := by
  blk_ext [iblk, V, idx0 t]
theorem blk3 (c : Dev nD) (t : Fin cfg0.N) (r : Fin 512) (k : Fin 3072) (R : Fin 16384) (C : Fin 12288)
    (h : R.val = t.val * 512 + r.val) (hC : C.val = 6144 + k.val) :
    iblk m c 3 t (ix2 r k) = m ((c : Thread nD τ).loc main_arg3) (ix2 R C) := by
  blk_ext [iblk, V, idx0 t]
theorem blk4 (c : Dev nD) (t : Fin cfg0.N) (k : Fin 3072) :
    iblk m c 4 t (ix3 0 0 k) = m ((c : Thread nD τ).loc main_arg4) (ix2 3 k) := by
  blk_simp [iblk, idx1 t]
  entry_read
  pointwise
  blk_ext [idx1 t]
theorem blk5 (c : Dev nD) (t : Fin cfg0.N) (b : Fin 3) (k n : Fin 1024) :
    iblk m c 5 t (ix4 0 b k n) = m ((c : Thread nD τ).loc main_arg5) (ix4 3 b k n) := by
  blk_simp [iblk, idx1 t]
  entry_read
  pointwise
  blk_ext [idx1 t]
theorem blk6 (c : Dev nD) (t : Fin cfg0.N) (k n : Fin 1024) :
    iblk m c 6 t (ix3 0 k n) = m ((c : Thread nD τ).loc main_arg6) (ix3 3 k n) := by
  blk_simp [iblk, idx1 t]
  entry_read
  pointwise
  blk_ext [idx1 t]
theorem blk7 (c : Dev nD) (t : Fin cfg0.N) (r : Fin 512) (k : Fin 1024) (R : Fin 16384) (h : R.val = t.val * 512 + r.val) :
    iblk m c 7 t (ix2 r k) = m ((c : Thread nD τ).loc main_arg7) (ix2 R k) := by
  blk_ext [iblk, V, idx0 t]
theorem emb8 (t : Fin cfg0.N) (r : Fin 512) (k : Fin 1024) (R : Fin 16384) (h : R.val = t.val * 512 + r.val) :
    (win0_8.blk t).view.emb (ix2 r k) = ix2 R k := by
  blk_ext [idx0 t]

/-- The merge at row `r`, column `d`: the residual plus the output projection of the three branch projections, each
    weighted by its own sigmoid gate. -/
def G (ya yb yc : FVec Ideal S16384x1024 .bf16) (gates : FVec Ideal S16384x12288 .bf16) (gb : FVec Ideal S4x3072 .f32)
    (wb : FVec Ideal S4x3x1024x1024 .f32) (wo : FVec Ideal S4x1024x1024 .f32) (h : FVec Ideal S16384x1024 .f32)
    (r : Fin 16384) (d : Fin 1024) : EReal :=
  h (ix2 r d) + ∑ x : Fin 1024,
    (Ideal.logistic (gates (ix2 r ⟨6144 + x.val, by omega⟩) + gb (ix2 3 ⟨x.val, by omega⟩)) * (∑ k : Fin 1024, ya (ix2 r k) * wb (ix4 3 0 k x))
      + Ideal.logistic (gates (ix2 r ⟨6144 + (1024 + x.val), by omega⟩) + gb (ix2 3 ⟨1024 + x.val, by omega⟩)) * (∑ k : Fin 1024, yb (ix2 r k) * wb (ix4 3 1 k x))
      + Ideal.logistic (gates (ix2 r ⟨6144 + (2048 + x.val), by omega⟩) + gb (ix2 3 ⟨2048 + x.val, by omega⟩)) * (∑ k : Fin 1024, yc (ix2 r k) * wb (ix4 3 2 k x)))
    * wo (ix3 3 x d)

/-- The merge as an array. -/
def GA (ya yb yc : FVec Ideal S16384x1024 .bf16) (gates : FVec Ideal S16384x12288 .bf16) (gb : FVec Ideal S4x3072 .f32)
    (wb : FVec Ideal S4x3x1024x1024 .f32) (wo : FVec Ideal S4x1024x1024 .f32) (h : FVec Ideal S16384x1024 .f32) :
    FVec Ideal S16384x1024 .f32 := fun i => G ya yb yc gates gb wb wo h (i 0) (i 1)

theorem final (c : Dev nD) : (dats m 0 c).arrAt 8 cfg0.N = GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  frame_out
  idx_vars y
  have ht : t.val < 32 := t.isLt
  obtain ⟨R, hR⟩ : ∃ R : Fin 16384, R.val = t.val * 512 + y0.val := ⟨⟨t.val * 512 + y0.val, by omega⟩, rfl⟩
  pointwise [k0_pay1, k0_pay2, k0_pay3]
  refine Eq.trans ?_ (congrArg (GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (emb8 t y0 y1 R hR).symm)
  show _ = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) R y1
  unfold G
  simp only [blk0 m c t _ _ R hR, blk1 m c t _ _ R hR, blk2 m c t _ _ R hR, blk4, blk5, blk6, blk7 m c t _ _ R hR,
    fun (k : Fin 3072) => blk3 m c t y0 k R ⟨6144 + k.val, by omega⟩ hR rfl]

end Cert.MergeL3Ideal.Hand

end
-- ==== Proof.MergeL3Reference.lean ====
module

public import proofs.«01_k».proof.Proof.MergeL3Kernel
public import proofs.«01_k».proof.Proof.Gen.MergeL3RefIdeal.Read
public import Idealize.ShloMosaic.Lib.Pipeline.ValueKit

@[expose] public section

set_option maxRecDepth 16384

noncomputable section

namespace Cert.MergeL3RefIdeal.Hand

open Cert.MergeL3RefIdeal Cert.MergeL3RefIdeal.Gen Idealize.ShloMosaic Idealize.ShloMosaic.TcCoe Idealize.SL.Sem

open Cert.MergeL3RefIdeal.Read

theorem ys_apply (x0 x1 x2 : (⟨S16384x1024, .bf16⟩ : BufTy).Contents (Elt Ideal)) (r : Fin 16384) (k : Fin 1024) :
    val_main_v3 (F := Ideal) x0 x1 x2 (ix3 r 0 k) = x0 (ix2 r k) ∧ val_main_v3 (F := Ideal) x0 x1 x2 (ix3 r 1 k) = x1 (ix2 r k)
    ∧ val_main_v3 (F := Ideal) x0 x1 x2 (ix3 r 2 k) = x2 (ix2 r k) := by
  refine ⟨?_, ?_, ?_⟩ <;> pointwise [val_main_v3, val_main_v0, val_main_v1, val_main_v2]

theorem ref_apply (x0 x1 x2 : (⟨S16384x1024, .bf16⟩ : BufTy).Contents (Elt Ideal)) (x3 : (⟨S16384x12288, .bf16⟩ : BufTy).Contents (Elt Ideal)) (x4 : (⟨S4x3072, .f32⟩ : BufTy).Contents (Elt Ideal)) (x5 : (⟨S4x3x1024x1024, .f32⟩ : BufTy).Contents (Elt Ideal)) (x6 : (⟨S4x1024x1024, .f32⟩ : BufTy).Contents (Elt Ideal)) (x7 : (⟨S16384x1024, .f32⟩ : BufTy).Contents (Elt Ideal)) (i : S16384x1024.Idx) :
    Cert.MergeL3Ideal.Hand.GA x0 x1 x2 x3 x4 x5 x6 x7 i = val_main_v28 (F := Ideal) x0 x1 x2 x3 x4 x5 x6 x7 i := by
  idx_vars i
  show Cert.MergeL3Ideal.Hand.G x0 x1 x2 x3 x4 x5 x6 x7 i0 i1 = _
  pointwise [val_main_v28, val_main_v27, val_main_v24, val_main_v26, val_main_v25, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1]
  unfold Cert.MergeL3Ideal.Hand.G
  refine congrArg₂ (· + ·) rfl (Finset.sum_congr rfl fun x _ => congrArg₂ (· * ·) ?_ ?_)
  · rw [Fin.sum_univ_three]
    simp only [(ys_apply x0 x1 x2 i0 _).1, (ys_apply x0 x1 x2 i0 _).2.1, (ys_apply x0 x1 x2 i0 _).2.2]
    refine congrArg₂ (· + ·) (congrArg₂ (· + ·) (congrArg₂ (· * ·) ?_ ?_) (congrArg₂ (· * ·) ?_ ?_)) (congrArg₂ (· * ·) ?_ ?_)
    all_goals first
      | exact Finset.sum_congr rfl fun k _ => mul_comm _ _
      | (refine (congrArg Ideal.logistic ?_).trans (Ideal.logistic_def _)
         exact congrArg₂ (· + ·) (congrArg x3 (by blk_ext [])) (congrArg x4 (by blk_ext [])))
  · rfl

end Cert.MergeL3RefIdeal.Hand

end
-- ==== Proof.MergeL3Claims.lean ====
module

public import proofs.«01_k».proof.Defs
public import proofs.«01_k».proof.Proof.Gen.MergeL3.Frame
public import proofs.«01_k».proof.Proof.MergeL3Kernel
public import proofs.«01_k».proof.Proof.MergeL3Reference
public import Idealize.ShloMosaic.Lib.Claim

@[expose] public section

set_option maxRecDepth 16384

noncomputable section

namespace Cert.MergeL3.Hand

open Idealize.ShloMosaic Idealize.ShloMosaic.TcCoe Idealize.SL.Sem

theorem frame_kernel : Cert.quiescent_MergeL3 := fun m ρ _ => Cert.MergeL3.Gen.frame m ρ
theorem frame_ideal : Cert.quiescent_MergeL3Ideal := fun m ρ _ => Cert.MergeL3Ideal.Gen.frame m ρ
theorem frame_refideal : Cert.quiescent_MergeL3RefIdeal := fun m ρ _ =>
  θ_run_mono (Cert.MergeL3RefIdeal.Value.run m ρ) fun r h => ⟨fun c => (h c).2, sem_eq_zero_of_no_sems (by decide) r.2⟩

theorem algebraic : Cert.algebraic_MergeL3Ideal_MergeL3RefIdeal := by
  pair_intro
  · run_from Cert.MergeL3Ideal.Value.run_blocks m g
  · run_from Cert.MergeL3RefIdeal.Value.run m' g'
    rw [Cert.MergeL3Ideal.Hand.final]
    exact (Cert.MergeL3RefIdeal.Read.val_main_v28_eq _ _ _ _ _ _ _ _).trans
      (funext fun i => (Cert.MergeL3RefIdeal.Hand.ref_apply _ _ _ _ _ _ _ _ i).symm)

end Cert.MergeL3.Hand

end
-- ==== Proof.GlaCell.lean ====
module

public import proofs.«01_k».proof.Proof.Gen.GlaIdeal.Value
public import Idealize.ShloMosaic.Lib.WritesUnit

@[expose] public section

set_option maxRecDepth 65536

noncomputable section

namespace Cert.GlaIdeal.Hand

open Cert.GlaIdeal Cert.GlaIdeal.Gen Idealize.ShloMosaic Idealize.ShloMosaic.TcCoe Idealize.SL.Sem

variable {F : FTy → Type} [FloatOps F]

/-! One chunk of one head: what the body makes of its loaded rows. -/

/-- The running log decay of a chunk's rows, all heads side by side. -/
def CB (sm : Vec F S1x64x128 .f32) (w : Vec F S1x384x512 .bf16) (b : Vec F S1x1x512 .f32) : FVec F S64x512 .f32 :=
  k0_pay33 k0_pay4 (k0_pay19 (k0_pay17 (k0_pay5 sm w) b) (k0_pay18 (k0_pay5 sm w) b))

theorem head_slices (h : ℕ) (hh : h < 4) : S64x512.Slices ![0, 128 * h] S64x128 :=
  ⟨rfl, fun a => match a with
    | ⟨0, _⟩ => (by show 0 + 64 ≤ 64; omega)
    | ⟨1, _⟩ => (by show 128 * h + 128 ≤ 512; omega)⟩

/-- Head `h`'s columns of it. -/
def BH (b : FVec F S64x512 .f32) (h : ℕ) (hh : h < 4) : FVec F S64x128 .f32 := extractStridedSlice S64x128 ![0, 128 * h] b (head_slices h hh)

/-- The chunk's last row of them. -/
def BL (b : FVec F S64x128 .f32) : FVec F S1x128 .f32 := extractStridedSlice S1x128 ![63, 0] b slices_S64x128_o63_0_S1x128

/-- The state after the chunk. -/
def NEW (b : FVec F S64x128 .f32) (k : Vec F S1x64x128 .bf16) (v : Vec F S1x64x256 .bf16) (s : Vec F S1x256x128 .f32) : FVec F S1x256x128 .f32 :=
  k0_pay93 (BL b) (k0_pay71 s) (k0_pay84 (k0_pay56 v) (k0_pay67 b (BL b) (k0_pay53 k)))

/-- The chunk's output rows. -/
def OUT (b : FVec F S64x128 .f32) (q k : Vec F S1x64x128 .bf16) (v : Vec F S1x64x256 .bf16) (s : Vec F S1x256x128 .f32)
    (nw : Vec F S1x1x256 .f32) (gg : Vec F S1x64x256 .bf16) : FVec F S1x64x256 .bf16 :=
  k0_pay95 (k0_pay94 (k0_pay80 (k0_pay60 b (k0_pay49 q)) (k0_pay71 s))
    (k0_pay88 k0_pay3 (k0_pay56 v) (k0_pay75 (k0_pay53 k) (k0_pay60 b (k0_pay49 q)) (k0_pay64 b))) nw gg)

theorem inQ (c h : ℕ) (hc : c < 8) (hh : h < 4) : ∀ a, (![0, 64 * c, 128 * h] : Fin 3 → ℕ) a + S1x64x128.size a ≤ S1x512x512.size a := fun a => match a with
  | ⟨0, _⟩ => (by show 0 + 1 ≤ 1; omega)
  | ⟨1, _⟩ => (by show 64 * c + 64 ≤ 512; omega)
  | ⟨2, _⟩ => (by show 128 * h + 128 ≤ 512; omega)
theorem inV (c h : ℕ) (hc : c < 8) (hh : h < 4) : ∀ a, (![0, 64 * c, 256 * h] : Fin 3 → ℕ) a + S1x64x256.size a ≤ S1x512x1024.size a := fun a => match a with
  | ⟨0, _⟩ => (by show 0 + 1 ≤ 1; omega)
  | ⟨1, _⟩ => (by show 64 * c + 64 ≤ 512; omega)
  | ⟨2, _⟩ => (by show 256 * h + 256 ≤ 1024; omega)
theorem inS (c : ℕ) (hc : c < 8) : ∀ a, (![0, 64 * c, 0] : Fin 3 → ℕ) a + S1x64x128.size a ≤ S1x512x128.size a := fun a => match a with
  | ⟨0, _⟩ => (by show 0 + 1 ≤ 1; omega)
  | ⟨1, _⟩ => (by show 64 * c + 64 ≤ 512; omega)
  | ⟨2, _⟩ => (by show 0 + 128 ≤ 128; omega)
theorem inN (h : ℕ) (hh : h < 4) : ∀ a, (![0, 0, 256 * h] : Fin 3 → ℕ) a + S1x1x256.size a ≤ S1x1x1024.size a := fun a => match a with
  | ⟨0, _⟩ => (by show 0 + 1 ≤ 1; omega)
  | ⟨1, _⟩ => (by show 0 + 1 ≤ 1; omega)
  | ⟨2, _⟩ => (by show 256 * h + 256 ≤ 1024; omega)
theorem inT (h : ℕ) (hh : h < 4) : ∀ a, (![h, 0, 0] : Fin 3 → ℕ) a + S1x256x128.size a ≤ S4x256x128.size a := fun a => match a with
  | ⟨0, _⟩ => (by show h + 1 ≤ 4; omega)
  | ⟨1, _⟩ => (by show 0 + 256 ≤ 256; omega)
  | ⟨2, _⟩ => (by show 0 + 128 ≤ 128; omega)

/-- Head `h`'s part of the carried state. -/
def RT (h : ℕ) (hh : h < 4) : Rect S4x256x128 := Rect.unit ![h, 0, 0] S1x256x128.size (inT h hh)

def LQ (a : Memref sig .tc .vmem S1x512x512 .bf16) (ha : a.IsWhole) (x : Vec F S1x512x512 .bf16) (c h : ℕ) (hc : c < 8) (hh : h < 4) : Vec F S1x64x128 .bf16 :=
  View.readAt (Elt F) a.view (Rect.unit (s := S1x512x512) ![0, 64 * c, 128 * h] S1x64x128.size (inQ c h hc hh)).toLoadRect (ha.unread x)
def LV (a : Memref sig .tc .vmem S1x512x1024 .bf16) (ha : a.IsWhole) (x : Vec F S1x512x1024 .bf16) (c h : ℕ) (hc : c < 8) (hh : h < 4) : Vec F S1x64x256 .bf16 :=
  View.readAt (Elt F) a.view (Rect.unit (s := S1x512x1024) ![0, 64 * c, 256 * h] S1x64x256.size (inV c h hc hh)).toLoadRect (ha.unread x)
def LS (a : Memref sig .tc .vmem S1x512x128 .f32) (ha : a.IsWhole) (x : Vec F S1x512x128 .f32) (c : ℕ) (hc : c < 8) : Vec F S1x64x128 .f32 :=
  View.readAt (Elt F) a.view (Rect.unit (s := S1x512x128) ![0, 64 * c, 0] S1x64x128.size (inS c hc)).toLoadRect (ha.unread x)
def LW (a : Memref sig .tc .vmem S1x384x512 .bf16) (ha : a.IsWhole) (x : Vec F S1x384x512 .bf16) : Vec F S1x384x512 .bf16 :=
  View.readAt (Elt F) a.view (Rect.unit ![0, 0, 0] S1x384x512.size inb_S1x384x512_S1x384x512_0_0_0).toLoadRect (ha.unread x)
def LB (a : Memref sig .tc .vmem S1x1x512 .f32) (ha : a.IsWhole) (x : Vec F S1x1x512 .f32) : Vec F S1x1x512 .f32 :=
  View.readAt (Elt F) a.view (Rect.unit ![0, 0, 0] S1x1x512.size inb_S1x1x512_S1x1x512_0_0_0).toLoadRect (ha.unread x)
def LN (a : Memref sig .tc .vmem S1x1x1024 .f32) (ha : a.IsWhole) (x : Vec F S1x1x1024 .f32) (h : ℕ) (hh : h < 4) : Vec F S1x1x256 .f32 :=
  View.readAt (Elt F) a.view (Rect.unit (s := S1x1x1024) ![0, 0, 256 * h] S1x1x256.size (inN h hh)).toLoadRect (ha.unread x)
def LT (a : Memref sig .tc .vmem S4x256x128 .f32) (ha : a.IsWhole) (x : Vec F S4x256x128 .f32) (h : ℕ) (hh : h < 4) : Vec F S1x256x128 .f32 :=
  View.readAt (Elt F) a.view (RT h hh).toLoadRect (ha.unread x)
/-- Head `h`'s state after the writes `L`. -/
def LC (a : Memref sig .tc .vmem S4x256x128 .f32) (L : List (View.Piece (Elt F) S4x256x128 .f32)) (h : ℕ) (hh : h < 4) : Vec F S1x256x128 .f32 :=
  a.view.readCov L (RT h hh).toLoadRect

variable (d : Dev nD) (a2 : Memref sig .tc .vmem S1x512x512 .bf16) (h2 : a2.IsWhole) (a3 : Memref sig .tc .vmem S1x512x512 .bf16) (h3 : a3.IsWhole) (a4 : Memref sig .tc .vmem S1x512x1024 .bf16) (h4 : a4.IsWhole) (a5 : Memref sig .tc .vmem S1x512x1024 .bf16) (h5 : a5.IsWhole) (a6 : Memref sig .tc .vmem S1x512x128 .f32) (h6 : a6.IsWhole) (a7 : Memref sig .tc .vmem S1x384x512 .bf16) (h7 : a7.IsWhole) (a8 : Memref sig .tc .vmem S1x1x512 .f32) (h8 : a8.IsWhole) (a9 : Memref sig .tc .vmem S1x1x1024 .f32) (h9 : a9.IsWhole) (a11 : Memref sig .tc .vmem S4x256x128 .f32) (h11 : a11.IsWhole)
    (x0 : Vec F S1x512x512 .bf16) (x1 : Vec F S1x512x512 .bf16) (x2 : Vec F S1x512x1024 .bf16) (x3 : Vec F S1x512x1024 .bf16) (x4 : Vec F S1x512x128 .f32) (x5 : Vec F S1x384x512 .bf16) (x6 : Vec F S1x1x512 .f32) (x7 : Vec F S1x1x1024 .f32) (xs0 : Vec F S4x256x128 .f32)

/-- Chunk `c`'s running log decay. -/
def BC (c : ℕ) (hc : c < 8) : FVec F S64x512 .f32 := CB (LS a6 h6 x4 c hc) (LW a7 h7 x5) (LB a8 h8 x6)

/-- Chunk `c`'s new state of head `h`, from the state `s` before it. -/
def SN (c h : ℕ) (hc : c < 8) (hh : h < 4) (s : Vec F S1x256x128 .f32) : View.Piece (Elt F) S4x256x128 .f32 :=
  ⟨RT h hh, NEW (BH (BC a6 h6 a7 h7 a8 h8 x4 x5 x6 c hc) h hh) (LQ a3 h3 x1 c h hc hh) (LV a4 h4 x2 c h hc hh) s⟩

/-- Chunk `c`'s output of head `h`, from the state `s` before it. -/
def ON (c h : ℕ) (hc : c < 8) (hh : h < 4) (s : Vec F S1x256x128 .f32) : View.Piece (Elt F) S1x512x1024 .bf16 :=
  ⟨Rect.unit (s := S1x512x1024) ![0, 64 * c, 256 * h] S1x64x256.size (inV c h hc hh), OUT (BH (BC a6 h6 a7 h7 a8 h8 x4 x5 x6 c hc) h hh) (LQ a2 h2 x0 c h hc hh)
    (LQ a3 h3 x1 c h hc hh) (LV a4 h4 x2 c h hc hh) s (LN a9 h9 x7 h hh) (LV a5 h5 x3 c h hc hh)⟩

/-- The four heads' state writes of chunk `c`, last first. -/
def PS (c : ℕ) (hc : c < 8) (s : (h : ℕ) → h < 4 → Vec F S1x256x128 .f32) (L : List (View.Piece (Elt F) S4x256x128 .f32)) : List (View.Piece (Elt F) S4x256x128 .f32) :=
  SN a3 h3 a4 h4 a6 h6 a7 h7 a8 h8 x1 x2 x4 x5 x6 c 3 hc (by omega) (s 3 (by omega)) :: SN a3 h3 a4 h4 a6 h6 a7 h7 a8 h8 x1 x2 x4 x5 x6 c 2 hc (by omega) (s 2 (by omega)) ::
    SN a3 h3 a4 h4 a6 h6 a7 h7 a8 h8 x1 x2 x4 x5 x6 c 1 hc (by omega) (s 1 (by omega)) :: SN a3 h3 a4 h4 a6 h6 a7 h7 a8 h8 x1 x2 x4 x5 x6 c 0 hc (by omega) (s 0 (by omega)) :: L

/-- The four heads' output writes of chunk `c`, last first. -/
def PO (c : ℕ) (hc : c < 8) (s : (h : ℕ) → h < 4 → Vec F S1x256x128 .f32) (L : List (View.Piece (Elt F) S1x512x1024 .bf16)) : List (View.Piece (Elt F) S1x512x1024 .bf16) :=
  ON a2 h2 a3 h3 a4 h4 a5 h5 a6 h6 a7 h7 a8 h8 a9 h9 x0 x1 x2 x3 x4 x5 x6 x7 c 3 hc (by omega) (s 3 (by omega)) :: ON a2 h2 a3 h3 a4 h4 a5 h5 a6 h6 a7 h7 a8 h8 a9 h9 x0 x1 x2 x3 x4 x5 x6 x7 c 2 hc (by omega) (s 2 (by omega)) ::
    ON a2 h2 a3 h3 a4 h4 a5 h5 a6 h6 a7 h7 a8 h8 a9 h9 x0 x1 x2 x3 x4 x5 x6 x7 c 1 hc (by omega) (s 1 (by omega)) :: ON a2 h2 a3 h3 a4 h4 a5 h5 a6 h6 a7 h7 a8 h8 a9 h9 x0 x1 x2 x3 x4 x5 x6 x7 c 0 hc (by omega) (s 0 (by omega)) :: L

/-- Head `h`'s state before chunk `c`, from the state `s` before the block. -/
def SA (s : (h : ℕ) → h < 4 → Vec F S1x256x128 .f32) : (c : ℕ) → c ≤ 8 → (h : ℕ) → h < 4 → Vec F S1x256x128 .f32
  | 0, _ => s
  | c + 1, hc => fun h hh => NEW (BH (BC a6 h6 a7 h7 a8 h8 x4 x5 x6 c (by omega)) h hh) (LQ a3 h3 x1 c h (by omega) hh) (LV a4 h4 x2 c h (by omega) hh) (SA s c (by omega) h hh)

theorem LC_cons (L : List (View.Piece (Elt F) S4x256x128 .f32)) (h : ℕ) (hh : h < 4) (w : Vec F S1x256x128 .f32) :
    LC a11 (⟨RT h hh, w⟩ :: L) h hh = w := by
  funext x
  show a11.view.read (Elt F) (a11.view.writes (Elt F) a11.view.junk (⟨RT h hh, w⟩ :: L)) ((RT h hh).emb x) = w x
  exact View.read_writes_cons_unit_of_mem a11.view _ (inT h hh) w L _ x rfl (fun a => by
    show _ + 1 * _ = _ + _
    rw [Nat.one_mul]; rfl)

theorem LC_miss (L : List (View.Piece (Elt F) S4x256x128 .f32)) (h h' : ℕ) (hh : h < 4) (hh' : h' < 4) (ne : h ≠ h') (w : Vec F S1x256x128 .f32) :
    LC a11 (⟨RT h' hh', w⟩ :: L) h hh = LC a11 L h hh := by
  funext x
  show a11.view.read (Elt F) (a11.view.writes (Elt F) a11.view.junk (⟨RT h' hh', w⟩ :: L)) ((RT h hh).emb x) = a11.view.read (Elt F) (a11.view.writes (Elt F) a11.view.junk L) ((RT h hh).emb x)
  refine View.read_writes_cons_unit_of_not_mem a11.view _ (inT h' hh') w L _ rfl (0 : Fin 3) ?_
  show h + 1 * (x 0).val < h' ∨ h' + 1 ≤ h + 1 * (x 0).val
  have : (x 0).val < 1 := (x 0).isLt
  omega

theorem LC_PS (c : ℕ) (hc : c < 8) (s : (h : ℕ) → h < 4 → Vec F S1x256x128 .f32) (L : List (View.Piece (Elt F) S4x256x128 .f32)) (h : ℕ) (hh : h < 4) :
    LC a11 (PS a3 h3 a4 h4 a6 h6 a7 h7 a8 h8 x1 x2 x4 x5 x6 c hc s L) h hh = NEW (BH (BC a6 h6 a7 h7 a8 h8 x4 x5 x6 c hc) h hh) (LQ a3 h3 x1 c h hc hh) (LV a4 h4 x2 c h hc hh) (s h hh) := by
  unfold PS SN
  match h, hh with
  | 0, _ => rw [LC_miss _ _ 0 3 (by omega) (by omega) (by omega), LC_miss _ _ 0 2 (by omega) (by omega) (by omega), LC_miss _ _ 0 1 (by omega) (by omega) (by omega), LC_cons]
  | 1, _ => rw [LC_miss _ _ 1 3 (by omega) (by omega) (by omega), LC_miss _ _ 1 2 (by omega) (by omega) (by omega), LC_cons]
  | 2, _ => rw [LC_miss _ _ 2 3 (by omega) (by omega) (by omega), LC_cons]
  | 3, _ => rw [LC_cons]

variable (i : grid0.Coords) (a10 : Memref sig .tc .vmem S1x512x1024 .bf16) (h10 : a10.IsWhole)

theorem listB_1 : kernelRun0_B.sl.HS0_4 d a3 h3 a4 h4 a6 h6 a7 h7 a8 h8 a11 h11 x1 x2 x4 x5 x6 xs0 = PS a3 h3 a4 h4 a6 h6 a7 h7 a8 h8 x1 x2 x4 x5 x6 0 (by omega) (LT a11 h11 xs0) ([]) := by sl_kernel_rfl

theorem stateB_1 : LC a11 (kernelRun0_B.sl.HS0_4 d a3 h3 a4 h4 a6 h6 a7 h7 a8 h8 a11 h11 x1 x2 x4 x5 x6 xs0) = SA a3 h3 a4 h4 a6 h6 a7 h7 a8 h8 x1 x2 x4 x5 x6 (LT a11 h11 xs0) 1 (by omega) := by
  funext h hh
  rw [listB_1, LC_PS]; rfl

theorem listB_2 : kernelRun0_B.sl.HS0_8 d a3 h3 a4 h4 a6 h6 a7 h7 a8 h8 a11 h11 x1 x2 x4 x5 x6 xs0 = PS a3 h3 a4 h4 a6 h6 a7 h7 a8 h8 x1 x2 x4 x5 x6 1 (by omega) (LC a11 (kernelRun0_B.sl.HS0_4 d a3 h3 a4 h4 a6 h6 a7 h7 a8 h8 a11 h11 x1 x2 x4 x5 x6 xs0)) (kernelRun0_B.sl.HS0_4 d a3 h3 a4 h4 a6 h6 a7 h7 a8 h8 a11 h11 x1 x2 x4 x5 x6 xs0) := by sl_kernel_rfl

theorem stateB_2 : LC a11 (kernelRun0_B.sl.HS0_8 d a3 h3 a4 h4 a6 h6 a7 h7 a8 h8 a11 h11 x1 x2 x4 x5 x6 xs0) = SA a3 h3 a4 h4 a6 h6 a7 h7 a8 h8 x1 x2 x4 x5 x6 (LT a11 h11 xs0) 2 (by omega) := by
  funext h hh
  rw [listB_2, LC_PS, stateB_1]; rfl

theorem listB_3 : kernelRun0_B.sl.HS0_12 d a3 h3 a4 h4 a6 h6 a7 h7 a8 h8 a11 h11 x1 x2 x4 x5 x6 xs0 = PS a3 h3 a4 h4 a6 h6 a7 h7 a8 h8 x1 x2 x4 x5 x6 2 (by omega) (LC a11 (kernelRun0_B.sl.HS0_8 d a3 h3 a4 h4 a6 h6 a7 h7 a8 h8 a11 h11 x1 x2 x4 x5 x6 xs0)) (kernelRun0_B.sl.HS0_8 d a3 h3 a4 h4 a6 h6 a7 h7 a8 h8 a11 h11 x1 x2 x4 x5 x6 xs0) := by sl_kernel_rfl

theorem stateB_3 : LC a11 (kernelRun0_B.sl.HS0_12 d a3 h3 a4 h4 a6 h6 a7 h7 a8 h8 a11 h11 x1 x2 x4 x5 x6 xs0) = SA a3 h3 a4 h4 a6 h6 a7 h7 a8 h8 x1 x2 x4 x5 x6 (LT a11 h11 xs0) 3 (by omega) := by
  funext h hh
  rw [listB_3, LC_PS, stateB_2]; rfl

theorem listB_4 : kernelRun0_B.sl.HS0_16 d a3 h3 a4 h4 a6 h6 a7 h7 a8 h8 a11 h11 x1 x2 x4 x5 x6 xs0 = PS a3 h3 a4 h4 a6 h6 a7 h7 a8 h8 x1 x2 x4 x5 x6 3 (by omega) (LC a11 (kernelRun0_B.sl.HS0_12 d a3 h3 a4 h4 a6 h6 a7 h7 a8 h8 a11 h11 x1 x2 x4 x5 x6 xs0)) (kernelRun0_B.sl.HS0_12 d a3 h3 a4 h4 a6 h6 a7 h7 a8 h8 a11 h11 x1 x2 x4 x5 x6 xs0) := by sl_kernel_rfl

theorem stateB_4 : LC a11 (kernelRun0_B.sl.HS0_16 d a3 h3 a4 h4 a6 h6 a7 h7 a8 h8 a11 h11 x1 x2 x4 x5 x6 xs0) = SA a3 h3 a4 h4 a6 h6 a7 h7 a8 h8 x1 x2 x4 x5 x6 (LT a11 h11 xs0) 4 (by omega) := by
  funext h hh
  rw [listB_4, LC_PS, stateB_3]; rfl

theorem listB_5 : kernelRun0_B.sl.HS0_20 d a3 h3 a4 h4 a6 h6 a7 h7 a8 h8 a11 h11 x1 x2 x4 x5 x6 xs0 = PS a3 h3 a4 h4 a6 h6 a7 h7 a8 h8 x1 x2 x4 x5 x6 4 (by omega) (LC a11 (kernelRun0_B.sl.HS0_16 d a3 h3 a4 h4 a6 h6 a7 h7 a8 h8 a11 h11 x1 x2 x4 x5 x6 xs0)) (kernelRun0_B.sl.HS0_16 d a3 h3 a4 h4 a6 h6 a7 h7 a8 h8 a11 h11 x1 x2 x4 x5 x6 xs0) := by sl_kernel_rfl

theorem stateB_5 : LC a11 (kernelRun0_B.sl.HS0_20 d a3 h3 a4 h4 a6 h6 a7 h7 a8 h8 a11 h11 x1 x2 x4 x5 x6 xs0) = SA a3 h3 a4 h4 a6 h6 a7 h7 a8 h8 x1 x2 x4 x5 x6 (LT a11 h11 xs0) 5 (by omega) := by
  funext h hh
  rw [listB_5, LC_PS, stateB_4]; rfl

theorem listB_6 : kernelRun0_B.sl.HS0_24 d a3 h3 a4 h4 a6 h6 a7 h7 a8 h8 a11 h11 x1 x2 x4 x5 x6 xs0 = PS a3 h3 a4 h4 a6 h6 a7 h7 a8 h8 x1 x2 x4 x5 x6 5 (by omega) (LC a11 (kernelRun0_B.sl.HS0_20 d a3 h3 a4 h4 a6 h6 a7 h7 a8 h8 a11 h11 x1 x2 x4 x5 x6 xs0)) (kernelRun0_B.sl.HS0_20 d a3 h3 a4 h4 a6 h6 a7 h7 a8 h8 a11 h11 x1 x2 x4 x5 x6 xs0) := by sl_kernel_rfl

theorem stateB_6 : LC a11 (kernelRun0_B.sl.HS0_24 d a3 h3 a4 h4 a6 h6 a7 h7 a8 h8 a11 h11 x1 x2 x4 x5 x6 xs0) = SA a3 h3 a4 h4 a6 h6 a7 h7 a8 h8 x1 x2 x4 x5 x6 (LT a11 h11 xs0) 6 (by omega) := by
  funext h hh
  rw [listB_6, LC_PS, stateB_5]; rfl

theorem listB_7 : kernelRun0_B.sl.HS0_28 d a3 h3 a4 h4 a6 h6 a7 h7 a8 h8 a11 h11 x1 x2 x4 x5 x6 xs0 = PS a3 h3 a4 h4 a6 h6 a7 h7 a8 h8 x1 x2 x4 x5 x6 6 (by omega) (LC a11 (kernelRun0_B.sl.HS0_24 d a3 h3 a4 h4 a6 h6 a7 h7 a8 h8 a11 h11 x1 x2 x4 x5 x6 xs0)) (kernelRun0_B.sl.HS0_24 d a3 h3 a4 h4 a6 h6 a7 h7 a8 h8 a11 h11 x1 x2 x4 x5 x6 xs0) := by sl_kernel_rfl

theorem stateB_7 : LC a11 (kernelRun0_B.sl.HS0_28 d a3 h3 a4 h4 a6 h6 a7 h7 a8 h8 a11 h11 x1 x2 x4 x5 x6 xs0) = SA a3 h3 a4 h4 a6 h6 a7 h7 a8 h8 x1 x2 x4 x5 x6 (LT a11 h11 xs0) 7 (by omega) := by
  funext h hh
  rw [listB_7, LC_PS, stateB_6]; rfl

variable (hcB : ¬cond0_0 i)

theorem lastB : (kernelRun0_B d i a2 h2 a3 h3 a4 h4 a5 h5 a6 h6 a7 h7 a8 h8 a9 h9 a10 h10 a11 h11 hcB x0 x1 x2 x3 x4 x5 x6 x7 xs0).2.1 = PS a3 h3 a4 h4 a6 h6 a7 h7 a8 h8 x1 x2 x4 x5 x6 7 (by omega) (LC a11 (kernelRun0_B.sl.HS0_28 d a3 h3 a4 h4 a6 h6 a7 h7 a8 h8 a11 h11 x1 x2 x4 x5 x6 xs0)) (kernelRun0_B.sl.HS0_28 d a3 h3 a4 h4 a6 h6 a7 h7 a8 h8 a11 h11 x1 x2 x4 x5 x6 xs0) := by sl_kernel_rfl

theorem outsB : (kernelRun0_B d i a2 h2 a3 h3 a4 h4 a5 h5 a6 h6 a7 h7 a8 h8 a9 h9 a10 h10 a11 h11 hcB x0 x1 x2 x3 x4 x5 x6 x7 xs0).1 = PO a2 h2 a3 h3 a4 h4 a5 h5 a6 h6 a7 h7 a8 h8 a9 h9 x0 x1 x2 x3 x4 x5 x6 x7 7 (by omega) (LC a11 (kernelRun0_B.sl.HS0_28 d a3 h3 a4 h4 a6 h6 a7 h7 a8 h8 a11 h11 x1 x2 x4 x5 x6 xs0)) (PO a2 h2 a3 h3 a4 h4 a5 h5 a6 h6 a7 h7 a8 h8 a9 h9 x0 x1 x2 x3 x4 x5 x6 x7 6 (by omega) (LC a11 (kernelRun0_B.sl.HS0_24 d a3 h3 a4 h4 a6 h6 a7 h7 a8 h8 a11 h11 x1 x2 x4 x5 x6 xs0)) (PO a2 h2 a3 h3 a4 h4 a5 h5 a6 h6 a7 h7 a8 h8 a9 h9 x0 x1 x2 x3 x4 x5 x6 x7 5 (by omega) (LC a11 (kernelRun0_B.sl.HS0_20 d a3 h3 a4 h4 a6 h6 a7 h7 a8 h8 a11 h11 x1 x2 x4 x5 x6 xs0)) (PO a2 h2 a3 h3 a4 h4 a5 h5 a6 h6 a7 h7 a8 h8 a9 h9 x0 x1 x2 x3 x4 x5 x6 x7 4 (by omega) (LC a11 (kernelRun0_B.sl.HS0_16 d a3 h3 a4 h4 a6 h6 a7 h7 a8 h8 a11 h11 x1 x2 x4 x5 x6 xs0)) (PO a2 h2 a3 h3 a4 h4 a5 h5 a6 h6 a7 h7 a8 h8 a9 h9 x0 x1 x2 x3 x4 x5 x6 x7 3 (by omega) (LC a11 (kernelRun0_B.sl.HS0_12 d a3 h3 a4 h4 a6 h6 a7 h7 a8 h8 a11 h11 x1 x2 x4 x5 x6 xs0)) (PO a2 h2 a3 h3 a4 h4 a5 h5 a6 h6 a7 h7 a8 h8 a9 h9 x0 x1 x2 x3 x4 x5 x6 x7 2 (by omega) (LC a11 (kernelRun0_B.sl.HS0_8 d a3 h3 a4 h4 a6 h6 a7 h7 a8 h8 a11 h11 x1 x2 x4 x5 x6 xs0)) (PO a2 h2 a3 h3 a4 h4 a5 h5 a6 h6 a7 h7 a8 h8 a9 h9 x0 x1 x2 x3 x4 x5 x6 x7 1 (by omega) (LC a11 (kernelRun0_B.sl.HS0_4 d a3 h3 a4 h4 a6 h6 a7 h7 a8 h8 a11 h11 x1 x2 x4 x5 x6 xs0)) (PO a2 h2 a3 h3 a4 h4 a5 h5 a6 h6 a7 h7 a8 h8 a9 h9 x0 x1 x2 x3 x4 x5 x6 x7 0 (by omega) (LT a11 h11 xs0) ([])))))))) := by sl_kernel_rfl

theorem lastB' (h : ℕ) (hh : h < 4) : LC a11 (kernelRun0_B d i a2 h2 a3 h3 a4 h4 a5 h5 a6 h6 a7 h7 a8 h8 a9 h9 a10 h10 a11 h11 hcB x0 x1 x2 x3 x4 x5 x6 x7 xs0).2.1 h hh = SA a3 h3 a4 h4 a6 h6 a7 h7 a8 h8 x1 x2 x4 x5 x6 (LT a11 h11 xs0) 8 (by omega) h hh := by
  rw [lastB, LC_PS, stateB_7]; rfl

theorem outsB' : (kernelRun0_B d i a2 h2 a3 h3 a4 h4 a5 h5 a6 h6 a7 h7 a8 h8 a9 h9 a10 h10 a11 h11 hcB x0 x1 x2 x3 x4 x5 x6 x7 xs0).1 = PO a2 h2 a3 h3 a4 h4 a5 h5 a6 h6 a7 h7 a8 h8 a9 h9 x0 x1 x2 x3 x4 x5 x6 x7 7 (by omega) (SA a3 h3 a4 h4 a6 h6 a7 h7 a8 h8 x1 x2 x4 x5 x6 (LT a11 h11 xs0) 7 (by omega)) (PO a2 h2 a3 h3 a4 h4 a5 h5 a6 h6 a7 h7 a8 h8 a9 h9 x0 x1 x2 x3 x4 x5 x6 x7 6 (by omega) (SA a3 h3 a4 h4 a6 h6 a7 h7 a8 h8 x1 x2 x4 x5 x6 (LT a11 h11 xs0) 6 (by omega)) (PO a2 h2 a3 h3 a4 h4 a5 h5 a6 h6 a7 h7 a8 h8 a9 h9 x0 x1 x2 x3 x4 x5 x6 x7 5 (by omega) (SA a3 h3 a4 h4 a6 h6 a7 h7 a8 h8 x1 x2 x4 x5 x6 (LT a11 h11 xs0) 5 (by omega)) (PO a2 h2 a3 h3 a4 h4 a5 h5 a6 h6 a7 h7 a8 h8 a9 h9 x0 x1 x2 x3 x4 x5 x6 x7 4 (by omega) (SA a3 h3 a4 h4 a6 h6 a7 h7 a8 h8 x1 x2 x4 x5 x6 (LT a11 h11 xs0) 4 (by omega)) (PO a2 h2 a3 h3 a4 h4 a5 h5 a6 h6 a7 h7 a8 h8 a9 h9 x0 x1 x2 x3 x4 x5 x6 x7 3 (by omega) (SA a3 h3 a4 h4 a6 h6 a7 h7 a8 h8 x1 x2 x4 x5 x6 (LT a11 h11 xs0) 3 (by omega)) (PO a2 h2 a3 h3 a4 h4 a5 h5 a6 h6 a7 h7 a8 h8 a9 h9 x0 x1 x2 x3 x4 x5 x6 x7 2 (by omega) (SA a3 h3 a4 h4 a6 h6 a7 h7 a8 h8 x1 x2 x4 x5 x6 (LT a11 h11 xs0) 2 (by omega)) (PO a2 h2 a3 h3 a4 h4 a5 h5 a6 h6 a7 h7 a8 h8 a9 h9 x0 x1 x2 x3 x4 x5 x6 x7 1 (by omega) (SA a3 h3 a4 h4 a6 h6 a7 h7 a8 h8 x1 x2 x4 x5 x6 (LT a11 h11 xs0) 1 (by omega)) (PO a2 h2 a3 h3 a4 h4 a5 h5 a6 h6 a7 h7 a8 h8 a9 h9 x0 x1 x2 x3 x4 x5 x6 x7 0 (by omega) (SA a3 h3 a4 h4 a6 h6 a7 h7 a8 h8 x1 x2 x4 x5 x6 (LT a11 h11 xs0) 0 (by omega)) ([])))))))) := by
  rw [outsB, stateB_1, stateB_2, stateB_3, stateB_4, stateB_5, stateB_6, stateB_7]; rfl

theorem listA_1 : kernelRun0_A.sl.HS0_5 d a3 h3 a4 h4 a6 h6 a7 h7 a8 h8 a11 x1 x2 x4 x5 x6 = PS a3 h3 a4 h4 a6 h6 a7 h7 a8 h8 x1 x2 x4 x5 x6 0 (by omega) (LC a11 kernelRun0_A.sl.HS0_1) ((kernelRun0_A.sl.HS0_1 : List (View.Piece (Elt F) S4x256x128 .f32))) := by sl_kernel_rfl

theorem stateA_1 : LC a11 (kernelRun0_A.sl.HS0_5 d a3 h3 a4 h4 a6 h6 a7 h7 a8 h8 a11 x1 x2 x4 x5 x6) = SA a3 h3 a4 h4 a6 h6 a7 h7 a8 h8 x1 x2 x4 x5 x6 (LC a11 kernelRun0_A.sl.HS0_1) 1 (by omega) := by
  funext h hh
  rw [listA_1, LC_PS]; rfl

theorem listA_2 : kernelRun0_A.sl.HS0_9 d a3 h3 a4 h4 a6 h6 a7 h7 a8 h8 a11 x1 x2 x4 x5 x6 = PS a3 h3 a4 h4 a6 h6 a7 h7 a8 h8 x1 x2 x4 x5 x6 1 (by omega) (LC a11 (kernelRun0_A.sl.HS0_5 d a3 h3 a4 h4 a6 h6 a7 h7 a8 h8 a11 x1 x2 x4 x5 x6)) (kernelRun0_A.sl.HS0_5 d a3 h3 a4 h4 a6 h6 a7 h7 a8 h8 a11 x1 x2 x4 x5 x6) := by sl_kernel_rfl

theorem stateA_2 : LC a11 (kernelRun0_A.sl.HS0_9 d a3 h3 a4 h4 a6 h6 a7 h7 a8 h8 a11 x1 x2 x4 x5 x6) = SA a3 h3 a4 h4 a6 h6 a7 h7 a8 h8 x1 x2 x4 x5 x6 (LC a11 kernelRun0_A.sl.HS0_1) 2 (by omega) := by
  funext h hh
  rw [listA_2, LC_PS, stateA_1]; rfl

theorem listA_3 : kernelRun0_A.sl.HS0_13 d a3 h3 a4 h4 a6 h6 a7 h7 a8 h8 a11 x1 x2 x4 x5 x6 = PS a3 h3 a4 h4 a6 h6 a7 h7 a8 h8 x1 x2 x4 x5 x6 2 (by omega) (LC a11 (kernelRun0_A.sl.HS0_9 d a3 h3 a4 h4 a6 h6 a7 h7 a8 h8 a11 x1 x2 x4 x5 x6)) (kernelRun0_A.sl.HS0_9 d a3 h3 a4 h4 a6 h6 a7 h7 a8 h8 a11 x1 x2 x4 x5 x6) := by sl_kernel_rfl

theorem stateA_3 : LC a11 (kernelRun0_A.sl.HS0_13 d a3 h3 a4 h4 a6 h6 a7 h7 a8 h8 a11 x1 x2 x4 x5 x6) = SA a3 h3 a4 h4 a6 h6 a7 h7 a8 h8 x1 x2 x4 x5 x6 (LC a11 kernelRun0_A.sl.HS0_1) 3 (by omega) := by
  funext h hh
  rw [listA_3, LC_PS, stateA_2]; rfl

theorem listA_4 : kernelRun0_A.sl.HS0_17 d a3 h3 a4 h4 a6 h6 a7 h7 a8 h8 a11 x1 x2 x4 x5 x6 = PS a3 h3 a4 h4 a6 h6 a7 h7 a8 h8 x1 x2 x4 x5 x6 3 (by omega) (LC a11 (kernelRun0_A.sl.HS0_13 d a3 h3 a4 h4 a6 h6 a7 h7 a8 h8 a11 x1 x2 x4 x5 x6)) (kernelRun0_A.sl.HS0_13 d a3 h3 a4 h4 a6 h6 a7 h7 a8 h8 a11 x1 x2 x4 x5 x6) := by sl_kernel_rfl

theorem stateA_4 : LC a11 (kernelRun0_A.sl.HS0_17 d a3 h3 a4 h4 a6 h6 a7 h7 a8 h8 a11 x1 x2 x4 x5 x6) = SA a3 h3 a4 h4 a6 h6 a7 h7 a8 h8 x1 x2 x4 x5 x6 (LC a11 kernelRun0_A.sl.HS0_1) 4 (by omega) := by
  funext h hh
  rw [listA_4, LC_PS, stateA_3]; rfl

theorem listA_5 : kernelRun0_A.sl.HS0_21 d a3 h3 a4 h4 a6 h6 a7 h7 a8 h8 a11 x1 x2 x4 x5 x6 = PS a3 h3 a4 h4 a6 h6 a7 h7 a8 h8 x1 x2 x4 x5 x6 4 (by omega) (LC a11 (kernelRun0_A.sl.HS0_17 d a3 h3 a4 h4 a6 h6 a7 h7 a8 h8 a11 x1 x2 x4 x5 x6)) (kernelRun0_A.sl.HS0_17 d a3 h3 a4 h4 a6 h6 a7 h7 a8 h8 a11 x1 x2 x4 x5 x6) := by sl_kernel_rfl

theorem stateA_5 : LC a11 (kernelRun0_A.sl.HS0_21 d a3 h3 a4 h4 a6 h6 a7 h7 a8 h8 a11 x1 x2 x4 x5 x6) = SA a3 h3 a4 h4 a6 h6 a7 h7 a8 h8 x1 x2 x4 x5 x6 (LC a11 kernelRun0_A.sl.HS0_1) 5 (by omega) := by
  funext h hh
  rw [listA_5, LC_PS, stateA_4]; rfl

theorem listA_6 : kernelRun0_A.sl.HS0_25 d a3 h3 a4 h4 a6 h6 a7 h7 a8 h8 a11 x1 x2 x4 x5 x6 = PS a3 h3 a4 h4 a6 h6 a7 h7 a8 h8 x1 x2 x4 x5 x6 5 (by omega) (LC a11 (kernelRun0_A.sl.HS0_21 d a3 h3 a4 h4 a6 h6 a7 h7 a8 h8 a11 x1 x2 x4 x5 x6)) (kernelRun0_A.sl.HS0_21 d a3 h3 a4 h4 a6 h6 a7 h7 a8 h8 a11 x1 x2 x4 x5 x6) := by sl_kernel_rfl

theorem stateA_6 : LC a11 (kernelRun0_A.sl.HS0_25 d a3 h3 a4 h4 a6 h6 a7 h7 a8 h8 a11 x1 x2 x4 x5 x6) = SA a3 h3 a4 h4 a6 h6 a7 h7 a8 h8 x1 x2 x4 x5 x6 (LC a11 kernelRun0_A.sl.HS0_1) 6 (by omega) := by
  funext h hh
  rw [listA_6, LC_PS, stateA_5]; rfl

theorem listA_7 : kernelRun0_A.sl.HS0_29 d a3 h3 a4 h4 a6 h6 a7 h7 a8 h8 a11 x1 x2 x4 x5 x6 = PS a3 h3 a4 h4 a6 h6 a7 h7 a8 h8 x1 x2 x4 x5 x6 6 (by omega) (LC a11 (kernelRun0_A.sl.HS0_25 d a3 h3 a4 h4 a6 h6 a7 h7 a8 h8 a11 x1 x2 x4 x5 x6)) (kernelRun0_A.sl.HS0_25 d a3 h3 a4 h4 a6 h6 a7 h7 a8 h8 a11 x1 x2 x4 x5 x6) := by sl_kernel_rfl

theorem stateA_7 : LC a11 (kernelRun0_A.sl.HS0_29 d a3 h3 a4 h4 a6 h6 a7 h7 a8 h8 a11 x1 x2 x4 x5 x6) = SA a3 h3 a4 h4 a6 h6 a7 h7 a8 h8 x1 x2 x4 x5 x6 (LC a11 kernelRun0_A.sl.HS0_1) 7 (by omega) := by
  funext h hh
  rw [listA_7, LC_PS, stateA_6]; rfl

variable (hcA : cond0_0 i)

theorem lastA : (kernelRun0_A d i a2 h2 a3 h3 a4 h4 a5 h5 a6 h6 a7 h7 a8 h8 a9 h9 a10 h10 a11 h11 hcA x0 x1 x2 x3 x4 x5 x6 x7).2.1 = PS a3 h3 a4 h4 a6 h6 a7 h7 a8 h8 x1 x2 x4 x5 x6 7 (by omega) (LC a11 (kernelRun0_A.sl.HS0_29 d a3 h3 a4 h4 a6 h6 a7 h7 a8 h8 a11 x1 x2 x4 x5 x6)) (kernelRun0_A.sl.HS0_29 d a3 h3 a4 h4 a6 h6 a7 h7 a8 h8 a11 x1 x2 x4 x5 x6) := by sl_kernel_rfl

theorem outsA : (kernelRun0_A d i a2 h2 a3 h3 a4 h4 a5 h5 a6 h6 a7 h7 a8 h8 a9 h9 a10 h10 a11 h11 hcA x0 x1 x2 x3 x4 x5 x6 x7).1 = PO a2 h2 a3 h3 a4 h4 a5 h5 a6 h6 a7 h7 a8 h8 a9 h9 x0 x1 x2 x3 x4 x5 x6 x7 7 (by omega) (LC a11 (kernelRun0_A.sl.HS0_29 d a3 h3 a4 h4 a6 h6 a7 h7 a8 h8 a11 x1 x2 x4 x5 x6)) (PO a2 h2 a3 h3 a4 h4 a5 h5 a6 h6 a7 h7 a8 h8 a9 h9 x0 x1 x2 x3 x4 x5 x6 x7 6 (by omega) (LC a11 (kernelRun0_A.sl.HS0_25 d a3 h3 a4 h4 a6 h6 a7 h7 a8 h8 a11 x1 x2 x4 x5 x6)) (PO a2 h2 a3 h3 a4 h4 a5 h5 a6 h6 a7 h7 a8 h8 a9 h9 x0 x1 x2 x3 x4 x5 x6 x7 5 (by omega) (LC a11 (kernelRun0_A.sl.HS0_21 d a3 h3 a4 h4 a6 h6 a7 h7 a8 h8 a11 x1 x2 x4 x5 x6)) (PO a2 h2 a3 h3 a4 h4 a5 h5 a6 h6 a7 h7 a8 h8 a9 h9 x0 x1 x2 x3 x4 x5 x6 x7 4 (by omega) (LC a11 (kernelRun0_A.sl.HS0_17 d a3 h3 a4 h4 a6 h6 a7 h7 a8 h8 a11 x1 x2 x4 x5 x6)) (PO a2 h2 a3 h3 a4 h4 a5 h5 a6 h6 a7 h7 a8 h8 a9 h9 x0 x1 x2 x3 x4 x5 x6 x7 3 (by omega) (LC a11 (kernelRun0_A.sl.HS0_13 d a3 h3 a4 h4 a6 h6 a7 h7 a8 h8 a11 x1 x2 x4 x5 x6)) (PO a2 h2 a3 h3 a4 h4 a5 h5 a6 h6 a7 h7 a8 h8 a9 h9 x0 x1 x2 x3 x4 x5 x6 x7 2 (by omega) (LC a11 (kernelRun0_A.sl.HS0_9 d a3 h3 a4 h4 a6 h6 a7 h7 a8 h8 a11 x1 x2 x4 x5 x6)) (PO a2 h2 a3 h3 a4 h4 a5 h5 a6 h6 a7 h7 a8 h8 a9 h9 x0 x1 x2 x3 x4 x5 x6 x7 1 (by omega) (LC a11 (kernelRun0_A.sl.HS0_5 d a3 h3 a4 h4 a6 h6 a7 h7 a8 h8 a11 x1 x2 x4 x5 x6)) (PO a2 h2 a3 h3 a4 h4 a5 h5 a6 h6 a7 h7 a8 h8 a9 h9 x0 x1 x2 x3 x4 x5 x6 x7 0 (by omega) (LC a11 kernelRun0_A.sl.HS0_1) ([])))))))) := by sl_kernel_rfl

theorem lastA' (h : ℕ) (hh : h < 4) : LC a11 (kernelRun0_A d i a2 h2 a3 h3 a4 h4 a5 h5 a6 h6 a7 h7 a8 h8 a9 h9 a10 h10 a11 h11 hcA x0 x1 x2 x3 x4 x5 x6 x7).2.1 h hh = SA a3 h3 a4 h4 a6 h6 a7 h7 a8 h8 x1 x2 x4 x5 x6 (LC a11 kernelRun0_A.sl.HS0_1) 8 (by omega) h hh := by
  rw [lastA, LC_PS, stateA_7]; rfl

theorem outsA' : (kernelRun0_A d i a2 h2 a3 h3 a4 h4 a5 h5 a6 h6 a7 h7 a8 h8 a9 h9 a10 h10 a11 h11 hcA x0 x1 x2 x3 x4 x5 x6 x7).1 = PO a2 h2 a3 h3 a4 h4 a5 h5 a6 h6 a7 h7 a8 h8 a9 h9 x0 x1 x2 x3 x4 x5 x6 x7 7 (by omega) (SA a3 h3 a4 h4 a6 h6 a7 h7 a8 h8 x1 x2 x4 x5 x6 (LC a11 kernelRun0_A.sl.HS0_1) 7 (by omega)) (PO a2 h2 a3 h3 a4 h4 a5 h5 a6 h6 a7 h7 a8 h8 a9 h9 x0 x1 x2 x3 x4 x5 x6 x7 6 (by omega) (SA a3 h3 a4 h4 a6 h6 a7 h7 a8 h8 x1 x2 x4 x5 x6 (LC a11 kernelRun0_A.sl.HS0_1) 6 (by omega)) (PO a2 h2 a3 h3 a4 h4 a5 h5 a6 h6 a7 h7 a8 h8 a9 h9 x0 x1 x2 x3 x4 x5 x6 x7 5 (by omega) (SA a3 h3 a4 h4 a6 h6 a7 h7 a8 h8 x1 x2 x4 x5 x6 (LC a11 kernelRun0_A.sl.HS0_1) 5 (by omega)) (PO a2 h2 a3 h3 a4 h4 a5 h5 a6 h6 a7 h7 a8 h8 a9 h9 x0 x1 x2 x3 x4 x5 x6 x7 4 (by omega) (SA a3 h3 a4 h4 a6 h6 a7 h7 a8 h8 x1 x2 x4 x5 x6 (LC a11 kernelRun0_A.sl.HS0_1) 4 (by omega)) (PO a2 h2 a3 h3 a4 h4 a5 h5 a6 h6 a7 h7 a8 h8 a9 h9 x0 x1 x2 x3 x4 x5 x6 x7 3 (by omega) (SA a3 h3 a4 h4 a6 h6 a7 h7 a8 h8 x1 x2 x4 x5 x6 (LC a11 kernelRun0_A.sl.HS0_1) 3 (by omega)) (PO a2 h2 a3 h3 a4 h4 a5 h5 a6 h6 a7 h7 a8 h8 a9 h9 x0 x1 x2 x3 x4 x5 x6 x7 2 (by omega) (SA a3 h3 a4 h4 a6 h6 a7 h7 a8 h8 x1 x2 x4 x5 x6 (LC a11 kernelRun0_A.sl.HS0_1) 2 (by omega)) (PO a2 h2 a3 h3 a4 h4 a5 h5 a6 h6 a7 h7 a8 h8 a9 h9 x0 x1 x2 x3 x4 x5 x6 x7 1 (by omega) (SA a3 h3 a4 h4 a6 h6 a7 h7 a8 h8 x1 x2 x4 x5 x6 (LC a11 kernelRun0_A.sl.HS0_1) 1 (by omega)) (PO a2 h2 a3 h3 a4 h4 a5 h5 a6 h6 a7 h7 a8 h8 a9 h9 x0 x1 x2 x3 x4 x5 x6 x7 0 (by omega) (SA a3 h3 a4 h4 a6 h6 a7 h7 a8 h8 x1 x2 x4 x5 x6 (LC a11 kernelRun0_A.sl.HS0_1) 0 (by omega)) ([])))))))) := by
  rw [outsA, stateA_1, stateA_2, stateA_3, stateA_4, stateA_5, stateA_6, stateA_7]; rfl

end Cert.GlaIdeal.Hand

end
-- ==== Proof.GlaMath.lean ====
module
public import Idealize.ShloMosaic.Lib.Pipeline.ValueKit

/-! # The gated linear attention, written out

The numbers both programs compute, as plain functions of the extended reals, and what follows
from the gate's operands being real numbers. -/

@[expose] public section

open Idealize.ShloMosaic

noncomputable section

namespace Cert.GlaMath

/-- A value that is a real number. -/
def IsR (x : EReal) : Prop := ∃ r : ℝ, x = (r : EReal)

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.zero : IsR 0 := ⟨0, rfl⟩

theorem IsR.sum {ι : Type} (s : Finset ι) (f : ι → EReal) (h : ∀ i ∈ s, IsR (f i)) :
    IsR (∑ i ∈ s, f i) := by
  classical
  induction s using Finset.induction_on with
  | empty => exact ⟨0, rfl⟩
  | insert a s ha ih =>
    rw [Finset.sum_insert ha]
    exact (h a (Finset.mem_insert_self a s)).add (ih fun i hi => h i (Finset.mem_insert_of_mem hi))

theorem IsR.sub_self {x : EReal} (hx : IsR x) : x - x = 0 := by
  obtain ⟨a, rfl⟩ := hx
  rw [← EReal.coe_sub, _root_.sub_self]
  rfl

/-- What is below infinity in absolute value is real. -/
theorem IsR.of_abs {x : EReal} (h : max x (-x) < ⊤) : IsR x := by
  induction x with
  | bot => exact absurd h (by simp)
  | top => exact absurd h (by simp)
  | coe r => exact ⟨r, rfl⟩

/-- The logarithm of the gate, over the temperature. -/
def LG (x : EReal) : EReal :=
  (min x 0 - Ideal.log1p (Ideal.exp (0 - max x (-x)))) * Ideal.ofBits .f32 0x3D800000#32

theorem sixteenth : Ideal.ofBits .f32 0x3D800000#32 = ((1 / 16 : ℝ) : EReal) := by
  simp [Ideal.ofBits, Ideal.ieee]
  rw [← EReal.coe_mul]
  congr 1
  norm_num

theorem sixteen : Ideal.ofBits .f32 0x41800000#32 = ((16 : ℝ) : EReal) := by
  simp [Ideal.ofBits, Ideal.ieee]
  rw [← EReal.coe_mul]
  congr 1
  norm_num

theorem inf : Ideal.ofBits .f32 0x7F800000#32 = ⊤ := by
  simp [Ideal.ofBits, Ideal.ieee]

theorem soft (a : ℝ) : Ideal.log1p (Ideal.exp ((a : ℝ) : EReal)) = ((Real.log (1 + Real.exp a) : ℝ) : EReal) := by
  have h : (1 : EReal) + ((Real.exp a : ℝ) : EReal) = ((1 + Real.exp a : ℝ) : EReal) := by
    rw [EReal.coe_add]
    rfl
  have hp : ¬ (1 + Real.exp a ≤ 0) := not_le.mpr (by have := Real.exp_pos a; linarith)
  show Ideal.log (1 + ((Real.exp a : ℝ) : EReal)) = _
  rw [h]
  show (if 1 + Real.exp a ≤ 0 then (⊥ : EReal) else _) = _
  rw [if_neg hp]

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

theorem LG_real (a : ℝ) :
    LG a = (((min a 0 - Real.log (1 + Real.exp (-|a|))) * (1 / 16) : ℝ) : EReal) := by
  have h : (0 : EReal) - max (a : EReal) (-(a : EReal)) = ((-|a| : ℝ) : EReal) := by
    rw [abs_eq_max_neg, ← EReal.coe_neg, ← coe_max, ← EReal.coe_zero, ← EReal.coe_sub, _root_.zero_sub]
  rw [LG, sixteenth, h, soft, ← EReal.coe_zero, ← coe_min, ← EReal.coe_sub, ← EReal.coe_mul]

theorem ends (x : EReal) : x = ⊥ ∨ x = ⊤ ∨ IsR x := by
  induction x with
  | bot => exact Or.inl rfl
  | top => exact Or.inr (Or.inl rfl)
  | coe r => exact Or.inr (Or.inr ⟨r, rfl⟩)

theorem log1p_exp_bot : Ideal.log1p (Ideal.exp ⊥) = 0 := by
  show Ideal.log (1 + 0) = 0
  rw [add_zero]
  show (if (1 : ℝ) ≤ 0 then (⊥ : EReal) else ((Real.log 1 : ℝ) : EReal)) = 0
  rw [if_neg (by norm_num), Real.log_one]
  rfl

theorem zero_sub_top : (0 : EReal) - ⊤ = ⊥ := by rw [sub_eq_add_neg, EReal.neg_top, EReal.add_bot]
theorem top_sub_zero : (⊤ : EReal) - 0 = ⊤ := by rw [sub_zero]
theorem bot_sub_zero : (⊥ : EReal) - 0 = ⊥ := by rw [sub_zero]

theorem LG_bot : LG ⊥ = ⊥ := by
  rw [LG, sixteenth, EReal.neg_bot, max_eq_right bot_le, zero_sub_top, log1p_exp_bot, min_eq_left bot_le, bot_sub_zero]
  exact EReal.bot_mul_coe_of_pos (by norm_num)

theorem LG_top : LG ⊤ = 0 := by
  rw [LG, EReal.neg_top, max_eq_left bot_le, zero_sub_top, log1p_exp_bot, min_eq_right le_top, IsR.zero.sub_self, zero_mul]

/-- The reference's softplus form of it. -/
theorem LG_soft (x : EReal) :
    Ideal.div (-(max (-x) 0 + Ideal.log1p (Ideal.exp (-max (-x - 0) (-(-x - 0)))))) (Ideal.ofBits .f32 0x41800000#32) = LG x := by
  rcases ends x with rfl | rfl | ⟨a, rfl⟩
  · rw [LG_bot, EReal.neg_bot, max_eq_left le_top, top_sub_zero, EReal.neg_top, max_eq_left bot_le, EReal.neg_top, log1p_exp_bot, add_zero, EReal.neg_top, sixteen, Ideal.div, if_neg (by simp), ← EReal.coe_inv]
    exact EReal.bot_mul_coe_of_pos (by norm_num)
  · rw [LG_top, EReal.neg_top, max_eq_right bot_le, bot_sub_zero, EReal.neg_bot, max_eq_right bot_le, EReal.neg_top, log1p_exp_bot, add_zero, neg_zero, sixteen, Ideal.div, if_neg (by simp), zero_mul]
  have h : -max (-(a : EReal) - 0) (-(-(a : EReal) - 0)) = ((-|a| : ℝ) : EReal) := by
    rw [abs_eq_max_neg, ← EReal.coe_neg, ← EReal.coe_zero, ← EReal.coe_sub, ← EReal.coe_neg, ← coe_max, ← EReal.coe_neg]
    rw [sub_zero, neg_neg, max_comm]
  rw [LG_real, h, soft, sixteen, ← EReal.coe_neg, ← EReal.coe_zero, ← coe_max, ← EReal.coe_add, ← EReal.coe_neg]
  rw [Ideal.div, if_neg (by simp), ← EReal.coe_inv, ← EReal.coe_mul]
  congr 1
  rw [neg_add, show -max (-a) 0 = min a 0 by rw [← neg_zero, ← min_neg_neg]; simp]
  ring

/-- It is never above every real number, so that its high and low parts add up to it. -/
theorem LG_parts (x : EReal) : LG x + (LG x - LG x) = LG x := by
  rcases ends x with rfl | rfl | ⟨a, rfl⟩
  · rw [LG_bot]
    exact EReal.bot_add _
  · rw [LG_top, IsR.zero.sub_self, add_zero]
  · rw [IsR.sub_self ⟨_, LG_real a⟩, add_zero]

/-- The query, decayed to the start of its chunk and scaled. -/
def QD (b q : Fin 64 → Fin 128 → EReal) (r : Fin 64) (d : Fin 128) : EReal :=
  q r d * Ideal.ofBits .f32 0x3DB504F3#32 * Ideal.exp (b r d)

/-- A chunk's output before its norm. -/
def CO (b q k : Fin 64 → Fin 128 → EReal) (v : Fin 64 → Fin 256 → EReal) (s : Fin 256 → Fin 128 → EReal)
    (r : Fin 64) (n : Fin 256) : EReal :=
  (∑ t : Fin 64, if t ≤ r then (∑ d, QD b q r d * (k t d * Ideal.exp (0 - b t d))) * v t n else 0)
    + ∑ d, QD b q r d * s n d

/-- The norm over a head's values and the output gate. -/
def CY (o : Fin 256 → EReal) (nw g : Fin 256 → EReal) (n : Fin 256) : EReal :=
  o n * Ideal.rsqrt (Ideal.div (∑ j, o j * o j) (Ideal.ofBits .f32 1132462080#32) + Ideal.ofBits .f32 897988541#32)
    * nw n * (g n * Ideal.logistic (g n))

/-- The state after a chunk. -/
def CS (b k : Fin 64 → Fin 128 → EReal) (v : Fin 64 → Fin 256 → EReal) (s : Fin 256 → Fin 128 → EReal)
    (n : Fin 256) (d : Fin 128) : EReal :=
  s n d * Ideal.exp (b 63 d) + ∑ t, v t n * (k t d * Ideal.exp (b 63 d - b t d))

/-- Row `r` of chunk `c`. -/
def RW (c : ℕ) (r : Fin 64) : Fin 4096 := ⟨(64 * c + r.val) % 4096, Nat.mod_lt _ (by decide)⟩

section

variable (P : Fin 4 → Fin 4096 → Fin 12288 → EReal) (sm : Fin 4 → Fin 4096 → Fin 128 → EReal)
variable (wa : Fin 16 → Fin 512 → EReal) (ba : Fin 512 → EReal) (nw : Fin 1024 → EReal)

/-- The gate's input. -/
def XP (b : Fin 4) (t : Fin 4096) (j : Fin 512) : EReal :=
  ∑ k : Fin 16, sm b t ⟨k.val, by omega⟩ * wa k j + ba j

/-- The logarithms of the gates, summed from the start of the chunk. -/
def BB (b h : Fin 4) (c : ℕ) (r : Fin 64) (d : Fin 128) : EReal :=
  ∑ s : Fin 64, if s ≤ r then LG (XP sm wa ba b (RW c s) ⟨128 * h.val + d.val, by omega⟩) else 0

def QQ (b h : Fin 4) (c : ℕ) (r : Fin 64) (d : Fin 128) : EReal :=
  P b (RW c r) ⟨128 * h.val + d.val, by omega⟩

def KK (b h : Fin 4) (c : ℕ) (r : Fin 64) (d : Fin 128) : EReal :=
  P b (RW c r) ⟨512 + 128 * h.val + d.val, by omega⟩

def VV (b h : Fin 4) (c : ℕ) (r : Fin 64) (n : Fin 256) : EReal :=
  P b (RW c r) ⟨1024 + 256 * h.val + n.val, by omega⟩

def GG (b h : Fin 4) (c : ℕ) (r : Fin 64) (n : Fin 256) : EReal :=
  P b (RW c r) ⟨2048 + 256 * h.val + n.val, by omega⟩

def NW (h : Fin 4) (n : Fin 256) : EReal := nw ⟨256 * h.val + n.val, by omega⟩

/-- The state before chunk `c`. -/
def ST (b h : Fin 4) : ℕ → Fin 256 → Fin 128 → EReal
  | 0 => fun _ _ => 0
  | c + 1 => CS (BB sm wa ba b h c) (KK P b h c) (VV P b h c) (ST b h c)

/-- Row `r` of chunk `c` of the result, in head `h`. -/
def YY (b h : Fin 4) (c : ℕ) (r : Fin 64) (n : Fin 256) : EReal :=
  CY (CO (BB sm wa ba b h c) (QQ P b h c) (KK P b h c) (VV P b h c) (ST P sm wa ba b h c) r) (NW nw h)
    (GG P b h c r) n

/-- The result. -/
def YV (b : Fin 4) (t : Fin 4096) (j : Fin 1024) : EReal :=
  YY P sm wa ba nw b ⟨j.val / 256, by omega⟩ (t.val / 64) ⟨t.val % 64, by omega⟩ ⟨j.val % 256, by omega⟩

/-- The operands of the gate's product are real numbers. -/
structure Real : Prop where
  lane : ∀ b t (j : Fin 16), IsR (sm b t ⟨j.val, by omega⟩)
  weight : ∀ i j, IsR (wa i j)

end

end Cert.GlaMath

end
-- ==== Proof.GlaRead.lean ====
module

public import proofs.«01_k».proof.Proof.GlaCell
public import proofs.«01_k».proof.Proof.GlaMath
public import Idealize.ShloMosaic.Lib.Pipeline.ValueKit

/-! # What a chunk of a head computes, element by element -/

@[expose] public section

set_option maxRecDepth 16384

noncomputable section

namespace Cert.GlaIdeal.Hand

open Cert.GlaIdeal Cert.GlaIdeal.Gen Cert.GlaMath Idealize.ShloMosaic Idealize.ShloMosaic.TcCoe Idealize.SL.Sem

theorem mask_le : ∀ x r : Fin 64, IntOp.cmpi .sle (BitVec.ofNat 32 x.val) (BitVec.ofNat 32 r.val) = if x ≤ r then 1 else 0 := by
  decide +kernel

theorem mask_lo : ∀ x r : Fin 64, IntOp.ori (IntOp.cmpi .sle (BitVec.ofNat 32 x.val) (BitVec.ofNat 32 r.val))
    (IntOp.andi (IntOp.cmpi .sge (BitVec.ofNat 32 x.val) 64#32) (IntOp.cmpi .sle (IntOp.subi (BitVec.ofNat 32 x.val) 64#32) (BitVec.ofNat 32 r.val))) = if x ≤ r then 1 else 0 := by
  decide +kernel

theorem mask_hi : ∀ x r : Fin 64, IntOp.ori (IntOp.cmpi .sle (BitVec.ofNat 32 (64 + x.val)) (BitVec.ofNat 32 r.val))
    (IntOp.andi (IntOp.cmpi .sge (BitVec.ofNat 32 (64 + x.val)) 64#32) (IntOp.cmpi .sle (IntOp.subi (BitVec.ofNat 32 (64 + x.val)) 64#32) (BitVec.ofNat 32 r.val))) = if x ≤ r then 1 else 0 := by
  decide +kernel

theorem pick {α : Type} (p : Prop) [Decidable p] (c : BitVec 1) (h : c = if p then 1 else 0) (a b : α) :
    Scalar.select c a b = if p then a else b := by
  subst h
  by_cases hp : p <;> simp [Scalar.select, hp]

theorem sel_le {α : Type} (x r : Fin 64) (a b : α) :
    Scalar.select (IntOp.cmpi .sle (BitVec.ofNat 32 x.val) (BitVec.ofNat 32 r.val)) a b = if x ≤ r then a else b :=
  pick _ _ (mask_le x r) a b

theorem pre_read (sm : Vec Ideal S1x64x128 .f32) (w : Vec Ideal S1x384x512 .bf16) (r : Fin 64) (J : Fin 512) :
    k0_pay5 (F := Ideal) sm w (ix2 r J) = ∑ x : Fin 384, (if h : x.val < 128 then sm (ix3 0 r ⟨x.val, h⟩)
      else if h : x.val - 128 < 128 then sm (ix3 0 r ⟨x.val - 128, h⟩) - sm (ix3 0 r ⟨x.val - 128, h⟩)
      else sm (ix3 0 r ⟨x.val - 128 - 128, by omega⟩)) * w (ix3 0 x J) := by
  pointwise [k0_pay5]

theorem la_read (p : FVec Ideal S64x512 .f32) (b : Vec Ideal S1x1x512 .f32) (r : Fin 64) (J : Fin 512) :
    k0_pay19 (F := Ideal) (k0_pay17 p b) (k0_pay18 p b) (ix2 r J) = LG (p (ix2 r J) + b (ix3 0 0 J)) := by
  pointwise [k0_pay19, k0_pay17, k0_pay18, k0_pay16]
  rfl

theorem cum_read (l : FVec Ideal S64x512 .f32) (hl : ∀ i, l i + (l i - l i) = l i) (r : Fin 64) (J : Fin 512) :
    k0_pay33 (F := Ideal) k0_pay4 l (ix2 r J) = ∑ x : Fin 64, if x ≤ r then l (ix2 x J) else 0 := by
  pointwise [k0_pay33, k0_pay4]
  rw [← Finset.sum_add_distrib]
  refine Finset.sum_congr rfl fun x _ => (congrArg₂ (· + ·) (pick (x ≤ r) _ (mask_lo x r) _ _) (pick (x ≤ r) _ (mask_hi x r) _ _)).trans ?_
  by_cases h : x ≤ r
  · rw [if_pos h, if_pos h, hl]
  · rw [if_neg h, if_neg h, add_zero]

theorem head_read (b : FVec Ideal S64x512 .f32) (h : ℕ) (hh : h < 4) (r : Fin 64) (d : Fin 128) :
    BH b h hh (ix2 r d) = b (ix2 r ⟨128 * h + d.val, by omega⟩) := by
  pointwise [BH]

theorem new_read (b : FVec Ideal S64x128 .f32) (k : Vec Ideal S1x64x128 .bf16) (v : Vec Ideal S1x64x256 .bf16) (s : Vec Ideal S1x256x128 .f32) (n : Fin 256) (d : Fin 128) :
    NEW b k v s (ix3 0 n d) = CS (fun r d => b (ix2 r d)) (fun r d => k (ix3 0 r d)) (fun r n => v (ix3 0 r n)) (fun n d => s (ix3 0 n d)) n d := by
  pointwise [NEW, BL, k0_pay93, k0_pay71, k0_pay84, k0_pay56, k0_pay67, k0_pay53]
  rfl

theorem out_read (b : FVec Ideal S64x128 .f32) (q k : Vec Ideal S1x64x128 .bf16) (v : Vec Ideal S1x64x256 .bf16) (s : Vec Ideal S1x256x128 .f32)
    (nw : Vec Ideal S1x1x256 .f32) (gg : Vec Ideal S1x64x256 .bf16) (r : Fin 64) (n : Fin 256) :
    OUT b q k v s nw gg (ix3 0 r n) = CY (CO (fun r d => b (ix2 r d)) (fun r d => q (ix3 0 r d)) (fun r d => k (ix3 0 r d)) (fun r n => v (ix3 0 r n)) (fun n d => s (ix3 0 n d)) r)
      (fun n => nw (ix3 0 0 n)) (fun n => gg (ix3 0 r n)) n := by
  pointwise [OUT, BL, k0_pay95, k0_pay94, k0_pay80, k0_pay60, k0_pay49, k0_pay71, k0_pay88, k0_pay3, k0_pay56, k0_pay75, k0_pay53, k0_pay64]
  simp only [sel_le]
  rfl

end Cert.GlaIdeal.Hand

end
-- ==== Proof.GlaBlk.lean ====
module

public import proofs.«01_k».proof.Proof.Gen.GlaIdeal.Value
public import proofs.«01_k».proof.Proof.GlaRead
public import Idealize.ShloMosaic.Lib.StableHlo.RunRead

/-! # The blocks of the gated linear attention, read off the operands -/

@[expose] public section

set_option maxRecDepth 16384

noncomputable section

namespace Cert.GlaIdeal.Hand

open Cert.GlaIdeal Cert.GlaIdeal.Gen Cert.GlaMath Idealize.ShloMosaic Idealize.ShloMosaic.TcCoe Idealize.SL.Sem

variable (m : (ℓ : Loc nD τ sig) → Buf (Elt Ideal) ℓ)

theorem idx0 : ∀ t : Fin grid0.N, win0_0.index t = ![t.val / 8, t.val % 8, 0] ∧ win0_1.index t = ![t.val / 8, t.val % 8, 1] ∧ win0_2.index t = ![t.val / 8, t.val % 8, 1]
    ∧ win0_3.index t = ![t.val / 8, t.val % 8, 2] ∧ win0_4.index t = ![t.val / 8, t.val % 8, 0] ∧ win0_5.index t = ![0, 0, 0] ∧ win0_6.index t = ![0, 0, 0]
    ∧ win0_7.index t = ![0, 0, 0] ∧ win0_8.index t = ![t.val / 8, t.val % 8, 0] := by
  decide +kernel

theorem v6_read (c : Dev nD) : V m c main_v6 = broadcastInDim S4x1x512 ![0, 2] bcast_S4x512_S4x1x512_0_2 (m ((c : Thread nD τ).loc main_arg3)) := by
  show StableHlo.after [hostOps0, hostOps0_1, hostOps0_2].flatten _ _ = _
  simp only [List.flatten_cons, List.flatten_nil, List.append_nil, hostOps0, hostOps0_1, hostOps0_2, List.cons_append, List.nil_append]
  after_reads_simp
theorem v7_read (c : Dev nD) : V m c main_v7 = broadcastInDim S4x1x1024 ![0, 2] bcast_S4x1024_S4x1x1024_0_2 (m ((c : Thread nD τ).loc main_arg4)) := by
  show StableHlo.after [hostOps0, hostOps0_1, hostOps0_2].flatten _ _ = _
  simp only [List.flatten_cons, List.flatten_nil, List.append_nil, hostOps0, hostOps0_1, hostOps0_2, List.cons_append, List.nil_append]
  after_reads_simp
/-- The gate's weights, padded to 128 rows. -/
def WP (c : Dev nD) : FVec Ideal S4x128x512 .f32 :=
  pad S4x128x512 ![0, 0, 0] ![0, 112, 0] ![0, 0, 0] (m ((c : Thread nD τ).loc main_arg2)) (sitofp .f32 (constantI S_ 32 0#32) : FVec Ideal S_ .f32) pads_S4x16x512_S4x128x512_000_01120_000 h_S_

theorem cat3 {a b c a' b' c' : FVec Ideal S4x128x512 .bf16} (ha : a = a') (hb : b = b') (hc : c = c') :
    concatenate S4x384x512 1 [⟨S4x128x512, a⟩, ⟨S4x128x512, b⟩, ⟨S4x128x512, c⟩] concatenates_S4x128x512_S4x128x512_S4x128x512_S4x384x512_d1
      = concatenate S4x384x512 1 [⟨S4x128x512, a'⟩, ⟨S4x128x512, b'⟩, ⟨S4x128x512, c'⟩] concatenates_S4x128x512_S4x128x512_S4x128x512_S4x384x512_d1 := by
  subst ha hb hc
  rfl

theorem v5_read (c : Dev nD) : V m c main_v5 = concatenate S4x384x512 1 [⟨S4x128x512, truncf .bf16 (WP m c) bitsLt_bf16_f32⟩, ⟨S4x128x512, truncf .bf16 (WP m c) bitsLt_bf16_f32⟩,
    ⟨S4x128x512, truncf .bf16 (subf (WP m c) (extf .f32 (truncf .bf16 (WP m c) bitsLt_bf16_f32) bitsLt_bf16_f32)) bitsLt_bf16_f32⟩] concatenates_S4x128x512_S4x128x512_S4x128x512_S4x384x512_d1 := by
  show StableHlo.after [hostOps0, hostOps0_1, hostOps0_2].flatten _ _ = _
  simp only [List.flatten_cons, List.flatten_nil, List.append_nil, hostOps0, hostOps0_1, hostOps0_2, List.cons_append, List.nil_append]
  after_reads_simp
  refine cat3 (a' := truncf .bf16 (WP m c) bitsLt_bf16_f32) (b' := truncf .bf16 (WP m c) bitsLt_bf16_f32)
    (c' := truncf .bf16 (subf (WP m c) (extf .f32 (truncf .bf16 (WP m c) bitsLt_bf16_f32) bitsLt_bf16_f32)) bitsLt_bf16_f32) ?_ ?_ ?_
  · show StableHlo.upto _ _ 7 (Proc.devRef .tc main_v1) = _
    after_reads_simp
    rfl
  · show StableHlo.upto _ _ 7 (Proc.devRef .tc main_v1) = _
    after_reads_simp
    rfl
  · show StableHlo.upto _ _ 7 (Proc.devRef .tc main_v4) = _
    after_reads_simp
    rfl
section
variable (c : Dev nD) (t : Fin cfg0.N) (r : Fin 512) (b : Fin 4) (R : Fin 4096)

theorem blk0 (j : Fin 512) (J : Fin 12288) (hb : b.val = t.val / 8) (h : R.val = t.val % 8 * 512 + r.val) (hJ : J.val = j.val) :
    iblk m c 0 t (ix3 0 r j) = m ((c : Thread nD τ).loc main_arg0) (ix3 b R J) := by
  blk_ext [iblk, V, idx0 t]
theorem blk1 (j : Fin 512) (J : Fin 12288) (hb : b.val = t.val / 8) (h : R.val = t.val % 8 * 512 + r.val) (hJ : J.val = 512 + j.val) :
    iblk m c 1 t (ix3 0 r j) = m ((c : Thread nD τ).loc main_arg0) (ix3 b R J) := by
  blk_ext [iblk, V, idx0 t]
theorem blk2 (j : Fin 1024) (J : Fin 12288) (hb : b.val = t.val / 8) (h : R.val = t.val % 8 * 512 + r.val) (hJ : J.val = 1024 + j.val) :
    iblk m c 2 t (ix3 0 r j) = m ((c : Thread nD τ).loc main_arg0) (ix3 b R J) := by
  blk_ext [iblk, V, idx0 t]
theorem blk3 (j : Fin 1024) (J : Fin 12288) (hb : b.val = t.val / 8) (h : R.val = t.val % 8 * 512 + r.val) (hJ : J.val = 2048 + j.val) :
    iblk m c 3 t (ix3 0 r j) = m ((c : Thread nD τ).loc main_arg0) (ix3 b R J) := by
  blk_ext [iblk, V, idx0 t]
theorem blk4 (j : Fin 128) (hb : b.val = t.val / 8) (h : R.val = t.val % 8 * 512 + r.val) :
    iblk m c 4 t (ix3 0 r j) = m ((c : Thread nD τ).loc main_arg1) (ix3 b R j) := by
  blk_ext [iblk, V, idx0 t]
theorem blk6 (j : Fin 512) :
    iblk m c 6 t (ix3 0 0 j) = m ((c : Thread nD τ).loc main_arg3) (ix2 0 j) := by
  blk_simp [iblk, idx0 t]
  rw [v6_read]
  pointwise
  blk_ext [idx0 t]
theorem blk7 (j : Fin 1024) :
    iblk m c 7 t (ix3 0 0 j) = m ((c : Thread nD τ).loc main_arg4) (ix2 0 j) := by
  blk_simp [iblk, idx0 t]
  rw [v7_read]
  pointwise
  blk_ext [idx0 t]
theorem blk5 (x : Fin 384) (j : Fin 512) :
    iblk m c 5 t (ix3 0 x j) = V m c main_v5 (ix3 0 x j) := by
  blk_ext [iblk, idx0 t]
theorem v5_at (x : Fin 384) (j : Fin 512) : V m c main_v5 (ix3 0 x j) = (if h : x.val < 128 then WP m c (ix3 0 ⟨x.val, h⟩ j)
    else if h : x.val - 128 < 128 then WP m c (ix3 0 ⟨x.val - 128, h⟩ j)
      else WP m c (ix3 0 ⟨x.val - 128 - 128, by omega⟩ j) - WP m c (ix3 0 ⟨x.val - 128 - 128, by omega⟩ j) : EReal) := by
  rw [v5_read]
  pointwise
theorem wp_lt (k : Fin 16) (x : Fin 128) (hx : x.val = k.val) (j : Fin 512) : WP m c (ix3 0 x j) = m ((c : Thread nD τ).loc main_arg2) (ix3 0 k j) := by
  pointwise [WP]
  rw [dif_pos (fun a => match a with
    | ⟨0, _⟩ => ⟨Nat.zero_le _, Nat.mod_one _, by show (0 - 0) / (0 + 1) < 4; decide⟩
    | ⟨1, _⟩ => ⟨Nat.zero_le _, Nat.mod_one _, by show (x.val - 0) / (0 + 1) < 16; omega⟩
    | ⟨2, _⟩ => ⟨Nat.zero_le _, Nat.mod_one _, by show (j.val - 0) / (0 + 1) < 512; omega⟩)]
  exact congrArg (fun q => m ((c : Thread nD τ).loc main_arg2) (ix3 0 q j)) (Fin.ext hx)
theorem wp_ge (x : Fin 128) (hx : 16 ≤ x.val) (j : Fin 512) : WP m c (ix3 0 x j) = (0 : EReal) := by
  pointwise [WP]
  rw [dif_neg (fun H => by
    have h : (x.val - 0) / (0 + 1) < 16 := (H 1).2.2
    omega)]
  show (((0#32 : BitVec 32).toInt : ℝ) : EReal) = 0
  simp

end

theorem wp_isR (c : Dev nD) (hw : ∀ (k : Fin 16) (j : Fin 512), IsR (m ((c : Thread nD τ).loc main_arg2) (ix3 0 k j))) (x : Fin 128) (j : Fin 512) : IsR (WP m c (ix3 0 x j)) := by
  by_cases h : x.val < 16
  · rw [wp_lt m c ⟨x.val, h⟩ x rfl]
    exact hw _ j
  · rw [wp_ge m c x (by omega)]
    exact IsR.zero

theorem sum_low {a b : ℕ} (f : Fin (a + b) → EReal) (g : Fin a → EReal) (h1 : ∀ k : Fin a, f (Fin.castAdd b k) = g k) (h2 : ∀ x : Fin (a + b), a ≤ x.val → f x = 0) :
    ∑ x, f x = ∑ k, g k := by
  rw [Fin.sum_univ_add, Finset.sum_eq_zero (f := fun k : Fin b => f (Fin.natAdd a k)) (fun x _ => h2 _ (by show a ≤ a + x.val; omega)), add_zero]
  exact Finset.sum_congr rfl fun k _ => h1 k

/-- The three-part product is the gate's sixteen-term sum. -/
theorem gate_sum (c : Dev nD) (S : Fin 128 → EReal) (hS : ∀ k : Fin 16, IsR (S ⟨k.val, by omega⟩))
    (hw : ∀ (k : Fin 16) (j : Fin 512), IsR (m ((c : Thread nD τ).loc main_arg2) (ix3 0 k j))) (j : Fin 512) :
    ∑ x : Fin 384, (if h : x.val < 128 then S ⟨x.val, h⟩
      else if h : x.val - 128 < 128 then S ⟨x.val - 128, h⟩ - S ⟨x.val - 128, h⟩
      else S ⟨x.val - 128 - 128, by omega⟩) * (V m c main_v5 (ix3 0 x j) : EReal)
    = ∑ k : Fin 16, S ⟨k.val, by omega⟩ * m ((c : Thread nD τ).loc main_arg2) (ix3 0 k j) := by
  refine sum_low (a := 16) (b := 368) _ _ (fun k => ?_) (fun x hx => ?_)
  · have hk : (Fin.castAdd 368 k).val < 128 := by show k.val < 128; omega
    rw [v5_at]
    simp only [dif_pos hk]
    rw [wp_lt m c k _ rfl]
    rfl
  · rw [v5_at]
    by_cases h1 : x.val < 128
    · simp only [dif_pos h1]
      rw [wp_ge m c _ hx, mul_zero]
    · by_cases h2 : x.val - 128 < 128
      · simp only [dif_neg h1, dif_pos h2]
        by_cases h3 : x.val - 128 < 16
        · rw [(hS ⟨x.val - 128, h3⟩).sub_self, zero_mul]
        · rw [wp_ge m c _ (by show 16 ≤ x.val - 128; omega), mul_zero]
      · simp only [dif_neg h1, dif_neg h2]
        rw [(wp_isR m c hw _ j).sub_self, mul_zero]

end Cert.GlaIdeal.Hand

end
-- ==== Proof.GlaSteps.lean ====
module

public import proofs.«01_k».proof.Proof.GlaBlk
public import Idealize.ShloMosaic.Lib.WritesUnit

/-! # One block of the gated linear attention

Eight chunks of four heads: the states carried through them and the rows they leave. -/

@[expose] public section

set_option maxRecDepth 16384

noncomputable section

namespace Cert.GlaIdeal.Hand

open Cert.GlaIdeal Cert.GlaIdeal.Gen Cert.GlaMath Idealize.ShloMosaic Idealize.ShloMosaic.TcCoe Idealize.SL.Sem

theorem LQ_at (a : Memref sig .tc .vmem S1x512x512 .bf16) (ha : a.IsWhole) (x : Vec Ideal S1x512x512 .bf16) (c h : ℕ) (hc : c < 8) (hh : h < 4) (r : Fin 64) (d : Fin 128) :
    LQ a ha x c h hc hh (ix3 0 r d) = x (ix3 0 ⟨64 * c + r.val, by omega⟩ ⟨128 * h + d.val, by omega⟩) := by
  show a.view.read (Elt Ideal) (ha.unread x) _ = _
  rw [ha.read_unread]
  exact congrArg x (funext fun q => Fin.ext (match q with
    | ⟨0, _⟩ => rfl
    | ⟨1, _⟩ => (by show 64 * c + 1 * r.val = 64 * c + r.val; omega)
    | ⟨2, _⟩ => (by show 128 * h + 1 * d.val = 128 * h + d.val; omega)))

theorem LV_at (a : Memref sig .tc .vmem S1x512x1024 .bf16) (ha : a.IsWhole) (x : Vec Ideal S1x512x1024 .bf16) (c h : ℕ) (hc : c < 8) (hh : h < 4) (r : Fin 64) (d : Fin 256) :
    LV a ha x c h hc hh (ix3 0 r d) = x (ix3 0 ⟨64 * c + r.val, by omega⟩ ⟨256 * h + d.val, by omega⟩) := by
  show a.view.read (Elt Ideal) (ha.unread x) _ = _
  rw [ha.read_unread]
  exact congrArg x (funext fun q => Fin.ext (match q with
    | ⟨0, _⟩ => rfl
    | ⟨1, _⟩ => (by show 64 * c + 1 * r.val = 64 * c + r.val; omega)
    | ⟨2, _⟩ => (by show 256 * h + 1 * d.val = 256 * h + d.val; omega)))

theorem LS_at (a : Memref sig .tc .vmem S1x512x128 .f32) (ha : a.IsWhole) (x : Vec Ideal S1x512x128 .f32) (c : ℕ) (hc : c < 8) (r : Fin 64) (d : Fin 128) :
    LS a ha x c hc (ix3 0 r d) = x (ix3 0 ⟨64 * c + r.val, by omega⟩ d) := by
  show a.view.read (Elt Ideal) (ha.unread x) _ = _
  rw [ha.read_unread]
  exact congrArg x (funext fun q => Fin.ext (match q with
    | ⟨0, _⟩ => rfl
    | ⟨1, _⟩ => (by show 64 * c + 1 * r.val = 64 * c + r.val; omega)
    | ⟨2, _⟩ => (by show 0 + 1 * d.val = d.val; omega)))

theorem LW_at (a : Memref sig .tc .vmem S1x384x512 .bf16) (ha : a.IsWhole) (x : Vec Ideal S1x384x512 .bf16) (r : Fin 384) (d : Fin 512) :
    LW a ha x  (ix3 0 r d) = x (ix3 0 r d) := by
  show a.view.read (Elt Ideal) (ha.unread x) _ = _
  rw [ha.read_unread]
  exact congrArg x (funext fun q => Fin.ext (match q with
    | ⟨0, _⟩ => rfl
    | ⟨1, _⟩ => (by show 0 + 1 * r.val = r.val; omega)
    | ⟨2, _⟩ => (by show 0 + 1 * d.val = d.val; omega)))

theorem LB_at (a : Memref sig .tc .vmem S1x1x512 .f32) (ha : a.IsWhole) (x : Vec Ideal S1x1x512 .f32) (d : Fin 512) :
    LB a ha x  (ix3 0 0 d) = x (ix3 0 0 d) := by
  show a.view.read (Elt Ideal) (ha.unread x) _ = _
  rw [ha.read_unread]
  exact congrArg x (funext fun q => Fin.ext (match q with
    | ⟨0, _⟩ => rfl
    | ⟨1, _⟩ => (by show 0 + 1 * 0 = 0; omega)
    | ⟨2, _⟩ => (by show 0 + 1 * d.val = d.val; omega)))

theorem LN_at (a : Memref sig .tc .vmem S1x1x1024 .f32) (ha : a.IsWhole) (x : Vec Ideal S1x1x1024 .f32) (h : ℕ) (hh : h < 4) (d : Fin 256) :
    LN a ha x h hh (ix3 0 0 d) = x (ix3 0 0 ⟨256 * h + d.val, by omega⟩) := by
  show a.view.read (Elt Ideal) (ha.unread x) _ = _
  rw [ha.read_unread]
  exact congrArg x (funext fun q => Fin.ext (match q with
    | ⟨0, _⟩ => rfl
    | ⟨1, _⟩ => (by show 0 + 1 * 0 = 0; omega)
    | ⟨2, _⟩ => (by show 256 * h + 1 * d.val = 256 * h + d.val; omega)))

theorem LT_at (a : Memref sig .tc .vmem S4x256x128 .f32) (ha : a.IsWhole) (x : Vec Ideal S4x256x128 .f32) (h : ℕ) (hh : h < 4) (n : Fin 256) (d : Fin 128) :
    LT a ha x h hh (ix3 0 n d) = x (ix3 ⟨h, hh⟩ n d) := by
  show a.view.read (Elt Ideal) (ha.unread x) _ = _
  rw [ha.read_unread]
  exact congrArg x (funext fun q => Fin.ext (match q with
    | ⟨0, _⟩ => (by show h + 1 * 0 = h; omega)
    | ⟨1, _⟩ => (by show 0 + 1 * n.val = n.val; omega)
    | ⟨2, _⟩ => (by show 0 + 1 * d.val = d.val; omega)))

theorem RW_block (k c : ℕ) (hk : k < 8) (hc : c < 8) (r : Fin 64) : (RW (8 * k + c) r).val = k * 512 + (64 * c + r.val) := by
  show (64 * (8 * k + c) + r.val) % 4096 = _
  omega

/-- Where a column lies in the projection. -/
def col (o : ℕ) (w : ℕ) (ho : o + w ≤ 12288) (j : Fin w) : Fin 12288 := ⟨o + j.val, by omega⟩

section

variable (d : Dev nD) (a2 : Memref sig .tc .vmem S1x512x512 .bf16) (h2 : a2.IsWhole) (a3 : Memref sig .tc .vmem S1x512x512 .bf16) (h3 : a3.IsWhole) (a4 : Memref sig .tc .vmem S1x512x1024 .bf16) (h4 : a4.IsWhole) (a5 : Memref sig .tc .vmem S1x512x1024 .bf16) (h5 : a5.IsWhole) (a6 : Memref sig .tc .vmem S1x512x128 .f32) (h6 : a6.IsWhole) (a7 : Memref sig .tc .vmem S1x384x512 .bf16) (h7 : a7.IsWhole) (a8 : Memref sig .tc .vmem S1x1x512 .f32) (h8 : a8.IsWhole) (a9 : Memref sig .tc .vmem S1x1x1024 .f32) (h9 : a9.IsWhole) (a11 : Memref sig .tc .vmem S4x256x128 .f32) (h11 : a11.IsWhole)
    (x0 : Vec Ideal S1x512x512 .bf16) (x1 : Vec Ideal S1x512x512 .bf16) (x2 : Vec Ideal S1x512x1024 .bf16) (x3 : Vec Ideal S1x512x1024 .bf16) (x4 : Vec Ideal S1x512x128 .f32) (x5 : Vec Ideal S1x384x512 .bf16) (x6 : Vec Ideal S1x1x512 .f32) (x7 : Vec Ideal S1x1x1024 .f32)

variable (P : Fin 4 → Fin 4096 → Fin 12288 → EReal) (sm : Fin 4 → Fin 4096 → Fin 128 → EReal)
variable (wa : Fin 16 → Fin 512 → EReal) (ba : Fin 512 → EReal) (nw : Fin 1024 → EReal) (b : Fin 4) (k : ℕ)

/-- The gate's three operands hold what block `k` of sequence `b` reads. -/
structure GateHolds : Prop where
  lane : ∀ t (j : Fin 16), IsR (sm b t ⟨j.val, by omega⟩)
  weight : ∀ i j, IsR (wa i j)
  small : ∀ (c : ℕ) (hc : c < 8) (r : Fin 64) (j : Fin 128), x4 (ix3 0 ⟨64 * c + r.val, by omega⟩ j) = sm b (RW (8 * k + c) r) j
  sum : ∀ (S : Fin 128 → EReal), (∀ j : Fin 16, IsR (S ⟨j.val, by omega⟩)) → ∀ j : Fin 512,
    ∑ x : Fin 384, (if h : x.val < 128 then S ⟨x.val, h⟩
      else if h : x.val - 128 < 128 then S ⟨x.val - 128, h⟩ - S ⟨x.val - 128, h⟩
      else S ⟨x.val - 128 - 128, by omega⟩) * (x5 (ix3 0 x j) : EReal) = ∑ i : Fin 16, S ⟨i.val, by omega⟩ * wa i j
  off : ∀ j, x6 (ix3 0 0 j) = ba j

/-- The projection's blocks hold it. -/
structure ProjHolds : Prop where
  atQ : ∀ (c : ℕ) (hc : c < 8) (r : Fin 64) (j : Fin 512), x0 (ix3 0 ⟨64 * c + r.val, by omega⟩ j) = P b (RW (8 * k + c) r) (col 0 512 (by decide) j)
  atK : ∀ (c : ℕ) (hc : c < 8) (r : Fin 64) (j : Fin 512), x1 (ix3 0 ⟨64 * c + r.val, by omega⟩ j) = P b (RW (8 * k + c) r) (col 512 512 (by decide) j)
  atV : ∀ (c : ℕ) (hc : c < 8) (r : Fin 64) (j : Fin 1024), x2 (ix3 0 ⟨64 * c + r.val, by omega⟩ j) = P b (RW (8 * k + c) r) (col 1024 1024 (by decide) j)
  atG : ∀ (c : ℕ) (hc : c < 8) (r : Fin 64) (j : Fin 1024), x3 (ix3 0 ⟨64 * c + r.val, by omega⟩ j) = P b (RW (8 * k + c) r) (col 2048 1024 (by decide) j)
  atW : ∀ j, x7 (ix3 0 0 j) = nw j

variable {x0 x1 x2 x3 x4 x5 x6 x7 P sm wa ba nw b k}

theorem pre_at (H : GateHolds x4 x5 x6 sm wa ba b k) (c : ℕ) (hc : c < 8) (r : Fin 64) (j : Fin 512) :
    k0_pay5 (LS a6 h6 x4 c hc) (LW a7 h7 x5) (ix2 r j) + LB a8 h8 x6 (ix3 0 0 j) = XP sm wa ba b (RW (8 * k + c) r) j := by
  rw [pre_read, LB_at, H.off]
  simp only [LS_at, LW_at, H.small c hc]
  exact congrArg (· + ba j) (H.sum _ (H.lane _) j)

theorem BC_at (H : GateHolds x4 x5 x6 sm wa ba b k) (c : ℕ) (hc : c < 8) (r : Fin 64) (j : Fin 512) :
    BC a6 h6 a7 h7 a8 h8 x4 x5 x6 c hc (ix2 r j) = ∑ s : Fin 64, if s ≤ r then LG (XP sm wa ba b (RW (8 * k + c) s) j) else 0 := by
  have hl : ∀ (s : Fin 64) (i : Fin 512), k0_pay19 (F := Ideal) (k0_pay17 (k0_pay5 (LS a6 h6 x4 c hc) (LW a7 h7 x5)) (LB a8 h8 x6))
      (k0_pay18 (k0_pay5 (LS a6 h6 x4 c hc) (LW a7 h7 x5)) (LB a8 h8 x6)) (ix2 s i) = LG (XP sm wa ba b (RW (8 * k + c) s) i) := fun s i => by
    rw [la_read, pre_at a6 h6 a7 h7 a8 h8 H]
  unfold BC CB
  rw [cum_read]
  · exact Finset.sum_congr rfl fun s _ => by rw [hl]
  · intro i
    idx_vars i
    rw [hl]
    exact LG_parts _

theorem BH_at (H : GateHolds x4 x5 x6 sm wa ba b k) (c h : ℕ) (hc : c < 8) (hh : h < 4) (r : Fin 64) (d : Fin 128) :
    BH (BC a6 h6 a7 h7 a8 h8 x4 x5 x6 c hc) h hh (ix2 r d) = BB sm wa ba b ⟨h, hh⟩ (8 * k + c) r d := by
  rw [head_read, BC_at a6 h6 a7 h7 a8 h8 H]
  rfl

theorem LK_at (G : ProjHolds x0 x1 x2 x3 x7 P nw b k) (c h : ℕ) (hc : c < 8) (hh : h < 4) (r : Fin 64) (d : Fin 128) :
    LQ a3 h3 x1 c h hc hh (ix3 0 r d) = KK P b ⟨h, hh⟩ (8 * k + c) r d := by
  rw [LQ_at, G.atK c hc]
  exact congrArg (P b _) (Fin.ext (by show 512 + (128 * h + d.val) = 512 + 128 * h + d.val; omega))

theorem LQ'_at (G : ProjHolds x0 x1 x2 x3 x7 P nw b k) (c h : ℕ) (hc : c < 8) (hh : h < 4) (r : Fin 64) (d : Fin 128) :
    LQ a2 h2 x0 c h hc hh (ix3 0 r d) = QQ P b ⟨h, hh⟩ (8 * k + c) r d := by
  rw [LQ_at, G.atQ c hc]
  exact congrArg (P b _) (Fin.ext (by show 0 + (128 * h + d.val) = 128 * h + d.val; omega))

theorem LV'_at (G : ProjHolds x0 x1 x2 x3 x7 P nw b k) (c h : ℕ) (hc : c < 8) (hh : h < 4) (r : Fin 64) (n : Fin 256) :
    LV a4 h4 x2 c h hc hh (ix3 0 r n) = VV P b ⟨h, hh⟩ (8 * k + c) r n := by
  rw [LV_at, G.atV c hc]
  exact congrArg (P b _) (Fin.ext (by show 1024 + (256 * h + n.val) = 1024 + 256 * h + n.val; omega))

theorem LG'_at (G : ProjHolds x0 x1 x2 x3 x7 P nw b k) (c h : ℕ) (hc : c < 8) (hh : h < 4) (r : Fin 64) (n : Fin 256) :
    LV a5 h5 x3 c h hc hh (ix3 0 r n) = GG P b ⟨h, hh⟩ (8 * k + c) r n := by
  rw [LV_at, G.atG c hc]
  exact congrArg (P b _) (Fin.ext (by show 2048 + (256 * h + n.val) = 2048 + 256 * h + n.val; omega))

theorem LN'_at (G : ProjHolds x0 x1 x2 x3 x7 P nw b k) (h : ℕ) (hh : h < 4) (n : Fin 256) :
    LN a9 h9 x7 h hh (ix3 0 0 n) = NW nw ⟨h, hh⟩ n := by
  rw [LN_at, G.atW]
  rfl

/-- The state after `c` chunks of the block. -/
theorem SA_at (H : GateHolds x4 x5 x6 sm wa ba b k) (G : ProjHolds x0 x1 x2 x3 x7 P nw b k) (s : (h : ℕ) → h < 4 → Vec Ideal S1x256x128 .f32)
    (hs : ∀ h hh n d, s h hh (ix3 0 n d) = ST P sm wa ba b ⟨h, hh⟩ (8 * k) n d) :
    ∀ (c : ℕ) (hc : c ≤ 8) (h : ℕ) (hh : h < 4) (n : Fin 256) (d : Fin 128),
      SA a3 h3 a4 h4 a6 h6 a7 h7 a8 h8 x1 x2 x4 x5 x6 s c hc h hh (ix3 0 n d) = ST P sm wa ba b ⟨h, hh⟩ (8 * k + c) n d
  | 0, _, h, hh, n, d => hs h hh n d
  | c + 1, hc, h, hh, n, d => by
    refine (new_read _ _ _ _ n d).trans ?_
    show _ = CS (BB sm wa ba b ⟨h, hh⟩ (8 * k + c)) (KK P b ⟨h, hh⟩ (8 * k + c)) (VV P b ⟨h, hh⟩ (8 * k + c)) (ST P sm wa ba b ⟨h, hh⟩ (8 * k + c)) n d
    congr 1
    · funext r e
      exact BH_at a6 h6 a7 h7 a8 h8 H c h _ hh r e
    · funext r e
      exact LK_at a3 h3 G c h _ hh r e
    · funext r e
      exact LV'_at a4 h4 G c h _ hh r e
    · funext e f
      exact SA_at H G s hs c _ h hh e f

/-- Where the block's rows hold the result. -/
def GR (P : Fin 4 → Fin 4096 → Fin 12288 → EReal) (sm : Fin 4 → Fin 4096 → Fin 128 → EReal) (wa : Fin 16 → Fin 512 → EReal) (ba : Fin 512 → EReal) (nw : Fin 1024 → EReal)
    (b : Fin 4) (k : ℕ) (y : S1x512x1024.Idx) : EReal :=
  YY P sm wa ba nw b ⟨(y 2).val / 256, by have h : (y 2).val < 1024 := (y 2).isLt; omega⟩ (8 * k + (y 1).val / 64) ⟨(y 1).val % 64, by omega⟩ ⟨(y 2).val % 256, by omega⟩

theorem YY_congr (h h' : Fin 4) (c c' : ℕ) (r r' : Fin 64) (n n' : Fin 256) (e1 : h = h') (e2 : c = c') (e3 : r = r') (e4 : n = n') :
    YY P sm wa ba nw b h c r n = YY P sm wa ba nw b h' c' r' n' := by
  subst e1 e2 e3 e4
  rfl

theorem ON_at (H : GateHolds x4 x5 x6 sm wa ba b k) (G : ProjHolds x0 x1 x2 x3 x7 P nw b k) (c h : ℕ) (hc : c < 8) (hh : h < 4) (s : Vec Ideal S1x256x128 .f32)
    (hs : ∀ n d, s (ix3 0 n d) = ST P sm wa ba b ⟨h, hh⟩ (8 * k + c) n d) :
    ∀ x, (ON a2 h2 a3 h3 a4 h4 a5 h5 a6 h6 a7 h7 a8 h8 a9 h9 x0 x1 x2 x3 x4 x5 x6 x7 c h hc hh s).2 x = GR P sm wa ba nw b k ((ON a2 h2 a3 h3 a4 h4 a5 h5 a6 h6 a7 h7 a8 h8 a9 h9 x0 x1 x2 x3 x4 x5 x6 x7 c h hc hh s).1.emb x) := by
  intro y
  change S1x64x256.Idx at y
  idx_vars y
  have e0 : y0 = 0 := by omega
  subst e0
  refine (out_read _ _ _ _ _ _ _ y1 y2).trans ?_
  refine Eq.trans (b := YY P sm wa ba nw b ⟨h, hh⟩ (8 * k + c) y1 y2) ?_ (YY_congr _ _ _ _ _ _ _ _ (Fin.ext ?_) ?_ (Fin.ext ?_) (Fin.ext ?_))
  · have e1 := funext fun r => funext fun e => BH_at a6 h6 a7 h7 a8 h8 H c h hc hh r e
    have e2 := funext fun r => funext fun e => LQ'_at a2 h2 G c h hc hh r e
    have e3 := funext fun r => funext fun e => LK_at a3 h3 G c h hc hh r e
    have e4 := funext fun r => funext fun e => LV'_at a4 h4 G c h hc hh r e
    have e5 := funext fun r => funext fun e => hs r e
    have e6 := funext fun e => LN'_at a9 h9 G h hh e
    have e7 := funext fun e => LG'_at a5 h5 G c h hc hh y1 e
    rw [e1, e2, e3, e4, e5, e6, e7]
    rfl
  · show h = (256 * h + 1 * y2.val) / 256
    omega
  · show 8 * k + c = 8 * k + (64 * c + 1 * y1.val) / 64
    omega
  · show y1.val = (64 * c + 1 * y1.val) % 64
    omega
  · show y2.val = (256 * h + 1 * y2.val) % 256
    omega

theorem PO_at (H : GateHolds x4 x5 x6 sm wa ba b k) (G : ProjHolds x0 x1 x2 x3 x7 P nw b k) (s : (h : ℕ) → h < 4 → Vec Ideal S1x256x128 .f32)
    (hs : ∀ h hh n d, s h hh (ix3 0 n d) = ST P sm wa ba b ⟨h, hh⟩ (8 * k) n d) (c : ℕ) (hc : c < 8) (L : List (View.Piece (Elt Ideal) S1x512x1024 .bf16))
    (hL : ∀ p ∈ L, ∀ x, p.2 x = GR P sm wa ba nw b k (p.1.emb x)) :
    ∀ p ∈ PO a2 h2 a3 h3 a4 h4 a5 h5 a6 h6 a7 h7 a8 h8 a9 h9 x0 x1 x2 x3 x4 x5 x6 x7 c hc (SA a3 h3 a4 h4 a6 h6 a7 h7 a8 h8 x1 x2 x4 x5 x6 s c hc.le) L, ∀ x, p.2 x = GR P sm wa ba nw b k (p.1.emb x) := by
  have hq : ∀ (h : ℕ) (hh : h < 4), ∀ x, (ON a2 h2 a3 h3 a4 h4 a5 h5 a6 h6 a7 h7 a8 h8 a9 h9 x0 x1 x2 x3 x4 x5 x6 x7 c h hc hh (SA a3 h3 a4 h4 a6 h6 a7 h7 a8 h8 x1 x2 x4 x5 x6 s c hc.le h hh)).2 x = GR P sm wa ba nw b k ((ON a2 h2 a3 h3 a4 h4 a5 h5 a6 h6 a7 h7 a8 h8 a9 h9 x0 x1 x2 x3 x4 x5 x6 x7 c h hc hh (SA a3 h3 a4 h4 a6 h6 a7 h7 a8 h8 x1 x2 x4 x5 x6 s c hc.le h hh)).1.emb x) :=
    fun h hh => ON_at a2 h2 a3 h3 a4 h4 a5 h5 a6 h6 a7 h7 a8 h8 a9 h9 H G c h hc hh _ (fun n d => SA_at a3 h3 a4 h4 a6 h6 a7 h7 a8 h8 H G s hs c hc.le h hh n d)
  unfold PO
  rw [List.forall_mem_cons, List.forall_mem_cons, List.forall_mem_cons, List.forall_mem_cons]
  exact ⟨hq 3 _, hq 2 _, hq 1 _, hq 0 _, hL⟩

end

end Cert.GlaIdeal.Hand

end
-- ==== Proof.GlaKernel.lean ====
module

public import proofs.«01_k».proof.Proof.GlaSteps

/-! # The whole run of the gated linear attention

The states carried from block to block, and the result's blocks. -/

@[expose] public section

set_option maxRecDepth 16384

noncomputable section

namespace Cert.GlaIdeal.Hand

open Cert.GlaIdeal Cert.GlaIdeal.Gen Cert.GlaMath Idealize.ShloMosaic Idealize.ShloMosaic.TcCoe Idealize.SL.Sem
open Idealize.ShloMosaic.Pipeline (Dat)

variable (m : (ℓ : Loc nD τ sig) → Buf (Elt Ideal) ℓ) (c : Dev nD)

def mP (b : Fin 4) (t : Fin 4096) (j : Fin 12288) : EReal := m ((c : Thread nD τ).loc main_arg0) (ix3 b t j)
def mS (b : Fin 4) (t : Fin 4096) (j : Fin 128) : EReal := m ((c : Thread nD τ).loc main_arg1) (ix3 b t j)
def mW (k : Fin 16) (j : Fin 512) : EReal := m ((c : Thread nD τ).loc main_arg2) (ix3 0 k j)
def mB (j : Fin 512) : EReal := m ((c : Thread nD τ).loc main_arg3) (ix2 0 j)
def mN (j : Fin 1024) : EReal := m ((c : Thread nD τ).loc main_arg4) (ix2 0 j)

variable (HR : Real (mS m c) (mW m c))

include HR in
theorem gate_holds (t : Fin cfg0.N) (b : Fin 4) (hb : b.val = t.val / 8) :
    GateHolds (iblk m c 4 t) (iblk m c 5 t) (iblk m c 6 t) (mS m c) (mW m c) (mB m c) b (t.val % 8) where
  lane := HR.lane b
  weight := HR.weight
  small q hq r j := blk4 m c t _ b _ j hb (RW_block _ q (Nat.mod_lt _ (by decide)) hq r)
  sum S hS j := by
    simp only [blk5]
    exact gate_sum m c S hS HR.weight j
  off j := blk6 m c t j

theorem proj_holds (t : Fin cfg0.N) (b : Fin 4) (hb : b.val = t.val / 8) :
    ProjHolds (iblk m c 0 t) (iblk m c 1 t) (iblk m c 2 t) (iblk m c 3 t) (iblk m c 7 t) (mP m c) (mN m c) b (t.val % 8) where
  atQ q hq r j := blk0 m c t _ b _ j _ hb (RW_block _ q (Nat.mod_lt _ (by decide)) hq r) (by show 0 + j.val = j.val; omega)
  atK q hq r j := blk1 m c t _ b _ j _ hb (RW_block _ q (Nat.mod_lt _ (by decide)) hq r) rfl
  atV q hq r j := blk2 m c t _ b _ j _ hb (RW_block _ q (Nat.mod_lt _ (by decide)) hq r) rfl
  atG q hq r j := blk3 m c t _ b _ j _ hb (RW_block _ q (Nat.mod_lt _ (by decide)) hq r) rfl
  atW j := blk7 m c t j

/-- What the first block starts from. -/
theorem zero_at (h : ℕ) (hh : h < 4) (n : Fin 256) (d : Fin 128) :
    LC (F := Ideal) scM0_0 kernelRun0_A.sl.HS0_1 h hh (ix3 0 n d) = (0 : EReal) := by
  unfold LC kernelRun0_A.sl.HS0_1
  show scM0_0.view.read (Elt Ideal) _ _ = _
  refine (View.read_writes_cons_unit_of_mem scM0_0.view _ _ _ [] _ (ix3 ⟨h, hh⟩ n d) rfl (fun a => match a with
    | ⟨0, _⟩ => (by show h + 1 * 0 = 0 + h; omega)
    | ⟨1, _⟩ => (by show 0 + 1 * n.val = 0 + n.val; omega)
    | ⟨2, _⟩ => (by show 0 + 1 * d.val = 0 + d.val; omega))).trans ?_
  pointwise [k0_pay2]

/-- A head's carried state, read off the scratch's writes. -/
theorem carried (L : List (View.Piece (Elt Ideal) S4x256x128 .f32)) (h : Fin 4) (n : Fin 256) (d : Fin 128) :
    VS0_0.read (Elt Ideal) (VS0_0.writes (Elt Ideal) VS0_0.junk L) (ix3 h n d) = LC scM0_0 L h.val h.isLt (ix3 0 n d) := by
  show _ = scM0_0.view.read (Elt Ideal) (scM0_0.view.writes (Elt Ideal) scM0_0.view.junk L) _
  refine congrArg (VS0_0.read (Elt Ideal) (VS0_0.writes (Elt Ideal) VS0_0.junk L)) (funext fun a => Fin.ext (match a with
    | ⟨0, _⟩ => (by show h.val = h.val + 1 * 0; omega)
    | ⟨1, _⟩ => (by show n.val = 0 + 1 * n.val; omega)
    | ⟨2, _⟩ => (by show d.val = 0 + 1 * d.val; omega)))

include HR in
theorem state_first (t : Fin cfg0.N) (h0 : t.val % 8 = 0) (b : Fin 4) (hb : b.val = t.val / 8) (h : Fin 4) (v : Fin 256) (d : Fin 128) :
    (outsAt0 m c t.val t.isLt).2 (ix3 h v d) = ST (mP m c) (mS m c) (mW m c) (mB m c) b h (8 * (t.val % 8) + 8) v d := by
  rw [outsAt0_A m c t h0]
  refine (carried _ h v d).trans ?_
  rw [lastA']
  refine SA_at _ _ _ _ _ _ _ _ _ _ (gate_holds m c HR t b hb) (proj_holds m c t b hb) _ (fun h hh n' d => ?_) 8 (by omega) h.val h.isLt v d
  rw [zero_at, h0]
  rfl

include HR in
theorem state_later (t : Fin cfg0.N) (h0 : ¬t.val % 8 = 0) (b : Fin 4) (hb : b.val = t.val / 8)
    (ih : ∀ hn (h : Fin 4) (v : Fin 256) (d : Fin 128), (outsAt0 m c (t.val - 1) hn).2 (ix3 h v d) = ST (mP m c) (mS m c) (mW m c) (mB m c) b h (8 * (t.val % 8)) v d)
    (h : Fin 4) (v : Fin 256) (d : Fin 128) :
    (outsAt0 m c t.val t.isLt).2 (ix3 h v d) = ST (mP m c) (mS m c) (mW m c) (mB m c) b h (8 * (t.val % 8) + 8) v d := by
  rw [outsAt0_B m c t h0]
  refine (carried _ h v d).trans ?_
  rw [lastB']
  refine SA_at _ _ _ _ _ _ _ _ _ _ (gate_holds m c HR t b hb) (proj_holds m c t b hb) _ (fun h hh n' d => ?_) 8 (by omega) h.val h.isLt v d
  rw [LT_at]
  exact ih _ ⟨h, hh⟩ n' d

include HR in
/-- The state after each grid point. -/
theorem state : ∀ (n : ℕ) (hn : n < cfg0.N) (b : Fin 4) (hb : b.val = n / 8) (h : Fin 4) (v : Fin 256) (d : Fin 128),
    (outsAt0 m c n hn).2 (ix3 h v d) = ST (mP m c) (mS m c) (mW m c) (mB m c) b h (8 * (n % 8) + 8) v d
  | 0, hn, b, hb, h, v, d => state_first m c HR ⟨0, hn⟩ rfl b hb h v d
  | n + 1, hn, b, hb, h, v, d => by
    by_cases h0 : (n + 1) % 8 = 0
    · exact state_first m c HR ⟨n + 1, hn⟩ h0 b hb h v d
    · refine state_later m c HR ⟨n + 1, hn⟩ h0 b hb (fun hn' h' v' d' => ?_) h v d
      rw [show 8 * ((⟨n + 1, hn⟩ : Fin cfg0.N).val % 8) = 8 * (n % 8) + 8 from by show 8 * ((n + 1) % 8) = _; omega]
      exact state n hn' b (by omega) h' v' d'

/-- The state before each grid point of case B. -/
theorem GR_at (t : Fin cfg0.N) (b : Fin 4) (R : Fin 4096) (r : Fin 512) (j : Fin 1024) (hb : b.val = t.val / 8) (hR : R.val = t.val % 8 * 512 + r.val) :
    GR (mP m c) (mS m c) (mW m c) (mB m c) (mN m c) b (t.val % 8) (ix3 0 r j) = YV (mP m c) (mS m c) (mW m c) (mB m c) (mN m c) b R j :=
  YY_congr _ _ _ _ _ _ _ _ rfl (by show 8 * (t.val % 8) + r.val / 64 = R.val / 64; omega) (Fin.ext (by show r.val % 64 = R.val % 64; omega)) rfl

include HR in
theorem point_first (t : Fin cfg0.N) (h0 : t.val % 8 = 0) (b : Fin 4) (hb : b.val = t.val / 8) (y : S1x512x1024.Idx) :
    (outsAt0 m c t.val t.isLt).1 y = GR (mP m c) (mS m c) (mW m c) (mB m c) (mN m c) b (t.val % 8) y := by
  rw [outsAt0_A m c t h0]
  dsimp only
  unfold out0_A_8
  refine View.read_writes_apply_of_pieces _ _ _ _ ?_ y (cover0_A_8 (F := Ideal) _ _ _ _ _ _ _ _ _ _ _ _ _ _ _ _ _ _ _ _ _ _ _ _ _ _ _ _ _ _ _ y)
  rw [outsA']
  have H := gate_holds m c HR t b hb
  have G := proj_holds m c t b hb
  have hs : ∀ h hh n d, LC (F := Ideal) scM0_0 kernelRun0_A.sl.HS0_1 h hh (ix3 0 n d) = ST (mP m c) (mS m c) (mW m c) (mB m c) b ⟨h, hh⟩ (8 * (t.val % 8)) n d := fun h hh n' d => by
    rw [zero_at, h0]
    rfl
  refine PO_at _ _ _ _ _ _ _ _ _ _ _ _ _ _ _ _ H G _ hs 7 (by omega) _ ?_
  refine PO_at _ _ _ _ _ _ _ _ _ _ _ _ _ _ _ _ H G _ hs 6 (by omega) _ ?_
  refine PO_at _ _ _ _ _ _ _ _ _ _ _ _ _ _ _ _ H G _ hs 5 (by omega) _ ?_
  refine PO_at _ _ _ _ _ _ _ _ _ _ _ _ _ _ _ _ H G _ hs 4 (by omega) _ ?_
  refine PO_at _ _ _ _ _ _ _ _ _ _ _ _ _ _ _ _ H G _ hs 3 (by omega) _ ?_
  refine PO_at _ _ _ _ _ _ _ _ _ _ _ _ _ _ _ _ H G _ hs 2 (by omega) _ ?_
  refine PO_at _ _ _ _ _ _ _ _ _ _ _ _ _ _ _ _ H G _ hs 1 (by omega) _ ?_
  refine PO_at _ _ _ _ _ _ _ _ _ _ _ _ _ _ _ _ H G _ hs 0 (by omega) _ ?_
  exact fun p hp => absurd hp List.not_mem_nil

include HR in
theorem point_later (t : Fin cfg0.N) (h0 : ¬t.val % 8 = 0) (b : Fin 4) (hb : b.val = t.val / 8) (y : S1x512x1024.Idx) :
    (outsAt0 m c t.val t.isLt).1 y = GR (mP m c) (mS m c) (mW m c) (mB m c) (mN m c) b (t.val % 8) y := by
  rw [outsAt0_B m c t h0]
  have hN : t.val < 32 := t.isLt
  have hk : t.val - 1 < cfg0.N := Nat.lt_of_le_of_lt (Nat.sub_le _ _) t.isLt
  dsimp only
  unfold out0_B_8
  refine View.read_writes_apply_of_pieces _ _ _ _ ?_ y (cover0_B_8 (F := Ideal) _ _ _ _ _ _ _ _ _ _ _ _ _ _ _ _ _ _ _ _ _ _ _ _ _ _ _ _ _ _ _ _ y)
  rw [outsB']
  have H := gate_holds m c HR t b hb
  have G := proj_holds m c t b hb
  have hs : ∀ h hh n d, LT scM0_0 (Memref.isWhole_whole _) (outsAt0 m c (t.val - 1) hk).2 h hh (ix3 0 n d) = ST (mP m c) (mS m c) (mW m c) (mB m c) b ⟨h, hh⟩ (8 * (t.val % 8)) n d := fun h hh n' d => by
    rw [LT_at, state m c HR (t.val - 1) hk b (by omega), show 8 * ((t.val - 1) % 8) + 8 = 8 * (t.val % 8) from by omega]
  refine PO_at _ _ _ _ _ _ _ _ _ _ _ _ _ _ _ _ H G _ hs 7 (by omega) _ ?_
  refine PO_at _ _ _ _ _ _ _ _ _ _ _ _ _ _ _ _ H G _ hs 6 (by omega) _ ?_
  refine PO_at _ _ _ _ _ _ _ _ _ _ _ _ _ _ _ _ H G _ hs 5 (by omega) _ ?_
  refine PO_at _ _ _ _ _ _ _ _ _ _ _ _ _ _ _ _ H G _ hs 4 (by omega) _ ?_
  refine PO_at _ _ _ _ _ _ _ _ _ _ _ _ _ _ _ _ H G _ hs 3 (by omega) _ ?_
  refine PO_at _ _ _ _ _ _ _ _ _ _ _ _ _ _ _ _ H G _ hs 2 (by omega) _ ?_
  refine PO_at _ _ _ _ _ _ _ _ _ _ _ _ _ _ _ _ H G _ hs 1 (by omega) _ ?_
  refine PO_at _ _ _ _ _ _ _ _ _ _ _ _ _ _ _ _ H G _ hs 0 (by omega) _ ?_
  exact fun p hp => absurd hp List.not_mem_nil

/-- The result as an array. -/
def YA (i : S4x4096x1024.Idx) : EReal := YV (mP m c) (mS m c) (mW m c) (mB m c) (mN m c) (i 0) (i 1) (i 2)

theorem emb8 (t : Fin cfg0.N) (r : Fin 512) (n : Fin 1024) (b : Fin 4) (R : Fin 4096) (hb : b.val = t.val / 8) (hR : R.val = t.val % 8 * 512 + r.val) :
    (win0_8.blk t).view.emb (ix3 0 r n) = ix3 b R n := by
  blk_ext [idx0 t]

include HR in
theorem final : (dats m 0 c).arrAt 8 cfg0.N = YA m c := by
  refine (dats m 0 c).arrAt_eq_of_covers 8 _ (by decide +kernel) fun t hf y => ?_
  blk_simp
  rw [after0_8]
  idx_vars y
  have ht : t.val < 32 := t.isLt
  obtain ⟨b, hb⟩ : ∃ b : Fin 4, b.val = t.val / 8 := ⟨⟨t.val / 8, by omega⟩, rfl⟩
  obtain ⟨R, hR⟩ : ∃ R : Fin 4096, R.val = t.val % 8 * 512 + y1.val := ⟨⟨t.val % 8 * 512 + y1.val, by omega⟩, rfl⟩
  have e0 : y0 = 0 := by omega
  subst e0
  refine Eq.trans ?_ (congrArg (YA m c) (emb8 t y1 y2 b R hb hR).symm)
  refine Eq.trans ?_ (GR_at m c t b R y1 y2 hb hR)
  by_cases h0 : t.val % 8 = 0
  · exact point_first m c HR t h0 b hb _
  · exact point_later m c HR t h0 b hb _

end Cert.GlaIdeal.Hand

end
-- ==== Proof.GlaRefArr.lean ====
module

public import proofs.«01_k».proof.Proof.Gen.GlaRefIdeal.Run
public import proofs.«01_k».proof.Proof.GlaMath

/-! # The reference's arrays, named -/

@[expose] public section

set_option maxRecDepth 65536

noncomputable section

namespace Cert.GlaRefIdeal.Hand

open Cert.GlaRefIdeal Cert.GlaRefIdeal.Gen Cert.GlaRefIdeal.Value Cert.GlaMath Idealize.ShloMosaic Idealize.ShloMosaic.TcCoe Idealize.SL.Sem

/-- The gate's input. -/
def rX (A1 : FVec Ideal S4x4096x128 .f32) (A2 : FVec Ideal S4x16x512 .f32) (A3 : FVec Ideal S4x512 .f32) : FVec Ideal S4x4096x512 .f32 :=
  addf (Host.dotGeneral dot_S4x4096x16_S16x512_S4x4096x512_2_0_01_1_n_n none (extractStridedSlice S4x4096x16 ![0, 0, 0] A1 slices_S4x4096x128_S4x4096x16_0_0_0) (shapeCast _ (extractStridedSlice S1x16x512 ![0, 0, 0] A2 slices_S4x16x512_S1x16x512_0_0_0) shapeCasts_S1x16x512_S16x512)) (broadcastInDim S4x4096x512 ![0, 1, 2] bcast_S1x1x512_S4x4096x512_0_1_2 (broadcastInDim S1x1x512 ![2] bcast_S512_S1x1x512_2 (shapeCast _ (extractStridedSlice S1x512 ![0, 0] A3 slices_S4x512_S1x512_0_0) shapeCasts_S1x512_S512)))

/-- The logarithm of the gate. -/
def rL (x : FVec Ideal S4x4096x512 .f32) : FVec Ideal S4x4096x512 .f32 :=
  Host.divf (Host.negf (select (cmpf .une (subf (Host.negf x) (broadcastInDim S4x4096x512 ![] bcast_S_S4x4096x512 (constant S_ .f32 0x00000000#32))) (subf (Host.negf x) (broadcastInDim S4x4096x512 ![] bcast_S_S4x4096x512 (constant S_ .f32 0x00000000#32)))) (addf (Host.negf x) (broadcastInDim S4x4096x512 ![] bcast_S_S4x4096x512 (constant S_ .f32 0x00000000#32))) (addf (maximumf (Host.negf x) (broadcastInDim S4x4096x512 ![] bcast_S_S4x4096x512 (constant S_ .f32 0x00000000#32))) (Host.log1p (Host.exp (Host.negf (Host.absf (subf (Host.negf x) (broadcastInDim S4x4096x512 ![] bcast_S_S4x4096x512 (constant S_ .f32 0x00000000#32))))))))))  (broadcastInDim S4x4096x512 ![] bcast_S_S4x4096x512 (constant S_ .f32 0x41800000#32))

/-- It, by sequence, head, chunk, row and column. -/
def rC (l : FVec Ideal S4x4096x512 .f32) : FVec Ideal S4x4x64x64x128 .f32 :=
  (transpose S4x4x64x64x128 [0, 3, 1, 2, 4] (shapeCast _ (shapeCast _ l shapeCasts_S4x4096x512_S4x4096x4x128) shapeCasts_S4x4096x4x128_S4x64x64x4x128) transposes_S4x64x64x4x128_S4x4x64x64x128_0_3_1_2_4)

/-- Its running sums. -/
def rB (l5 : FVec Ideal S4x4x64x64x128 .f32) : FVec Ideal S4x4x64x64x128 .f32 :=
  (Host.reduceWindowAdd ![1, 1, 1, 64, 1] ![1, 1, 1, 1, 1] ![0, 0, 0, 63, 0] ![0, 0, 0, 0, 0] l5 (broadcastInDim S_ ![] bcast_S_S_ (constant S_ .f32 0x00000000#32)) reduceWindows_S4x4x64x64x128_S4x4x64x64x128_w1s1p0_0_w1s1p0_0_w1s1p0_0_w64s1p63_0_w1s1p0_0 h_S_)

def rQ (A0 : FVec Ideal S4x4096x12288 .bf16) : FVec Ideal S4x4x64x64x128 .f32 :=
  (transpose S4x4x64x64x128 [0, 3, 1, 2, 4] (shapeCast _ (shapeCast _ (extf .f32 (extractStridedSlice S4x4096x512 ![0, 0, 0] (extractStridedSlice S4x4096x3072 ![0, 0, 0] A0 slices_S4x4096x12288_S4x4096x3072_0_0_0) slices_S4x4096x3072_S4x4096x512_0_0_0) bitsLt_bf16_f32) shapeCasts_S4x4096x512_S4x4096x4x128) shapeCasts_S4x4096x4x128_S4x64x64x4x128) transposes_S4x64x64x4x128_S4x4x64x64x128_0_3_1_2_4)

def rK (A0 : FVec Ideal S4x4096x12288 .bf16) : FVec Ideal S4x4x64x64x128 .f32 :=
  (transpose S4x4x64x64x128 [0, 3, 1, 2, 4] (shapeCast _ (shapeCast _ (extf .f32 (extractStridedSlice S4x4096x512 ![0, 0, 512] (extractStridedSlice S4x4096x3072 ![0, 0, 0] A0 slices_S4x4096x12288_S4x4096x3072_0_0_0) slices_S4x4096x3072_S4x4096x512_0_0_512) bitsLt_bf16_f32) shapeCasts_S4x4096x512_S4x4096x4x128) shapeCasts_S4x4096x4x128_S4x64x64x4x128) transposes_S4x64x64x4x128_S4x4x64x64x128_0_3_1_2_4)

def rV (A0 : FVec Ideal S4x4096x12288 .bf16) : FVec Ideal S4x4x64x64x256 .f32 :=
  (transpose S4x4x64x64x256 [0, 3, 1, 2, 4] (shapeCast _ (shapeCast _ (extf .f32 (extractStridedSlice S4x4096x1024 ![0, 0, 1024] (extractStridedSlice S4x4096x3072 ![0, 0, 0] A0 slices_S4x4096x12288_S4x4096x3072_0_0_0) slices_S4x4096x3072_S4x4096x1024_0_0_1024) bitsLt_bf16_f32) shapeCasts_S4x4096x1024_S4x4096x4x256) shapeCasts_S4x4096x4x256_S4x64x64x4x256) transposes_S4x64x64x4x256_S4x4x64x64x256_0_3_1_2_4)

def rG (A0 : FVec Ideal S4x4096x12288 .bf16) : FVec Ideal S4x4096x1024 .f32 :=
  (extf .f32 (extractStridedSlice S4x4096x1024 ![0, 0, 2048] (extractStridedSlice S4x4096x3072 ![0, 0, 0] A0 slices_S4x4096x12288_S4x4096x3072_0_0_0) slices_S4x4096x3072_S4x4096x1024_0_0_2048) bitsLt_bf16_f32)

/-- The chunks' outputs. -/
def rO (b q k : FVec Ideal S4x4x64x64x128 .f32) (v : FVec Ideal S4x4x64x64x256 .f32) (ss : FVec Ideal S64x4x4x128x256 .f32) : FVec Ideal S4x4x64x64x256 .f32 :=
  addf (Host.dotGeneral dot_S4x4x64x64x64_S4x4x64x64x256_S4x4x64x64x256_4_3_3_4_012_012 none (select (broadcastInDim S4x4x64x64x64 ![3, 4] bcast_S64x64_S4x4x64x64x64_3_4 (cmpi .sge (addi (iotaInDim S64x64 32 0) (broadcastInDim S64x64 ![] bcast_S_S64x64 (constantI S_ 32 0#32))) (iotaInDim S64x64 32 1))) (Host.dotGeneral dot_S4x4x64x64x128_S4x4x64x64x128_S4x4x64x64x64_4_4_3_3_012_012 none (mulf (mulf q (broadcastInDim S4x4x64x64x128 ![] bcast_S_S4x4x64x64x128 (constant S_ .f32 0x3DB504F3#32))) (Host.exp b)) (mulf k (Host.exp (Host.negf b)))) (broadcastInDim S4x4x64x64x64 ![] bcast_S_S4x4x64x64x64 (constant S_ .f32 0x00000000#32))) v) (Host.dotGeneral dot_S4x4x64x64x128_S4x4x64x128x256_S4x4x64x64x256_4_3_3_4_012_012 none (mulf (mulf q (broadcastInDim S4x4x64x64x128 ![] bcast_S_S4x4x64x64x128 (constant S_ .f32 0x3DB504F3#32))) (Host.exp b)) (transpose S4x4x64x128x256 [1, 2, 0, 3, 4] ss transposes_S64x4x4x128x256_S4x4x64x128x256_1_2_0_3_4))

/-- The result. -/
def rY (o : FVec Ideal S4x4x64x64x256 .f32) (g : FVec Ideal S4x4096x1024 .f32) (A4 : FVec Ideal S4x1024 .f32) : FVec Ideal S4x4096x1024 .bf16 :=
  truncf .bf16 (mulf (mulf (shapeCast _ (mulf (shapeCast _ (transpose S4x64x64x4x256 [0, 2, 3, 1, 4] o transposes_S4x4x64x64x256_S4x64x64x4x256_0_2_3_1_4) shapeCasts_S4x64x64x4x256_S4x4096x4x256) (broadcastInDim S4x4096x4x256 ![0, 1, 2, 3] bcast_S4x4096x4x1_S4x4096x4x256_0_1_2_3 (Host.rsqrt (addf (Host.divf (broadcastInDim S4x4096x4x1 ![0, 1, 2] bcast_S4x4096x4_S4x4096x4x1_0_1_2 (Host.reduceAdd (mulf (shapeCast _ (transpose S4x64x64x4x256 [0, 2, 3, 1, 4] o transposes_S4x4x64x64x256_S4x64x64x4x256_0_2_3_1_4) shapeCasts_S4x64x64x4x256_S4x4096x4x256) (shapeCast _ (transpose S4x64x64x4x256 [0, 2, 3, 1, 4] o transposes_S4x4x64x64x256_S4x64x64x4x256_0_2_3_1_4) shapeCasts_S4x64x64x4x256_S4x4096x4x256)) (constant S_ .f32 0x00000000#32) reducesTo_S4x4096x4x256_S4x4096x4_d3 h_S_)) (broadcastInDim S4x4096x4x1 ![] bcast_S_S4x4096x4x1 (constant S_ .f32 0x43800000#32))) (broadcastInDim S4x4096x4x1 ![] bcast_S_S4x4096x4x1 (constant S_ .f32 0x358637BD#32)))))) shapeCasts_S4x4096x4x256_S4x4096x1024) (broadcastInDim S4x4096x1024 ![0, 1, 2] bcast_S1x1x1024_S4x4096x1024_0_1_2 (broadcastInDim S1x1x1024 ![2] bcast_S1024_S1x1x1024_2 (shapeCast _ (extractStridedSlice S1x1024 ![0, 0] A4 slices_S4x1024_S1x1024_0_0) shapeCasts_S1x1024_S1024)))) (mulf g (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf g)))))) bitsLt_bf16_f32

theorem out_eq (V0 : Valuation τ sig (Elt Ideal)) : out_main_v121 V0 = rY (rO (rB (rC (rL (rX (V0 (Proc.devRef .tc main_arg1)) (V0 (Proc.devRef .tc main_arg2)) (V0 (Proc.devRef .tc main_arg3))))))
    (rQ (V0 (Proc.devRef .tc main_arg0))) (rK (V0 (Proc.devRef .tc main_arg0))) (rV (V0 (Proc.devRef .tc main_arg0))) (V0 (Proc.devRef .tc main_v46_4)))
    (rG (V0 (Proc.devRef .tc main_arg0))) (V0 (Proc.devRef .tc main_arg4)) := by
  sl_kernel_rfl

end Cert.GlaRefIdeal.Hand

end
-- ==== Proof.GlaRefRead.lean ====
module

public import proofs.«01_k».proof.Proof.GlaRefArr
public import Idealize.ShloMosaic.Lib.Pipeline.ValueKit

/-! # The reference's arrays, element by element -/

@[expose] public section

set_option maxRecDepth 16384

noncomputable section

namespace Cert.GlaRefIdeal.Hand

open Cert.GlaRefIdeal Cert.GlaRefIdeal.Gen Cert.GlaRefIdeal.Value Cert.GlaMath Idealize.ShloMosaic Idealize.ShloMosaic.TcCoe Idealize.SL.Sem

/-! ## The running sum -/

theorem fold_sum {ι : Type} (l : List ι) (g : ι → EReal) (a : EReal) :
    l.foldl (fun r n => r + g n) a = a + (l.map g).sum := by
  induction l generalizing a with
  | nil => simp
  | cons x l ih => rw [List.foldl_cons, ih, List.map_cons, List.sum_cons, add_assoc]

theorem win_numel : (⟨5, ![1, 1, 1, 64, 1]⟩ : Shape).numel = 64 := by decide

theorem win_symm (n : Fin (⟨5, ![1, 1, 1, 64, 1]⟩ : Shape).numel) :
    (⟨5, ![1, 1, 1, 64, 1]⟩ : Shape).rowMajor.symm n
      = ix5 (n0 := 1) (n1 := 1) (n2 := 1) (n3 := 64) (n4 := 1) 0 0 0 (n.cast win_numel) 0 :=
  ((⟨5, ![1, 1, 1, 64, 1]⟩ : Shape).rowMajor.symm_apply_eq).2 (Fin.ext (by
    rw [Shape.rowMajor_val_five]
    show n.val = (((0 * 1 + 0) * 1 + 0) * 64 + n.val) * 1 + 0
    omega))

theorem rB_at (l5 : FVec Ideal S4x4x64x64x128 .f32) (b h : Fin 4) (c r : Fin 64) (d : Fin 128) :
    rB l5 (ix5 b h c r d) = ∑ s : Fin 64, if s ≤ r then l5 (ix5 b h c s d) else (0 : EReal) := by
  have hz : (broadcastInDim S_ ![] bcast_S_S_ (constant (F := Ideal) S_ .f32 0x00000000#32)) (Shape.Idx.first h_S_) = (0 : EReal) := by
    show Ideal.ofBits .f32 0#32 = 0
    simp [Ideal.ofBits, Ideal.ieee]
  unfold rB Host.reduceWindowAdd
  rw [hz]
  rw [Ideal.hostReduceWindowAdd_def]
  unfold Ideal.hostReduceWindowAdd Host.reduceWindow
  refine (fold_sum _ _ _).trans ?_
  rw [_root_.zero_add, ← Fin.sum_univ_def]
  refine (Fintype.sum_equiv (finCongr win_numel) _
    (fun w : Fin 64 => if hw : 63 ≤ r.val + w.val then l5 (ix5 b h c ⟨r.val + w.val - 63, by omega⟩ d) else (0 : EReal)) (fun n => ?_)).trans ?_
  · have hn : ((finCongr win_numel) n).val = n.val := rfl
    have hw (a : Fin 5) : ((⟨5, ![1, 1, 1, 64, 1]⟩ : Shape).rowMajor.symm n a).val = (![0, 0, 0, n.val, 0] : Fin 5 → ℕ) a := by
      rw [win_symm]; fin_cases a <;> rfl
    have hlt : n.val < 64 := (n.cast win_numel).isLt
    dsimp only
    split
    · next hin =>
      have h0 : 63 ≤ r.val * 1 + ((⟨5, ![1, 1, 1, 64, 1]⟩ : Shape).rowMajor.symm n 3).val := (hin 3).1
      rw [hw] at h0
      have h1 : 63 ≤ r.val * 1 + n.val := h0
      rw [dif_pos (by rw [hn]; omega)]
      refine congrArg l5 (funext fun a => Fin.ext ?_)
      show (ix5 b h c r d a).val * (![1, 1, 1, 1, 1] : Fin 5 → ℕ) a + ((⟨5, ![1, 1, 1, 64, 1]⟩ : Shape).rowMajor.symm n a).val - (![0, 0, 0, 63, 0] : Fin 5 → ℕ) a = _
      rw [hw]
      match a with
      | ⟨0, _⟩ => show b.val * 1 + 0 - 0 = b.val; omega
      | ⟨1, _⟩ => show h.val * 1 + 0 - 0 = h.val; omega
      | ⟨2, _⟩ => show c.val * 1 + 0 - 0 = c.val; omega
      | ⟨3, _⟩ => show r.val * 1 + n.val - 63 = r.val + n.val - 63; omega
      | ⟨4, _⟩ => show d.val * 1 + 0 - 0 = d.val; omega
    · next hin =>
      rw [dif_neg fun hle => hin fun a => by
        rw [hn] at hle
        have hb := b.isLt
        have hh := h.isLt
        have hc := c.isLt
        have hr := r.isLt
        have hd := d.isLt
        show (![0, 0, 0, 63, 0] : Fin 5 → ℕ) a ≤ (ix5 b h c r d a).val * (![1, 1, 1, 1, 1] : Fin 5 → ℕ) a + ((⟨5, ![1, 1, 1, 64, 1]⟩ : Shape).rowMajor.symm n a).val
          ∧ (ix5 b h c r d a).val * (![1, 1, 1, 1, 1] : Fin 5 → ℕ) a + ((⟨5, ![1, 1, 1, 64, 1]⟩ : Shape).rowMajor.symm n a).val - (![0, 0, 0, 63, 0] : Fin 5 → ℕ) a < (![4, 4, 64, 64, 128] : Fin 5 → ℕ) a
        rw [hw]
        match a with
        | ⟨0, _⟩ => show 0 ≤ b.val * 1 + 0 ∧ b.val * 1 + 0 - 0 < 4; omega
        | ⟨1, _⟩ => show 0 ≤ h.val * 1 + 0 ∧ h.val * 1 + 0 - 0 < 4; omega
        | ⟨2, _⟩ => show 0 ≤ c.val * 1 + 0 ∧ c.val * 1 + 0 - 0 < 64; omega
        | ⟨3, _⟩ => show 63 ≤ r.val * 1 + n.val ∧ r.val * 1 + n.val - 63 < 64; omega
        | ⟨4, _⟩ => show 0 ≤ d.val * 1 + 0 ∧ d.val * 1 + 0 - 0 < 128; omega]
  · refine Fintype.sum_equiv (Equiv.addRight (r + 1)) _ _ fun w => ?_
    have hs : (w + (r + 1)).val = (w.val + r.val + 1) % 64 := by
      rw [Fin.val_add, Fin.val_add]
      show (w.val + (r.val + 1) % 64) % 64 = _
      omega
    show _ = if w + (r + 1) ≤ r then l5 (ix5 b h c (w + (r + 1)) d) else (0 : EReal)
    by_cases hle : 63 ≤ r.val + w.val
    · have e : (⟨r.val + w.val - 63, by omega⟩ : Fin 64) = w + (r + 1) := Fin.ext (by rw [hs]; show r.val + w.val - 63 = _; omega)
      rw [dif_pos hle, if_pos (Fin.le_def.2 (by rw [hs]; omega)), e]
    · rw [dif_neg hle, if_neg (fun hc => by have := Fin.le_def.1 hc; rw [hs] at this; omega)]

/-! ## The other arrays -/

theorem rX_at (A1 : FVec Ideal S4x4096x128 .f32) (A2 : FVec Ideal S4x16x512 .f32) (A3 : FVec Ideal S4x512 .f32) (b : Fin 4) (t : Fin 4096) (j : Fin 512) :
    rX A1 A2 A3 (ix3 b t j)
      = XP (fun b t j => A1 (ix3 b t j)) (fun i j => A2 (ix3 0 i j)) (fun j => A3 (ix2 0 j)) b t j := by
  pointwise [rX]
  rfl

theorem rL_at (x : FVec Ideal S4x4096x512 .f32) (b : Fin 4) (t : Fin 4096) (j : Fin 512) :
    rL x (ix3 b t j) = LG (x (ix3 b t j)) := by
  rw [← LG_soft]
  pointwise [rL]
  rw [if_neg (not_not.2 rfl)]
  rfl

theorem rC_at (x : FVec Ideal S4x4096x512 .f32) (b h : Fin 4) (c r : Fin 64) (d : Fin 128) :
    rC x (ix5 b h c r d) = x (ix3 b (RW c.val r) ⟨128 * h.val + d.val, by omega⟩) := by
  have e1 : RW c.val r = ⟨c.val * 64 + r.val, by omega⟩ := Fin.ext (by show (64 * c.val + r.val) % 4096 = c.val * 64 + r.val; omega)
  have e2 : (⟨128 * h.val + d.val, by omega⟩ : Fin 512) = ⟨h.val * 128 + d.val, by omega⟩ := Fin.ext (by show 128 * h.val + d.val = h.val * 128 + d.val; omega)
  rw [e1, e2]
  pointwise [rC]

theorem rQ_at (A0 : FVec Ideal S4x4096x12288 .bf16) (b h : Fin 4) (c r : Fin 64) (d : Fin 128) :
    rQ A0 (ix5 b h c r d) = QQ (fun b t j => A0 (ix3 b t j)) b h c.val r d := by
  have e1 : RW c.val r = ⟨c.val * 64 + r.val, by omega⟩ := Fin.ext (by show (64 * c.val + r.val) % 4096 = c.val * 64 + r.val; omega)
  have e2 : (⟨128 * h.val + d.val, by omega⟩ : Fin 12288) = ⟨h.val * 128 + d.val, by omega⟩ := Fin.ext (by show 128 * h.val + d.val = h.val * 128 + d.val; omega)
  rw [QQ, e1, e2]
  pointwise [rQ]

theorem rK_at (A0 : FVec Ideal S4x4096x12288 .bf16) (b h : Fin 4) (c r : Fin 64) (d : Fin 128) :
    rK A0 (ix5 b h c r d) = KK (fun b t j => A0 (ix3 b t j)) b h c.val r d := by
  have e1 : RW c.val r = ⟨c.val * 64 + r.val, by omega⟩ := Fin.ext (by show (64 * c.val + r.val) % 4096 = c.val * 64 + r.val; omega)
  have e2 : (⟨512 + 128 * h.val + d.val, by omega⟩ : Fin 12288) = ⟨512 + (h.val * 128 + d.val), by omega⟩ := Fin.ext (by show 512 + 128 * h.val + d.val = 512 + (h.val * 128 + d.val); omega)
  rw [KK, e1, e2]
  pointwise [rK]

theorem rV_at (A0 : FVec Ideal S4x4096x12288 .bf16) (b h : Fin 4) (c r : Fin 64) (n : Fin 256) :
    rV A0 (ix5 b h c r n) = VV (fun b t j => A0 (ix3 b t j)) b h c.val r n := by
  have e1 : RW c.val r = ⟨c.val * 64 + r.val, by omega⟩ := Fin.ext (by show (64 * c.val + r.val) % 4096 = c.val * 64 + r.val; omega)
  have e2 : (⟨1024 + 256 * h.val + n.val, by omega⟩ : Fin 12288) = ⟨1024 + (h.val * 256 + n.val), by omega⟩ := Fin.ext (by show 1024 + 256 * h.val + n.val = 1024 + (h.val * 256 + n.val); omega)
  rw [VV, e1, e2]
  pointwise [rV]

theorem rG_at (A0 : FVec Ideal S4x4096x12288 .bf16) (b : Fin 4) (t : Fin 4096) (j : Fin 1024) :
    rG A0 (ix3 b t j) = A0 (ix3 b t ⟨2048 + j.val, by omega⟩) := by
  pointwise [rG]

theorem tril : ∀ x r : Fin 64, IntOp.cmpi .sge (IntOp.addi (BitVec.ofNat 32 r.val) 0#32) (BitVec.ofNat 32 x.val) = if x ≤ r then 1 else 0 := by
  decide +kernel

theorem sel_tril {α : Type} (x r : Fin 64) (a b : α) :
    Scalar.select (IntOp.cmpi .sge (IntOp.addi (BitVec.ofNat 32 r.val) 0#32) (BitVec.ofNat 32 x.val)) a b = if x ≤ r then a else b := by
  rw [tril]
  by_cases hp : x ≤ r <;> simp [Scalar.select, hp]

theorem rO_at (B q k : FVec Ideal S4x4x64x64x128 .f32) (v : FVec Ideal S4x4x64x64x256 .f32) (ss : FVec Ideal S64x4x4x128x256 .f32) (b h : Fin 4) (c r : Fin 64) (n : Fin 256) :
    rO B q k v ss (ix5 b h c r n)
      = CO (fun r d => B (ix5 b h c r d)) (fun r d => q (ix5 b h c r d)) (fun r d => k (ix5 b h c r d)) (fun r n => v (ix5 b h c r n))
          (fun n d => ss (ix5 c b h d n)) r n := by
  unfold CO QD
  simp only [_root_.zero_sub, ← sel_tril]
  pointwise [rO]

theorem rY_at (o : FVec Ideal S4x4x64x64x256 .f32) (g : FVec Ideal S4x4096x1024 .f32) (A4 : FVec Ideal S4x1024 .f32) (b : Fin 4) (t : Fin 4096) (j : Fin 1024) :
    rY o g A4 (ix3 b t j)
      = CY (fun n => o (ix5 b ⟨j.val / 256, by omega⟩ ⟨t.val / 64, by omega⟩ ⟨t.val % 64, by omega⟩ n))
          (NW (fun j => A4 (ix2 0 j)) ⟨j.val / 256, by omega⟩)
          (fun n => g (ix3 b t ⟨256 * (j.val / 256) + n.val, by omega⟩)) ⟨j.val % 256, by omega⟩ := by
  have e : (⟨256 * (j.val / 256) + j.val % 256, by omega⟩ : Fin 1024) = j := Fin.ext (by show 256 * (j.val / 256) + j.val % 256 = _; omega)
  unfold CY NW Ideal.logistic
  simp only [e]
  pointwise [rY]

end Cert.GlaRefIdeal.Hand

end
-- ==== Proof.GlaRefRun.lean ====
module

public import proofs.«01_k».proof.Proof.GlaRefRead
public import Idealize.ShloMosaic.Lib.StableHlo.RunRead

/-! # The reference's loop over the chunks -/

@[expose] public section

set_option maxRecDepth 65536

noncomputable section

namespace Cert.GlaRefIdeal.Hand

open Cert.GlaRefIdeal Cert.GlaRefIdeal.Gen Cert.GlaRefIdeal.Value Cert.GlaMath Idealize.ShloMosaic Idealize.ShloMosaic.TcCoe Idealize.SL.Sem
open Idealize.ShloMosaic.StableHlo

/-- What a chunk adds to the state. -/
def eS (B k : FVec Ideal S4x4x64x64x128 .f32) (v : FVec Ideal S4x4x64x64x256 .f32) : FVec Ideal S64x4x4x128x256 .f32 :=
  transpose S64x4x4x128x256 [2, 0, 1, 3, 4] (Host.dotGeneral dot_S4x4x64x64x128_S4x4x64x64x256_S4x4x64x128x256_3_3_4_4_012_012 none
    (mulf k (Host.exp (subf (broadcastInDim S4x4x64x64x128 ![0, 1, 2, 3, 4] bcast_S4x4x64x1x128_S4x4x64x64x128_0_1_2_3_4
      (extractStridedSlice S4x4x64x1x128 ![0, 0, 0, 63, 0] B slices_S4x4x64x64x128_S4x4x64x1x128_0_0_0_63_0)) B))) v)
    transposes_S4x4x64x128x256_S64x4x4x128x256_2_0_1_3_4

/-- What is left of the state over a chunk. -/
def eD (B : FVec Ideal S4x4x64x64x128 .f32) : FVec Ideal S64x4x4x128x1 .f32 :=
  transpose S64x4x4x128x1 [2, 0, 1, 3, 4] (Host.exp (transpose S4x4x64x128x1 [0, 1, 2, 4, 3]
    (extractStridedSlice S4x4x64x1x128 ![0, 0, 0, 63, 0] B slices_S4x4x64x64x128_S4x4x64x1x128_0_0_0_63_0)
    transposes_S4x4x64x1x128_S4x4x64x128x1_0_1_2_4_3)) transposes_S4x4x64x128x1_S64x4x4x128x1_2_0_1_3_4

theorem eS_at (B k : FVec Ideal S4x4x64x64x128 .f32) (v : FVec Ideal S4x4x64x64x256 .f32) (c : Fin 64) (b h : Fin 4) (d : Fin 128) (n : Fin 256) :
    eS B k v (ix5 c b h d n) = ∑ t : Fin 64, v (ix5 b h c t n) * (k (ix5 b h c t d) * Ideal.exp (B (ix5 b h c 63 d) - B (ix5 b h c t d))) := by
  refine Eq.trans ?_ (Finset.sum_congr rfl fun t _ => mul_comm _ _)
  pointwise [eS]

theorem eD_at (B : FVec Ideal S4x4x64x64x128 .f32) (c : Fin 64) (b h : Fin 4) (d : Fin 128) :
    eD B (ix5 c b h d 0) = Ideal.exp (B (ix5 b h c 63 d)) := by
  pointwise [eD]

variable (m : (r : Loc nD τ sig) → Buf (Elt Ideal) r) (c : Dev nD)

abbrev E0 : Valuation τ sig (Elt Ideal) := entryContents preI m c

def aB := rB (rC (rL (rX (m ((c.tc : Thread nD τ).loc main_arg1)) (m ((c.tc : Thread nD τ).loc main_arg2)) (m ((c.tc : Thread nD τ).loc main_arg3)))))

def cnt (cn : (⟨S_, .i32⟩ : BufTy).Contents (Elt Ideal)) (k : Fin 5) : Int :=
  ((![cn, constantI S_ 32 0#32, constantI S_ 32 0#32, constantI S_ 32 0#32, constantI S_ 32 0#32] : Fin 5 → (⟨S_, .i32⟩ : BufTy).Contents (Elt Ideal)) k (Shape.Idx.first h_S_)).toInt

theorem toInt64 : ∀ q : Fin 64, (BitVec.ofNat 32 q.val).toInt = (q.val : Int) := by decide +kernel

theorem cnt_at (q : Fin 64) (a : Fin 5) : cnt (fun _ => BitVec.ofNat 32 q.val) a = ((![q.val, 0, 0, 0, 0] : Fin 5 → ℕ) a : Int) := by
  fin_cases a
  · exact toInt64 q
  · rfl
  · rfl
  · rfl
  · rfl

def nxt3 (D : FVec Ideal S64x4x4x128x1 .f32) (S : FVec Ideal S64x4x4x128x256 .f32) (x : FVec Ideal S4x4x128x256 .f32) (cn : (⟨S_, .i32⟩ : BufTy).Contents (Elt Ideal)) : FVec Ideal S4x4x128x256 .f32 :=
  addf (mulf (broadcastInDim S4x4x128x256 ![0, 1, 2, 3] bcast_S4x4x128x1_S4x4x128x256_0_1_2_3 (shapeCast S4x4x128x1 (Host.dynamicSlice S1x4x4x128x1 D (cnt cn) sliceFits_S64x4x4x128x1_S1x4x4x128x1) shapeCasts_S1x4x4x128x1_S4x4x128x1)) x)
    (shapeCast S4x4x128x256 (Host.dynamicSlice S1x4x4x128x256 S (cnt cn) sliceFits_S64x4x4x128x256_S1x4x4x128x256) shapeCasts_S1x4x4x128x256_S4x4x128x256)

def nxt4 (y : FVec Ideal S64x4x4x128x256 .f32) (x : FVec Ideal S4x4x128x256 .f32) (cn : (⟨S_, .i32⟩ : BufTy).Contents (Elt Ideal)) : FVec Ideal S64x4x4x128x256 .f32 :=
  Host.dynamicUpdateSlice y (broadcastInDim S1x4x4x128x256 ![1, 2, 3, 4] bcast_S4x4x128x256_S1x4x4x128x256_1_2_3_4 x) (cnt cn) updateFits_S64x4x4x128x256_S1x4x4x128x256

theorem step3_eq (V : Valuation τ sig (Elt Ideal)) : STEP V (Proc.devRef .tc main_v46_3)
    = nxt3 (V (Proc.devRef .tc main_v46_1)) (V (Proc.devRef .tc main_v46_0)) (V (Proc.devRef .tc main_v46_3)) (V (Proc.devRef .tc main_v46_2)) :=
  STEP_main_v46_3 V

theorem step4_eq (V : Valuation τ sig (Elt Ideal)) : STEP V (Proc.devRef .tc main_v46_4)
    = nxt4 (V (Proc.devRef .tc main_v46_4)) (V (Proc.devRef .tc main_v46_3)) (V (Proc.devRef .tc main_v46_2)) :=
  STEP_main_v46_4 V

theorem clS (hh : S1x4x4x128x256.rank = S64x4x4x128x256.rank) (q : Fin 64) (a : Fin 5) :
    Host.clampedStart S64x4x4x128x256 S1x4x4x128x256 hh (cnt (fun _ => BitVec.ofNat 32 q.val)) a = (![q.val, 0, 0, 0, 0] : Fin 5 → ℕ) a := by
  have hq := q.isLt
  show (min (max (cnt (fun _ => BitVec.ofNat 32 q.val) a) 0) (((![64, 4, 4, 128, 256] : Fin 5 → ℕ) a - (![1, 4, 4, 128, 256] : Fin 5 → ℕ) a : ℕ) : Int)).toNat = _
  rw [cnt_at]
  match a with
  | ⟨0, _⟩ => show (min (max (q.val : Int) 0) ((64 - 1 : ℕ) : Int)).toNat = q.val; omega
  | ⟨1, _⟩ => rfl
  | ⟨2, _⟩ => rfl
  | ⟨3, _⟩ => rfl
  | ⟨4, _⟩ => rfl

theorem clD (hh : S1x4x4x128x1.rank = S64x4x4x128x1.rank) (q : Fin 64) (a : Fin 5) :
    Host.clampedStart S64x4x4x128x1 S1x4x4x128x1 hh (cnt (fun _ => BitVec.ofNat 32 q.val)) a = (![q.val, 0, 0, 0, 0] : Fin 5 → ℕ) a := by
  have hq := q.isLt
  show (min (max (cnt (fun _ => BitVec.ofNat 32 q.val) a) 0) (((![64, 4, 4, 128, 1] : Fin 5 → ℕ) a - (![1, 4, 4, 128, 1] : Fin 5 → ℕ) a : ℕ) : Int)).toNat = _
  rw [cnt_at]
  match a with
  | ⟨0, _⟩ => show (min (max (q.val : Int) 0) ((64 - 1 : ℕ) : Int)).toNat = q.val; omega
  | ⟨1, _⟩ => rfl
  | ⟨2, _⟩ => rfl
  | ⟨3, _⟩ => rfl
  | ⟨4, _⟩ => rfl

theorem nxt3_at (D : FVec Ideal S64x4x4x128x1 .f32) (S : FVec Ideal S64x4x4x128x256 .f32) (x : FVec Ideal S4x4x128x256 .f32) (q : Fin 64) (b h : Fin 4) (d : Fin 128) (n : Fin 256) :
    nxt3 D S x (fun _ => BitVec.ofNat 32 q.val) (ix4 b h d n) = D (ix5 q b h d 0) * x (ix4 b h d n) + S (ix5 q b h d n) := by
  unfold nxt3
  pointwise
  congr 2
  · refine congrArg D (funext fun a => Fin.ext ?_)
    match a with
    | ⟨0, _⟩ => exact clD rfl q 0
    | ⟨1, _⟩ => exact (congrArg (· + b.val) (clD rfl q 1)).trans (Nat.zero_add _)
    | ⟨2, _⟩ => exact (congrArg (· + h.val) (clD rfl q 2)).trans (Nat.zero_add _)
    | ⟨3, _⟩ => exact (congrArg (· + d.val) (clD rfl q 3)).trans (Nat.zero_add _)
    | ⟨4, _⟩ => exact clD rfl q 4
  · refine funext fun a => Fin.ext ?_
    match a with
    | ⟨0, _⟩ => exact clS rfl q 0
    | ⟨1, _⟩ => exact (congrArg (· + b.val) (clS rfl q 1)).trans (Nat.zero_add _)
    | ⟨2, _⟩ => exact (congrArg (· + h.val) (clS rfl q 2)).trans (Nat.zero_add _)
    | ⟨3, _⟩ => exact (congrArg (· + d.val) (clS rfl q 3)).trans (Nat.zero_add _)
    | ⟨4, _⟩ => exact (congrArg (· + n.val) (clS rfl q 4)).trans (Nat.zero_add _)

theorem nxt4_at (y : FVec Ideal S64x4x4x128x256 .f32) (x : FVec Ideal S4x4x128x256 .f32) (q p : Fin 64) (b h : Fin 4) (d : Fin 128) (n : Fin 256) :
    nxt4 y x (fun _ => BitVec.ofNat 32 q.val) (ix5 p b h d n) = if p = q then x (ix4 b h d n) else y (ix5 p b h d n) := by
  unfold nxt4
  pointwise
  have k0 := clS rfl q 0
  have k1 := clS rfl q 1
  have k2 := clS rfl q 2
  have k3 := clS rfl q 3
  have k4 := clS rfl q 4
  change _ = q.val at k0
  change _ = 0 at k1
  change _ = 0 at k2
  change _ = 0 at k3
  change _ = 0 at k4
  by_cases e : p = q
  · rw [if_pos e, dif_pos (by rw [k0, k1, k2, k3, k4, e]; omega)]
    refine congrArg x (funext fun a => Fin.ext ?_)
    match a with
    | ⟨0, _⟩ => exact (congrArg (b.val - ·) k1)
    | ⟨1, _⟩ => exact (congrArg (h.val - ·) k2)
    | ⟨2, _⟩ => exact (congrArg (d.val - ·) k3)
    | ⟨3, _⟩ => exact (congrArg (n.val - ·) k4)
  · rw [if_neg e, dif_neg (fun hc => e (Fin.ext (by rw [k0] at hc; omega)))]

theorem e0 : E0 m c (Proc.devRef .tc main_v46_0) = eS (aB m c) (rK (m ((c.tc : Thread nD τ).loc main_arg0))) (rV (m ((c.tc : Thread nD τ).loc main_arg0))) := by
  simp only [E0, entryContents, afterL_cons, afterL_nil]
  after_reads_simp
  rfl

theorem e1 : E0 m c (Proc.devRef .tc main_v46_1) = eD (aB m c) := by
  simp only [E0, entryContents, afterL_cons, afterL_nil]
  after_reads_simp
  rfl

theorem e2 : E0 m c (Proc.devRef .tc main_v46_2) = constantI S_ 32 0#32 := by
  simp only [E0, entryContents, afterL_cons, afterL_nil]
  after_reads_simp
  rfl

theorem e3 : E0 m c (Proc.devRef .tc main_v46_3) = broadcastInDim S4x4x128x256 ![] bcast_S_S4x4x128x256 (constant (F := Ideal) S_ .f32 0x00000000#32) := by
  simp only [E0, entryContents, afterL_cons, afterL_nil]
  after_reads_simp
  rfl

/-- What the loop holds after `k` trips, for a decay and additions that make the states `Z`. -/
structure At (D : FVec Ideal S64x4x4x128x1 .f32) (S : FVec Ideal S64x4x4x128x256 .f32) (Z : Fin 4 → Fin 4 → ℕ → Fin 256 → Fin 128 → EReal)
    (k : ℕ) (V : Valuation τ sig (Elt Ideal)) : Prop where
  decay : V (Proc.devRef .tc main_v46_1) = D
  add : V (Proc.devRef .tc main_v46_0) = S
  count : V (Proc.devRef .tc main_v46_2) = fun _ => BitVec.ofNat 32 k
  now : ∀ b h d n, (V (Proc.devRef .tc main_v46_3) : FVec Ideal S4x4x128x256 .f32) (ix4 b h d n) = Z b h k n d
  past : ∀ (p : Fin 64), p.val < k → ∀ b h d n, (V (Proc.devRef .tc main_v46_4) : FVec Ideal S64x4x4x128x256 .f32) (ix5 p b h d n) = Z b h p.val n d

theorem At.next {D : FVec Ideal S64x4x4x128x1 .f32} {S : FVec Ideal S64x4x4x128x256 .f32} {Z : Fin 4 → Fin 4 → ℕ → Fin 256 → Fin 128 → EReal}
    {V : Valuation τ sig (Elt Ideal)} (q : Fin 64) (H : At D S Z q.val V)
    (hZ : ∀ b h n d, Z b h (q.val + 1) n d = Z b h q.val n d * D (ix5 q b h d 0) + S (ix5 q b h d n)) : At D S Z (q.val + 1) (STEP V) where
  decay := (STEP_main_v46_1 V).trans H.decay
  add := (STEP_main_v46_0 V).trans H.add
  count := by
    refine (STEP_main_v46_2 V).trans ?_
    unfold step_main_v46_2
    rw [H.count]
    funext i
    exact (BitVec.ofNat_add q.val 1).symm
  now b h d n := by
    rw [step3_eq, H.decay, H.add, H.count, hZ, ← H.now]
    exact (nxt3_at D S _ q b h d n).trans (congrArg (· + _) (mul_comm _ _))
  past p hp b h d n := by
    rw [step4_eq, H.count]
    refine (nxt4_at _ _ q p b h d n).trans ?_
    by_cases e : p = q
    · rw [if_pos e, e]; exact H.now b h d n
    · rw [if_neg e]
      exact H.past p (by have : p.val ≠ q.val := fun h => e (Fin.ext h); omega) b h d n

theorem At.iter {D : FVec Ideal S64x4x4x128x1 .f32} {S : FVec Ideal S64x4x4x128x256 .f32} {Z : Fin 4 → Fin 4 → ℕ → Fin 256 → Fin 128 → EReal}
    {V : Valuation τ sig (Elt Ideal)} (H : At D S Z 0 V)
    (hZ : ∀ (q : Fin 64) b h n d, Z b h (q.val + 1) n d = Z b h q.val n d * D (ix5 q b h d 0) + S (ix5 q b h d n)) :
    ∀ k ≤ 64, At D S Z k (STEP^[k] V)
  | 0, _ => H
  | k + 1, hk => by
    rw [Function.iterate_succ_apply']
    exact At.next ⟨k, hk⟩ (At.iter H hZ k (by omega)) (hZ ⟨k, hk⟩)

/-! ## The reference's result -/

def nP (b : Fin 4) (t : Fin 4096) (j : Fin 12288) : EReal := m ((c : Thread nD τ).loc main_arg0) (ix3 b t j)
def nS (b : Fin 4) (t : Fin 4096) (j : Fin 128) : EReal := m ((c : Thread nD τ).loc main_arg1) (ix3 b t j)
def nW (k : Fin 16) (j : Fin 512) : EReal := m ((c : Thread nD τ).loc main_arg2) (ix3 0 k j)
def nB (j : Fin 512) : EReal := m ((c : Thread nD τ).loc main_arg3) (ix2 0 j)
def nN (j : Fin 1024) : EReal := m ((c : Thread nD τ).loc main_arg4) (ix2 0 j)

theorem aB_at (b h : Fin 4) (q r : Fin 64) (d : Fin 128) : aB m c (ix5 b h q r d) = BB (nS m c) (nW m c) (nB m c) b h q.val r d := by
  unfold aB BB
  rw [rB_at]
  refine Finset.sum_congr rfl fun s _ => ?_
  have e := rX_at (m ((c.tc : Thread nD τ).loc main_arg1)) (m ((c.tc : Thread nD τ).loc main_arg2)) (m ((c.tc : Thread nD τ).loc main_arg3)) b (RW q.val s) ⟨128 * h.val + d.val, by omega⟩
  have e' : rC (rL (rX (m ((c.tc : Thread nD τ).loc main_arg1)) (m ((c.tc : Thread nD τ).loc main_arg2)) (m ((c.tc : Thread nD τ).loc main_arg3)))) (ix5 b h q s d)
      = LG (XP (nS m c) (nW m c) (nB m c) b (RW q.val s) ⟨128 * h.val + d.val, by omega⟩) := by
    rw [rC_at, rL_at, e]
    rfl
  rw [e']

theorem states (p : Fin 64) (b h : Fin 4) (d : Fin 128) (n : Fin 256) :
    ((STEP^[64] (E0 m c)) (Proc.devRef .tc main_v46_4) : FVec Ideal S64x4x4x128x256 .f32) (ix5 p b h d n)
      = ST (nP m c) (nS m c) (nW m c) (nB m c) b h p.val n d := by
  refine (At.iter (D := eD (aB m c)) (S := eS (aB m c) (rK (m ((c.tc : Thread nD τ).loc main_arg0))) (rV (m ((c.tc : Thread nD τ).loc main_arg0))))
    (Z := ST (nP m c) (nS m c) (nW m c) (nB m c)) ⟨e1 m c, e0 m c, e2 m c, fun b h d n => ?_, fun p hp => absurd hp (Nat.not_lt_zero _)⟩ ?_ 64 (le_refl _)).past p p.isLt b h d n
  · rw [e3]
    show Ideal.ofBits .f32 0#32 = 0
    simp [Ideal.ofBits, Ideal.ieee]
  · intro q b h n d
    rw [eD_at, eS_at]
    simp only [aB_at m c, rV_at, rK_at]
    rfl

def NA (i : S4x4096x1024.Idx) : EReal := YV (nP m c) (nS m c) (nW m c) (nB m c) (nN m c) (i 0) (i 1) (i 2)

theorem out_at : out_main_v121 (STEP^[64] (E0 m c)) = NA m c := by
  rw [out_eq]
  rw [iter_main_arg0, iter_main_arg1, iter_main_arg2, iter_main_arg3, iter_main_arg4]
  funext y
  idx_vars y
  rw [rY_at]
  show _ = YV (nP m c) (nS m c) (nW m c) (nB m c) (nN m c) y0 y1 y2
  unfold YV YY
  have hs : ∀ (p : Fin 64) (b h : Fin 4) (d : Fin 128) (n : Fin 256), _ = _ := states m c
  simp only [rO_at, rQ_at, rK_at, rV_at, rG_at, hs]
  have hb : ∀ (b h : Fin 4) (q r : Fin 64) (d : Fin 128), _ = _ := aB_at m c
  unfold aB at hb
  simp only [hb]
  refine congrArg (fun g => CY _ _ g _) (funext fun n => congrArg (m ((c.tc : Thread nD τ).loc main_arg0)) ?_)
  have e1 : y1 = RW (y1.val / 64) ⟨y1.val % 64, by omega⟩ := Fin.ext (by show y1.val = (64 * (y1.val / 64) + y1.val % 64) % 4096; omega)
  have e2 : (⟨2048 + (256 * (y2.val / 256) + n.val), by omega⟩ : Fin 12288) = ⟨2048 + 256 * (y2.val / 256) + n.val, by omega⟩ :=
    Fin.ext (by show 2048 + (256 * (y2.val / 256) + n.val) = 2048 + 256 * (y2.val / 256) + n.val; omega)
  exact congrArg₂ (fun a b => ix3 y0 a b) e1 e2

end Cert.GlaRefIdeal.Hand

end
-- ==== Proof.GlaClaims.lean ====
module

public import proofs.«01_k».proof.Defs
public import proofs.«01_k».proof.Proof.Gen.Gla.Frame
public import proofs.«01_k».proof.Proof.GlaKernel
public import proofs.«01_k».proof.Proof.GlaRefRun
public import Idealize.ShloMosaic.Lib.Claim

/-! # The claims about the gated linear attention -/

@[expose] public section

set_option maxRecDepth 16384

noncomputable section

namespace Cert.Gla.Hand

open Idealize.ShloMosaic Idealize.ShloMosaic.TcCoe Idealize.SL.Sem Cert.GlaMath

theorem finite_facts : Cert.Pre_gla_finite.Facts where
  slices_S4x4096x128_S4x4096x16_0_0_0 := by decide
  shapeCasts_S4x4096x16_S262144 := by decide
  slices_S4x16x512_S1x16x512_0_0_0 := by decide
  shapeCasts_S1x16x512_S16x512 := by decide
  shapeCasts_S16x512_S8192 := by decide
  concatenates_S262144_S8192_S270336_d0 := by decide
  bcast_S_S270336 := by decide

section

variable [Cert.Pre_gla_finite.Facts] (A0 : FVec Ideal Cert.Pre_gla_finite.S4x4096x12288 .bf16) (A1 : FVec Ideal Cert.Pre_gla_finite.S4x4096x128 .f32) (A2 : FVec Ideal Cert.Pre_gla_finite.S4x16x512 .f32)
variable (A3 : FVec Ideal Cert.Pre_gla_finite.S4x512 .f32) (A4 : FVec Ideal Cert.Pre_gla_finite.S4x1024 .f32)

open Cert.Pre_gla_finite Cert.Pre_gla_finite.Facts in
/-- The operands of the gate, in a row. -/
def row : FVec Ideal S270336 .f32 :=
  concatenate S270336 0 [⟨S262144, shapeCast S262144 (extractStridedSlice S4x4096x16 ![0, 0, 0] A1 slices_S4x4096x128_S4x4096x16_0_0_0) shapeCasts_S4x4096x16_S262144⟩,
    ⟨S8192, shapeCast S8192 (shapeCast S16x512 (extractStridedSlice S1x16x512 ![0, 0, 0] A2 slices_S4x16x512_S1x16x512_0_0_0) shapeCasts_S1x16x512_S16x512) shapeCasts_S16x512_S8192⟩] concatenates_S262144_S8192_S270336_d0

theorem real_of (h : Cert.Pre_gla_finite.fn A0 A1 A2 A3 A4 = fun _ => 1#1) (i : Fin 270336) : IsR (row A1 A2 (ix1 i)) := by
  have h1 : Ideal.cmp .olt (max (row A1 A2 (ix1 i)) (-(row A1 A2 (ix1 i)))) (Ideal.ofBits .f32 0x7F800000#32) = 1#1 := congrFun h (ix1 i)
  rw [inf] at h1
  refine IsR.of_abs ?_
  by_contra hc
  rw [Ideal.cmp] at h1
  simp [hc] at h1

section

open Cert.Pre_gla_finite

variable (x : FVec Ideal S262144 .f32) (y : FVec Ideal S8192 .f32) (hC : Shape.Concatenates [S262144, S8192] S270336 0)

theorem cat0 (i : Fin 262144) : concatenate S270336 0 [⟨S262144, x⟩, ⟨S8192, y⟩] hC (ix1 ⟨i.val, by omega⟩) = x (ix1 i) :=
  concatenate_apply_piece (t := S270336) (0 : Fin 1) [⟨S262144, x⟩, ⟨S8192, y⟩] hC _ 0 (by decide : 0 < 2) S262144 x rfl rfl 0 rfl (ix1 i)
    (fun a ha => absurd (Subsingleton.elim (α := Fin 1) _ _) ha) (Nat.zero_add _)

theorem cat1 (i : Fin 8192) : concatenate S270336 0 [⟨S262144, x⟩, ⟨S8192, y⟩] hC (ix1 ⟨262144 + i.val, by omega⟩) = y (ix1 i) :=
  concatenate_apply_piece (t := S270336) (0 : Fin 1) [⟨S262144, x⟩, ⟨S8192, y⟩] hC _ 1 (by decide : 1 < 2) S8192 y rfl rfl 262144 rfl (ix1 i)
    (fun a ha => absurd (Subsingleton.elim (α := Fin 1) _ _) ha) rfl

end

theorem row_lane (b : Fin 4) (t : Fin 4096) (j : Fin 16) :
    row A1 A2 (ix1 ⟨b.val * 65536 + t.val * 16 + j.val, by omega⟩) = A1 (ix3 b t ⟨j.val, by omega⟩) := by
  refine (cat0 _ _ _ ⟨b.val * 65536 + t.val * 16 + j.val, by omega⟩).trans ?_
  refine (shapeCast_apply _ _ _ (ix3 b t j) (by
    rw [Shape.rowMajor_val_three, Shape.rowMajor_val_one]
    show (b.val * 4096 + t.val) * 16 + j.val = b.val * 65536 + t.val * 16 + j.val
    omega)).trans ?_
  pointwise

theorem row_weight (i : Fin 16) (j : Fin 512) :
    row A1 A2 (ix1 ⟨262144 + (i.val * 512 + j.val), by omega⟩) = A2 (ix3 0 i j) := by
  refine (cat1 _ _ _ ⟨i.val * 512 + j.val, by omega⟩).trans ?_
  refine (shapeCast_apply _ _ _ (ix2 i j) (by
    rw [Shape.rowMajor_val_two, Shape.rowMajor_val_one]
    rfl)).trans ?_
  pointwise

end

theorem real_pre [Cert.Pre_gla_finite.Facts] (m : (ℓ : Loc Cert.GlaIdeal.nD Cert.GlaIdeal.τ Cert.GlaIdeal.sig) → Buf (Elt Ideal) ℓ)
    (h : Cert.Pre_GlaIdeal_gla_finite m) (c : Dev Cert.GlaIdeal.nD) :
    Real (Cert.GlaIdeal.Hand.mS m c) (Cert.GlaIdeal.Hand.mW m c) where
  lane b t j := (congrArg IsR (row_lane _ _ b t j)).mp (real_of _ _ _ _ _ (h c) _)
  weight i j := (congrArg IsR (row_weight _ _ i j)).mp (real_of _ _ _ _ _ (h c) _)

theorem frame_kernel : Cert.quiescent_Gla := fun m ρ _ => Cert.Gla.Gen.frame m ρ
theorem frame_ideal : Cert.quiescent_GlaIdeal := fun m ρ _ => Cert.GlaIdeal.Gen.frame m ρ
theorem frame_ideal_pre [Cert.Pre_gla_finite.Facts] : Cert.quiescent_GlaIdeal_pre_gla_finite := fun m ρ _ => Cert.GlaIdeal.Gen.frame m ρ
theorem frame_refideal : Cert.quiescent_GlaRefIdeal := fun m ρ _ =>
  θ_run_mono (Cert.GlaRefIdeal.Value.run m ρ) fun r h => ⟨fun c => (h c).2, sem_eq_zero_of_no_sems (by decide) r.2⟩
theorem frame_refideal_pre [Cert.Pre_gla_finite.Facts] : Cert.quiescent_GlaRefIdeal_pre_gla_finite := fun m ρ _ =>
  θ_run_mono (Cert.GlaRefIdeal.Value.run m ρ) fun r h => ⟨fun c => (h c).2, sem_eq_zero_of_no_sems (by decide) r.2⟩

theorem algebraic [Cert.Pre_gla_finite.Facts] : Cert.algebraic_GlaIdeal_GlaRefIdeal_pre_gla_finite := by
  pair_intro
  · run_from Cert.GlaIdeal.Value.run_blocks m g
  · run_from Cert.GlaRefIdeal.Value.run m' g'
    have eP : Cert.GlaRefIdeal.Hand.nP m' c = Cert.GlaIdeal.Hand.mP m c := funext fun b => funext fun t => funext fun j => congrFun (hagree c).1 (ix3 b t j)
    have eS : Cert.GlaRefIdeal.Hand.nS m' c = Cert.GlaIdeal.Hand.mS m c := funext fun b => funext fun t => funext fun j => congrFun (hagree c).2.1 (ix3 b t j)
    have eW : Cert.GlaRefIdeal.Hand.nW m' c = Cert.GlaIdeal.Hand.mW m c := funext fun i => funext fun j => congrFun (hagree c).2.2.1 (ix3 0 i j)
    have eB : Cert.GlaRefIdeal.Hand.nB m' c = Cert.GlaIdeal.Hand.mB m c := funext fun j => congrFun (hagree c).2.2.2.1 (ix2 0 j)
    have eN : Cert.GlaRefIdeal.Hand.nN m' c = Cert.GlaIdeal.Hand.mN m c := funext fun j => congrFun (hagree c).2.2.2.2 (ix2 0 j)
    have HR := real_pre m hpre c
    refine (Cert.GlaRefIdeal.Hand.out_at m' c).trans ?_
    rw [Cert.GlaIdeal.Hand.final m c HR]
    unfold Cert.GlaRefIdeal.Hand.NA Cert.GlaIdeal.Hand.YA
    rw [eP, eS, eW, eB, eN]

end Cert.Gla.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.KernelIdeal.Value
public import proofs.«01_k».proof.Proof.Gen.Kernel.Value
public import proofs.«01_k».proof.Proof.Gen.ReferenceIdeal.Run
public import proofs.«01_k».proof.Proof.Gen.ReferenceIdeal.Read
public import proofs.«01_k».proof.Proof.Gen.Reference.Run
public import proofs.«01_k».proof.Proof.RelayoutClaims
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProj.Value
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.Merge.Value
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.InProjClaims
public import proofs.«01_k».proof.Proof.MergeClaims
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.Ffn.Value
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.FfnClaims
public import proofs.«01_k».proof.Proof.Gen.FfnL0
public import proofs.«01_k».proof.Proof.Gen.FfnL0.Skeleton
public import proofs.«01_k».proof.Proof.Gen.FfnL0.Launch
public import proofs.«01_k».proof.Proof.Gen.FfnL0.Points
public import proofs.«01_k».proof.Proof.Gen.FfnL0.Frame
public import proofs.«01_k».proof.Proof.Gen.FfnL0.Value
public import proofs.«01_k».proof.Proof.Gen.FfnL0Ideal
public import proofs.«01_k».proof.Proof.Gen.FfnL0Ideal.Skeleton
public import proofs.«01_k».proof.Proof.Gen.FfnL0Ideal.Launch
public import proofs.«01_k».proof.Proof.Gen.FfnL0Ideal.Points
public import proofs.«01_k».proof.Proof.Gen.FfnL0Ideal.Frame
public import proofs.«01_k».proof.Proof.Gen.FfnL0Ideal.Value
public import proofs.«01_k».proof.Proof.Gen.FfnL0RefIdeal
public import proofs.«01_k».proof.Proof.Gen.FfnL0RefIdeal.Run
public import proofs.«01_k».proof.Proof.Gen.FfnL0RefIdeal.Read
public import proofs.«01_k».proof.Proof.Gen.FfnL1
public import proofs.«01_k».proof.Proof.Gen.FfnL1.Skeleton
public import proofs.«01_k».proof.Proof.Gen.FfnL1.Launch
public import proofs.«01_k».proof.Proof.Gen.FfnL1.Points
public import proofs.«01_k».proof.Proof.Gen.FfnL1.Frame
public import proofs.«01_k».proof.Proof.Gen.FfnL1.Value
public import proofs.«01_k».proof.Proof.Gen.FfnL1Ideal
public import proofs.«01_k».proof.Proof.Gen.FfnL1Ideal.Skeleton
public import proofs.«01_k».proof.Proof.Gen.FfnL1Ideal.Launch
public import proofs.«01_k».proof.Proof.Gen.FfnL1Ideal.Points
public import proofs.«01_k».proof.Proof.Gen.FfnL1Ideal.Frame
public import proofs.«01_k».proof.Proof.Gen.FfnL1Ideal.Value
public import proofs.«01_k».proof.Proof.Gen.FfnL1RefIdeal
public import proofs.«01_k».proof.Proof.Gen.FfnL1RefIdeal.Run
public import proofs.«01_k».proof.Proof.Gen.FfnL1RefIdeal.Read
public import proofs.«01_k».proof.Proof.Gen.FfnL2
public import proofs.«01_k».proof.Proof.Gen.FfnL2.Skeleton
public import proofs.«01_k».proof.Proof.Gen.FfnL2.Launch
public import proofs.«01_k».proof.Proof.Gen.FfnL2.Points
public import proofs.«01_k».proof.Proof.Gen.FfnL2.Frame
public import proofs.«01_k».proof.Proof.Gen.FfnL2.Value
public import proofs.«01_k».proof.Proof.Gen.FfnL2Ideal
public import proofs.«01_k».proof.Proof.Gen.FfnL2Ideal.Skeleton
public import proofs.«01_k».proof.Proof.Gen.FfnL2Ideal.Launch
public import proofs.«01_k».proof.Proof.Gen.FfnL2Ideal.Points
public import proofs.«01_k».proof.Proof.Gen.FfnL2Ideal.Frame
public import proofs.«01_k».proof.Proof.Gen.FfnL2Ideal.Value
public import proofs.«01_k».proof.Proof.Gen.FfnL2RefIdeal
public import proofs.«01_k».proof.Proof.Gen.FfnL2RefIdeal.Run
public import proofs.«01_k».proof.Proof.Gen.FfnL2RefIdeal.Read
public import proofs.«01_k».proof.Proof.Gen.InProjL1
public import proofs.«01_k».proof.Proof.Gen.InProjL1.Skeleton
public import proofs.«01_k».proof.Proof.Gen.InProjL1.Launch
public import proofs.«01_k».proof.Proof.Gen.InProjL1.Points
public import proofs.«01_k».proof.Proof.Gen.InProjL1.Frame
public import proofs.«01_k».proof.Proof.Gen.InProjL1.Value
public import proofs.«01_k».proof.Proof.Gen.InProjL1Ideal
public import proofs.«01_k».proof.Proof.Gen.InProjL1Ideal.Skeleton
public import proofs.«01_k».proof.Proof.Gen.InProjL1Ideal.Launch
public import proofs.«01_k».proof.Proof.Gen.InProjL1Ideal.Points
public import proofs.«01_k».proof.Proof.Gen.InProjL1Ideal.Frame
public import proofs.«01_k».proof.Proof.Gen.InProjL1Ideal.Value
public import proofs.«01_k».proof.Proof.Gen.InProjL1RefIdeal
public import proofs.«01_k».proof.Proof.Gen.InProjL1RefIdeal.Run
public import proofs.«01_k».proof.Proof.Gen.InProjL1RefIdeal.Read
public import proofs.«01_k».proof.Proof.Gen.InProjL2
public import proofs.«01_k».proof.Proof.Gen.InProjL2.Skeleton
public import proofs.«01_k».proof.Proof.Gen.InProjL2.Launch
public import proofs.«01_k».proof.Proof.Gen.InProjL2.Points
public import proofs.«01_k».proof.Proof.Gen.InProjL2.Frame
public import proofs.«01_k».proof.Proof.Gen.InProjL2.Value
public import proofs.«01_k».proof.Proof.Gen.InProjL2Ideal
public import proofs.«01_k».proof.Proof.Gen.InProjL2Ideal.Skeleton
public import proofs.«01_k».proof.Proof.Gen.InProjL2Ideal.Launch
public import proofs.«01_k».proof.Proof.Gen.InProjL2Ideal.Points
public import proofs.«01_k».proof.Proof.Gen.InProjL2Ideal.Frame
public import proofs.«01_k».proof.Proof.Gen.InProjL2Ideal.Value
public import proofs.«01_k».proof.Proof.Gen.InProjL2RefIdeal
public import proofs.«01_k».proof.Proof.Gen.InProjL2RefIdeal.Run
public import proofs.«01_k».proof.Proof.Gen.InProjL2RefIdeal.Read
public import proofs.«01_k».proof.Proof.Gen.InProjL3
public import proofs.«01_k».proof.Proof.Gen.InProjL3.Skeleton
public import proofs.«01_k».proof.Proof.Gen.InProjL3.Launch
public import proofs.«01_k».proof.Proof.Gen.InProjL3.Points
public import proofs.«01_k».proof.Proof.Gen.InProjL3.Frame
public import proofs.«01_k».proof.Proof.Gen.InProjL3.Value
public import proofs.«01_k».proof.Proof.Gen.InProjL3Ideal
public import proofs.«01_k».proof.Proof.Gen.InProjL3Ideal.Skeleton
public import proofs.«01_k».proof.Proof.Gen.InProjL3Ideal.Launch
public import proofs.«01_k».proof.Proof.Gen.InProjL3Ideal.Points
public import proofs.«01_k».proof.Proof.Gen.InProjL3Ideal.Frame
public import proofs.«01_k».proof.Proof.Gen.InProjL3Ideal.Value
public import proofs.«01_k».proof.Proof.Gen.InProjL3RefIdeal
public import proofs.«01_k».proof.Proof.Gen.InProjL3RefIdeal.Run
public import proofs.«01_k».proof.Proof.Gen.InProjL3RefIdeal.Read
public import proofs.«01_k».proof.Proof.Gen.MergeL1
public import proofs.«01_k».proof.Proof.Gen.MergeL1.Skeleton
public import proofs.«01_k».proof.Proof.Gen.MergeL1.Launch
public import proofs.«01_k».proof.Proof.Gen.MergeL1.Points
public import proofs.«01_k».proof.Proof.Gen.MergeL1.Frame
public import proofs.«01_k».proof.Proof.Gen.MergeL1.Value
public import proofs.«01_k».proof.Proof.Gen.MergeL1Ideal
public import proofs.«01_k».proof.Proof.Gen.MergeL1Ideal.Skeleton
public import proofs.«01_k».proof.Proof.Gen.MergeL1Ideal.Launch
public import proofs.«01_k».proof.Proof.Gen.MergeL1Ideal.Points
public import proofs.«01_k».proof.Proof.Gen.MergeL1Ideal.Frame
public import proofs.«01_k».proof.Proof.Gen.MergeL1Ideal.Value
public import proofs.«01_k».proof.Proof.Gen.MergeL1RefIdeal
public import proofs.«01_k».proof.Proof.Gen.MergeL1RefIdeal.Run
public import proofs.«01_k».proof.Proof.Gen.MergeL1RefIdeal.Read
public import proofs.«01_k».proof.Proof.Gen.MergeL2
public import proofs.«01_k».proof.Proof.Gen.MergeL2.Skeleton
public import proofs.«01_k».proof.Proof.Gen.MergeL2.Launch
public import proofs.«01_k».proof.Proof.Gen.MergeL2.Points
public import proofs.«01_k».proof.Proof.Gen.MergeL2.Frame
public import proofs.«01_k».proof.Proof.Gen.MergeL2.Value
public import proofs.«01_k».proof.Proof.Gen.MergeL2Ideal
public import proofs.«01_k».proof.Proof.Gen.MergeL2Ideal.Skeleton
public import proofs.«01_k».proof.Proof.Gen.MergeL2Ideal.Launch
public import proofs.«01_k».proof.Proof.Gen.MergeL2Ideal.Points
public import proofs.«01_k».proof.Proof.Gen.MergeL2Ideal.Frame
public import proofs.«01_k».proof.Proof.Gen.MergeL2Ideal.Value
public import proofs.«01_k».proof.Proof.Gen.MergeL2RefIdeal
public import proofs.«01_k».proof.Proof.Gen.MergeL2RefIdeal.Run
public import proofs.«01_k».proof.Proof.Gen.MergeL2RefIdeal.Read
public import proofs.«01_k».proof.Proof.Gen.MergeL3
public import proofs.«01_k».proof.Proof.Gen.MergeL3.Skeleton
public import proofs.«01_k».proof.Proof.Gen.MergeL3.Launch
public import proofs.«01_k».proof.Proof.Gen.MergeL3.Points
public import proofs.«01_k».proof.Proof.Gen.MergeL3.Frame
public import proofs.«01_k».proof.Proof.Gen.MergeL3.Value
public import proofs.«01_k».proof.Proof.Gen.MergeL3Ideal
public import proofs.«01_k».proof.Proof.Gen.MergeL3Ideal.Skeleton
public import proofs.«01_k».proof.Proof.Gen.MergeL3Ideal.Launch
public import proofs.«01_k».proof.Proof.Gen.MergeL3Ideal.Points
public import proofs.«01_k».proof.Proof.Gen.MergeL3Ideal.Frame
public import proofs.«01_k».proof.Proof.Gen.MergeL3Ideal.Value
public import proofs.«01_k».proof.Proof.Gen.MergeL3RefIdeal
public import proofs.«01_k».proof.Proof.Gen.MergeL3RefIdeal.Run
public import proofs.«01_k».proof.Proof.Gen.MergeL3RefIdeal.Read
public import proofs.«01_k».proof.Proof.FfnL0Claims
public import proofs.«01_k».proof.Proof.FfnL1Claims
public import proofs.«01_k».proof.Proof.FfnL2Claims
public import proofs.«01_k».proof.Proof.InProjL1Claims
public import proofs.«01_k».proof.Proof.InProjL2Claims
public import proofs.«01_k».proof.Proof.InProjL3Claims
public import proofs.«01_k».proof.Proof.MergeL1Claims
public import proofs.«01_k».proof.Proof.MergeL2Claims
public import proofs.«01_k».proof.Proof.MergeL3Claims
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.Gla.Value
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaIdeal.Value
public import proofs.«01_k».proof.Proof.Gen.GlaRefIdeal
public import proofs.«01_k».proof.Proof.Gen.GlaRefIdeal.Run
public import proofs.«01_k».proof.Proof.Gen.GlaRefIdeal.Step
public import proofs.«01_k».proof.Proof.GlaClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts, Cert.Ffn.Gen.facts, Cert.FfnIdeal.Gen.facts, Cert.FfnRefIdeal.Gen.facts, Cert.FfnL0.Gen.facts, Cert.FfnL0Ideal.Gen.facts, Cert.FfnL0RefIdeal.Gen.facts, Cert.FfnL1.Gen.facts, Cert.FfnL1Ideal.Gen.facts, Cert.FfnL1RefIdeal.Gen.facts, Cert.FfnL2.Gen.facts, Cert.FfnL2Ideal.Gen.facts, Cert.FfnL2RefIdeal.Gen.facts, Cert.InProj.Gen.facts, Cert.InProjIdeal.Gen.facts, Cert.InProjRefIdeal.Gen.facts, Cert.InProjL1.Gen.facts, Cert.InProjL1Ideal.Gen.facts, Cert.InProjL1RefIdeal.Gen.facts, Cert.InProjL2.Gen.facts, Cert.InProjL2Ideal.Gen.facts, Cert.InProjL2RefIdeal.Gen.facts, Cert.InProjL3.Gen.facts, Cert.InProjL3Ideal.Gen.facts, Cert.InProjL3RefIdeal.Gen.facts, Cert.Merge.Gen.facts, Cert.MergeIdeal.Gen.facts, Cert.MergeRefIdeal.Gen.facts, Cert.MergeL1.Gen.facts, Cert.MergeL1Ideal.Gen.facts, Cert.MergeL1RefIdeal.Gen.facts, Cert.MergeL2.Gen.facts, Cert.MergeL2Ideal.Gen.facts, Cert.MergeL2RefIdeal.Gen.facts, Cert.MergeL3.Gen.facts, Cert.MergeL3Ideal.Gen.facts, Cert.MergeL3RefIdeal.Gen.facts, Cert.Gla.Gen.facts, Cert.GlaIdeal.Gen.facts, Cert.GlaRefIdeal.Gen.facts, Cert.Gla.Hand.finite_facts,
  Cert.Relayout.frame_kernel, Cert.Relayout.frame_ideal, Cert.Relayout.frame_refideal, Cert.Relayout.frame_ref,
  Cert.Ffn.Hand.frame_kernel, Cert.Ffn.Hand.frame_ideal, Cert.Ffn.Hand.frame_refideal,
  Cert.FfnL0.Hand.frame_kernel, Cert.FfnL0.Hand.frame_ideal, Cert.FfnL0.Hand.frame_refideal,
  Cert.FfnL1.Hand.frame_kernel, Cert.FfnL1.Hand.frame_ideal, Cert.FfnL1.Hand.frame_refideal,
  Cert.FfnL2.Hand.frame_kernel, Cert.FfnL2.Hand.frame_ideal, Cert.FfnL2.Hand.frame_refideal,
  Cert.InProj.Hand.frame_kernel, Cert.InProj.Hand.frame_ideal, Cert.InProj.Hand.frame_refideal,
  Cert.InProjL1.Hand.frame_kernel, Cert.InProjL1.Hand.frame_ideal, Cert.InProjL1.Hand.frame_refideal,
  Cert.InProjL2.Hand.frame_kernel, Cert.InProjL2.Hand.frame_ideal, Cert.InProjL2.Hand.frame_refideal,
  Cert.InProjL3.Hand.frame_kernel, Cert.InProjL3.Hand.frame_ideal, Cert.InProjL3.Hand.frame_refideal,
  Cert.Merge.Hand.frame_kernel, Cert.Merge.Hand.frame_ideal, Cert.Merge.Hand.frame_refideal,
  Cert.MergeL1.Hand.frame_kernel, Cert.MergeL1.Hand.frame_ideal, Cert.MergeL1.Hand.frame_refideal,
  Cert.MergeL2.Hand.frame_kernel, Cert.MergeL2.Hand.frame_ideal, Cert.MergeL2.Hand.frame_refideal,
  Cert.MergeL3.Hand.frame_kernel, Cert.MergeL3.Hand.frame_ideal, Cert.MergeL3.Hand.frame_refideal,
  Cert.Gla.Hand.frame_kernel, Cert.Gla.Hand.frame_ideal, @Cert.Gla.Hand.frame_ideal_pre Cert.Gla.Hand.finite_facts, Cert.Gla.Hand.frame_refideal,
  @Cert.Gla.Hand.frame_refideal_pre Cert.Gla.Hand.finite_facts,
  trivial, Cert.Relayout.bitexact, Cert.Relayout.algebraic,
  trivial, Cert.Ffn.Hand.algebraic,
  trivial, Cert.FfnL0.Hand.algebraic,
  trivial, Cert.FfnL1.Hand.algebraic,
  trivial, Cert.FfnL2.Hand.algebraic,
  trivial, Cert.InProj.Hand.algebraic,
  trivial, Cert.InProjL1.Hand.algebraic,
  trivial, Cert.InProjL2.Hand.algebraic,
  trivial, Cert.InProjL3.Hand.algebraic,
  trivial, Cert.Merge.Hand.algebraic,
  trivial, Cert.MergeL1.Hand.algebraic,
  trivial, Cert.MergeL2.Hand.algebraic,
  trivial, Cert.MergeL3.Hand.algebraic,
  trivial, @Cert.Gla.Hand.algebraic Cert.Gla.Hand.finite_facts⟩

end Cert.Proof

end
